-- ==== Defs.lean ====
def Pre_Kernel (m : (ℓ : Loc Cert.Kernel.nD Cert.Kernel.τ Cert.Kernel.sig) → Buf (Elt Bits) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite [hPre_finite : Cert.Pre_finite.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite [hPre_finite : Cert.Pre_finite.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13)
      ∧ r.2.mem ((c.tc : Thread Cert.Kernel2.nD Cert.Kernel2.τ).loc Cert.Kernel2.main_arg14) = m ((c.tc : Thread Cert.Kernel2.nD Cert.Kernel2.τ).loc Cert.Kernel2.main_arg14))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
      ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13)
      ∧ r.2.mem ((c.tc : Thread Cert.Reference2Ideal.nD Cert.Reference2Ideal.τ).loc Cert.Reference2Ideal.main_arg14) = m ((c.tc : Thread Cert.Reference2Ideal.nD Cert.Reference2Ideal.τ).loc Cert.Reference2Ideal.main_arg14))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Kernel5Ideal_pre_finite [hKernel5Ideal : Cert.Kernel5Ideal.Facts] [hPre_finite : Cert.Pre_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Reference5Ideal_pre_finite [hReference5Ideal : Cert.Reference5Ideal.Facts] [hPre_finite : Cert.Pre_finite.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)
      ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)
      ∧ m' ((c.tc : Thread Cert.Reference2Ideal.nD Cert.Reference2Ideal.τ).loc Cert.Reference2Ideal.main_arg14) = m ((c.tc : Thread Cert.Kernel2Ideal.nD Cert.Kernel2Ideal.τ).loc Cert.Kernel2Ideal.main_arg14)) →
    ∃ (v0 : (c : Dev Cert.Kernel2Ideal.nD) → Buf (Elt Ideal) ((c.tc : Thread Cert.Kernel2Ideal.nD Cert.Kernel2Ideal.τ).loc Cert.Kernel2Ideal.main_v17)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v17) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
          ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
          ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v86) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12)
          ∧ r.2.mem ((c.tc : Thread Cert.Reference2Ideal.nD Cert.Reference2Ideal.τ).loc Cert.Reference2Ideal.main_arg13) = m' ((c.tc : Thread Cert.Reference2Ideal.nD Cert.Reference2Ideal.τ).loc Cert.Reference2Ideal.main_arg13)
          ∧ r.2.mem ((c.tc : Thread Cert.Reference2Ideal.nD Cert.Reference2Ideal.τ).loc Cert.Reference2Ideal.main_arg14) = m' ((c.tc : Thread Cert.Reference2Ideal.nD Cert.Reference2Ideal.τ).loc Cert.Reference2Ideal.main_arg14))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v27_0)) (v1 : (c : Dev Cert.Kernel3Ideal.nD) → Buf (Elt Ideal) ((c.tc : Thread Cert.Kernel3Ideal.nD Cert.Kernel3Ideal.τ).loc Cert.Kernel3Ideal.main_v27_1)) (v2 : (c : Dev Cert.Kernel3Ideal.nD) → Buf (Elt Ideal) ((c.tc : Thread Cert.Kernel3Ideal.nD Cert.Kernel3Ideal.τ).loc Cert.Kernel3Ideal.main_v27_2)) (v3 : (c : Dev Cert.Kernel3Ideal.nD) → Buf (Elt Ideal) ((c.tc : Thread Cert.Kernel3Ideal.nD Cert.Kernel3Ideal.τ).loc Cert.Kernel3Ideal.main_v27_3)) (v4 : (c : Dev Cert.Kernel3Ideal.nD) → Buf (Elt Ideal) ((c.tc : Thread Cert.Kernel3Ideal.nD Cert.Kernel3Ideal.τ).loc Cert.Kernel3Ideal.main_v27_4)) (v5 : (c : Dev Cert.Kernel3Ideal.nD) → Buf (Elt Ideal) ((c.tc : Thread Cert.Kernel3Ideal.nD Cert.Kernel3Ideal.τ).loc Cert.Kernel3Ideal.main_v27_5)) (v6 : (c : Dev Cert.Kernel3Ideal.nD) → Buf (Elt Ideal) ((c.tc : Thread Cert.Kernel3Ideal.nD Cert.Kernel3Ideal.τ).loc Cert.Kernel3Ideal.main_v27_6)) (v7 : (c : Dev Cert.Kernel3Ideal.nD) → Buf (Elt Ideal) ((c.tc : Thread Cert.Kernel3Ideal.nD Cert.Kernel3Ideal.τ).loc Cert.Kernel3Ideal.main_v27_7)) (v8 : (c : Dev Cert.Kernel3Ideal.nD) → Buf (Elt Ideal) ((c.tc : Thread Cert.Kernel3Ideal.nD Cert.Kernel3Ideal.τ).loc Cert.Kernel3Ideal.main_v27_8)) (v9 : (c : Dev Cert.Kernel3Ideal.nD) → Buf (Elt Ideal) ((c.tc : Thread Cert.Kernel3Ideal.nD Cert.Kernel3Ideal.τ).loc Cert.Kernel3Ideal.main_v27_9)) (v10 : (c : Dev Cert.Kernel3Ideal.nD) → Buf (Elt Ideal) ((c.tc : Thread Cert.Kernel3Ideal.nD Cert.Kernel3Ideal.τ).loc Cert.Kernel3Ideal.main_v27_10)) (v11 : (c : Dev Cert.Kernel3Ideal.nD) → Buf (Elt Ideal) ((c.tc : Thread Cert.Kernel3Ideal.nD Cert.Kernel3Ideal.τ).loc Cert.Kernel3Ideal.main_v27_11)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v27_0) = v0 c
          ∧ r.2.mem ((c.tc : Thread Cert.Kernel3Ideal.nD Cert.Kernel3Ideal.τ).loc Cert.Kernel3Ideal.main_v27_1) = v1 c
          ∧ r.2.mem ((c.tc : Thread Cert.Kernel3Ideal.nD Cert.Kernel3Ideal.τ).loc Cert.Kernel3Ideal.main_v27_2) = v2 c
          ∧ r.2.mem ((c.tc : Thread Cert.Kernel3Ideal.nD Cert.Kernel3Ideal.τ).loc Cert.Kernel3Ideal.main_v27_3) = v3 c
          ∧ r.2.mem ((c.tc : Thread Cert.Kernel3Ideal.nD Cert.Kernel3Ideal.τ).loc Cert.Kernel3Ideal.main_v27_4) = v4 c
          ∧ r.2.mem ((c.tc : Thread Cert.Kernel3Ideal.nD Cert.Kernel3Ideal.τ).loc Cert.Kernel3Ideal.main_v27_5) = v5 c
          ∧ r.2.mem ((c.tc : Thread Cert.Kernel3Ideal.nD Cert.Kernel3Ideal.τ).loc Cert.Kernel3Ideal.main_v27_6) = v6 c
          ∧ r.2.mem ((c.tc : Thread Cert.Kernel3Ideal.nD Cert.Kernel3Ideal.τ).loc Cert.Kernel3Ideal.main_v27_7) = v7 c
          ∧ r.2.mem ((c.tc : Thread Cert.Kernel3Ideal.nD Cert.Kernel3Ideal.τ).loc Cert.Kernel3Ideal.main_v27_8) = v8 c
          ∧ r.2.mem ((c.tc : Thread Cert.Kernel3Ideal.nD Cert.Kernel3Ideal.τ).loc Cert.Kernel3Ideal.main_v27_9) = v9 c
          ∧ r.2.mem ((c.tc : Thread Cert.Kernel3Ideal.nD Cert.Kernel3Ideal.τ).loc Cert.Kernel3Ideal.main_v27_10) = v10 c
          ∧ r.2.mem ((c.tc : Thread Cert.Kernel3Ideal.nD Cert.Kernel3Ideal.τ).loc Cert.Kernel3Ideal.main_v27_11) = v11 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v40) = v0 c
          ∧ r.2.mem ((c.tc : Thread Cert.Reference3Ideal.nD Cert.Reference3Ideal.τ).loc Cert.Reference3Ideal.main_v41) = v1 c
          ∧ r.2.mem ((c.tc : Thread Cert.Reference3Ideal.nD Cert.Reference3Ideal.τ).loc Cert.Reference3Ideal.main_v43) = v2 c
          ∧ r.2.mem ((c.tc : Thread Cert.Reference3Ideal.nD Cert.Reference3Ideal.τ).loc Cert.Reference3Ideal.main_v36) = v3 c
          ∧ r.2.mem ((c.tc : Thread Cert.Reference3Ideal.nD Cert.Reference3Ideal.τ).loc Cert.Reference3Ideal.main_v44) = v4 c
          ∧ r.2.mem ((c.tc : Thread Cert.Reference3Ideal.nD Cert.Reference3Ideal.τ).loc Cert.Reference3Ideal.main_v30) = v5 c
          ∧ r.2.mem ((c.tc : Thread Cert.Reference3Ideal.nD Cert.Reference3Ideal.τ).loc Cert.Reference3Ideal.main_v31) = v6 c
          ∧ r.2.mem ((c.tc : Thread Cert.Reference3Ideal.nD Cert.Reference3Ideal.τ).loc Cert.Reference3Ideal.main_v32) = v7 c
          ∧ r.2.mem ((c.tc : Thread Cert.Reference3Ideal.nD Cert.Reference3Ideal.τ).loc Cert.Reference3Ideal.main_v33) = v8 c
          ∧ r.2.mem ((c.tc : Thread Cert.Reference3Ideal.nD Cert.Reference3Ideal.τ).loc Cert.Reference3Ideal.main_v46) = v9 c
          ∧ r.2.mem ((c.tc : Thread Cert.Reference3Ideal.nD Cert.Reference3Ideal.τ).loc Cert.Reference3Ideal.main_v47) = v10 c
          ∧ r.2.mem ((c.tc : Thread Cert.Reference3Ideal.nD Cert.Reference3Ideal.τ).loc Cert.Reference3Ideal.main_v48) = v11 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  IdealRules.named_const.Statement Cert.Kernel5Ideal.κ "log2_e" .f32 0x3FB8AA3B#32 (((Real.log 2)⁻¹ : ℝ) : EReal)

def algebraic_Kernel5Ideal_Reference5Ideal_pre_finite [hKernel5Ideal : Cert.Kernel5Ideal.Facts] [hReference5Ideal : Cert.Reference5Ideal.Facts] [hPre_finite : Cert.Pre_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v42) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def Claim : Prop :=
  ∃ (hKernel : Cert.Kernel.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts),
    quiescent_Kernel (hKernel := hKernel)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite (hKernel5Ideal := hKernel5Ideal) (hPre_finite := hPre_finite)
    ∧ quiescent_Reference5Ideal (hReference5Ideal := hReference5Ideal)
    ∧ quiescent_Reference5Ideal_pre_finite (hReference5Ideal := hReference5Ideal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite (hKernel5Ideal := hKernel5Ideal) (hReference5Ideal := hReference5Ideal) (hPre_finite := hPre_finite)
-- ==== Pre_finite.lean ====
abbrev S8x8192x256 : Shape := ⟨3, ![8, 8192, 256]⟩
abbrev S8x8192x512 : Shape := ⟨3, ![8, 8192, 512]⟩
abbrev S8x8192x128 : Shape := ⟨3, ![8, 8192, 128]⟩
abbrev S1x16x256 : Shape := ⟨3, ![1, 16, 256]⟩
abbrev S1x256 : Shape := ⟨2, ![1, 256]⟩
abbrev S_ : Shape := ⟨0, ![]⟩

class Facts : Prop where
  bcast_S_S8x8192x256 : S_.BroadcastsInDim S8x8192x256 (![] : Fin 0 → Fin S8x8192x256.rank)
  reducesTo_S8x8192x256_S_d0_1_2 : S8x8192x256.ReducesTo [0, 1, 2] S_
  h_S_ : 0 < S_.numel
  bcast_S_S8x8192x512 : S_.BroadcastsInDim S8x8192x512 (![] : Fin 0 → Fin S8x8192x512.rank)
  reducesTo_S8x8192x512_S_d0_1_2 : S8x8192x512.ReducesTo [0, 1, 2] S_
  bcast_S_S8x8192x128 : S_.BroadcastsInDim S8x8192x128 (![] : Fin 0 → Fin S8x8192x128.rank)
  reducesTo_S8x8192x128_S_d0_1_2 : S8x8192x128.ReducesTo [0, 1, 2] S_
  bcast_S_S1x16x256 : S_.BroadcastsInDim S1x16x256 (![] : Fin 0 → Fin S1x16x256.rank)
  reducesTo_S1x16x256_S_d0_1_2 : S1x16x256.ReducesTo [0, 1, 2] S_
  bcast_S_S1x256 : S_.BroadcastsInDim S1x256 (![] : Fin 0 → Fin S1x256.rank)
  reducesTo_S1x256_S_d0_1 : S1x256.ReducesTo [0, 1] S_

variable [Facts]

def fn_part1 {F : FTy → Type} [FloatOps F] (main_arg4 : FVec F S1x16x256 .f32) (main_arg5 : FVec F S1x256 .f32) (main_v13 : IVec S_ 1) (main_v16 : IVec S8x8192x128 1) : IVec S_ 1 :=
  let main_c_5 : IVec S_ 1 := constantI S_ 1 1#1
  let main_v17 : IVec S_ 1 := (fun x v => Host.reduce IntOp.andi x v reducesTo_S8x8192x128_S_d0_1_2 h_S_) main_v16 main_c_5
  let main_v18 : IVec S_ 1 := andi main_v13 main_v17
  let main_v19 : FVec F S1x16x256 .f32 := Host.absf main_arg4
  let main_cst_6 : FVec F S_ .f32 := constant S_ .f32 0x7F800000#32
  let main_v20 : FVec F S1x16x256 .f32 := broadcastInDim S1x16x256 ![] bcast_S_S1x16x256 main_cst_6
  let main_v21 : IVec S1x16x256 1 := cmpf .olt main_v19 main_v20
  let main_c_7 : IVec S_ 1 := constantI S_ 1 1#1
  let main_v22 : IVec S_ 1 := (fun x v => Host.reduce IntOp.andi x v reducesTo_S1x16x256_S_d0_1_2 h_S_) main_v21 main_c_7
  let main_v23 : IVec S_ 1 := andi main_v18 main_v22
  let main_v24 : FVec F S1x256 .f32 := Host.absf main_arg5
  let main_cst_8 : FVec F S_ .f32 := constant S_ .f32 0x7F800000#32
  let main_v25 : FVec F S1x256 .f32 := broadcastInDim S1x256 ![] bcast_S_S1x256 main_cst_8
  let main_v26 : IVec S1x256 1 := cmpf .olt main_v24 main_v25
  let main_c_9 : IVec S_ 1 := constantI S_ 1 1#1
  let main_v27 : IVec S_ 1 := (fun x v => Host.reduce IntOp.andi x v reducesTo_S1x256_S_d0_1 h_S_) main_v26 main_c_9
  let main_v28 : IVec S_ 1 := andi main_v23 main_v27
  main_v28

def fn {F : FTy → Type} [FloatOps F] (main_arg0 : FVec F S8x8192x256 .f32) (main_arg1 : FVec F S8x8192x256 .f32) (main_arg2 : FVec F S8x8192x512 .f32) (main_arg3 : FVec F S8x8192x128 .f32) (main_arg4 : FVec F S1x16x256 .f32) (main_arg5 : FVec F S1x256 .f32) : IVec S_ 1 :=
  let main_v0 : FVec F S8x8192x256 .f32 := Host.absf main_arg0
  let main_cst : FVec F S_ .f32 := constant S_ .f32 0x7F800000#32
  let main_v1 : FVec F S8x8192x256 .f32 := broadcastInDim S8x8192x256 ![] bcast_S_S8x8192x256 main_cst
  let main_v2 : IVec S8x8192x256 1 := cmpf .olt main_v0 main_v1
  let main_c : IVec S_ 1 := constantI S_ 1 1#1
  let main_v3 : IVec S_ 1 := (fun x v => Host.reduce IntOp.andi x v reducesTo_S8x8192x256_S_d0_1_2 h_S_) main_v2 main_c
  let main_v4 : FVec F S8x8192x256 .f32 := Host.absf main_arg1
  let main_cst_0 : FVec F S_ .f32 := constant S_ .f32 0x7F800000#32
  let main_v5 : FVec F S8x8192x256 .f32 := broadcastInDim S8x8192x256 ![] bcast_S_S8x8192x256 main_cst_0
  let main_v6 : IVec S8x8192x256 1 := cmpf .olt main_v4 main_v5
  let main_c_1 : IVec S_ 1 := constantI S_ 1 1#1
  let main_v7 : IVec S_ 1 := (fun x v => Host.reduce IntOp.andi x v reducesTo_S8x8192x256_S_d0_1_2 h_S_) main_v6 main_c_1
  let main_v8 : IVec S_ 1 := andi main_v3 main_v7
  let main_v9 : FVec F S8x8192x512 .f32 := Host.absf main_arg2
  let main_cst_2 : FVec F S_ .f32 := constant S_ .f32 0x7F800000#32
  let main_v10 : FVec F S8x8192x512 .f32 := broadcastInDim S8x8192x512 ![] bcast_S_S8x8192x512 main_cst_2
  let main_v11 : IVec S8x8192x512 1 := cmpf .olt main_v9 main_v10
  let main_c_3 : IVec S_ 1 := constantI S_ 1 1#1
  let main_v12 : IVec S_ 1 := (fun x v => Host.reduce IntOp.andi x v reducesTo_S8x8192x512_S_d0_1_2 h_S_) main_v11 main_c_3
  let main_v13 : IVec S_ 1 := andi main_v8 main_v12
  let main_v14 : FVec F S8x8192x128 .f32 := Host.absf main_arg3
  let main_cst_4 : FVec F S_ .f32 := constant S_ .f32 0x7F800000#32
  let main_v15 : FVec F S8x8192x128 .f32 := broadcastInDim S8x8192x128 ![] bcast_S_S8x8192x128 main_cst_4
  let main_v16 : IVec S8x8192x128 1 := cmpf .olt main_v14 main_v15
  fn_part1 (F := F) main_arg4 main_arg5 main_v13 main_v16
-- ==== Kernel.lean ====
abbrev S8x512x8192 : Shape := ⟨3, ![8, 512, 8192]⟩
abbrev S8x8192x512 : Shape := ⟨3, ![8, 8192, 512]⟩
abbrev S8x8192x64 : Shape := ⟨3, ![8, 8192, 64]⟩
abbrev S8x128x8192 : Shape := ⟨3, ![8, 128, 8192]⟩
abbrev S1x512x256 : Shape := ⟨3, ![1, 512, 256]⟩
abbrev S1x128x256 : Shape := ⟨3, ![1, 128, 256]⟩
abbrev S1x8192x64 : Shape := ⟨3, ![1, 8192, 64]⟩
abbrev S1x8192x512 : Shape := ⟨3, ![1, 8192, 512]⟩
abbrev S1x512x8192 : Shape := ⟨3, ![1, 512, 8192]⟩
abbrev S16x512x256 : Shape := ⟨3, ![16, 512, 256]⟩
abbrev S32x32x8x256 : Shape := ⟨4, ![32, 32, 8, 256]⟩
abbrev S32x8x256 : Shape := ⟨3, ![32, 8, 256]⟩
abbrev S8x256x256 : Shape := ⟨3, ![8, 256, 256]⟩
abbrev S4x512x256 : Shape := ⟨3, ![4, 512, 256]⟩
abbrev S4x1x256 : Shape := ⟨3, ![4, 1, 256]⟩
abbrev S4x144x256 : Shape := ⟨3, ![4, 144, 256]⟩
abbrev S512x256 : Shape := ⟨2, ![512, 256]⟩
abbrev S128x256 : Shape := ⟨2, ![128, 256]⟩
abbrev S8x256 : Shape := ⟨2, ![8, 256]⟩
abbrev S1x64x256 : Shape := ⟨3, ![1, 64, 256]⟩
abbrev S64x256 : Shape := ⟨2, ![64, 256]⟩
abbrev S1x256 : Shape := ⟨2, ![1, 256]⟩
abbrev S256x256 : Shape := ⟨2, ![256, 256]⟩
abbrev S1x256x64 : Shape := ⟨3, ![1, 256, 64]⟩
abbrev S256x64 : Shape := ⟨2, ![256, 64]⟩
abbrev S1x256x256 : Shape := ⟨3, ![1, 256, 256]⟩
abbrev S1x8x128 : Shape := ⟨3, ![1, 8, 128]⟩
abbrev S8x128 : Shape := ⟨2, ![8, 128]⟩
abbrev S1x1x8x128 : Shape := ⟨4, ![1, 1, 8, 128]⟩
abbrev S1x8x256 : Shape := ⟨3, ![1, 8, 256]⟩
abbrev S32x1x8x256 : Shape := ⟨4, ![32, 1, 8, 256]⟩
abbrev S8x8x256 : Shape := ⟨3, ![8, 8, 256]⟩
abbrev S1x8x8x256 : Shape := ⟨4, ![1, 8, 8, 256]⟩
abbrev S256 : Shape := ⟨1, ![256]⟩
abbrev S1x1x256 : Shape := ⟨3, ![1, 1, 256]⟩
abbrev S1 : Shape := ⟨1, ![1]⟩
abbrev S1x1x1 : Shape := ⟨3, ![1, 1, 1]⟩
abbrev S16x512 : Shape := ⟨2, ![16, 512]⟩
abbrev S1x512x512 : Shape := ⟨3, ![1, 512, 512]⟩
abbrev S512x512 : Shape := ⟨2, ![512, 512]⟩
abbrev S512x128 : Shape := ⟨2, ![512, 128]⟩
abbrev S1x128x512 : Shape := ⟨3, ![1, 128, 512]⟩
abbrev S128x512 : Shape := ⟨2, ![128, 512]⟩
abbrev S144x512 : Shape := ⟨2, ![144, 512]⟩
abbrev S1x144x256 : Shape := ⟨3, ![1, 144, 256]⟩
abbrev S144x256 : Shape := ⟨2, ![144, 256]⟩

abbrev nBuf : Space → Nat
  | .hbm => 7
  | .vmem => 22
  | .smem => 0
  | _ => 0

abbrev bufTy : (tb : Table) → Fin (tcTables nBuf tb) → BufTy
  | .hbm, ⟨0, _⟩ => ⟨S8x512x8192, .bf16⟩
  | .hbm, ⟨1, _⟩ => ⟨S8x8192x512, .bf16⟩
  | .hbm, ⟨2, _⟩ => ⟨S8x512x8192, .bf16⟩
  | .hbm, ⟨3, _⟩ => ⟨S8x512x8192, .bf16⟩
  | .hbm, ⟨4, _⟩ => ⟨S8x8192x64, .bf16⟩
  | .hbm, ⟨5, _⟩ => ⟨S8x128x8192, .f32⟩
  | .hbm, ⟨6, _⟩ => ⟨S8x512x8192, .f32⟩
  | .local _ .vmem, ⟨0, _⟩ => ⟨S1x512x256, .bf16⟩
  | .local _ .vmem, ⟨1, _⟩ => ⟨S1x512x256, .bf16⟩
  | .local _ .vmem, ⟨2, _⟩ => ⟨S1x128x256, .f32⟩
  | .local _ .vmem, ⟨3, _⟩ => ⟨S1x128x256, .f32⟩
  | .local _ .vmem, ⟨4, _⟩ => ⟨S1x512x256, .bf16⟩
  | .local _ .vmem, ⟨5, _⟩ => ⟨S1x512x256, .bf16⟩
  | .local _ .vmem, ⟨6, _⟩ => ⟨S1x8192x64, .bf16⟩
  | .local _ .vmem, ⟨7, _⟩ => ⟨S1x8192x512, .bf16⟩
  | .local _ .vmem, ⟨8, _⟩ => ⟨S1x512x8192, .bf16⟩
  | .local _ .vmem, ⟨9, _⟩ => ⟨S1x512x256, .f32⟩
  | .local _ .vmem, ⟨10, _⟩ => ⟨S1x512x256, .f32⟩
  | .local _ .vmem, ⟨11, _⟩ => ⟨S16x512x256, .i32⟩
  | .local _ .vmem, ⟨12, _⟩ => ⟨S32x32x8x256, .i32⟩
  | .local _ .vmem, ⟨13, _⟩ => ⟨S32x8x256, .i32⟩
  | .local _ .vmem, ⟨14, _⟩ => ⟨S8x256x256, .f32⟩
  | .local _ .vmem, ⟨15, _⟩ => ⟨S8x256x256, .f32⟩
  | .local _ .vmem, ⟨16, _⟩ => ⟨S4x512x256, .f32⟩
  | .local _ .vmem, ⟨17, _⟩ => ⟨S4x512x256, .f32⟩
  | .local _ .vmem, ⟨18, _⟩ => ⟨S4x1x256, .f32⟩
  | .local _ .vmem, ⟨19, _⟩ => ⟨S4x1x256, .f32⟩
  | .local _ .vmem, ⟨20, _⟩ => ⟨S4x1x256, .f32⟩
  | .local _ .vmem, ⟨21, _⟩ => ⟨S4x144x256, .f32⟩
  | _, _ => ⟨S8x512x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_scratch4 : Ref sig .tc := ⟨.vmem, 15, rfl⟩
abbrev cc0_scratch5 : Ref sig .tc := ⟨.vmem, 16, rfl⟩
abbrev cc0_scratch6 : Ref sig .tc := ⟨.vmem, 17, rfl⟩
abbrev cc0_scratch7 : Ref sig .tc := ⟨.vmem, 18, rfl⟩
abbrev cc0_scratch8 : Ref sig .tc := ⟨.vmem, 19, rfl⟩
abbrev cc0_scratch9 : Ref sig .tc := ⟨.vmem, 20, rfl⟩
abbrev cc0_scratch10 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [BitOps F]

abbrev grid0 : Pipeline.Grid := ⟨2, ![8, 32], ![false, false]⟩

def k0_mult1 : BitVec 32 :=
  let c0_i32_25 : BitVec 32 := 0#32
  c0_i32_25
@[reducible] def k0_t1_loop (i : grid0.Coords) : Scf.Loop 32 :=
  let c0_i32_54 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let v90 : BitVec 32 := Scalar.subi v17 c0_i32_54
  let c1_i32_55 : BitVec 32 := 1#32
  let v92 : BitVec 32 := Scalar.divsi v90 c1_i32_55
  let v93 : BitVec 32 := Scalar.muli v92 c1_i32_55
  let v94 : BitVec 32 := Scalar.addi c0_i32_54 v93
  let c1_i32_56 : BitVec 32 := 1#32
  ⟨c0_i32_54, v94, c1_i32_56⟩
def k0_mult2 (i : grid0.Coords) (k0_t1 : Fin (k0_t1_loop i).trips) : BitVec 32 :=
  let c2_i32_244 : BitVec 32 := 2#32
  let c0_i32_54 : BitVec 32 := 0#32
  let c1_i32_56 : BitVec 32 := 1#32
  let arg20 : BitVec 32 := Scf.iv c0_i32_54 c1_i32_56 k0_t1
  let v362 : BitVec 32 := Scalar.muli c2_i32_244 arg20
  let c1_i32_245 : BitVec 32 := 1#32
  let v363 : BitVec 32 := Scalar.addi v362 c1_i32_245
  let c256_i32_246 : BitVec 32 := 256#32
  let v364 : BitVec 32 := Scalar.muli v363 c256_i32_246
  v364
def k0_off1 (i : grid0.Coords) (k0_t1 : Fin (k0_t1_loop i).trips) (c1_i32_245 : BitVec 32) : Fin 3 → Nat :=
  let c0_247 : Index := 0#32
  let c2_i32_244 : BitVec 32 := 2#32
  let c0_i32_54 : BitVec 32 := 0#32
  let c1_i32_56 : BitVec 32 := 1#32
  let arg20 : BitVec 32 := Scf.iv c0_i32_54 c1_i32_56 k0_t1
  let v362 : BitVec 32 := Scalar.muli c2_i32_244 arg20
  let v363 : BitVec 32 := Scalar.addi v362 c1_i32_245
  let c256_i32_246 : BitVec 32 := 256#32
  let v364 : BitVec 32 := Scalar.muli v363 c256_i32_246
  let v365 : BitVec 32 := v364
  let v366 : Index := Scalar.indexCast v365
  let c0_248 : Index := 0#32
  ![0, v366.toNat, 0]
def k0_off2 (i : grid0.Coords) (k0_t1 : Fin (k0_t1_loop i).trips) : Fin 3 → Nat :=
  let c0_i32_54 : BitVec 32 := 0#32
  let c1_i32_56 : BitVec 32 := 1#32
  let arg20 : BitVec 32 := Scf.iv c0_i32_54 c1_i32_56 k0_t1
  let v466 : Index := Scalar.indexCast arg20
  let c0_318 : Index := 0#32
  let c0_319 : Index := 0#32
  ![v466.toNat, 0, 0]
def k0_mult3 (i : grid0.Coords) (k0_t1 : Fin (k0_t1_loop i).trips) : BitVec 32 :=
  let c2_i32_320 : BitVec 32 := 2#32
  let c0_i32_54 : BitVec 32 := 0#32
  let c1_i32_56 : BitVec 32 := 1#32
  let arg20 : BitVec 32 := Scf.iv c0_i32_54 c1_i32_56 k0_t1
  let v470 : BitVec 32 := Scalar.muli c2_i32_320 arg20
  let c2_i32_321 : BitVec 32 := 2#32
  let v471 : BitVec 32 := Scalar.addi v470 c2_i32_321
  let c256_i32_322 : BitVec 32 := 256#32
  let v472 : BitVec 32 := Scalar.muli v471 c256_i32_322
  v472
def k0_off3 (i : grid0.Coords) (k0_t1 : Fin (k0_t1_loop i).trips) : Fin 3 → Nat :=
  let c0_i32_54 : BitVec 32 := 0#32
  let c1_i32_56 : BitVec 32 := 1#32
  let arg20 : BitVec 32 := Scf.iv c0_i32_54 c1_i32_56 k0_t1
  let v574 : Index := Scalar.indexCast arg20
  let c256_394 : Index := 256#32
  let c0_395 : Index := 0#32
  ![v574.toNat, 256, 0]
@[reducible] def k0_t2_loop (i : grid0.Coords) : Scf.Loop 32 :=
  let c0_i32_54 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let v90 : BitVec 32 := Scalar.subi v17 c0_i32_54
  let c1_i32_55 : BitVec 32 := 1#32
  let v92 : BitVec 32 := Scalar.divsi v90 c1_i32_55
  let v93 : BitVec 32 := Scalar.muli v92 c1_i32_55
  let v94 : BitVec 32 := Scalar.addi c0_i32_54 v93
  let v91 : BitVec 32 := Scalar.addi c0_i32_54 v90
  let c1_i32_57 : BitVec 32 := 1#32
  ⟨v94, v91, c1_i32_57⟩
def k0_mult4 (i : grid0.Coords) (k0_t2 : Fin (k0_t2_loop i).trips) : BitVec 32 :=
  let c2_i32_244 : BitVec 32 := 2#32
  let c0_i32_54 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let v90 : BitVec 32 := Scalar.subi v17 c0_i32_54
  let c1_i32_55 : BitVec 32 := 1#32
  let v92 : BitVec 32 := Scalar.divsi v90 c1_i32_55
  let v93 : BitVec 32 := Scalar.muli v92 c1_i32_55
  let v94 : BitVec 32 := Scalar.addi c0_i32_54 v93
  let c1_i32_57 : BitVec 32 := 1#32
  let arg20 : BitVec 32 := Scf.iv v94 c1_i32_57 k0_t2
  let v362 : BitVec 32 := Scalar.muli c2_i32_244 arg20
  let c1_i32_245 : BitVec 32 := 1#32
  let v363 : BitVec 32 := Scalar.addi v362 c1_i32_245
  let c256_i32_246 : BitVec 32 := 256#32
  let v364 : BitVec 32 := Scalar.muli v363 c256_i32_246
  v364
def k0_off4 (i : grid0.Coords) (k0_t2 : Fin (k0_t2_loop i).trips) (c1_i32_245 : BitVec 32) : Fin 3 → Nat :=
  let c0_247 : Index := 0#32
  let c2_i32_244 : BitVec 32 := 2#32
  let c0_i32_54 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let v90 : BitVec 32 := Scalar.subi v17 c0_i32_54
  let c1_i32_55 : BitVec 32 := 1#32
  let v92 : BitVec 32 := Scalar.divsi v90 c1_i32_55
  let v93 : BitVec 32 := Scalar.muli v92 c1_i32_55
  let v94 : BitVec 32 := Scalar.addi c0_i32_54 v93
  let c1_i32_57 : BitVec 32 := 1#32
  let arg20 : BitVec 32 := Scf.iv v94 c1_i32_57 k0_t2
  let v362 : BitVec 32 := Scalar.muli c2_i32_244 arg20
  let v363 : BitVec 32 := Scalar.addi v362 c1_i32_245
  let c256_i32_246 : BitVec 32 := 256#32
  let v364 : BitVec 32 := Scalar.muli v363 c256_i32_246
  let v365 : BitVec 32 := v364
  let v366 : Index := Scalar.indexCast v365
  let c0_248 : Index := 0#32
  ![0, v366.toNat, 0]
def k0_off5 (i : grid0.Coords) (k0_t2 : Fin (k0_t2_loop i).trips) : Fin 3 → Nat :=
  let c0_i32_54 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let v90 : BitVec 32 := Scalar.subi v17 c0_i32_54
  let c1_i32_55 : BitVec 32 := 1#32
  let v92 : BitVec 32 := Scalar.divsi v90 c1_i32_55
  let v93 : BitVec 32 := Scalar.muli v92 c1_i32_55
  let v94 : BitVec 32 := Scalar.addi c0_i32_54 v93
  let c1_i32_57 : BitVec 32 := 1#32
  let arg20 : BitVec 32 := Scf.iv v94 c1_i32_57 k0_t2
  let v466 : Index := Scalar.indexCast arg20
  let c0_318 : Index := 0#32
  let c0_319 : Index := 0#32
  ![v466.toNat, 0, 0]
def k0_mult5 (i : grid0.Coords) (k0_t2 : Fin (k0_t2_loop i).trips) : BitVec 32 :=
  let c2_i32_320 : BitVec 32 := 2#32
  let c0_i32_54 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let v90 : BitVec 32 := Scalar.subi v17 c0_i32_54
  let c1_i32_55 : BitVec 32 := 1#32
  let v92 : BitVec 32 := Scalar.divsi v90 c1_i32_55
  let v93 : BitVec 32 := Scalar.muli v92 c1_i32_55
  let v94 : BitVec 32 := Scalar.addi c0_i32_54 v93
  let c1_i32_57 : BitVec 32 := 1#32
  let arg20 : BitVec 32 := Scf.iv v94 c1_i32_57 k0_t2
  let v470 : BitVec 32 := Scalar.muli c2_i32_320 arg20
  let c2_i32_321 : BitVec 32 := 2#32
  let v471 : BitVec 32 := Scalar.addi v470 c2_i32_321
  let c256_i32_322 : BitVec 32 := 256#32
  let v472 : BitVec 32 := Scalar.muli v471 c256_i32_322
  v472
def k0_off6 (i : grid0.Coords) (k0_t2 : Fin (k0_t2_loop i).trips) : Fin 3 → Nat :=
  let c0_i32_54 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let v90 : BitVec 32 := Scalar.subi v17 c0_i32_54
  let c1_i32_55 : BitVec 32 := 1#32
  let v92 : BitVec 32 := Scalar.divsi v90 c1_i32_55
  let v93 : BitVec 32 := Scalar.muli v92 c1_i32_55
  let v94 : BitVec 32 := Scalar.addi c0_i32_54 v93
  let c1_i32_57 : BitVec 32 := 1#32
  let arg20 : BitVec 32 := Scf.iv v94 c1_i32_57 k0_t2
  let v574 : Index := Scalar.indexCast arg20
  let c256_394 : Index := 256#32
  let c0_395 : Index := 0#32
  ![v574.toNat, 256, 0]
def k0_cond1 (i : grid0.Coords) : BitVec 1 :=
  let arg1 : BitVec 32 := BitVec.ofNat 32 (i 1).val
  let c2_i32_58 : BitVec 32 := 2#32
  let c0_i32_59 : BitVec 32 := 0#32
  let v96 : BitVec 1 := Scalar.cmpi .eq c2_i32_58 c0_i32_59
  let c1_i32_60 : BitVec 32 := 1#32
  let v97 : BitVec 32 := Scalar.select v96 c1_i32_60 c2_i32_58
  let v98 : BitVec 32 := Scalar.remsi arg1 v97
  let c0_i32_62 : BitVec 32 := 0#32
  let v100 : BitVec 1 := Scalar.cmpi .slt v98 c0_i32_62
  let c0_i32_63 : BitVec 32 := 0#32
  let v101 : BitVec 1 := Scalar.cmpi .slt v97 c0_i32_63
  let v102 : BitVec 1 := Scalar.xori v100 v101
  let c0_i32_61 : BitVec 32 := 0#32
  let v99 : BitVec 1 := Scalar.cmpi .ne v98 c0_i32_61
  let v103 : BitVec 1 := Scalar.andi v102 v99
  let v104 : BitVec 32 := Scalar.addi v98 v97
  let v105 : BitVec 32 := Scalar.select v103 v104 v98
  let c0_i32_64 : BitVec 32 := 0#32
  let v106 : BitVec 1 := Scalar.cmpi .eq v105 c0_i32_64
  let v107 : BitVec 32 := Scalar.extui v106
  let c0_i32_65 : BitVec 32 := 0#32
  let v108 : BitVec 1 := Scalar.cmpi .ne v107 c0_i32_65
  v108

def k0_off7 (i : grid0.Coords) : Fin 3 → Nat :=
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let v433 : Index := Scalar.indexCast v17
  let c0_283 : Index := 0#32
  let c0_284 : Index := 0#32
  ![v433.toNat, 0, 0]
def k0_off8 (i : grid0.Coords) : Fin 3 → Nat :=
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let v438 : Index := Scalar.indexCast v17
  let c256_286 : Index := 256#32
  let c0_287 : Index := 0#32
  ![v438.toNat, 256, 0]
def k0_cond2 (i : grid0.Coords) : BitVec 1 :=
  let arg1 : BitVec 32 := BitVec.ofNat 32 (i 1).val
  let c2_i32_66 : BitVec 32 := 2#32
  let c0_i32_67 : BitVec 32 := 0#32
  let v109 : BitVec 1 := Scalar.cmpi .eq c2_i32_66 c0_i32_67
  let c1_i32_68 : BitVec 32 := 1#32
  let v110 : BitVec 32 := Scalar.select v109 c1_i32_68 c2_i32_66
  let v111 : BitVec 32 := Scalar.remsi arg1 v110
  let c0_i32_70 : BitVec 32 := 0#32
  let v113 : BitVec 1 := Scalar.cmpi .slt v111 c0_i32_70
  let c0_i32_71 : BitVec 32 := 0#32
  let v114 : BitVec 1 := Scalar.cmpi .slt v110 c0_i32_71
  let v115 : BitVec 1 := Scalar.xori v113 v114
  let c0_i32_69 : BitVec 32 := 0#32
  let v112 : BitVec 1 := Scalar.cmpi .ne v111 c0_i32_69
  let v116 : BitVec 1 := Scalar.andi v115 v112
  let v117 : BitVec 32 := Scalar.addi v111 v110
  let v118 : BitVec 32 := Scalar.select v116 v117 v111
  let c1_i32_72 : BitVec 32 := 1#32
  let v119 : BitVec 1 := Scalar.cmpi .eq v118 c1_i32_72
  let v120 : BitVec 32 := Scalar.extui v119
  let c0_i32_73 : BitVec 32 := 0#32
  let v121 : BitVec 1 := Scalar.cmpi .ne v120 c0_i32_73
  v121

def k0_mult6 (i : grid0.Coords) : BitVec 32 :=
  let arg1 : BitVec 32 := BitVec.ofNat 32 (i 1).val
  let c256_i32_244 : BitVec 32 := 256#32
  let v362 : BitVec 32 := Scalar.muli arg1 c256_i32_244
  v362
def k0_off9 (i : grid0.Coords) : Fin 3 → Nat :=
  let c0_245 : Index := 0#32
  let arg1 : BitVec 32 := BitVec.ofNat 32 (i 1).val
  let c256_i32_244 : BitVec 32 := 256#32
  let v362 : BitVec 32 := Scalar.muli arg1 c256_i32_244
  let v363 : BitVec 32 := v362
  let v364 : Index := Scalar.indexCast v363
  let c0_246 : Index := 0#32
  ![0, v364.toNat, 0]
def k0_off10 (i : grid0.Coords) : Fin 3 → Nat :=
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let v462 : Index := Scalar.indexCast v17
  let c0_314 : Index := 0#32
  let c0_315 : Index := 0#32
  ![v462.toNat, 0, 0]
def k0_off11 (i : grid0.Coords) : Fin 3 → Nat :=
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let v537 : Index := Scalar.indexCast v17
  let c256_355 : Index := 256#32
  let c0_356 : Index := 0#32
  ![v537.toNat, 256, 0]
@[reducible] def k0_t3_loop (i : grid0.Coords) : Scf.Loop 32 :=
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_77 : BitVec 32 := 1#32
  ⟨c0_i32_75, v126, c1_i32_77⟩
def k0_off12 (i : grid0.Coords) (k0_t3 : Fin (k0_t3_loop i).trips) : Fin 3 → Nat :=
  let c0_i32_75 : BitVec 32 := 0#32
  let c1_i32_77 : BitVec 32 := 1#32
  let arg20 : BitVec 32 := Scf.iv c0_i32_75 c1_i32_77 k0_t3
  let v364 : Index := Scalar.indexCast arg20
  let c0_246 : Index := 0#32
  let c0_247 : Index := 0#32
  ![v364.toNat, 0, 0]
def k0_off13 (i : grid0.Coords) (k0_t3 : Fin (k0_t3_loop i).trips) : Fin 3 → Nat :=
  let c0_i32_75 : BitVec 32 := 0#32
  let c1_i32_77 : BitVec 32 := 1#32
  let arg20 : BitVec 32 := Scf.iv c0_i32_75 c1_i32_77 k0_t3
  let v367 : Index := Scalar.indexCast arg20
  let c8 : Index := 8#32
  let c0_248 : Index := 0#32
  ![v367.toNat, 8, 0]
def k0_off14 (i : grid0.Coords) (k0_t3 : Fin (k0_t3_loop i).trips) : Fin 3 → Nat :=
  let c0_i32_75 : BitVec 32 := 0#32
  let c1_i32_77 : BitVec 32 := 1#32
  let arg20 : BitVec 32 := Scf.iv c0_i32_75 c1_i32_77 k0_t3
  let v370 : Index := Scalar.indexCast arg20
  let c16 : Index := 16#32
  let c0_249 : Index := 0#32
  ![v370.toNat, 16, 0]
def k0_off15 (i : grid0.Coords) (k0_t3 : Fin (k0_t3_loop i).trips) : Fin 3 → Nat :=
  let c0_i32_75 : BitVec 32 := 0#32
  let c1_i32_77 : BitVec 32 := 1#32
  let arg20 : BitVec 32 := Scf.iv c0_i32_75 c1_i32_77 k0_t3
  let v373 : Index := Scalar.indexCast arg20
  let c24 : Index := 24#32
  let c0_250 : Index := 0#32
  ![v373.toNat, 24, 0]
def k0_off16 (i : grid0.Coords) (k0_t3 : Fin (k0_t3_loop i).trips) : Fin 3 → Nat :=
  let c0_i32_75 : BitVec 32 := 0#32
  let c1_i32_77 : BitVec 32 := 1#32
  let arg20 : BitVec 32 := Scf.iv c0_i32_75 c1_i32_77 k0_t3
  let v376 : Index := Scalar.indexCast arg20
  let c32 : Index := 32#32
  let c0_251 : Index := 0#32
  ![v376.toNat, 32, 0]
def k0_off17 (i : grid0.Coords) (k0_t3 : Fin (k0_t3_loop i).trips) : Fin 3 → Nat :=
  let c0_i32_75 : BitVec 32 := 0#32
  let c1_i32_77 : BitVec 32 := 1#32
  let arg20 : BitVec 32 := Scf.iv c0_i32_75 c1_i32_77 k0_t3
  let v379 : Index := Scalar.indexCast arg20
  let c40 : Index := 40#32
  let c0_252 : Index := 0#32
  ![v379.toNat, 40, 0]
def k0_off18 (i : grid0.Coords) (k0_t3 : Fin (k0_t3_loop i).trips) : Fin 3 → Nat :=
  let c0_i32_75 : BitVec 32 := 0#32
  let c1_i32_77 : BitVec 32 := 1#32
  let arg20 : BitVec 32 := Scf.iv c0_i32_75 c1_i32_77 k0_t3
  let v382 : Index := Scalar.indexCast arg20
  let c48 : Index := 48#32
  let c0_253 : Index := 0#32
  ![v382.toNat, 48, 0]
def k0_off19 (i : grid0.Coords) (k0_t3 : Fin (k0_t3_loop i).trips) : Fin 3 → Nat :=
  let c0_i32_75 : BitVec 32 := 0#32
  let c1_i32_77 : BitVec 32 := 1#32
  let arg20 : BitVec 32 := Scf.iv c0_i32_75 c1_i32_77 k0_t3
  let v385 : Index := Scalar.indexCast arg20
  let c56 : Index := 56#32
  let c0_254 : Index := 0#32
  ![v385.toNat, 56, 0]
def k0_off20 (i : grid0.Coords) (k0_t3 : Fin (k0_t3_loop i).trips) : Fin 3 → Nat :=
  let c0_i32_75 : BitVec 32 := 0#32
  let c1_i32_77 : BitVec 32 := 1#32
  let arg20 : BitVec 32 := Scf.iv c0_i32_75 c1_i32_77 k0_t3
  let v388 : Index := Scalar.indexCast arg20
  let c64_255 : Index := 64#32
  let c0_256 : Index := 0#32
  ![v388.toNat, 64, 0]
def k0_off21 (i : grid0.Coords) (k0_t3 : Fin (k0_t3_loop i).trips) : Fin 3 → Nat :=
  let c0_i32_75 : BitVec 32 := 0#32
  let c1_i32_77 : BitVec 32 := 1#32
  let arg20 : BitVec 32 := Scf.iv c0_i32_75 c1_i32_77 k0_t3
  let v391 : Index := Scalar.indexCast arg20
  let c72 : Index := 72#32
  let c0_257 : Index := 0#32
  ![v391.toNat, 72, 0]
def k0_off22 (i : grid0.Coords) (k0_t3 : Fin (k0_t3_loop i).trips) : Fin 3 → Nat :=
  let c0_i32_75 : BitVec 32 := 0#32
  let c1_i32_77 : BitVec 32 := 1#32
  let arg20 : BitVec 32 := Scf.iv c0_i32_75 c1_i32_77 k0_t3
  let v394 : Index := Scalar.indexCast arg20
  let c80 : Index := 80#32
  let c0_258 : Index := 0#32
  ![v394.toNat, 80, 0]
def k0_off23 (i : grid0.Coords) (k0_t3 : Fin (k0_t3_loop i).trips) : Fin 3 → Nat :=
  let c0_i32_75 : BitVec 32 := 0#32
  let c1_i32_77 : BitVec 32 := 1#32
  let arg20 : BitVec 32 := Scf.iv c0_i32_75 c1_i32_77 k0_t3
  let v397 : Index := Scalar.indexCast arg20
  let c88 : Index := 88#32
  let c0_259 : Index := 0#32
  ![v397.toNat, 88, 0]
def k0_off24 (i : grid0.Coords) (k0_t3 : Fin (k0_t3_loop i).trips) : Fin 3 → Nat :=
  let c0_i32_75 : BitVec 32 := 0#32
  let c1_i32_77 : BitVec 32 := 1#32
  let arg20 : BitVec 32 := Scf.iv c0_i32_75 c1_i32_77 k0_t3
  let v400 : Index := Scalar.indexCast arg20
  let c96 : Index := 96#32
  let c0_260 : Index := 0#32
  ![v400.toNat, 96, 0]
def k0_off25 (i : grid0.Coords) (k0_t3 : Fin (k0_t3_loop i).trips) : Fin 3 → Nat :=
  let c0_i32_75 : BitVec 32 := 0#32
  let c1_i32_77 : BitVec 32 := 1#32
  let arg20 : BitVec 32 := Scf.iv c0_i32_75 c1_i32_77 k0_t3
  let v403 : Index := Scalar.indexCast arg20
  let c104 : Index := 104#32
  let c0_261 : Index := 0#32
  ![v403.toNat, 104, 0]
def k0_off26 (i : grid0.Coords) (k0_t3 : Fin (k0_t3_loop i).trips) : Fin 3 → Nat :=
  let c0_i32_75 : BitVec 32 := 0#32
  let c1_i32_77 : BitVec 32 := 1#32
  let arg20 : BitVec 32 := Scf.iv c0_i32_75 c1_i32_77 k0_t3
  let v406 : Index := Scalar.indexCast arg20
  let c112 : Index := 112#32
  let c0_262 : Index := 0#32
  ![v406.toNat, 112, 0]
def k0_off27 (i : grid0.Coords) (k0_t3 : Fin (k0_t3_loop i).trips) : Fin 3 → Nat :=
  let c0_i32_75 : BitVec 32 := 0#32
  let c1_i32_77 : BitVec 32 := 1#32
  let arg20 : BitVec 32 := Scf.iv c0_i32_75 c1_i32_77 k0_t3
  let v409 : Index := Scalar.indexCast arg20
  let c120 : Index := 120#32
  let c0_263 : Index := 0#32
  ![v409.toNat, 120, 0]
def k0_off28 (i : grid0.Coords) (k0_t3 : Fin (k0_t3_loop i).trips) : Fin 3 → Nat :=
  let c0_i32_75 : BitVec 32 := 0#32
  let c1_i32_77 : BitVec 32 := 1#32
  let arg20 : BitVec 32 := Scf.iv c0_i32_75 c1_i32_77 k0_t3
  let v412 : Index := Scalar.indexCast arg20
  let c128_264 : Index := 128#32
  let c0_265 : Index := 0#32
  ![v412.toNat, 128, 0]
def k0_off29 (i : grid0.Coords) (k0_t3 : Fin (k0_t3_loop i).trips) : Fin 3 → Nat :=
  let c0_i32_75 : BitVec 32 := 0#32
  let c1_i32_77 : BitVec 32 := 1#32
  let arg20 : BitVec 32 := Scf.iv c0_i32_75 c1_i32_77 k0_t3
  let v415 : Index := Scalar.indexCast arg20
  let c136 : Index := 136#32
  let c0_266 : Index := 0#32
  ![v415.toNat, 136, 0]
def k0_off30 (i : grid0.Coords) (k0_t3 : Fin (k0_t3_loop i).trips) : Fin 3 → Nat :=
  let c0_i32_75 : BitVec 32 := 0#32
  let c1_i32_77 : BitVec 32 := 1#32
  let arg20 : BitVec 32 := Scf.iv c0_i32_75 c1_i32_77 k0_t3
  let v418 : Index := Scalar.indexCast arg20
  let c144 : Index := 144#32
  let c0_267 : Index := 0#32
  ![v418.toNat, 144, 0]
def k0_off31 (i : grid0.Coords) (k0_t3 : Fin (k0_t3_loop i).trips) : Fin 3 → Nat :=
  let c0_i32_75 : BitVec 32 := 0#32
  let c1_i32_77 : BitVec 32 := 1#32
  let arg20 : BitVec 32 := Scf.iv c0_i32_75 c1_i32_77 k0_t3
  let v421 : Index := Scalar.indexCast arg20
  let c152 : Index := 152#32
  let c0_268 : Index := 0#32
  ![v421.toNat, 152, 0]
def k0_off32 (i : grid0.Coords) (k0_t3 : Fin (k0_t3_loop i).trips) : Fin 3 → Nat :=
  let c0_i32_75 : BitVec 32 := 0#32
  let c1_i32_77 : BitVec 32 := 1#32
  let arg20 : BitVec 32 := Scf.iv c0_i32_75 c1_i32_77 k0_t3
  let v424 : Index := Scalar.indexCast arg20
  let c160 : Index := 160#32
  let c0_269 : Index := 0#32
  ![v424.toNat, 160, 0]
def k0_off33 (i : grid0.Coords) (k0_t3 : Fin (k0_t3_loop i).trips) : Fin 3 → Nat :=
  let c0_i32_75 : BitVec 32 := 0#32
  let c1_i32_77 : BitVec 32 := 1#32
  let arg20 : BitVec 32 := Scf.iv c0_i32_75 c1_i32_77 k0_t3
  let v427 : Index := Scalar.indexCast arg20
  let c168 : Index := 168#32
  let c0_270 : Index := 0#32
  ![v427.toNat, 168, 0]
def k0_off34 (i : grid0.Coords) (k0_t3 : Fin (k0_t3_loop i).trips) : Fin 3 → Nat :=
  let c0_i32_75 : BitVec 32 := 0#32
  let c1_i32_77 : BitVec 32 := 1#32
  let arg20 : BitVec 32 := Scf.iv c0_i32_75 c1_i32_77 k0_t3
  let v430 : Index := Scalar.indexCast arg20
  let c176 : Index := 176#32
  let c0_271 : Index := 0#32
  ![v430.toNat, 176, 0]
def k0_off35 (i : grid0.Coords) (k0_t3 : Fin (k0_t3_loop i).trips) : Fin 3 → Nat :=
  let c0_i32_75 : BitVec 32 := 0#32
  let c1_i32_77 : BitVec 32 := 1#32
  let arg20 : BitVec 32 := Scf.iv c0_i32_75 c1_i32_77 k0_t3
  let v433 : Index := Scalar.indexCast arg20
  let c184 : Index := 184#32
  let c0_272 : Index := 0#32
  ![v433.toNat, 184, 0]
def k0_off36 (i : grid0.Coords) (k0_t3 : Fin (k0_t3_loop i).trips) : Fin 3 → Nat :=
  let c0_i32_75 : BitVec 32 := 0#32
  let c1_i32_77 : BitVec 32 := 1#32
  let arg20 : BitVec 32 := Scf.iv c0_i32_75 c1_i32_77 k0_t3
  let v436 : Index := Scalar.indexCast arg20
  let c192_273 : Index := 192#32
  let c0_274 : Index := 0#32
  ![v436.toNat, 192, 0]
def k0_off37 (i : grid0.Coords) (k0_t3 : Fin (k0_t3_loop i).trips) : Fin 3 → Nat :=
  let c0_i32_75 : BitVec 32 := 0#32
  let c1_i32_77 : BitVec 32 := 1#32
  let arg20 : BitVec 32 := Scf.iv c0_i32_75 c1_i32_77 k0_t3
  let v439 : Index := Scalar.indexCast arg20
  let c200 : Index := 200#32
  let c0_275 : Index := 0#32
  ![v439.toNat, 200, 0]
def k0_off38 (i : grid0.Coords) (k0_t3 : Fin (k0_t3_loop i).trips) : Fin 3 → Nat :=
  let c0_i32_75 : BitVec 32 := 0#32
  let c1_i32_77 : BitVec 32 := 1#32
  let arg20 : BitVec 32 := Scf.iv c0_i32_75 c1_i32_77 k0_t3
  let v442 : Index := Scalar.indexCast arg20
  let c208 : Index := 208#32
  let c0_276 : Index := 0#32
  ![v442.toNat, 208, 0]
def k0_off39 (i : grid0.Coords) (k0_t3 : Fin (k0_t3_loop i).trips) : Fin 3 → Nat :=
  let c0_i32_75 : BitVec 32 := 0#32
  let c1_i32_77 : BitVec 32 := 1#32
  let arg20 : BitVec 32 := Scf.iv c0_i32_75 c1_i32_77 k0_t3
  let v445 : Index := Scalar.indexCast arg20
  let c216 : Index := 216#32
  let c0_277 : Index := 0#32
  ![v445.toNat, 216, 0]
def k0_off40 (i : grid0.Coords) (k0_t3 : Fin (k0_t3_loop i).trips) : Fin 3 → Nat :=
  let c0_i32_75 : BitVec 32 := 0#32
  let c1_i32_77 : BitVec 32 := 1#32
  let arg20 : BitVec 32 := Scf.iv c0_i32_75 c1_i32_77 k0_t3
  let v448 : Index := Scalar.indexCast arg20
  let c224 : Index := 224#32
  let c0_278 : Index := 0#32
  ![v448.toNat, 224, 0]
def k0_off41 (i : grid0.Coords) (k0_t3 : Fin (k0_t3_loop i).trips) : Fin 3 → Nat :=
  let c0_i32_75 : BitVec 32 := 0#32
  let c1_i32_77 : BitVec 32 := 1#32
  let arg20 : BitVec 32 := Scf.iv c0_i32_75 c1_i32_77 k0_t3
  let v451 : Index := Scalar.indexCast arg20
  let c232 : Index := 232#32
  let c0_279 : Index := 0#32
  ![v451.toNat, 232, 0]
def k0_off42 (i : grid0.Coords) (k0_t3 : Fin (k0_t3_loop i).trips) : Fin 3 → Nat :=
  let c0_i32_75 : BitVec 32 := 0#32
  let c1_i32_77 : BitVec 32 := 1#32
  let arg20 : BitVec 32 := Scf.iv c0_i32_75 c1_i32_77 k0_t3
  let v454 : Index := Scalar.indexCast arg20
  let c240 : Index := 240#32
  let c0_280 : Index := 0#32
  ![v454.toNat, 240, 0]
def k0_off43 (i : grid0.Coords) (k0_t3 : Fin (k0_t3_loop i).trips) : Fin 3 → Nat :=
  let c0_i32_75 : BitVec 32 := 0#32
  let c1_i32_77 : BitVec 32 := 1#32
  let arg20 : BitVec 32 := Scf.iv c0_i32_75 c1_i32_77 k0_t3
  let v457 : Index := Scalar.indexCast arg20
  let c248 : Index := 248#32
  let c0_281 : Index := 0#32
  ![v457.toNat, 248, 0]
def k0_off44 (i : grid0.Coords) (k0_t3 : Fin (k0_t3_loop i).trips) (c0_i32_245 : BitVec 32) : Fin 4 → Nat :=
  let c0_516 : Index := 0#32
  let c2_i32_244 : BitVec 32 := 2#32
  let c0_i32_75 : BitVec 32 := 0#32
  let c1_i32_77 : BitVec 32 := 1#32
  let arg20 : BitVec 32 := Scf.iv c0_i32_75 c1_i32_77 k0_t3
  let v362 : BitVec 32 := Scalar.muli c2_i32_244 arg20
  let v363 : BitVec 32 := Scalar.addi v362 c0_i32_245
  let v1181 : Index := Scalar.indexCast v363
  let c0_517 : Index := 0#32
  let c0_518 : Index := 0#32
  ![0, v1181.toNat, 0, 0]
def k0_off45 (i : grid0.Coords) (k0_t3 : Fin (k0_t3_loop i).trips) (c0_i32_245 : BitVec 32) : Fin 4 → Nat :=
  let c1_519 : Index := 1#32
  let c2_i32_244 : BitVec 32 := 2#32
  let c0_i32_75 : BitVec 32 := 0#32
  let c1_i32_77 : BitVec 32 := 1#32
  let arg20 : BitVec 32 := Scf.iv c0_i32_75 c1_i32_77 k0_t3
  let v362 : BitVec 32 := Scalar.muli c2_i32_244 arg20
  let v363 : BitVec 32 := Scalar.addi v362 c0_i32_245
  let v1185 : Index := Scalar.indexCast v363
  let c0_520 : Index := 0#32
  let c0_521 : Index := 0#32
  ![1, v1185.toNat, 0, 0]
def k0_off46 (i : grid0.Coords) (k0_t3 : Fin (k0_t3_loop i).trips) (c0_i32_245 : BitVec 32) : Fin 4 → Nat :=
  let c2_522 : Index := 2#32
  let c2_i32_244 : BitVec 32 := 2#32
  let c0_i32_75 : BitVec 32 := 0#32
  let c1_i32_77 : BitVec 32 := 1#32
  let arg20 : BitVec 32 := Scf.iv c0_i32_75 c1_i32_77 k0_t3
  let v362 : BitVec 32 := Scalar.muli c2_i32_244 arg20
  let v363 : BitVec 32 := Scalar.addi v362 c0_i32_245
  let v1189 : Index := Scalar.indexCast v363
  let c0_523 : Index := 0#32
  let c0_524 : Index := 0#32
  ![2, v1189.toNat, 0, 0]
def k0_off47 (i : grid0.Coords) (k0_t3 : Fin (k0_t3_loop i).trips) (c0_i32_245 : BitVec 32) : Fin 4 → Nat :=
  let c3_525 : Index := 3#32
  let c2_i32_244 : BitVec 32 := 2#32
  let c0_i32_75 : BitVec 32 := 0#32
  let c1_i32_77 : BitVec 32 := 1#32
  let arg20 : BitVec 32 := Scf.iv c0_i32_75 c1_i32_77 k0_t3
  let v362 : BitVec 32 := Scalar.muli c2_i32_244 arg20
  let v363 : BitVec 32 := Scalar.addi v362 c0_i32_245
  let v1193 : Index := Scalar.indexCast v363
  let c0_526 : Index := 0#32
  let c0_527 : Index := 0#32
  ![3, v1193.toNat, 0, 0]
def k0_off48 (i : grid0.Coords) (k0_t3 : Fin (k0_t3_loop i).trips) (c0_i32_245 : BitVec 32) : Fin 4 → Nat :=
  let c4_528 : Index := 4#32
  let c2_i32_244 : BitVec 32 := 2#32
  let c0_i32_75 : BitVec 32 := 0#32
  let c1_i32_77 : BitVec 32 := 1#32
  let arg20 : BitVec 32 := Scf.iv c0_i32_75 c1_i32_77 k0_t3
  let v362 : BitVec 32 := Scalar.muli c2_i32_244 arg20
  let v363 : BitVec 32 := Scalar.addi v362 c0_i32_245
  let v1197 : Index := Scalar.indexCast v363
  let c0_529 : Index := 0#32
  let c0_530 : Index := 0#32
  ![4, v1197.toNat, 0, 0]
def k0_off49 (i : grid0.Coords) (k0_t3 : Fin (k0_t3_loop i).trips) (c0_i32_245 : BitVec 32) : Fin 4 → Nat :=
  let c5_531 : Index := 5#32
  let c2_i32_244 : BitVec 32 := 2#32
  let c0_i32_75 : BitVec 32 := 0#32
  let c1_i32_77 : BitVec 32 := 1#32
  let arg20 : BitVec 32 := Scf.iv c0_i32_75 c1_i32_77 k0_t3
  let v362 : BitVec 32 := Scalar.muli c2_i32_244 arg20
  let v363 : BitVec 32 := Scalar.addi v362 c0_i32_245
  let v1201 : Index := Scalar.indexCast v363
  let c0_532 : Index := 0#32
  let c0_533 : Index := 0#32
  ![5, v1201.toNat, 0, 0]
def k0_off50 (i : grid0.Coords) (k0_t3 : Fin (k0_t3_loop i).trips) (c0_i32_245 : BitVec 32) : Fin 4 → Nat :=
  let c6_534 : Index := 6#32
  let c2_i32_244 : BitVec 32 := 2#32
  let c0_i32_75 : BitVec 32 := 0#32
  let c1_i32_77 : BitVec 32 := 1#32
  let arg20 : BitVec 32 := Scf.iv c0_i32_75 c1_i32_77 k0_t3
  let v362 : BitVec 32 := Scalar.muli c2_i32_244 arg20
  let v363 : BitVec 32 := Scalar.addi v362 c0_i32_245
  let v1205 : Index := Scalar.indexCast v363
  let c0_535 : Index := 0#32
  let c0_536 : Index := 0#32
  ![6, v1205.toNat, 0, 0]
def k0_off51 (i : grid0.Coords) (k0_t3 : Fin (k0_t3_loop i).trips) (c0_i32_245 : BitVec 32) : Fin 4 → Nat :=
  let c7_537 : Index := 7#32
  let c2_i32_244 : BitVec 32 := 2#32
  let c0_i32_75 : BitVec 32 := 0#32
  let c1_i32_77 : BitVec 32 := 1#32
  let arg20 : BitVec 32 := Scf.iv c0_i32_75 c1_i32_77 k0_t3
  let v362 : BitVec 32 := Scalar.muli c2_i32_244 arg20
  let v363 : BitVec 32 := Scalar.addi v362 c0_i32_245
  let v1209 : Index := Scalar.indexCast v363
  let c0_538 : Index := 0#32
  let c0_539 : Index := 0#32
  ![7, v1209.toNat, 0, 0]
def k0_off52 (i : grid0.Coords) (k0_t3 : Fin (k0_t3_loop i).trips) (c0_i32_245 : BitVec 32) : Fin 4 → Nat :=
  let c8_540 : Index := 8#32
  let c2_i32_244 : BitVec 32 := 2#32
  let c0_i32_75 : BitVec 32 := 0#32
  let c1_i32_77 : BitVec 32 := 1#32
  let arg20 : BitVec 32 := Scf.iv c0_i32_75 c1_i32_77 k0_t3
  let v362 : BitVec 32 := Scalar.muli c2_i32_244 arg20
  let v363 : BitVec 32 := Scalar.addi v362 c0_i32_245
  let v1213 : Index := Scalar.indexCast v363
  let c0_541 : Index := 0#32
  let c0_542 : Index := 0#32
  ![8, v1213.toNat, 0, 0]
def k0_off53 (i : grid0.Coords) (k0_t3 : Fin (k0_t3_loop i).trips) (c0_i32_245 : BitVec 32) : Fin 4 → Nat :=
  let c9 : Index := 9#32
  let c2_i32_244 : BitVec 32 := 2#32
  let c0_i32_75 : BitVec 32 := 0#32
  let c1_i32_77 : BitVec 32 := 1#32
  let arg20 : BitVec 32 := Scf.iv c0_i32_75 c1_i32_77 k0_t3
  let v362 : BitVec 32 := Scalar.muli c2_i32_244 arg20
  let v363 : BitVec 32 := Scalar.addi v362 c0_i32_245
  let v1217 : Index := Scalar.indexCast v363
  let c0_543 : Index := 0#32
  let c0_544 : Index := 0#32
  ![9, v1217.toNat, 0, 0]
def k0_off54 (i : grid0.Coords) (k0_t3 : Fin (k0_t3_loop i).trips) (c0_i32_245 : BitVec 32) : Fin 4 → Nat :=
  let c10 : Index := 10#32
  let c2_i32_244 : BitVec 32 := 2#32
  let c0_i32_75 : BitVec 32 := 0#32
  let c1_i32_77 : BitVec 32 := 1#32
  let arg20 : BitVec 32 := Scf.iv c0_i32_75 c1_i32_77 k0_t3
  let v362 : BitVec 32 := Scalar.muli c2_i32_244 arg20
  let v363 : BitVec 32 := Scalar.addi v362 c0_i32_245
  let v1221 : Index := Scalar.indexCast v363
  let c0_545 : Index := 0#32
  let c0_546 : Index := 0#32
  ![10, v1221.toNat, 0, 0]
def k0_off55 (i : grid0.Coords) (k0_t3 : Fin (k0_t3_loop i).trips) (c0_i32_245 : BitVec 32) : Fin 4 → Nat :=
  let c11 : Index := 11#32
  let c2_i32_244 : BitVec 32 := 2#32
  let c0_i32_75 : BitVec 32 := 0#32
  let c1_i32_77 : BitVec 32 := 1#32
  let arg20 : BitVec 32 := Scf.iv c0_i32_75 c1_i32_77 k0_t3
  let v362 : BitVec 32 := Scalar.muli c2_i32_244 arg20
  let v363 : BitVec 32 := Scalar.addi v362 c0_i32_245
  let v1225 : Index := Scalar.indexCast v363
  let c0_547 : Index := 0#32
  let c0_548 : Index := 0#32
  ![11, v1225.toNat, 0, 0]
def k0_off56 (i : grid0.Coords) (k0_t3 : Fin (k0_t3_loop i).trips) (c0_i32_245 : BitVec 32) : Fin 4 → Nat :=
  let c12 : Index := 12#32
  let c2_i32_244 : BitVec 32 := 2#32
  let c0_i32_75 : BitVec 32 := 0#32
  let c1_i32_77 : BitVec 32 := 1#32
  let arg20 : BitVec 32 := Scf.iv c0_i32_75 c1_i32_77 k0_t3
  let v362 : BitVec 32 := Scalar.muli c2_i32_244 arg20
  let v363 : BitVec 32 := Scalar.addi v362 c0_i32_245
  let v1229 : Index := Scalar.indexCast v363
  let c0_549 : Index := 0#32
  let c0_550 : Index := 0#32
  ![12, v1229.toNat, 0, 0]
def k0_off57 (i : grid0.Coords) (k0_t3 : Fin (k0_t3_loop i).trips) (c0_i32_245 : BitVec 32) : Fin 4 → Nat :=
  let c13 : Index := 13#32
  let c2_i32_244 : BitVec 32 := 2#32
  let c0_i32_75 : BitVec 32 := 0#32
  let c1_i32_77 : BitVec 32 := 1#32
  let arg20 : BitVec 32 := Scf.iv c0_i32_75 c1_i32_77 k0_t3
  let v362 : BitVec 32 := Scalar.muli c2_i32_244 arg20
  let v363 : BitVec 32 := Scalar.addi v362 c0_i32_245
  let v1233 : Index := Scalar.indexCast v363
  let c0_551 : Index := 0#32
  let c0_552 : Index := 0#32
  ![13, v1233.toNat, 0, 0]
def k0_off58 (i : grid0.Coords) (k0_t3 : Fin (k0_t3_loop i).trips) (c0_i32_245 : BitVec 32) : Fin 4 → Nat :=
  let c14 : Index := 14#32
  let c2_i32_244 : BitVec 32 := 2#32
  let c0_i32_75 : BitVec 32 := 0#32
  let c1_i32_77 : BitVec 32 := 1#32
  let arg20 : BitVec 32 := Scf.iv c0_i32_75 c1_i32_77 k0_t3
  let v362 : BitVec 32 := Scalar.muli c2_i32_244 arg20
  let v363 : BitVec 32 := Scalar.addi v362 c0_i32_245
  let v1237 : Index := Scalar.indexCast v363
  let c0_553 : Index := 0#32
  let c0_554 : Index := 0#32
  ![14, v1237.toNat, 0, 0]
def k0_off59 (i : grid0.Coords) (k0_t3 : Fin (k0_t3_loop i).trips) (c0_i32_245 : BitVec 32) : Fin 4 → Nat :=
  let c15 : Index := 15#32
  let c2_i32_244 : BitVec 32 := 2#32
  let c0_i32_75 : BitVec 32 := 0#32
  let c1_i32_77 : BitVec 32 := 1#32
  let arg20 : BitVec 32 := Scf.iv c0_i32_75 c1_i32_77 k0_t3
  let v362 : BitVec 32 := Scalar.muli c2_i32_244 arg20
  let v363 : BitVec 32 := Scalar.addi v362 c0_i32_245
  let v1241 : Index := Scalar.indexCast v363
  let c0_555 : Index := 0#32
  let c0_556 : Index := 0#32
  ![15, v1241.toNat, 0, 0]
def k0_off60 (i : grid0.Coords) (k0_t3 : Fin (k0_t3_loop i).trips) (c0_i32_245 : BitVec 32) : Fin 4 → Nat :=
  let c16_557 : Index := 16#32
  let c2_i32_244 : BitVec 32 := 2#32
  let c0_i32_75 : BitVec 32 := 0#32
  let c1_i32_77 : BitVec 32 := 1#32
  let arg20 : BitVec 32 := Scf.iv c0_i32_75 c1_i32_77 k0_t3
  let v362 : BitVec 32 := Scalar.muli c2_i32_244 arg20
  let v363 : BitVec 32 := Scalar.addi v362 c0_i32_245
  let v1245 : Index := Scalar.indexCast v363
  let c0_558 : Index := 0#32
  let c0_559 : Index := 0#32
  ![16, v1245.toNat, 0, 0]
def k0_off61 (i : grid0.Coords) (k0_t3 : Fin (k0_t3_loop i).trips) (c0_i32_245 : BitVec 32) : Fin 4 → Nat :=
  let c17 : Index := 17#32
  let c2_i32_244 : BitVec 32 := 2#32
  let c0_i32_75 : BitVec 32 := 0#32
  let c1_i32_77 : BitVec 32 := 1#32
  let arg20 : BitVec 32 := Scf.iv c0_i32_75 c1_i32_77 k0_t3
  let v362 : BitVec 32 := Scalar.muli c2_i32_244 arg20
  let v363 : BitVec 32 := Scalar.addi v362 c0_i32_245
  let v1249 : Index := Scalar.indexCast v363
  let c0_560 : Index := 0#32
  let c0_561 : Index := 0#32
  ![17, v1249.toNat, 0, 0]
def k0_off62 (i : grid0.Coords) (k0_t3 : Fin (k0_t3_loop i).trips) (c0_i32_245 : BitVec 32) : Fin 4 → Nat :=
  let c18 : Index := 18#32
  let c2_i32_244 : BitVec 32 := 2#32
  let c0_i32_75 : BitVec 32 := 0#32
  let c1_i32_77 : BitVec 32 := 1#32
  let arg20 : BitVec 32 := Scf.iv c0_i32_75 c1_i32_77 k0_t3
  let v362 : BitVec 32 := Scalar.muli c2_i32_244 arg20
  let v363 : BitVec 32 := Scalar.addi v362 c0_i32_245
  let v1253 : Index := Scalar.indexCast v363
  let c0_562 : Index := 0#32
  let c0_563 : Index := 0#32
  ![18, v1253.toNat, 0, 0]
def k0_off63 (i : grid0.Coords) (k0_t3 : Fin (k0_t3_loop i).trips) (c0_i32_245 : BitVec 32) : Fin 4 → Nat :=
  let c19 : Index := 19#32
  let c2_i32_244 : BitVec 32 := 2#32
  let c0_i32_75 : BitVec 32 := 0#32
  let c1_i32_77 : BitVec 32 := 1#32
  let arg20 : BitVec 32 := Scf.iv c0_i32_75 c1_i32_77 k0_t3
  let v362 : BitVec 32 := Scalar.muli c2_i32_244 arg20
  let v363 : BitVec 32 := Scalar.addi v362 c0_i32_245
  let v1257 : Index := Scalar.indexCast v363
  let c0_564 : Index := 0#32
  let c0_565 : Index := 0#32
  ![19, v1257.toNat, 0, 0]
def k0_off64 (i : grid0.Coords) (k0_t3 : Fin (k0_t3_loop i).trips) (c0_i32_245 : BitVec 32) : Fin 4 → Nat :=
  let c20 : Index := 20#32
  let c2_i32_244 : BitVec 32 := 2#32
  let c0_i32_75 : BitVec 32 := 0#32
  let c1_i32_77 : BitVec 32 := 1#32
  let arg20 : BitVec 32 := Scf.iv c0_i32_75 c1_i32_77 k0_t3
  let v362 : BitVec 32 := Scalar.muli c2_i32_244 arg20
  let v363 : BitVec 32 := Scalar.addi v362 c0_i32_245
  let v1261 : Index := Scalar.indexCast v363
  let c0_566 : Index := 0#32
  let c0_567 : Index := 0#32
  ![20, v1261.toNat, 0, 0]
def k0_off65 (i : grid0.Coords) (k0_t3 : Fin (k0_t3_loop i).trips) (c0_i32_245 : BitVec 32) : Fin 4 → Nat :=
  let c21 : Index := 21#32
  let c2_i32_244 : BitVec 32 := 2#32
  let c0_i32_75 : BitVec 32 := 0#32
  let c1_i32_77 : BitVec 32 := 1#32
  let arg20 : BitVec 32 := Scf.iv c0_i32_75 c1_i32_77 k0_t3
  let v362 : BitVec 32 := Scalar.muli c2_i32_244 arg20
  let v363 : BitVec 32 := Scalar.addi v362 c0_i32_245
  let v1265 : Index := Scalar.indexCast v363
  let c0_568 : Index := 0#32
  let c0_569 : Index := 0#32
  ![21, v1265.toNat, 0, 0]
def k0_off66 (i : grid0.Coords) (k0_t3 : Fin (k0_t3_loop i).trips) (c0_i32_245 : BitVec 32) : Fin 4 → Nat :=
  let c22 : Index := 22#32
  let c2_i32_244 : BitVec 32 := 2#32
  let c0_i32_75 : BitVec 32 := 0#32
  let c1_i32_77 : BitVec 32 := 1#32
  let arg20 : BitVec 32 := Scf.iv c0_i32_75 c1_i32_77 k0_t3
  let v362 : BitVec 32 := Scalar.muli c2_i32_244 arg20
  let v363 : BitVec 32 := Scalar.addi v362 c0_i32_245
  let v1269 : Index := Scalar.indexCast v363
  let c0_570 : Index := 0#32
  let c0_571 : Index := 0#32
  ![22, v1269.toNat, 0, 0]
def k0_off67 (i : grid0.Coords) (k0_t3 : Fin (k0_t3_loop i).trips) (c0_i32_245 : BitVec 32) : Fin 4 → Nat :=
  let c23 : Index := 23#32
  let c2_i32_244 : BitVec 32 := 2#32
  let c0_i32_75 : BitVec 32 := 0#32
  let c1_i32_77 : BitVec 32 := 1#32
  let arg20 : BitVec 32 := Scf.iv c0_i32_75 c1_i32_77 k0_t3
  let v362 : BitVec 32 := Scalar.muli c2_i32_244 arg20
  let v363 : BitVec 32 := Scalar.addi v362 c0_i32_245
  let v1273 : Index := Scalar.indexCast v363
  let c0_572 : Index := 0#32
  let c0_573 : Index := 0#32
  ![23, v1273.toNat, 0, 0]
def k0_off68 (i : grid0.Coords) (k0_t3 : Fin (k0_t3_loop i).trips) (c0_i32_245 : BitVec 32) : Fin 4 → Nat :=
  let c24_574 : Index := 24#32
  let c2_i32_244 : BitVec 32 := 2#32
  let c0_i32_75 : BitVec 32 := 0#32
  let c1_i32_77 : BitVec 32 := 1#32
  let arg20 : BitVec 32 := Scf.iv c0_i32_75 c1_i32_77 k0_t3
  let v362 : BitVec 32 := Scalar.muli c2_i32_244 arg20
  let v363 : BitVec 32 := Scalar.addi v362 c0_i32_245
  let v1277 : Index := Scalar.indexCast v363
  let c0_575 : Index := 0#32
  let c0_576 : Index := 0#32
  ![24, v1277.toNat, 0, 0]
def k0_off69 (i : grid0.Coords) (k0_t3 : Fin (k0_t3_loop i).trips) (c0_i32_245 : BitVec 32) : Fin 4 → Nat :=
  let c25 : Index := 25#32
  let c2_i32_244 : BitVec 32 := 2#32
  let c0_i32_75 : BitVec 32 := 0#32
  let c1_i32_77 : BitVec 32 := 1#32
  let arg20 : BitVec 32 := Scf.iv c0_i32_75 c1_i32_77 k0_t3
  let v362 : BitVec 32 := Scalar.muli c2_i32_244 arg20
  let v363 : BitVec 32 := Scalar.addi v362 c0_i32_245
  let v1281 : Index := Scalar.indexCast v363
  let c0_577 : Index := 0#32
  let c0_578 : Index := 0#32
  ![25, v1281.toNat, 0, 0]
def k0_off70 (i : grid0.Coords) (k0_t3 : Fin (k0_t3_loop i).trips) (c0_i32_245 : BitVec 32) : Fin 4 → Nat :=
  let c26 : Index := 26#32
  let c2_i32_244 : BitVec 32 := 2#32
  let c0_i32_75 : BitVec 32 := 0#32
  let c1_i32_77 : BitVec 32 := 1#32
  let arg20 : BitVec 32 := Scf.iv c0_i32_75 c1_i32_77 k0_t3
  let v362 : BitVec 32 := Scalar.muli c2_i32_244 arg20
  let v363 : BitVec 32 := Scalar.addi v362 c0_i32_245
  let v1285 : Index := Scalar.indexCast v363
  let c0_579 : Index := 0#32
  let c0_580 : Index := 0#32
  ![26, v1285.toNat, 0, 0]
def k0_off71 (i : grid0.Coords) (k0_t3 : Fin (k0_t3_loop i).trips) (c0_i32_245 : BitVec 32) : Fin 4 → Nat :=
  let c27 : Index := 27#32
  let c2_i32_244 : BitVec 32 := 2#32
  let c0_i32_75 : BitVec 32 := 0#32
  let c1_i32_77 : BitVec 32 := 1#32
  let arg20 : BitVec 32 := Scf.iv c0_i32_75 c1_i32_77 k0_t3
  let v362 : BitVec 32 := Scalar.muli c2_i32_244 arg20
  let v363 : BitVec 32 := Scalar.addi v362 c0_i32_245
  let v1289 : Index := Scalar.indexCast v363
  let c0_581 : Index := 0#32
  let c0_582 : Index := 0#32
  ![27, v1289.toNat, 0, 0]
def k0_off72 (i : grid0.Coords) (k0_t3 : Fin (k0_t3_loop i).trips) (c0_i32_245 : BitVec 32) : Fin 4 → Nat :=
  let c28 : Index := 28#32
  let c2_i32_244 : BitVec 32 := 2#32
  let c0_i32_75 : BitVec 32 := 0#32
  let c1_i32_77 : BitVec 32 := 1#32
  let arg20 : BitVec 32 := Scf.iv c0_i32_75 c1_i32_77 k0_t3
  let v362 : BitVec 32 := Scalar.muli c2_i32_244 arg20
  let v363 : BitVec 32 := Scalar.addi v362 c0_i32_245
  let v1293 : Index := Scalar.indexCast v363
  let c0_583 : Index := 0#32
  let c0_584 : Index := 0#32
  ![28, v1293.toNat, 0, 0]
def k0_off73 (i : grid0.Coords) (k0_t3 : Fin (k0_t3_loop i).trips) (c0_i32_245 : BitVec 32) : Fin 4 → Nat :=
  let c29 : Index := 29#32
  let c2_i32_244 : BitVec 32 := 2#32
  let c0_i32_75 : BitVec 32 := 0#32
  let c1_i32_77 : BitVec 32 := 1#32
  let arg20 : BitVec 32 := Scf.iv c0_i32_75 c1_i32_77 k0_t3
  let v362 : BitVec 32 := Scalar.muli c2_i32_244 arg20
  let v363 : BitVec 32 := Scalar.addi v362 c0_i32_245
  let v1297 : Index := Scalar.indexCast v363
  let c0_585 : Index := 0#32
  let c0_586 : Index := 0#32
  ![29, v1297.toNat, 0, 0]
def k0_off74 (i : grid0.Coords) (k0_t3 : Fin (k0_t3_loop i).trips) (c0_i32_245 : BitVec 32) : Fin 4 → Nat :=
  let c30 : Index := 30#32
  let c2_i32_244 : BitVec 32 := 2#32
  let c0_i32_75 : BitVec 32 := 0#32
  let c1_i32_77 : BitVec 32 := 1#32
  let arg20 : BitVec 32 := Scf.iv c0_i32_75 c1_i32_77 k0_t3
  let v362 : BitVec 32 := Scalar.muli c2_i32_244 arg20
  let v363 : BitVec 32 := Scalar.addi v362 c0_i32_245
  let v1301 : Index := Scalar.indexCast v363
  let c0_587 : Index := 0#32
  let c0_588 : Index := 0#32
  ![30, v1301.toNat, 0, 0]
def k0_off75 (i : grid0.Coords) (k0_t3 : Fin (k0_t3_loop i).trips) (c0_i32_245 : BitVec 32) : Fin 4 → Nat :=
  let c31 : Index := 31#32
  let c2_i32_244 : BitVec 32 := 2#32
  let c0_i32_75 : BitVec 32 := 0#32
  let c1_i32_77 : BitVec 32 := 1#32
  let arg20 : BitVec 32 := Scf.iv c0_i32_75 c1_i32_77 k0_t3
  let v362 : BitVec 32 := Scalar.muli c2_i32_244 arg20
  let v363 : BitVec 32 := Scalar.addi v362 c0_i32_245
  let v1305 : Index := Scalar.indexCast v363
  let c0_589 : Index := 0#32
  let c0_590 : Index := 0#32
  ![31, v1305.toNat, 0, 0]
def k0_off76 (i : grid0.Coords) (k0_t3 : Fin (k0_t3_loop i).trips) : Fin 3 → Nat :=
  let c0_i32_75 : BitVec 32 := 0#32
  let c1_i32_77 : BitVec 32 := 1#32
  let arg20 : BitVec 32 := Scf.iv c0_i32_75 c1_i32_77 k0_t3
  let v1309 : Index := Scalar.indexCast arg20
  let c0_591 : Index := 0#32
  let c128_592 : Index := 128#32
  ![v1309.toNat, 0, 128]
def k0_off77 (i : grid0.Coords) (k0_t3 : Fin (k0_t3_loop i).trips) : Fin 3 → Nat :=
  let c0_i32_75 : BitVec 32 := 0#32
  let c1_i32_77 : BitVec 32 := 1#32
  let arg20 : BitVec 32 := Scf.iv c0_i32_75 c1_i32_77 k0_t3
  let v1312 : Index := Scalar.indexCast arg20
  let c8_593 : Index := 8#32
  let c128_594 : Index := 128#32
  ![v1312.toNat, 8, 128]
def k0_off78 (i : grid0.Coords) (k0_t3 : Fin (k0_t3_loop i).trips) : Fin 3 → Nat :=
  let c0_i32_75 : BitVec 32 := 0#32
  let c1_i32_77 : BitVec 32 := 1#32
  let arg20 : BitVec 32 := Scf.iv c0_i32_75 c1_i32_77 k0_t3
  let v1315 : Index := Scalar.indexCast arg20
  let c16_595 : Index := 16#32
  let c128_596 : Index := 128#32
  ![v1315.toNat, 16, 128]
def k0_off79 (i : grid0.Coords) (k0_t3 : Fin (k0_t3_loop i).trips) : Fin 3 → Nat :=
  let c0_i32_75 : BitVec 32 := 0#32
  let c1_i32_77 : BitVec 32 := 1#32
  let arg20 : BitVec 32 := Scf.iv c0_i32_75 c1_i32_77 k0_t3
  let v1318 : Index := Scalar.indexCast arg20
  let c24_597 : Index := 24#32
  let c128_598 : Index := 128#32
  ![v1318.toNat, 24, 128]
def k0_off80 (i : grid0.Coords) (k0_t3 : Fin (k0_t3_loop i).trips) : Fin 3 → Nat :=
  let c0_i32_75 : BitVec 32 := 0#32
  let c1_i32_77 : BitVec 32 := 1#32
  let arg20 : BitVec 32 := Scf.iv c0_i32_75 c1_i32_77 k0_t3
  let v1321 : Index := Scalar.indexCast arg20
  let c32_599 : Index := 32#32
  let c128_600 : Index := 128#32
  ![v1321.toNat, 32, 128]
def k0_off81 (i : grid0.Coords) (k0_t3 : Fin (k0_t3_loop i).trips) : Fin 3 → Nat :=
  let c0_i32_75 : BitVec 32 := 0#32
  let c1_i32_77 : BitVec 32 := 1#32
  let arg20 : BitVec 32 := Scf.iv c0_i32_75 c1_i32_77 k0_t3
  let v1324 : Index := Scalar.indexCast arg20
  let c40_601 : Index := 40#32
  let c128_602 : Index := 128#32
  ![v1324.toNat, 40, 128]
def k0_off82 (i : grid0.Coords) (k0_t3 : Fin (k0_t3_loop i).trips) : Fin 3 → Nat :=
  let c0_i32_75 : BitVec 32 := 0#32
  let c1_i32_77 : BitVec 32 := 1#32
  let arg20 : BitVec 32 := Scf.iv c0_i32_75 c1_i32_77 k0_t3
  let v1327 : Index := Scalar.indexCast arg20
  let c48_603 : Index := 48#32
  let c128_604 : Index := 128#32
  ![v1327.toNat, 48, 128]
def k0_off83 (i : grid0.Coords) (k0_t3 : Fin (k0_t3_loop i).trips) : Fin 3 → Nat :=
  let c0_i32_75 : BitVec 32 := 0#32
  let c1_i32_77 : BitVec 32 := 1#32
  let arg20 : BitVec 32 := Scf.iv c0_i32_75 c1_i32_77 k0_t3
  let v1330 : Index := Scalar.indexCast arg20
  let c56_605 : Index := 56#32
  let c128_606 : Index := 128#32
  ![v1330.toNat, 56, 128]
def k0_off84 (i : grid0.Coords) (k0_t3 : Fin (k0_t3_loop i).trips) : Fin 3 → Nat :=
  let c0_i32_75 : BitVec 32 := 0#32
  let c1_i32_77 : BitVec 32 := 1#32
  let arg20 : BitVec 32 := Scf.iv c0_i32_75 c1_i32_77 k0_t3
  let v1333 : Index := Scalar.indexCast arg20
  let c64_607 : Index := 64#32
  let c128_608 : Index := 128#32
  ![v1333.toNat, 64, 128]
def k0_off85 (i : grid0.Coords) (k0_t3 : Fin (k0_t3_loop i).trips) : Fin 3 → Nat :=
  let c0_i32_75 : BitVec 32 := 0#32
  let c1_i32_77 : BitVec 32 := 1#32
  let arg20 : BitVec 32 := Scf.iv c0_i32_75 c1_i32_77 k0_t3
  let v1336 : Index := Scalar.indexCast arg20
  let c72_609 : Index := 72#32
  let c128_610 : Index := 128#32
  ![v1336.toNat, 72, 128]
def k0_off86 (i : grid0.Coords) (k0_t3 : Fin (k0_t3_loop i).trips) : Fin 3 → Nat :=
  let c0_i32_75 : BitVec 32 := 0#32
  let c1_i32_77 : BitVec 32 := 1#32
  let arg20 : BitVec 32 := Scf.iv c0_i32_75 c1_i32_77 k0_t3
  let v1339 : Index := Scalar.indexCast arg20
  let c80_611 : Index := 80#32
  let c128_612 : Index := 128#32
  ![v1339.toNat, 80, 128]
def k0_off87 (i : grid0.Coords) (k0_t3 : Fin (k0_t3_loop i).trips) : Fin 3 → Nat :=
  let c0_i32_75 : BitVec 32 := 0#32
  let c1_i32_77 : BitVec 32 := 1#32
  let arg20 : BitVec 32 := Scf.iv c0_i32_75 c1_i32_77 k0_t3
  let v1342 : Index := Scalar.indexCast arg20
  let c88_613 : Index := 88#32
  let c128_614 : Index := 128#32
  ![v1342.toNat, 88, 128]
def k0_off88 (i : grid0.Coords) (k0_t3 : Fin (k0_t3_loop i).trips) : Fin 3 → Nat :=
  let c0_i32_75 : BitVec 32 := 0#32
  let c1_i32_77 : BitVec 32 := 1#32
  let arg20 : BitVec 32 := Scf.iv c0_i32_75 c1_i32_77 k0_t3
  let v1345 : Index := Scalar.indexCast arg20
  let c96_615 : Index := 96#32
  let c128_616 : Index := 128#32
  ![v1345.toNat, 96, 128]
def k0_off89 (i : grid0.Coords) (k0_t3 : Fin (k0_t3_loop i).trips) : Fin 3 → Nat :=
  let c0_i32_75 : BitVec 32 := 0#32
  let c1_i32_77 : BitVec 32 := 1#32
  let arg20 : BitVec 32 := Scf.iv c0_i32_75 c1_i32_77 k0_t3
  let v1348 : Index := Scalar.indexCast arg20
  let c104_617 : Index := 104#32
  let c128_618 : Index := 128#32
  ![v1348.toNat, 104, 128]
def k0_off90 (i : grid0.Coords) (k0_t3 : Fin (k0_t3_loop i).trips) : Fin 3 → Nat :=
  let c0_i32_75 : BitVec 32 := 0#32
  let c1_i32_77 : BitVec 32 := 1#32
  let arg20 : BitVec 32 := Scf.iv c0_i32_75 c1_i32_77 k0_t3
  let v1351 : Index := Scalar.indexCast arg20
  let c112_619 : Index := 112#32
  let c128_620 : Index := 128#32
  ![v1351.toNat, 112, 128]
def k0_off91 (i : grid0.Coords) (k0_t3 : Fin (k0_t3_loop i).trips) : Fin 3 → Nat :=
  let c0_i32_75 : BitVec 32 := 0#32
  let c1_i32_77 : BitVec 32 := 1#32
  let arg20 : BitVec 32 := Scf.iv c0_i32_75 c1_i32_77 k0_t3
  let v1354 : Index := Scalar.indexCast arg20
  let c120_621 : Index := 120#32
  let c128_622 : Index := 128#32
  ![v1354.toNat, 120, 128]
def k0_off92 (i : grid0.Coords) (k0_t3 : Fin (k0_t3_loop i).trips) : Fin 3 → Nat :=
  let c0_i32_75 : BitVec 32 := 0#32
  let c1_i32_77 : BitVec 32 := 1#32
  let arg20 : BitVec 32 := Scf.iv c0_i32_75 c1_i32_77 k0_t3
  let v1357 : Index := Scalar.indexCast arg20
  let c128_623 : Index := 128#32
  let c128_624 : Index := 128#32
  ![v1357.toNat, 128, 128]
def k0_off93 (i : grid0.Coords) (k0_t3 : Fin (k0_t3_loop i).trips) : Fin 3 → Nat :=
  let c0_i32_75 : BitVec 32 := 0#32
  let c1_i32_77 : BitVec 32 := 1#32
  let arg20 : BitVec 32 := Scf.iv c0_i32_75 c1_i32_77 k0_t3
  let v1360 : Index := Scalar.indexCast arg20
  let c136_625 : Index := 136#32
  let c128_626 : Index := 128#32
  ![v1360.toNat, 136, 128]
def k0_off94 (i : grid0.Coords) (k0_t3 : Fin (k0_t3_loop i).trips) : Fin 3 → Nat :=
  let c0_i32_75 : BitVec 32 := 0#32
  let c1_i32_77 : BitVec 32 := 1#32
  let arg20 : BitVec 32 := Scf.iv c0_i32_75 c1_i32_77 k0_t3
  let v1363 : Index := Scalar.indexCast arg20
  let c144_627 : Index := 144#32
  let c128_628 : Index := 128#32
  ![v1363.toNat, 144, 128]
def k0_off95 (i : grid0.Coords) (k0_t3 : Fin (k0_t3_loop i).trips) : Fin 3 → Nat :=
  let c0_i32_75 : BitVec 32 := 0#32
  let c1_i32_77 : BitVec 32 := 1#32
  let arg20 : BitVec 32 := Scf.iv c0_i32_75 c1_i32_77 k0_t3
  let v1366 : Index := Scalar.indexCast arg20
  let c152_629 : Index := 152#32
  let c128_630 : Index := 128#32
  ![v1366.toNat, 152, 128]
def k0_off96 (i : grid0.Coords) (k0_t3 : Fin (k0_t3_loop i).trips) : Fin 3 → Nat :=
  let c0_i32_75 : BitVec 32 := 0#32
  let c1_i32_77 : BitVec 32 := 1#32
  let arg20 : BitVec 32 := Scf.iv c0_i32_75 c1_i32_77 k0_t3
  let v1369 : Index := Scalar.indexCast arg20
  let c160_631 : Index := 160#32
  let c128_632 : Index := 128#32
  ![v1369.toNat, 160, 128]
def k0_off97 (i : grid0.Coords) (k0_t3 : Fin (k0_t3_loop i).trips) : Fin 3 → Nat :=
  let c0_i32_75 : BitVec 32 := 0#32
  let c1_i32_77 : BitVec 32 := 1#32
  let arg20 : BitVec 32 := Scf.iv c0_i32_75 c1_i32_77 k0_t3
  let v1372 : Index := Scalar.indexCast arg20
  let c168_633 : Index := 168#32
  let c128_634 : Index := 128#32
  ![v1372.toNat, 168, 128]
def k0_off98 (i : grid0.Coords) (k0_t3 : Fin (k0_t3_loop i).trips) : Fin 3 → Nat :=
  let c0_i32_75 : BitVec 32 := 0#32
  let c1_i32_77 : BitVec 32 := 1#32
  let arg20 : BitVec 32 := Scf.iv c0_i32_75 c1_i32_77 k0_t3
  let v1375 : Index := Scalar.indexCast arg20
  let c176_635 : Index := 176#32
  let c128_636 : Index := 128#32
  ![v1375.toNat, 176, 128]
def k0_off99 (i : grid0.Coords) (k0_t3 : Fin (k0_t3_loop i).trips) : Fin 3 → Nat :=
  let c0_i32_75 : BitVec 32 := 0#32
  let c1_i32_77 : BitVec 32 := 1#32
  let arg20 : BitVec 32 := Scf.iv c0_i32_75 c1_i32_77 k0_t3
  let v1378 : Index := Scalar.indexCast arg20
  let c184_637 : Index := 184#32
  let c128_638 : Index := 128#32
  ![v1378.toNat, 184, 128]
def k0_off100 (i : grid0.Coords) (k0_t3 : Fin (k0_t3_loop i).trips) : Fin 3 → Nat :=
  let c0_i32_75 : BitVec 32 := 0#32
  let c1_i32_77 : BitVec 32 := 1#32
  let arg20 : BitVec 32 := Scf.iv c0_i32_75 c1_i32_77 k0_t3
  let v1381 : Index := Scalar.indexCast arg20
  let c192_639 : Index := 192#32
  let c128_640 : Index := 128#32
  ![v1381.toNat, 192, 128]
def k0_off101 (i : grid0.Coords) (k0_t3 : Fin (k0_t3_loop i).trips) : Fin 3 → Nat :=
  let c0_i32_75 : BitVec 32 := 0#32
  let c1_i32_77 : BitVec 32 := 1#32
  let arg20 : BitVec 32 := Scf.iv c0_i32_75 c1_i32_77 k0_t3
  let v1384 : Index := Scalar.indexCast arg20
  let c200_641 : Index := 200#32
  let c128_642 : Index := 128#32
  ![v1384.toNat, 200, 128]
def k0_off102 (i : grid0.Coords) (k0_t3 : Fin (k0_t3_loop i).trips) : Fin 3 → Nat :=
  let c0_i32_75 : BitVec 32 := 0#32
  let c1_i32_77 : BitVec 32 := 1#32
  let arg20 : BitVec 32 := Scf.iv c0_i32_75 c1_i32_77 k0_t3
  let v1387 : Index := Scalar.indexCast arg20
  let c208_643 : Index := 208#32
  let c128_644 : Index := 128#32
  ![v1387.toNat, 208, 128]
def k0_off103 (i : grid0.Coords) (k0_t3 : Fin (k0_t3_loop i).trips) : Fin 3 → Nat :=
  let c0_i32_75 : BitVec 32 := 0#32
  let c1_i32_77 : BitVec 32 := 1#32
  let arg20 : BitVec 32 := Scf.iv c0_i32_75 c1_i32_77 k0_t3
  let v1390 : Index := Scalar.indexCast arg20
  let c216_645 : Index := 216#32
  let c128_646 : Index := 128#32
  ![v1390.toNat, 216, 128]
def k0_off104 (i : grid0.Coords) (k0_t3 : Fin (k0_t3_loop i).trips) : Fin 3 → Nat :=
  let c0_i32_75 : BitVec 32 := 0#32
  let c1_i32_77 : BitVec 32 := 1#32
  let arg20 : BitVec 32 := Scf.iv c0_i32_75 c1_i32_77 k0_t3
  let v1393 : Index := Scalar.indexCast arg20
  let c224_647 : Index := 224#32
  let c128_648 : Index := 128#32
  ![v1393.toNat, 224, 128]
def k0_off105 (i : grid0.Coords) (k0_t3 : Fin (k0_t3_loop i).trips) : Fin 3 → Nat :=
  let c0_i32_75 : BitVec 32 := 0#32
  let c1_i32_77 : BitVec 32 := 1#32
  let arg20 : BitVec 32 := Scf.iv c0_i32_75 c1_i32_77 k0_t3
  let v1396 : Index := Scalar.indexCast arg20
  let c232_649 : Index := 232#32
  let c128_650 : Index := 128#32
  ![v1396.toNat, 232, 128]
def k0_off106 (i : grid0.Coords) (k0_t3 : Fin (k0_t3_loop i).trips) : Fin 3 → Nat :=
  let c0_i32_75 : BitVec 32 := 0#32
  let c1_i32_77 : BitVec 32 := 1#32
  let arg20 : BitVec 32 := Scf.iv c0_i32_75 c1_i32_77 k0_t3
  let v1399 : Index := Scalar.indexCast arg20
  let c240_651 : Index := 240#32
  let c128_652 : Index := 128#32
  ![v1399.toNat, 240, 128]
def k0_off107 (i : grid0.Coords) (k0_t3 : Fin (k0_t3_loop i).trips) : Fin 3 → Nat :=
  let c0_i32_75 : BitVec 32 := 0#32
  let c1_i32_77 : BitVec 32 := 1#32
  let arg20 : BitVec 32 := Scf.iv c0_i32_75 c1_i32_77 k0_t3
  let v1402 : Index := Scalar.indexCast arg20
  let c248_653 : Index := 248#32
  let c128_654 : Index := 128#32
  ![v1402.toNat, 248, 128]
def k0_off108 (i : grid0.Coords) (k0_t3 : Fin (k0_t3_loop i).trips) (c0_i32_245 : BitVec 32) : Fin 4 → Nat :=
  let c0_896 : Index := 0#32
  let c2_i32_244 : BitVec 32 := 2#32
  let c0_i32_75 : BitVec 32 := 0#32
  let c1_i32_77 : BitVec 32 := 1#32
  let arg20 : BitVec 32 := Scf.iv c0_i32_75 c1_i32_77 k0_t3
  let v362 : BitVec 32 := Scalar.muli c2_i32_244 arg20
  let v363 : BitVec 32 := Scalar.addi v362 c0_i32_245
  let v2126 : Index := Scalar.indexCast v363
  let c0_897 : Index := 0#32
  let c128_898 : Index := 128#32
  ![0, v2126.toNat, 0, 128]
def k0_off109 (i : grid0.Coords) (k0_t3 : Fin (k0_t3_loop i).trips) (c0_i32_245 : BitVec 32) : Fin 4 → Nat :=
  let c1_899 : Index := 1#32
  let c2_i32_244 : BitVec 32 := 2#32
  let c0_i32_75 : BitVec 32 := 0#32
  let c1_i32_77 : BitVec 32 := 1#32
  let arg20 : BitVec 32 := Scf.iv c0_i32_75 c1_i32_77 k0_t3
  let v362 : BitVec 32 := Scalar.muli c2_i32_244 arg20
  let v363 : BitVec 32 := Scalar.addi v362 c0_i32_245
  let v2130 : Index := Scalar.indexCast v363
  let c0_900 : Index := 0#32
  let c128_901 : Index := 128#32
  ![1, v2130.toNat, 0, 128]
def k0_off110 (i : grid0.Coords) (k0_t3 : Fin (k0_t3_loop i).trips) (c0_i32_245 : BitVec 32) : Fin 4 → Nat :=
  let c2_902 : Index := 2#32
  let c2_i32_244 : BitVec 32 := 2#32
  let c0_i32_75 : BitVec 32 := 0#32
  let c1_i32_77 : BitVec 32 := 1#32
  let arg20 : BitVec 32 := Scf.iv c0_i32_75 c1_i32_77 k0_t3
  let v362 : BitVec 32 := Scalar.muli c2_i32_244 arg20
  let v363 : BitVec 32 := Scalar.addi v362 c0_i32_245
  let v2134 : Index := Scalar.indexCast v363
  let c0_903 : Index := 0#32
  let c128_904 : Index := 128#32
  ![2, v2134.toNat, 0, 128]
def k0_off111 (i : grid0.Coords) (k0_t3 : Fin (k0_t3_loop i).trips) (c0_i32_245 : BitVec 32) : Fin 4 → Nat :=
  let c3_905 : Index := 3#32
  let c2_i32_244 : BitVec 32 := 2#32
  let c0_i32_75 : BitVec 32 := 0#32
  let c1_i32_77 : BitVec 32 := 1#32
  let arg20 : BitVec 32 := Scf.iv c0_i32_75 c1_i32_77 k0_t3
  let v362 : BitVec 32 := Scalar.muli c2_i32_244 arg20
  let v363 : BitVec 32 := Scalar.addi v362 c0_i32_245
  let v2138 : Index := Scalar.indexCast v363
  let c0_906 : Index := 0#32
  let c128_907 : Index := 128#32
  ![3, v2138.toNat, 0, 128]
def k0_off112 (i : grid0.Coords) (k0_t3 : Fin (k0_t3_loop i).trips) (c0_i32_245 : BitVec 32) : Fin 4 → Nat :=
  let c4_908 : Index := 4#32
  let c2_i32_244 : BitVec 32 := 2#32
  let c0_i32_75 : BitVec 32 := 0#32
  let c1_i32_77 : BitVec 32 := 1#32
  let arg20 : BitVec 32 := Scf.iv c0_i32_75 c1_i32_77 k0_t3
  let v362 : BitVec 32 := Scalar.muli c2_i32_244 arg20
  let v363 : BitVec 32 := Scalar.addi v362 c0_i32_245
  let v2142 : Index := Scalar.indexCast v363
  let c0_909 : Index := 0#32
  let c128_910 : Index := 128#32
  ![4, v2142.toNat, 0, 128]
def k0_off113 (i : grid0.Coords) (k0_t3 : Fin (k0_t3_loop i).trips) (c0_i32_245 : BitVec 32) : Fin 4 → Nat :=
  let c5_911 : Index := 5#32
  let c2_i32_244 : BitVec 32 := 2#32
  let c0_i32_75 : BitVec 32 := 0#32
  let c1_i32_77 : BitVec 32 := 1#32
  let arg20 : BitVec 32 := Scf.iv c0_i32_75 c1_i32_77 k0_t3
  let v362 : BitVec 32 := Scalar.muli c2_i32_244 arg20
  let v363 : BitVec 32 := Scalar.addi v362 c0_i32_245
  let v2146 : Index := Scalar.indexCast v363
  let c0_912 : Index := 0#32
  let c128_913 : Index := 128#32
  ![5, v2146.toNat, 0, 128]
def k0_off114 (i : grid0.Coords) (k0_t3 : Fin (k0_t3_loop i).trips) (c0_i32_245 : BitVec 32) : Fin 4 → Nat :=
  let c6_914 : Index := 6#32
  let c2_i32_244 : BitVec 32 := 2#32
  let c0_i32_75 : BitVec 32 := 0#32
  let c1_i32_77 : BitVec 32 := 1#32
  let arg20 : BitVec 32 := Scf.iv c0_i32_75 c1_i32_77 k0_t3
  let v362 : BitVec 32 := Scalar.muli c2_i32_244 arg20
  let v363 : BitVec 32 := Scalar.addi v362 c0_i32_245
  let v2150 : Index := Scalar.indexCast v363
  let c0_915 : Index := 0#32
  let c128_916 : Index := 128#32
  ![6, v2150.toNat, 0, 128]
def k0_off115 (i : grid0.Coords) (k0_t3 : Fin (k0_t3_loop i).trips) (c0_i32_245 : BitVec 32) : Fin 4 → Nat :=
  let c7_917 : Index := 7#32
  let c2_i32_244 : BitVec 32 := 2#32
  let c0_i32_75 : BitVec 32 := 0#32
  let c1_i32_77 : BitVec 32 := 1#32
  let arg20 : BitVec 32 := Scf.iv c0_i32_75 c1_i32_77 k0_t3
  let v362 : BitVec 32 := Scalar.muli c2_i32_244 arg20
  let v363 : BitVec 32 := Scalar.addi v362 c0_i32_245
  let v2154 : Index := Scalar.indexCast v363
  let c0_918 : Index := 0#32
  let c128_919 : Index := 128#32
  ![7, v2154.toNat, 0, 128]
def k0_off116 (i : grid0.Coords) (k0_t3 : Fin (k0_t3_loop i).trips) (c0_i32_245 : BitVec 32) : Fin 4 → Nat :=
  let c8_920 : Index := 8#32
  let c2_i32_244 : BitVec 32 := 2#32
  let c0_i32_75 : BitVec 32 := 0#32
  let c1_i32_77 : BitVec 32 := 1#32
  let arg20 : BitVec 32 := Scf.iv c0_i32_75 c1_i32_77 k0_t3
  let v362 : BitVec 32 := Scalar.muli c2_i32_244 arg20
  let v363 : BitVec 32 := Scalar.addi v362 c0_i32_245
  let v2158 : Index := Scalar.indexCast v363
  let c0_921 : Index := 0#32
  let c128_922 : Index := 128#32
  ![8, v2158.toNat, 0, 128]
def k0_off117 (i : grid0.Coords) (k0_t3 : Fin (k0_t3_loop i).trips) (c0_i32_245 : BitVec 32) : Fin 4 → Nat :=
  let c9_923 : Index := 9#32
  let c2_i32_244 : BitVec 32 := 2#32
  let c0_i32_75 : BitVec 32 := 0#32
  let c1_i32_77 : BitVec 32 := 1#32
  let arg20 : BitVec 32 := Scf.iv c0_i32_75 c1_i32_77 k0_t3
  let v362 : BitVec 32 := Scalar.muli c2_i32_244 arg20
  let v363 : BitVec 32 := Scalar.addi v362 c0_i32_245
  let v2162 : Index := Scalar.indexCast v363
  let c0_924 : Index := 0#32
  let c128_925 : Index := 128#32
  ![9, v2162.toNat, 0, 128]
def k0_off118 (i : grid0.Coords) (k0_t3 : Fin (k0_t3_loop i).trips) (c0_i32_245 : BitVec 32) : Fin 4 → Nat :=
  let c10_926 : Index := 10#32
  let c2_i32_244 : BitVec 32 := 2#32
  let c0_i32_75 : BitVec 32 := 0#32
  let c1_i32_77 : BitVec 32 := 1#32
  let arg20 : BitVec 32 := Scf.iv c0_i32_75 c1_i32_77 k0_t3
  let v362 : BitVec 32 := Scalar.muli c2_i32_244 arg20
  let v363 : BitVec 32 := Scalar.addi v362 c0_i32_245
  let v2166 : Index := Scalar.indexCast v363
  let c0_927 : Index := 0#32
  let c128_928 : Index := 128#32
  ![10, v2166.toNat, 0, 128]
def k0_off119 (i : grid0.Coords) (k0_t3 : Fin (k0_t3_loop i).trips) (c0_i32_245 : BitVec 32) : Fin 4 → Nat :=
  let c11_929 : Index := 11#32
  let c2_i32_244 : BitVec 32 := 2#32
  let c0_i32_75 : BitVec 32 := 0#32
  let c1_i32_77 : BitVec 32 := 1#32
  let arg20 : BitVec 32 := Scf.iv c0_i32_75 c1_i32_77 k0_t3
  let v362 : BitVec 32 := Scalar.muli c2_i32_244 arg20
  let v363 : BitVec 32 := Scalar.addi v362 c0_i32_245
  let v2170 : Index := Scalar.indexCast v363
  let c0_930 : Index := 0#32
  let c128_931 : Index := 128#32
  ![11, v2170.toNat, 0, 128]
def k0_off120 (i : grid0.Coords) (k0_t3 : Fin (k0_t3_loop i).trips) (c0_i32_245 : BitVec 32) : Fin 4 → Nat :=
  let c12_932 : Index := 12#32
  let c2_i32_244 : BitVec 32 := 2#32
  let c0_i32_75 : BitVec 32 := 0#32
  let c1_i32_77 : BitVec 32 := 1#32
  let arg20 : BitVec 32 := Scf.iv c0_i32_75 c1_i32_77 k0_t3
  let v362 : BitVec 32 := Scalar.muli c2_i32_244 arg20
  let v363 : BitVec 32 := Scalar.addi v362 c0_i32_245
  let v2174 : Index := Scalar.indexCast v363
  let c0_933 : Index := 0#32
  let c128_934 : Index := 128#32
  ![12, v2174.toNat, 0, 128]
def k0_off121 (i : grid0.Coords) (k0_t3 : Fin (k0_t3_loop i).trips) (c0_i32_245 : BitVec 32) : Fin 4 → Nat :=
  let c13_935 : Index := 13#32
  let c2_i32_244 : BitVec 32 := 2#32
  let c0_i32_75 : BitVec 32 := 0#32
  let c1_i32_77 : BitVec 32 := 1#32
  let arg20 : BitVec 32 := Scf.iv c0_i32_75 c1_i32_77 k0_t3
  let v362 : BitVec 32 := Scalar.muli c2_i32_244 arg20
  let v363 : BitVec 32 := Scalar.addi v362 c0_i32_245
  let v2178 : Index := Scalar.indexCast v363
  let c0_936 : Index := 0#32
  let c128_937 : Index := 128#32
  ![13, v2178.toNat, 0, 128]
def k0_off122 (i : grid0.Coords) (k0_t3 : Fin (k0_t3_loop i).trips) (c0_i32_245 : BitVec 32) : Fin 4 → Nat :=
  let c14_938 : Index := 14#32
  let c2_i32_244 : BitVec 32 := 2#32
  let c0_i32_75 : BitVec 32 := 0#32
  let c1_i32_77 : BitVec 32 := 1#32
  let arg20 : BitVec 32 := Scf.iv c0_i32_75 c1_i32_77 k0_t3
  let v362 : BitVec 32 := Scalar.muli c2_i32_244 arg20
  let v363 : BitVec 32 := Scalar.addi v362 c0_i32_245
  let v2182 : Index := Scalar.indexCast v363
  let c0_939 : Index := 0#32
  let c128_940 : Index := 128#32
  ![14, v2182.toNat, 0, 128]
def k0_off123 (i : grid0.Coords) (k0_t3 : Fin (k0_t3_loop i).trips) (c0_i32_245 : BitVec 32) : Fin 4 → Nat :=
  let c15_941 : Index := 15#32
  let c2_i32_244 : BitVec 32 := 2#32
  let c0_i32_75 : BitVec 32 := 0#32
  let c1_i32_77 : BitVec 32 := 1#32
  let arg20 : BitVec 32 := Scf.iv c0_i32_75 c1_i32_77 k0_t3
  let v362 : BitVec 32 := Scalar.muli c2_i32_244 arg20
  let v363 : BitVec 32 := Scalar.addi v362 c0_i32_245
  let v2186 : Index := Scalar.indexCast v363
  let c0_942 : Index := 0#32
  let c128_943 : Index := 128#32
  ![15, v2186.toNat, 0, 128]
def k0_off124 (i : grid0.Coords) (k0_t3 : Fin (k0_t3_loop i).trips) (c0_i32_245 : BitVec 32) : Fin 4 → Nat :=
  let c16_944 : Index := 16#32
  let c2_i32_244 : BitVec 32 := 2#32
  let c0_i32_75 : BitVec 32 := 0#32
  let c1_i32_77 : BitVec 32 := 1#32
  let arg20 : BitVec 32 := Scf.iv c0_i32_75 c1_i32_77 k0_t3
  let v362 : BitVec 32 := Scalar.muli c2_i32_244 arg20
  let v363 : BitVec 32 := Scalar.addi v362 c0_i32_245
  let v2190 : Index := Scalar.indexCast v363
  let c0_945 : Index := 0#32
  let c128_946 : Index := 128#32
  ![16, v2190.toNat, 0, 128]
def k0_off125 (i : grid0.Coords) (k0_t3 : Fin (k0_t3_loop i).trips) (c0_i32_245 : BitVec 32) : Fin 4 → Nat :=
  let c17_947 : Index := 17#32
  let c2_i32_244 : BitVec 32 := 2#32
  let c0_i32_75 : BitVec 32 := 0#32
  let c1_i32_77 : BitVec 32 := 1#32
  let arg20 : BitVec 32 := Scf.iv c0_i32_75 c1_i32_77 k0_t3
  let v362 : BitVec 32 := Scalar.muli c2_i32_244 arg20
  let v363 : BitVec 32 := Scalar.addi v362 c0_i32_245
  let v2194 : Index := Scalar.indexCast v363
  let c0_948 : Index := 0#32
  let c128_949 : Index := 128#32
  ![17, v2194.toNat, 0, 128]
def k0_off126 (i : grid0.Coords) (k0_t3 : Fin (k0_t3_loop i).trips) (c0_i32_245 : BitVec 32) : Fin 4 → Nat :=
  let c18_950 : Index := 18#32
  let c2_i32_244 : BitVec 32 := 2#32
  let c0_i32_75 : BitVec 32 := 0#32
  let c1_i32_77 : BitVec 32 := 1#32
  let arg20 : BitVec 32 := Scf.iv c0_i32_75 c1_i32_77 k0_t3
  let v362 : BitVec 32 := Scalar.muli c2_i32_244 arg20
  let v363 : BitVec 32 := Scalar.addi v362 c0_i32_245
  let v2198 : Index := Scalar.indexCast v363
  let c0_951 : Index := 0#32
  let c128_952 : Index := 128#32
  ![18, v2198.toNat, 0, 128]
def k0_off127 (i : grid0.Coords) (k0_t3 : Fin (k0_t3_loop i).trips) (c0_i32_245 : BitVec 32) : Fin 4 → Nat :=
  let c19_953 : Index := 19#32
  let c2_i32_244 : BitVec 32 := 2#32
  let c0_i32_75 : BitVec 32 := 0#32
  let c1_i32_77 : BitVec 32 := 1#32
  let arg20 : BitVec 32 := Scf.iv c0_i32_75 c1_i32_77 k0_t3
  let v362 : BitVec 32 := Scalar.muli c2_i32_244 arg20
  let v363 : BitVec 32 := Scalar.addi v362 c0_i32_245
  let v2202 : Index := Scalar.indexCast v363
  let c0_954 : Index := 0#32
  let c128_955 : Index := 128#32
  ![19, v2202.toNat, 0, 128]
def k0_off128 (i : grid0.Coords) (k0_t3 : Fin (k0_t3_loop i).trips) (c0_i32_245 : BitVec 32) : Fin 4 → Nat :=
  let c20_956 : Index := 20#32
  let c2_i32_244 : BitVec 32 := 2#32
  let c0_i32_75 : BitVec 32 := 0#32
  let c1_i32_77 : BitVec 32 := 1#32
  let arg20 : BitVec 32 := Scf.iv c0_i32_75 c1_i32_77 k0_t3
  let v362 : BitVec 32 := Scalar.muli c2_i32_244 arg20
  let v363 : BitVec 32 := Scalar.addi v362 c0_i32_245
  let v2206 : Index := Scalar.indexCast v363
  let c0_957 : Index := 0#32
  let c128_958 : Index := 128#32
  ![20, v2206.toNat, 0, 128]
def k0_off129 (i : grid0.Coords) (k0_t3 : Fin (k0_t3_loop i).trips) (c0_i32_245 : BitVec 32) : Fin 4 → Nat :=
  let c21_959 : Index := 21#32
  let c2_i32_244 : BitVec 32 := 2#32
  let c0_i32_75 : BitVec 32 := 0#32
  let c1_i32_77 : BitVec 32 := 1#32
  let arg20 : BitVec 32 := Scf.iv c0_i32_75 c1_i32_77 k0_t3
  let v362 : BitVec 32 := Scalar.muli c2_i32_244 arg20
  let v363 : BitVec 32 := Scalar.addi v362 c0_i32_245
  let v2210 : Index := Scalar.indexCast v363
  let c0_960 : Index := 0#32
  let c128_961 : Index := 128#32
  ![21, v2210.toNat, 0, 128]
def k0_off130 (i : grid0.Coords) (k0_t3 : Fin (k0_t3_loop i).trips) (c0_i32_245 : BitVec 32) : Fin 4 → Nat :=
  let c22_962 : Index := 22#32
  let c2_i32_244 : BitVec 32 := 2#32
  let c0_i32_75 : BitVec 32 := 0#32
  let c1_i32_77 : BitVec 32 := 1#32
  let arg20 : BitVec 32 := Scf.iv c0_i32_75 c1_i32_77 k0_t3
  let v362 : BitVec 32 := Scalar.muli c2_i32_244 arg20
  let v363 : BitVec 32 := Scalar.addi v362 c0_i32_245
  let v2214 : Index := Scalar.indexCast v363
  let c0_963 : Index := 0#32
  let c128_964 : Index := 128#32
  ![22, v2214.toNat, 0, 128]
def k0_off131 (i : grid0.Coords) (k0_t3 : Fin (k0_t3_loop i).trips) (c0_i32_245 : BitVec 32) : Fin 4 → Nat :=
  let c23_965 : Index := 23#32
  let c2_i32_244 : BitVec 32 := 2#32
  let c0_i32_75 : BitVec 32 := 0#32
  let c1_i32_77 : BitVec 32 := 1#32
  let arg20 : BitVec 32 := Scf.iv c0_i32_75 c1_i32_77 k0_t3
  let v362 : BitVec 32 := Scalar.muli c2_i32_244 arg20
  let v363 : BitVec 32 := Scalar.addi v362 c0_i32_245
  let v2218 : Index := Scalar.indexCast v363
  let c0_966 : Index := 0#32
  let c128_967 : Index := 128#32
  ![23, v2218.toNat, 0, 128]
def k0_off132 (i : grid0.Coords) (k0_t3 : Fin (k0_t3_loop i).trips) (c0_i32_245 : BitVec 32) : Fin 4 → Nat :=
  let c24_968 : Index := 24#32
  let c2_i32_244 : BitVec 32 := 2#32
  let c0_i32_75 : BitVec 32 := 0#32
  let c1_i32_77 : BitVec 32 := 1#32
  let arg20 : BitVec 32 := Scf.iv c0_i32_75 c1_i32_77 k0_t3
  let v362 : BitVec 32 := Scalar.muli c2_i32_244 arg20
  let v363 : BitVec 32 := Scalar.addi v362 c0_i32_245
  let v2222 : Index := Scalar.indexCast v363
  let c0_969 : Index := 0#32
  let c128_970 : Index := 128#32
  ![24, v2222.toNat, 0, 128]
def k0_off133 (i : grid0.Coords) (k0_t3 : Fin (k0_t3_loop i).trips) (c0_i32_245 : BitVec 32) : Fin 4 → Nat :=
  let c25_971 : Index := 25#32
  let c2_i32_244 : BitVec 32 := 2#32
  let c0_i32_75 : BitVec 32 := 0#32
  let c1_i32_77 : BitVec 32 := 1#32
  let arg20 : BitVec 32 := Scf.iv c0_i32_75 c1_i32_77 k0_t3
  let v362 : BitVec 32 := Scalar.muli c2_i32_244 arg20
  let v363 : BitVec 32 := Scalar.addi v362 c0_i32_245
  let v2226 : Index := Scalar.indexCast v363
  let c0_972 : Index := 0#32
  let c128_973 : Index := 128#32
  ![25, v2226.toNat, 0, 128]
def k0_off134 (i : grid0.Coords) (k0_t3 : Fin (k0_t3_loop i).trips) (c0_i32_245 : BitVec 32) : Fin 4 → Nat :=
  let c26_974 : Index := 26#32
  let c2_i32_244 : BitVec 32 := 2#32
  let c0_i32_75 : BitVec 32 := 0#32
  let c1_i32_77 : BitVec 32 := 1#32
  let arg20 : BitVec 32 := Scf.iv c0_i32_75 c1_i32_77 k0_t3
  let v362 : BitVec 32 := Scalar.muli c2_i32_244 arg20
  let v363 : BitVec 32 := Scalar.addi v362 c0_i32_245
  let v2230 : Index := Scalar.indexCast v363
  let c0_975 : Index := 0#32
  let c128_976 : Index := 128#32
  ![26, v2230.toNat, 0, 128]
def k0_off135 (i : grid0.Coords) (k0_t3 : Fin (k0_t3_loop i).trips) (c0_i32_245 : BitVec 32) : Fin 4 → Nat :=
  let c27_977 : Index := 27#32
  let c2_i32_244 : BitVec 32 := 2#32
  let c0_i32_75 : BitVec 32 := 0#32
  let c1_i32_77 : BitVec 32 := 1#32
  let arg20 : BitVec 32 := Scf.iv c0_i32_75 c1_i32_77 k0_t3
  let v362 : BitVec 32 := Scalar.muli c2_i32_244 arg20
  let v363 : BitVec 32 := Scalar.addi v362 c0_i32_245
  let v2234 : Index := Scalar.indexCast v363
  let c0_978 : Index := 0#32
  let c128_979 : Index := 128#32
  ![27, v2234.toNat, 0, 128]
def k0_off136 (i : grid0.Coords) (k0_t3 : Fin (k0_t3_loop i).trips) (c0_i32_245 : BitVec 32) : Fin 4 → Nat :=
  let c28_980 : Index := 28#32
  let c2_i32_244 : BitVec 32 := 2#32
  let c0_i32_75 : BitVec 32 := 0#32
  let c1_i32_77 : BitVec 32 := 1#32
  let arg20 : BitVec 32 := Scf.iv c0_i32_75 c1_i32_77 k0_t3
  let v362 : BitVec 32 := Scalar.muli c2_i32_244 arg20
  let v363 : BitVec 32 := Scalar.addi v362 c0_i32_245
  let v2238 : Index := Scalar.indexCast v363
  let c0_981 : Index := 0#32
  let c128_982 : Index := 128#32
  ![28, v2238.toNat, 0, 128]
def k0_off137 (i : grid0.Coords) (k0_t3 : Fin (k0_t3_loop i).trips) (c0_i32_245 : BitVec 32) : Fin 4 → Nat :=
  let c29_983 : Index := 29#32
  let c2_i32_244 : BitVec 32 := 2#32
  let c0_i32_75 : BitVec 32 := 0#32
  let c1_i32_77 : BitVec 32 := 1#32
  let arg20 : BitVec 32 := Scf.iv c0_i32_75 c1_i32_77 k0_t3
  let v362 : BitVec 32 := Scalar.muli c2_i32_244 arg20
  let v363 : BitVec 32 := Scalar.addi v362 c0_i32_245
  let v2242 : Index := Scalar.indexCast v363
  let c0_984 : Index := 0#32
  let c128_985 : Index := 128#32
  ![29, v2242.toNat, 0, 128]
def k0_off138 (i : grid0.Coords) (k0_t3 : Fin (k0_t3_loop i).trips) (c0_i32_245 : BitVec 32) : Fin 4 → Nat :=
  let c30_986 : Index := 30#32
  let c2_i32_244 : BitVec 32 := 2#32
  let c0_i32_75 : BitVec 32 := 0#32
  let c1_i32_77 : BitVec 32 := 1#32
  let arg20 : BitVec 32 := Scf.iv c0_i32_75 c1_i32_77 k0_t3
  let v362 : BitVec 32 := Scalar.muli c2_i32_244 arg20
  let v363 : BitVec 32 := Scalar.addi v362 c0_i32_245
  let v2246 : Index := Scalar.indexCast v363
  let c0_987 : Index := 0#32
  let c128_988 : Index := 128#32
  ![30, v2246.toNat, 0, 128]
def k0_off139 (i : grid0.Coords) (k0_t3 : Fin (k0_t3_loop i).trips) (c0_i32_245 : BitVec 32) : Fin 4 → Nat :=
  let c31_989 : Index := 31#32
  let c2_i32_244 : BitVec 32 := 2#32
  let c0_i32_75 : BitVec 32 := 0#32
  let c1_i32_77 : BitVec 32 := 1#32
  let arg20 : BitVec 32 := Scf.iv c0_i32_75 c1_i32_77 k0_t3
  let v362 : BitVec 32 := Scalar.muli c2_i32_244 arg20
  let v363 : BitVec 32 := Scalar.addi v362 c0_i32_245
  let v2250 : Index := Scalar.indexCast v363
  let c0_990 : Index := 0#32
  let c128_991 : Index := 128#32
  ![31, v2250.toNat, 0, 128]
def k0_off140 (i : grid0.Coords) (k0_t3 : Fin (k0_t3_loop i).trips) (c0_i32_245 : BitVec 32) : Fin 3 → Nat :=
  let c2_i32_244 : BitVec 32 := 2#32
  let c0_i32_75 : BitVec 32 := 0#32
  let c1_i32_77 : BitVec 32 := 1#32
  let arg20 : BitVec 32 := Scf.iv c0_i32_75 c1_i32_77 k0_t3
  let v362 : BitVec 32 := Scalar.muli c2_i32_244 arg20
  let v363 : BitVec 32 := Scalar.addi v362 c0_i32_245
  let v2255 : Index := Scalar.indexCast v363
  let c0_993 : Index := 0#32
  let c0_994 : Index := 0#32
  ![v2255.toNat, 0, 0]
def k0_off141 (i : grid0.Coords) (k0_t3 : Fin (k0_t3_loop i).trips) : Fin 3 → Nat :=
  let c0_i32_75 : BitVec 32 := 0#32
  let c1_i32_77 : BitVec 32 := 1#32
  let arg20 : BitVec 32 := Scf.iv c0_i32_75 c1_i32_77 k0_t3
  let v2261 : Index := Scalar.indexCast arg20
  let c256_997 : Index := 256#32
  let c0_998 : Index := 0#32
  ![v2261.toNat, 256, 0]
def k0_off142 (i : grid0.Coords) (k0_t3 : Fin (k0_t3_loop i).trips) : Fin 3 → Nat :=
  let c0_i32_75 : BitVec 32 := 0#32
  let c1_i32_77 : BitVec 32 := 1#32
  let arg20 : BitVec 32 := Scf.iv c0_i32_75 c1_i32_77 k0_t3
  let v2264 : Index := Scalar.indexCast arg20
  let c264 : Index := 264#32
  let c0_999 : Index := 0#32
  ![v2264.toNat, 264, 0]
def k0_off143 (i : grid0.Coords) (k0_t3 : Fin (k0_t3_loop i).trips) : Fin 3 → Nat :=
  let c0_i32_75 : BitVec 32 := 0#32
  let c1_i32_77 : BitVec 32 := 1#32
  let arg20 : BitVec 32 := Scf.iv c0_i32_75 c1_i32_77 k0_t3
  let v2267 : Index := Scalar.indexCast arg20
  let c272 : Index := 272#32
  let c0_1000 : Index := 0#32
  ![v2267.toNat, 272, 0]
def k0_off144 (i : grid0.Coords) (k0_t3 : Fin (k0_t3_loop i).trips) : Fin 3 → Nat :=
  let c0_i32_75 : BitVec 32 := 0#32
  let c1_i32_77 : BitVec 32 := 1#32
  let arg20 : BitVec 32 := Scf.iv c0_i32_75 c1_i32_77 k0_t3
  let v2270 : Index := Scalar.indexCast arg20
  let c280 : Index := 280#32
  let c0_1001 : Index := 0#32
  ![v2270.toNat, 280, 0]
def k0_off145 (i : grid0.Coords) (k0_t3 : Fin (k0_t3_loop i).trips) : Fin 3 → Nat :=
  let c0_i32_75 : BitVec 32 := 0#32
  let c1_i32_77 : BitVec 32 := 1#32
  let arg20 : BitVec 32 := Scf.iv c0_i32_75 c1_i32_77 k0_t3
  let v2273 : Index := Scalar.indexCast arg20
  let c288 : Index := 288#32
  let c0_1002 : Index := 0#32
  ![v2273.toNat, 288, 0]
def k0_off146 (i : grid0.Coords) (k0_t3 : Fin (k0_t3_loop i).trips) : Fin 3 → Nat :=
  let c0_i32_75 : BitVec 32 := 0#32
  let c1_i32_77 : BitVec 32 := 1#32
  let arg20 : BitVec 32 := Scf.iv c0_i32_75 c1_i32_77 k0_t3
  let v2276 : Index := Scalar.indexCast arg20
  let c296 : Index := 296#32
  let c0_1003 : Index := 0#32
  ![v2276.toNat, 296, 0]
def k0_off147 (i : grid0.Coords) (k0_t3 : Fin (k0_t3_loop i).trips) : Fin 3 → Nat :=
  let c0_i32_75 : BitVec 32 := 0#32
  let c1_i32_77 : BitVec 32 := 1#32
  let arg20 : BitVec 32 := Scf.iv c0_i32_75 c1_i32_77 k0_t3
  let v2279 : Index := Scalar.indexCast arg20
  let c304 : Index := 304#32
  let c0_1004 : Index := 0#32
  ![v2279.toNat, 304, 0]
def k0_off148 (i : grid0.Coords) (k0_t3 : Fin (k0_t3_loop i).trips) : Fin 3 → Nat :=
  let c0_i32_75 : BitVec 32 := 0#32
  let c1_i32_77 : BitVec 32 := 1#32
  let arg20 : BitVec 32 := Scf.iv c0_i32_75 c1_i32_77 k0_t3
  let v2282 : Index := Scalar.indexCast arg20
  let c312 : Index := 312#32
  let c0_1005 : Index := 0#32
  ![v2282.toNat, 312, 0]
def k0_off149 (i : grid0.Coords) (k0_t3 : Fin (k0_t3_loop i).trips) : Fin 3 → Nat :=
  let c0_i32_75 : BitVec 32 := 0#32
  let c1_i32_77 : BitVec 32 := 1#32
  let arg20 : BitVec 32 := Scf.iv c0_i32_75 c1_i32_77 k0_t3
  let v2285 : Index := Scalar.indexCast arg20
  let c320_1006 : Index := 320#32
  let c0_1007 : Index := 0#32
  ![v2285.toNat, 320, 0]
def k0_off150 (i : grid0.Coords) (k0_t3 : Fin (k0_t3_loop i).trips) : Fin 3 → Nat :=
  let c0_i32_75 : BitVec 32 := 0#32
  let c1_i32_77 : BitVec 32 := 1#32
  let arg20 : BitVec 32 := Scf.iv c0_i32_75 c1_i32_77 k0_t3
  let v2288 : Index := Scalar.indexCast arg20
  let c328 : Index := 328#32
  let c0_1008 : Index := 0#32
  ![v2288.toNat, 328, 0]
def k0_off151 (i : grid0.Coords) (k0_t3 : Fin (k0_t3_loop i).trips) : Fin 3 → Nat :=
  let c0_i32_75 : BitVec 32 := 0#32
  let c1_i32_77 : BitVec 32 := 1#32
  let arg20 : BitVec 32 := Scf.iv c0_i32_75 c1_i32_77 k0_t3
  let v2291 : Index := Scalar.indexCast arg20
  let c336 : Index := 336#32
  let c0_1009 : Index := 0#32
  ![v2291.toNat, 336, 0]
def k0_off152 (i : grid0.Coords) (k0_t3 : Fin (k0_t3_loop i).trips) : Fin 3 → Nat :=
  let c0_i32_75 : BitVec 32 := 0#32
  let c1_i32_77 : BitVec 32 := 1#32
  let arg20 : BitVec 32 := Scf.iv c0_i32_75 c1_i32_77 k0_t3
  let v2294 : Index := Scalar.indexCast arg20
  let c344 : Index := 344#32
  let c0_1010 : Index := 0#32
  ![v2294.toNat, 344, 0]
def k0_off153 (i : grid0.Coords) (k0_t3 : Fin (k0_t3_loop i).trips) : Fin 3 → Nat :=
  let c0_i32_75 : BitVec 32 := 0#32
  let c1_i32_77 : BitVec 32 := 1#32
  let arg20 : BitVec 32 := Scf.iv c0_i32_75 c1_i32_77 k0_t3
  let v2297 : Index := Scalar.indexCast arg20
  let c352 : Index := 352#32
  let c0_1011 : Index := 0#32
  ![v2297.toNat, 352, 0]
def k0_off154 (i : grid0.Coords) (k0_t3 : Fin (k0_t3_loop i).trips) : Fin 3 → Nat :=
  let c0_i32_75 : BitVec 32 := 0#32
  let c1_i32_77 : BitVec 32 := 1#32
  let arg20 : BitVec 32 := Scf.iv c0_i32_75 c1_i32_77 k0_t3
  let v2300 : Index := Scalar.indexCast arg20
  let c360 : Index := 360#32
  let c0_1012 : Index := 0#32
  ![v2300.toNat, 360, 0]
def k0_off155 (i : grid0.Coords) (k0_t3 : Fin (k0_t3_loop i).trips) : Fin 3 → Nat :=
  let c0_i32_75 : BitVec 32 := 0#32
  let c1_i32_77 : BitVec 32 := 1#32
  let arg20 : BitVec 32 := Scf.iv c0_i32_75 c1_i32_77 k0_t3
  let v2303 : Index := Scalar.indexCast arg20
  let c368 : Index := 368#32
  let c0_1013 : Index := 0#32
  ![v2303.toNat, 368, 0]
def k0_off156 (i : grid0.Coords) (k0_t3 : Fin (k0_t3_loop i).trips) : Fin 3 → Nat :=
  let c0_i32_75 : BitVec 32 := 0#32
  let c1_i32_77 : BitVec 32 := 1#32
  let arg20 : BitVec 32 := Scf.iv c0_i32_75 c1_i32_77 k0_t3
  let v2306 : Index := Scalar.indexCast arg20
  let c376 : Index := 376#32
  let c0_1014 : Index := 0#32
  ![v2306.toNat, 376, 0]
def k0_off157 (i : grid0.Coords) (k0_t3 : Fin (k0_t3_loop i).trips) : Fin 3 → Nat :=
  let c0_i32_75 : BitVec 32 := 0#32
  let c1_i32_77 : BitVec 32 := 1#32
  let arg20 : BitVec 32 := Scf.iv c0_i32_75 c1_i32_77 k0_t3
  let v2309 : Index := Scalar.indexCast arg20
  let c384_1015 : Index := 384#32
  let c0_1016 : Index := 0#32
  ![v2309.toNat, 384, 0]
def k0_off158 (i : grid0.Coords) (k0_t3 : Fin (k0_t3_loop i).trips) : Fin 3 → Nat :=
  let c0_i32_75 : BitVec 32 := 0#32
  let c1_i32_77 : BitVec 32 := 1#32
  let arg20 : BitVec 32 := Scf.iv c0_i32_75 c1_i32_77 k0_t3
  let v2312 : Index := Scalar.indexCast arg20
  let c392 : Index := 392#32
  let c0_1017 : Index := 0#32
  ![v2312.toNat, 392, 0]
def k0_off159 (i : grid0.Coords) (k0_t3 : Fin (k0_t3_loop i).trips) : Fin 3 → Nat :=
  let c0_i32_75 : BitVec 32 := 0#32
  let c1_i32_77 : BitVec 32 := 1#32
  let arg20 : BitVec 32 := Scf.iv c0_i32_75 c1_i32_77 k0_t3
  let v2315 : Index := Scalar.indexCast arg20
  let c400 : Index := 400#32
  let c0_1018 : Index := 0#32
  ![v2315.toNat, 400, 0]
def k0_off160 (i : grid0.Coords) (k0_t3 : Fin (k0_t3_loop i).trips) : Fin 3 → Nat :=
  let c0_i32_75 : BitVec 32 := 0#32
  let c1_i32_77 : BitVec 32 := 1#32
  let arg20 : BitVec 32 := Scf.iv c0_i32_75 c1_i32_77 k0_t3
  let v2318 : Index := Scalar.indexCast arg20
  let c408 : Index := 408#32
  let c0_1019 : Index := 0#32
  ![v2318.toNat, 408, 0]
def k0_off161 (i : grid0.Coords) (k0_t3 : Fin (k0_t3_loop i).trips) : Fin 3 → Nat :=
  let c0_i32_75 : BitVec 32 := 0#32
  let c1_i32_77 : BitVec 32 := 1#32
  let arg20 : BitVec 32 := Scf.iv c0_i32_75 c1_i32_77 k0_t3
  let v2321 : Index := Scalar.indexCast arg20
  let c416 : Index := 416#32
  let c0_1020 : Index := 0#32
  ![v2321.toNat, 416, 0]
def k0_off162 (i : grid0.Coords) (k0_t3 : Fin (k0_t3_loop i).trips) : Fin 3 → Nat :=
  let c0_i32_75 : BitVec 32 := 0#32
  let c1_i32_77 : BitVec 32 := 1#32
  let arg20 : BitVec 32 := Scf.iv c0_i32_75 c1_i32_77 k0_t3
  let v2324 : Index := Scalar.indexCast arg20
  let c424 : Index := 424#32
  let c0_1021 : Index := 0#32
  ![v2324.toNat, 424, 0]
def k0_off163 (i : grid0.Coords) (k0_t3 : Fin (k0_t3_loop i).trips) : Fin 3 → Nat :=
  let c0_i32_75 : BitVec 32 := 0#32
  let c1_i32_77 : BitVec 32 := 1#32
  let arg20 : BitVec 32 := Scf.iv c0_i32_75 c1_i32_77 k0_t3
  let v2327 : Index := Scalar.indexCast arg20
  let c432 : Index := 432#32
  let c0_1022 : Index := 0#32
  ![v2327.toNat, 432, 0]
def k0_off164 (i : grid0.Coords) (k0_t3 : Fin (k0_t3_loop i).trips) : Fin 3 → Nat :=
  let c0_i32_75 : BitVec 32 := 0#32
  let c1_i32_77 : BitVec 32 := 1#32
  let arg20 : BitVec 32 := Scf.iv c0_i32_75 c1_i32_77 k0_t3
  let v2330 : Index := Scalar.indexCast arg20
  let c440 : Index := 440#32
  let c0_1023 : Index := 0#32
  ![v2330.toNat, 440, 0]
def k0_off165 (i : grid0.Coords) (k0_t3 : Fin (k0_t3_loop i).trips) : Fin 3 → Nat :=
  let c0_i32_75 : BitVec 32 := 0#32
  let c1_i32_77 : BitVec 32 := 1#32
  let arg20 : BitVec 32 := Scf.iv c0_i32_75 c1_i32_77 k0_t3
  let v2333 : Index := Scalar.indexCast arg20
  let c448_1024 : Index := 448#32
  let c0_1025 : Index := 0#32
  ![v2333.toNat, 448, 0]
def k0_off166 (i : grid0.Coords) (k0_t3 : Fin (k0_t3_loop i).trips) : Fin 3 → Nat :=
  let c0_i32_75 : BitVec 32 := 0#32
  let c1_i32_77 : BitVec 32 := 1#32
  let arg20 : BitVec 32 := Scf.iv c0_i32_75 c1_i32_77 k0_t3
  let v2336 : Index := Scalar.indexCast arg20
  let c456 : Index := 456#32
  let c0_1026 : Index := 0#32
  ![v2336.toNat, 456, 0]
def k0_off167 (i : grid0.Coords) (k0_t3 : Fin (k0_t3_loop i).trips) : Fin 3 → Nat :=
  let c0_i32_75 : BitVec 32 := 0#32
  let c1_i32_77 : BitVec 32 := 1#32
  let arg20 : BitVec 32 := Scf.iv c0_i32_75 c1_i32_77 k0_t3
  let v2339 : Index := Scalar.indexCast arg20
  let c464 : Index := 464#32
  let c0_1027 : Index := 0#32
  ![v2339.toNat, 464, 0]
def k0_off168 (i : grid0.Coords) (k0_t3 : Fin (k0_t3_loop i).trips) : Fin 3 → Nat :=
  let c0_i32_75 : BitVec 32 := 0#32
  let c1_i32_77 : BitVec 32 := 1#32
  let arg20 : BitVec 32 := Scf.iv c0_i32_75 c1_i32_77 k0_t3
  let v2342 : Index := Scalar.indexCast arg20
  let c472 : Index := 472#32
  let c0_1028 : Index := 0#32
  ![v2342.toNat, 472, 0]
def k0_off169 (i : grid0.Coords) (k0_t3 : Fin (k0_t3_loop i).trips) : Fin 3 → Nat :=
  let c0_i32_75 : BitVec 32 := 0#32
  let c1_i32_77 : BitVec 32 := 1#32
  let arg20 : BitVec 32 := Scf.iv c0_i32_75 c1_i32_77 k0_t3
  let v2345 : Index := Scalar.indexCast arg20
  let c480 : Index := 480#32
  let c0_1029 : Index := 0#32
  ![v2345.toNat, 480, 0]
def k0_off170 (i : grid0.Coords) (k0_t3 : Fin (k0_t3_loop i).trips) : Fin 3 → Nat :=
  let c0_i32_75 : BitVec 32 := 0#32
  let c1_i32_77 : BitVec 32 := 1#32
  let arg20 : BitVec 32 := Scf.iv c0_i32_75 c1_i32_77 k0_t3
  let v2348 : Index := Scalar.indexCast arg20
  let c488 : Index := 488#32
  let c0_1030 : Index := 0#32
  ![v2348.toNat, 488, 0]
def k0_off171 (i : grid0.Coords) (k0_t3 : Fin (k0_t3_loop i).trips) : Fin 3 → Nat :=
  let c0_i32_75 : BitVec 32 := 0#32
  let c1_i32_77 : BitVec 32 := 1#32
  let arg20 : BitVec 32 := Scf.iv c0_i32_75 c1_i32_77 k0_t3
  let v2351 : Index := Scalar.indexCast arg20
  let c496 : Index := 496#32
  let c0_1031 : Index := 0#32
  ![v2351.toNat, 496, 0]
def k0_off172 (i : grid0.Coords) (k0_t3 : Fin (k0_t3_loop i).trips) : Fin 3 → Nat :=
  let c0_i32_75 : BitVec 32 := 0#32
  let c1_i32_77 : BitVec 32 := 1#32
  let arg20 : BitVec 32 := Scf.iv c0_i32_75 c1_i32_77 k0_t3
  let v2354 : Index := Scalar.indexCast arg20
  let c504 : Index := 504#32
  let c0_1032 : Index := 0#32
  ![v2354.toNat, 504, 0]
def k0_off173 (i : grid0.Coords) (k0_t3 : Fin (k0_t3_loop i).trips) : Fin 3 → Nat :=
  let c0_i32_75 : BitVec 32 := 0#32
  let c1_i32_77 : BitVec 32 := 1#32
  let arg20 : BitVec 32 := Scf.iv c0_i32_75 c1_i32_77 k0_t3
  let v3206 : Index := Scalar.indexCast arg20
  let c256_1370 : Index := 256#32
  let c128_1371 : Index := 128#32
  ![v3206.toNat, 256, 128]
def k0_off174 (i : grid0.Coords) (k0_t3 : Fin (k0_t3_loop i).trips) : Fin 3 → Nat :=
  let c0_i32_75 : BitVec 32 := 0#32
  let c1_i32_77 : BitVec 32 := 1#32
  let arg20 : BitVec 32 := Scf.iv c0_i32_75 c1_i32_77 k0_t3
  let v3209 : Index := Scalar.indexCast arg20
  let c264_1372 : Index := 264#32
  let c128_1373 : Index := 128#32
  ![v3209.toNat, 264, 128]
def k0_off175 (i : grid0.Coords) (k0_t3 : Fin (k0_t3_loop i).trips) : Fin 3 → Nat :=
  let c0_i32_75 : BitVec 32 := 0#32
  let c1_i32_77 : BitVec 32 := 1#32
  let arg20 : BitVec 32 := Scf.iv c0_i32_75 c1_i32_77 k0_t3
  let v3212 : Index := Scalar.indexCast arg20
  let c272_1374 : Index := 272#32
  let c128_1375 : Index := 128#32
  ![v3212.toNat, 272, 128]
def k0_off176 (i : grid0.Coords) (k0_t3 : Fin (k0_t3_loop i).trips) : Fin 3 → Nat :=
  let c0_i32_75 : BitVec 32 := 0#32
  let c1_i32_77 : BitVec 32 := 1#32
  let arg20 : BitVec 32 := Scf.iv c0_i32_75 c1_i32_77 k0_t3
  let v3215 : Index := Scalar.indexCast arg20
  let c280_1376 : Index := 280#32
  let c128_1377 : Index := 128#32
  ![v3215.toNat, 280, 128]
def k0_off177 (i : grid0.Coords) (k0_t3 : Fin (k0_t3_loop i).trips) : Fin 3 → Nat :=
  let c0_i32_75 : BitVec 32 := 0#32
  let c1_i32_77 : BitVec 32 := 1#32
  let arg20 : BitVec 32 := Scf.iv c0_i32_75 c1_i32_77 k0_t3
  let v3218 : Index := Scalar.indexCast arg20
  let c288_1378 : Index := 288#32
  let c128_1379 : Index := 128#32
  ![v3218.toNat, 288, 128]
def k0_off178 (i : grid0.Coords) (k0_t3 : Fin (k0_t3_loop i).trips) : Fin 3 → Nat :=
  let c0_i32_75 : BitVec 32 := 0#32
  let c1_i32_77 : BitVec 32 := 1#32
  let arg20 : BitVec 32 := Scf.iv c0_i32_75 c1_i32_77 k0_t3
  let v3221 : Index := Scalar.indexCast arg20
  let c296_1380 : Index := 296#32
  let c128_1381 : Index := 128#32
  ![v3221.toNat, 296, 128]
def k0_off179 (i : grid0.Coords) (k0_t3 : Fin (k0_t3_loop i).trips) : Fin 3 → Nat :=
  let c0_i32_75 : BitVec 32 := 0#32
  let c1_i32_77 : BitVec 32 := 1#32
  let arg20 : BitVec 32 := Scf.iv c0_i32_75 c1_i32_77 k0_t3
  let v3224 : Index := Scalar.indexCast arg20
  let c304_1382 : Index := 304#32
  let c128_1383 : Index := 128#32
  ![v3224.toNat, 304, 128]
def k0_off180 (i : grid0.Coords) (k0_t3 : Fin (k0_t3_loop i).trips) : Fin 3 → Nat :=
  let c0_i32_75 : BitVec 32 := 0#32
  let c1_i32_77 : BitVec 32 := 1#32
  let arg20 : BitVec 32 := Scf.iv c0_i32_75 c1_i32_77 k0_t3
  let v3227 : Index := Scalar.indexCast arg20
  let c312_1384 : Index := 312#32
  let c128_1385 : Index := 128#32
  ![v3227.toNat, 312, 128]
def k0_off181 (i : grid0.Coords) (k0_t3 : Fin (k0_t3_loop i).trips) : Fin 3 → Nat :=
  let c0_i32_75 : BitVec 32 := 0#32
  let c1_i32_77 : BitVec 32 := 1#32
  let arg20 : BitVec 32 := Scf.iv c0_i32_75 c1_i32_77 k0_t3
  let v3230 : Index := Scalar.indexCast arg20
  let c320_1386 : Index := 320#32
  let c128_1387 : Index := 128#32
  ![v3230.toNat, 320, 128]
def k0_off182 (i : grid0.Coords) (k0_t3 : Fin (k0_t3_loop i).trips) : Fin 3 → Nat :=
  let c0_i32_75 : BitVec 32 := 0#32
  let c1_i32_77 : BitVec 32 := 1#32
  let arg20 : BitVec 32 := Scf.iv c0_i32_75 c1_i32_77 k0_t3
  let v3233 : Index := Scalar.indexCast arg20
  let c328_1388 : Index := 328#32
  let c128_1389 : Index := 128#32
  ![v3233.toNat, 328, 128]
def k0_off183 (i : grid0.Coords) (k0_t3 : Fin (k0_t3_loop i).trips) : Fin 3 → Nat :=
  let c0_i32_75 : BitVec 32 := 0#32
  let c1_i32_77 : BitVec 32 := 1#32
  let arg20 : BitVec 32 := Scf.iv c0_i32_75 c1_i32_77 k0_t3
  let v3236 : Index := Scalar.indexCast arg20
  let c336_1390 : Index := 336#32
  let c128_1391 : Index := 128#32
  ![v3236.toNat, 336, 128]
def k0_off184 (i : grid0.Coords) (k0_t3 : Fin (k0_t3_loop i).trips) : Fin 3 → Nat :=
  let c0_i32_75 : BitVec 32 := 0#32
  let c1_i32_77 : BitVec 32 := 1#32
  let arg20 : BitVec 32 := Scf.iv c0_i32_75 c1_i32_77 k0_t3
  let v3239 : Index := Scalar.indexCast arg20
  let c344_1392 : Index := 344#32
  let c128_1393 : Index := 128#32
  ![v3239.toNat, 344, 128]
def k0_off185 (i : grid0.Coords) (k0_t3 : Fin (k0_t3_loop i).trips) : Fin 3 → Nat :=
  let c0_i32_75 : BitVec 32 := 0#32
  let c1_i32_77 : BitVec 32 := 1#32
  let arg20 : BitVec 32 := Scf.iv c0_i32_75 c1_i32_77 k0_t3
  let v3242 : Index := Scalar.indexCast arg20
  let c352_1394 : Index := 352#32
  let c128_1395 : Index := 128#32
  ![v3242.toNat, 352, 128]
def k0_off186 (i : grid0.Coords) (k0_t3 : Fin (k0_t3_loop i).trips) : Fin 3 → Nat :=
  let c0_i32_75 : BitVec 32 := 0#32
  let c1_i32_77 : BitVec 32 := 1#32
  let arg20 : BitVec 32 := Scf.iv c0_i32_75 c1_i32_77 k0_t3
  let v3245 : Index := Scalar.indexCast arg20
  let c360_1396 : Index := 360#32
  let c128_1397 : Index := 128#32
  ![v3245.toNat, 360, 128]
def k0_off187 (i : grid0.Coords) (k0_t3 : Fin (k0_t3_loop i).trips) : Fin 3 → Nat :=
  let c0_i32_75 : BitVec 32 := 0#32
  let c1_i32_77 : BitVec 32 := 1#32
  let arg20 : BitVec 32 := Scf.iv c0_i32_75 c1_i32_77 k0_t3
  let v3248 : Index := Scalar.indexCast arg20
  let c368_1398 : Index := 368#32
  let c128_1399 : Index := 128#32
  ![v3248.toNat, 368, 128]
def k0_off188 (i : grid0.Coords) (k0_t3 : Fin (k0_t3_loop i).trips) : Fin 3 → Nat :=
  let c0_i32_75 : BitVec 32 := 0#32
  let c1_i32_77 : BitVec 32 := 1#32
  let arg20 : BitVec 32 := Scf.iv c0_i32_75 c1_i32_77 k0_t3
  let v3251 : Index := Scalar.indexCast arg20
  let c376_1400 : Index := 376#32
  let c128_1401 : Index := 128#32
  ![v3251.toNat, 376, 128]
def k0_off189 (i : grid0.Coords) (k0_t3 : Fin (k0_t3_loop i).trips) : Fin 3 → Nat :=
  let c0_i32_75 : BitVec 32 := 0#32
  let c1_i32_77 : BitVec 32 := 1#32
  let arg20 : BitVec 32 := Scf.iv c0_i32_75 c1_i32_77 k0_t3
  let v3254 : Index := Scalar.indexCast arg20
  let c384_1402 : Index := 384#32
  let c128_1403 : Index := 128#32
  ![v3254.toNat, 384, 128]
def k0_off190 (i : grid0.Coords) (k0_t3 : Fin (k0_t3_loop i).trips) : Fin 3 → Nat :=
  let c0_i32_75 : BitVec 32 := 0#32
  let c1_i32_77 : BitVec 32 := 1#32
  let arg20 : BitVec 32 := Scf.iv c0_i32_75 c1_i32_77 k0_t3
  let v3257 : Index := Scalar.indexCast arg20
  let c392_1404 : Index := 392#32
  let c128_1405 : Index := 128#32
  ![v3257.toNat, 392, 128]
def k0_off191 (i : grid0.Coords) (k0_t3 : Fin (k0_t3_loop i).trips) : Fin 3 → Nat :=
  let c0_i32_75 : BitVec 32 := 0#32
  let c1_i32_77 : BitVec 32 := 1#32
  let arg20 : BitVec 32 := Scf.iv c0_i32_75 c1_i32_77 k0_t3
  let v3260 : Index := Scalar.indexCast arg20
  let c400_1406 : Index := 400#32
  let c128_1407 : Index := 128#32
  ![v3260.toNat, 400, 128]
def k0_off192 (i : grid0.Coords) (k0_t3 : Fin (k0_t3_loop i).trips) : Fin 3 → Nat :=
  let c0_i32_75 : BitVec 32 := 0#32
  let c1_i32_77 : BitVec 32 := 1#32
  let arg20 : BitVec 32 := Scf.iv c0_i32_75 c1_i32_77 k0_t3
  let v3263 : Index := Scalar.indexCast arg20
  let c408_1408 : Index := 408#32
  let c128_1409 : Index := 128#32
  ![v3263.toNat, 408, 128]
def k0_off193 (i : grid0.Coords) (k0_t3 : Fin (k0_t3_loop i).trips) : Fin 3 → Nat :=
  let c0_i32_75 : BitVec 32 := 0#32
  let c1_i32_77 : BitVec 32 := 1#32
  let arg20 : BitVec 32 := Scf.iv c0_i32_75 c1_i32_77 k0_t3
  let v3266 : Index := Scalar.indexCast arg20
  let c416_1410 : Index := 416#32
  let c128_1411 : Index := 128#32
  ![v3266.toNat, 416, 128]
def k0_off194 (i : grid0.Coords) (k0_t3 : Fin (k0_t3_loop i).trips) : Fin 3 → Nat :=
  let c0_i32_75 : BitVec 32 := 0#32
  let c1_i32_77 : BitVec 32 := 1#32
  let arg20 : BitVec 32 := Scf.iv c0_i32_75 c1_i32_77 k0_t3
  let v3269 : Index := Scalar.indexCast arg20
  let c424_1412 : Index := 424#32
  let c128_1413 : Index := 128#32
  ![v3269.toNat, 424, 128]
def k0_off195 (i : grid0.Coords) (k0_t3 : Fin (k0_t3_loop i).trips) : Fin 3 → Nat :=
  let c0_i32_75 : BitVec 32 := 0#32
  let c1_i32_77 : BitVec 32 := 1#32
  let arg20 : BitVec 32 := Scf.iv c0_i32_75 c1_i32_77 k0_t3
  let v3272 : Index := Scalar.indexCast arg20
  let c432_1414 : Index := 432#32
  let c128_1415 : Index := 128#32
  ![v3272.toNat, 432, 128]
def k0_off196 (i : grid0.Coords) (k0_t3 : Fin (k0_t3_loop i).trips) : Fin 3 → Nat :=
  let c0_i32_75 : BitVec 32 := 0#32
  let c1_i32_77 : BitVec 32 := 1#32
  let arg20 : BitVec 32 := Scf.iv c0_i32_75 c1_i32_77 k0_t3
  let v3275 : Index := Scalar.indexCast arg20
  let c440_1416 : Index := 440#32
  let c128_1417 : Index := 128#32
  ![v3275.toNat, 440, 128]
def k0_off197 (i : grid0.Coords) (k0_t3 : Fin (k0_t3_loop i).trips) : Fin 3 → Nat :=
  let c0_i32_75 : BitVec 32 := 0#32
  let c1_i32_77 : BitVec 32 := 1#32
  let arg20 : BitVec 32 := Scf.iv c0_i32_75 c1_i32_77 k0_t3
  let v3278 : Index := Scalar.indexCast arg20
  let c448_1418 : Index := 448#32
  let c128_1419 : Index := 128#32
  ![v3278.toNat, 448, 128]
def k0_off198 (i : grid0.Coords) (k0_t3 : Fin (k0_t3_loop i).trips) : Fin 3 → Nat :=
  let c0_i32_75 : BitVec 32 := 0#32
  let c1_i32_77 : BitVec 32 := 1#32
  let arg20 : BitVec 32 := Scf.iv c0_i32_75 c1_i32_77 k0_t3
  let v3281 : Index := Scalar.indexCast arg20
  let c456_1420 : Index := 456#32
  let c128_1421 : Index := 128#32
  ![v3281.toNat, 456, 128]
def k0_off199 (i : grid0.Coords) (k0_t3 : Fin (k0_t3_loop i).trips) : Fin 3 → Nat :=
  let c0_i32_75 : BitVec 32 := 0#32
  let c1_i32_77 : BitVec 32 := 1#32
  let arg20 : BitVec 32 := Scf.iv c0_i32_75 c1_i32_77 k0_t3
  let v3284 : Index := Scalar.indexCast arg20
  let c464_1422 : Index := 464#32
  let c128_1423 : Index := 128#32
  ![v3284.toNat, 464, 128]
def k0_off200 (i : grid0.Coords) (k0_t3 : Fin (k0_t3_loop i).trips) : Fin 3 → Nat :=
  let c0_i32_75 : BitVec 32 := 0#32
  let c1_i32_77 : BitVec 32 := 1#32
  let arg20 : BitVec 32 := Scf.iv c0_i32_75 c1_i32_77 k0_t3
  let v3287 : Index := Scalar.indexCast arg20
  let c472_1424 : Index := 472#32
  let c128_1425 : Index := 128#32
  ![v3287.toNat, 472, 128]
def k0_off201 (i : grid0.Coords) (k0_t3 : Fin (k0_t3_loop i).trips) : Fin 3 → Nat :=
  let c0_i32_75 : BitVec 32 := 0#32
  let c1_i32_77 : BitVec 32 := 1#32
  let arg20 : BitVec 32 := Scf.iv c0_i32_75 c1_i32_77 k0_t3
  let v3290 : Index := Scalar.indexCast arg20
  let c480_1426 : Index := 480#32
  let c128_1427 : Index := 128#32
  ![v3290.toNat, 480, 128]
def k0_off202 (i : grid0.Coords) (k0_t3 : Fin (k0_t3_loop i).trips) : Fin 3 → Nat :=
  let c0_i32_75 : BitVec 32 := 0#32
  let c1_i32_77 : BitVec 32 := 1#32
  let arg20 : BitVec 32 := Scf.iv c0_i32_75 c1_i32_77 k0_t3
  let v3293 : Index := Scalar.indexCast arg20
  let c488_1428 : Index := 488#32
  let c128_1429 : Index := 128#32
  ![v3293.toNat, 488, 128]
def k0_off203 (i : grid0.Coords) (k0_t3 : Fin (k0_t3_loop i).trips) : Fin 3 → Nat :=
  let c0_i32_75 : BitVec 32 := 0#32
  let c1_i32_77 : BitVec 32 := 1#32
  let arg20 : BitVec 32 := Scf.iv c0_i32_75 c1_i32_77 k0_t3
  let v3296 : Index := Scalar.indexCast arg20
  let c496_1430 : Index := 496#32
  let c128_1431 : Index := 128#32
  ![v3296.toNat, 496, 128]
def k0_off204 (i : grid0.Coords) (k0_t3 : Fin (k0_t3_loop i).trips) : Fin 3 → Nat :=
  let c0_i32_75 : BitVec 32 := 0#32
  let c1_i32_77 : BitVec 32 := 1#32
  let arg20 : BitVec 32 := Scf.iv c0_i32_75 c1_i32_77 k0_t3
  let v3299 : Index := Scalar.indexCast arg20
  let c504_1432 : Index := 504#32
  let c128_1433 : Index := 128#32
  ![v3299.toNat, 504, 128]
@[reducible] def k0_t4_loop (i : grid0.Coords) : Scf.Loop 32 :=
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let v123 : BitVec 32 := Scalar.addi c0_i32_75 v122
  let c1_i32_78 : BitVec 32 := 1#32
  ⟨v126, v123, c1_i32_78⟩
def k0_off205 (i : grid0.Coords) (k0_t4 : Fin (k0_t4_loop i).trips) : Fin 3 → Nat :=
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v364 : Index := Scalar.indexCast arg20
  let c0_246 : Index := 0#32
  let c0_247 : Index := 0#32
  ![v364.toNat, 0, 0]
def k0_off206 (i : grid0.Coords) (k0_t4 : Fin (k0_t4_loop i).trips) : Fin 3 → Nat :=
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v367 : Index := Scalar.indexCast arg20
  let c8 : Index := 8#32
  let c0_248 : Index := 0#32
  ![v367.toNat, 8, 0]
def k0_off207 (i : grid0.Coords) (k0_t4 : Fin (k0_t4_loop i).trips) : Fin 3 → Nat :=
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v370 : Index := Scalar.indexCast arg20
  let c16 : Index := 16#32
  let c0_249 : Index := 0#32
  ![v370.toNat, 16, 0]
def k0_off208 (i : grid0.Coords) (k0_t4 : Fin (k0_t4_loop i).trips) : Fin 3 → Nat :=
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v373 : Index := Scalar.indexCast arg20
  let c24 : Index := 24#32
  let c0_250 : Index := 0#32
  ![v373.toNat, 24, 0]
def k0_off209 (i : grid0.Coords) (k0_t4 : Fin (k0_t4_loop i).trips) : Fin 3 → Nat :=
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v376 : Index := Scalar.indexCast arg20
  let c32 : Index := 32#32
  let c0_251 : Index := 0#32
  ![v376.toNat, 32, 0]
def k0_off210 (i : grid0.Coords) (k0_t4 : Fin (k0_t4_loop i).trips) : Fin 3 → Nat :=
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v379 : Index := Scalar.indexCast arg20
  let c40 : Index := 40#32
  let c0_252 : Index := 0#32
  ![v379.toNat, 40, 0]
def k0_off211 (i : grid0.Coords) (k0_t4 : Fin (k0_t4_loop i).trips) : Fin 3 → Nat :=
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v382 : Index := Scalar.indexCast arg20
  let c48 : Index := 48#32
  let c0_253 : Index := 0#32
  ![v382.toNat, 48, 0]
def k0_off212 (i : grid0.Coords) (k0_t4 : Fin (k0_t4_loop i).trips) : Fin 3 → Nat :=
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v385 : Index := Scalar.indexCast arg20
  let c56 : Index := 56#32
  let c0_254 : Index := 0#32
  ![v385.toNat, 56, 0]
def k0_off213 (i : grid0.Coords) (k0_t4 : Fin (k0_t4_loop i).trips) : Fin 3 → Nat :=
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v388 : Index := Scalar.indexCast arg20
  let c64_255 : Index := 64#32
  let c0_256 : Index := 0#32
  ![v388.toNat, 64, 0]
def k0_off214 (i : grid0.Coords) (k0_t4 : Fin (k0_t4_loop i).trips) : Fin 3 → Nat :=
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v391 : Index := Scalar.indexCast arg20
  let c72 : Index := 72#32
  let c0_257 : Index := 0#32
  ![v391.toNat, 72, 0]
def k0_off215 (i : grid0.Coords) (k0_t4 : Fin (k0_t4_loop i).trips) : Fin 3 → Nat :=
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v394 : Index := Scalar.indexCast arg20
  let c80 : Index := 80#32
  let c0_258 : Index := 0#32
  ![v394.toNat, 80, 0]
def k0_off216 (i : grid0.Coords) (k0_t4 : Fin (k0_t4_loop i).trips) : Fin 3 → Nat :=
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v397 : Index := Scalar.indexCast arg20
  let c88 : Index := 88#32
  let c0_259 : Index := 0#32
  ![v397.toNat, 88, 0]
def k0_off217 (i : grid0.Coords) (k0_t4 : Fin (k0_t4_loop i).trips) : Fin 3 → Nat :=
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v400 : Index := Scalar.indexCast arg20
  let c96 : Index := 96#32
  let c0_260 : Index := 0#32
  ![v400.toNat, 96, 0]
def k0_off218 (i : grid0.Coords) (k0_t4 : Fin (k0_t4_loop i).trips) : Fin 3 → Nat :=
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v403 : Index := Scalar.indexCast arg20
  let c104 : Index := 104#32
  let c0_261 : Index := 0#32
  ![v403.toNat, 104, 0]
def k0_off219 (i : grid0.Coords) (k0_t4 : Fin (k0_t4_loop i).trips) : Fin 3 → Nat :=
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v406 : Index := Scalar.indexCast arg20
  let c112 : Index := 112#32
  let c0_262 : Index := 0#32
  ![v406.toNat, 112, 0]
def k0_off220 (i : grid0.Coords) (k0_t4 : Fin (k0_t4_loop i).trips) : Fin 3 → Nat :=
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v409 : Index := Scalar.indexCast arg20
  let c120 : Index := 120#32
  let c0_263 : Index := 0#32
  ![v409.toNat, 120, 0]
def k0_off221 (i : grid0.Coords) (k0_t4 : Fin (k0_t4_loop i).trips) : Fin 3 → Nat :=
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v412 : Index := Scalar.indexCast arg20
  let c128_264 : Index := 128#32
  let c0_265 : Index := 0#32
  ![v412.toNat, 128, 0]
def k0_off222 (i : grid0.Coords) (k0_t4 : Fin (k0_t4_loop i).trips) : Fin 3 → Nat :=
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v415 : Index := Scalar.indexCast arg20
  let c136 : Index := 136#32
  let c0_266 : Index := 0#32
  ![v415.toNat, 136, 0]
def k0_off223 (i : grid0.Coords) (k0_t4 : Fin (k0_t4_loop i).trips) : Fin 3 → Nat :=
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v418 : Index := Scalar.indexCast arg20
  let c144 : Index := 144#32
  let c0_267 : Index := 0#32
  ![v418.toNat, 144, 0]
def k0_off224 (i : grid0.Coords) (k0_t4 : Fin (k0_t4_loop i).trips) : Fin 3 → Nat :=
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v421 : Index := Scalar.indexCast arg20
  let c152 : Index := 152#32
  let c0_268 : Index := 0#32
  ![v421.toNat, 152, 0]
def k0_off225 (i : grid0.Coords) (k0_t4 : Fin (k0_t4_loop i).trips) : Fin 3 → Nat :=
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v424 : Index := Scalar.indexCast arg20
  let c160 : Index := 160#32
  let c0_269 : Index := 0#32
  ![v424.toNat, 160, 0]
def k0_off226 (i : grid0.Coords) (k0_t4 : Fin (k0_t4_loop i).trips) : Fin 3 → Nat :=
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v427 : Index := Scalar.indexCast arg20
  let c168 : Index := 168#32
  let c0_270 : Index := 0#32
  ![v427.toNat, 168, 0]
def k0_off227 (i : grid0.Coords) (k0_t4 : Fin (k0_t4_loop i).trips) : Fin 3 → Nat :=
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v430 : Index := Scalar.indexCast arg20
  let c176 : Index := 176#32
  let c0_271 : Index := 0#32
  ![v430.toNat, 176, 0]
def k0_off228 (i : grid0.Coords) (k0_t4 : Fin (k0_t4_loop i).trips) : Fin 3 → Nat :=
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v433 : Index := Scalar.indexCast arg20
  let c184 : Index := 184#32
  let c0_272 : Index := 0#32
  ![v433.toNat, 184, 0]
def k0_off229 (i : grid0.Coords) (k0_t4 : Fin (k0_t4_loop i).trips) : Fin 3 → Nat :=
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v436 : Index := Scalar.indexCast arg20
  let c192_273 : Index := 192#32
  let c0_274 : Index := 0#32
  ![v436.toNat, 192, 0]
def k0_off230 (i : grid0.Coords) (k0_t4 : Fin (k0_t4_loop i).trips) : Fin 3 → Nat :=
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v439 : Index := Scalar.indexCast arg20
  let c200 : Index := 200#32
  let c0_275 : Index := 0#32
  ![v439.toNat, 200, 0]
def k0_off231 (i : grid0.Coords) (k0_t4 : Fin (k0_t4_loop i).trips) : Fin 3 → Nat :=
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v442 : Index := Scalar.indexCast arg20
  let c208 : Index := 208#32
  let c0_276 : Index := 0#32
  ![v442.toNat, 208, 0]
def k0_off232 (i : grid0.Coords) (k0_t4 : Fin (k0_t4_loop i).trips) : Fin 3 → Nat :=
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v445 : Index := Scalar.indexCast arg20
  let c216 : Index := 216#32
  let c0_277 : Index := 0#32
  ![v445.toNat, 216, 0]
def k0_off233 (i : grid0.Coords) (k0_t4 : Fin (k0_t4_loop i).trips) : Fin 3 → Nat :=
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v448 : Index := Scalar.indexCast arg20
  let c224 : Index := 224#32
  let c0_278 : Index := 0#32
  ![v448.toNat, 224, 0]
def k0_off234 (i : grid0.Coords) (k0_t4 : Fin (k0_t4_loop i).trips) : Fin 3 → Nat :=
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v451 : Index := Scalar.indexCast arg20
  let c232 : Index := 232#32
  let c0_279 : Index := 0#32
  ![v451.toNat, 232, 0]
def k0_off235 (i : grid0.Coords) (k0_t4 : Fin (k0_t4_loop i).trips) : Fin 3 → Nat :=
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v454 : Index := Scalar.indexCast arg20
  let c240 : Index := 240#32
  let c0_280 : Index := 0#32
  ![v454.toNat, 240, 0]
def k0_off236 (i : grid0.Coords) (k0_t4 : Fin (k0_t4_loop i).trips) : Fin 3 → Nat :=
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v457 : Index := Scalar.indexCast arg20
  let c248 : Index := 248#32
  let c0_281 : Index := 0#32
  ![v457.toNat, 248, 0]
def k0_off237 (i : grid0.Coords) (k0_t4 : Fin (k0_t4_loop i).trips) (c0_i32_245 : BitVec 32) : Fin 4 → Nat :=
  let c0_516 : Index := 0#32
  let c2_i32_244 : BitVec 32 := 2#32
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v362 : BitVec 32 := Scalar.muli c2_i32_244 arg20
  let v363 : BitVec 32 := Scalar.addi v362 c0_i32_245
  let v1181 : Index := Scalar.indexCast v363
  let c0_517 : Index := 0#32
  let c0_518 : Index := 0#32
  ![0, v1181.toNat, 0, 0]
def k0_off238 (i : grid0.Coords) (k0_t4 : Fin (k0_t4_loop i).trips) (c0_i32_245 : BitVec 32) : Fin 4 → Nat :=
  let c1_519 : Index := 1#32
  let c2_i32_244 : BitVec 32 := 2#32
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v362 : BitVec 32 := Scalar.muli c2_i32_244 arg20
  let v363 : BitVec 32 := Scalar.addi v362 c0_i32_245
  let v1185 : Index := Scalar.indexCast v363
  let c0_520 : Index := 0#32
  let c0_521 : Index := 0#32
  ![1, v1185.toNat, 0, 0]
def k0_off239 (i : grid0.Coords) (k0_t4 : Fin (k0_t4_loop i).trips) (c0_i32_245 : BitVec 32) : Fin 4 → Nat :=
  let c2_522 : Index := 2#32
  let c2_i32_244 : BitVec 32 := 2#32
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v362 : BitVec 32 := Scalar.muli c2_i32_244 arg20
  let v363 : BitVec 32 := Scalar.addi v362 c0_i32_245
  let v1189 : Index := Scalar.indexCast v363
  let c0_523 : Index := 0#32
  let c0_524 : Index := 0#32
  ![2, v1189.toNat, 0, 0]
def k0_off240 (i : grid0.Coords) (k0_t4 : Fin (k0_t4_loop i).trips) (c0_i32_245 : BitVec 32) : Fin 4 → Nat :=
  let c3_525 : Index := 3#32
  let c2_i32_244 : BitVec 32 := 2#32
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v362 : BitVec 32 := Scalar.muli c2_i32_244 arg20
  let v363 : BitVec 32 := Scalar.addi v362 c0_i32_245
  let v1193 : Index := Scalar.indexCast v363
  let c0_526 : Index := 0#32
  let c0_527 : Index := 0#32
  ![3, v1193.toNat, 0, 0]
def k0_off241 (i : grid0.Coords) (k0_t4 : Fin (k0_t4_loop i).trips) (c0_i32_245 : BitVec 32) : Fin 4 → Nat :=
  let c4_528 : Index := 4#32
  let c2_i32_244 : BitVec 32 := 2#32
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v362 : BitVec 32 := Scalar.muli c2_i32_244 arg20
  let v363 : BitVec 32 := Scalar.addi v362 c0_i32_245
  let v1197 : Index := Scalar.indexCast v363
  let c0_529 : Index := 0#32
  let c0_530 : Index := 0#32
  ![4, v1197.toNat, 0, 0]
def k0_off242 (i : grid0.Coords) (k0_t4 : Fin (k0_t4_loop i).trips) (c0_i32_245 : BitVec 32) : Fin 4 → Nat :=
  let c5_531 : Index := 5#32
  let c2_i32_244 : BitVec 32 := 2#32
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v362 : BitVec 32 := Scalar.muli c2_i32_244 arg20
  let v363 : BitVec 32 := Scalar.addi v362 c0_i32_245
  let v1201 : Index := Scalar.indexCast v363
  let c0_532 : Index := 0#32
  let c0_533 : Index := 0#32
  ![5, v1201.toNat, 0, 0]
def k0_off243 (i : grid0.Coords) (k0_t4 : Fin (k0_t4_loop i).trips) (c0_i32_245 : BitVec 32) : Fin 4 → Nat :=
  let c6_534 : Index := 6#32
  let c2_i32_244 : BitVec 32 := 2#32
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v362 : BitVec 32 := Scalar.muli c2_i32_244 arg20
  let v363 : BitVec 32 := Scalar.addi v362 c0_i32_245
  let v1205 : Index := Scalar.indexCast v363
  let c0_535 : Index := 0#32
  let c0_536 : Index := 0#32
  ![6, v1205.toNat, 0, 0]
def k0_off244 (i : grid0.Coords) (k0_t4 : Fin (k0_t4_loop i).trips) (c0_i32_245 : BitVec 32) : Fin 4 → Nat :=
  let c7_537 : Index := 7#32
  let c2_i32_244 : BitVec 32 := 2#32
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v362 : BitVec 32 := Scalar.muli c2_i32_244 arg20
  let v363 : BitVec 32 := Scalar.addi v362 c0_i32_245
  let v1209 : Index := Scalar.indexCast v363
  let c0_538 : Index := 0#32
  let c0_539 : Index := 0#32
  ![7, v1209.toNat, 0, 0]
def k0_off245 (i : grid0.Coords) (k0_t4 : Fin (k0_t4_loop i).trips) (c0_i32_245 : BitVec 32) : Fin 4 → Nat :=
  let c8_540 : Index := 8#32
  let c2_i32_244 : BitVec 32 := 2#32
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v362 : BitVec 32 := Scalar.muli c2_i32_244 arg20
  let v363 : BitVec 32 := Scalar.addi v362 c0_i32_245
  let v1213 : Index := Scalar.indexCast v363
  let c0_541 : Index := 0#32
  let c0_542 : Index := 0#32
  ![8, v1213.toNat, 0, 0]
def k0_off246 (i : grid0.Coords) (k0_t4 : Fin (k0_t4_loop i).trips) (c0_i32_245 : BitVec 32) : Fin 4 → Nat :=
  let c9 : Index := 9#32
  let c2_i32_244 : BitVec 32 := 2#32
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v362 : BitVec 32 := Scalar.muli c2_i32_244 arg20
  let v363 : BitVec 32 := Scalar.addi v362 c0_i32_245
  let v1217 : Index := Scalar.indexCast v363
  let c0_543 : Index := 0#32
  let c0_544 : Index := 0#32
  ![9, v1217.toNat, 0, 0]
def k0_off247 (i : grid0.Coords) (k0_t4 : Fin (k0_t4_loop i).trips) (c0_i32_245 : BitVec 32) : Fin 4 → Nat :=
  let c10 : Index := 10#32
  let c2_i32_244 : BitVec 32 := 2#32
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v362 : BitVec 32 := Scalar.muli c2_i32_244 arg20
  let v363 : BitVec 32 := Scalar.addi v362 c0_i32_245
  let v1221 : Index := Scalar.indexCast v363
  let c0_545 : Index := 0#32
  let c0_546 : Index := 0#32
  ![10, v1221.toNat, 0, 0]
def k0_off248 (i : grid0.Coords) (k0_t4 : Fin (k0_t4_loop i).trips) (c0_i32_245 : BitVec 32) : Fin 4 → Nat :=
  let c11 : Index := 11#32
  let c2_i32_244 : BitVec 32 := 2#32
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v362 : BitVec 32 := Scalar.muli c2_i32_244 arg20
  let v363 : BitVec 32 := Scalar.addi v362 c0_i32_245
  let v1225 : Index := Scalar.indexCast v363
  let c0_547 : Index := 0#32
  let c0_548 : Index := 0#32
  ![11, v1225.toNat, 0, 0]
def k0_off249 (i : grid0.Coords) (k0_t4 : Fin (k0_t4_loop i).trips) (c0_i32_245 : BitVec 32) : Fin 4 → Nat :=
  let c12 : Index := 12#32
  let c2_i32_244 : BitVec 32 := 2#32
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v362 : BitVec 32 := Scalar.muli c2_i32_244 arg20
  let v363 : BitVec 32 := Scalar.addi v362 c0_i32_245
  let v1229 : Index := Scalar.indexCast v363
  let c0_549 : Index := 0#32
  let c0_550 : Index := 0#32
  ![12, v1229.toNat, 0, 0]
def k0_off250 (i : grid0.Coords) (k0_t4 : Fin (k0_t4_loop i).trips) (c0_i32_245 : BitVec 32) : Fin 4 → Nat :=
  let c13 : Index := 13#32
  let c2_i32_244 : BitVec 32 := 2#32
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v362 : BitVec 32 := Scalar.muli c2_i32_244 arg20
  let v363 : BitVec 32 := Scalar.addi v362 c0_i32_245
  let v1233 : Index := Scalar.indexCast v363
  let c0_551 : Index := 0#32
  let c0_552 : Index := 0#32
  ![13, v1233.toNat, 0, 0]
def k0_off251 (i : grid0.Coords) (k0_t4 : Fin (k0_t4_loop i).trips) (c0_i32_245 : BitVec 32) : Fin 4 → Nat :=
  let c14 : Index := 14#32
  let c2_i32_244 : BitVec 32 := 2#32
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v362 : BitVec 32 := Scalar.muli c2_i32_244 arg20
  let v363 : BitVec 32 := Scalar.addi v362 c0_i32_245
  let v1237 : Index := Scalar.indexCast v363
  let c0_553 : Index := 0#32
  let c0_554 : Index := 0#32
  ![14, v1237.toNat, 0, 0]
def k0_off252 (i : grid0.Coords) (k0_t4 : Fin (k0_t4_loop i).trips) (c0_i32_245 : BitVec 32) : Fin 4 → Nat :=
  let c15 : Index := 15#32
  let c2_i32_244 : BitVec 32 := 2#32
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v362 : BitVec 32 := Scalar.muli c2_i32_244 arg20
  let v363 : BitVec 32 := Scalar.addi v362 c0_i32_245
  let v1241 : Index := Scalar.indexCast v363
  let c0_555 : Index := 0#32
  let c0_556 : Index := 0#32
  ![15, v1241.toNat, 0, 0]
def k0_off253 (i : grid0.Coords) (k0_t4 : Fin (k0_t4_loop i).trips) (c0_i32_245 : BitVec 32) : Fin 4 → Nat :=
  let c16_557 : Index := 16#32
  let c2_i32_244 : BitVec 32 := 2#32
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v362 : BitVec 32 := Scalar.muli c2_i32_244 arg20
  let v363 : BitVec 32 := Scalar.addi v362 c0_i32_245
  let v1245 : Index := Scalar.indexCast v363
  let c0_558 : Index := 0#32
  let c0_559 : Index := 0#32
  ![16, v1245.toNat, 0, 0]
def k0_off254 (i : grid0.Coords) (k0_t4 : Fin (k0_t4_loop i).trips) (c0_i32_245 : BitVec 32) : Fin 4 → Nat :=
  let c17 : Index := 17#32
  let c2_i32_244 : BitVec 32 := 2#32
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v362 : BitVec 32 := Scalar.muli c2_i32_244 arg20
  let v363 : BitVec 32 := Scalar.addi v362 c0_i32_245
  let v1249 : Index := Scalar.indexCast v363
  let c0_560 : Index := 0#32
  let c0_561 : Index := 0#32
  ![17, v1249.toNat, 0, 0]
def k0_off255 (i : grid0.Coords) (k0_t4 : Fin (k0_t4_loop i).trips) (c0_i32_245 : BitVec 32) : Fin 4 → Nat :=
  let c18 : Index := 18#32
  let c2_i32_244 : BitVec 32 := 2#32
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v362 : BitVec 32 := Scalar.muli c2_i32_244 arg20
  let v363 : BitVec 32 := Scalar.addi v362 c0_i32_245
  let v1253 : Index := Scalar.indexCast v363
  let c0_562 : Index := 0#32
  let c0_563 : Index := 0#32
  ![18, v1253.toNat, 0, 0]
def k0_off256 (i : grid0.Coords) (k0_t4 : Fin (k0_t4_loop i).trips) (c0_i32_245 : BitVec 32) : Fin 4 → Nat :=
  let c19 : Index := 19#32
  let c2_i32_244 : BitVec 32 := 2#32
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v362 : BitVec 32 := Scalar.muli c2_i32_244 arg20
  let v363 : BitVec 32 := Scalar.addi v362 c0_i32_245
  let v1257 : Index := Scalar.indexCast v363
  let c0_564 : Index := 0#32
  let c0_565 : Index := 0#32
  ![19, v1257.toNat, 0, 0]
def k0_off257 (i : grid0.Coords) (k0_t4 : Fin (k0_t4_loop i).trips) (c0_i32_245 : BitVec 32) : Fin 4 → Nat :=
  let c20 : Index := 20#32
  let c2_i32_244 : BitVec 32 := 2#32
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v362 : BitVec 32 := Scalar.muli c2_i32_244 arg20
  let v363 : BitVec 32 := Scalar.addi v362 c0_i32_245
  let v1261 : Index := Scalar.indexCast v363
  let c0_566 : Index := 0#32
  let c0_567 : Index := 0#32
  ![20, v1261.toNat, 0, 0]
def k0_off258 (i : grid0.Coords) (k0_t4 : Fin (k0_t4_loop i).trips) (c0_i32_245 : BitVec 32) : Fin 4 → Nat :=
  let c21 : Index := 21#32
  let c2_i32_244 : BitVec 32 := 2#32
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v362 : BitVec 32 := Scalar.muli c2_i32_244 arg20
  let v363 : BitVec 32 := Scalar.addi v362 c0_i32_245
  let v1265 : Index := Scalar.indexCast v363
  let c0_568 : Index := 0#32
  let c0_569 : Index := 0#32
  ![21, v1265.toNat, 0, 0]
def k0_off259 (i : grid0.Coords) (k0_t4 : Fin (k0_t4_loop i).trips) (c0_i32_245 : BitVec 32) : Fin 4 → Nat :=
  let c22 : Index := 22#32
  let c2_i32_244 : BitVec 32 := 2#32
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v362 : BitVec 32 := Scalar.muli c2_i32_244 arg20
  let v363 : BitVec 32 := Scalar.addi v362 c0_i32_245
  let v1269 : Index := Scalar.indexCast v363
  let c0_570 : Index := 0#32
  let c0_571 : Index := 0#32
  ![22, v1269.toNat, 0, 0]
def k0_off260 (i : grid0.Coords) (k0_t4 : Fin (k0_t4_loop i).trips) (c0_i32_245 : BitVec 32) : Fin 4 → Nat :=
  let c23 : Index := 23#32
  let c2_i32_244 : BitVec 32 := 2#32
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v362 : BitVec 32 := Scalar.muli c2_i32_244 arg20
  let v363 : BitVec 32 := Scalar.addi v362 c0_i32_245
  let v1273 : Index := Scalar.indexCast v363
  let c0_572 : Index := 0#32
  let c0_573 : Index := 0#32
  ![23, v1273.toNat, 0, 0]
def k0_off261 (i : grid0.Coords) (k0_t4 : Fin (k0_t4_loop i).trips) (c0_i32_245 : BitVec 32) : Fin 4 → Nat :=
  let c24_574 : Index := 24#32
  let c2_i32_244 : BitVec 32 := 2#32
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v362 : BitVec 32 := Scalar.muli c2_i32_244 arg20
  let v363 : BitVec 32 := Scalar.addi v362 c0_i32_245
  let v1277 : Index := Scalar.indexCast v363
  let c0_575 : Index := 0#32
  let c0_576 : Index := 0#32
  ![24, v1277.toNat, 0, 0]
def k0_off262 (i : grid0.Coords) (k0_t4 : Fin (k0_t4_loop i).trips) (c0_i32_245 : BitVec 32) : Fin 4 → Nat :=
  let c25 : Index := 25#32
  let c2_i32_244 : BitVec 32 := 2#32
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v362 : BitVec 32 := Scalar.muli c2_i32_244 arg20
  let v363 : BitVec 32 := Scalar.addi v362 c0_i32_245
  let v1281 : Index := Scalar.indexCast v363
  let c0_577 : Index := 0#32
  let c0_578 : Index := 0#32
  ![25, v1281.toNat, 0, 0]
def k0_off263 (i : grid0.Coords) (k0_t4 : Fin (k0_t4_loop i).trips) (c0_i32_245 : BitVec 32) : Fin 4 → Nat :=
  let c26 : Index := 26#32
  let c2_i32_244 : BitVec 32 := 2#32
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v362 : BitVec 32 := Scalar.muli c2_i32_244 arg20
  let v363 : BitVec 32 := Scalar.addi v362 c0_i32_245
  let v1285 : Index := Scalar.indexCast v363
  let c0_579 : Index := 0#32
  let c0_580 : Index := 0#32
  ![26, v1285.toNat, 0, 0]
def k0_off264 (i : grid0.Coords) (k0_t4 : Fin (k0_t4_loop i).trips) (c0_i32_245 : BitVec 32) : Fin 4 → Nat :=
  let c27 : Index := 27#32
  let c2_i32_244 : BitVec 32 := 2#32
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v362 : BitVec 32 := Scalar.muli c2_i32_244 arg20
  let v363 : BitVec 32 := Scalar.addi v362 c0_i32_245
  let v1289 : Index := Scalar.indexCast v363
  let c0_581 : Index := 0#32
  let c0_582 : Index := 0#32
  ![27, v1289.toNat, 0, 0]
def k0_off265 (i : grid0.Coords) (k0_t4 : Fin (k0_t4_loop i).trips) (c0_i32_245 : BitVec 32) : Fin 4 → Nat :=
  let c28 : Index := 28#32
  let c2_i32_244 : BitVec 32 := 2#32
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v362 : BitVec 32 := Scalar.muli c2_i32_244 arg20
  let v363 : BitVec 32 := Scalar.addi v362 c0_i32_245
  let v1293 : Index := Scalar.indexCast v363
  let c0_583 : Index := 0#32
  let c0_584 : Index := 0#32
  ![28, v1293.toNat, 0, 0]
def k0_off266 (i : grid0.Coords) (k0_t4 : Fin (k0_t4_loop i).trips) (c0_i32_245 : BitVec 32) : Fin 4 → Nat :=
  let c29 : Index := 29#32
  let c2_i32_244 : BitVec 32 := 2#32
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v362 : BitVec 32 := Scalar.muli c2_i32_244 arg20
  let v363 : BitVec 32 := Scalar.addi v362 c0_i32_245
  let v1297 : Index := Scalar.indexCast v363
  let c0_585 : Index := 0#32
  let c0_586 : Index := 0#32
  ![29, v1297.toNat, 0, 0]
def k0_off267 (i : grid0.Coords) (k0_t4 : Fin (k0_t4_loop i).trips) (c0_i32_245 : BitVec 32) : Fin 4 → Nat :=
  let c30 : Index := 30#32
  let c2_i32_244 : BitVec 32 := 2#32
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v362 : BitVec 32 := Scalar.muli c2_i32_244 arg20
  let v363 : BitVec 32 := Scalar.addi v362 c0_i32_245
  let v1301 : Index := Scalar.indexCast v363
  let c0_587 : Index := 0#32
  let c0_588 : Index := 0#32
  ![30, v1301.toNat, 0, 0]
def k0_off268 (i : grid0.Coords) (k0_t4 : Fin (k0_t4_loop i).trips) (c0_i32_245 : BitVec 32) : Fin 4 → Nat :=
  let c31 : Index := 31#32
  let c2_i32_244 : BitVec 32 := 2#32
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v362 : BitVec 32 := Scalar.muli c2_i32_244 arg20
  let v363 : BitVec 32 := Scalar.addi v362 c0_i32_245
  let v1305 : Index := Scalar.indexCast v363
  let c0_589 : Index := 0#32
  let c0_590 : Index := 0#32
  ![31, v1305.toNat, 0, 0]
def k0_off269 (i : grid0.Coords) (k0_t4 : Fin (k0_t4_loop i).trips) : Fin 3 → Nat :=
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v1309 : Index := Scalar.indexCast arg20
  let c0_591 : Index := 0#32
  let c128_592 : Index := 128#32
  ![v1309.toNat, 0, 128]
def k0_off270 (i : grid0.Coords) (k0_t4 : Fin (k0_t4_loop i).trips) : Fin 3 → Nat :=
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v1312 : Index := Scalar.indexCast arg20
  let c8_593 : Index := 8#32
  let c128_594 : Index := 128#32
  ![v1312.toNat, 8, 128]
def k0_off271 (i : grid0.Coords) (k0_t4 : Fin (k0_t4_loop i).trips) : Fin 3 → Nat :=
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v1315 : Index := Scalar.indexCast arg20
  let c16_595 : Index := 16#32
  let c128_596 : Index := 128#32
  ![v1315.toNat, 16, 128]
def k0_off272 (i : grid0.Coords) (k0_t4 : Fin (k0_t4_loop i).trips) : Fin 3 → Nat :=
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v1318 : Index := Scalar.indexCast arg20
  let c24_597 : Index := 24#32
  let c128_598 : Index := 128#32
  ![v1318.toNat, 24, 128]
def k0_off273 (i : grid0.Coords) (k0_t4 : Fin (k0_t4_loop i).trips) : Fin 3 → Nat :=
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v1321 : Index := Scalar.indexCast arg20
  let c32_599 : Index := 32#32
  let c128_600 : Index := 128#32
  ![v1321.toNat, 32, 128]
def k0_off274 (i : grid0.Coords) (k0_t4 : Fin (k0_t4_loop i).trips) : Fin 3 → Nat :=
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v1324 : Index := Scalar.indexCast arg20
  let c40_601 : Index := 40#32
  let c128_602 : Index := 128#32
  ![v1324.toNat, 40, 128]
def k0_off275 (i : grid0.Coords) (k0_t4 : Fin (k0_t4_loop i).trips) : Fin 3 → Nat :=
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v1327 : Index := Scalar.indexCast arg20
  let c48_603 : Index := 48#32
  let c128_604 : Index := 128#32
  ![v1327.toNat, 48, 128]
def k0_off276 (i : grid0.Coords) (k0_t4 : Fin (k0_t4_loop i).trips) : Fin 3 → Nat :=
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v1330 : Index := Scalar.indexCast arg20
  let c56_605 : Index := 56#32
  let c128_606 : Index := 128#32
  ![v1330.toNat, 56, 128]
def k0_off277 (i : grid0.Coords) (k0_t4 : Fin (k0_t4_loop i).trips) : Fin 3 → Nat :=
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v1333 : Index := Scalar.indexCast arg20
  let c64_607 : Index := 64#32
  let c128_608 : Index := 128#32
  ![v1333.toNat, 64, 128]
def k0_off278 (i : grid0.Coords) (k0_t4 : Fin (k0_t4_loop i).trips) : Fin 3 → Nat :=
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v1336 : Index := Scalar.indexCast arg20
  let c72_609 : Index := 72#32
  let c128_610 : Index := 128#32
  ![v1336.toNat, 72, 128]
def k0_off279 (i : grid0.Coords) (k0_t4 : Fin (k0_t4_loop i).trips) : Fin 3 → Nat :=
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v1339 : Index := Scalar.indexCast arg20
  let c80_611 : Index := 80#32
  let c128_612 : Index := 128#32
  ![v1339.toNat, 80, 128]
def k0_off280 (i : grid0.Coords) (k0_t4 : Fin (k0_t4_loop i).trips) : Fin 3 → Nat :=
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v1342 : Index := Scalar.indexCast arg20
  let c88_613 : Index := 88#32
  let c128_614 : Index := 128#32
  ![v1342.toNat, 88, 128]
def k0_off281 (i : grid0.Coords) (k0_t4 : Fin (k0_t4_loop i).trips) : Fin 3 → Nat :=
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v1345 : Index := Scalar.indexCast arg20
  let c96_615 : Index := 96#32
  let c128_616 : Index := 128#32
  ![v1345.toNat, 96, 128]
def k0_off282 (i : grid0.Coords) (k0_t4 : Fin (k0_t4_loop i).trips) : Fin 3 → Nat :=
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v1348 : Index := Scalar.indexCast arg20
  let c104_617 : Index := 104#32
  let c128_618 : Index := 128#32
  ![v1348.toNat, 104, 128]
def k0_off283 (i : grid0.Coords) (k0_t4 : Fin (k0_t4_loop i).trips) : Fin 3 → Nat :=
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v1351 : Index := Scalar.indexCast arg20
  let c112_619 : Index := 112#32
  let c128_620 : Index := 128#32
  ![v1351.toNat, 112, 128]
def k0_off284 (i : grid0.Coords) (k0_t4 : Fin (k0_t4_loop i).trips) : Fin 3 → Nat :=
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v1354 : Index := Scalar.indexCast arg20
  let c120_621 : Index := 120#32
  let c128_622 : Index := 128#32
  ![v1354.toNat, 120, 128]
def k0_off285 (i : grid0.Coords) (k0_t4 : Fin (k0_t4_loop i).trips) : Fin 3 → Nat :=
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v1357 : Index := Scalar.indexCast arg20
  let c128_623 : Index := 128#32
  let c128_624 : Index := 128#32
  ![v1357.toNat, 128, 128]
def k0_off286 (i : grid0.Coords) (k0_t4 : Fin (k0_t4_loop i).trips) : Fin 3 → Nat :=
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v1360 : Index := Scalar.indexCast arg20
  let c136_625 : Index := 136#32
  let c128_626 : Index := 128#32
  ![v1360.toNat, 136, 128]
def k0_off287 (i : grid0.Coords) (k0_t4 : Fin (k0_t4_loop i).trips) : Fin 3 → Nat :=
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v1363 : Index := Scalar.indexCast arg20
  let c144_627 : Index := 144#32
  let c128_628 : Index := 128#32
  ![v1363.toNat, 144, 128]
def k0_off288 (i : grid0.Coords) (k0_t4 : Fin (k0_t4_loop i).trips) : Fin 3 → Nat :=
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v1366 : Index := Scalar.indexCast arg20
  let c152_629 : Index := 152#32
  let c128_630 : Index := 128#32
  ![v1366.toNat, 152, 128]
def k0_off289 (i : grid0.Coords) (k0_t4 : Fin (k0_t4_loop i).trips) : Fin 3 → Nat :=
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v1369 : Index := Scalar.indexCast arg20
  let c160_631 : Index := 160#32
  let c128_632 : Index := 128#32
  ![v1369.toNat, 160, 128]
def k0_off290 (i : grid0.Coords) (k0_t4 : Fin (k0_t4_loop i).trips) : Fin 3 → Nat :=
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v1372 : Index := Scalar.indexCast arg20
  let c168_633 : Index := 168#32
  let c128_634 : Index := 128#32
  ![v1372.toNat, 168, 128]
def k0_off291 (i : grid0.Coords) (k0_t4 : Fin (k0_t4_loop i).trips) : Fin 3 → Nat :=
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v1375 : Index := Scalar.indexCast arg20
  let c176_635 : Index := 176#32
  let c128_636 : Index := 128#32
  ![v1375.toNat, 176, 128]
def k0_off292 (i : grid0.Coords) (k0_t4 : Fin (k0_t4_loop i).trips) : Fin 3 → Nat :=
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v1378 : Index := Scalar.indexCast arg20
  let c184_637 : Index := 184#32
  let c128_638 : Index := 128#32
  ![v1378.toNat, 184, 128]
def k0_off293 (i : grid0.Coords) (k0_t4 : Fin (k0_t4_loop i).trips) : Fin 3 → Nat :=
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v1381 : Index := Scalar.indexCast arg20
  let c192_639 : Index := 192#32
  let c128_640 : Index := 128#32
  ![v1381.toNat, 192, 128]
def k0_off294 (i : grid0.Coords) (k0_t4 : Fin (k0_t4_loop i).trips) : Fin 3 → Nat :=
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v1384 : Index := Scalar.indexCast arg20
  let c200_641 : Index := 200#32
  let c128_642 : Index := 128#32
  ![v1384.toNat, 200, 128]
def k0_off295 (i : grid0.Coords) (k0_t4 : Fin (k0_t4_loop i).trips) : Fin 3 → Nat :=
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v1387 : Index := Scalar.indexCast arg20
  let c208_643 : Index := 208#32
  let c128_644 : Index := 128#32
  ![v1387.toNat, 208, 128]
def k0_off296 (i : grid0.Coords) (k0_t4 : Fin (k0_t4_loop i).trips) : Fin 3 → Nat :=
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v1390 : Index := Scalar.indexCast arg20
  let c216_645 : Index := 216#32
  let c128_646 : Index := 128#32
  ![v1390.toNat, 216, 128]
def k0_off297 (i : grid0.Coords) (k0_t4 : Fin (k0_t4_loop i).trips) : Fin 3 → Nat :=
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v1393 : Index := Scalar.indexCast arg20
  let c224_647 : Index := 224#32
  let c128_648 : Index := 128#32
  ![v1393.toNat, 224, 128]
def k0_off298 (i : grid0.Coords) (k0_t4 : Fin (k0_t4_loop i).trips) : Fin 3 → Nat :=
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v1396 : Index := Scalar.indexCast arg20
  let c232_649 : Index := 232#32
  let c128_650 : Index := 128#32
  ![v1396.toNat, 232, 128]
def k0_off299 (i : grid0.Coords) (k0_t4 : Fin (k0_t4_loop i).trips) : Fin 3 → Nat :=
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v1399 : Index := Scalar.indexCast arg20
  let c240_651 : Index := 240#32
  let c128_652 : Index := 128#32
  ![v1399.toNat, 240, 128]
def k0_off300 (i : grid0.Coords) (k0_t4 : Fin (k0_t4_loop i).trips) : Fin 3 → Nat :=
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v1402 : Index := Scalar.indexCast arg20
  let c248_653 : Index := 248#32
  let c128_654 : Index := 128#32
  ![v1402.toNat, 248, 128]
def k0_off301 (i : grid0.Coords) (k0_t4 : Fin (k0_t4_loop i).trips) (c0_i32_245 : BitVec 32) : Fin 4 → Nat :=
  let c0_896 : Index := 0#32
  let c2_i32_244 : BitVec 32 := 2#32
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v362 : BitVec 32 := Scalar.muli c2_i32_244 arg20
  let v363 : BitVec 32 := Scalar.addi v362 c0_i32_245
  let v2126 : Index := Scalar.indexCast v363
  let c0_897 : Index := 0#32
  let c128_898 : Index := 128#32
  ![0, v2126.toNat, 0, 128]
def k0_off302 (i : grid0.Coords) (k0_t4 : Fin (k0_t4_loop i).trips) (c0_i32_245 : BitVec 32) : Fin 4 → Nat :=
  let c1_899 : Index := 1#32
  let c2_i32_244 : BitVec 32 := 2#32
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v362 : BitVec 32 := Scalar.muli c2_i32_244 arg20
  let v363 : BitVec 32 := Scalar.addi v362 c0_i32_245
  let v2130 : Index := Scalar.indexCast v363
  let c0_900 : Index := 0#32
  let c128_901 : Index := 128#32
  ![1, v2130.toNat, 0, 128]
def k0_off303 (i : grid0.Coords) (k0_t4 : Fin (k0_t4_loop i).trips) (c0_i32_245 : BitVec 32) : Fin 4 → Nat :=
  let c2_902 : Index := 2#32
  let c2_i32_244 : BitVec 32 := 2#32
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v362 : BitVec 32 := Scalar.muli c2_i32_244 arg20
  let v363 : BitVec 32 := Scalar.addi v362 c0_i32_245
  let v2134 : Index := Scalar.indexCast v363
  let c0_903 : Index := 0#32
  let c128_904 : Index := 128#32
  ![2, v2134.toNat, 0, 128]
def k0_off304 (i : grid0.Coords) (k0_t4 : Fin (k0_t4_loop i).trips) (c0_i32_245 : BitVec 32) : Fin 4 → Nat :=
  let c3_905 : Index := 3#32
  let c2_i32_244 : BitVec 32 := 2#32
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v362 : BitVec 32 := Scalar.muli c2_i32_244 arg20
  let v363 : BitVec 32 := Scalar.addi v362 c0_i32_245
  let v2138 : Index := Scalar.indexCast v363
  let c0_906 : Index := 0#32
  let c128_907 : Index := 128#32
  ![3, v2138.toNat, 0, 128]
def k0_off305 (i : grid0.Coords) (k0_t4 : Fin (k0_t4_loop i).trips) (c0_i32_245 : BitVec 32) : Fin 4 → Nat :=
  let c4_908 : Index := 4#32
  let c2_i32_244 : BitVec 32 := 2#32
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v362 : BitVec 32 := Scalar.muli c2_i32_244 arg20
  let v363 : BitVec 32 := Scalar.addi v362 c0_i32_245
  let v2142 : Index := Scalar.indexCast v363
  let c0_909 : Index := 0#32
  let c128_910 : Index := 128#32
  ![4, v2142.toNat, 0, 128]
def k0_off306 (i : grid0.Coords) (k0_t4 : Fin (k0_t4_loop i).trips) (c0_i32_245 : BitVec 32) : Fin 4 → Nat :=
  let c5_911 : Index := 5#32
  let c2_i32_244 : BitVec 32 := 2#32
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v362 : BitVec 32 := Scalar.muli c2_i32_244 arg20
  let v363 : BitVec 32 := Scalar.addi v362 c0_i32_245
  let v2146 : Index := Scalar.indexCast v363
  let c0_912 : Index := 0#32
  let c128_913 : Index := 128#32
  ![5, v2146.toNat, 0, 128]
def k0_off307 (i : grid0.Coords) (k0_t4 : Fin (k0_t4_loop i).trips) (c0_i32_245 : BitVec 32) : Fin 4 → Nat :=
  let c6_914 : Index := 6#32
  let c2_i32_244 : BitVec 32 := 2#32
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v362 : BitVec 32 := Scalar.muli c2_i32_244 arg20
  let v363 : BitVec 32 := Scalar.addi v362 c0_i32_245
  let v2150 : Index := Scalar.indexCast v363
  let c0_915 : Index := 0#32
  let c128_916 : Index := 128#32
  ![6, v2150.toNat, 0, 128]
def k0_off308 (i : grid0.Coords) (k0_t4 : Fin (k0_t4_loop i).trips) (c0_i32_245 : BitVec 32) : Fin 4 → Nat :=
  let c7_917 : Index := 7#32
  let c2_i32_244 : BitVec 32 := 2#32
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v362 : BitVec 32 := Scalar.muli c2_i32_244 arg20
  let v363 : BitVec 32 := Scalar.addi v362 c0_i32_245
  let v2154 : Index := Scalar.indexCast v363
  let c0_918 : Index := 0#32
  let c128_919 : Index := 128#32
  ![7, v2154.toNat, 0, 128]
def k0_off309 (i : grid0.Coords) (k0_t4 : Fin (k0_t4_loop i).trips) (c0_i32_245 : BitVec 32) : Fin 4 → Nat :=
  let c8_920 : Index := 8#32
  let c2_i32_244 : BitVec 32 := 2#32
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v362 : BitVec 32 := Scalar.muli c2_i32_244 arg20
  let v363 : BitVec 32 := Scalar.addi v362 c0_i32_245
  let v2158 : Index := Scalar.indexCast v363
  let c0_921 : Index := 0#32
  let c128_922 : Index := 128#32
  ![8, v2158.toNat, 0, 128]
def k0_off310 (i : grid0.Coords) (k0_t4 : Fin (k0_t4_loop i).trips) (c0_i32_245 : BitVec 32) : Fin 4 → Nat :=
  let c9_923 : Index := 9#32
  let c2_i32_244 : BitVec 32 := 2#32
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v362 : BitVec 32 := Scalar.muli c2_i32_244 arg20
  let v363 : BitVec 32 := Scalar.addi v362 c0_i32_245
  let v2162 : Index := Scalar.indexCast v363
  let c0_924 : Index := 0#32
  let c128_925 : Index := 128#32
  ![9, v2162.toNat, 0, 128]
def k0_off311 (i : grid0.Coords) (k0_t4 : Fin (k0_t4_loop i).trips) (c0_i32_245 : BitVec 32) : Fin 4 → Nat :=
  let c10_926 : Index := 10#32
  let c2_i32_244 : BitVec 32 := 2#32
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v362 : BitVec 32 := Scalar.muli c2_i32_244 arg20
  let v363 : BitVec 32 := Scalar.addi v362 c0_i32_245
  let v2166 : Index := Scalar.indexCast v363
  let c0_927 : Index := 0#32
  let c128_928 : Index := 128#32
  ![10, v2166.toNat, 0, 128]
def k0_off312 (i : grid0.Coords) (k0_t4 : Fin (k0_t4_loop i).trips) (c0_i32_245 : BitVec 32) : Fin 4 → Nat :=
  let c11_929 : Index := 11#32
  let c2_i32_244 : BitVec 32 := 2#32
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v362 : BitVec 32 := Scalar.muli c2_i32_244 arg20
  let v363 : BitVec 32 := Scalar.addi v362 c0_i32_245
  let v2170 : Index := Scalar.indexCast v363
  let c0_930 : Index := 0#32
  let c128_931 : Index := 128#32
  ![11, v2170.toNat, 0, 128]
def k0_off313 (i : grid0.Coords) (k0_t4 : Fin (k0_t4_loop i).trips) (c0_i32_245 : BitVec 32) : Fin 4 → Nat :=
  let c12_932 : Index := 12#32
  let c2_i32_244 : BitVec 32 := 2#32
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v362 : BitVec 32 := Scalar.muli c2_i32_244 arg20
  let v363 : BitVec 32 := Scalar.addi v362 c0_i32_245
  let v2174 : Index := Scalar.indexCast v363
  let c0_933 : Index := 0#32
  let c128_934 : Index := 128#32
  ![12, v2174.toNat, 0, 128]
def k0_off314 (i : grid0.Coords) (k0_t4 : Fin (k0_t4_loop i).trips) (c0_i32_245 : BitVec 32) : Fin 4 → Nat :=
  let c13_935 : Index := 13#32
  let c2_i32_244 : BitVec 32 := 2#32
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v362 : BitVec 32 := Scalar.muli c2_i32_244 arg20
  let v363 : BitVec 32 := Scalar.addi v362 c0_i32_245
  let v2178 : Index := Scalar.indexCast v363
  let c0_936 : Index := 0#32
  let c128_937 : Index := 128#32
  ![13, v2178.toNat, 0, 128]
def k0_off315 (i : grid0.Coords) (k0_t4 : Fin (k0_t4_loop i).trips) (c0_i32_245 : BitVec 32) : Fin 4 → Nat :=
  let c14_938 : Index := 14#32
  let c2_i32_244 : BitVec 32 := 2#32
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v362 : BitVec 32 := Scalar.muli c2_i32_244 arg20
  let v363 : BitVec 32 := Scalar.addi v362 c0_i32_245
  let v2182 : Index := Scalar.indexCast v363
  let c0_939 : Index := 0#32
  let c128_940 : Index := 128#32
  ![14, v2182.toNat, 0, 128]
def k0_off316 (i : grid0.Coords) (k0_t4 : Fin (k0_t4_loop i).trips) (c0_i32_245 : BitVec 32) : Fin 4 → Nat :=
  let c15_941 : Index := 15#32
  let c2_i32_244 : BitVec 32 := 2#32
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v362 : BitVec 32 := Scalar.muli c2_i32_244 arg20
  let v363 : BitVec 32 := Scalar.addi v362 c0_i32_245
  let v2186 : Index := Scalar.indexCast v363
  let c0_942 : Index := 0#32
  let c128_943 : Index := 128#32
  ![15, v2186.toNat, 0, 128]
def k0_off317 (i : grid0.Coords) (k0_t4 : Fin (k0_t4_loop i).trips) (c0_i32_245 : BitVec 32) : Fin 4 → Nat :=
  let c16_944 : Index := 16#32
  let c2_i32_244 : BitVec 32 := 2#32
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v362 : BitVec 32 := Scalar.muli c2_i32_244 arg20
  let v363 : BitVec 32 := Scalar.addi v362 c0_i32_245
  let v2190 : Index := Scalar.indexCast v363
  let c0_945 : Index := 0#32
  let c128_946 : Index := 128#32
  ![16, v2190.toNat, 0, 128]
def k0_off318 (i : grid0.Coords) (k0_t4 : Fin (k0_t4_loop i).trips) (c0_i32_245 : BitVec 32) : Fin 4 → Nat :=
  let c17_947 : Index := 17#32
  let c2_i32_244 : BitVec 32 := 2#32
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v362 : BitVec 32 := Scalar.muli c2_i32_244 arg20
  let v363 : BitVec 32 := Scalar.addi v362 c0_i32_245
  let v2194 : Index := Scalar.indexCast v363
  let c0_948 : Index := 0#32
  let c128_949 : Index := 128#32
  ![17, v2194.toNat, 0, 128]
def k0_off319 (i : grid0.Coords) (k0_t4 : Fin (k0_t4_loop i).trips) (c0_i32_245 : BitVec 32) : Fin 4 → Nat :=
  let c18_950 : Index := 18#32
  let c2_i32_244 : BitVec 32 := 2#32
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v362 : BitVec 32 := Scalar.muli c2_i32_244 arg20
  let v363 : BitVec 32 := Scalar.addi v362 c0_i32_245
  let v2198 : Index := Scalar.indexCast v363
  let c0_951 : Index := 0#32
  let c128_952 : Index := 128#32
  ![18, v2198.toNat, 0, 128]
def k0_off320 (i : grid0.Coords) (k0_t4 : Fin (k0_t4_loop i).trips) (c0_i32_245 : BitVec 32) : Fin 4 → Nat :=
  let c19_953 : Index := 19#32
  let c2_i32_244 : BitVec 32 := 2#32
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v362 : BitVec 32 := Scalar.muli c2_i32_244 arg20
  let v363 : BitVec 32 := Scalar.addi v362 c0_i32_245
  let v2202 : Index := Scalar.indexCast v363
  let c0_954 : Index := 0#32
  let c128_955 : Index := 128#32
  ![19, v2202.toNat, 0, 128]
def k0_off321 (i : grid0.Coords) (k0_t4 : Fin (k0_t4_loop i).trips) (c0_i32_245 : BitVec 32) : Fin 4 → Nat :=
  let c20_956 : Index := 20#32
  let c2_i32_244 : BitVec 32 := 2#32
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v362 : BitVec 32 := Scalar.muli c2_i32_244 arg20
  let v363 : BitVec 32 := Scalar.addi v362 c0_i32_245
  let v2206 : Index := Scalar.indexCast v363
  let c0_957 : Index := 0#32
  let c128_958 : Index := 128#32
  ![20, v2206.toNat, 0, 128]
def k0_off322 (i : grid0.Coords) (k0_t4 : Fin (k0_t4_loop i).trips) (c0_i32_245 : BitVec 32) : Fin 4 → Nat :=
  let c21_959 : Index := 21#32
  let c2_i32_244 : BitVec 32 := 2#32
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v362 : BitVec 32 := Scalar.muli c2_i32_244 arg20
  let v363 : BitVec 32 := Scalar.addi v362 c0_i32_245
  let v2210 : Index := Scalar.indexCast v363
  let c0_960 : Index := 0#32
  let c128_961 : Index := 128#32
  ![21, v2210.toNat, 0, 128]
def k0_off323 (i : grid0.Coords) (k0_t4 : Fin (k0_t4_loop i).trips) (c0_i32_245 : BitVec 32) : Fin 4 → Nat :=
  let c22_962 : Index := 22#32
  let c2_i32_244 : BitVec 32 := 2#32
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v362 : BitVec 32 := Scalar.muli c2_i32_244 arg20
  let v363 : BitVec 32 := Scalar.addi v362 c0_i32_245
  let v2214 : Index := Scalar.indexCast v363
  let c0_963 : Index := 0#32
  let c128_964 : Index := 128#32
  ![22, v2214.toNat, 0, 128]
def k0_off324 (i : grid0.Coords) (k0_t4 : Fin (k0_t4_loop i).trips) (c0_i32_245 : BitVec 32) : Fin 4 → Nat :=
  let c23_965 : Index := 23#32
  let c2_i32_244 : BitVec 32 := 2#32
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v362 : BitVec 32 := Scalar.muli c2_i32_244 arg20
  let v363 : BitVec 32 := Scalar.addi v362 c0_i32_245
  let v2218 : Index := Scalar.indexCast v363
  let c0_966 : Index := 0#32
  let c128_967 : Index := 128#32
  ![23, v2218.toNat, 0, 128]
def k0_off325 (i : grid0.Coords) (k0_t4 : Fin (k0_t4_loop i).trips) (c0_i32_245 : BitVec 32) : Fin 4 → Nat :=
  let c24_968 : Index := 24#32
  let c2_i32_244 : BitVec 32 := 2#32
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v362 : BitVec 32 := Scalar.muli c2_i32_244 arg20
  let v363 : BitVec 32 := Scalar.addi v362 c0_i32_245
  let v2222 : Index := Scalar.indexCast v363
  let c0_969 : Index := 0#32
  let c128_970 : Index := 128#32
  ![24, v2222.toNat, 0, 128]
def k0_off326 (i : grid0.Coords) (k0_t4 : Fin (k0_t4_loop i).trips) (c0_i32_245 : BitVec 32) : Fin 4 → Nat :=
  let c25_971 : Index := 25#32
  let c2_i32_244 : BitVec 32 := 2#32
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v362 : BitVec 32 := Scalar.muli c2_i32_244 arg20
  let v363 : BitVec 32 := Scalar.addi v362 c0_i32_245
  let v2226 : Index := Scalar.indexCast v363
  let c0_972 : Index := 0#32
  let c128_973 : Index := 128#32
  ![25, v2226.toNat, 0, 128]
def k0_off327 (i : grid0.Coords) (k0_t4 : Fin (k0_t4_loop i).trips) (c0_i32_245 : BitVec 32) : Fin 4 → Nat :=
  let c26_974 : Index := 26#32
  let c2_i32_244 : BitVec 32 := 2#32
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v362 : BitVec 32 := Scalar.muli c2_i32_244 arg20
  let v363 : BitVec 32 := Scalar.addi v362 c0_i32_245
  let v2230 : Index := Scalar.indexCast v363
  let c0_975 : Index := 0#32
  let c128_976 : Index := 128#32
  ![26, v2230.toNat, 0, 128]
def k0_off328 (i : grid0.Coords) (k0_t4 : Fin (k0_t4_loop i).trips) (c0_i32_245 : BitVec 32) : Fin 4 → Nat :=
  let c27_977 : Index := 27#32
  let c2_i32_244 : BitVec 32 := 2#32
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v362 : BitVec 32 := Scalar.muli c2_i32_244 arg20
  let v363 : BitVec 32 := Scalar.addi v362 c0_i32_245
  let v2234 : Index := Scalar.indexCast v363
  let c0_978 : Index := 0#32
  let c128_979 : Index := 128#32
  ![27, v2234.toNat, 0, 128]
def k0_off329 (i : grid0.Coords) (k0_t4 : Fin (k0_t4_loop i).trips) (c0_i32_245 : BitVec 32) : Fin 4 → Nat :=
  let c28_980 : Index := 28#32
  let c2_i32_244 : BitVec 32 := 2#32
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v362 : BitVec 32 := Scalar.muli c2_i32_244 arg20
  let v363 : BitVec 32 := Scalar.addi v362 c0_i32_245
  let v2238 : Index := Scalar.indexCast v363
  let c0_981 : Index := 0#32
  let c128_982 : Index := 128#32
  ![28, v2238.toNat, 0, 128]
def k0_off330 (i : grid0.Coords) (k0_t4 : Fin (k0_t4_loop i).trips) (c0_i32_245 : BitVec 32) : Fin 4 → Nat :=
  let c29_983 : Index := 29#32
  let c2_i32_244 : BitVec 32 := 2#32
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v362 : BitVec 32 := Scalar.muli c2_i32_244 arg20
  let v363 : BitVec 32 := Scalar.addi v362 c0_i32_245
  let v2242 : Index := Scalar.indexCast v363
  let c0_984 : Index := 0#32
  let c128_985 : Index := 128#32
  ![29, v2242.toNat, 0, 128]
def k0_off331 (i : grid0.Coords) (k0_t4 : Fin (k0_t4_loop i).trips) (c0_i32_245 : BitVec 32) : Fin 4 → Nat :=
  let c30_986 : Index := 30#32
  let c2_i32_244 : BitVec 32 := 2#32
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v362 : BitVec 32 := Scalar.muli c2_i32_244 arg20
  let v363 : BitVec 32 := Scalar.addi v362 c0_i32_245
  let v2246 : Index := Scalar.indexCast v363
  let c0_987 : Index := 0#32
  let c128_988 : Index := 128#32
  ![30, v2246.toNat, 0, 128]
def k0_off332 (i : grid0.Coords) (k0_t4 : Fin (k0_t4_loop i).trips) (c0_i32_245 : BitVec 32) : Fin 4 → Nat :=
  let c31_989 : Index := 31#32
  let c2_i32_244 : BitVec 32 := 2#32
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v362 : BitVec 32 := Scalar.muli c2_i32_244 arg20
  let v363 : BitVec 32 := Scalar.addi v362 c0_i32_245
  let v2250 : Index := Scalar.indexCast v363
  let c0_990 : Index := 0#32
  let c128_991 : Index := 128#32
  ![31, v2250.toNat, 0, 128]
def k0_off333 (i : grid0.Coords) (k0_t4 : Fin (k0_t4_loop i).trips) (c0_i32_245 : BitVec 32) : Fin 3 → Nat :=
  let c2_i32_244 : BitVec 32 := 2#32
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v362 : BitVec 32 := Scalar.muli c2_i32_244 arg20
  let v363 : BitVec 32 := Scalar.addi v362 c0_i32_245
  let v2255 : Index := Scalar.indexCast v363
  let c0_993 : Index := 0#32
  let c0_994 : Index := 0#32
  ![v2255.toNat, 0, 0]
def k0_off334 (i : grid0.Coords) (k0_t4 : Fin (k0_t4_loop i).trips) : Fin 3 → Nat :=
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v2261 : Index := Scalar.indexCast arg20
  let c256_997 : Index := 256#32
  let c0_998 : Index := 0#32
  ![v2261.toNat, 256, 0]
def k0_off335 (i : grid0.Coords) (k0_t4 : Fin (k0_t4_loop i).trips) : Fin 3 → Nat :=
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v2264 : Index := Scalar.indexCast arg20
  let c264 : Index := 264#32
  let c0_999 : Index := 0#32
  ![v2264.toNat, 264, 0]
def k0_off336 (i : grid0.Coords) (k0_t4 : Fin (k0_t4_loop i).trips) : Fin 3 → Nat :=
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v2267 : Index := Scalar.indexCast arg20
  let c272 : Index := 272#32
  let c0_1000 : Index := 0#32
  ![v2267.toNat, 272, 0]
def k0_off337 (i : grid0.Coords) (k0_t4 : Fin (k0_t4_loop i).trips) : Fin 3 → Nat :=
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v2270 : Index := Scalar.indexCast arg20
  let c280 : Index := 280#32
  let c0_1001 : Index := 0#32
  ![v2270.toNat, 280, 0]
def k0_off338 (i : grid0.Coords) (k0_t4 : Fin (k0_t4_loop i).trips) : Fin 3 → Nat :=
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v2273 : Index := Scalar.indexCast arg20
  let c288 : Index := 288#32
  let c0_1002 : Index := 0#32
  ![v2273.toNat, 288, 0]
def k0_off339 (i : grid0.Coords) (k0_t4 : Fin (k0_t4_loop i).trips) : Fin 3 → Nat :=
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v2276 : Index := Scalar.indexCast arg20
  let c296 : Index := 296#32
  let c0_1003 : Index := 0#32
  ![v2276.toNat, 296, 0]
def k0_off340 (i : grid0.Coords) (k0_t4 : Fin (k0_t4_loop i).trips) : Fin 3 → Nat :=
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v2279 : Index := Scalar.indexCast arg20
  let c304 : Index := 304#32
  let c0_1004 : Index := 0#32
  ![v2279.toNat, 304, 0]
def k0_off341 (i : grid0.Coords) (k0_t4 : Fin (k0_t4_loop i).trips) : Fin 3 → Nat :=
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v2282 : Index := Scalar.indexCast arg20
  let c312 : Index := 312#32
  let c0_1005 : Index := 0#32
  ![v2282.toNat, 312, 0]
def k0_off342 (i : grid0.Coords) (k0_t4 : Fin (k0_t4_loop i).trips) : Fin 3 → Nat :=
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v2285 : Index := Scalar.indexCast arg20
  let c320_1006 : Index := 320#32
  let c0_1007 : Index := 0#32
  ![v2285.toNat, 320, 0]
def k0_off343 (i : grid0.Coords) (k0_t4 : Fin (k0_t4_loop i).trips) : Fin 3 → Nat :=
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v2288 : Index := Scalar.indexCast arg20
  let c328 : Index := 328#32
  let c0_1008 : Index := 0#32
  ![v2288.toNat, 328, 0]
def k0_off344 (i : grid0.Coords) (k0_t4 : Fin (k0_t4_loop i).trips) : Fin 3 → Nat :=
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v2291 : Index := Scalar.indexCast arg20
  let c336 : Index := 336#32
  let c0_1009 : Index := 0#32
  ![v2291.toNat, 336, 0]
def k0_off345 (i : grid0.Coords) (k0_t4 : Fin (k0_t4_loop i).trips) : Fin 3 → Nat :=
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v2294 : Index := Scalar.indexCast arg20
  let c344 : Index := 344#32
  let c0_1010 : Index := 0#32
  ![v2294.toNat, 344, 0]
def k0_off346 (i : grid0.Coords) (k0_t4 : Fin (k0_t4_loop i).trips) : Fin 3 → Nat :=
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v2297 : Index := Scalar.indexCast arg20
  let c352 : Index := 352#32
  let c0_1011 : Index := 0#32
  ![v2297.toNat, 352, 0]
def k0_off347 (i : grid0.Coords) (k0_t4 : Fin (k0_t4_loop i).trips) : Fin 3 → Nat :=
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v2300 : Index := Scalar.indexCast arg20
  let c360 : Index := 360#32
  let c0_1012 : Index := 0#32
  ![v2300.toNat, 360, 0]
def k0_off348 (i : grid0.Coords) (k0_t4 : Fin (k0_t4_loop i).trips) : Fin 3 → Nat :=
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v2303 : Index := Scalar.indexCast arg20
  let c368 : Index := 368#32
  let c0_1013 : Index := 0#32
  ![v2303.toNat, 368, 0]
def k0_off349 (i : grid0.Coords) (k0_t4 : Fin (k0_t4_loop i).trips) : Fin 3 → Nat :=
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v2306 : Index := Scalar.indexCast arg20
  let c376 : Index := 376#32
  let c0_1014 : Index := 0#32
  ![v2306.toNat, 376, 0]
def k0_off350 (i : grid0.Coords) (k0_t4 : Fin (k0_t4_loop i).trips) : Fin 3 → Nat :=
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v2309 : Index := Scalar.indexCast arg20
  let c384_1015 : Index := 384#32
  let c0_1016 : Index := 0#32
  ![v2309.toNat, 384, 0]
def k0_off351 (i : grid0.Coords) (k0_t4 : Fin (k0_t4_loop i).trips) : Fin 3 → Nat :=
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v2312 : Index := Scalar.indexCast arg20
  let c392 : Index := 392#32
  let c0_1017 : Index := 0#32
  ![v2312.toNat, 392, 0]
def k0_off352 (i : grid0.Coords) (k0_t4 : Fin (k0_t4_loop i).trips) : Fin 3 → Nat :=
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v2315 : Index := Scalar.indexCast arg20
  let c400 : Index := 400#32
  let c0_1018 : Index := 0#32
  ![v2315.toNat, 400, 0]
def k0_off353 (i : grid0.Coords) (k0_t4 : Fin (k0_t4_loop i).trips) : Fin 3 → Nat :=
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v2318 : Index := Scalar.indexCast arg20
  let c408 : Index := 408#32
  let c0_1019 : Index := 0#32
  ![v2318.toNat, 408, 0]
def k0_off354 (i : grid0.Coords) (k0_t4 : Fin (k0_t4_loop i).trips) : Fin 3 → Nat :=
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v2321 : Index := Scalar.indexCast arg20
  let c416 : Index := 416#32
  let c0_1020 : Index := 0#32
  ![v2321.toNat, 416, 0]
def k0_off355 (i : grid0.Coords) (k0_t4 : Fin (k0_t4_loop i).trips) : Fin 3 → Nat :=
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v2324 : Index := Scalar.indexCast arg20
  let c424 : Index := 424#32
  let c0_1021 : Index := 0#32
  ![v2324.toNat, 424, 0]
def k0_off356 (i : grid0.Coords) (k0_t4 : Fin (k0_t4_loop i).trips) : Fin 3 → Nat :=
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v2327 : Index := Scalar.indexCast arg20
  let c432 : Index := 432#32
  let c0_1022 : Index := 0#32
  ![v2327.toNat, 432, 0]
def k0_off357 (i : grid0.Coords) (k0_t4 : Fin (k0_t4_loop i).trips) : Fin 3 → Nat :=
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v2330 : Index := Scalar.indexCast arg20
  let c440 : Index := 440#32
  let c0_1023 : Index := 0#32
  ![v2330.toNat, 440, 0]
def k0_off358 (i : grid0.Coords) (k0_t4 : Fin (k0_t4_loop i).trips) : Fin 3 → Nat :=
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v2333 : Index := Scalar.indexCast arg20
  let c448_1024 : Index := 448#32
  let c0_1025 : Index := 0#32
  ![v2333.toNat, 448, 0]
def k0_off359 (i : grid0.Coords) (k0_t4 : Fin (k0_t4_loop i).trips) : Fin 3 → Nat :=
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v2336 : Index := Scalar.indexCast arg20
  let c456 : Index := 456#32
  let c0_1026 : Index := 0#32
  ![v2336.toNat, 456, 0]
def k0_off360 (i : grid0.Coords) (k0_t4 : Fin (k0_t4_loop i).trips) : Fin 3 → Nat :=
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v2339 : Index := Scalar.indexCast arg20
  let c464 : Index := 464#32
  let c0_1027 : Index := 0#32
  ![v2339.toNat, 464, 0]
def k0_off361 (i : grid0.Coords) (k0_t4 : Fin (k0_t4_loop i).trips) : Fin 3 → Nat :=
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v2342 : Index := Scalar.indexCast arg20
  let c472 : Index := 472#32
  let c0_1028 : Index := 0#32
  ![v2342.toNat, 472, 0]
def k0_off362 (i : grid0.Coords) (k0_t4 : Fin (k0_t4_loop i).trips) : Fin 3 → Nat :=
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v2345 : Index := Scalar.indexCast arg20
  let c480 : Index := 480#32
  let c0_1029 : Index := 0#32
  ![v2345.toNat, 480, 0]
def k0_off363 (i : grid0.Coords) (k0_t4 : Fin (k0_t4_loop i).trips) : Fin 3 → Nat :=
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v2348 : Index := Scalar.indexCast arg20
  let c488 : Index := 488#32
  let c0_1030 : Index := 0#32
  ![v2348.toNat, 488, 0]
def k0_off364 (i : grid0.Coords) (k0_t4 : Fin (k0_t4_loop i).trips) : Fin 3 → Nat :=
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v2351 : Index := Scalar.indexCast arg20
  let c496 : Index := 496#32
  let c0_1031 : Index := 0#32
  ![v2351.toNat, 496, 0]
def k0_off365 (i : grid0.Coords) (k0_t4 : Fin (k0_t4_loop i).trips) : Fin 3 → Nat :=
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v2354 : Index := Scalar.indexCast arg20
  let c504 : Index := 504#32
  let c0_1032 : Index := 0#32
  ![v2354.toNat, 504, 0]
def k0_off366 (i : grid0.Coords) (k0_t4 : Fin (k0_t4_loop i).trips) : Fin 3 → Nat :=
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v3206 : Index := Scalar.indexCast arg20
  let c256_1370 : Index := 256#32
  let c128_1371 : Index := 128#32
  ![v3206.toNat, 256, 128]
def k0_off367 (i : grid0.Coords) (k0_t4 : Fin (k0_t4_loop i).trips) : Fin 3 → Nat :=
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v3209 : Index := Scalar.indexCast arg20
  let c264_1372 : Index := 264#32
  let c128_1373 : Index := 128#32
  ![v3209.toNat, 264, 128]
def k0_off368 (i : grid0.Coords) (k0_t4 : Fin (k0_t4_loop i).trips) : Fin 3 → Nat :=
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v3212 : Index := Scalar.indexCast arg20
  let c272_1374 : Index := 272#32
  let c128_1375 : Index := 128#32
  ![v3212.toNat, 272, 128]
def k0_off369 (i : grid0.Coords) (k0_t4 : Fin (k0_t4_loop i).trips) : Fin 3 → Nat :=
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v3215 : Index := Scalar.indexCast arg20
  let c280_1376 : Index := 280#32
  let c128_1377 : Index := 128#32
  ![v3215.toNat, 280, 128]
def k0_off370 (i : grid0.Coords) (k0_t4 : Fin (k0_t4_loop i).trips) : Fin 3 → Nat :=
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v3218 : Index := Scalar.indexCast arg20
  let c288_1378 : Index := 288#32
  let c128_1379 : Index := 128#32
  ![v3218.toNat, 288, 128]
def k0_off371 (i : grid0.Coords) (k0_t4 : Fin (k0_t4_loop i).trips) : Fin 3 → Nat :=
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v3221 : Index := Scalar.indexCast arg20
  let c296_1380 : Index := 296#32
  let c128_1381 : Index := 128#32
  ![v3221.toNat, 296, 128]
def k0_off372 (i : grid0.Coords) (k0_t4 : Fin (k0_t4_loop i).trips) : Fin 3 → Nat :=
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v3224 : Index := Scalar.indexCast arg20
  let c304_1382 : Index := 304#32
  let c128_1383 : Index := 128#32
  ![v3224.toNat, 304, 128]
def k0_off373 (i : grid0.Coords) (k0_t4 : Fin (k0_t4_loop i).trips) : Fin 3 → Nat :=
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v3227 : Index := Scalar.indexCast arg20
  let c312_1384 : Index := 312#32
  let c128_1385 : Index := 128#32
  ![v3227.toNat, 312, 128]
def k0_off374 (i : grid0.Coords) (k0_t4 : Fin (k0_t4_loop i).trips) : Fin 3 → Nat :=
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v3230 : Index := Scalar.indexCast arg20
  let c320_1386 : Index := 320#32
  let c128_1387 : Index := 128#32
  ![v3230.toNat, 320, 128]
def k0_off375 (i : grid0.Coords) (k0_t4 : Fin (k0_t4_loop i).trips) : Fin 3 → Nat :=
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v3233 : Index := Scalar.indexCast arg20
  let c328_1388 : Index := 328#32
  let c128_1389 : Index := 128#32
  ![v3233.toNat, 328, 128]
def k0_off376 (i : grid0.Coords) (k0_t4 : Fin (k0_t4_loop i).trips) : Fin 3 → Nat :=
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v3236 : Index := Scalar.indexCast arg20
  let c336_1390 : Index := 336#32
  let c128_1391 : Index := 128#32
  ![v3236.toNat, 336, 128]
def k0_off377 (i : grid0.Coords) (k0_t4 : Fin (k0_t4_loop i).trips) : Fin 3 → Nat :=
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v3239 : Index := Scalar.indexCast arg20
  let c344_1392 : Index := 344#32
  let c128_1393 : Index := 128#32
  ![v3239.toNat, 344, 128]
def k0_off378 (i : grid0.Coords) (k0_t4 : Fin (k0_t4_loop i).trips) : Fin 3 → Nat :=
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v3242 : Index := Scalar.indexCast arg20
  let c352_1394 : Index := 352#32
  let c128_1395 : Index := 128#32
  ![v3242.toNat, 352, 128]
def k0_off379 (i : grid0.Coords) (k0_t4 : Fin (k0_t4_loop i).trips) : Fin 3 → Nat :=
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v3245 : Index := Scalar.indexCast arg20
  let c360_1396 : Index := 360#32
  let c128_1397 : Index := 128#32
  ![v3245.toNat, 360, 128]
def k0_off380 (i : grid0.Coords) (k0_t4 : Fin (k0_t4_loop i).trips) : Fin 3 → Nat :=
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v3248 : Index := Scalar.indexCast arg20
  let c368_1398 : Index := 368#32
  let c128_1399 : Index := 128#32
  ![v3248.toNat, 368, 128]
def k0_off381 (i : grid0.Coords) (k0_t4 : Fin (k0_t4_loop i).trips) : Fin 3 → Nat :=
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v3251 : Index := Scalar.indexCast arg20
  let c376_1400 : Index := 376#32
  let c128_1401 : Index := 128#32
  ![v3251.toNat, 376, 128]
def k0_off382 (i : grid0.Coords) (k0_t4 : Fin (k0_t4_loop i).trips) : Fin 3 → Nat :=
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v3254 : Index := Scalar.indexCast arg20
  let c384_1402 : Index := 384#32
  let c128_1403 : Index := 128#32
  ![v3254.toNat, 384, 128]
def k0_off383 (i : grid0.Coords) (k0_t4 : Fin (k0_t4_loop i).trips) : Fin 3 → Nat :=
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v3257 : Index := Scalar.indexCast arg20
  let c392_1404 : Index := 392#32
  let c128_1405 : Index := 128#32
  ![v3257.toNat, 392, 128]
def k0_off384 (i : grid0.Coords) (k0_t4 : Fin (k0_t4_loop i).trips) : Fin 3 → Nat :=
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v3260 : Index := Scalar.indexCast arg20
  let c400_1406 : Index := 400#32
  let c128_1407 : Index := 128#32
  ![v3260.toNat, 400, 128]
def k0_off385 (i : grid0.Coords) (k0_t4 : Fin (k0_t4_loop i).trips) : Fin 3 → Nat :=
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v3263 : Index := Scalar.indexCast arg20
  let c408_1408 : Index := 408#32
  let c128_1409 : Index := 128#32
  ![v3263.toNat, 408, 128]
def k0_off386 (i : grid0.Coords) (k0_t4 : Fin (k0_t4_loop i).trips) : Fin 3 → Nat :=
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v3266 : Index := Scalar.indexCast arg20
  let c416_1410 : Index := 416#32
  let c128_1411 : Index := 128#32
  ![v3266.toNat, 416, 128]
def k0_off387 (i : grid0.Coords) (k0_t4 : Fin (k0_t4_loop i).trips) : Fin 3 → Nat :=
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v3269 : Index := Scalar.indexCast arg20
  let c424_1412 : Index := 424#32
  let c128_1413 : Index := 128#32
  ![v3269.toNat, 424, 128]
def k0_off388 (i : grid0.Coords) (k0_t4 : Fin (k0_t4_loop i).trips) : Fin 3 → Nat :=
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v3272 : Index := Scalar.indexCast arg20
  let c432_1414 : Index := 432#32
  let c128_1415 : Index := 128#32
  ![v3272.toNat, 432, 128]
def k0_off389 (i : grid0.Coords) (k0_t4 : Fin (k0_t4_loop i).trips) : Fin 3 → Nat :=
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v3275 : Index := Scalar.indexCast arg20
  let c440_1416 : Index := 440#32
  let c128_1417 : Index := 128#32
  ![v3275.toNat, 440, 128]
def k0_off390 (i : grid0.Coords) (k0_t4 : Fin (k0_t4_loop i).trips) : Fin 3 → Nat :=
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v3278 : Index := Scalar.indexCast arg20
  let c448_1418 : Index := 448#32
  let c128_1419 : Index := 128#32
  ![v3278.toNat, 448, 128]
def k0_off391 (i : grid0.Coords) (k0_t4 : Fin (k0_t4_loop i).trips) : Fin 3 → Nat :=
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v3281 : Index := Scalar.indexCast arg20
  let c456_1420 : Index := 456#32
  let c128_1421 : Index := 128#32
  ![v3281.toNat, 456, 128]
def k0_off392 (i : grid0.Coords) (k0_t4 : Fin (k0_t4_loop i).trips) : Fin 3 → Nat :=
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v3284 : Index := Scalar.indexCast arg20
  let c464_1422 : Index := 464#32
  let c128_1423 : Index := 128#32
  ![v3284.toNat, 464, 128]
def k0_off393 (i : grid0.Coords) (k0_t4 : Fin (k0_t4_loop i).trips) : Fin 3 → Nat :=
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v3287 : Index := Scalar.indexCast arg20
  let c472_1424 : Index := 472#32
  let c128_1425 : Index := 128#32
  ![v3287.toNat, 472, 128]
def k0_off394 (i : grid0.Coords) (k0_t4 : Fin (k0_t4_loop i).trips) : Fin 3 → Nat :=
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v3290 : Index := Scalar.indexCast arg20
  let c480_1426 : Index := 480#32
  let c128_1427 : Index := 128#32
  ![v3290.toNat, 480, 128]
def k0_off395 (i : grid0.Coords) (k0_t4 : Fin (k0_t4_loop i).trips) : Fin 3 → Nat :=
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v3293 : Index := Scalar.indexCast arg20
  let c488_1428 : Index := 488#32
  let c128_1429 : Index := 128#32
  ![v3293.toNat, 488, 128]
def k0_off396 (i : grid0.Coords) (k0_t4 : Fin (k0_t4_loop i).trips) : Fin 3 → Nat :=
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v3296 : Index := Scalar.indexCast arg20
  let c496_1430 : Index := 496#32
  let c128_1431 : Index := 128#32
  ![v3296.toNat, 496, 128]
def k0_off397 (i : grid0.Coords) (k0_t4 : Fin (k0_t4_loop i).trips) : Fin 3 → Nat :=
  let c0_i32_75 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v122 : BitVec 32 := Scalar.subi v18 c0_i32_75
  let c1_i32_76 : BitVec 32 := 1#32
  let v124 : BitVec 32 := Scalar.divsi v122 c1_i32_76
  let v125 : BitVec 32 := Scalar.muli v124 c1_i32_76
  let v126 : BitVec 32 := Scalar.addi c0_i32_75 v125
  let c1_i32_78 : BitVec 32 := 1#32
  let arg20 : BitVec 32 := Scf.iv v126 c1_i32_78 k0_t4
  let v3299 : Index := Scalar.indexCast arg20
  let c504_1432 : Index := 504#32
  let c128_1433 : Index := 128#32
  ![v3299.toNat, 504, 128]
@[reducible] def k0_t5_loop (i : grid0.Coords) : Scf.Loop 32 :=
  let c2_i32 : BitVec 32 := 2#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v95 : BitVec 32 := Scalar.muli c2_i32 v18
  let c8_i32_87 : BitVec 32 := 8#32
  let c8_i32 : BitVec 32 := 8#32
  let v127 : BitVec 32 := Scalar.addi v95 c8_i32
  let c1_i32_79 : BitVec 32 := 1#32
  let v128 : BitVec 32 := Scalar.subi v127 c1_i32_79
  let c0_i32_81 : BitVec 32 := 0#32
  let v130 : BitVec 1 := Scalar.cmpi .sgt v128 c0_i32_81
  let v131 : BitVec 32 := Scalar.extui v130
  let c0_i32_82 : BitVec 32 := 0#32
  let v132 : BitVec 1 := Scalar.cmpi .slt v128 c0_i32_82
  let v133 : BitVec 32 := Scalar.extui v132
  let v134 : BitVec 32 := Scalar.subi v131 v133
  let c8_i32_80 : BitVec 32 := 8#32
  let c0_i32_83 : BitVec 32 := 0#32
  let v135 : BitVec 1 := Scalar.cmpi .sgt c8_i32_80 c0_i32_83
  let v136 : BitVec 32 := Scalar.extui v135
  let c0_i32_84 : BitVec 32 := 0#32
  let v137 : BitVec 1 := Scalar.cmpi .slt c8_i32_80 c0_i32_84
  let v138 : BitVec 32 := Scalar.extui v137
  let v139 : BitVec 32 := Scalar.subi v136 v138
  let v140 : BitVec 1 := Scalar.cmpi .ne v134 v139
  let v141 : BitVec 32 := Scalar.remsi v128 c8_i32_80
  let c0_i32_85 : BitVec 32 := 0#32
  let v142 : BitVec 1 := Scalar.cmpi .ne v141 c0_i32_85
  let v143 : BitVec 1 := Scalar.andi v140 v142
  let v129 : BitVec 32 := Scalar.divsi v128 c8_i32_80
  let c1_i32_86 : BitVec 32 := 1#32
  let v144 : BitVec 32 := Scalar.subi v129 c1_i32_86
  let v145 : BitVec 32 := Scalar.select v143 v144 v129
  let v146 : BitVec 32 := Scalar.muli c8_i32_87 v145
  let v147 : BitVec 32 := Scalar.subi v146 v95
  let c1_i32_89 : BitVec 32 := 1#32
  let v149 : BitVec 32 := Scalar.divsi v147 c1_i32_89
  let v150 : BitVec 32 := Scalar.muli v149 c1_i32_89
  let v151 : BitVec 32 := Scalar.addi v95 v150
  let c1_i32_90 : BitVec 32 := 1#32
  ⟨v95, v151, c1_i32_90⟩
def k0_off398 (i : grid0.Coords) (k0_t5 : Fin (k0_t5_loop i).trips) : Fin 4 → Nat :=
  let c0_245 : Index := 0#32
  let c2_i32 : BitVec 32 := 2#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v95 : BitVec 32 := Scalar.muli c2_i32 v18
  let c1_i32_90 : BitVec 32 := 1#32
  let arg20 : BitVec 32 := Scf.iv v95 c1_i32_90 k0_t5
  let v363 : Index := Scalar.indexCast arg20
  let c0_246 : Index := 0#32
  let c0_247 : Index := 0#32
  ![0, v363.toNat, 0, 0]
def k0_off399 (i : grid0.Coords) (k0_t5 : Fin (k0_t5_loop i).trips) : Fin 3 → Nat :=
  let c2_i32 : BitVec 32 := 2#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v95 : BitVec 32 := Scalar.muli c2_i32 v18
  let c1_i32_90 : BitVec 32 := 1#32
  let arg20 : BitVec 32 := Scf.iv v95 c1_i32_90 k0_t5
  let v368 : Index := Scalar.indexCast arg20
  let c0_249 : Index := 0#32
  let c0_250 : Index := 0#32
  ![v368.toNat, 0, 0]
@[reducible] def k0_t6_loop (i : grid0.Coords) : Scf.Loop 32 :=
  let c2_i32 : BitVec 32 := 2#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v95 : BitVec 32 := Scalar.muli c2_i32 v18
  let c8_i32_87 : BitVec 32 := 8#32
  let c8_i32 : BitVec 32 := 8#32
  let v127 : BitVec 32 := Scalar.addi v95 c8_i32
  let c1_i32_79 : BitVec 32 := 1#32
  let v128 : BitVec 32 := Scalar.subi v127 c1_i32_79
  let c0_i32_81 : BitVec 32 := 0#32
  let v130 : BitVec 1 := Scalar.cmpi .sgt v128 c0_i32_81
  let v131 : BitVec 32 := Scalar.extui v130
  let c0_i32_82 : BitVec 32 := 0#32
  let v132 : BitVec 1 := Scalar.cmpi .slt v128 c0_i32_82
  let v133 : BitVec 32 := Scalar.extui v132
  let v134 : BitVec 32 := Scalar.subi v131 v133
  let c8_i32_80 : BitVec 32 := 8#32
  let c0_i32_83 : BitVec 32 := 0#32
  let v135 : BitVec 1 := Scalar.cmpi .sgt c8_i32_80 c0_i32_83
  let v136 : BitVec 32 := Scalar.extui v135
  let c0_i32_84 : BitVec 32 := 0#32
  let v137 : BitVec 1 := Scalar.cmpi .slt c8_i32_80 c0_i32_84
  let v138 : BitVec 32 := Scalar.extui v137
  let v139 : BitVec 32 := Scalar.subi v136 v138
  let v140 : BitVec 1 := Scalar.cmpi .ne v134 v139
  let v141 : BitVec 32 := Scalar.remsi v128 c8_i32_80
  let c0_i32_85 : BitVec 32 := 0#32
  let v142 : BitVec 1 := Scalar.cmpi .ne v141 c0_i32_85
  let v143 : BitVec 1 := Scalar.andi v140 v142
  let v129 : BitVec 32 := Scalar.divsi v128 c8_i32_80
  let c1_i32_86 : BitVec 32 := 1#32
  let v144 : BitVec 32 := Scalar.subi v129 c1_i32_86
  let v145 : BitVec 32 := Scalar.select v143 v144 v129
  let v146 : BitVec 32 := Scalar.muli c8_i32_87 v145
  let v147 : BitVec 32 := Scalar.subi v146 v95
  let c1_i32_89 : BitVec 32 := 1#32
  let v149 : BitVec 32 := Scalar.divsi v147 c1_i32_89
  let v150 : BitVec 32 := Scalar.muli v149 c1_i32_89
  let v151 : BitVec 32 := Scalar.addi v95 v150
  let v148 : BitVec 32 := Scalar.addi v95 v147
  let c1_i32_91 : BitVec 32 := 1#32
  ⟨v151, v148, c1_i32_91⟩
def k0_off400 (i : grid0.Coords) (k0_t6 : Fin (k0_t6_loop i).trips) : Fin 4 → Nat :=
  let c0_245 : Index := 0#32
  let c2_i32 : BitVec 32 := 2#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v95 : BitVec 32 := Scalar.muli c2_i32 v18
  let c8_i32_87 : BitVec 32 := 8#32
  let c8_i32 : BitVec 32 := 8#32
  let v127 : BitVec 32 := Scalar.addi v95 c8_i32
  let c1_i32_79 : BitVec 32 := 1#32
  let v128 : BitVec 32 := Scalar.subi v127 c1_i32_79
  let c0_i32_81 : BitVec 32 := 0#32
  let v130 : BitVec 1 := Scalar.cmpi .sgt v128 c0_i32_81
  let v131 : BitVec 32 := Scalar.extui v130
  let c0_i32_82 : BitVec 32 := 0#32
  let v132 : BitVec 1 := Scalar.cmpi .slt v128 c0_i32_82
  let v133 : BitVec 32 := Scalar.extui v132
  let v134 : BitVec 32 := Scalar.subi v131 v133
  let c8_i32_80 : BitVec 32 := 8#32
  let c0_i32_83 : BitVec 32 := 0#32
  let v135 : BitVec 1 := Scalar.cmpi .sgt c8_i32_80 c0_i32_83
  let v136 : BitVec 32 := Scalar.extui v135
  let c0_i32_84 : BitVec 32 := 0#32
  let v137 : BitVec 1 := Scalar.cmpi .slt c8_i32_80 c0_i32_84
  let v138 : BitVec 32 := Scalar.extui v137
  let v139 : BitVec 32 := Scalar.subi v136 v138
  let v140 : BitVec 1 := Scalar.cmpi .ne v134 v139
  let v141 : BitVec 32 := Scalar.remsi v128 c8_i32_80
  let c0_i32_85 : BitVec 32 := 0#32
  let v142 : BitVec 1 := Scalar.cmpi .ne v141 c0_i32_85
  let v143 : BitVec 1 := Scalar.andi v140 v142
  let v129 : BitVec 32 := Scalar.divsi v128 c8_i32_80
  let c1_i32_86 : BitVec 32 := 1#32
  let v144 : BitVec 32 := Scalar.subi v129 c1_i32_86
  let v145 : BitVec 32 := Scalar.select v143 v144 v129
  let v146 : BitVec 32 := Scalar.muli c8_i32_87 v145
  let v147 : BitVec 32 := Scalar.subi v146 v95
  let c1_i32_89 : BitVec 32 := 1#32
  let v149 : BitVec 32 := Scalar.divsi v147 c1_i32_89
  let v150 : BitVec 32 := Scalar.muli v149 c1_i32_89
  let v151 : BitVec 32 := Scalar.addi v95 v150
  let c1_i32_91 : BitVec 32 := 1#32
  let arg20 : BitVec 32 := Scf.iv v151 c1_i32_91 k0_t6
  let v363 : Index := Scalar.indexCast arg20
  let c0_246 : Index := 0#32
  let c0_247 : Index := 0#32
  ![0, v363.toNat, 0, 0]
def k0_off401 (i : grid0.Coords) (k0_t6 : Fin (k0_t6_loop i).trips) : Fin 3 → Nat :=
  let c2_i32 : BitVec 32 := 2#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v95 : BitVec 32 := Scalar.muli c2_i32 v18
  let c8_i32_87 : BitVec 32 := 8#32
  let c8_i32 : BitVec 32 := 8#32
  let v127 : BitVec 32 := Scalar.addi v95 c8_i32
  let c1_i32_79 : BitVec 32 := 1#32
  let v128 : BitVec 32 := Scalar.subi v127 c1_i32_79
  let c0_i32_81 : BitVec 32 := 0#32
  let v130 : BitVec 1 := Scalar.cmpi .sgt v128 c0_i32_81
  let v131 : BitVec 32 := Scalar.extui v130
  let c0_i32_82 : BitVec 32 := 0#32
  let v132 : BitVec 1 := Scalar.cmpi .slt v128 c0_i32_82
  let v133 : BitVec 32 := Scalar.extui v132
  let v134 : BitVec 32 := Scalar.subi v131 v133
  let c8_i32_80 : BitVec 32 := 8#32
  let c0_i32_83 : BitVec 32 := 0#32
  let v135 : BitVec 1 := Scalar.cmpi .sgt c8_i32_80 c0_i32_83
  let v136 : BitVec 32 := Scalar.extui v135
  let c0_i32_84 : BitVec 32 := 0#32
  let v137 : BitVec 1 := Scalar.cmpi .slt c8_i32_80 c0_i32_84
  let v138 : BitVec 32 := Scalar.extui v137
  let v139 : BitVec 32 := Scalar.subi v136 v138
  let v140 : BitVec 1 := Scalar.cmpi .ne v134 v139
  let v141 : BitVec 32 := Scalar.remsi v128 c8_i32_80
  let c0_i32_85 : BitVec 32 := 0#32
  let v142 : BitVec 1 := Scalar.cmpi .ne v141 c0_i32_85
  let v143 : BitVec 1 := Scalar.andi v140 v142
  let v129 : BitVec 32 := Scalar.divsi v128 c8_i32_80
  let c1_i32_86 : BitVec 32 := 1#32
  let v144 : BitVec 32 := Scalar.subi v129 c1_i32_86
  let v145 : BitVec 32 := Scalar.select v143 v144 v129
  let v146 : BitVec 32 := Scalar.muli c8_i32_87 v145
  let v147 : BitVec 32 := Scalar.subi v146 v95
  let c1_i32_89 : BitVec 32 := 1#32
  let v149 : BitVec 32 := Scalar.divsi v147 c1_i32_89
  let v150 : BitVec 32 := Scalar.muli v149 c1_i32_89
  let v151 : BitVec 32 := Scalar.addi v95 v150
  let c1_i32_91 : BitVec 32 := 1#32
  let arg20 : BitVec 32 := Scf.iv v151 c1_i32_91 k0_t6
  let v368 : Index := Scalar.indexCast arg20
  let c0_249 : Index := 0#32
  let c0_250 : Index := 0#32
  ![v368.toNat, 0, 0]
@[reducible] def k0_t7_loop (i : grid0.Coords) : Scf.Loop 32 :=
  let c0_i32_93 : BitVec 32 := 0#32
  let c2_i32 : BitVec 32 := 2#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v95 : BitVec 32 := Scalar.muli c2_i32 v18
  let c8_i32 : BitVec 32 := 8#32
  let v127 : BitVec 32 := Scalar.addi v95 c8_i32
  let c1_i32_79 : BitVec 32 := 1#32
  let v128 : BitVec 32 := Scalar.subi v127 c1_i32_79
  let c0_i32_81 : BitVec 32 := 0#32
  let v130 : BitVec 1 := Scalar.cmpi .sgt v128 c0_i32_81
  let v131 : BitVec 32 := Scalar.extui v130
  let c0_i32_82 : BitVec 32 := 0#32
  let v132 : BitVec 1 := Scalar.cmpi .slt v128 c0_i32_82
  let v133 : BitVec 32 := Scalar.extui v132
  let v134 : BitVec 32 := Scalar.subi v131 v133
  let c8_i32_80 : BitVec 32 := 8#32
  let c0_i32_83 : BitVec 32 := 0#32
  let v135 : BitVec 1 := Scalar.cmpi .sgt c8_i32_80 c0_i32_83
  let v136 : BitVec 32 := Scalar.extui v135
  let c0_i32_84 : BitVec 32 := 0#32
  let v137 : BitVec 1 := Scalar.cmpi .slt c8_i32_80 c0_i32_84
  let v138 : BitVec 32 := Scalar.extui v137
  let v139 : BitVec 32 := Scalar.subi v136 v138
  let v140 : BitVec 1 := Scalar.cmpi .ne v134 v139
  let v141 : BitVec 32 := Scalar.remsi v128 c8_i32_80
  let c0_i32_85 : BitVec 32 := 0#32
  let v142 : BitVec 1 := Scalar.cmpi .ne v141 c0_i32_85
  let v143 : BitVec 1 := Scalar.andi v140 v142
  let v129 : BitVec 32 := Scalar.divsi v128 c8_i32_80
  let c1_i32_86 : BitVec 32 := 1#32
  let v144 : BitVec 32 := Scalar.subi v129 c1_i32_86
  let v145 : BitVec 32 := Scalar.select v143 v144 v129
  let v153 : BitVec 32 := Scalar.subi v145 c0_i32_93
  let c1_i32_94 : BitVec 32 := 1#32
  let v155 : BitVec 32 := Scalar.divsi v153 c1_i32_94
  let v156 : BitVec 32 := Scalar.muli v155 c1_i32_94
  let v157 : BitVec 32 := Scalar.addi c0_i32_93 v156
  let c1_i32_95 : BitVec 32 := 1#32
  ⟨c0_i32_93, v157, c1_i32_95⟩
def k0_mult7 (i : grid0.Coords) (k0_t7 : Fin (k0_t7_loop i).trips) : BitVec 32 :=
  let c0_i32_93 : BitVec 32 := 0#32
  let c1_i32_95 : BitVec 32 := 1#32
  let arg20 : BitVec 32 := Scf.iv c0_i32_93 c1_i32_95 k0_t7
  let c8_i32_244 : BitVec 32 := 8#32
  let v362 : BitVec 32 := Scalar.muli arg20 c8_i32_244
  v362
def k0_off402 (i : grid0.Coords) (k0_t7 : Fin (k0_t7_loop i).trips) : Fin 3 → Nat :=
  let c0_i32_93 : BitVec 32 := 0#32
  let c1_i32_95 : BitVec 32 := 1#32
  let arg20 : BitVec 32 := Scf.iv c0_i32_93 c1_i32_95 k0_t7
  let c8_i32_244 : BitVec 32 := 8#32
  let v362 : BitVec 32 := Scalar.muli arg20 c8_i32_244
  let v363 : BitVec 32 := v362
  let v364 : Index := Scalar.indexCast v363
  let c0_245 : Index := 0#32
  let c0_246 : Index := 0#32
  ![v364.toNat, 0, 0]
def k0_off403 (i : grid0.Coords) (k0_t7 : Fin (k0_t7_loop i).trips) : Fin 4 → Nat :=
  let c0_247 : Index := 0#32
  let c0_i32_93 : BitVec 32 := 0#32
  let c1_i32_95 : BitVec 32 := 1#32
  let arg20 : BitVec 32 := Scf.iv c0_i32_93 c1_i32_95 k0_t7
  let c8_i32_244 : BitVec 32 := 8#32
  let v362 : BitVec 32 := Scalar.muli arg20 c8_i32_244
  let v363 : BitVec 32 := v362
  let v366 : Index := Scalar.indexCast v363
  let c0_248 : Index := 0#32
  let c0_249 : Index := 0#32
  ![0, v366.toNat, 0, 0]
@[reducible] def k0_t8_loop (i : grid0.Coords) : Scf.Loop 32 :=
  let c0_i32_93 : BitVec 32 := 0#32
  let c2_i32 : BitVec 32 := 2#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v95 : BitVec 32 := Scalar.muli c2_i32 v18
  let c8_i32 : BitVec 32 := 8#32
  let v127 : BitVec 32 := Scalar.addi v95 c8_i32
  let c1_i32_79 : BitVec 32 := 1#32
  let v128 : BitVec 32 := Scalar.subi v127 c1_i32_79
  let c0_i32_81 : BitVec 32 := 0#32
  let v130 : BitVec 1 := Scalar.cmpi .sgt v128 c0_i32_81
  let v131 : BitVec 32 := Scalar.extui v130
  let c0_i32_82 : BitVec 32 := 0#32
  let v132 : BitVec 1 := Scalar.cmpi .slt v128 c0_i32_82
  let v133 : BitVec 32 := Scalar.extui v132
  let v134 : BitVec 32 := Scalar.subi v131 v133
  let c8_i32_80 : BitVec 32 := 8#32
  let c0_i32_83 : BitVec 32 := 0#32
  let v135 : BitVec 1 := Scalar.cmpi .sgt c8_i32_80 c0_i32_83
  let v136 : BitVec 32 := Scalar.extui v135
  let c0_i32_84 : BitVec 32 := 0#32
  let v137 : BitVec 1 := Scalar.cmpi .slt c8_i32_80 c0_i32_84
  let v138 : BitVec 32 := Scalar.extui v137
  let v139 : BitVec 32 := Scalar.subi v136 v138
  let v140 : BitVec 1 := Scalar.cmpi .ne v134 v139
  let v141 : BitVec 32 := Scalar.remsi v128 c8_i32_80
  let c0_i32_85 : BitVec 32 := 0#32
  let v142 : BitVec 1 := Scalar.cmpi .ne v141 c0_i32_85
  let v143 : BitVec 1 := Scalar.andi v140 v142
  let v129 : BitVec 32 := Scalar.divsi v128 c8_i32_80
  let c1_i32_86 : BitVec 32 := 1#32
  let v144 : BitVec 32 := Scalar.subi v129 c1_i32_86
  let v145 : BitVec 32 := Scalar.select v143 v144 v129
  let v153 : BitVec 32 := Scalar.subi v145 c0_i32_93
  let c1_i32_94 : BitVec 32 := 1#32
  let v155 : BitVec 32 := Scalar.divsi v153 c1_i32_94
  let v156 : BitVec 32 := Scalar.muli v155 c1_i32_94
  let v157 : BitVec 32 := Scalar.addi c0_i32_93 v156
  let v154 : BitVec 32 := Scalar.addi c0_i32_93 v153
  let c1_i32_96 : BitVec 32 := 1#32
  ⟨v157, v154, c1_i32_96⟩
def k0_mult8 (i : grid0.Coords) (k0_t8 : Fin (k0_t8_loop i).trips) : BitVec 32 :=
  let c0_i32_93 : BitVec 32 := 0#32
  let c2_i32 : BitVec 32 := 2#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v95 : BitVec 32 := Scalar.muli c2_i32 v18
  let c8_i32 : BitVec 32 := 8#32
  let v127 : BitVec 32 := Scalar.addi v95 c8_i32
  let c1_i32_79 : BitVec 32 := 1#32
  let v128 : BitVec 32 := Scalar.subi v127 c1_i32_79
  let c0_i32_81 : BitVec 32 := 0#32
  let v130 : BitVec 1 := Scalar.cmpi .sgt v128 c0_i32_81
  let v131 : BitVec 32 := Scalar.extui v130
  let c0_i32_82 : BitVec 32 := 0#32
  let v132 : BitVec 1 := Scalar.cmpi .slt v128 c0_i32_82
  let v133 : BitVec 32 := Scalar.extui v132
  let v134 : BitVec 32 := Scalar.subi v131 v133
  let c8_i32_80 : BitVec 32 := 8#32
  let c0_i32_83 : BitVec 32 := 0#32
  let v135 : BitVec 1 := Scalar.cmpi .sgt c8_i32_80 c0_i32_83
  let v136 : BitVec 32 := Scalar.extui v135
  let c0_i32_84 : BitVec 32 := 0#32
  let v137 : BitVec 1 := Scalar.cmpi .slt c8_i32_80 c0_i32_84
  let v138 : BitVec 32 := Scalar.extui v137
  let v139 : BitVec 32 := Scalar.subi v136 v138
  let v140 : BitVec 1 := Scalar.cmpi .ne v134 v139
  let v141 : BitVec 32 := Scalar.remsi v128 c8_i32_80
  let c0_i32_85 : BitVec 32 := 0#32
  let v142 : BitVec 1 := Scalar.cmpi .ne v141 c0_i32_85
  let v143 : BitVec 1 := Scalar.andi v140 v142
  let v129 : BitVec 32 := Scalar.divsi v128 c8_i32_80
  let c1_i32_86 : BitVec 32 := 1#32
  let v144 : BitVec 32 := Scalar.subi v129 c1_i32_86
  let v145 : BitVec 32 := Scalar.select v143 v144 v129
  let v153 : BitVec 32 := Scalar.subi v145 c0_i32_93
  let c1_i32_94 : BitVec 32 := 1#32
  let v155 : BitVec 32 := Scalar.divsi v153 c1_i32_94
  let v156 : BitVec 32 := Scalar.muli v155 c1_i32_94
  let v157 : BitVec 32 := Scalar.addi c0_i32_93 v156
  let c1_i32_96 : BitVec 32 := 1#32
  let arg20 : BitVec 32 := Scf.iv v157 c1_i32_96 k0_t8
  let c8_i32_244 : BitVec 32 := 8#32
  let v362 : BitVec 32 := Scalar.muli arg20 c8_i32_244
  v362
def k0_off404 (i : grid0.Coords) (k0_t8 : Fin (k0_t8_loop i).trips) : Fin 3 → Nat :=
  let c0_i32_93 : BitVec 32 := 0#32
  let c2_i32 : BitVec 32 := 2#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v95 : BitVec 32 := Scalar.muli c2_i32 v18
  let c8_i32 : BitVec 32 := 8#32
  let v127 : BitVec 32 := Scalar.addi v95 c8_i32
  let c1_i32_79 : BitVec 32 := 1#32
  let v128 : BitVec 32 := Scalar.subi v127 c1_i32_79
  let c0_i32_81 : BitVec 32 := 0#32
  let v130 : BitVec 1 := Scalar.cmpi .sgt v128 c0_i32_81
  let v131 : BitVec 32 := Scalar.extui v130
  let c0_i32_82 : BitVec 32 := 0#32
  let v132 : BitVec 1 := Scalar.cmpi .slt v128 c0_i32_82
  let v133 : BitVec 32 := Scalar.extui v132
  let v134 : BitVec 32 := Scalar.subi v131 v133
  let c8_i32_80 : BitVec 32 := 8#32
  let c0_i32_83 : BitVec 32 := 0#32
  let v135 : BitVec 1 := Scalar.cmpi .sgt c8_i32_80 c0_i32_83
  let v136 : BitVec 32 := Scalar.extui v135
  let c0_i32_84 : BitVec 32 := 0#32
  let v137 : BitVec 1 := Scalar.cmpi .slt c8_i32_80 c0_i32_84
  let v138 : BitVec 32 := Scalar.extui v137
  let v139 : BitVec 32 := Scalar.subi v136 v138
  let v140 : BitVec 1 := Scalar.cmpi .ne v134 v139
  let v141 : BitVec 32 := Scalar.remsi v128 c8_i32_80
  let c0_i32_85 : BitVec 32 := 0#32
  let v142 : BitVec 1 := Scalar.cmpi .ne v141 c0_i32_85
  let v143 : BitVec 1 := Scalar.andi v140 v142
  let v129 : BitVec 32 := Scalar.divsi v128 c8_i32_80
  let c1_i32_86 : BitVec 32 := 1#32
  let v144 : BitVec 32 := Scalar.subi v129 c1_i32_86
  let v145 : BitVec 32 := Scalar.select v143 v144 v129
  let v153 : BitVec 32 := Scalar.subi v145 c0_i32_93
  let c1_i32_94 : BitVec 32 := 1#32
  let v155 : BitVec 32 := Scalar.divsi v153 c1_i32_94
  let v156 : BitVec 32 := Scalar.muli v155 c1_i32_94
  let v157 : BitVec 32 := Scalar.addi c0_i32_93 v156
  let c1_i32_96 : BitVec 32 := 1#32
  let arg20 : BitVec 32 := Scf.iv v157 c1_i32_96 k0_t8
  let c8_i32_244 : BitVec 32 := 8#32
  let v362 : BitVec 32 := Scalar.muli arg20 c8_i32_244
  let v363 : BitVec 32 := v362
  let v364 : Index := Scalar.indexCast v363
  let c0_245 : Index := 0#32
  let c0_246 : Index := 0#32
  ![v364.toNat, 0, 0]
def k0_off405 (i : grid0.Coords) (k0_t8 : Fin (k0_t8_loop i).trips) : Fin 4 → Nat :=
  let c0_247 : Index := 0#32
  let c0_i32_93 : BitVec 32 := 0#32
  let c2_i32 : BitVec 32 := 2#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v95 : BitVec 32 := Scalar.muli c2_i32 v18
  let c8_i32 : BitVec 32 := 8#32
  let v127 : BitVec 32 := Scalar.addi v95 c8_i32
  let c1_i32_79 : BitVec 32 := 1#32
  let v128 : BitVec 32 := Scalar.subi v127 c1_i32_79
  let c0_i32_81 : BitVec 32 := 0#32
  let v130 : BitVec 1 := Scalar.cmpi .sgt v128 c0_i32_81
  let v131 : BitVec 32 := Scalar.extui v130
  let c0_i32_82 : BitVec 32 := 0#32
  let v132 : BitVec 1 := Scalar.cmpi .slt v128 c0_i32_82
  let v133 : BitVec 32 := Scalar.extui v132
  let v134 : BitVec 32 := Scalar.subi v131 v133
  let c8_i32_80 : BitVec 32 := 8#32
  let c0_i32_83 : BitVec 32 := 0#32
  let v135 : BitVec 1 := Scalar.cmpi .sgt c8_i32_80 c0_i32_83
  let v136 : BitVec 32 := Scalar.extui v135
  let c0_i32_84 : BitVec 32 := 0#32
  let v137 : BitVec 1 := Scalar.cmpi .slt c8_i32_80 c0_i32_84
  let v138 : BitVec 32 := Scalar.extui v137
  let v139 : BitVec 32 := Scalar.subi v136 v138
  let v140 : BitVec 1 := Scalar.cmpi .ne v134 v139
  let v141 : BitVec 32 := Scalar.remsi v128 c8_i32_80
  let c0_i32_85 : BitVec 32 := 0#32
  let v142 : BitVec 1 := Scalar.cmpi .ne v141 c0_i32_85
  let v143 : BitVec 1 := Scalar.andi v140 v142
  let v129 : BitVec 32 := Scalar.divsi v128 c8_i32_80
  let c1_i32_86 : BitVec 32 := 1#32
  let v144 : BitVec 32 := Scalar.subi v129 c1_i32_86
  let v145 : BitVec 32 := Scalar.select v143 v144 v129
  let v153 : BitVec 32 := Scalar.subi v145 c0_i32_93
  let c1_i32_94 : BitVec 32 := 1#32
  let v155 : BitVec 32 := Scalar.divsi v153 c1_i32_94
  let v156 : BitVec 32 := Scalar.muli v155 c1_i32_94
  let v157 : BitVec 32 := Scalar.addi c0_i32_93 v156
  let c1_i32_96 : BitVec 32 := 1#32
  let arg20 : BitVec 32 := Scf.iv v157 c1_i32_96 k0_t8
  let c8_i32_244 : BitVec 32 := 8#32
  let v362 : BitVec 32 := Scalar.muli arg20 c8_i32_244
  let v363 : BitVec 32 := v362
  let v366 : Index := Scalar.indexCast v363
  let c0_248 : Index := 0#32
  let c0_249 : Index := 0#32
  ![0, v366.toNat, 0, 0]
@[reducible] def k0_t9_loop : Scf.Loop 32 :=
  let c1_i32_104 : BitVec 32 := 1#32
  let c31_i32 : BitVec 32 := 31#32
  let v176 : BitVec 32 := Scalar.addi c1_i32_104 c31_i32
  let c1_i32_105 : BitVec 32 := 1#32
  ⟨c1_i32_104, v176, c1_i32_105⟩
@[reducible] def k0_t10_loop (i : grid0.Coords) : Scf.Loop 32 :=
  let c0_i32_245 : BitVec 32 := 0#32
  let c2_i32 : BitVec 32 := 2#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v95 : BitVec 32 := Scalar.muli c2_i32 v18
  let c8_i32 : BitVec 32 := 8#32
  let v127 : BitVec 32 := Scalar.addi v95 c8_i32
  let c1_i32_79 : BitVec 32 := 1#32
  let v128 : BitVec 32 := Scalar.subi v127 c1_i32_79
  let c0_i32_81 : BitVec 32 := 0#32
  let v130 : BitVec 1 := Scalar.cmpi .sgt v128 c0_i32_81
  let v131 : BitVec 32 := Scalar.extui v130
  let c0_i32_82 : BitVec 32 := 0#32
  let v132 : BitVec 1 := Scalar.cmpi .slt v128 c0_i32_82
  let v133 : BitVec 32 := Scalar.extui v132
  let v134 : BitVec 32 := Scalar.subi v131 v133
  let c8_i32_80 : BitVec 32 := 8#32
  let c0_i32_83 : BitVec 32 := 0#32
  let v135 : BitVec 1 := Scalar.cmpi .sgt c8_i32_80 c0_i32_83
  let v136 : BitVec 32 := Scalar.extui v135
  let c0_i32_84 : BitVec 32 := 0#32
  let v137 : BitVec 1 := Scalar.cmpi .slt c8_i32_80 c0_i32_84
  let v138 : BitVec 32 := Scalar.extui v137
  let v139 : BitVec 32 := Scalar.subi v136 v138
  let v140 : BitVec 1 := Scalar.cmpi .ne v134 v139
  let v141 : BitVec 32 := Scalar.remsi v128 c8_i32_80
  let c0_i32_85 : BitVec 32 := 0#32
  let v142 : BitVec 1 := Scalar.cmpi .ne v141 c0_i32_85
  let v143 : BitVec 1 := Scalar.andi v140 v142
  let v129 : BitVec 32 := Scalar.divsi v128 c8_i32_80
  let c1_i32_86 : BitVec 32 := 1#32
  let v144 : BitVec 32 := Scalar.subi v129 c1_i32_86
  let v145 : BitVec 32 := Scalar.select v143 v144 v129
  let v363 : BitVec 32 := Scalar.subi v145 c0_i32_245
  let c1_i32_246 : BitVec 32 := 1#32
  let v365 : BitVec 32 := Scalar.divsi v363 c1_i32_246
  let v366 : BitVec 32 := Scalar.muli v365 c1_i32_246
  let v367 : BitVec 32 := Scalar.addi c0_i32_245 v366
  let c1_i32_247 : BitVec 32 := 1#32
  ⟨c0_i32_245, v367, c1_i32_247⟩
def k0_mult9 (i : grid0.Coords) (k0_t10 : Fin (k0_t10_loop i).trips) : BitVec 32 :=
  let c0_i32_245 : BitVec 32 := 0#32
  let c1_i32_247 : BitVec 32 := 1#32
  let arg24 : BitVec 32 := Scf.iv c0_i32_245 c1_i32_247 k0_t10
  let c8_i32_255 : BitVec 32 := 8#32
  let v384 : BitVec 32 := Scalar.muli arg24 c8_i32_255
  v384
def k0_off406 (i : grid0.Coords) (k0_t10 : Fin (k0_t10_loop i).trips) : Fin 3 → Nat :=
  let c0_i32_245 : BitVec 32 := 0#32
  let c1_i32_247 : BitVec 32 := 1#32
  let arg24 : BitVec 32 := Scf.iv c0_i32_245 c1_i32_247 k0_t10
  let c8_i32_255 : BitVec 32 := 8#32
  let v384 : BitVec 32 := Scalar.muli arg24 c8_i32_255
  let v385 : BitVec 32 := v384
  let v386 : Index := Scalar.indexCast v385
  let c0_256 : Index := 0#32
  let c0_257 : Index := 0#32
  ![v386.toNat, 0, 0]
def k0_off407 (i : grid0.Coords) (k0_t9 : Fin k0_t9_loop.trips) (k0_t10 : Fin (k0_t10_loop i).trips) : Fin 4 → Nat :=
  let c1_i32_104 : BitVec 32 := 1#32
  let c1_i32_105 : BitVec 32 := 1#32
  let arg20 : BitVec 32 := Scf.iv c1_i32_104 c1_i32_105 k0_t9
  let c1_i32_258 : BitVec 32 := 1#32
  let v388 : BitVec 32 := Scalar.subi arg20 c1_i32_258
  let v389 : Index := Scalar.indexCast v388
  let c0_i32_245 : BitVec 32 := 0#32
  let c1_i32_247 : BitVec 32 := 1#32
  let arg24 : BitVec 32 := Scf.iv c0_i32_245 c1_i32_247 k0_t10
  let c8_i32_255 : BitVec 32 := 8#32
  let v384 : BitVec 32 := Scalar.muli arg24 c8_i32_255
  let v385 : BitVec 32 := v384
  let v390 : Index := Scalar.indexCast v385
  let c0_259 : Index := 0#32
  let c0_260 : Index := 0#32
  ![v389.toNat, v390.toNat, 0, 0]
def k0_off408 (i : grid0.Coords) (k0_t9 : Fin k0_t9_loop.trips) (k0_t10 : Fin (k0_t10_loop i).trips) : Fin 4 → Nat :=
  let c1_i32_104 : BitVec 32 := 1#32
  let c1_i32_105 : BitVec 32 := 1#32
  let arg20 : BitVec 32 := Scf.iv c1_i32_104 c1_i32_105 k0_t9
  let v401 : Index := Scalar.indexCast arg20
  let c0_i32_245 : BitVec 32 := 0#32
  let c1_i32_247 : BitVec 32 := 1#32
  let arg24 : BitVec 32 := Scf.iv c0_i32_245 c1_i32_247 k0_t10
  let c8_i32_255 : BitVec 32 := 8#32
  let v384 : BitVec 32 := Scalar.muli arg24 c8_i32_255
  let v385 : BitVec 32 := v384
  let v402 : Index := Scalar.indexCast v385
  let c0_263 : Index := 0#32
  let c0_264 : Index := 0#32
  ![v401.toNat, v402.toNat, 0, 0]
@[reducible] def k0_t11_loop (i : grid0.Coords) : Scf.Loop 32 :=
  let c0_i32_245 : BitVec 32 := 0#32
  let c2_i32 : BitVec 32 := 2#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v95 : BitVec 32 := Scalar.muli c2_i32 v18
  let c8_i32 : BitVec 32 := 8#32
  let v127 : BitVec 32 := Scalar.addi v95 c8_i32
  let c1_i32_79 : BitVec 32 := 1#32
  let v128 : BitVec 32 := Scalar.subi v127 c1_i32_79
  let c0_i32_81 : BitVec 32 := 0#32
  let v130 : BitVec 1 := Scalar.cmpi .sgt v128 c0_i32_81
  let v131 : BitVec 32 := Scalar.extui v130
  let c0_i32_82 : BitVec 32 := 0#32
  let v132 : BitVec 1 := Scalar.cmpi .slt v128 c0_i32_82
  let v133 : BitVec 32 := Scalar.extui v132
  let v134 : BitVec 32 := Scalar.subi v131 v133
  let c8_i32_80 : BitVec 32 := 8#32
  let c0_i32_83 : BitVec 32 := 0#32
  let v135 : BitVec 1 := Scalar.cmpi .sgt c8_i32_80 c0_i32_83
  let v136 : BitVec 32 := Scalar.extui v135
  let c0_i32_84 : BitVec 32 := 0#32
  let v137 : BitVec 1 := Scalar.cmpi .slt c8_i32_80 c0_i32_84
  let v138 : BitVec 32 := Scalar.extui v137
  let v139 : BitVec 32 := Scalar.subi v136 v138
  let v140 : BitVec 1 := Scalar.cmpi .ne v134 v139
  let v141 : BitVec 32 := Scalar.remsi v128 c8_i32_80
  let c0_i32_85 : BitVec 32 := 0#32
  let v142 : BitVec 1 := Scalar.cmpi .ne v141 c0_i32_85
  let v143 : BitVec 1 := Scalar.andi v140 v142
  let v129 : BitVec 32 := Scalar.divsi v128 c8_i32_80
  let c1_i32_86 : BitVec 32 := 1#32
  let v144 : BitVec 32 := Scalar.subi v129 c1_i32_86
  let v145 : BitVec 32 := Scalar.select v143 v144 v129
  let v363 : BitVec 32 := Scalar.subi v145 c0_i32_245
  let c1_i32_246 : BitVec 32 := 1#32
  let v365 : BitVec 32 := Scalar.divsi v363 c1_i32_246
  let v366 : BitVec 32 := Scalar.muli v365 c1_i32_246
  let v367 : BitVec 32 := Scalar.addi c0_i32_245 v366
  let v364 : BitVec 32 := Scalar.addi c0_i32_245 v363
  let c1_i32_248 : BitVec 32 := 1#32
  ⟨v367, v364, c1_i32_248⟩
def k0_mult10 (i : grid0.Coords) (k0_t11 : Fin (k0_t11_loop i).trips) : BitVec 32 :=
  let c0_i32_245 : BitVec 32 := 0#32
  let c2_i32 : BitVec 32 := 2#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v95 : BitVec 32 := Scalar.muli c2_i32 v18
  let c8_i32 : BitVec 32 := 8#32
  let v127 : BitVec 32 := Scalar.addi v95 c8_i32
  let c1_i32_79 : BitVec 32 := 1#32
  let v128 : BitVec 32 := Scalar.subi v127 c1_i32_79
  let c0_i32_81 : BitVec 32 := 0#32
  let v130 : BitVec 1 := Scalar.cmpi .sgt v128 c0_i32_81
  let v131 : BitVec 32 := Scalar.extui v130
  let c0_i32_82 : BitVec 32 := 0#32
  let v132 : BitVec 1 := Scalar.cmpi .slt v128 c0_i32_82
  let v133 : BitVec 32 := Scalar.extui v132
  let v134 : BitVec 32 := Scalar.subi v131 v133
  let c8_i32_80 : BitVec 32 := 8#32
  let c0_i32_83 : BitVec 32 := 0#32
  let v135 : BitVec 1 := Scalar.cmpi .sgt c8_i32_80 c0_i32_83
  let v136 : BitVec 32 := Scalar.extui v135
  let c0_i32_84 : BitVec 32 := 0#32
  let v137 : BitVec 1 := Scalar.cmpi .slt c8_i32_80 c0_i32_84
  let v138 : BitVec 32 := Scalar.extui v137
  let v139 : BitVec 32 := Scalar.subi v136 v138
  let v140 : BitVec 1 := Scalar.cmpi .ne v134 v139
  let v141 : BitVec 32 := Scalar.remsi v128 c8_i32_80
  let c0_i32_85 : BitVec 32 := 0#32
  let v142 : BitVec 1 := Scalar.cmpi .ne v141 c0_i32_85
  let v143 : BitVec 1 := Scalar.andi v140 v142
  let v129 : BitVec 32 := Scalar.divsi v128 c8_i32_80
  let c1_i32_86 : BitVec 32 := 1#32
  let v144 : BitVec 32 := Scalar.subi v129 c1_i32_86
  let v145 : BitVec 32 := Scalar.select v143 v144 v129
  let v363 : BitVec 32 := Scalar.subi v145 c0_i32_245
  let c1_i32_246 : BitVec 32 := 1#32
  let v365 : BitVec 32 := Scalar.divsi v363 c1_i32_246
  let v366 : BitVec 32 := Scalar.muli v365 c1_i32_246
  let v367 : BitVec 32 := Scalar.addi c0_i32_245 v366
  let c1_i32_248 : BitVec 32 := 1#32
  let arg24 : BitVec 32 := Scf.iv v367 c1_i32_248 k0_t11
  let c8_i32_255 : BitVec 32 := 8#32
  let v384 : BitVec 32 := Scalar.muli arg24 c8_i32_255
  v384
def k0_off409 (i : grid0.Coords) (k0_t11 : Fin (k0_t11_loop i).trips) : Fin 3 → Nat :=
  let c0_i32_245 : BitVec 32 := 0#32
  let c2_i32 : BitVec 32 := 2#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v95 : BitVec 32 := Scalar.muli c2_i32 v18
  let c8_i32 : BitVec 32 := 8#32
  let v127 : BitVec 32 := Scalar.addi v95 c8_i32
  let c1_i32_79 : BitVec 32 := 1#32
  let v128 : BitVec 32 := Scalar.subi v127 c1_i32_79
  let c0_i32_81 : BitVec 32 := 0#32
  let v130 : BitVec 1 := Scalar.cmpi .sgt v128 c0_i32_81
  let v131 : BitVec 32 := Scalar.extui v130
  let c0_i32_82 : BitVec 32 := 0#32
  let v132 : BitVec 1 := Scalar.cmpi .slt v128 c0_i32_82
  let v133 : BitVec 32 := Scalar.extui v132
  let v134 : BitVec 32 := Scalar.subi v131 v133
  let c8_i32_80 : BitVec 32 := 8#32
  let c0_i32_83 : BitVec 32 := 0#32
  let v135 : BitVec 1 := Scalar.cmpi .sgt c8_i32_80 c0_i32_83
  let v136 : BitVec 32 := Scalar.extui v135
  let c0_i32_84 : BitVec 32 := 0#32
  let v137 : BitVec 1 := Scalar.cmpi .slt c8_i32_80 c0_i32_84
  let v138 : BitVec 32 := Scalar.extui v137
  let v139 : BitVec 32 := Scalar.subi v136 v138
  let v140 : BitVec 1 := Scalar.cmpi .ne v134 v139
  let v141 : BitVec 32 := Scalar.remsi v128 c8_i32_80
  let c0_i32_85 : BitVec 32 := 0#32
  let v142 : BitVec 1 := Scalar.cmpi .ne v141 c0_i32_85
  let v143 : BitVec 1 := Scalar.andi v140 v142
  let v129 : BitVec 32 := Scalar.divsi v128 c8_i32_80
  let c1_i32_86 : BitVec 32 := 1#32
  let v144 : BitVec 32 := Scalar.subi v129 c1_i32_86
  let v145 : BitVec 32 := Scalar.select v143 v144 v129
  let v363 : BitVec 32 := Scalar.subi v145 c0_i32_245
  let c1_i32_246 : BitVec 32 := 1#32
  let v365 : BitVec 32 := Scalar.divsi v363 c1_i32_246
  let v366 : BitVec 32 := Scalar.muli v365 c1_i32_246
  let v367 : BitVec 32 := Scalar.addi c0_i32_245 v366
  let c1_i32_248 : BitVec 32 := 1#32
  let arg24 : BitVec 32 := Scf.iv v367 c1_i32_248 k0_t11
  let c8_i32_255 : BitVec 32 := 8#32
  let v384 : BitVec 32 := Scalar.muli arg24 c8_i32_255
  let v385 : BitVec 32 := v384
  let v386 : Index := Scalar.indexCast v385
  let c0_256 : Index := 0#32
  let c0_257 : Index := 0#32
  ![v386.toNat, 0, 0]
def k0_off410 (i : grid0.Coords) (k0_t9 : Fin k0_t9_loop.trips) (k0_t11 : Fin (k0_t11_loop i).trips) : Fin 4 → Nat :=
  let c1_i32_104 : BitVec 32 := 1#32
  let c1_i32_105 : BitVec 32 := 1#32
  let arg20 : BitVec 32 := Scf.iv c1_i32_104 c1_i32_105 k0_t9
  let c1_i32_258 : BitVec 32 := 1#32
  let v388 : BitVec 32 := Scalar.subi arg20 c1_i32_258
  let v389 : Index := Scalar.indexCast v388
  let c0_i32_245 : BitVec 32 := 0#32
  let c2_i32 : BitVec 32 := 2#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v95 : BitVec 32 := Scalar.muli c2_i32 v18
  let c8_i32 : BitVec 32 := 8#32
  let v127 : BitVec 32 := Scalar.addi v95 c8_i32
  let c1_i32_79 : BitVec 32 := 1#32
  let v128 : BitVec 32 := Scalar.subi v127 c1_i32_79
  let c0_i32_81 : BitVec 32 := 0#32
  let v130 : BitVec 1 := Scalar.cmpi .sgt v128 c0_i32_81
  let v131 : BitVec 32 := Scalar.extui v130
  let c0_i32_82 : BitVec 32 := 0#32
  let v132 : BitVec 1 := Scalar.cmpi .slt v128 c0_i32_82
  let v133 : BitVec 32 := Scalar.extui v132
  let v134 : BitVec 32 := Scalar.subi v131 v133
  let c8_i32_80 : BitVec 32 := 8#32
  let c0_i32_83 : BitVec 32 := 0#32
  let v135 : BitVec 1 := Scalar.cmpi .sgt c8_i32_80 c0_i32_83
  let v136 : BitVec 32 := Scalar.extui v135
  let c0_i32_84 : BitVec 32 := 0#32
  let v137 : BitVec 1 := Scalar.cmpi .slt c8_i32_80 c0_i32_84
  let v138 : BitVec 32 := Scalar.extui v137
  let v139 : BitVec 32 := Scalar.subi v136 v138
  let v140 : BitVec 1 := Scalar.cmpi .ne v134 v139
  let v141 : BitVec 32 := Scalar.remsi v128 c8_i32_80
  let c0_i32_85 : BitVec 32 := 0#32
  let v142 : BitVec 1 := Scalar.cmpi .ne v141 c0_i32_85
  let v143 : BitVec 1 := Scalar.andi v140 v142
  let v129 : BitVec 32 := Scalar.divsi v128 c8_i32_80
  let c1_i32_86 : BitVec 32 := 1#32
  let v144 : BitVec 32 := Scalar.subi v129 c1_i32_86
  let v145 : BitVec 32 := Scalar.select v143 v144 v129
  let v363 : BitVec 32 := Scalar.subi v145 c0_i32_245
  let c1_i32_246 : BitVec 32 := 1#32
  let v365 : BitVec 32 := Scalar.divsi v363 c1_i32_246
  let v366 : BitVec 32 := Scalar.muli v365 c1_i32_246
  let v367 : BitVec 32 := Scalar.addi c0_i32_245 v366
  let c1_i32_248 : BitVec 32 := 1#32
  let arg24 : BitVec 32 := Scf.iv v367 c1_i32_248 k0_t11
  let c8_i32_255 : BitVec 32 := 8#32
  let v384 : BitVec 32 := Scalar.muli arg24 c8_i32_255
  let v385 : BitVec 32 := v384
  let v390 : Index := Scalar.indexCast v385
  let c0_259 : Index := 0#32
  let c0_260 : Index := 0#32
  ![v389.toNat, v390.toNat, 0, 0]
def k0_off411 (i : grid0.Coords) (k0_t9 : Fin k0_t9_loop.trips) (k0_t11 : Fin (k0_t11_loop i).trips) : Fin 4 → Nat :=
  let c1_i32_104 : BitVec 32 := 1#32
  let c1_i32_105 : BitVec 32 := 1#32
  let arg20 : BitVec 32 := Scf.iv c1_i32_104 c1_i32_105 k0_t9
  let v401 : Index := Scalar.indexCast arg20
  let c0_i32_245 : BitVec 32 := 0#32
  let c2_i32 : BitVec 32 := 2#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v95 : BitVec 32 := Scalar.muli c2_i32 v18
  let c8_i32 : BitVec 32 := 8#32
  let v127 : BitVec 32 := Scalar.addi v95 c8_i32
  let c1_i32_79 : BitVec 32 := 1#32
  let v128 : BitVec 32 := Scalar.subi v127 c1_i32_79
  let c0_i32_81 : BitVec 32 := 0#32
  let v130 : BitVec 1 := Scalar.cmpi .sgt v128 c0_i32_81
  let v131 : BitVec 32 := Scalar.extui v130
  let c0_i32_82 : BitVec 32 := 0#32
  let v132 : BitVec 1 := Scalar.cmpi .slt v128 c0_i32_82
  let v133 : BitVec 32 := Scalar.extui v132
  let v134 : BitVec 32 := Scalar.subi v131 v133
  let c8_i32_80 : BitVec 32 := 8#32
  let c0_i32_83 : BitVec 32 := 0#32
  let v135 : BitVec 1 := Scalar.cmpi .sgt c8_i32_80 c0_i32_83
  let v136 : BitVec 32 := Scalar.extui v135
  let c0_i32_84 : BitVec 32 := 0#32
  let v137 : BitVec 1 := Scalar.cmpi .slt c8_i32_80 c0_i32_84
  let v138 : BitVec 32 := Scalar.extui v137
  let v139 : BitVec 32 := Scalar.subi v136 v138
  let v140 : BitVec 1 := Scalar.cmpi .ne v134 v139
  let v141 : BitVec 32 := Scalar.remsi v128 c8_i32_80
  let c0_i32_85 : BitVec 32 := 0#32
  let v142 : BitVec 1 := Scalar.cmpi .ne v141 c0_i32_85
  let v143 : BitVec 1 := Scalar.andi v140 v142
  let v129 : BitVec 32 := Scalar.divsi v128 c8_i32_80
  let c1_i32_86 : BitVec 32 := 1#32
  let v144 : BitVec 32 := Scalar.subi v129 c1_i32_86
  let v145 : BitVec 32 := Scalar.select v143 v144 v129
  let v363 : BitVec 32 := Scalar.subi v145 c0_i32_245
  let c1_i32_246 : BitVec 32 := 1#32
  let v365 : BitVec 32 := Scalar.divsi v363 c1_i32_246
  let v366 : BitVec 32 := Scalar.muli v365 c1_i32_246
  let v367 : BitVec 32 := Scalar.addi c0_i32_245 v366
  let c1_i32_248 : BitVec 32 := 1#32
  let arg24 : BitVec 32 := Scf.iv v367 c1_i32_248 k0_t11
  let c8_i32_255 : BitVec 32 := 8#32
  let v384 : BitVec 32 := Scalar.muli arg24 c8_i32_255
  let v385 : BitVec 32 := v384
  let v402 : Index := Scalar.indexCast v385
  let c0_263 : Index := 0#32
  let c0_264 : Index := 0#32
  ![v401.toNat, v402.toNat, 0, 0]
@[reducible] def k0_t12_loop (i : grid0.Coords) : Scf.Loop 32 :=
  let c0_i32_108 : BitVec 32 := 0#32
  let c2_i32 : BitVec 32 := 2#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v95 : BitVec 32 := Scalar.muli c2_i32 v18
  let c8_i32 : BitVec 32 := 8#32
  let v127 : BitVec 32 := Scalar.addi v95 c8_i32
  let c1_i32_79 : BitVec 32 := 1#32
  let v128 : BitVec 32 := Scalar.subi v127 c1_i32_79
  let c0_i32_81 : BitVec 32 := 0#32
  let v130 : BitVec 1 := Scalar.cmpi .sgt v128 c0_i32_81
  let v131 : BitVec 32 := Scalar.extui v130
  let c0_i32_82 : BitVec 32 := 0#32
  let v132 : BitVec 1 := Scalar.cmpi .slt v128 c0_i32_82
  let v133 : BitVec 32 := Scalar.extui v132
  let v134 : BitVec 32 := Scalar.subi v131 v133
  let c8_i32_80 : BitVec 32 := 8#32
  let c0_i32_83 : BitVec 32 := 0#32
  let v135 : BitVec 1 := Scalar.cmpi .sgt c8_i32_80 c0_i32_83
  let v136 : BitVec 32 := Scalar.extui v135
  let c0_i32_84 : BitVec 32 := 0#32
  let v137 : BitVec 1 := Scalar.cmpi .slt c8_i32_80 c0_i32_84
  let v138 : BitVec 32 := Scalar.extui v137
  let v139 : BitVec 32 := Scalar.subi v136 v138
  let v140 : BitVec 1 := Scalar.cmpi .ne v134 v139
  let v141 : BitVec 32 := Scalar.remsi v128 c8_i32_80
  let c0_i32_85 : BitVec 32 := 0#32
  let v142 : BitVec 1 := Scalar.cmpi .ne v141 c0_i32_85
  let v143 : BitVec 1 := Scalar.andi v140 v142
  let v129 : BitVec 32 := Scalar.divsi v128 c8_i32_80
  let c1_i32_86 : BitVec 32 := 1#32
  let v144 : BitVec 32 := Scalar.subi v129 c1_i32_86
  let v145 : BitVec 32 := Scalar.select v143 v144 v129
  let v179 : BitVec 32 := Scalar.subi v145 c0_i32_108
  let c1_i32_109 : BitVec 32 := 1#32
  let v181 : BitVec 32 := Scalar.divsi v179 c1_i32_109
  let v182 : BitVec 32 := Scalar.muli v181 c1_i32_109
  let v183 : BitVec 32 := Scalar.addi c0_i32_108 v182
  let c1_i32_110 : BitVec 32 := 1#32
  ⟨c0_i32_108, v183, c1_i32_110⟩
def k0_mult11 (i : grid0.Coords) (k0_t12 : Fin (k0_t12_loop i).trips) : BitVec 32 :=
  let c0_i32_108 : BitVec 32 := 0#32
  let c1_i32_110 : BitVec 32 := 1#32
  let arg20 : BitVec 32 := Scf.iv c0_i32_108 c1_i32_110 k0_t12
  let c8_i32_244 : BitVec 32 := 8#32
  let v362 : BitVec 32 := Scalar.muli arg20 c8_i32_244
  v362
def k0_off412 (i : grid0.Coords) (k0_t12 : Fin (k0_t12_loop i).trips) : Fin 3 → Nat :=
  let c0_i32_108 : BitVec 32 := 0#32
  let c1_i32_110 : BitVec 32 := 1#32
  let arg20 : BitVec 32 := Scf.iv c0_i32_108 c1_i32_110 k0_t12
  let c8_i32_244 : BitVec 32 := 8#32
  let v362 : BitVec 32 := Scalar.muli arg20 c8_i32_244
  let v363 : BitVec 32 := v362
  let v364 : Index := Scalar.indexCast v363
  let c0_245 : Index := 0#32
  let c0_246 : Index := 0#32
  ![v364.toNat, 0, 0]
def k0_off413 (i : grid0.Coords) (k0_t12 : Fin (k0_t12_loop i).trips) : Fin 4 → Nat :=
  let c31 : Index := 31#32
  let c0_i32_108 : BitVec 32 := 0#32
  let c1_i32_110 : BitVec 32 := 1#32
  let arg20 : BitVec 32 := Scf.iv c0_i32_108 c1_i32_110 k0_t12
  let c8_i32_244 : BitVec 32 := 8#32
  let v362 : BitVec 32 := Scalar.muli arg20 c8_i32_244
  let v363 : BitVec 32 := v362
  let v366 : Index := Scalar.indexCast v363
  let c0_247 : Index := 0#32
  let c0_248 : Index := 0#32
  ![31, v366.toNat, 0, 0]
@[reducible] def k0_t13_loop (i : grid0.Coords) : Scf.Loop 32 :=
  let c0_i32_108 : BitVec 32 := 0#32
  let c2_i32 : BitVec 32 := 2#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v95 : BitVec 32 := Scalar.muli c2_i32 v18
  let c8_i32 : BitVec 32 := 8#32
  let v127 : BitVec 32 := Scalar.addi v95 c8_i32
  let c1_i32_79 : BitVec 32 := 1#32
  let v128 : BitVec 32 := Scalar.subi v127 c1_i32_79
  let c0_i32_81 : BitVec 32 := 0#32
  let v130 : BitVec 1 := Scalar.cmpi .sgt v128 c0_i32_81
  let v131 : BitVec 32 := Scalar.extui v130
  let c0_i32_82 : BitVec 32 := 0#32
  let v132 : BitVec 1 := Scalar.cmpi .slt v128 c0_i32_82
  let v133 : BitVec 32 := Scalar.extui v132
  let v134 : BitVec 32 := Scalar.subi v131 v133
  let c8_i32_80 : BitVec 32 := 8#32
  let c0_i32_83 : BitVec 32 := 0#32
  let v135 : BitVec 1 := Scalar.cmpi .sgt c8_i32_80 c0_i32_83
  let v136 : BitVec 32 := Scalar.extui v135
  let c0_i32_84 : BitVec 32 := 0#32
  let v137 : BitVec 1 := Scalar.cmpi .slt c8_i32_80 c0_i32_84
  let v138 : BitVec 32 := Scalar.extui v137
  let v139 : BitVec 32 := Scalar.subi v136 v138
  let v140 : BitVec 1 := Scalar.cmpi .ne v134 v139
  let v141 : BitVec 32 := Scalar.remsi v128 c8_i32_80
  let c0_i32_85 : BitVec 32 := 0#32
  let v142 : BitVec 1 := Scalar.cmpi .ne v141 c0_i32_85
  let v143 : BitVec 1 := Scalar.andi v140 v142
  let v129 : BitVec 32 := Scalar.divsi v128 c8_i32_80
  let c1_i32_86 : BitVec 32 := 1#32
  let v144 : BitVec 32 := Scalar.subi v129 c1_i32_86
  let v145 : BitVec 32 := Scalar.select v143 v144 v129
  let v179 : BitVec 32 := Scalar.subi v145 c0_i32_108
  let c1_i32_109 : BitVec 32 := 1#32
  let v181 : BitVec 32 := Scalar.divsi v179 c1_i32_109
  let v182 : BitVec 32 := Scalar.muli v181 c1_i32_109
  let v183 : BitVec 32 := Scalar.addi c0_i32_108 v182
  let v180 : BitVec 32 := Scalar.addi c0_i32_108 v179
  let c1_i32_111 : BitVec 32 := 1#32
  ⟨v183, v180, c1_i32_111⟩
def k0_mult12 (i : grid0.Coords) (k0_t13 : Fin (k0_t13_loop i).trips) : BitVec 32 :=
  let c0_i32_108 : BitVec 32 := 0#32
  let c2_i32 : BitVec 32 := 2#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v95 : BitVec 32 := Scalar.muli c2_i32 v18
  let c8_i32 : BitVec 32 := 8#32
  let v127 : BitVec 32 := Scalar.addi v95 c8_i32
  let c1_i32_79 : BitVec 32 := 1#32
  let v128 : BitVec 32 := Scalar.subi v127 c1_i32_79
  let c0_i32_81 : BitVec 32 := 0#32
  let v130 : BitVec 1 := Scalar.cmpi .sgt v128 c0_i32_81
  let v131 : BitVec 32 := Scalar.extui v130
  let c0_i32_82 : BitVec 32 := 0#32
  let v132 : BitVec 1 := Scalar.cmpi .slt v128 c0_i32_82
  let v133 : BitVec 32 := Scalar.extui v132
  let v134 : BitVec 32 := Scalar.subi v131 v133
  let c8_i32_80 : BitVec 32 := 8#32
  let c0_i32_83 : BitVec 32 := 0#32
  let v135 : BitVec 1 := Scalar.cmpi .sgt c8_i32_80 c0_i32_83
  let v136 : BitVec 32 := Scalar.extui v135
  let c0_i32_84 : BitVec 32 := 0#32
  let v137 : BitVec 1 := Scalar.cmpi .slt c8_i32_80 c0_i32_84
  let v138 : BitVec 32 := Scalar.extui v137
  let v139 : BitVec 32 := Scalar.subi v136 v138
  let v140 : BitVec 1 := Scalar.cmpi .ne v134 v139
  let v141 : BitVec 32 := Scalar.remsi v128 c8_i32_80
  let c0_i32_85 : BitVec 32 := 0#32
  let v142 : BitVec 1 := Scalar.cmpi .ne v141 c0_i32_85
  let v143 : BitVec 1 := Scalar.andi v140 v142
  let v129 : BitVec 32 := Scalar.divsi v128 c8_i32_80
  let c1_i32_86 : BitVec 32 := 1#32
  let v144 : BitVec 32 := Scalar.subi v129 c1_i32_86
  let v145 : BitVec 32 := Scalar.select v143 v144 v129
  let v179 : BitVec 32 := Scalar.subi v145 c0_i32_108
  let c1_i32_109 : BitVec 32 := 1#32
  let v181 : BitVec 32 := Scalar.divsi v179 c1_i32_109
  let v182 : BitVec 32 := Scalar.muli v181 c1_i32_109
  let v183 : BitVec 32 := Scalar.addi c0_i32_108 v182
  let c1_i32_111 : BitVec 32 := 1#32
  let arg20 : BitVec 32 := Scf.iv v183 c1_i32_111 k0_t13
  let c8_i32_244 : BitVec 32 := 8#32
  let v362 : BitVec 32 := Scalar.muli arg20 c8_i32_244
  v362
def k0_off414 (i : grid0.Coords) (k0_t13 : Fin (k0_t13_loop i).trips) : Fin 3 → Nat :=
  let c0_i32_108 : BitVec 32 := 0#32
  let c2_i32 : BitVec 32 := 2#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v95 : BitVec 32 := Scalar.muli c2_i32 v18
  let c8_i32 : BitVec 32 := 8#32
  let v127 : BitVec 32 := Scalar.addi v95 c8_i32
  let c1_i32_79 : BitVec 32 := 1#32
  let v128 : BitVec 32 := Scalar.subi v127 c1_i32_79
  let c0_i32_81 : BitVec 32 := 0#32
  let v130 : BitVec 1 := Scalar.cmpi .sgt v128 c0_i32_81
  let v131 : BitVec 32 := Scalar.extui v130
  let c0_i32_82 : BitVec 32 := 0#32
  let v132 : BitVec 1 := Scalar.cmpi .slt v128 c0_i32_82
  let v133 : BitVec 32 := Scalar.extui v132
  let v134 : BitVec 32 := Scalar.subi v131 v133
  let c8_i32_80 : BitVec 32 := 8#32
  let c0_i32_83 : BitVec 32 := 0#32
  let v135 : BitVec 1 := Scalar.cmpi .sgt c8_i32_80 c0_i32_83
  let v136 : BitVec 32 := Scalar.extui v135
  let c0_i32_84 : BitVec 32 := 0#32
  let v137 : BitVec 1 := Scalar.cmpi .slt c8_i32_80 c0_i32_84
  let v138 : BitVec 32 := Scalar.extui v137
  let v139 : BitVec 32 := Scalar.subi v136 v138
  let v140 : BitVec 1 := Scalar.cmpi .ne v134 v139
  let v141 : BitVec 32 := Scalar.remsi v128 c8_i32_80
  let c0_i32_85 : BitVec 32 := 0#32
  let v142 : BitVec 1 := Scalar.cmpi .ne v141 c0_i32_85
  let v143 : BitVec 1 := Scalar.andi v140 v142
  let v129 : BitVec 32 := Scalar.divsi v128 c8_i32_80
  let c1_i32_86 : BitVec 32 := 1#32
  let v144 : BitVec 32 := Scalar.subi v129 c1_i32_86
  let v145 : BitVec 32 := Scalar.select v143 v144 v129
  let v179 : BitVec 32 := Scalar.subi v145 c0_i32_108
  let c1_i32_109 : BitVec 32 := 1#32
  let v181 : BitVec 32 := Scalar.divsi v179 c1_i32_109
  let v182 : BitVec 32 := Scalar.muli v181 c1_i32_109
  let v183 : BitVec 32 := Scalar.addi c0_i32_108 v182
  let c1_i32_111 : BitVec 32 := 1#32
  let arg20 : BitVec 32 := Scf.iv v183 c1_i32_111 k0_t13
  let c8_i32_244 : BitVec 32 := 8#32
  let v362 : BitVec 32 := Scalar.muli arg20 c8_i32_244
  let v363 : BitVec 32 := v362
  let v364 : Index := Scalar.indexCast v363
  let c0_245 : Index := 0#32
  let c0_246 : Index := 0#32
  ![v364.toNat, 0, 0]
def k0_off415 (i : grid0.Coords) (k0_t13 : Fin (k0_t13_loop i).trips) : Fin 4 → Nat :=
  let c31 : Index := 31#32
  let c0_i32_108 : BitVec 32 := 0#32
  let c2_i32 : BitVec 32 := 2#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v95 : BitVec 32 := Scalar.muli c2_i32 v18
  let c8_i32 : BitVec 32 := 8#32
  let v127 : BitVec 32 := Scalar.addi v95 c8_i32
  let c1_i32_79 : BitVec 32 := 1#32
  let v128 : BitVec 32 := Scalar.subi v127 c1_i32_79
  let c0_i32_81 : BitVec 32 := 0#32
  let v130 : BitVec 1 := Scalar.cmpi .sgt v128 c0_i32_81
  let v131 : BitVec 32 := Scalar.extui v130
  let c0_i32_82 : BitVec 32 := 0#32
  let v132 : BitVec 1 := Scalar.cmpi .slt v128 c0_i32_82
  let v133 : BitVec 32 := Scalar.extui v132
  let v134 : BitVec 32 := Scalar.subi v131 v133
  let c8_i32_80 : BitVec 32 := 8#32
  let c0_i32_83 : BitVec 32 := 0#32
  let v135 : BitVec 1 := Scalar.cmpi .sgt c8_i32_80 c0_i32_83
  let v136 : BitVec 32 := Scalar.extui v135
  let c0_i32_84 : BitVec 32 := 0#32
  let v137 : BitVec 1 := Scalar.cmpi .slt c8_i32_80 c0_i32_84
  let v138 : BitVec 32 := Scalar.extui v137
  let v139 : BitVec 32 := Scalar.subi v136 v138
  let v140 : BitVec 1 := Scalar.cmpi .ne v134 v139
  let v141 : BitVec 32 := Scalar.remsi v128 c8_i32_80
  let c0_i32_85 : BitVec 32 := 0#32
  let v142 : BitVec 1 := Scalar.cmpi .ne v141 c0_i32_85
  let v143 : BitVec 1 := Scalar.andi v140 v142
  let v129 : BitVec 32 := Scalar.divsi v128 c8_i32_80
  let c1_i32_86 : BitVec 32 := 1#32
  let v144 : BitVec 32 := Scalar.subi v129 c1_i32_86
  let v145 : BitVec 32 := Scalar.select v143 v144 v129
  let v179 : BitVec 32 := Scalar.subi v145 c0_i32_108
  let c1_i32_109 : BitVec 32 := 1#32
  let v181 : BitVec 32 := Scalar.divsi v179 c1_i32_109
  let v182 : BitVec 32 := Scalar.muli v181 c1_i32_109
  let v183 : BitVec 32 := Scalar.addi c0_i32_108 v182
  let c1_i32_111 : BitVec 32 := 1#32
  let arg20 : BitVec 32 := Scf.iv v183 c1_i32_111 k0_t13
  let c8_i32_244 : BitVec 32 := 8#32
  let v362 : BitVec 32 := Scalar.muli arg20 c8_i32_244
  let v363 : BitVec 32 := v362
  let v366 : Index := Scalar.indexCast v363
  let c0_247 : Index := 0#32
  let c0_248 : Index := 0#32
  ![31, v366.toNat, 0, 0]
@[reducible] def k0_t14_loop : Scf.Loop 32 :=
  let c0_i32_245 : BitVec 32 := 0#32
  let c13_i32 : BitVec 32 := 13#32
  let v365 : BitVec 32 := Scalar.addi c0_i32_245 c13_i32
  let c1_i32_246 : BitVec 32 := 1#32
  ⟨c0_i32_245, v365, c1_i32_246⟩
@[reducible] def k0_t15_loop (i : grid0.Coords) : Scf.Loop 32 :=
  let c0_i32_255 : BitVec 32 := 0#32
  let c2_i32 : BitVec 32 := 2#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v95 : BitVec 32 := Scalar.muli c2_i32 v18
  let c8_i32 : BitVec 32 := 8#32
  let v127 : BitVec 32 := Scalar.addi v95 c8_i32
  let c1_i32_79 : BitVec 32 := 1#32
  let v128 : BitVec 32 := Scalar.subi v127 c1_i32_79
  let c0_i32_81 : BitVec 32 := 0#32
  let v130 : BitVec 1 := Scalar.cmpi .sgt v128 c0_i32_81
  let v131 : BitVec 32 := Scalar.extui v130
  let c0_i32_82 : BitVec 32 := 0#32
  let v132 : BitVec 1 := Scalar.cmpi .slt v128 c0_i32_82
  let v133 : BitVec 32 := Scalar.extui v132
  let v134 : BitVec 32 := Scalar.subi v131 v133
  let c8_i32_80 : BitVec 32 := 8#32
  let c0_i32_83 : BitVec 32 := 0#32
  let v135 : BitVec 1 := Scalar.cmpi .sgt c8_i32_80 c0_i32_83
  let v136 : BitVec 32 := Scalar.extui v135
  let c0_i32_84 : BitVec 32 := 0#32
  let v137 : BitVec 1 := Scalar.cmpi .slt c8_i32_80 c0_i32_84
  let v138 : BitVec 32 := Scalar.extui v137
  let v139 : BitVec 32 := Scalar.subi v136 v138
  let v140 : BitVec 1 := Scalar.cmpi .ne v134 v139
  let v141 : BitVec 32 := Scalar.remsi v128 c8_i32_80
  let c0_i32_85 : BitVec 32 := 0#32
  let v142 : BitVec 1 := Scalar.cmpi .ne v141 c0_i32_85
  let v143 : BitVec 1 := Scalar.andi v140 v142
  let v129 : BitVec 32 := Scalar.divsi v128 c8_i32_80
  let c1_i32_86 : BitVec 32 := 1#32
  let v144 : BitVec 32 := Scalar.subi v129 c1_i32_86
  let v145 : BitVec 32 := Scalar.select v143 v144 v129
  let v379 : BitVec 32 := Scalar.subi v145 c0_i32_255
  let c1_i32_256 : BitVec 32 := 1#32
  let v381 : BitVec 32 := Scalar.divsi v379 c1_i32_256
  let v382 : BitVec 32 := Scalar.muli v381 c1_i32_256
  let v383 : BitVec 32 := Scalar.addi c0_i32_255 v382
  let c1_i32_257 : BitVec 32 := 1#32
  ⟨c0_i32_255, v383, c1_i32_257⟩
def k0_mult13 (i : grid0.Coords) (k0_t15 : Fin (k0_t15_loop i).trips) : BitVec 32 :=
  let c0_i32_255 : BitVec 32 := 0#32
  let c1_i32_257 : BitVec 32 := 1#32
  let arg22 : BitVec 32 := Scf.iv c0_i32_255 c1_i32_257 k0_t15
  let c8_i32_260 : BitVec 32 := 8#32
  let v390 : BitVec 32 := Scalar.muli arg22 c8_i32_260
  v390
def k0_off416 (i : grid0.Coords) (k0_t15 : Fin (k0_t15_loop i).trips) : Fin 3 → Nat :=
  let c0_i32_255 : BitVec 32 := 0#32
  let c1_i32_257 : BitVec 32 := 1#32
  let arg22 : BitVec 32 := Scf.iv c0_i32_255 c1_i32_257 k0_t15
  let c8_i32_260 : BitVec 32 := 8#32
  let v390 : BitVec 32 := Scalar.muli arg22 c8_i32_260
  let v391 : BitVec 32 := v390
  let v418 : Index := Scalar.indexCast v391
  let c0_268 : Index := 0#32
  let c0_269 : Index := 0#32
  ![v418.toNat, 0, 0]
@[reducible] def k0_t16_loop (i : grid0.Coords) : Scf.Loop 32 :=
  let c0_i32_255 : BitVec 32 := 0#32
  let c2_i32 : BitVec 32 := 2#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v95 : BitVec 32 := Scalar.muli c2_i32 v18
  let c8_i32 : BitVec 32 := 8#32
  let v127 : BitVec 32 := Scalar.addi v95 c8_i32
  let c1_i32_79 : BitVec 32 := 1#32
  let v128 : BitVec 32 := Scalar.subi v127 c1_i32_79
  let c0_i32_81 : BitVec 32 := 0#32
  let v130 : BitVec 1 := Scalar.cmpi .sgt v128 c0_i32_81
  let v131 : BitVec 32 := Scalar.extui v130
  let c0_i32_82 : BitVec 32 := 0#32
  let v132 : BitVec 1 := Scalar.cmpi .slt v128 c0_i32_82
  let v133 : BitVec 32 := Scalar.extui v132
  let v134 : BitVec 32 := Scalar.subi v131 v133
  let c8_i32_80 : BitVec 32 := 8#32
  let c0_i32_83 : BitVec 32 := 0#32
  let v135 : BitVec 1 := Scalar.cmpi .sgt c8_i32_80 c0_i32_83
  let v136 : BitVec 32 := Scalar.extui v135
  let c0_i32_84 : BitVec 32 := 0#32
  let v137 : BitVec 1 := Scalar.cmpi .slt c8_i32_80 c0_i32_84
  let v138 : BitVec 32 := Scalar.extui v137
  let v139 : BitVec 32 := Scalar.subi v136 v138
  let v140 : BitVec 1 := Scalar.cmpi .ne v134 v139
  let v141 : BitVec 32 := Scalar.remsi v128 c8_i32_80
  let c0_i32_85 : BitVec 32 := 0#32
  let v142 : BitVec 1 := Scalar.cmpi .ne v141 c0_i32_85
  let v143 : BitVec 1 := Scalar.andi v140 v142
  let v129 : BitVec 32 := Scalar.divsi v128 c8_i32_80
  let c1_i32_86 : BitVec 32 := 1#32
  let v144 : BitVec 32 := Scalar.subi v129 c1_i32_86
  let v145 : BitVec 32 := Scalar.select v143 v144 v129
  let v379 : BitVec 32 := Scalar.subi v145 c0_i32_255
  let c1_i32_256 : BitVec 32 := 1#32
  let v381 : BitVec 32 := Scalar.divsi v379 c1_i32_256
  let v382 : BitVec 32 := Scalar.muli v381 c1_i32_256
  let v383 : BitVec 32 := Scalar.addi c0_i32_255 v382
  let v380 : BitVec 32 := Scalar.addi c0_i32_255 v379
  let c1_i32_258 : BitVec 32 := 1#32
  ⟨v383, v380, c1_i32_258⟩
def k0_mult14 (i : grid0.Coords) (k0_t16 : Fin (k0_t16_loop i).trips) : BitVec 32 :=
  let c0_i32_255 : BitVec 32 := 0#32
  let c2_i32 : BitVec 32 := 2#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v95 : BitVec 32 := Scalar.muli c2_i32 v18
  let c8_i32 : BitVec 32 := 8#32
  let v127 : BitVec 32 := Scalar.addi v95 c8_i32
  let c1_i32_79 : BitVec 32 := 1#32
  let v128 : BitVec 32 := Scalar.subi v127 c1_i32_79
  let c0_i32_81 : BitVec 32 := 0#32
  let v130 : BitVec 1 := Scalar.cmpi .sgt v128 c0_i32_81
  let v131 : BitVec 32 := Scalar.extui v130
  let c0_i32_82 : BitVec 32 := 0#32
  let v132 : BitVec 1 := Scalar.cmpi .slt v128 c0_i32_82
  let v133 : BitVec 32 := Scalar.extui v132
  let v134 : BitVec 32 := Scalar.subi v131 v133
  let c8_i32_80 : BitVec 32 := 8#32
  let c0_i32_83 : BitVec 32 := 0#32
  let v135 : BitVec 1 := Scalar.cmpi .sgt c8_i32_80 c0_i32_83
  let v136 : BitVec 32 := Scalar.extui v135
  let c0_i32_84 : BitVec 32 := 0#32
  let v137 : BitVec 1 := Scalar.cmpi .slt c8_i32_80 c0_i32_84
  let v138 : BitVec 32 := Scalar.extui v137
  let v139 : BitVec 32 := Scalar.subi v136 v138
  let v140 : BitVec 1 := Scalar.cmpi .ne v134 v139
  let v141 : BitVec 32 := Scalar.remsi v128 c8_i32_80
  let c0_i32_85 : BitVec 32 := 0#32
  let v142 : BitVec 1 := Scalar.cmpi .ne v141 c0_i32_85
  let v143 : BitVec 1 := Scalar.andi v140 v142
  let v129 : BitVec 32 := Scalar.divsi v128 c8_i32_80
  let c1_i32_86 : BitVec 32 := 1#32
  let v144 : BitVec 32 := Scalar.subi v129 c1_i32_86
  let v145 : BitVec 32 := Scalar.select v143 v144 v129
  let v379 : BitVec 32 := Scalar.subi v145 c0_i32_255
  let c1_i32_256 : BitVec 32 := 1#32
  let v381 : BitVec 32 := Scalar.divsi v379 c1_i32_256
  let v382 : BitVec 32 := Scalar.muli v381 c1_i32_256
  let v383 : BitVec 32 := Scalar.addi c0_i32_255 v382
  let c1_i32_258 : BitVec 32 := 1#32
  let arg22 : BitVec 32 := Scf.iv v383 c1_i32_258 k0_t16
  let c8_i32_260 : BitVec 32 := 8#32
  let v390 : BitVec 32 := Scalar.muli arg22 c8_i32_260
  v390
def k0_off417 (i : grid0.Coords) (k0_t16 : Fin (k0_t16_loop i).trips) : Fin 3 → Nat :=
  let c0_i32_255 : BitVec 32 := 0#32
  let c2_i32 : BitVec 32 := 2#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v95 : BitVec 32 := Scalar.muli c2_i32 v18
  let c8_i32 : BitVec 32 := 8#32
  let v127 : BitVec 32 := Scalar.addi v95 c8_i32
  let c1_i32_79 : BitVec 32 := 1#32
  let v128 : BitVec 32 := Scalar.subi v127 c1_i32_79
  let c0_i32_81 : BitVec 32 := 0#32
  let v130 : BitVec 1 := Scalar.cmpi .sgt v128 c0_i32_81
  let v131 : BitVec 32 := Scalar.extui v130
  let c0_i32_82 : BitVec 32 := 0#32
  let v132 : BitVec 1 := Scalar.cmpi .slt v128 c0_i32_82
  let v133 : BitVec 32 := Scalar.extui v132
  let v134 : BitVec 32 := Scalar.subi v131 v133
  let c8_i32_80 : BitVec 32 := 8#32
  let c0_i32_83 : BitVec 32 := 0#32
  let v135 : BitVec 1 := Scalar.cmpi .sgt c8_i32_80 c0_i32_83
  let v136 : BitVec 32 := Scalar.extui v135
  let c0_i32_84 : BitVec 32 := 0#32
  let v137 : BitVec 1 := Scalar.cmpi .slt c8_i32_80 c0_i32_84
  let v138 : BitVec 32 := Scalar.extui v137
  let v139 : BitVec 32 := Scalar.subi v136 v138
  let v140 : BitVec 1 := Scalar.cmpi .ne v134 v139
  let v141 : BitVec 32 := Scalar.remsi v128 c8_i32_80
  let c0_i32_85 : BitVec 32 := 0#32
  let v142 : BitVec 1 := Scalar.cmpi .ne v141 c0_i32_85
  let v143 : BitVec 1 := Scalar.andi v140 v142
  let v129 : BitVec 32 := Scalar.divsi v128 c8_i32_80
  let c1_i32_86 : BitVec 32 := 1#32
  let v144 : BitVec 32 := Scalar.subi v129 c1_i32_86
  let v145 : BitVec 32 := Scalar.select v143 v144 v129
  let v379 : BitVec 32 := Scalar.subi v145 c0_i32_255
  let c1_i32_256 : BitVec 32 := 1#32
  let v381 : BitVec 32 := Scalar.divsi v379 c1_i32_256
  let v382 : BitVec 32 := Scalar.muli v381 c1_i32_256
  let v383 : BitVec 32 := Scalar.addi c0_i32_255 v382
  let c1_i32_258 : BitVec 32 := 1#32
  let arg22 : BitVec 32 := Scf.iv v383 c1_i32_258 k0_t16
  let c8_i32_260 : BitVec 32 := 8#32
  let v390 : BitVec 32 := Scalar.muli arg22 c8_i32_260
  let v391 : BitVec 32 := v390
  let v418 : Index := Scalar.indexCast v391
  let c0_268 : Index := 0#32
  let c0_269 : Index := 0#32
  ![v418.toNat, 0, 0]
@[reducible] def k0_t17_loop (i : grid0.Coords) : Scf.Loop 32 :=
  let c0_i32_249 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v369 : BitVec 32 := Scalar.subi v18 c0_i32_249
  let c1_i32_250 : BitVec 32 := 1#32
  let v371 : BitVec 32 := Scalar.divsi v369 c1_i32_250
  let v372 : BitVec 32 := Scalar.muli v371 c1_i32_250
  let v373 : BitVec 32 := Scalar.addi c0_i32_249 v372
  let c1_i32_251 : BitVec 32 := 1#32
  ⟨c0_i32_249, v373, c1_i32_251⟩
def k0_off418 (i : grid0.Coords) (k0_t17 : Fin (k0_t17_loop i).trips) : Fin 3 → Nat :=
  let c0_i32_249 : BitVec 32 := 0#32
  let c1_i32_251 : BitVec 32 := 1#32
  let arg20 : BitVec 32 := Scf.iv c0_i32_249 c1_i32_251 k0_t17
  let v374 : Index := Scalar.indexCast arg20
  let c0_253 : Index := 0#32
  let c0_254 : Index := 0#32
  ![v374.toNat, 0, 0]
@[reducible] def k0_t18_loop (i : grid0.Coords) : Scf.Loop 32 :=
  let c0_i32_249 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v369 : BitVec 32 := Scalar.subi v18 c0_i32_249
  let c1_i32_250 : BitVec 32 := 1#32
  let v371 : BitVec 32 := Scalar.divsi v369 c1_i32_250
  let v372 : BitVec 32 := Scalar.muli v371 c1_i32_250
  let v373 : BitVec 32 := Scalar.addi c0_i32_249 v372
  let v370 : BitVec 32 := Scalar.addi c0_i32_249 v369
  let c1_i32_252 : BitVec 32 := 1#32
  ⟨v373, v370, c1_i32_252⟩
def k0_off419 (i : grid0.Coords) (k0_t18 : Fin (k0_t18_loop i).trips) : Fin 3 → Nat :=
  let c0_i32_249 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v369 : BitVec 32 := Scalar.subi v18 c0_i32_249
  let c1_i32_250 : BitVec 32 := 1#32
  let v371 : BitVec 32 := Scalar.divsi v369 c1_i32_250
  let v372 : BitVec 32 := Scalar.muli v371 c1_i32_250
  let v373 : BitVec 32 := Scalar.addi c0_i32_249 v372
  let c1_i32_252 : BitVec 32 := 1#32
  let arg20 : BitVec 32 := Scf.iv v373 c1_i32_252 k0_t18
  let v374 : Index := Scalar.indexCast arg20
  let c0_253 : Index := 0#32
  let c0_254 : Index := 0#32
  ![v374.toNat, 0, 0]
def k0_mult15 : BitVec 32 :=
  let c0_i32_140 : BitVec 32 := 0#32
  c0_i32_140
@[reducible] def k0_t19_loop (i : grid0.Coords) : Scf.Loop 32 :=
  let c0_i32_188 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c0_i32_181 : BitVec 32 := 0#32
  let v279 : BitVec 1 := Scalar.cmpi .sgt v17 c0_i32_181
  let v280 : BitVec 32 := Scalar.extui v279
  let c0_i32_182 : BitVec 32 := 0#32
  let v281 : BitVec 1 := Scalar.cmpi .slt v17 c0_i32_182
  let v282 : BitVec 32 := Scalar.extui v281
  let v283 : BitVec 32 := Scalar.subi v280 v282
  let c2_i32_180 : BitVec 32 := 2#32
  let c0_i32_183 : BitVec 32 := 0#32
  let v284 : BitVec 1 := Scalar.cmpi .sgt c2_i32_180 c0_i32_183
  let v285 : BitVec 32 := Scalar.extui v284
  let c0_i32_184 : BitVec 32 := 0#32
  let v286 : BitVec 1 := Scalar.cmpi .slt c2_i32_180 c0_i32_184
  let v287 : BitVec 32 := Scalar.extui v286
  let v288 : BitVec 32 := Scalar.subi v285 v287
  let v289 : BitVec 1 := Scalar.cmpi .ne v283 v288
  let v290 : BitVec 32 := Scalar.remsi v17 c2_i32_180
  let c0_i32_185 : BitVec 32 := 0#32
  let v291 : BitVec 1 := Scalar.cmpi .ne v290 c0_i32_185
  let v292 : BitVec 1 := Scalar.andi v289 v291
  let v278 : BitVec 32 := Scalar.divsi v17 c2_i32_180
  let c1_i32_186 : BitVec 32 := 1#32
  let v293 : BitVec 32 := Scalar.subi v278 c1_i32_186
  let v294 : BitVec 32 := Scalar.select v292 v293 v278
  let v295 : BitVec 32 := Scalar.subi v294 c0_i32_188
  let c1_i32_189 : BitVec 32 := 1#32
  let v297 : BitVec 32 := Scalar.divsi v295 c1_i32_189
  let v298 : BitVec 32 := Scalar.muli v297 c1_i32_189
  let v299 : BitVec 32 := Scalar.addi c0_i32_188 v298
  let c1_i32_190 : BitVec 32 := 1#32
  ⟨c0_i32_188, v299, c1_i32_190⟩
def k0_mult16 (i : grid0.Coords) (k0_t19 : Fin (k0_t19_loop i).trips) : BitVec 32 :=
  let c2_i32_244 : BitVec 32 := 2#32
  let c0_i32_188 : BitVec 32 := 0#32
  let c1_i32_190 : BitVec 32 := 1#32
  let arg20 : BitVec 32 := Scf.iv c0_i32_188 c1_i32_190 k0_t19
  let v362 : BitVec 32 := Scalar.muli c2_i32_244 arg20
  let c1_i32_245 : BitVec 32 := 1#32
  let v363 : BitVec 32 := Scalar.addi v362 c1_i32_245
  let c512_i32_246 : BitVec 32 := 512#32
  let v364 : BitVec 32 := Scalar.muli v363 c512_i32_246
  v364
def k0_off420 (i : grid0.Coords) (k0_t19 : Fin (k0_t19_loop i).trips) (c1_i32_245 : BitVec 32) : Fin 3 → Nat :=
  let c0_247 : Index := 0#32
  let c2_i32_244 : BitVec 32 := 2#32
  let c0_i32_188 : BitVec 32 := 0#32
  let c1_i32_190 : BitVec 32 := 1#32
  let arg20 : BitVec 32 := Scf.iv c0_i32_188 c1_i32_190 k0_t19
  let v362 : BitVec 32 := Scalar.muli c2_i32_244 arg20
  let v363 : BitVec 32 := Scalar.addi v362 c1_i32_245
  let c512_i32_246 : BitVec 32 := 512#32
  let v364 : BitVec 32 := Scalar.muli v363 c512_i32_246
  let v365 : BitVec 32 := v364
  let v366 : Index := Scalar.indexCast v365
  let c0_248 : Index := 0#32
  ![0, v366.toNat, 0]
def k0_off421 (i : grid0.Coords) (k0_t19 : Fin (k0_t19_loop i).trips) (c1_i32_245 : BitVec 32) : Fin 3 → Nat :=
  let c2_i32_244 : BitVec 32 := 2#32
  let c0_i32_188 : BitVec 32 := 0#32
  let c1_i32_190 : BitVec 32 := 1#32
  let arg20 : BitVec 32 := Scf.iv c0_i32_188 c1_i32_190 k0_t19
  let v362 : BitVec 32 := Scalar.muli c2_i32_244 arg20
  let v363 : BitVec 32 := Scalar.addi v362 c1_i32_245
  let v369 : Index := Scalar.indexCast v363
  let c0_249 : Index := 0#32
  let c0_250 : Index := 0#32
  ![v369.toNat, 0, 0]
def k0_mult17 (i : grid0.Coords) (k0_t19 : Fin (k0_t19_loop i).trips) : BitVec 32 :=
  let c2_i32_244 : BitVec 32 := 2#32
  let c0_i32_188 : BitVec 32 := 0#32
  let c1_i32_190 : BitVec 32 := 1#32
  let arg20 : BitVec 32 := Scf.iv c0_i32_188 c1_i32_190 k0_t19
  let v362 : BitVec 32 := Scalar.muli c2_i32_244 arg20
  let c512_i32_285 : BitVec 32 := 512#32
  let v421 : BitVec 32 := Scalar.muli v362 c512_i32_285
  v421
def k0_off422 (i : grid0.Coords) (k0_t19 : Fin (k0_t19_loop i).trips) : Fin 3 → Nat :=
  let c0_322 : Index := 0#32
  let c0_323 : Index := 0#32
  let c2_i32_244 : BitVec 32 := 2#32
  let c0_i32_188 : BitVec 32 := 0#32
  let c1_i32_190 : BitVec 32 := 1#32
  let arg20 : BitVec 32 := Scf.iv c0_i32_188 c1_i32_190 k0_t19
  let v362 : BitVec 32 := Scalar.muli c2_i32_244 arg20
  let c512_i32_285 : BitVec 32 := 512#32
  let v421 : BitVec 32 := Scalar.muli v362 c512_i32_285
  let v422 : BitVec 32 := v421
  let v467 : Index := Scalar.indexCast v422
  ![0, 0, v467.toNat]
def k0_off423 (i : grid0.Coords) (k0_t19 : Fin (k0_t19_loop i).trips) : Fin 3 → Nat :=
  let c0_334 : Index := 0#32
  let c128_335 : Index := 128#32
  let c2_i32_244 : BitVec 32 := 2#32
  let c0_i32_188 : BitVec 32 := 0#32
  let c1_i32_190 : BitVec 32 := 1#32
  let arg20 : BitVec 32 := Scf.iv c0_i32_188 c1_i32_190 k0_t19
  let v362 : BitVec 32 := Scalar.muli c2_i32_244 arg20
  let c512_i32_285 : BitVec 32 := 512#32
  let v421 : BitVec 32 := Scalar.muli v362 c512_i32_285
  let v422 : BitVec 32 := v421
  let v485 : Index := Scalar.indexCast v422
  ![0, 128, v485.toNat]
def k0_off424 (i : grid0.Coords) (k0_t19 : Fin (k0_t19_loop i).trips) : Fin 3 → Nat :=
  let c0_346 : Index := 0#32
  let c256_347 : Index := 256#32
  let c2_i32_244 : BitVec 32 := 2#32
  let c0_i32_188 : BitVec 32 := 0#32
  let c1_i32_190 : BitVec 32 := 1#32
  let arg20 : BitVec 32 := Scf.iv c0_i32_188 c1_i32_190 k0_t19
  let v362 : BitVec 32 := Scalar.muli c2_i32_244 arg20
  let c512_i32_285 : BitVec 32 := 512#32
  let v421 : BitVec 32 := Scalar.muli v362 c512_i32_285
  let v422 : BitVec 32 := v421
  let v503 : Index := Scalar.indexCast v422
  ![0, 256, v503.toNat]
def k0_off425 (i : grid0.Coords) (k0_t19 : Fin (k0_t19_loop i).trips) : Fin 3 → Nat :=
  let c0_358 : Index := 0#32
  let c384_359 : Index := 384#32
  let c2_i32_244 : BitVec 32 := 2#32
  let c0_i32_188 : BitVec 32 := 0#32
  let c1_i32_190 : BitVec 32 := 1#32
  let arg20 : BitVec 32 := Scf.iv c0_i32_188 c1_i32_190 k0_t19
  let v362 : BitVec 32 := Scalar.muli c2_i32_244 arg20
  let c512_i32_285 : BitVec 32 := 512#32
  let v421 : BitVec 32 := Scalar.muli v362 c512_i32_285
  let v422 : BitVec 32 := v421
  let v521 : Index := Scalar.indexCast v422
  ![0, 384, v521.toNat]
def k0_mult18 (i : grid0.Coords) (k0_t19 : Fin (k0_t19_loop i).trips) : BitVec 32 :=
  let c2_i32_244 : BitVec 32 := 2#32
  let c0_i32_188 : BitVec 32 := 0#32
  let c1_i32_190 : BitVec 32 := 1#32
  let arg20 : BitVec 32 := Scf.iv c0_i32_188 c1_i32_190 k0_t19
  let v362 : BitVec 32 := Scalar.muli c2_i32_244 arg20
  let c2_i32_370 : BitVec 32 := 2#32
  let v539 : BitVec 32 := Scalar.addi v362 c2_i32_370
  let c512_i32_371 : BitVec 32 := 512#32
  let v540 : BitVec 32 := Scalar.muli v539 c512_i32_371
  v540
def k0_mult19 (i : grid0.Coords) (k0_t19 : Fin (k0_t19_loop i).trips) : BitVec 32 :=
  let c2_i32_244 : BitVec 32 := 2#32
  let c0_i32_188 : BitVec 32 := 0#32
  let c1_i32_190 : BitVec 32 := 1#32
  let arg20 : BitVec 32 := Scf.iv c0_i32_188 c1_i32_190 k0_t19
  let v362 : BitVec 32 := Scalar.muli c2_i32_244 arg20
  let c1_i32_410 : BitVec 32 := 1#32
  let v597 : BitVec 32 := Scalar.addi v362 c1_i32_410
  let c512_i32_411 : BitVec 32 := 512#32
  let v598 : BitVec 32 := Scalar.muli v597 c512_i32_411
  v598
def k0_off426 (i : grid0.Coords) (k0_t19 : Fin (k0_t19_loop i).trips) : Fin 3 → Nat :=
  let c0_448 : Index := 0#32
  let c0_449 : Index := 0#32
  let c2_i32_244 : BitVec 32 := 2#32
  let c0_i32_188 : BitVec 32 := 0#32
  let c1_i32_190 : BitVec 32 := 1#32
  let arg20 : BitVec 32 := Scf.iv c0_i32_188 c1_i32_190 k0_t19
  let v362 : BitVec 32 := Scalar.muli c2_i32_244 arg20
  let c1_i32_410 : BitVec 32 := 1#32
  let v597 : BitVec 32 := Scalar.addi v362 c1_i32_410
  let c512_i32_411 : BitVec 32 := 512#32
  let v598 : BitVec 32 := Scalar.muli v597 c512_i32_411
  let v599 : BitVec 32 := v598
  let v644 : Index := Scalar.indexCast v599
  ![0, 0, v644.toNat]
def k0_off427 (i : grid0.Coords) (k0_t19 : Fin (k0_t19_loop i).trips) : Fin 3 → Nat :=
  let c0_460 : Index := 0#32
  let c128_461 : Index := 128#32
  let c2_i32_244 : BitVec 32 := 2#32
  let c0_i32_188 : BitVec 32 := 0#32
  let c1_i32_190 : BitVec 32 := 1#32
  let arg20 : BitVec 32 := Scf.iv c0_i32_188 c1_i32_190 k0_t19
  let v362 : BitVec 32 := Scalar.muli c2_i32_244 arg20
  let c1_i32_410 : BitVec 32 := 1#32
  let v597 : BitVec 32 := Scalar.addi v362 c1_i32_410
  let c512_i32_411 : BitVec 32 := 512#32
  let v598 : BitVec 32 := Scalar.muli v597 c512_i32_411
  let v599 : BitVec 32 := v598
  let v662 : Index := Scalar.indexCast v599
  ![0, 128, v662.toNat]
def k0_off428 (i : grid0.Coords) (k0_t19 : Fin (k0_t19_loop i).trips) : Fin 3 → Nat :=
  let c0_472 : Index := 0#32
  let c256_473 : Index := 256#32
  let c2_i32_244 : BitVec 32 := 2#32
  let c0_i32_188 : BitVec 32 := 0#32
  let c1_i32_190 : BitVec 32 := 1#32
  let arg20 : BitVec 32 := Scf.iv c0_i32_188 c1_i32_190 k0_t19
  let v362 : BitVec 32 := Scalar.muli c2_i32_244 arg20
  let c1_i32_410 : BitVec 32 := 1#32
  let v597 : BitVec 32 := Scalar.addi v362 c1_i32_410
  let c512_i32_411 : BitVec 32 := 512#32
  let v598 : BitVec 32 := Scalar.muli v597 c512_i32_411
  let v599 : BitVec 32 := v598
  let v680 : Index := Scalar.indexCast v599
  ![0, 256, v680.toNat]
def k0_off429 (i : grid0.Coords) (k0_t19 : Fin (k0_t19_loop i).trips) : Fin 3 → Nat :=
  let c0_484 : Index := 0#32
  let c384_485 : Index := 384#32
  let c2_i32_244 : BitVec 32 := 2#32
  let c0_i32_188 : BitVec 32 := 0#32
  let c1_i32_190 : BitVec 32 := 1#32
  let arg20 : BitVec 32 := Scf.iv c0_i32_188 c1_i32_190 k0_t19
  let v362 : BitVec 32 := Scalar.muli c2_i32_244 arg20
  let c1_i32_410 : BitVec 32 := 1#32
  let v597 : BitVec 32 := Scalar.addi v362 c1_i32_410
  let c512_i32_411 : BitVec 32 := 512#32
  let v598 : BitVec 32 := Scalar.muli v597 c512_i32_411
  let v599 : BitVec 32 := v598
  let v698 : Index := Scalar.indexCast v599
  ![0, 384, v698.toNat]
@[reducible] def k0_t20_loop (i : grid0.Coords) : Scf.Loop 32 :=
  let c0_i32_188 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c0_i32_181 : BitVec 32 := 0#32
  let v279 : BitVec 1 := Scalar.cmpi .sgt v17 c0_i32_181
  let v280 : BitVec 32 := Scalar.extui v279
  let c0_i32_182 : BitVec 32 := 0#32
  let v281 : BitVec 1 := Scalar.cmpi .slt v17 c0_i32_182
  let v282 : BitVec 32 := Scalar.extui v281
  let v283 : BitVec 32 := Scalar.subi v280 v282
  let c2_i32_180 : BitVec 32 := 2#32
  let c0_i32_183 : BitVec 32 := 0#32
  let v284 : BitVec 1 := Scalar.cmpi .sgt c2_i32_180 c0_i32_183
  let v285 : BitVec 32 := Scalar.extui v284
  let c0_i32_184 : BitVec 32 := 0#32
  let v286 : BitVec 1 := Scalar.cmpi .slt c2_i32_180 c0_i32_184
  let v287 : BitVec 32 := Scalar.extui v286
  let v288 : BitVec 32 := Scalar.subi v285 v287
  let v289 : BitVec 1 := Scalar.cmpi .ne v283 v288
  let v290 : BitVec 32 := Scalar.remsi v17 c2_i32_180
  let c0_i32_185 : BitVec 32 := 0#32
  let v291 : BitVec 1 := Scalar.cmpi .ne v290 c0_i32_185
  let v292 : BitVec 1 := Scalar.andi v289 v291
  let v278 : BitVec 32 := Scalar.divsi v17 c2_i32_180
  let c1_i32_186 : BitVec 32 := 1#32
  let v293 : BitVec 32 := Scalar.subi v278 c1_i32_186
  let v294 : BitVec 32 := Scalar.select v292 v293 v278
  let v295 : BitVec 32 := Scalar.subi v294 c0_i32_188
  let c1_i32_189 : BitVec 32 := 1#32
  let v297 : BitVec 32 := Scalar.divsi v295 c1_i32_189
  let v298 : BitVec 32 := Scalar.muli v297 c1_i32_189
  let v299 : BitVec 32 := Scalar.addi c0_i32_188 v298
  let v296 : BitVec 32 := Scalar.addi c0_i32_188 v295
  let c1_i32_191 : BitVec 32 := 1#32
  ⟨v299, v296, c1_i32_191⟩
def k0_mult20 (i : grid0.Coords) (k0_t20 : Fin (k0_t20_loop i).trips) : BitVec 32 :=
  let c2_i32_244 : BitVec 32 := 2#32
  let c0_i32_188 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c0_i32_181 : BitVec 32 := 0#32
  let v279 : BitVec 1 := Scalar.cmpi .sgt v17 c0_i32_181
  let v280 : BitVec 32 := Scalar.extui v279
  let c0_i32_182 : BitVec 32 := 0#32
  let v281 : BitVec 1 := Scalar.cmpi .slt v17 c0_i32_182
  let v282 : BitVec 32 := Scalar.extui v281
  let v283 : BitVec 32 := Scalar.subi v280 v282
  let c2_i32_180 : BitVec 32 := 2#32
  let c0_i32_183 : BitVec 32 := 0#32
  let v284 : BitVec 1 := Scalar.cmpi .sgt c2_i32_180 c0_i32_183
  let v285 : BitVec 32 := Scalar.extui v284
  let c0_i32_184 : BitVec 32 := 0#32
  let v286 : BitVec 1 := Scalar.cmpi .slt c2_i32_180 c0_i32_184
  let v287 : BitVec 32 := Scalar.extui v286
  let v288 : BitVec 32 := Scalar.subi v285 v287
  let v289 : BitVec 1 := Scalar.cmpi .ne v283 v288
  let v290 : BitVec 32 := Scalar.remsi v17 c2_i32_180
  let c0_i32_185 : BitVec 32 := 0#32
  let v291 : BitVec 1 := Scalar.cmpi .ne v290 c0_i32_185
  let v292 : BitVec 1 := Scalar.andi v289 v291
  let v278 : BitVec 32 := Scalar.divsi v17 c2_i32_180
  let c1_i32_186 : BitVec 32 := 1#32
  let v293 : BitVec 32 := Scalar.subi v278 c1_i32_186
  let v294 : BitVec 32 := Scalar.select v292 v293 v278
  let v295 : BitVec 32 := Scalar.subi v294 c0_i32_188
  let c1_i32_189 : BitVec 32 := 1#32
  let v297 : BitVec 32 := Scalar.divsi v295 c1_i32_189
  let v298 : BitVec 32 := Scalar.muli v297 c1_i32_189
  let v299 : BitVec 32 := Scalar.addi c0_i32_188 v298
  let c1_i32_191 : BitVec 32 := 1#32
  let arg20 : BitVec 32 := Scf.iv v299 c1_i32_191 k0_t20
  let v362 : BitVec 32 := Scalar.muli c2_i32_244 arg20
  let c1_i32_245 : BitVec 32 := 1#32
  let v363 : BitVec 32 := Scalar.addi v362 c1_i32_245
  let c512_i32_246 : BitVec 32 := 512#32
  let v364 : BitVec 32 := Scalar.muli v363 c512_i32_246
  v364
def k0_off430 (i : grid0.Coords) (k0_t20 : Fin (k0_t20_loop i).trips) (c1_i32_245 : BitVec 32) : Fin 3 → Nat :=
  let c0_247 : Index := 0#32
  let c2_i32_244 : BitVec 32 := 2#32
  let c0_i32_188 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c0_i32_181 : BitVec 32 := 0#32
  let v279 : BitVec 1 := Scalar.cmpi .sgt v17 c0_i32_181
  let v280 : BitVec 32 := Scalar.extui v279
  let c0_i32_182 : BitVec 32 := 0#32
  let v281 : BitVec 1 := Scalar.cmpi .slt v17 c0_i32_182
  let v282 : BitVec 32 := Scalar.extui v281
  let v283 : BitVec 32 := Scalar.subi v280 v282
  let c2_i32_180 : BitVec 32 := 2#32
  let c0_i32_183 : BitVec 32 := 0#32
  let v284 : BitVec 1 := Scalar.cmpi .sgt c2_i32_180 c0_i32_183
  let v285 : BitVec 32 := Scalar.extui v284
  let c0_i32_184 : BitVec 32 := 0#32
  let v286 : BitVec 1 := Scalar.cmpi .slt c2_i32_180 c0_i32_184
  let v287 : BitVec 32 := Scalar.extui v286
  let v288 : BitVec 32 := Scalar.subi v285 v287
  let v289 : BitVec 1 := Scalar.cmpi .ne v283 v288
  let v290 : BitVec 32 := Scalar.remsi v17 c2_i32_180
  let c0_i32_185 : BitVec 32 := 0#32
  let v291 : BitVec 1 := Scalar.cmpi .ne v290 c0_i32_185
  let v292 : BitVec 1 := Scalar.andi v289 v291
  let v278 : BitVec 32 := Scalar.divsi v17 c2_i32_180
  let c1_i32_186 : BitVec 32 := 1#32
  let v293 : BitVec 32 := Scalar.subi v278 c1_i32_186
  let v294 : BitVec 32 := Scalar.select v292 v293 v278
  let v295 : BitVec 32 := Scalar.subi v294 c0_i32_188
  let c1_i32_189 : BitVec 32 := 1#32
  let v297 : BitVec 32 := Scalar.divsi v295 c1_i32_189
  let v298 : BitVec 32 := Scalar.muli v297 c1_i32_189
  let v299 : BitVec 32 := Scalar.addi c0_i32_188 v298
  let c1_i32_191 : BitVec 32 := 1#32
  let arg20 : BitVec 32 := Scf.iv v299 c1_i32_191 k0_t20
  let v362 : BitVec 32 := Scalar.muli c2_i32_244 arg20
  let v363 : BitVec 32 := Scalar.addi v362 c1_i32_245
  let c512_i32_246 : BitVec 32 := 512#32
  let v364 : BitVec 32 := Scalar.muli v363 c512_i32_246
  let v365 : BitVec 32 := v364
  let v366 : Index := Scalar.indexCast v365
  let c0_248 : Index := 0#32
  ![0, v366.toNat, 0]
def k0_off431 (i : grid0.Coords) (k0_t20 : Fin (k0_t20_loop i).trips) (c1_i32_245 : BitVec 32) : Fin 3 → Nat :=
  let c2_i32_244 : BitVec 32 := 2#32
  let c0_i32_188 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c0_i32_181 : BitVec 32 := 0#32
  let v279 : BitVec 1 := Scalar.cmpi .sgt v17 c0_i32_181
  let v280 : BitVec 32 := Scalar.extui v279
  let c0_i32_182 : BitVec 32 := 0#32
  let v281 : BitVec 1 := Scalar.cmpi .slt v17 c0_i32_182
  let v282 : BitVec 32 := Scalar.extui v281
  let v283 : BitVec 32 := Scalar.subi v280 v282
  let c2_i32_180 : BitVec 32 := 2#32
  let c0_i32_183 : BitVec 32 := 0#32
  let v284 : BitVec 1 := Scalar.cmpi .sgt c2_i32_180 c0_i32_183
  let v285 : BitVec 32 := Scalar.extui v284
  let c0_i32_184 : BitVec 32 := 0#32
  let v286 : BitVec 1 := Scalar.cmpi .slt c2_i32_180 c0_i32_184
  let v287 : BitVec 32 := Scalar.extui v286
  let v288 : BitVec 32 := Scalar.subi v285 v287
  let v289 : BitVec 1 := Scalar.cmpi .ne v283 v288
  let v290 : BitVec 32 := Scalar.remsi v17 c2_i32_180
  let c0_i32_185 : BitVec 32 := 0#32
  let v291 : BitVec 1 := Scalar.cmpi .ne v290 c0_i32_185
  let v292 : BitVec 1 := Scalar.andi v289 v291
  let v278 : BitVec 32 := Scalar.divsi v17 c2_i32_180
  let c1_i32_186 : BitVec 32 := 1#32
  let v293 : BitVec 32 := Scalar.subi v278 c1_i32_186
  let v294 : BitVec 32 := Scalar.select v292 v293 v278
  let v295 : BitVec 32 := Scalar.subi v294 c0_i32_188
  let c1_i32_189 : BitVec 32 := 1#32
  let v297 : BitVec 32 := Scalar.divsi v295 c1_i32_189
  let v298 : BitVec 32 := Scalar.muli v297 c1_i32_189
  let v299 : BitVec 32 := Scalar.addi c0_i32_188 v298
  let c1_i32_191 : BitVec 32 := 1#32
  let arg20 : BitVec 32 := Scf.iv v299 c1_i32_191 k0_t20
  let v362 : BitVec 32 := Scalar.muli c2_i32_244 arg20
  let v363 : BitVec 32 := Scalar.addi v362 c1_i32_245
  let v369 : Index := Scalar.indexCast v363
  let c0_249 : Index := 0#32
  let c0_250 : Index := 0#32
  ![v369.toNat, 0, 0]
def k0_mult21 (i : grid0.Coords) (k0_t20 : Fin (k0_t20_loop i).trips) : BitVec 32 :=
  let c2_i32_244 : BitVec 32 := 2#32
  let c0_i32_188 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c0_i32_181 : BitVec 32 := 0#32
  let v279 : BitVec 1 := Scalar.cmpi .sgt v17 c0_i32_181
  let v280 : BitVec 32 := Scalar.extui v279
  let c0_i32_182 : BitVec 32 := 0#32
  let v281 : BitVec 1 := Scalar.cmpi .slt v17 c0_i32_182
  let v282 : BitVec 32 := Scalar.extui v281
  let v283 : BitVec 32 := Scalar.subi v280 v282
  let c2_i32_180 : BitVec 32 := 2#32
  let c0_i32_183 : BitVec 32 := 0#32
  let v284 : BitVec 1 := Scalar.cmpi .sgt c2_i32_180 c0_i32_183
  let v285 : BitVec 32 := Scalar.extui v284
  let c0_i32_184 : BitVec 32 := 0#32
  let v286 : BitVec 1 := Scalar.cmpi .slt c2_i32_180 c0_i32_184
  let v287 : BitVec 32 := Scalar.extui v286
  let v288 : BitVec 32 := Scalar.subi v285 v287
  let v289 : BitVec 1 := Scalar.cmpi .ne v283 v288
  let v290 : BitVec 32 := Scalar.remsi v17 c2_i32_180
  let c0_i32_185 : BitVec 32 := 0#32
  let v291 : BitVec 1 := Scalar.cmpi .ne v290 c0_i32_185
  let v292 : BitVec 1 := Scalar.andi v289 v291
  let v278 : BitVec 32 := Scalar.divsi v17 c2_i32_180
  let c1_i32_186 : BitVec 32 := 1#32
  let v293 : BitVec 32 := Scalar.subi v278 c1_i32_186
  let v294 : BitVec 32 := Scalar.select v292 v293 v278
  let v295 : BitVec 32 := Scalar.subi v294 c0_i32_188
  let c1_i32_189 : BitVec 32 := 1#32
  let v297 : BitVec 32 := Scalar.divsi v295 c1_i32_189
  let v298 : BitVec 32 := Scalar.muli v297 c1_i32_189
  let v299 : BitVec 32 := Scalar.addi c0_i32_188 v298
  let c1_i32_191 : BitVec 32 := 1#32
  let arg20 : BitVec 32 := Scf.iv v299 c1_i32_191 k0_t20
  let v362 : BitVec 32 := Scalar.muli c2_i32_244 arg20
  let c512_i32_285 : BitVec 32 := 512#32
  let v421 : BitVec 32 := Scalar.muli v362 c512_i32_285
  v421
def k0_off432 (i : grid0.Coords) (k0_t20 : Fin (k0_t20_loop i).trips) : Fin 3 → Nat :=
  let c0_322 : Index := 0#32
  let c0_323 : Index := 0#32
  let c2_i32_244 : BitVec 32 := 2#32
  let c0_i32_188 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c0_i32_181 : BitVec 32 := 0#32
  let v279 : BitVec 1 := Scalar.cmpi .sgt v17 c0_i32_181
  let v280 : BitVec 32 := Scalar.extui v279
  let c0_i32_182 : BitVec 32 := 0#32
  let v281 : BitVec 1 := Scalar.cmpi .slt v17 c0_i32_182
  let v282 : BitVec 32 := Scalar.extui v281
  let v283 : BitVec 32 := Scalar.subi v280 v282
  let c2_i32_180 : BitVec 32 := 2#32
  let c0_i32_183 : BitVec 32 := 0#32
  let v284 : BitVec 1 := Scalar.cmpi .sgt c2_i32_180 c0_i32_183
  let v285 : BitVec 32 := Scalar.extui v284
  let c0_i32_184 : BitVec 32 := 0#32
  let v286 : BitVec 1 := Scalar.cmpi .slt c2_i32_180 c0_i32_184
  let v287 : BitVec 32 := Scalar.extui v286
  let v288 : BitVec 32 := Scalar.subi v285 v287
  let v289 : BitVec 1 := Scalar.cmpi .ne v283 v288
  let v290 : BitVec 32 := Scalar.remsi v17 c2_i32_180
  let c0_i32_185 : BitVec 32 := 0#32
  let v291 : BitVec 1 := Scalar.cmpi .ne v290 c0_i32_185
  let v292 : BitVec 1 := Scalar.andi v289 v291
  let v278 : BitVec 32 := Scalar.divsi v17 c2_i32_180
  let c1_i32_186 : BitVec 32 := 1#32
  let v293 : BitVec 32 := Scalar.subi v278 c1_i32_186
  let v294 : BitVec 32 := Scalar.select v292 v293 v278
  let v295 : BitVec 32 := Scalar.subi v294 c0_i32_188
  let c1_i32_189 : BitVec 32 := 1#32
  let v297 : BitVec 32 := Scalar.divsi v295 c1_i32_189
  let v298 : BitVec 32 := Scalar.muli v297 c1_i32_189
  let v299 : BitVec 32 := Scalar.addi c0_i32_188 v298
  let c1_i32_191 : BitVec 32 := 1#32
  let arg20 : BitVec 32 := Scf.iv v299 c1_i32_191 k0_t20
  let v362 : BitVec 32 := Scalar.muli c2_i32_244 arg20
  let c512_i32_285 : BitVec 32 := 512#32
  let v421 : BitVec 32 := Scalar.muli v362 c512_i32_285
  let v422 : BitVec 32 := v421
  let v467 : Index := Scalar.indexCast v422
  ![0, 0, v467.toNat]
def k0_off433 (i : grid0.Coords) (k0_t20 : Fin (k0_t20_loop i).trips) : Fin 3 → Nat :=
  let c0_334 : Index := 0#32
  let c128_335 : Index := 128#32
  let c2_i32_244 : BitVec 32 := 2#32
  let c0_i32_188 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c0_i32_181 : BitVec 32 := 0#32
  let v279 : BitVec 1 := Scalar.cmpi .sgt v17 c0_i32_181
  let v280 : BitVec 32 := Scalar.extui v279
  let c0_i32_182 : BitVec 32 := 0#32
  let v281 : BitVec 1 := Scalar.cmpi .slt v17 c0_i32_182
  let v282 : BitVec 32 := Scalar.extui v281
  let v283 : BitVec 32 := Scalar.subi v280 v282
  let c2_i32_180 : BitVec 32 := 2#32
  let c0_i32_183 : BitVec 32 := 0#32
  let v284 : BitVec 1 := Scalar.cmpi .sgt c2_i32_180 c0_i32_183
  let v285 : BitVec 32 := Scalar.extui v284
  let c0_i32_184 : BitVec 32 := 0#32
  let v286 : BitVec 1 := Scalar.cmpi .slt c2_i32_180 c0_i32_184
  let v287 : BitVec 32 := Scalar.extui v286
  let v288 : BitVec 32 := Scalar.subi v285 v287
  let v289 : BitVec 1 := Scalar.cmpi .ne v283 v288
  let v290 : BitVec 32 := Scalar.remsi v17 c2_i32_180
  let c0_i32_185 : BitVec 32 := 0#32
  let v291 : BitVec 1 := Scalar.cmpi .ne v290 c0_i32_185
  let v292 : BitVec 1 := Scalar.andi v289 v291
  let v278 : BitVec 32 := Scalar.divsi v17 c2_i32_180
  let c1_i32_186 : BitVec 32 := 1#32
  let v293 : BitVec 32 := Scalar.subi v278 c1_i32_186
  let v294 : BitVec 32 := Scalar.select v292 v293 v278
  let v295 : BitVec 32 := Scalar.subi v294 c0_i32_188
  let c1_i32_189 : BitVec 32 := 1#32
  let v297 : BitVec 32 := Scalar.divsi v295 c1_i32_189
  let v298 : BitVec 32 := Scalar.muli v297 c1_i32_189
  let v299 : BitVec 32 := Scalar.addi c0_i32_188 v298
  let c1_i32_191 : BitVec 32 := 1#32
  let arg20 : BitVec 32 := Scf.iv v299 c1_i32_191 k0_t20
  let v362 : BitVec 32 := Scalar.muli c2_i32_244 arg20
  let c512_i32_285 : BitVec 32 := 512#32
  let v421 : BitVec 32 := Scalar.muli v362 c512_i32_285
  let v422 : BitVec 32 := v421
  let v485 : Index := Scalar.indexCast v422
  ![0, 128, v485.toNat]
def k0_off434 (i : grid0.Coords) (k0_t20 : Fin (k0_t20_loop i).trips) : Fin 3 → Nat :=
  let c0_346 : Index := 0#32
  let c256_347 : Index := 256#32
  let c2_i32_244 : BitVec 32 := 2#32
  let c0_i32_188 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c0_i32_181 : BitVec 32 := 0#32
  let v279 : BitVec 1 := Scalar.cmpi .sgt v17 c0_i32_181
  let v280 : BitVec 32 := Scalar.extui v279
  let c0_i32_182 : BitVec 32 := 0#32
  let v281 : BitVec 1 := Scalar.cmpi .slt v17 c0_i32_182
  let v282 : BitVec 32 := Scalar.extui v281
  let v283 : BitVec 32 := Scalar.subi v280 v282
  let c2_i32_180 : BitVec 32 := 2#32
  let c0_i32_183 : BitVec 32 := 0#32
  let v284 : BitVec 1 := Scalar.cmpi .sgt c2_i32_180 c0_i32_183
  let v285 : BitVec 32 := Scalar.extui v284
  let c0_i32_184 : BitVec 32 := 0#32
  let v286 : BitVec 1 := Scalar.cmpi .slt c2_i32_180 c0_i32_184
  let v287 : BitVec 32 := Scalar.extui v286
  let v288 : BitVec 32 := Scalar.subi v285 v287
  let v289 : BitVec 1 := Scalar.cmpi .ne v283 v288
  let v290 : BitVec 32 := Scalar.remsi v17 c2_i32_180
  let c0_i32_185 : BitVec 32 := 0#32
  let v291 : BitVec 1 := Scalar.cmpi .ne v290 c0_i32_185
  let v292 : BitVec 1 := Scalar.andi v289 v291
  let v278 : BitVec 32 := Scalar.divsi v17 c2_i32_180
  let c1_i32_186 : BitVec 32 := 1#32
  let v293 : BitVec 32 := Scalar.subi v278 c1_i32_186
  let v294 : BitVec 32 := Scalar.select v292 v293 v278
  let v295 : BitVec 32 := Scalar.subi v294 c0_i32_188
  let c1_i32_189 : BitVec 32 := 1#32
  let v297 : BitVec 32 := Scalar.divsi v295 c1_i32_189
  let v298 : BitVec 32 := Scalar.muli v297 c1_i32_189
  let v299 : BitVec 32 := Scalar.addi c0_i32_188 v298
  let c1_i32_191 : BitVec 32 := 1#32
  let arg20 : BitVec 32 := Scf.iv v299 c1_i32_191 k0_t20
  let v362 : BitVec 32 := Scalar.muli c2_i32_244 arg20
  let c512_i32_285 : BitVec 32 := 512#32
  let v421 : BitVec 32 := Scalar.muli v362 c512_i32_285
  let v422 : BitVec 32 := v421
  let v503 : Index := Scalar.indexCast v422
  ![0, 256, v503.toNat]
def k0_off435 (i : grid0.Coords) (k0_t20 : Fin (k0_t20_loop i).trips) : Fin 3 → Nat :=
  let c0_358 : Index := 0#32
  let c384_359 : Index := 384#32
  let c2_i32_244 : BitVec 32 := 2#32
  let c0_i32_188 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c0_i32_181 : BitVec 32 := 0#32
  let v279 : BitVec 1 := Scalar.cmpi .sgt v17 c0_i32_181
  let v280 : BitVec 32 := Scalar.extui v279
  let c0_i32_182 : BitVec 32 := 0#32
  let v281 : BitVec 1 := Scalar.cmpi .slt v17 c0_i32_182
  let v282 : BitVec 32 := Scalar.extui v281
  let v283 : BitVec 32 := Scalar.subi v280 v282
  let c2_i32_180 : BitVec 32 := 2#32
  let c0_i32_183 : BitVec 32 := 0#32
  let v284 : BitVec 1 := Scalar.cmpi .sgt c2_i32_180 c0_i32_183
  let v285 : BitVec 32 := Scalar.extui v284
  let c0_i32_184 : BitVec 32 := 0#32
  let v286 : BitVec 1 := Scalar.cmpi .slt c2_i32_180 c0_i32_184
  let v287 : BitVec 32 := Scalar.extui v286
  let v288 : BitVec 32 := Scalar.subi v285 v287
  let v289 : BitVec 1 := Scalar.cmpi .ne v283 v288
  let v290 : BitVec 32 := Scalar.remsi v17 c2_i32_180
  let c0_i32_185 : BitVec 32 := 0#32
  let v291 : BitVec 1 := Scalar.cmpi .ne v290 c0_i32_185
  let v292 : BitVec 1 := Scalar.andi v289 v291
  let v278 : BitVec 32 := Scalar.divsi v17 c2_i32_180
  let c1_i32_186 : BitVec 32 := 1#32
  let v293 : BitVec 32 := Scalar.subi v278 c1_i32_186
  let v294 : BitVec 32 := Scalar.select v292 v293 v278
  let v295 : BitVec 32 := Scalar.subi v294 c0_i32_188
  let c1_i32_189 : BitVec 32 := 1#32
  let v297 : BitVec 32 := Scalar.divsi v295 c1_i32_189
  let v298 : BitVec 32 := Scalar.muli v297 c1_i32_189
  let v299 : BitVec 32 := Scalar.addi c0_i32_188 v298
  let c1_i32_191 : BitVec 32 := 1#32
  let arg20 : BitVec 32 := Scf.iv v299 c1_i32_191 k0_t20
  let v362 : BitVec 32 := Scalar.muli c2_i32_244 arg20
  let c512_i32_285 : BitVec 32 := 512#32
  let v421 : BitVec 32 := Scalar.muli v362 c512_i32_285
  let v422 : BitVec 32 := v421
  let v521 : Index := Scalar.indexCast v422
  ![0, 384, v521.toNat]
def k0_mult22 (i : grid0.Coords) (k0_t20 : Fin (k0_t20_loop i).trips) : BitVec 32 :=
  let c2_i32_244 : BitVec 32 := 2#32
  let c0_i32_188 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c0_i32_181 : BitVec 32 := 0#32
  let v279 : BitVec 1 := Scalar.cmpi .sgt v17 c0_i32_181
  let v280 : BitVec 32 := Scalar.extui v279
  let c0_i32_182 : BitVec 32 := 0#32
  let v281 : BitVec 1 := Scalar.cmpi .slt v17 c0_i32_182
  let v282 : BitVec 32 := Scalar.extui v281
  let v283 : BitVec 32 := Scalar.subi v280 v282
  let c2_i32_180 : BitVec 32 := 2#32
  let c0_i32_183 : BitVec 32 := 0#32
  let v284 : BitVec 1 := Scalar.cmpi .sgt c2_i32_180 c0_i32_183
  let v285 : BitVec 32 := Scalar.extui v284
  let c0_i32_184 : BitVec 32 := 0#32
  let v286 : BitVec 1 := Scalar.cmpi .slt c2_i32_180 c0_i32_184
  let v287 : BitVec 32 := Scalar.extui v286
  let v288 : BitVec 32 := Scalar.subi v285 v287
  let v289 : BitVec 1 := Scalar.cmpi .ne v283 v288
  let v290 : BitVec 32 := Scalar.remsi v17 c2_i32_180
  let c0_i32_185 : BitVec 32 := 0#32
  let v291 : BitVec 1 := Scalar.cmpi .ne v290 c0_i32_185
  let v292 : BitVec 1 := Scalar.andi v289 v291
  let v278 : BitVec 32 := Scalar.divsi v17 c2_i32_180
  let c1_i32_186 : BitVec 32 := 1#32
  let v293 : BitVec 32 := Scalar.subi v278 c1_i32_186
  let v294 : BitVec 32 := Scalar.select v292 v293 v278
  let v295 : BitVec 32 := Scalar.subi v294 c0_i32_188
  let c1_i32_189 : BitVec 32 := 1#32
  let v297 : BitVec 32 := Scalar.divsi v295 c1_i32_189
  let v298 : BitVec 32 := Scalar.muli v297 c1_i32_189
  let v299 : BitVec 32 := Scalar.addi c0_i32_188 v298
  let c1_i32_191 : BitVec 32 := 1#32
  let arg20 : BitVec 32 := Scf.iv v299 c1_i32_191 k0_t20
  let v362 : BitVec 32 := Scalar.muli c2_i32_244 arg20
  let c2_i32_370 : BitVec 32 := 2#32
  let v539 : BitVec 32 := Scalar.addi v362 c2_i32_370
  let c512_i32_371 : BitVec 32 := 512#32
  let v540 : BitVec 32 := Scalar.muli v539 c512_i32_371
  v540
def k0_mult23 (i : grid0.Coords) (k0_t20 : Fin (k0_t20_loop i).trips) : BitVec 32 :=
  let c2_i32_244 : BitVec 32 := 2#32
  let c0_i32_188 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c0_i32_181 : BitVec 32 := 0#32
  let v279 : BitVec 1 := Scalar.cmpi .sgt v17 c0_i32_181
  let v280 : BitVec 32 := Scalar.extui v279
  let c0_i32_182 : BitVec 32 := 0#32
  let v281 : BitVec 1 := Scalar.cmpi .slt v17 c0_i32_182
  let v282 : BitVec 32 := Scalar.extui v281
  let v283 : BitVec 32 := Scalar.subi v280 v282
  let c2_i32_180 : BitVec 32 := 2#32
  let c0_i32_183 : BitVec 32 := 0#32
  let v284 : BitVec 1 := Scalar.cmpi .sgt c2_i32_180 c0_i32_183
  let v285 : BitVec 32 := Scalar.extui v284
  let c0_i32_184 : BitVec 32 := 0#32
  let v286 : BitVec 1 := Scalar.cmpi .slt c2_i32_180 c0_i32_184
  let v287 : BitVec 32 := Scalar.extui v286
  let v288 : BitVec 32 := Scalar.subi v285 v287
  let v289 : BitVec 1 := Scalar.cmpi .ne v283 v288
  let v290 : BitVec 32 := Scalar.remsi v17 c2_i32_180
  let c0_i32_185 : BitVec 32 := 0#32
  let v291 : BitVec 1 := Scalar.cmpi .ne v290 c0_i32_185
  let v292 : BitVec 1 := Scalar.andi v289 v291
  let v278 : BitVec 32 := Scalar.divsi v17 c2_i32_180
  let c1_i32_186 : BitVec 32 := 1#32
  let v293 : BitVec 32 := Scalar.subi v278 c1_i32_186
  let v294 : BitVec 32 := Scalar.select v292 v293 v278
  let v295 : BitVec 32 := Scalar.subi v294 c0_i32_188
  let c1_i32_189 : BitVec 32 := 1#32
  let v297 : BitVec 32 := Scalar.divsi v295 c1_i32_189
  let v298 : BitVec 32 := Scalar.muli v297 c1_i32_189
  let v299 : BitVec 32 := Scalar.addi c0_i32_188 v298
  let c1_i32_191 : BitVec 32 := 1#32
  let arg20 : BitVec 32 := Scf.iv v299 c1_i32_191 k0_t20
  let v362 : BitVec 32 := Scalar.muli c2_i32_244 arg20
  let c1_i32_410 : BitVec 32 := 1#32
  let v597 : BitVec 32 := Scalar.addi v362 c1_i32_410
  let c512_i32_411 : BitVec 32 := 512#32
  let v598 : BitVec 32 := Scalar.muli v597 c512_i32_411
  v598
def k0_off436 (i : grid0.Coords) (k0_t20 : Fin (k0_t20_loop i).trips) : Fin 3 → Nat :=
  let c0_448 : Index := 0#32
  let c0_449 : Index := 0#32
  let c2_i32_244 : BitVec 32 := 2#32
  let c0_i32_188 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c0_i32_181 : BitVec 32 := 0#32
  let v279 : BitVec 1 := Scalar.cmpi .sgt v17 c0_i32_181
  let v280 : BitVec 32 := Scalar.extui v279
  let c0_i32_182 : BitVec 32 := 0#32
  let v281 : BitVec 1 := Scalar.cmpi .slt v17 c0_i32_182
  let v282 : BitVec 32 := Scalar.extui v281
  let v283 : BitVec 32 := Scalar.subi v280 v282
  let c2_i32_180 : BitVec 32 := 2#32
  let c0_i32_183 : BitVec 32 := 0#32
  let v284 : BitVec 1 := Scalar.cmpi .sgt c2_i32_180 c0_i32_183
  let v285 : BitVec 32 := Scalar.extui v284
  let c0_i32_184 : BitVec 32 := 0#32
  let v286 : BitVec 1 := Scalar.cmpi .slt c2_i32_180 c0_i32_184
  let v287 : BitVec 32 := Scalar.extui v286
  let v288 : BitVec 32 := Scalar.subi v285 v287
  let v289 : BitVec 1 := Scalar.cmpi .ne v283 v288
  let v290 : BitVec 32 := Scalar.remsi v17 c2_i32_180
  let c0_i32_185 : BitVec 32 := 0#32
  let v291 : BitVec 1 := Scalar.cmpi .ne v290 c0_i32_185
  let v292 : BitVec 1 := Scalar.andi v289 v291
  let v278 : BitVec 32 := Scalar.divsi v17 c2_i32_180
  let c1_i32_186 : BitVec 32 := 1#32
  let v293 : BitVec 32 := Scalar.subi v278 c1_i32_186
  let v294 : BitVec 32 := Scalar.select v292 v293 v278
  let v295 : BitVec 32 := Scalar.subi v294 c0_i32_188
  let c1_i32_189 : BitVec 32 := 1#32
  let v297 : BitVec 32 := Scalar.divsi v295 c1_i32_189
  let v298 : BitVec 32 := Scalar.muli v297 c1_i32_189
  let v299 : BitVec 32 := Scalar.addi c0_i32_188 v298
  let c1_i32_191 : BitVec 32 := 1#32
  let arg20 : BitVec 32 := Scf.iv v299 c1_i32_191 k0_t20
  let v362 : BitVec 32 := Scalar.muli c2_i32_244 arg20
  let c1_i32_410 : BitVec 32 := 1#32
  let v597 : BitVec 32 := Scalar.addi v362 c1_i32_410
  let c512_i32_411 : BitVec 32 := 512#32
  let v598 : BitVec 32 := Scalar.muli v597 c512_i32_411
  let v599 : BitVec 32 := v598
  let v644 : Index := Scalar.indexCast v599
  ![0, 0, v644.toNat]
def k0_off437 (i : grid0.Coords) (k0_t20 : Fin (k0_t20_loop i).trips) : Fin 3 → Nat :=
  let c0_460 : Index := 0#32
  let c128_461 : Index := 128#32
  let c2_i32_244 : BitVec 32 := 2#32
  let c0_i32_188 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c0_i32_181 : BitVec 32 := 0#32
  let v279 : BitVec 1 := Scalar.cmpi .sgt v17 c0_i32_181
  let v280 : BitVec 32 := Scalar.extui v279
  let c0_i32_182 : BitVec 32 := 0#32
  let v281 : BitVec 1 := Scalar.cmpi .slt v17 c0_i32_182
  let v282 : BitVec 32 := Scalar.extui v281
  let v283 : BitVec 32 := Scalar.subi v280 v282
  let c2_i32_180 : BitVec 32 := 2#32
  let c0_i32_183 : BitVec 32 := 0#32
  let v284 : BitVec 1 := Scalar.cmpi .sgt c2_i32_180 c0_i32_183
  let v285 : BitVec 32 := Scalar.extui v284
  let c0_i32_184 : BitVec 32 := 0#32
  let v286 : BitVec 1 := Scalar.cmpi .slt c2_i32_180 c0_i32_184
  let v287 : BitVec 32 := Scalar.extui v286
  let v288 : BitVec 32 := Scalar.subi v285 v287
  let v289 : BitVec 1 := Scalar.cmpi .ne v283 v288
  let v290 : BitVec 32 := Scalar.remsi v17 c2_i32_180
  let c0_i32_185 : BitVec 32 := 0#32
  let v291 : BitVec 1 := Scalar.cmpi .ne v290 c0_i32_185
  let v292 : BitVec 1 := Scalar.andi v289 v291
  let v278 : BitVec 32 := Scalar.divsi v17 c2_i32_180
  let c1_i32_186 : BitVec 32 := 1#32
  let v293 : BitVec 32 := Scalar.subi v278 c1_i32_186
  let v294 : BitVec 32 := Scalar.select v292 v293 v278
  let v295 : BitVec 32 := Scalar.subi v294 c0_i32_188
  let c1_i32_189 : BitVec 32 := 1#32
  let v297 : BitVec 32 := Scalar.divsi v295 c1_i32_189
  let v298 : BitVec 32 := Scalar.muli v297 c1_i32_189
  let v299 : BitVec 32 := Scalar.addi c0_i32_188 v298
  let c1_i32_191 : BitVec 32 := 1#32
  let arg20 : BitVec 32 := Scf.iv v299 c1_i32_191 k0_t20
  let v362 : BitVec 32 := Scalar.muli c2_i32_244 arg20
  let c1_i32_410 : BitVec 32 := 1#32
  let v597 : BitVec 32 := Scalar.addi v362 c1_i32_410
  let c512_i32_411 : BitVec 32 := 512#32
  let v598 : BitVec 32 := Scalar.muli v597 c512_i32_411
  let v599 : BitVec 32 := v598
  let v662 : Index := Scalar.indexCast v599
  ![0, 128, v662.toNat]
def k0_off438 (i : grid0.Coords) (k0_t20 : Fin (k0_t20_loop i).trips) : Fin 3 → Nat :=
  let c0_472 : Index := 0#32
  let c256_473 : Index := 256#32
  let c2_i32_244 : BitVec 32 := 2#32
  let c0_i32_188 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c0_i32_181 : BitVec 32 := 0#32
  let v279 : BitVec 1 := Scalar.cmpi .sgt v17 c0_i32_181
  let v280 : BitVec 32 := Scalar.extui v279
  let c0_i32_182 : BitVec 32 := 0#32
  let v281 : BitVec 1 := Scalar.cmpi .slt v17 c0_i32_182
  let v282 : BitVec 32 := Scalar.extui v281
  let v283 : BitVec 32 := Scalar.subi v280 v282
  let c2_i32_180 : BitVec 32 := 2#32
  let c0_i32_183 : BitVec 32 := 0#32
  let v284 : BitVec 1 := Scalar.cmpi .sgt c2_i32_180 c0_i32_183
  let v285 : BitVec 32 := Scalar.extui v284
  let c0_i32_184 : BitVec 32 := 0#32
  let v286 : BitVec 1 := Scalar.cmpi .slt c2_i32_180 c0_i32_184
  let v287 : BitVec 32 := Scalar.extui v286
  let v288 : BitVec 32 := Scalar.subi v285 v287
  let v289 : BitVec 1 := Scalar.cmpi .ne v283 v288
  let v290 : BitVec 32 := Scalar.remsi v17 c2_i32_180
  let c0_i32_185 : BitVec 32 := 0#32
  let v291 : BitVec 1 := Scalar.cmpi .ne v290 c0_i32_185
  let v292 : BitVec 1 := Scalar.andi v289 v291
  let v278 : BitVec 32 := Scalar.divsi v17 c2_i32_180
  let c1_i32_186 : BitVec 32 := 1#32
  let v293 : BitVec 32 := Scalar.subi v278 c1_i32_186
  let v294 : BitVec 32 := Scalar.select v292 v293 v278
  let v295 : BitVec 32 := Scalar.subi v294 c0_i32_188
  let c1_i32_189 : BitVec 32 := 1#32
  let v297 : BitVec 32 := Scalar.divsi v295 c1_i32_189
  let v298 : BitVec 32 := Scalar.muli v297 c1_i32_189
  let v299 : BitVec 32 := Scalar.addi c0_i32_188 v298
  let c1_i32_191 : BitVec 32 := 1#32
  let arg20 : BitVec 32 := Scf.iv v299 c1_i32_191 k0_t20
  let v362 : BitVec 32 := Scalar.muli c2_i32_244 arg20
  let c1_i32_410 : BitVec 32 := 1#32
  let v597 : BitVec 32 := Scalar.addi v362 c1_i32_410
  let c512_i32_411 : BitVec 32 := 512#32
  let v598 : BitVec 32 := Scalar.muli v597 c512_i32_411
  let v599 : BitVec 32 := v598
  let v680 : Index := Scalar.indexCast v599
  ![0, 256, v680.toNat]
def k0_off439 (i : grid0.Coords) (k0_t20 : Fin (k0_t20_loop i).trips) : Fin 3 → Nat :=
  let c0_484 : Index := 0#32
  let c384_485 : Index := 384#32
  let c2_i32_244 : BitVec 32 := 2#32
  let c0_i32_188 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c0_i32_181 : BitVec 32 := 0#32
  let v279 : BitVec 1 := Scalar.cmpi .sgt v17 c0_i32_181
  let v280 : BitVec 32 := Scalar.extui v279
  let c0_i32_182 : BitVec 32 := 0#32
  let v281 : BitVec 1 := Scalar.cmpi .slt v17 c0_i32_182
  let v282 : BitVec 32 := Scalar.extui v281
  let v283 : BitVec 32 := Scalar.subi v280 v282
  let c2_i32_180 : BitVec 32 := 2#32
  let c0_i32_183 : BitVec 32 := 0#32
  let v284 : BitVec 1 := Scalar.cmpi .sgt c2_i32_180 c0_i32_183
  let v285 : BitVec 32 := Scalar.extui v284
  let c0_i32_184 : BitVec 32 := 0#32
  let v286 : BitVec 1 := Scalar.cmpi .slt c2_i32_180 c0_i32_184
  let v287 : BitVec 32 := Scalar.extui v286
  let v288 : BitVec 32 := Scalar.subi v285 v287
  let v289 : BitVec 1 := Scalar.cmpi .ne v283 v288
  let v290 : BitVec 32 := Scalar.remsi v17 c2_i32_180
  let c0_i32_185 : BitVec 32 := 0#32
  let v291 : BitVec 1 := Scalar.cmpi .ne v290 c0_i32_185
  let v292 : BitVec 1 := Scalar.andi v289 v291
  let v278 : BitVec 32 := Scalar.divsi v17 c2_i32_180
  let c1_i32_186 : BitVec 32 := 1#32
  let v293 : BitVec 32 := Scalar.subi v278 c1_i32_186
  let v294 : BitVec 32 := Scalar.select v292 v293 v278
  let v295 : BitVec 32 := Scalar.subi v294 c0_i32_188
  let c1_i32_189 : BitVec 32 := 1#32
  let v297 : BitVec 32 := Scalar.divsi v295 c1_i32_189
  let v298 : BitVec 32 := Scalar.muli v297 c1_i32_189
  let v299 : BitVec 32 := Scalar.addi c0_i32_188 v298
  let c1_i32_191 : BitVec 32 := 1#32
  let arg20 : BitVec 32 := Scf.iv v299 c1_i32_191 k0_t20
  let v362 : BitVec 32 := Scalar.muli c2_i32_244 arg20
  let c1_i32_410 : BitVec 32 := 1#32
  let v597 : BitVec 32 := Scalar.addi v362 c1_i32_410
  let c512_i32_411 : BitVec 32 := 512#32
  let v598 : BitVec 32 := Scalar.muli v597 c512_i32_411
  let v599 : BitVec 32 := v598
  let v698 : Index := Scalar.indexCast v599
  ![0, 384, v698.toNat]
def k0_cond4 (i : grid0.Coords) : BitVec 1 :=
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c2_i32_192 : BitVec 32 := 2#32
  let c0_i32_193 : BitVec 32 := 0#32
  let v300 : BitVec 1 := Scalar.cmpi .eq c2_i32_192 c0_i32_193
  let c1_i32_194 : BitVec 32 := 1#32
  let v301 : BitVec 32 := Scalar.select v300 c1_i32_194 c2_i32_192
  let v302 : BitVec 32 := Scalar.remsi v17 v301
  let c0_i32_196 : BitVec 32 := 0#32
  let v304 : BitVec 1 := Scalar.cmpi .slt v302 c0_i32_196
  let c0_i32_197 : BitVec 32 := 0#32
  let v305 : BitVec 1 := Scalar.cmpi .slt v301 c0_i32_197
  let v306 : BitVec 1 := Scalar.xori v304 v305
  let c0_i32_195 : BitVec 32 := 0#32
  let v303 : BitVec 1 := Scalar.cmpi .ne v302 c0_i32_195
  let v307 : BitVec 1 := Scalar.andi v306 v303
  let v308 : BitVec 32 := Scalar.addi v302 v301
  let v309 : BitVec 32 := Scalar.select v307 v308 v302
  let c0_i32_198 : BitVec 32 := 0#32
  let v310 : BitVec 1 := Scalar.cmpi .eq v309 c0_i32_198
  let v311 : BitVec 32 := Scalar.extui v310
  let c0_i32_199 : BitVec 32 := 0#32
  let v312 : BitVec 1 := Scalar.cmpi .ne v311 c0_i32_199
  v312

def k0_mult24 (i : grid0.Coords) : BitVec 32 :=
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c512_i32_244 : BitVec 32 := 512#32
  let v362 : BitVec 32 := Scalar.muli v17 c512_i32_244
  v362
def k0_off440 (i : grid0.Coords) : Fin 3 → Nat :=
  let c0_281 : Index := 0#32
  let c0_282 : Index := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c512_i32_244 : BitVec 32 := 512#32
  let v362 : BitVec 32 := Scalar.muli v17 c512_i32_244
  let v363 : BitVec 32 := v362
  let v408 : Index := Scalar.indexCast v363
  ![0, 0, v408.toNat]
def k0_off441 (i : grid0.Coords) : Fin 3 → Nat :=
  let c0_293 : Index := 0#32
  let c128_294 : Index := 128#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c512_i32_244 : BitVec 32 := 512#32
  let v362 : BitVec 32 := Scalar.muli v17 c512_i32_244
  let v363 : BitVec 32 := v362
  let v426 : Index := Scalar.indexCast v363
  ![0, 128, v426.toNat]
def k0_off442 (i : grid0.Coords) : Fin 3 → Nat :=
  let c0_305 : Index := 0#32
  let c256_306 : Index := 256#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c512_i32_244 : BitVec 32 := 512#32
  let v362 : BitVec 32 := Scalar.muli v17 c512_i32_244
  let v363 : BitVec 32 := v362
  let v444 : Index := Scalar.indexCast v363
  ![0, 256, v444.toNat]
def k0_off443 (i : grid0.Coords) : Fin 3 → Nat :=
  let c0_317 : Index := 0#32
  let c384_318 : Index := 384#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c512_i32_244 : BitVec 32 := 512#32
  let v362 : BitVec 32 := Scalar.muli v17 c512_i32_244
  let v363 : BitVec 32 := v362
  let v462 : Index := Scalar.indexCast v363
  ![0, 384, v462.toNat]
def k0_cond5 (i : grid0.Coords) : BitVec 1 :=
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c2_i32_200 : BitVec 32 := 2#32
  let c0_i32_201 : BitVec 32 := 0#32
  let v313 : BitVec 1 := Scalar.cmpi .eq c2_i32_200 c0_i32_201
  let c1_i32_202 : BitVec 32 := 1#32
  let v314 : BitVec 32 := Scalar.select v313 c1_i32_202 c2_i32_200
  let v315 : BitVec 32 := Scalar.remsi v17 v314
  let c0_i32_204 : BitVec 32 := 0#32
  let v317 : BitVec 1 := Scalar.cmpi .slt v315 c0_i32_204
  let c0_i32_205 : BitVec 32 := 0#32
  let v318 : BitVec 1 := Scalar.cmpi .slt v314 c0_i32_205
  let v319 : BitVec 1 := Scalar.xori v317 v318
  let c0_i32_203 : BitVec 32 := 0#32
  let v316 : BitVec 1 := Scalar.cmpi .ne v315 c0_i32_203
  let v320 : BitVec 1 := Scalar.andi v319 v316
  let v321 : BitVec 32 := Scalar.addi v315 v314
  let v322 : BitVec 32 := Scalar.select v320 v321 v315
  let c1_i32_206 : BitVec 32 := 1#32
  let v323 : BitVec 1 := Scalar.cmpi .eq v322 c1_i32_206
  let v324 : BitVec 32 := Scalar.extui v323
  let c0_i32_207 : BitVec 32 := 0#32
  let v325 : BitVec 1 := Scalar.cmpi .ne v324 c0_i32_207
  v325

def k0_mult25 (i : grid0.Coords) : BitVec 32 :=
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c512_i32_244 : BitVec 32 := 512#32
  let v362 : BitVec 32 := Scalar.muli v17 c512_i32_244
  v362
def k0_off444 (i : grid0.Coords) : Fin 3 → Nat :=
  let c0_245 : Index := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c512_i32_244 : BitVec 32 := 512#32
  let v362 : BitVec 32 := Scalar.muli v17 c512_i32_244
  let v363 : BitVec 32 := v362
  let v364 : Index := Scalar.indexCast v363
  let c0_246 : Index := 0#32
  ![0, v364.toNat, 0]
def k0_off445 (i : grid0.Coords) : Fin 3 → Nat :=
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let v367 : Index := Scalar.indexCast v17
  let c0_247 : Index := 0#32
  let c0_248 : Index := 0#32
  ![v367.toNat, 0, 0]
def k0_mult26 (i : grid0.Coords) : BitVec 32 :=
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_283 : BitVec 32 := 1#32
  let v419 : BitVec 32 := Scalar.subi v17 c1_i32_283
  let c512_i32_284 : BitVec 32 := 512#32
  let v420 : BitVec 32 := Scalar.muli v419 c512_i32_284
  v420
def k0_off446 (i : grid0.Coords) : Fin 3 → Nat :=
  let c0_321 : Index := 0#32
  let c0_322 : Index := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_283 : BitVec 32 := 1#32
  let v419 : BitVec 32 := Scalar.subi v17 c1_i32_283
  let c512_i32_284 : BitVec 32 := 512#32
  let v420 : BitVec 32 := Scalar.muli v419 c512_i32_284
  let v421 : BitVec 32 := v420
  let v466 : Index := Scalar.indexCast v421
  ![0, 0, v466.toNat]
def k0_off447 (i : grid0.Coords) : Fin 3 → Nat :=
  let c0_333 : Index := 0#32
  let c128_334 : Index := 128#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_283 : BitVec 32 := 1#32
  let v419 : BitVec 32 := Scalar.subi v17 c1_i32_283
  let c512_i32_284 : BitVec 32 := 512#32
  let v420 : BitVec 32 := Scalar.muli v419 c512_i32_284
  let v421 : BitVec 32 := v420
  let v484 : Index := Scalar.indexCast v421
  ![0, 128, v484.toNat]
def k0_off448 (i : grid0.Coords) : Fin 3 → Nat :=
  let c0_345 : Index := 0#32
  let c256_346 : Index := 256#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_283 : BitVec 32 := 1#32
  let v419 : BitVec 32 := Scalar.subi v17 c1_i32_283
  let c512_i32_284 : BitVec 32 := 512#32
  let v420 : BitVec 32 := Scalar.muli v419 c512_i32_284
  let v421 : BitVec 32 := v420
  let v502 : Index := Scalar.indexCast v421
  ![0, 256, v502.toNat]
def k0_off449 (i : grid0.Coords) : Fin 3 → Nat :=
  let c0_357 : Index := 0#32
  let c384_358 : Index := 384#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c1_i32_283 : BitVec 32 := 1#32
  let v419 : BitVec 32 := Scalar.subi v17 c1_i32_283
  let c512_i32_284 : BitVec 32 := 512#32
  let v420 : BitVec 32 := Scalar.muli v419 c512_i32_284
  let v421 : BitVec 32 := v420
  let v520 : Index := Scalar.indexCast v421
  ![0, 384, v520.toNat]
def k0_mult27 (i : grid0.Coords) : BitVec 32 :=
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c512_i32_369 : BitVec 32 := 512#32
  let v538 : BitVec 32 := Scalar.muli v17 c512_i32_369
  v538
def k0_off450 (i : grid0.Coords) : Fin 3 → Nat :=
  let c0_406 : Index := 0#32
  let c0_407 : Index := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c512_i32_369 : BitVec 32 := 512#32
  let v538 : BitVec 32 := Scalar.muli v17 c512_i32_369
  let v539 : BitVec 32 := v538
  let v584 : Index := Scalar.indexCast v539
  ![0, 0, v584.toNat]
def k0_off451 (i : grid0.Coords) : Fin 3 → Nat :=
  let c0_418 : Index := 0#32
  let c128_419 : Index := 128#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c512_i32_369 : BitVec 32 := 512#32
  let v538 : BitVec 32 := Scalar.muli v17 c512_i32_369
  let v539 : BitVec 32 := v538
  let v602 : Index := Scalar.indexCast v539
  ![0, 128, v602.toNat]
def k0_off452 (i : grid0.Coords) : Fin 3 → Nat :=
  let c0_430 : Index := 0#32
  let c256_431 : Index := 256#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c512_i32_369 : BitVec 32 := 512#32
  let v538 : BitVec 32 := Scalar.muli v17 c512_i32_369
  let v539 : BitVec 32 := v538
  let v620 : Index := Scalar.indexCast v539
  ![0, 256, v620.toNat]
def k0_off453 (i : grid0.Coords) : Fin 3 → Nat :=
  let c0_442 : Index := 0#32
  let c384_443 : Index := 384#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c512_i32 : BitVec 32 := 512#32
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let v1 : BitVec 32 := Scalar.divsi v0 c512_i32
  let c1_i32 : BitVec 32 := 1#32
  let v16 : BitVec 32 := Scalar.subi v1 c1_i32
  let v17 : BitVec 32 := Scalar.select v15 v16 v1
  let c512_i32_369 : BitVec 32 := 512#32
  let v538 : BitVec 32 := Scalar.muli v17 c512_i32_369
  let v539 : BitVec 32 := v538
  let v638 : Index := Scalar.indexCast v539
  ![0, 384, v638.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x8192x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S1x8192x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S1x512x8192 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 2 → Memref sig .tc .vmem S1x512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Kernel2.lean ====
abbrev S8x8192x1024 : Shape := ⟨3, ![8, 8192, 1024]⟩
abbrev S8x512x8192 : Shape := ⟨3, ![8, 512, 8192]⟩
abbrev S8x8192x512 : Shape := ⟨3, ![8, 8192, 512]⟩
abbrev S8x1024 : Shape := ⟨2, ![8, 1024]⟩
abbrev S1x512 : Shape := ⟨2, ![1, 512]⟩
abbrev S1x128 : Shape := ⟨2, ![1, 128]⟩
abbrev S1x1024x1024 : Shape := ⟨3, ![1, 1024, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1024 : Shape := ⟨1, ![1024]⟩
abbrev S8x1x1024 : Shape := ⟨3, ![8, 1, 1024]⟩
abbrev S512 : Shape := ⟨1, ![512]⟩
abbrev S128 : Shape := ⟨1, ![128]⟩
abbrev S1024x1024 : Shape := ⟨2, ![1024, 1024]⟩
abbrev S1024x5632 : Shape := ⟨2, ![1024, 5632]⟩
abbrev S2816x1024 : Shape := ⟨2, ![2816, 1024]⟩
abbrev S1x512x1024 : Shape := ⟨3, ![1, 512, 1024]⟩
abbrev S1x512x512 : Shape := ⟨3, ![1, 512, 512]⟩
abbrev S1x1x1024 : Shape := ⟨3, ![1, 1, 1024]⟩
abbrev S1x512x256 : Shape := ⟨3, ![1, 512, 256]⟩
abbrev S512x256 : Shape := ⟨2, ![512, 256]⟩
abbrev S256x512 : Shape := ⟨2, ![256, 512]⟩
abbrev S256 : Shape := ⟨1, ![256]⟩
abbrev S256x1 : Shape := ⟨2, ![256, 1]⟩
abbrev S1x256x512 : Shape := ⟨3, ![1, 256, 512]⟩
abbrev S256x128 : Shape := ⟨2, ![256, 128]⟩
abbrev S512x1024 : Shape := ⟨2, ![512, 1024]⟩
abbrev S256x1024 : Shape := ⟨2, ![256, 1024]⟩
abbrev S1x256x1024 : Shape := ⟨3, ![1, 256, 1024]⟩
abbrev S256x5632 : Shape := ⟨2, ![256, 5632]⟩
abbrev S256x2816 : Shape := ⟨2, ![256, 2816]⟩

abbrev nBuf : Space → Nat
  | .hbm => 33
  | .vmem => 25
  | .smem => 0
  | _ => 0

abbrev bufTy : (tb : Table) → Fin (tcTables nBuf tb) → BufTy
  | .hbm, ⟨0, _⟩ => ⟨S8x8192x1024, .f32⟩
  | .hbm, ⟨1, _⟩ => ⟨S8x512x8192, .f32⟩
  | .hbm, ⟨2, _⟩ => ⟨S8x8192x512, .f32⟩
  | .hbm, ⟨3, _⟩ => ⟨S8x8192x512, .f32⟩
  | .hbm, ⟨4, _⟩ => ⟨S8x1024, .f32⟩
  | .hbm, ⟨5, _⟩ => ⟨S8x1024, .f32⟩
  | .hbm, ⟨6, _⟩ => ⟨S8x1024, .f32⟩
  | .hbm, ⟨7, _⟩ => ⟨S8x1024, .f32⟩
  | .hbm, ⟨8, _⟩ => ⟨S1x512, .f32⟩
  | .hbm, ⟨9, _⟩ => ⟨S1x128, .f32⟩
  | .hbm, ⟨10, _⟩ => ⟨S1x1024x1024, .f32⟩
  | .hbm, ⟨11, _⟩ => ⟨S1x1024, .f32⟩
  | .hbm, ⟨12, _⟩ => ⟨S1x1024x5632, .f32⟩
  | .hbm, ⟨13, _⟩ => ⟨S1x2816x1024, .f32⟩
  | .hbm, ⟨14, _⟩ => ⟨S1024, .f32⟩
  | .hbm, ⟨15, _⟩ => ⟨S8x1x1024, .f32⟩
  | .hbm, ⟨16, _⟩ => ⟨S8x1x1024, .f32⟩
  | .hbm, ⟨17, _⟩ => ⟨S8x1x1024, .f32⟩
  | .hbm, ⟨18, _⟩ => ⟨S8x1x1024, .f32⟩
  | .hbm, ⟨19, _⟩ => ⟨S512, .f32⟩
  | .hbm, ⟨20, _⟩ => ⟨S1x512, .f32⟩
  | .hbm, ⟨21, _⟩ => ⟨S128, .f32⟩
  | .hbm, ⟨22, _⟩ => ⟨S1x128, .f32⟩
  | .hbm, ⟨23, _⟩ => ⟨S1024, .f32⟩
  | .hbm, ⟨24, _⟩ => ⟨S1x1024, .f32⟩
  | .hbm, ⟨25, _⟩ => ⟨S1x1024, .f32⟩
  | .hbm, ⟨26, _⟩ => ⟨S1024x1024, .f32⟩
  | .hbm, ⟨27, _⟩ => ⟨S1024x5632, .f32⟩
  | .hbm, ⟨28, _⟩ => ⟨S2816x1024, .f32⟩
  | .hbm, ⟨29, _⟩ => ⟨S1024x1024, .bf16⟩
  | .hbm, ⟨30, _⟩ => ⟨S1024x5632, .bf16⟩
  | .hbm, ⟨31, _⟩ => ⟨S2816x1024, .bf16⟩
  | .hbm, ⟨32, _⟩ => ⟨S8x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x512, .f32⟩
  | .local _ .vmem, ⟨3, _⟩ => ⟨S1x512x512, .f32⟩
  | .local _ .vmem, ⟨4, _⟩ => ⟨S1x512x512, .f32⟩
  | .local _ .vmem, ⟨5, _⟩ => ⟨S1x512x512, .f32⟩
  | .local _ .vmem, ⟨6, _⟩ => ⟨S1x512x512, .f32⟩
  | .local _ .vmem, ⟨7, _⟩ => ⟨S1x512x512, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x512, .f32⟩
  | .local _ .vmem, ⟨17, _⟩ => ⟨S1x128, .f32⟩
  | .local _ .vmem, ⟨18, _⟩ => ⟨S1x1024, .f32⟩
  | .local _ .vmem, ⟨19, _⟩ => ⟨S1x1024, .f32⟩
  | .local _ .vmem, ⟨20, _⟩ => ⟨S1024x1024, .bf16⟩
  | .local _ .vmem, ⟨21, _⟩ => ⟨S1024x5632, .bf16⟩
  | .local _ .vmem, ⟨22, _⟩ => ⟨S2816x1024, .bf16⟩
  | .local _ .vmem, ⟨23, _⟩ => ⟨S1x512x1024, .f32⟩
  | .local _ .vmem, ⟨24, _⟩ => ⟨S1x512x1024, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg15_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem15_1 : DmaSem sig := 24

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1024x5632 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S2816x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S1x512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== Reference2Ideal.lean ====
abbrev S8x8192x1024 : Shape := ⟨3, ![8, 8192, 1024]⟩
abbrev S8x512x8192 : Shape := ⟨3, ![8, 512, 8192]⟩
abbrev S8x8192x512 : Shape := ⟨3, ![8, 8192, 512]⟩
abbrev S8x1024 : Shape := ⟨2, ![8, 1024]⟩
abbrev S1x512 : Shape := ⟨2, ![1, 512]⟩
abbrev S1x128 : Shape := ⟨2, ![1, 128]⟩
abbrev S1x1024x1024 : Shape := ⟨3, ![1, 1024, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1024 : Shape := ⟨1, ![1024]⟩
abbrev S512 : Shape := ⟨1, ![512]⟩
abbrev S_ : Shape := ⟨0, ![]⟩
abbrev S8x8192 : Shape := ⟨2, ![8, 8192]⟩
abbrev S8x8192x1 : Shape := ⟨3, ![8, 8192, 1]⟩
abbrev S1x1x512 : Shape := ⟨3, ![1, 1, 512]⟩
abbrev S8x8192x4x128 : Shape := ⟨4, ![8, 8192, 4, 128]⟩
abbrev S128 : Shape := ⟨1, ![128]⟩
abbrev S8x8192x4 : Shape := ⟨3, ![8, 8192, 4]⟩
abbrev S8x8192x4x1 : Shape := ⟨4, ![8, 8192, 4, 1]⟩
abbrev S1x1x1x128 : Shape := ⟨4, ![1, 1, 1, 128]⟩
abbrev S1024x1024 : Shape := ⟨2, ![1024, 1024]⟩
abbrev S8x1x1024 : Shape := ⟨3, ![8, 1, 1024]⟩
abbrev S1x1x1024 : Shape := ⟨3, ![1, 1, 1024]⟩
abbrev S1024x5632 : Shape := ⟨2, ![1024, 5632]⟩
abbrev S8x8192x5632 : Shape := ⟨3, ![8, 8192, 5632]⟩
abbrev S8x8192x2816 : Shape := ⟨3, ![8, 8192, 2816]⟩
abbrev S2816x1024 : Shape := ⟨2, ![2816, 1024]⟩

abbrev nBuf : Space → Nat
  | .hbm => 131
  | .vmem => 0
  | .smem => 0
  | _ => 0

abbrev hbmTy0_0 (i : Nat) : BufTy := match i % 128 with
  | 0 => ⟨S8x8192x1024, .f32⟩
  | 1 => ⟨S8x512x8192, .f32⟩
  | 2 => ⟨S8x8192x512, .f32⟩
  | 3 => ⟨S8x8192x512, .f32⟩
  | 4 => ⟨S8x1024, .f32⟩
  | 5 => ⟨S8x1024, .f32⟩
  | 6 => ⟨S8x1024, .f32⟩
  | 7 => ⟨S8x1024, .f32⟩
  | 8 => ⟨S1x512, .f32⟩
  | 9 => ⟨S1x128, .f32⟩
  | 10 => ⟨S1x1024x1024, .f32⟩
  | 11 => ⟨S1x1024, .f32⟩
  | 12 => ⟨S1x1024x5632, .f32⟩
  | 13 => ⟨S1x2816x1024, .f32⟩
  | 14 => ⟨S1024, .f32⟩
  | 15 => ⟨S8x8192x512, .f32⟩
  | 16 => ⟨S512, .f32⟩
  | 17 => ⟨S8x8192x512, .f32⟩
  | 18 => ⟨S_, .f32⟩
  | 19 => ⟨S8x8192, .f32⟩
  | 20 => ⟨S8x8192x1, .f32⟩
  | 21 => ⟨S_, .f32⟩
  | 22 => ⟨S8x8192x1, .f32⟩
  | 23 => ⟨S8x8192x1, .f32⟩
  | 24 => ⟨S_, .f32⟩
  | 25 => ⟨S8x8192x1, .f32⟩
  | 26 => ⟨S8x8192x1, .f32⟩
  | 27 => ⟨S8x8192x1, .f32⟩
  | 28 => ⟨S8x8192x512, .f32⟩
  | 29 => ⟨S8x8192x512, .f32⟩
  | 30 => ⟨S1x1x512, .f32⟩
  | 31 => ⟨S8x8192x512, .f32⟩
  | 32 => ⟨S8x8192x512, .f32⟩
  | 33 => ⟨S8x8192x4x128, .f32⟩
  | 34 => ⟨S128, .f32⟩
  | 35 => ⟨S8x8192x4x128, .f32⟩
  | 36 => ⟨S_, .f32⟩
  | 37 => ⟨S8x8192x4, .f32⟩
  | 38 => ⟨S8x8192x4x1, .f32⟩
  | 39 => ⟨S_, .f32⟩
  | 40 => ⟨S8x8192x4x1, .f32⟩
  | 41 => ⟨S8x8192x4x1, .f32⟩
  | 42 => ⟨S_, .f32⟩
  | 43 => ⟨S8x8192x4x1, .f32⟩
  | 44 => ⟨S8x8192x4x1, .f32⟩
  | 45 => ⟨S8x8192x4x1, .f32⟩
  | 46 => ⟨S8x8192x4x128, .f32⟩
  | 47 => ⟨S8x8192x4x128, .f32⟩
  | 48 => ⟨S1x1x1x128, .f32⟩
  | 49 => ⟨S8x8192x4x128, .f32⟩
  | 50 => ⟨S8x8192x4x128, .f32⟩
  | 51 => ⟨S8x8192x512, .f32⟩
  | 52 => ⟨S8x8192x512, .f32⟩
  | 53 => ⟨S8x8192x512, .f32⟩
  | 54 => ⟨S_, .f32⟩
  | 55 => ⟨S8x8192x512, .f32⟩
  | 56 => ⟨S8x8192x512, .f32⟩
  | 57 => ⟨S_, .f32⟩
  | 58 => ⟨S8x8192x512, .f32⟩
  | 59 => ⟨S8x8192x512, .f32⟩
  | 60 => ⟨S8x8192x512, .f32⟩
  | 61 => ⟨S8x8192x512, .f32⟩
  | 62 => ⟨S8x8192x1024, .f32⟩
  | 63 => ⟨S1024x1024, .f32⟩
  | 64 => ⟨S8x8192x1024, .f32⟩
  | 65 => ⟨S8x1x1024, .f32⟩
  | 66 => ⟨S8x8192x1024, .f32⟩
  | 67 => ⟨S8x8192x1024, .f32⟩
  | 68 => ⟨S8x8192x1024, .f32⟩
  | 69 => ⟨S1024, .f32⟩
  | 70 => ⟨S8x8192x1024, .f32⟩
  | 71 => ⟨S_, .f32⟩
  | 72 => ⟨S8x8192, .f32⟩
  | 73 => ⟨S8x8192x1, .f32⟩
  | 74 => ⟨S_, .f32⟩
  | 75 => ⟨S8x8192x1, .f32⟩
  | 76 => ⟨S8x8192x1, .f32⟩
  | 77 => ⟨S_, .f32⟩
  | 78 => ⟨S8x8192x1, .f32⟩
  | 79 => ⟨S8x8192x1, .f32⟩
  | 80 => ⟨S8x8192x1, .f32⟩
  | 81 => ⟨S8x8192x1024, .f32⟩
  | 82 => ⟨S8x8192x1024, .f32⟩
  | 83 => ⟨S1x1x1024, .f32⟩
  | 84 => ⟨S8x8192x1024, .f32⟩
  | 85 => ⟨S8x8192x1024, .f32⟩
  | 86 => ⟨S8x1x1024, .f32⟩
  | 87 => ⟨S_, .f32⟩
  | 88 => ⟨S8x1x1024, .f32⟩
  | 89 => ⟨S8x1x1024, .f32⟩
  | 90 => ⟨S8x8192x1024, .f32⟩
  | 91 => ⟨S8x8192x1024, .f32⟩
  | 92 => ⟨S8x1x1024, .f32⟩
  | 93 => ⟨S8x8192x1024, .f32⟩
  | 94 => ⟨S8x8192x1024, .f32⟩
  | 95 => ⟨S1024x5632, .f32⟩
  | 96 => ⟨S8x8192x5632, .f32⟩
  | 97 => ⟨S8x8192x2816, .f32⟩
  | 98 => ⟨S8x8192x2816, .f32⟩
  | 99 => ⟨S8x1x1024, .f32⟩
  | 100 => ⟨S8x8192x2816, .f32⟩
  | 101 => ⟨S8x8192x2816, .f32⟩
  | 102 => ⟨S_, .f32⟩
  | 103 => ⟨S8x8192x2816, .f32⟩
  | 104 => ⟨S8x8192x2816, .f32⟩
  | 105 => ⟨S_, .f32⟩
  | 106 => ⟨S8x8192x2816, .f32⟩
  | 107 => ⟨S8x8192x2816, .f32⟩
  | 108 => ⟨S8x8192x2816, .f32⟩
  | 109 => ⟨S8x8192x2816, .f32⟩
  | 110 => ⟨S2816x1024, .f32⟩
  | 111 => ⟨S8x8192x1024, .f32⟩
  | 112 => ⟨S8x8192x1024, .f32⟩
  | 113 => ⟨S8x8192x1024, .f32⟩
  | 114 => ⟨S8x8192x1024, .f32⟩
  | 115 => ⟨S8x8192x1024, .f32⟩
  | 116 => ⟨S_, .f32⟩
  | 117 => ⟨S8x8192, .f32⟩
  | 118 => ⟨S8x8192x1, .f32⟩
  | 119 => ⟨S_, .f32⟩
  | 120 => ⟨S8x8192x1, .f32⟩
  | 121 => ⟨S8x8192x1, .f32⟩
  | 122 => ⟨S_, .f32⟩
  | 123 => ⟨S8x8192x1, .f32⟩
  | 124 => ⟨S8x8192x1, .f32⟩
  | 125 => ⟨S8x8192x1, .f32⟩
  | 126 => ⟨S8x8192x1024, .f32⟩
  | 127 => ⟨S8x8192x1024, .f32⟩
  | _ => ⟨S8x8192x1024, .f32⟩

abbrev hbmTy0_1 (i : Nat) : BufTy := match i % 128 with
  | 0 => ⟨S1x1x1024, .f32⟩
  | 1 => ⟨S8x8192x1024, .f32⟩
  | 2 => ⟨S8x8192x1024, .f32⟩
  | _ => ⟨S8x8192x1024, .f32⟩

abbrev hbmTy (i : Nat) : BufTy := match i / 128 with
  | 0 => hbmTy0_0 i
  | 1 => hbmTy0_1 i
  | _ => ⟨S8x8192x1024, .f32⟩

abbrev bufTy : (tb : Table) → Fin (tcTables nBuf tb) → BufTy
  | .hbm, ⟨i, _⟩ => hbmTy i
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_cst : Ref sig .tc := ⟨.hbm, 18, rfl⟩
abbrev main_v3 : Ref sig .tc := ⟨.hbm, 19, rfl⟩
abbrev main_v4 : Ref sig .tc := ⟨.hbm, 20, rfl⟩
abbrev main_cst_0 : Ref sig .tc := ⟨.hbm, 21, rfl⟩
abbrev main_v5 : Ref sig .tc := ⟨.hbm, 22, rfl⟩
abbrev main_v6 : Ref sig .tc := ⟨.hbm, 23, rfl⟩
abbrev main_cst_1 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_2 : Ref sig .tc := ⟨.hbm, 36, rfl⟩
abbrev main_v18 : Ref sig .tc := ⟨.hbm, 37, rfl⟩
abbrev main_v19 : Ref sig .tc := ⟨.hbm, 38, rfl⟩
abbrev main_cst_3 : Ref sig .tc := ⟨.hbm, 39, rfl⟩
abbrev main_v20 : Ref sig .tc := ⟨.hbm, 40, rfl⟩
abbrev main_v21 : Ref sig .tc := ⟨.hbm, 41, rfl⟩
abbrev main_cst_4 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_call0_v0 : Ref sig .tc := ⟨.hbm, 52, rfl⟩
abbrev main_call0_v1 : Ref sig .tc := ⟨.hbm, 53, rfl⟩
abbrev main_call0_cst : Ref sig .tc := ⟨.hbm, 54, rfl⟩
abbrev main_call0_v2 : Ref sig .tc := ⟨.hbm, 55, rfl⟩
abbrev main_call0_v3 : Ref sig .tc := ⟨.hbm, 56, rfl⟩
abbrev main_call0_cst_0 : Ref sig .tc := ⟨.hbm, 57, rfl⟩
abbrev main_call0_v4 : Ref sig .tc := ⟨.hbm, 58, rfl⟩
abbrev main_call0_v5 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_cst_5 : Ref sig .tc := ⟨.hbm, 71, rfl⟩
abbrev main_v42 : Ref sig .tc := ⟨.hbm, 72, rfl⟩
abbrev main_v43 : Ref sig .tc := ⟨.hbm, 73, rfl⟩
abbrev main_cst_6 : Ref sig .tc := ⟨.hbm, 74, rfl⟩
abbrev main_v44 : Ref sig .tc := ⟨.hbm, 75, rfl⟩
abbrev main_v45 : Ref sig .tc := ⟨.hbm, 76, rfl⟩
abbrev main_cst_7 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_cst_8 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_call1_v0 : Ref sig .tc := ⟨.hbm, 100, rfl⟩
abbrev main_call1_v1 : Ref sig .tc := ⟨.hbm, 101, rfl⟩
abbrev main_call1_cst : Ref sig .tc := ⟨.hbm, 102, rfl⟩
abbrev main_call1_v2 : Ref sig .tc := ⟨.hbm, 103, rfl⟩
abbrev main_call1_v3 : Ref sig .tc := ⟨.hbm, 104, rfl⟩
abbrev main_call1_cst_0 : Ref sig .tc := ⟨.hbm, 105, rfl⟩
abbrev main_call1_v4 : Ref sig .tc := ⟨.hbm, 106, rfl⟩
abbrev main_call1_v5 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_cst_9 : Ref sig .tc := ⟨.hbm, 116, rfl⟩
abbrev main_v75 : Ref sig .tc := ⟨.hbm, 117, rfl⟩
abbrev main_v76 : Ref sig .tc := ⟨.hbm, 118, rfl⟩
abbrev main_cst_10 : Ref sig .tc := ⟨.hbm, 119, rfl⟩
abbrev main_v77 : Ref sig .tc := ⟨.hbm, 120, rfl⟩
abbrev main_v78 : Ref sig .tc := ⟨.hbm, 121, rfl⟩
abbrev main_cst_11 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩

abbrev nD : Nat := 1
abbrev τ : Topo := Topo.v7x

variable {F : FTy → Type} [FloatOps F]
-- ==== Kernel3.lean ====
abbrev S8x8192x1024 : Shape := ⟨3, ![8, 8192, 1024]⟩
abbrev S8x1024 : Shape := ⟨2, ![8, 1024]⟩
abbrev S1x1024 : Shape := ⟨2, ![1, 1024]⟩
abbrev S1x1024x3672 : Shape := ⟨3, ![1, 1024, 3672]⟩
abbrev S8x1x1024 : Shape := ⟨3, ![8, 1, 1024]⟩
abbrev S1024 : Shape := ⟨1, ![1024]⟩
abbrev S1024x3672 : Shape := ⟨2, ![1024, 3672]⟩
abbrev S1024x512 : Shape := ⟨2, ![1024, 512]⟩
abbrev S_ : Shape := ⟨0, ![]⟩
abbrev S1024x40 : Shape := ⟨2, ![1024, 40]⟩
abbrev S1024x64 : Shape := ⟨2, ![1024, 64]⟩
abbrev S1024x8 : Shape := ⟨2, ![1024, 8]⟩
abbrev S1024x16 : Shape := ⟨2, ![1024, 16]⟩
abbrev S1024x128 : Shape := ⟨2, ![1024, 128]⟩
abbrev S1024x256 : Shape := ⟨2, ![1024, 256]⟩
abbrev S1024x1536 : Shape := ⟨2, ![1024, 1536]⟩
abbrev S1024x2176 : Shape := ⟨2, ![1024, 2176]⟩
abbrev S2176x1024 : Shape := ⟨2, ![2176, 1024]⟩
abbrev S8x512x8192 : Shape := ⟨3, ![8, 512, 8192]⟩
abbrev S8x8192x512 : Shape := ⟨3, ![8, 8192, 512]⟩
abbrev S8x8192x128 : Shape := ⟨3, ![8, 8192, 128]⟩
abbrev S8x8192x64 : Shape := ⟨3, ![8, 8192, 64]⟩
abbrev S8x8192x256 : Shape := ⟨3, ![8, 8192, 256]⟩
abbrev S8x128x8192 : Shape := ⟨3, ![8, 128, 8192]⟩
abbrev S1x512x1024 : Shape := ⟨3, ![1, 512, 1024]⟩
abbrev S1x1x1024 : Shape := ⟨3, ![1, 1, 1024]⟩
abbrev S1x512x512 : Shape := ⟨3, ![1, 512, 512]⟩
abbrev S1x512x128 : Shape := ⟨3, ![1, 512, 128]⟩
abbrev S1x512x64 : Shape := ⟨3, ![1, 512, 64]⟩
abbrev S1x512x256 : Shape := ⟨3, ![1, 512, 256]⟩
abbrev S1x128x512 : Shape := ⟨3, ![1, 128, 512]⟩
abbrev S512x1024 : Shape := ⟨2, ![512, 1024]⟩
abbrev S512 : Shape := ⟨1, ![512]⟩
abbrev S512x1 : Shape := ⟨2, ![512, 1]⟩
abbrev S512x512 : Shape := ⟨2, ![512, 512]⟩
abbrev S512x128 : Shape := ⟨2, ![512, 128]⟩
abbrev S512x64 : Shape := ⟨2, ![512, 64]⟩
abbrev S512x1536 : Shape := ⟨2, ![512, 1536]⟩
abbrev S512x256 : Shape := ⟨2, ![512, 256]⟩
abbrev S2176x512 : Shape := ⟨2, ![2176, 512]⟩
abbrev S128x512 : Shape := ⟨2, ![128, 512]⟩

abbrev nBuf : Space → Nat
  | .hbm => 45
  | .vmem => 35
  | .smem => 0
  | _ => 0

abbrev bufTy : (tb : Table) → Fin (tcTables nBuf tb) → BufTy
  | .hbm, ⟨0, _⟩ => ⟨S8x8192x1024, .f32⟩
  | .hbm, ⟨1, _⟩ => ⟨S8x1024, .f32⟩
  | .hbm, ⟨2, _⟩ => ⟨S8x1024, .f32⟩
  | .hbm, ⟨3, _⟩ => ⟨S1x1024, .f32⟩
  | .hbm, ⟨4, _⟩ => ⟨S1x1024x3672, .f32⟩
  | .hbm, ⟨5, _⟩ => ⟨S8x1x1024, .f32⟩
  | .hbm, ⟨6, _⟩ => ⟨S8x1x1024, .f32⟩
  | .hbm, ⟨7, _⟩ => ⟨S1024, .f32⟩
  | .hbm, ⟨8, _⟩ => ⟨S1x1024, .f32⟩
  | .hbm, ⟨9, _⟩ => ⟨S1024x3672, .f32⟩
  | .hbm, ⟨10, _⟩ => ⟨S1024x512, .f32⟩
  | .hbm, ⟨11, _⟩ => ⟨S1024x512, .bf16⟩
  | .hbm, ⟨12, _⟩ => ⟨S_, .f32⟩
  | .hbm, ⟨13, _⟩ => ⟨S1024x40, .f32⟩
  | .hbm, ⟨14, _⟩ => ⟨S1024x64, .f32⟩
  | .hbm, ⟨15, _⟩ => ⟨S1024x8, .f32⟩
  | .hbm, ⟨16, _⟩ => ⟨S1024x16, .f32⟩
  | .hbm, ⟨17, _⟩ => ⟨S1024x128, .f32⟩
  | .hbm, ⟨18, _⟩ => ⟨S1024x128, .bf16⟩
  | .hbm, ⟨19, _⟩ => ⟨S1024x256, .f32⟩
  | .hbm, ⟨20, _⟩ => ⟨S1024x256, .f32⟩
  | .hbm, ⟨21, _⟩ => ⟨S1024x512, .f32⟩
  | .hbm, ⟨22, _⟩ => ⟨S1024x512, .f32⟩
  | .hbm, ⟨23, _⟩ => ⟨S1024x1536, .f32⟩
  | .hbm, ⟨24, _⟩ => ⟨S1024x1536, .bf16⟩
  | .hbm, ⟨25, _⟩ => ⟨S1024x512, .f32⟩
  | .hbm, ⟨26, _⟩ => ⟨S1024x512, .f32⟩
  | .hbm, ⟨27, _⟩ => ⟨S1024x512, .f32⟩
  | .hbm, ⟨28, _⟩ => ⟨S1024x512, .f32⟩
  | .hbm, ⟨29, _⟩ => ⟨S1024x128, .f32⟩
  | .hbm, ⟨30, _⟩ => ⟨S1024x2176, .f32⟩
  | .hbm, ⟨31, _⟩ => ⟨S2176x1024, .f32⟩
  | .hbm, ⟨32, _⟩ => ⟨S2176x1024, .bf16⟩
  | .hbm, ⟨33, _⟩ => ⟨S8x512x8192, .bf16⟩
  | .hbm, ⟨34, _⟩ => ⟨S8x8192x512, .bf16⟩
  | .hbm, ⟨35, _⟩ => ⟨S8x512x8192, .bf16⟩
  | .hbm, ⟨36, _⟩ => ⟨S8x8192x128, .f32⟩
  | .hbm, ⟨37, _⟩ => ⟨S8x8192x64, .bf16⟩
  | .hbm, ⟨38, _⟩ => ⟨S8x8192x256, .f32⟩
  | .hbm, ⟨39, _⟩ => ⟨S8x8192x256, .f32⟩
  | .hbm, ⟨40, _⟩ => ⟨S8x8192x512, .f32⟩
  | .hbm, ⟨41, _⟩ => ⟨S8x8192x512, .f32⟩
  | .hbm, ⟨42, _⟩ => ⟨S8x512x8192, .bf16⟩
  | .hbm, ⟨43, _⟩ => ⟨S8x512x8192, .f32⟩
  | .hbm, ⟨44, _⟩ => ⟨S8x128x8192, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x512, .bf16⟩
  | .local _ .vmem, ⟨8, _⟩ => ⟨S1024x128, .bf16⟩
  | .local _ .vmem, ⟨9, _⟩ => ⟨S1024x1536, .bf16⟩
  | .local _ .vmem, ⟨10, _⟩ => ⟨S2176x1024, .bf16⟩
  | .local _ .vmem, ⟨11, _⟩ => ⟨S1x512x512, .bf16⟩
  | .local _ .vmem, ⟨12, _⟩ => ⟨S1x512x512, .bf16⟩
  | .local _ .vmem, ⟨13, _⟩ => ⟨S1x512x512, .bf16⟩
  | .local _ .vmem, ⟨14, _⟩ => ⟨S1x512x512, .bf16⟩
  | .local _ .vmem, ⟨15, _⟩ => ⟨S1x512x512, .bf16⟩
  | .local _ .vmem, ⟨16, _⟩ => ⟨S1x512x512, .bf16⟩
  | .local _ .vmem, ⟨17, _⟩ => ⟨S1x512x128, .f32⟩
  | .local _ .vmem, ⟨18, _⟩ => ⟨S1x512x128, .f32⟩
  | .local _ .vmem, ⟨19, _⟩ => ⟨S1x512x64, .bf16⟩
  | .local _ .vmem, ⟨20, _⟩ => ⟨S1x512x64, .bf16⟩
  | .local _ .vmem, ⟨21, _⟩ => ⟨S1x512x256, .f32⟩
  | .local _ .vmem, ⟨22, _⟩ => ⟨S1x512x256, .f32⟩
  | .local _ .vmem, ⟨23, _⟩ => ⟨S1x512x256, .f32⟩
  | .local _ .vmem, ⟨24, _⟩ => ⟨S1x512x256, .f32⟩
  | .local _ .vmem, ⟨25, _⟩ => ⟨S1x512x512, .f32⟩
  | .local _ .vmem, ⟨26, _⟩ => ⟨S1x512x512, .f32⟩
  | .local _ .vmem, ⟨27, _⟩ => ⟨S1x512x512, .f32⟩
  | .local _ .vmem, ⟨28, _⟩ => ⟨S1x512x512, .f32⟩
  | .local _ .vmem, ⟨29, _⟩ => ⟨S1x512x512, .bf16⟩
  | .local _ .vmem, ⟨30, _⟩ => ⟨S1x512x512, .bf16⟩
  | .local _ .vmem, ⟨31, _⟩ => ⟨S1x512x512, .f32⟩
  | .local _ .vmem, ⟨32, _⟩ => ⟨S1x512x512, .f32⟩
  | .local _ .vmem, ⟨33, _⟩ => ⟨S1x128x512, .f32⟩
  | .local _ .vmem, ⟨34, _⟩ => ⟨S1x128x512, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27_0 : Ref sig .tc := ⟨.hbm, 33, rfl⟩
abbrev main_v27_1 : Ref sig .tc := ⟨.hbm, 34, rfl⟩
abbrev main_v27_2 : Ref sig .tc := ⟨.hbm, 35, rfl⟩
abbrev main_v27_3 : Ref sig .tc := ⟨.hbm, 36, rfl⟩
abbrev main_v27_4 : Ref sig .tc := ⟨.hbm, 37, rfl⟩
abbrev main_v27_5 : Ref sig .tc := ⟨.hbm, 38, rfl⟩
abbrev main_v27_6 : Ref sig .tc := ⟨.hbm, 39, rfl⟩
abbrev main_v27_7 : Ref sig .tc := ⟨.hbm, 40, rfl⟩
abbrev main_v27_8 : Ref sig .tc := ⟨.hbm, 41, rfl⟩
abbrev main_v27_9 : Ref sig .tc := ⟨.hbm, 42, rfl⟩
abbrev main_v27_10 : Ref sig .tc := ⟨.hbm, 43, rfl⟩
abbrev main_v27_11 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg17_1 : Ref sig .tc := ⟨.vmem, 30, rfl⟩
abbrev cc0_stg18_0 : Ref sig .tc := ⟨.vmem, 31, rfl⟩
abbrev cc0_stg18_1 : Ref sig .tc := ⟨.vmem, 32, rfl⟩
abbrev cc0_stg19_0 : Ref sig .tc := ⟨.vmem, 33, rfl⟩
abbrev cc0_stg19_1 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29
abbrev cc0_sem17_1 : DmaSem sig := 30
abbrev cc0_sem18_0 : DmaSem sig := 31
abbrev cc0_sem18_1 : DmaSem sig := 32
abbrev cc0_sem19_0 : DmaSem sig := 33
abbrev cc0_sem19_1 : DmaSem sig := 34

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1536 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2176x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x64 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x512x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x512x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x512x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x128x512 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]
-- ==== Reference3Ideal.lean ====
abbrev S8x8192x1024 : Shape := ⟨3, ![8, 8192, 1024]⟩
abbrev S8x1024 : Shape := ⟨2, ![8, 1024]⟩
abbrev S1x1024 : Shape := ⟨2, ![1, 1024]⟩
abbrev S1x1024x3672 : Shape := ⟨3, ![1, 1024, 3672]⟩
abbrev S1024 : Shape := ⟨1, ![1024]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S8x1x1024 : Shape := ⟨3, ![8, 1, 1024]⟩
abbrev S1024x3672 : Shape := ⟨2, ![1024, 3672]⟩
abbrev S8x8192x3672 : Shape := ⟨3, ![8, 8192, 3672]⟩
abbrev S8x8192x512 : Shape := ⟨3, ![8, 8192, 512]⟩
abbrev S8x8192x64 : Shape := ⟨3, ![8, 8192, 64]⟩
abbrev S8x8192x8 : Shape := ⟨3, ![8, 8192, 8]⟩
abbrev S8x8192x256 : Shape := ⟨3, ![8, 8192, 256]⟩
abbrev S8x8192x16 : Shape := ⟨3, ![8, 8192, 16]⟩
abbrev S8x8192x40 : Shape := ⟨3, ![8, 8192, 40]⟩
abbrev S8x8192x128 : Shape := ⟨3, ![8, 8192, 128]⟩
abbrev S8x512x8192 : Shape := ⟨3, ![8, 512, 8192]⟩
abbrev S8x128x8192 : Shape := ⟨3, ![8, 128, 8192]⟩

abbrev nBuf : Space → Nat
  | .hbm => 60
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S8x1024, .f32⟩
  | .hbm, ⟨2, _⟩ => ⟨S8x1024, .f32⟩
  | .hbm, ⟨3, _⟩ => ⟨S1x1024, .f32⟩
  | .hbm, ⟨4, _⟩ => ⟨S1x1024x3672, .f32⟩
  | .hbm, ⟨5, _⟩ => ⟨S1024, .f32⟩
  | .hbm, ⟨6, _⟩ => ⟨S8x8192x1024, .f32⟩
  | .hbm, ⟨7, _⟩ => ⟨S_, .f32⟩
  | .hbm, ⟨8, _⟩ => ⟨S8x8192, .f32⟩
  | .hbm, ⟨9, _⟩ => ⟨S8x8192x1, .f32⟩
  | .hbm, ⟨10, _⟩ => ⟨S_, .f32⟩
  | .hbm, ⟨11, _⟩ => ⟨S8x8192x1, .f32⟩
  | .hbm, ⟨12, _⟩ => ⟨S8x8192x1, .f32⟩
  | .hbm, ⟨13, _⟩ => ⟨S_, .f32⟩
  | .hbm, ⟨14, _⟩ => ⟨S8x8192x1, .f32⟩
  | .hbm, ⟨15, _⟩ => ⟨S8x8192x1, .f32⟩
  | .hbm, ⟨16, _⟩ => ⟨S8x8192x1, .f32⟩
  | .hbm, ⟨17, _⟩ => ⟨S8x8192x1024, .f32⟩
  | .hbm, ⟨18, _⟩ => ⟨S8x8192x1024, .f32⟩
  | .hbm, ⟨19, _⟩ => ⟨S1x1x1024, .f32⟩
  | .hbm, ⟨20, _⟩ => ⟨S8x8192x1024, .f32⟩
  | .hbm, ⟨21, _⟩ => ⟨S8x8192x1024, .f32⟩
  | .hbm, ⟨22, _⟩ => ⟨S8x1x1024, .f32⟩
  | .hbm, ⟨23, _⟩ => ⟨S_, .f32⟩
  | .hbm, ⟨24, _⟩ => ⟨S8x1x1024, .f32⟩
  | .hbm, ⟨25, _⟩ => ⟨S8x1x1024, .f32⟩
  | .hbm, ⟨26, _⟩ => ⟨S8x8192x1024, .f32⟩
  | .hbm, ⟨27, _⟩ => ⟨S8x8192x1024, .f32⟩
  | .hbm, ⟨28, _⟩ => ⟨S8x1x1024, .f32⟩
  | .hbm, ⟨29, _⟩ => ⟨S8x8192x1024, .f32⟩
  | .hbm, ⟨30, _⟩ => ⟨S8x8192x1024, .f32⟩
  | .hbm, ⟨31, _⟩ => ⟨S1024x3672, .f32⟩
  | .hbm, ⟨32, _⟩ => ⟨S8x8192x3672, .f32⟩
  | .hbm, ⟨33, _⟩ => ⟨S8x8192x512, .f32⟩
  | .hbm, ⟨34, _⟩ => ⟨S8x8192x512, .f32⟩
  | .hbm, ⟨35, _⟩ => ⟨S8x8192x512, .f32⟩
  | .hbm, ⟨36, _⟩ => ⟨S8x8192x512, .f32⟩
  | .hbm, ⟨37, _⟩ => ⟨S8x8192x64, .f32⟩
  | .hbm, ⟨38, _⟩ => ⟨S8x8192x8, .f32⟩
  | .hbm, ⟨39, _⟩ => ⟨S8x8192x256, .f32⟩
  | .hbm, ⟨40, _⟩ => ⟨S8x8192x256, .f32⟩
  | .hbm, ⟨41, _⟩ => ⟨S8x8192x512, .f32⟩
  | .hbm, ⟨42, _⟩ => ⟨S8x8192x512, .f32⟩
  | .hbm, ⟨43, _⟩ => ⟨S8x8192x16, .f32⟩
  | .hbm, ⟨44, _⟩ => ⟨S_, .f32⟩
  | .hbm, ⟨45, _⟩ => ⟨S8x8192x40, .f32⟩
  | .hbm, ⟨46, _⟩ => ⟨S8x8192x128, .f32⟩
  | .hbm, ⟨47, _⟩ => ⟨S_, .f32⟩
  | .hbm, ⟨48, _⟩ => ⟨S8x8192x512, .f32⟩
  | .hbm, ⟨49, _⟩ => ⟨S8x8192x512, .f32⟩
  | .hbm, ⟨50, _⟩ => ⟨S8x512x8192, .f32⟩
  | .hbm, ⟨51, _⟩ => ⟨S8x512x8192, .bf16⟩
  | .hbm, ⟨52, _⟩ => ⟨S8x8192x512, .bf16⟩
  | .hbm, ⟨53, _⟩ => ⟨S8x512x8192, .f32⟩
  | .hbm, ⟨54, _⟩ => ⟨S8x512x8192, .bf16⟩
  | .hbm, ⟨55, _⟩ => ⟨S8x8192x64, .bf16⟩
  | .hbm, ⟨56, _⟩ => ⟨S8x512x8192, .f32⟩
  | .hbm, ⟨57, _⟩ => ⟨S8x512x8192, .bf16⟩
  | .hbm, ⟨58, _⟩ => ⟨S8x512x8192, .f32⟩
  | .hbm, ⟨59, _⟩ => ⟨S8x128x8192, .f32⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst_3 : Ref sig .tc := ⟨.hbm, 44, rfl⟩
abbrev main_v35 : Ref sig .tc := ⟨.hbm, 45, rfl⟩
abbrev main_v36 : Ref sig .tc := ⟨.hbm, 46, rfl⟩
abbrev main_cst_4 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩

abbrev nD : Nat := 1
abbrev τ : Topo := Topo.v7x

variable {F : FTy → Type} [FloatOps F]
-- ==== Kernel4.lean ====
abbrev S8x1024 : Shape := ⟨2, ![8, 1024]⟩
abbrev S1x1024x6144 : Shape := ⟨3, ![1, 1024, 6144]⟩
abbrev S1x6144 : Shape := ⟨2, ![1, 6144]⟩
abbrev S1024x6144 : Shape := ⟨2, ![1024, 6144]⟩
abbrev S6144 : Shape := ⟨1, ![6144]⟩
abbrev S8x6144 : Shape := ⟨2, ![8, 6144]⟩
abbrev S1024x1024 : Shape := ⟨2, ![1024, 1024]⟩
abbrev S1x1024 : Shape := ⟨2, ![1, 1024]⟩

abbrev nBuf : Space → Nat
  | .hbm => 7
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S1x1024x6144, .f32⟩
  | .hbm, ⟨2, _⟩ => ⟨S1x6144, .f32⟩
  | .hbm, ⟨3, _⟩ => ⟨S1024x6144, .f32⟩
  | .hbm, ⟨4, _⟩ => ⟨S6144, .f32⟩
  | .hbm, ⟨5, _⟩ => ⟨S1x6144, .f32⟩
  | .hbm, ⟨6, _⟩ => ⟨S8x6144, .f32⟩
  | .local _ .vmem, ⟨0, _⟩ => ⟨S8x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1x1024, .f32⟩
  | .local _ .vmem, ⟨5, _⟩ => ⟨S8x1024, .f32⟩
  | .local _ .vmem, ⟨6, _⟩ => ⟨S8x1024, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference4Ideal.lean ====
abbrev S8x1024 : Shape := ⟨2, ![8, 1024]⟩
abbrev S1x1024x6144 : Shape := ⟨3, ![1, 1024, 6144]⟩
abbrev S1x6144 : Shape := ⟨2, ![1, 6144]⟩
abbrev S_ : Shape := ⟨0, ![]⟩
abbrev S1024x6144 : Shape := ⟨2, ![1024, 6144]⟩
abbrev S8x6144 : Shape := ⟨2, ![8, 6144]⟩
abbrev S6144 : Shape := ⟨1, ![6144]⟩

abbrev nBuf : Space → Nat
  | .hbm => 18
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1x1024x6144, .f32⟩
  | .hbm, ⟨2, _⟩ => ⟨S1x6144, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S1024x6144, .f32⟩
  | .hbm, ⟨13, _⟩ => ⟨S8x6144, .f32⟩
  | .hbm, ⟨14, _⟩ => ⟨S6144, .f32⟩
  | .hbm, ⟨15, _⟩ => ⟨S1x6144, .f32⟩
  | .hbm, ⟨16, _⟩ => ⟨S8x6144, .f32⟩
  | .hbm, ⟨17, _⟩ => ⟨S8x6144, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩

abbrev nD : Nat := 1
abbrev τ : Topo := Topo.v7x

variable {F : FTy → Type} [FloatOps F]
-- ==== Kernel5.lean ====
abbrev S8x8192x256 : Shape := ⟨3, ![8, 8192, 256]⟩
abbrev S8x8192x512 : Shape := ⟨3, ![8, 8192, 512]⟩
abbrev S8x8192x128 : Shape := ⟨3, ![8, 8192, 128]⟩
abbrev S1x16x256 : Shape := ⟨3, ![1, 16, 256]⟩
abbrev S1x256 : Shape := ⟨2, ![1, 256]⟩
abbrev S8x512x8192 : Shape := ⟨3, ![8, 512, 8192]⟩
abbrev S16x256 : Shape := ⟨2, ![16, 256]⟩
abbrev S256 : Shape := ⟨1, ![256]⟩
abbrev S1x512x256 : Shape := ⟨3, ![1, 512, 256]⟩
abbrev S1x512x512 : Shape := ⟨3, ![1, 512, 512]⟩
abbrev S1x512x128 : Shape := ⟨3, ![1, 512, 128]⟩
abbrev S512x256 : Shape := ⟨2, ![512, 256]⟩
abbrev S256x512 : Shape := ⟨2, ![256, 512]⟩
abbrev S512x128 : Shape := ⟨2, ![512, 128]⟩
abbrev S512x16 : Shape := ⟨2, ![512, 16]⟩
abbrev S128x256 : Shape := ⟨2, ![128, 256]⟩
abbrev S1x128x256 : Shape := ⟨3, ![1, 128, 256]⟩
abbrev S1x128x512 : Shape := ⟨3, ![1, 128, 512]⟩
abbrev S128x512 : Shape := ⟨2, ![128, 512]⟩
abbrev S16x512 : Shape := ⟨2, ![16, 512]⟩
abbrev S256x256 : Shape := ⟨2, ![256, 256]⟩
abbrev S1x512 : Shape := ⟨2, ![1, 512]⟩
abbrev S1x16x512 : Shape := ⟨3, ![1, 16, 512]⟩
abbrev S128x16 : Shape := ⟨2, ![128, 16]⟩

abbrev nBuf : Space → Nat
  | .hbm => 11
  | .vmem => 16
  | .smem => 0
  | _ => 0

abbrev bufTy : (tb : Table) → Fin (tcTables nBuf tb) → BufTy
  | .hbm, ⟨0, _⟩ => ⟨S8x8192x256, .f32⟩
  | .hbm, ⟨1, _⟩ => ⟨S8x8192x256, .f32⟩
  | .hbm, ⟨2, _⟩ => ⟨S8x8192x512, .f32⟩
  | .hbm, ⟨3, _⟩ => ⟨S8x8192x128, .f32⟩
  | .hbm, ⟨4, _⟩ => ⟨S1x16x256, .f32⟩
  | .hbm, ⟨5, _⟩ => ⟨S1x256, .f32⟩
  | .hbm, ⟨6, _⟩ => ⟨S8x512x8192, .f32⟩
  | .hbm, ⟨7, _⟩ => ⟨S16x256, .f32⟩
  | .hbm, ⟨8, _⟩ => ⟨S256, .f32⟩
  | .hbm, ⟨9, _⟩ => ⟨S1x256, .f32⟩
  | .hbm, ⟨10, _⟩ => ⟨S8x8192x512, .f32⟩
  | .local _ .vmem, ⟨0, _⟩ => ⟨S1x512x256, .f32⟩
  | .local _ .vmem, ⟨1, _⟩ => ⟨S1x512x256, .f32⟩
  | .local _ .vmem, ⟨2, _⟩ => ⟨S1x512x256, .f32⟩
  | .local _ .vmem, ⟨3, _⟩ => ⟨S1x512x256, .f32⟩
  | .local _ .vmem, ⟨4, _⟩ => ⟨S1x512x512, .f32⟩
  | .local _ .vmem, ⟨5, _⟩ => ⟨S1x512x512, .f32⟩
  | .local _ .vmem, ⟨6, _⟩ => ⟨S1x512x512, .f32⟩
  | .local _ .vmem, ⟨7, _⟩ => ⟨S1x512x512, .f32⟩
  | .local _ .vmem, ⟨8, _⟩ => ⟨S1x512x128, .f32⟩
  | .local _ .vmem, ⟨9, _⟩ => ⟨S1x512x128, .f32⟩
  | .local _ .vmem, ⟨10, _⟩ => ⟨S16x256, .f32⟩
  | .local _ .vmem, ⟨11, _⟩ => ⟨S1x256, .f32⟩
  | .local _ .vmem, ⟨12, _⟩ => ⟨S1x512x512, .f32⟩
  | .local _ .vmem, ⟨13, _⟩ => ⟨S1x512x512, .f32⟩
  | .local _ .vmem, ⟨14, _⟩ => ⟨S512x256, .f32⟩
  | .local _ .vmem, ⟨15, _⟩ => ⟨S512x256, .f32⟩
  | _, _ => ⟨S8x8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![8, 16], ![false, false]⟩

@[reducible] def k0_t1_loop : Scf.Loop 32 :=
  let c0_i32_47 : BitVec 32 := 0#32
  let c4_i32_48 : BitVec 32 := 4#32
  let v150 : BitVec 32 := Scalar.addi c0_i32_47 c4_i32_48
  let c1_i32_49 : BitVec 32 := 1#32
  ⟨c0_i32_47, v150, c1_i32_49⟩
def k0_mult1 (k0_t1 : Fin k0_t1_loop.trips) : BitVec 32 :=
  let c0_i32_47 : BitVec 32 := 0#32
  let c1_i32_49 : BitVec 32 := 1#32
  let arg12 : BitVec 32 := Scf.iv c0_i32_47 c1_i32_49 k0_t1
  let c128_i32_51 : BitVec 32 := 128#32
  let v151 : BitVec 32 := Scalar.muli arg12 c128_i32_51
  v151
def k0_off1 (k0_t1 : Fin k0_t1_loop.trips) : Fin 2 → Nat :=
  let c0_i32_47 : BitVec 32 := 0#32
  let c1_i32_49 : BitVec 32 := 1#32
  let arg12 : BitVec 32 := Scf.iv c0_i32_47 c1_i32_49 k0_t1
  let c128_i32_51 : BitVec 32 := 128#32
  let v151 : BitVec 32 := Scalar.muli arg12 c128_i32_51
  let v152 : BitVec 32 := v151
  let v153 : Index := Scalar.indexCast v152
  let c0_52 : Index := 0#32
  ![v153.toNat, 0]
def k0_off2 (k0_t1 : Fin k0_t1_loop.trips) : Fin 3 → Nat :=
  let c0_53 : Index := 0#32
  let c0_i32_47 : BitVec 32 := 0#32
  let c1_i32_49 : BitVec 32 := 1#32
  let arg12 : BitVec 32 := Scf.iv c0_i32_47 c1_i32_49 k0_t1
  let c128_i32_51 : BitVec 32 := 128#32
  let v151 : BitVec 32 := Scalar.muli arg12 c128_i32_51
  let v152 : BitVec 32 := v151
  let v155 : Index := Scalar.indexCast v152
  let c0_54 : Index := 0#32
  ![0, v155.toNat, 0]
def k0_off3 (k0_t1 : Fin k0_t1_loop.trips) : Fin 3 → Nat :=
  let c0_58 : Index := 0#32
  let c0_i32_47 : BitVec 32 := 0#32
  let c1_i32_49 : BitVec 32 := 1#32
  let arg12 : BitVec 32 := Scf.iv c0_i32_47 c1_i32_49 k0_t1
  let c128_i32_51 : BitVec 32 := 128#32
  let v151 : BitVec 32 := Scalar.muli arg12 c128_i32_51
  let v152 : BitVec 32 := v151
  let v163 : Index := Scalar.indexCast v152
  let c0_59 : Index := 0#32
  ![0, v163.toNat, 0]
def k0_off4 (k0_t1 : Fin k0_t1_loop.trips) : Fin 3 → Nat :=
  let c0_60 : Index := 0#32
  let c0_61 : Index := 0#32
  let c0_i32_47 : BitVec 32 := 0#32
  let c1_i32_49 : BitVec 32 := 1#32
  let arg12 : BitVec 32 := Scf.iv c0_i32_47 c1_i32_49 k0_t1
  let c128_i32_51 : BitVec 32 := 128#32
  let v151 : BitVec 32 := Scalar.muli arg12 c128_i32_51
  let v152 : BitVec 32 := v151
  let v166 : Index := Scalar.indexCast v152
  ![0, 0, v166.toNat]
def k0_off5 (k0_t1 : Fin k0_t1_loop.trips) (c0_i32_64 : BitVec 32) : Fin 3 → Nat :=
  let c0_89 : Index := 0#32
  let c0_i32_47 : BitVec 32 := 0#32
  let c1_i32_49 : BitVec 32 := 1#32
  let arg12 : BitVec 32 := Scf.iv c0_i32_47 c1_i32_49 k0_t1
  let c128_i32_51 : BitVec 32 := 128#32
  let v151 : BitVec 32 := Scalar.muli arg12 c128_i32_51
  let v152 : BitVec 32 := v151
  let v175 : BitVec 32 := Scalar.addi v152 c0_i32_64
  let v458 : Index := Scalar.indexCast v175
  let c0_90 : Index := 0#32
  ![0, v458.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S16x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Kernel5Ideal.lean ====
variable {F : FTy → Type} [FloatOps F] [Named F]
def κ : String → Option EReal := fun
  | "log2_e" => some (((Real.log 2)⁻¹ : ℝ) : EReal)
  | _ => none
-- ==== Reference5Ideal.lean ====
abbrev S8x8192x256 : Shape := ⟨3, ![8, 8192, 256]⟩
abbrev S8x8192x512 : Shape := ⟨3, ![8, 8192, 512]⟩
abbrev S8x8192x128 : Shape := ⟨3, ![8, 8192, 128]⟩
abbrev S1x16x256 : Shape := ⟨3, ![1, 16, 256]⟩
abbrev S1x256 : Shape := ⟨2, ![1, 256]⟩
abbrev S8x8192x16 : Shape := ⟨3, ![8, 8192, 16]⟩
abbrev S16x256 : Shape := ⟨2, ![16, 256]⟩
abbrev S256 : Shape := ⟨1, ![256]⟩
abbrev S1x1x256 : Shape := ⟨3, ![1, 1, 256]⟩
abbrev S_ : Shape := ⟨0, ![]⟩
abbrev S8192x8192 : Shape := ⟨2, ![8192, 8192]⟩
abbrev S8x256x8192 : Shape := ⟨3, ![8, 256, 8192]⟩
abbrev S8x8192x4x64 : Shape := ⟨4, ![8, 8192, 4, 64]⟩
abbrev S8x8192x4x128 : Shape := ⟨4, ![8, 8192, 4, 128]⟩
abbrev S8x8192x1x4x64 : Shape := ⟨5, ![8, 8192, 1, 4, 64]⟩
abbrev S8x1x8192x4x64 : Shape := ⟨5, ![8, 1, 8192, 4, 64]⟩
abbrev S8x8192x8192x4x64 : Shape := ⟨5, ![8, 8192, 8192, 4, 64]⟩
abbrev S1x8192x8192x1x1 : Shape := ⟨5, ![1, 8192, 8192, 1, 1]⟩
abbrev S8x8192x8192x4 : Shape := ⟨4, ![8, 8192, 8192, 4]⟩
abbrev S8x8192x8192x4x1 : Shape := ⟨5, ![8, 8192, 8192, 4, 1]⟩
abbrev S8x1x8192x4x128 : Shape := ⟨5, ![8, 1, 8192, 4, 128]⟩
abbrev S8x8192x8192x4x128 : Shape := ⟨5, ![8, 8192, 8192, 4, 128]⟩

abbrev nBuf : Space → Nat
  | .hbm => 81
  | .vmem => 0
  | .smem => 0
  | _ => 0

abbrev bufTy : (tb : Table) → Fin (tcTables nBuf tb) → BufTy
  | .hbm, ⟨0, _⟩ => ⟨S8x8192x256, .f32⟩
  | .hbm, ⟨1, _⟩ => ⟨S8x8192x256, .f32⟩
  | .hbm, ⟨2, _⟩ => ⟨S8x8192x512, .f32⟩
  | .hbm, ⟨3, _⟩ => ⟨S8x8192x128, .f32⟩
  | .hbm, ⟨4, _⟩ => ⟨S1x16x256, .f32⟩
  | .hbm, ⟨5, _⟩ => ⟨S1x256, .f32⟩
  | .hbm, ⟨6, _⟩ => ⟨S8x8192x16, .f32⟩
  | .hbm, ⟨7, _⟩ => ⟨S16x256, .f32⟩
  | .hbm, ⟨8, _⟩ => ⟨S8x8192x256, .f32⟩
  | .hbm, ⟨9, _⟩ => ⟨S256, .f32⟩
  | .hbm, ⟨10, _⟩ => ⟨S1x1x256, .f32⟩
  | .hbm, ⟨11, _⟩ => ⟨S8x8192x256, .f32⟩
  | .hbm, ⟨12, _⟩ => ⟨S8x8192x256, .f32⟩
  | .hbm, ⟨13, _⟩ => ⟨S8x8192x256, .f32⟩
  | .hbm, ⟨14, _⟩ => ⟨S_, .f32⟩
  | .hbm, ⟨15, _⟩ => ⟨S8x8192x256, .f32⟩
  | .hbm, ⟨16, _⟩ => ⟨S8x8192x256, .f32⟩
  | .hbm, ⟨17, _⟩ => ⟨S8x8192x256, .f32⟩
  | .hbm, ⟨18, _⟩ => ⟨S8x8192x256, .f32⟩
  | .hbm, ⟨19, _⟩ => ⟨S8x8192x256, .i1⟩
  | .hbm, ⟨20, _⟩ => ⟨S8x8192x256, .f32⟩
  | .hbm, ⟨21, _⟩ => ⟨S8x8192x256, .f32⟩
  | .hbm, ⟨22, _⟩ => ⟨S8x8192x256, .f32⟩
  | .hbm, ⟨23, _⟩ => ⟨S8x8192x256, .f32⟩
  | .hbm, ⟨24, _⟩ => ⟨S8x8192x256, .f32⟩
  | .hbm, ⟨25, _⟩ => ⟨S8x8192x256, .f32⟩
  | .hbm, ⟨26, _⟩ => ⟨S8x8192x256, .f32⟩
  | .hbm, ⟨27, _⟩ => ⟨S8x8192x256, .f32⟩
  | .hbm, ⟨28, _⟩ => ⟨S8x8192x256, .f32⟩
  | .hbm, ⟨29, _⟩ => ⟨S_, .f32⟩
  | .hbm, ⟨30, _⟩ => ⟨S8x8192x256, .f32⟩
  | .hbm, ⟨31, _⟩ => ⟨S8x8192x256, .f32⟩
  | .hbm, ⟨32, _⟩ => ⟨S_, .i1⟩
  | .hbm, ⟨33, _⟩ => ⟨S8192x8192, .i1⟩
  | .hbm, ⟨34, _⟩ => ⟨S8192x8192, .i32⟩
  | .hbm, ⟨35, _⟩ => ⟨S_, .i32⟩
  | .hbm, ⟨36, _⟩ => ⟨S8192x8192, .i32⟩
  | .hbm, ⟨37, _⟩ => ⟨S8192x8192, .i32⟩
  | .hbm, ⟨38, _⟩ => ⟨S8192x8192, .i32⟩
  | .hbm, ⟨39, _⟩ => ⟨S8192x8192, .i1⟩
  | .hbm, ⟨40, _⟩ => ⟨S_, .i1⟩
  | .hbm, ⟨41, _⟩ => ⟨S8192x8192, .i1⟩
  | .hbm, ⟨42, _⟩ => ⟨S8192x8192, .i1⟩
  | .hbm, ⟨43, _⟩ => ⟨S8192x8192, .f32⟩
  | .hbm, ⟨44, _⟩ => ⟨S8x256x8192, .f32⟩
  | .hbm, ⟨45, _⟩ => ⟨S8x8192x256, .f32⟩
  | .hbm, ⟨46, _⟩ => ⟨S8x8192x4x64, .f32⟩
  | .hbm, ⟨47, _⟩ => ⟨S_, .f32⟩
  | .hbm, ⟨48, _⟩ => ⟨S8x8192x4x64, .f32⟩
  | .hbm, ⟨49, _⟩ => ⟨S8x8192x4x64, .f32⟩
  | .hbm, ⟨50, _⟩ => ⟨S8x8192x4x64, .f32⟩
  | .hbm, ⟨51, _⟩ => ⟨S8x8192x4x128, .f32⟩
  | .hbm, ⟨52, _⟩ => ⟨S8x8192x4x64, .f32⟩
  | .hbm, ⟨53, _⟩ => ⟨S8x8192x1x4x64, .f32⟩
  | .hbm, ⟨54, _⟩ => ⟨S8x1x8192x4x64, .f32⟩
  | .hbm, ⟨55, _⟩ => ⟨S8x8192x8192x4x64, .f32⟩
  | .hbm, ⟨56, _⟩ => ⟨S8x8192x8192x4x64, .f32⟩
  | .hbm, ⟨57, _⟩ => ⟨S8x8192x8192x4x64, .f32⟩
  | .hbm, ⟨58, _⟩ => ⟨S1x8192x8192x1x1, .i1⟩
  | .hbm, ⟨59, _⟩ => ⟨S_, .f32⟩
  | .hbm, ⟨60, _⟩ => ⟨S_, .f32⟩
  | .hbm, ⟨61, _⟩ => ⟨S8x8192x8192x4x64, .i1⟩
  | .hbm, ⟨62, _⟩ => ⟨S8x8192x8192x4x64, .f32⟩
  | .hbm, ⟨63, _⟩ => ⟨S8x8192x8192x4x64, .f32⟩
  | .hbm, ⟨64, _⟩ => ⟨S8x8192x8192x4x64, .f32⟩
  | .hbm, ⟨65, _⟩ => ⟨S8x8192x1x4x64, .f32⟩
  | .hbm, ⟨66, _⟩ => ⟨S8x1x8192x4x64, .f32⟩
  | .hbm, ⟨67, _⟩ => ⟨S8x8192x8192x4x64, .f32⟩
  | .hbm, ⟨68, _⟩ => ⟨S8x8192x8192x4x64, .f32⟩
  | .hbm, ⟨69, _⟩ => ⟨S8x8192x8192x4x64, .f32⟩
  | .hbm, ⟨70, _⟩ => ⟨S8x8192x8192x4x64, .f32⟩
  | .hbm, ⟨71, _⟩ => ⟨S_, .f32⟩
  | .hbm, ⟨72, _⟩ => ⟨S8x8192x8192x4, .f32⟩
  | .hbm, ⟨73, _⟩ => ⟨S8x8192x8192x4x1, .f32⟩
  | .hbm, ⟨74, _⟩ => ⟨S8x1x8192x4x128, .f32⟩
  | .hbm, ⟨75, _⟩ => ⟨S8x8192x8192x4x128, .f32⟩
  | .hbm, ⟨76, _⟩ => ⟨S8x8192x8192x4x128, .f32⟩
  | .hbm, ⟨77, _⟩ => ⟨S8x8192x8192x4x128, .f32⟩
  | .hbm, ⟨78, _⟩ => ⟨S_, .f32⟩
  | .hbm, ⟨79, _⟩ => ⟨S8x8192x4x128, .f32⟩
  | .hbm, ⟨80, _⟩ => ⟨S8x8192x512, .f32⟩
  | _, _ => ⟨S8x8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_call0_v0 : Ref sig .tc := ⟨.hbm, 13, rfl⟩
abbrev main_call0_call0_cst : Ref sig .tc := ⟨.hbm, 14, rfl⟩
abbrev main_call0_call0_v0 : Ref sig .tc := ⟨.hbm, 15, rfl⟩
abbrev main_call0_call0_v1 : Ref sig .tc := ⟨.hbm, 16, rfl⟩
abbrev main_call0_call0_v2 : Ref sig .tc := ⟨.hbm, 17, rfl⟩
abbrev main_call0_call0_v3 : Ref sig .tc := ⟨.hbm, 18, rfl⟩
abbrev main_call0_call0_v4 : Ref sig .tc := ⟨.hbm, 19, rfl⟩
abbrev main_call0_call0_v5 : Ref sig .tc := ⟨.hbm, 20, rfl⟩
abbrev main_call0_call0_v6 : Ref sig .tc := ⟨.hbm, 21, rfl⟩
abbrev main_call0_call0_v7 : Ref sig .tc := ⟨.hbm, 22, rfl⟩
abbrev main_call0_call0_v8 : Ref sig .tc := ⟨.hbm, 23, rfl⟩
abbrev main_call0_call0_v9 : Ref sig .tc := ⟨.hbm, 24, rfl⟩
abbrev main_call0_call0_v10 : Ref sig .tc := ⟨.hbm, 25, rfl⟩
abbrev main_call0_call0_v11 : Ref sig .tc := ⟨.hbm, 26, rfl⟩
abbrev main_call0_v1 : Ref sig .tc := ⟨.hbm, 27, rfl⟩
abbrev main_v7 : Ref sig .tc := ⟨.hbm, 28, rfl⟩
abbrev main_cst : Ref sig .tc := ⟨.hbm, 29, rfl⟩
abbrev main_v8 : Ref sig .tc := ⟨.hbm, 30, rfl⟩
abbrev main_v9 : Ref sig .tc := ⟨.hbm, 31, rfl⟩
abbrev main_c : Ref sig .tc := ⟨.hbm, 32, rfl⟩
abbrev main_v10 : Ref sig .tc := ⟨.hbm, 33, rfl⟩
abbrev main_call1_v0 : Ref sig .tc := ⟨.hbm, 34, rfl⟩
abbrev main_call1_c : Ref sig .tc := ⟨.hbm, 35, rfl⟩
abbrev main_call1_v1 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_c_0 : Ref sig .tc := ⟨.hbm, 40, rfl⟩
abbrev main_call1_v5 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_cst_0 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_cst_1 : Ref sig .tc := ⟨.hbm, 59, rfl⟩
abbrev main_call2_v0 : Ref sig .tc := ⟨.hbm, 60, rfl⟩
abbrev main_call2_v1 : Ref sig .tc := ⟨.hbm, 61, rfl⟩
abbrev main_call2_v2 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_cst_2 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_cst_3 : Ref sig .tc := ⟨.hbm, 78, rfl⟩
abbrev main_v41 : Ref sig .tc := ⟨.hbm, 79, rfl⟩
abbrev main_v42 : Ref sig .tc := ⟨.hbm, 80, rfl⟩

abbrev nD : Nat := 1
abbrev τ : Topo := Topo.v7x

variable {F : FTy → Type} [FloatOps F]
-- ==== Proof.Keep.lean ====
/- A program that only loads from and stores to buffers it owns keeps an assertion about them. -/
module

public import proofs.«01_k».proof.Proof.Gen.Kernel.Frame

@[expose] public section

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Kernel.Gen

variable {F : FTy → Type} [BitOps F]

local notation "𝕄" => MT nD τ sig Unit (Elt F) ℕ (UR sig nD τ) ℕ

/-- The program, run from `S`, ends in `S`. -/
def Keep (c : Dev nD) (S : sProp 𝕄) {α : Type} (p : Prog (TpuEff nD τ sig (Elt F) Λ₀ .tc) α) : Prop :=
  S ⊢ wp frame (wpE (defs₀ (F := F)) Variants.none (c : Thread nD τ) none) Set.univ p (fun _ => S)

/-- `S` lends the whole of `M` for reading. -/
def Lends (c : Dev nD) (S : sProp 𝕄) {cs : CoreSpace} {s : Shape} {e : EltTy} (M : Memref sig .tc cs s e) : Prop :=
  S ⊢ iprop(∃ f, (M.view.loc (c : Thread nD τ) ↦{fullShare} f) ∗ ((M.view.loc (c : Thread nD τ) ↦{fullShare} f) -∗ S))

/-- `S` lends the whole of `M`, whatever it holds when it is given back. -/
def Gives (c : Dev nD) (S : sProp 𝕄) {cs : CoreSpace} {s : Shape} {e : EltTy} (M : Memref sig .tc cs s e) : Prop :=
  S ⊢ iprop(∃ f, (M.view.loc (c : Thread nD τ) ↦{fullShare} f) ∗ (∀ g, (M.view.loc (c : Thread nD τ) ↦{fullShare} g) -∗ S))

theorem Gives.lends {c : Dev nD} {S : sProp 𝕄} {cs : CoreSpace} {s : Shape} {e : EltTy} {M : Memref sig .tc cs s e}
    (h : Gives c S M) : Lends c S M := by
  refine BIBase.Entails.trans h ?_
  iintro ⟨%f, H, K⟩
  iexists f
  isplitl [H]; · iexact H
  iapply K

theorem keep_ret {c : Dev nD} {S : sProp 𝕄} {α : Type} (a : α) : Keep c S (.ret a) := le_wp_ret _ _ _ a fun _ => S

theorem keep_pure {c : Dev nD} {S : sProp 𝕄} {α : Type} (a : α) : Keep c S (pure a) := keep_ret a

theorem keep_bind {c : Dev nD} {S : sProp 𝕄} {α β : Type} {p : Prog (TpuEff nD τ sig (Elt F) Λ₀ .tc) α} {k : α → Prog (TpuEff nD τ sig (Elt F) Λ₀ .tc) β}
    (hp : Keep c S p) (hk : ∀ a, Keep c S (k a)) : Keep c S (p >>= k) := by
  unfold Keep
  rw [wp_bind]
  exact BIBase.Entails.trans hp (wp_mono _ _ _ fun a => hk a)

theorem keep_load {c : Dev nD} {S : sProp 𝕄} {cs : CoreSpace} {s : Shape} {e : EltTy} {M : Memref sig .tc cs s e}
    (h : Lends c S M) (r : LoadRect s) (hl : M.view.LoadsAt r) : Keep c S (Prog.lift (.load M r hl)) := by
  refine BIBase.Entails.trans h ?_
  iintro ⟨%f, H, K⟩
  iapply (wp_load Variants.none (c : Thread nD τ) none Set.univ (Finset.subset_univ _)) $$ H
  iintro H
  iapply (le_wp_ret _ _ _ _ _)
  iapply K $$ H

theorem keep_store {c : Dev nD} {S : sProp 𝕄} {cs : CoreSpace} {s : Shape} {e : EltTy} {M : Memref sig .tc cs s e}
    (h : Gives c S M) (r : Rect s) (w : r.shape.Idx → Elt F e) (Mk : Finset r.shape.Idx)
    (hx : (M.access r).Stores Mk) (hm : Mk = Finset.univ ∨ ∀ a, r.stride a = 1) : Keep c S (Prog.lift (.store M r w Mk hx hm)) := by
  refine BIBase.Entails.trans h ?_
  iintro ⟨%f, H, K⟩
  iapply (wp_store (m := M) (r := r) (f := f) Variants.none (c : Thread nD τ) none Set.univ (Finset.subset_univ _)) $$ H
  iintro H
  iapply (le_wp_ret _ _ _ _ _)
  iapply K $$ H

theorem keep_for {c : Dev nD} {S : sProp 𝕄} {n : ℕ} {σ : Type} (l : Scf.Loop n) (hok : l.OK) (init : σ)
    (body : Fin l.trips → σ → Prog (TpuEff nD τ sig (Elt F) Λ₀ .tc) σ) (hb : ∀ k a, Keep c S (body k a)) :
    Keep c S (Scf.Loop.for l hok init body) := by
  unfold Keep
  have := Scf.wp_for frame (wpE (defs₀ (F := F)) Variants.none (c : Thread nD τ) none) Set.univ l.lb l.ub l.st hok init body
    (fun _ _ => S) (fun k a => hb k a) (Q := fun _ => S)
  refine BIBase.Entails.trans ?_ this
  iintro H
  isplitl [H]; · iexact H
  iintro %a H
  iexact H

theorem keep_dite {c : Dev nD} {S : sProp 𝕄} {α : Type} {P : Prop} [Decidable P] {p : P → Prog (TpuEff nD τ sig (Elt F) Λ₀ .tc) α}
    {q : ¬ P → Prog (TpuEff nD τ sig (Elt F) Λ₀ .tc) α} (hp : ∀ h, Keep c S (p h)) (hq : ∀ h, Keep c S (q h)) :
    Keep c S (dite P p q) := by
  split
  · exact hp _
  · exact hq _

theorem keep_ite {c : Dev nD} {S : sProp 𝕄} {α : Type} {P : Prop} [Decidable P] {p q : Prog (TpuEff nD τ sig (Elt F) Λ₀ .tc) α}
    (hp : Keep c S p) (hq : Keep c S q) : Keep c S (ite P p q) := by
  split
  · exact hp
  · exact hq

end Cert.Kernel.Hand

end
-- ==== Proof.KeepBody.lean ====
/- The kernel's body keeps the buffers it runs on. -/
module

public import proofs.«01_k».proof.Proof.Keep

@[expose] public section

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Kernel.Gen

variable {F : FTy → Type} [BitOps F]

local notation "𝕄" => MT nD τ sig Unit (Elt F) ℕ (UR sig nD τ) ℕ

set_option maxHeartbeats 0 in
/-- Every statement of the kernel's body keeps what lends the inputs and gives the output and the scratch. -/
theorem keep_body {c : Dev nD} {S : sProp 𝕄} (i : grid0.Coords) (arg2 : Memref sig .tc .vmem S1x512x256 .bf16) (harg2 : arg2.IsWhole) (arg3 : Memref sig .tc .vmem S1x128x256 .f32) (harg3 : arg3.IsWhole) (arg4 : Memref sig .tc .vmem S1x512x256 .bf16) (harg4 : arg4.IsWhole) (arg5 : Memref sig .tc .vmem S1x8192x64 .bf16) (harg5 : arg5.IsWhole) (arg6 : Memref sig .tc .vmem S1x8192x512 .bf16) (harg6 : arg6.IsWhole) (arg7 : Memref sig .tc .vmem S1x512x8192 .bf16) (harg7 : arg7.IsWhole) (arg8 : Memref sig .tc .vmem S1x512x256 .f32) (harg8 : arg8.IsWhole) (arg9 : Memref sig .tc .vmem S16x512x256 .i32) (harg9 : arg9.IsWhole) (arg10 : Memref sig .tc .vmem S32x32x8x256 .i32) (harg10 : arg10.IsWhole) (arg11 : Memref sig .tc .vmem S32x8x256 .i32) (harg11 : arg11.IsWhole) (arg12 : Memref sig .tc .vmem S8x256x256 .f32) (harg12 : arg12.IsWhole) (arg13 : Memref sig .tc .vmem S8x256x256 .f32) (harg13 : arg13.IsWhole) (arg14 : Memref sig .tc .vmem S4x512x256 .f32) (harg14 : arg14.IsWhole) (arg15 : Memref sig .tc .vmem S4x512x256 .f32) (harg15 : arg15.IsWhole) (arg16 : Memref sig .tc .vmem S4x1x256 .f32) (harg16 : arg16.IsWhole) (arg17 : Memref sig .tc .vmem S4x1x256 .f32) (harg17 : arg17.IsWhole) (arg18 : Memref sig .tc .vmem S4x1x256 .f32) (harg18 : arg18.IsWhole) (arg19 : Memref sig .tc .vmem S4x144x256 .f32) (harg19 : arg19.IsWhole)
    (h2 : Lends c S arg2) (h3 : Lends c S arg3) (h4 : Lends c S arg4) (h5 : Lends c S arg5) (h6 : Lends c S arg6) (h7 : Lends c S arg7) (h8 : Gives c S arg8) (h9 : Gives c S arg9) (h10 : Gives c S arg10) (h11 : Gives c S arg11) (h12 : Gives c S arg12) (h13 : Gives c S arg13) (h14 : Gives c S arg14) (h15 : Gives c S arg15) (h16 : Gives c S arg16) (h17 : Gives c S arg17) (h18 : Gives c S arg18) (h19 : Gives c S arg19) :
    Keep c S (cc0__dsa_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) := by
  repeat' first
    | with_reducible refine keep_bind ?_ fun _ => ?_
    | with_reducible exact keep_pure _
    | with_reducible refine keep_load ?_ _ _
    | with_reducible refine keep_store ?_ _ _ _ _ _
    | with_reducible refine keep_for _ _ _ _ fun _ _ => ?_
    | with_reducible refine keep_dite (fun _ => ?_) fun _ => ?_
    | with_reducible refine keep_ite ?_ ?_
    | assumption
    | (apply Gives.lends; assumption)
    | unfold k0_part243
    | refine keep_bind ?_ fun _ => ?_
    | exact keep_ret _

end Cert.Kernel.Hand

end
-- ==== Proof.Run.lean ====
/- The frame of the kernel: its body keeps the buffers it runs on at every point of the grid, and so does the launch. -/
module

public import proofs.«01_k».proof.Proof.KeepBody

@[expose] public section

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [BitOps F]

local notation "𝕄" => MT nD τ sig Unit (Elt F) ℕ (UR sig nD τ) ℕ

theorem Lends.left {c : Dev nD} {A B : sProp 𝕄} {cs : CoreSpace} {s : Shape} {e : EltTy} {M : Memref sig .tc cs s e}
    (h : Lends c A M) : Lends c iprop(A ∗ B) M := by
  unfold Lends at *
  iintro ⟨HA, HB⟩
  ihave H := h $$ HA
  icases H with ⟨%f, H, K⟩
  iexists f
  isplitl [H]; · iexact H
  iintro H
  isplitl [H K]; · iapply K $$ H
  iexact HB

theorem Lends.right {c : Dev nD} {A B : sProp 𝕄} {cs : CoreSpace} {s : Shape} {e : EltTy} {M : Memref sig .tc cs s e}
    (h : Lends c B M) : Lends c iprop(A ∗ B) M := by
  unfold Lends at *
  iintro ⟨HA, HB⟩
  ihave H := h $$ HB
  icases H with ⟨%f, H, K⟩
  iexists f
  isplitl [H]; · iexact H
  iintro H
  isplitl [HA]; · iexact HA
  iapply K $$ H

theorem Gives.left {c : Dev nD} {A B : sProp 𝕄} {cs : CoreSpace} {s : Shape} {e : EltTy} {M : Memref sig .tc cs s e}
    (h : Gives c A M) : Gives c iprop(A ∗ B) M := by
  unfold Gives at *
  iintro ⟨HA, HB⟩
  ihave H := h $$ HA
  icases H with ⟨%f, H, K⟩
  iexists f
  isplitl [H]; · iexact H
  iintro %g H
  isplitl [H K]; · iapply K $$ H
  iexact HB

theorem Gives.right {c : Dev nD} {A B : sProp 𝕄} {cs : CoreSpace} {s : Shape} {e : EltTy} {M : Memref sig .tc cs s e}
    (h : Gives c B M) : Gives c iprop(A ∗ B) M := by
  unfold Gives at *
  iintro ⟨HA, HB⟩
  ihave H := h $$ HB
  icases H with ⟨%f, H, K⟩
  iexists f
  isplitl [H]; · iexact H
  iintro %g H
  isplitl [HA]; · iexact HA
  iapply K $$ H

/-- A whole buffer held at known contents is lent. -/
theorem lends_owns {c : Dev nD} {cs : CoreSpace} {s : Shape} {e : EltTy} {M : Memref sig .tc cs s e} (hM : M.IsWhole)
    (X : s.Idx → Elt F e) : Lends c (owns (c : Thread nD τ) M fullShare X : sProp 𝕄) M := by
  unfold Lends owns
  rw [hM.set_eq_univ]
  iintro ⟨%f, %hf, H⟩
  iexists f
  isplitl [H]; · iexact H
  iintro H
  iexists f
  isplitr; · ipureintro; exact hf
  iexact H

/-- A whole buffer held at some contents is given. -/
theorem gives_owns {c : Dev nD} {cs : CoreSpace} {s : Shape} {e : EltTy} {M : Memref sig .tc cs s e} (hM : M.IsWhole) :
    Gives c (iprop(∃ X, owns (c : Thread nD τ) M fullShare X) : sProp 𝕄) M := by
  unfold Gives owns
  rw [hM.set_eq_univ]
  iintro ⟨%X, %f, -, H⟩
  iexists f
  isplitl [H]; · iexact H
  iintro %g H
  iexists _, g
  isplitr; swap; · iexact H
  ipureintro; rfl

/-- A scratch buffer held at some contents is given. -/
theorem gives_whole {c : Dev nD} {cs : CoreSpace} {s : Shape} {e : EltTy} {M : Memref sig .tc cs s e} :
    Gives c (iprop(∃ f, M.view.loc (c : Thread nD τ) ↦{fullShare} f) : sProp 𝕄) M := by
  unfold Gives
  iintro ⟨%f, H⟩
  iexists f
  isplitl [H]; · iexact H
  iintro %g H
  iexists g
  iexact H

variable (m : (ℓ : Loc nD τ sig) → Buf (Elt F) ℓ) (ρ : Dev nD → PrngReg)

/-- The output's window is the one forgotten: nothing here reads what the kernel leaves in it. -/
def forgets0 : Fin 7 → Bool := fun w => w == 6

/-- The proof data: the arrays as the region finds them; the inputs left in place; nothing owed. -/
def dats (_ : Fin 1) (c : Dev nD) : Dat τ (Elt F) Unit ℕ (UR sig nD τ) ℕ cfg0 c where
  A w := V m c (Pipeline.arrRef spec0 w)
  after
    | 0, t => iblk m c 0 t
    | 1, t => iblk m c 1 t
    | 2, t => iblk m c 2 t
    | 3, t => iblk m c 3 t
    | 4, t => iblk m c 4 t
    | 5, t => iblk m c 5 t
    | w, t => Pipeline.Dat.unnamed (cfg := cfg0) w t
  Φ _ := Pipeline.ΦA spec0 c
  q _ := fullShare
  owed _ := 0

theorem A_eq (c : Dev nD) (w : Fin cfg0.W) : (dats m 0 c).A w = V m c (Pipeline.arrRef spec0 w) := by dsimp only [dats]

/-- What the point's body is called with: the staged inputs at their blocks, the output at anything. -/
def wins (c : Dev nD) (t : Fin cfg0.N) : sProp 𝕄 :=
  iprop(owns (c : Thread nD τ) (st0_0 t) fullShare (iblk m c 0 t)
    ∗ owns (c : Thread nD τ) (st0_1 t) fullShare (iblk m c 1 t)
    ∗ owns (c : Thread nD τ) (st0_2 t) fullShare (iblk m c 2 t)
    ∗ owns (c : Thread nD τ) (st0_3 t) fullShare (iblk m c 3 t)
    ∗ owns (c : Thread nD τ) (st0_4 t) fullShare (iblk m c 4 t)
    ∗ owns (c : Thread nD τ) (st0_5 t) fullShare (iblk m c 5 t)
    ∗ (∃ X, owns (c : Thread nD τ) (st0_6 t) fullShare X))

theorem keep_point (c : Dev nD) (t : Fin cfg0.N) :
    Keep c (iprop(wins m c t ∗ Pipeline.scopedRest (Ix := Unit) (Name := ℕ) (U := UR sig nD τ) (Lvl := ℕ) (Val := Elt F) spec0 c) : sProp 𝕄)
      (bodyAt0 t) := by
  rw [scopedRest0_eq]
  unfold wins bodyAt0
  apply keep_body
  · exact (lends_owns (hstage0_0 _) _).left.left
  · exact (lends_owns (hstage0_1 _) _).left.right.left
  · exact (lends_owns (hstage0_2 _) _).left.right.right.left
  · exact (lends_owns (hstage0_3 _) _).left.right.right.right.left
  · exact (lends_owns (hstage0_4 _) _).left.right.right.right.right.left
  · exact (lends_owns (hstage0_5 _) _).left.right.right.right.right.right.left
  · exact (gives_owns (hstage0_6 _)).right.right.right.right.right.right.left
  · exact (gives_whole (M := Memref.whole cc0_scratch0)).left.right
  · exact (gives_whole (M := Memref.whole cc0_scratch1)).left.right.right
  · exact (gives_whole (M := Memref.whole cc0_scratch2)).left.right.right.right
  · exact (gives_whole (M := Memref.whole cc0_scratch3)).left.right.right.right.right
  · exact (gives_whole (M := Memref.whole cc0_scratch4)).left.right.right.right.right.right
  · exact (gives_whole (M := Memref.whole cc0_scratch5)).left.right.right.right.right.right.right
  · exact (gives_whole (M := Memref.whole cc0_scratch6)).left.right.right.right.right.right.right.right
  · exact (gives_whole (M := Memref.whole cc0_scratch7)).left.right.right.right.right.right.right.right.right
  · exact (gives_whole (M := Memref.whole cc0_scratch8)).left.right.right.right.right.right.right.right.right.right
  · exact (gives_whole (M := Memref.whole cc0_scratch9)).left.right.right.right.right.right.right.right.right.right.right
  · exact (gives_whole (M := Memref.whole cc0_scratch10)).right.right.right.right.right.right.right.right.right.right.right

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ X, owns (c : Thread nD τ) (st0_6 t) fullShare X))
def bodyPost (c : Dev nD) (t : Fin cfg0.N) : sProp 𝕄 :=
  iprop((dats m 0 c).Φ t.succ ∗ (dats m 0 c).owesAt () t.succ ∗ wins m c t)

theorem sound_body (c : Dev nD) (t : Fin cfg0.N) :
    bodyPre m c t ⊢ wp frame (wpE (defs₀ (F := F)) Variants.none c none) Set.univ (bodyAt0 t) (fun _ => bodyPost m c t) := by
  unfold bodyPre bodyPost
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl]
  unfold Pipeline.ΦA
  iintro ⟨⟨HS, Hg⟩, HO, ⟨%d0, H0⟩, ⟨%d1, H1⟩, ⟨%d2, H2⟩, ⟨%d3, H3⟩, ⟨%d4, H4⟩, ⟨%d5, H5⟩, H6⟩
  rw [before0_0_of m (dats m 0 c) rfl (fun _ => rfl) t d0, before0_1_of m (dats m 0 c) rfl (fun _ => rfl) t d1,
    before0_2_of m (dats m 0 c) rfl (fun _ => rfl) t d2, before0_3_of m (dats m 0 c) rfl (fun _ => rfl) t d3,
    before0_4_of m (dats m 0 c) rfl (fun _ => rfl) t d4, before0_5_of m (dats m 0 c) rfl (fun _ => rfl) t d5]
  have hk := keep_point m c t
  unfold Keep at hk
  iapply (wp_wand_r _ _ _ (Q := fun _ => iprop(wins m c t ∗ Pipeline.scopedRest spec0 c)))
  isplitl [HS H0 H1 H2 H3 H4 H5 H6]
  · iapply hk
    isplitr [HS]; swap; · iexact HS
    unfold wins
    isplitl [H0]; · iexact H0
    isplitl [H1]; · iexact H1
    isplitl [H2]; · iexact H2
    isplitl [H3]; · iexact H3
    isplitl [H4]; · iexact H4
    isplitl [H5]; · iexact H5
    iexact H6
  iintro %a ⟨HW, HS⟩
  isplitl [HS Hg]
  · isplitl [HS]; · iexact HS
    iexact Hg
  isplitl [HO]; · iexact HO
  iexact HW

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
/-- Every execution of the kernel ends with every input array as launched and every semaphore counter at zero. -/
theorem quiescent :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)
    (hQ' := fun _ h => ⟨fun c => ⟨h.1.arr_in c 2 rfl, h.1.arr_in c 4 rfl, h.1.arr_in c 5 rfl, h.1.arr_in c 0 rfl,
      h.1.arr_in c 3 rfl, h.1.arr_in c 1 rfl⟩, h.2⟩)

end Cert.Kernel.Hand

end
-- ==== Proof.RowSpec.lean ====
/- The mixing and feed-forward half of the layer for ONE token, over the extended reals: what the kernel computes for a
   row of a tile and what the plain reference computes for a row of the batch are both `out` of that row's data. -/
module

public import Idealize.ShloMosaic.PureOps.Ideal
public import Idealize.ShloMosaic.PureOps.Ideal.Laws
public import Idealize.ShloMosaic.Lib.Pointwise

@[expose] public section

noncomputable section

namespace Cert.Row

open Idealize.ShloMosaic

/-- The constant under the square root, 1e-6 as its f32 word. -/
abbrev eps : EReal := Ideal.ofBits .f32 0x358637BD#32

/-- Root-mean-square normalisation of one row `x` with `n` its length, scaled by `g`. -/
def rms {N : ℕ} (n : EReal) (x g : Fin N → EReal) (k : Fin N) : EReal :=
  x k * Ideal.rsqrt (Ideal.div (∑ j, x j * x j) n + eps) * g k

/-- The swish gate `x · sigmoid x`. -/
def silu (x : EReal) : EReal := x * Ideal.logistic x

/-- Length of a row, as the words both programs divide by. -/
abbrev n128 : EReal := Ideal.ofBits .f32 0x43000000#32
abbrev n512 : EReal := Ideal.ofBits .f32 0x44000000#32
abbrev n1024 : EReal := Ideal.ofBits .f32 0x44800000#32

/-- The gated linear-attention row: each head of 128 lanes normalised on its own, then gated. -/
def gated (gl go : Fin 512 → EReal) (g : Fin 128 → EReal) (k : Fin 512) : EReal :=
  rms n128 (fun j : Fin 128 => gl ⟨128 * (k / 128) + j, by omega⟩) g ⟨k % 128, by omega⟩ * silu (go k)

/-- The residual stream after the two attentions are mixed in. -/
def mix (x g1 : Fin 1024 → EReal) (a ag gl go : Fin 512 → EReal) (gg : Fin 128 → EReal)
    (wo : Fin 1024 → Fin 1024 → EReal) (n : Fin 1024) : EReal :=
  x n + g1 n * ((∑ k : Fin 512, rms n512 a ag k * wo ⟨k, by omega⟩ n)
    + ∑ k : Fin 512, gated gl go gg k * wo ⟨512 + k, by omega⟩ n)

/-- The modulated, normalised stream that the feed-forward part reads. -/
def modulated (y ng sc sh : Fin 1024 → EReal) (n : Fin 1024) : EReal :=
  rms n1024 y ng n * (1 + sc n) + sh n

/-- The gate and up projections, side by side. -/
def gateUp (h : Fin 1024 → EReal) (w : Fin 1024 → Fin 5632 → EReal) (n : Fin 5632) : EReal := ∑ k, h k * w k n

/-- The gated hidden row. -/
def gatedHidden (u : Fin 5632 → EReal) (k : Fin 2816) : EReal := silu (u ⟨k, by omega⟩) * u ⟨2816 + k, by omega⟩

/-- The residual stream after the feed-forward part. -/
def ffn (y g2 : Fin 1024 → EReal) (e : Fin 2816 → EReal) (w : Fin 2816 → Fin 1024 → EReal) (n : Fin 1024) : EReal :=
  y n + g2 n * ∑ k, e k * w k n

/-- The whole row. -/
def out (x g1 sh sc g2 : Fin 1024 → EReal) (a ag gl go : Fin 512 → EReal) (gg : Fin 128 → EReal)
    (ng fg : Fin 1024 → EReal) (wo : Fin 1024 → Fin 1024 → EReal) (wgu : Fin 1024 → Fin 5632 → EReal)
    (wd : Fin 2816 → Fin 1024 → EReal) (n : Fin 1024) : EReal :=
  let y := mix x g1 a ag gl go gg wo
  rms n1024 (ffn y g2 (gatedHidden (gateUp (modulated y ng sc sh) wgu)) wd) fg n

end Cert.Row

end
-- ==== Proof.KernelRows.lean ====
/- The mixing and feed-forward kernel's body, operation group by operation group, at an index: each half of a tile of rows is
   `half` of the half's loads, and row `r` of `half` is the row function `Cert.Row.out` of the row's data. -/
module

public import proofs.«01_k».proof.Proof.Gen.Kernel2Ideal.Value
public import proofs.«01_k».proof.Proof.RowSpec

@[expose] public section

set_option maxRecDepth 16384

noncomputable section

namespace Cert.Kernel2Ideal.Rows

open Cert.Kernel2Ideal Cert.Kernel2Ideal.Gen Idealize.ShloMosaic Idealize.ShloMosaic.TcCoe Cert.Row

theorem pay1_apply (v0 : Vec Ideal S1x512x256 .f32) (v3 : Vec Ideal S1x512 .f32) (r : Fin 256) (k : Fin 512) :
    k0_pay1 v0 v3 (ix2 r k) = rms n512 (fun j => v0 (ix3 0 j r)) (fun j => v3 (ix2 0 j)) k := by
  pointwise [k0_pay1, rms]

theorem pay8_apply (v : Vec Ideal S1x256x512 .f32) (r : Fin 256) (k : Fin 512) :
    k0_pay8 v (ix2 r k) = silu (v (ix3 0 r k)) := by
  pointwise [k0_pay8, silu]

theorem pay19_apply (v100 : FVec Ideal S256x1024 .f32) (v203 : FVec Ideal S1x1024 .f32) (v216 : Vec Ideal S1x1x1024 .f32) (v222 : Vec Ideal S1x1x1024 .f32) (r : Fin 256) (k : Fin 1024) :
    k0_pay19 v100 v203 v216 v222 (ix2 r k) = modulated (fun j => v100 (ix2 r j)) (fun j => v203 (ix2 0 j)) (fun j => v216 (ix3 0 0 j)) (fun j => v222 (ix3 0 0 j)) k := by
  pointwise [k0_pay19, modulated, rms]

/-- The four heads of the first half, side by side. -/
theorem pay7_apply (v : Vec Ideal S1x256x512 .f32) (g : Vec Ideal S1x128 .f32) (r : Fin 256) (k : Fin 512) :
    k0_pay7 (k0_pay2 v) (k0_pay3 v g) (k0_pay4 v) (k0_pay5 g) (k0_pay6 v) g g (ix2 r k)
      = rms n128 (fun j : Fin 128 => v (ix3 0 r ⟨128 * (k / 128) + j, by omega⟩)) (fun j => g (ix2 0 j)) ⟨k % 128, by omega⟩ := by
  obtain ⟨q, p, rfl⟩ : ∃ (q : Fin 4) (p : Fin 128), k = ⟨128 * q + p, by omega⟩ :=
    ⟨⟨k / 128, by omega⟩, ⟨k % 128, by omega⟩, by ext; simp; omega⟩
  have hd : (128 * (q : ℕ) + p) / 128 = q := by omega
  have hm : (128 * (q : ℕ) + p) % 128 = p := by omega
  have e1 : 128 + (p : ℕ) - 128 = p := by omega
  have e2 : 256 + (p : ℕ) - 128 - 128 = p := by omega
  have e3 : 384 + (p : ℕ) - 128 - 128 - 128 = p := by omega
  simp only [hd, hm]
  fin_vals q with hk
  all_goals
    simp only [hk]
    pointwise [k0_pay7, k0_pay6, k0_pay5, k0_pay4, k0_pay3, k0_pay2, rms]
    repeat' first
      | rw [dif_pos (by omega)]
      | rw [dif_neg (by omega)]
    try simp only [e1, e2, e3, Fin.eta]

theorem pay9_apply (v16 v79 v83 : FVec Ideal S256x512 .f32) (v86 v90 : Vec Ideal S512x1024 .bf16) (v94 : Vec Ideal S1x256x1024 .f32) (v96 : Vec Ideal S1x1x1024 .f32) (r : Fin 256) (n : Fin 1024) :
    k0_pay9 v16 v79 v83 v86 v90 v94 v96 (ix2 r n)
      = v94 (ix3 0 r n) + v96 (ix3 0 0 n) * ((∑ k, v16 (ix2 r k) * v86 (ix2 k n)) + ∑ k, v79 (ix2 r k) * v83 (ix2 r k) * v90 (ix2 k n)) := by
  pointwise [k0_pay9]

theorem pay23_apply (v100 : FVec Ideal S256x1024 .f32) (v226 : FVec Ideal S256x1024 .bf16) (v252 : Vec Ideal S1024x5632 .bf16) (v270 : Vec Ideal S1x1x1024 .f32) (v272 : Vec Ideal S2816x1024 .bf16) (r : Fin 256) (n : Fin 1024) :
    k0_pay23 v100 v226 v252 v270 v272 (ix2 r n)
      = ffn (fun j => v100 (ix2 r j)) (fun j => v270 (ix3 0 0 j)) (gatedHidden (gateUp (fun j => v226 (ix2 r j)) fun i j => v252 (ix2 i j))) (fun i j => v272 (ix2 i j)) n := by
  pointwise [k0_pay23, ffn, gatedHidden, gateUp, silu]

theorem pay26_apply (v100 : FVec Ideal S256x1024 .f32) (v226 : FVec Ideal S256x1024 .bf16) (v252 : Vec Ideal S1024x5632 .bf16) (v270 : Vec Ideal S1x1x1024 .f32) (v272 : Vec Ideal S2816x1024 .bf16) (f : Vec Ideal S1x1024 .f32) (r : Fin 256) (n : Fin 1024) :
    k0_pay26 (k0_pay23 v100 v226 v252 v270 v272) (k0_pay24 f) (k0_pay25 v100 v226 v252 v270 v272) (Scalar.ofBits .f32 0x358637BD#32) (ix3 0 r n)
      = rms n1024 (fun j => k0_pay23 v100 v226 v252 v270 v272 (ix2 r j)) (fun j => f (ix2 0 j)) n := by
  pointwise [k0_pay26, k0_pay24, k0_pay25, rms]

/-- One half of a tile, 256 rows of it, from the blocks the body reads. -/
def half (x : Vec Ideal S1x256x1024 .f32) (a : Vec Ideal S1x512x256 .f32) (gl go : Vec Ideal S1x256x512 .f32)
    (g1 sc sh g2 : Vec Ideal S1x1x1024 .f32) (ag : Vec Ideal S1x512 .f32) (gg : Vec Ideal S1x128 .f32)
    (ng fg : Vec Ideal S1x1024 .f32) (w₀ w₁ : Vec Ideal S512x1024 .bf16) (wgu : Vec Ideal S1024x5632 .bf16)
    (wd : Vec Ideal S2816x1024 .bf16) : Vec Ideal S1x256x1024 .f32 :=
  let y := k0_pay9 (k0_pay1 a ag) (k0_pay7 (k0_pay2 gl) (k0_pay3 gl gg) (k0_pay4 gl) (k0_pay5 gg) (k0_pay6 gl) gg gg)
    (k0_pay8 go) w₀ w₁ x g1
  let h := k0_pay19 y (k0_pay18 ng) sc sh
  k0_pay26 (k0_pay23 y h wgu g2 wd) (k0_pay24 fg) (k0_pay25 y h wgu g2 wd) (Scalar.ofBits .f32 0x358637BD#32)

theorem half_apply (x : Vec Ideal S1x256x1024 .f32) (a : Vec Ideal S1x512x256 .f32) (gl go : Vec Ideal S1x256x512 .f32)
    (g1 sc sh g2 : Vec Ideal S1x1x1024 .f32) (ag : Vec Ideal S1x512 .f32) (gg : Vec Ideal S1x128 .f32)
    (ng fg : Vec Ideal S1x1024 .f32) (w₀ w₁ : Vec Ideal S512x1024 .bf16) (wgu : Vec Ideal S1024x5632 .bf16)
    (wd : Vec Ideal S2816x1024 .bf16) (wo : Fin 1024 → Fin 1024 → EReal)
    (h₀ : ∀ (k : Fin 512) n, w₀ (ix2 k n) = wo ⟨k, by omega⟩ n) (h₁ : ∀ (k : Fin 512) n, w₁ (ix2 k n) = wo ⟨512 + k, by omega⟩ n)
    (r : Fin 256) (n : Fin 1024) :
    half x a gl go g1 sc sh g2 ag gg ng fg w₀ w₁ wgu wd (ix3 0 r n)
      = out (fun j => x (ix3 0 r j)) (fun j => g1 (ix3 0 0 j)) (fun j => sh (ix3 0 0 j)) (fun j => sc (ix3 0 0 j))
          (fun j => g2 (ix3 0 0 j)) (fun j => a (ix3 0 j r)) (fun j => ag (ix2 0 j)) (fun j => gl (ix3 0 r j))
          (fun j => go (ix3 0 r j)) (fun j => gg (ix2 0 j)) (fun j => ng (ix2 0 j)) (fun j => fg (ix2 0 j)) wo
          (fun i j => wgu (ix2 i j)) (fun i j => wd (ix2 i j)) n := by
  unfold half
  simp only [pay26_apply, pay23_apply, pay19_apply, pay9_apply, pay8_apply, pay7_apply, pay1_apply, h₀, h₁]
  have e : ∀ j, k0_pay18 ng (ix2 0 j) = ng (ix2 0 j) := fun j => by pointwise [k0_pay18]
  simp only [e]
  rfl

/-- The second half runs the same operations, cut into other pieces. -/
theorem second_half (x : Vec Ideal S1x256x1024 .f32) (a : Vec Ideal S1x512x256 .f32) (gl go : Vec Ideal S1x256x512 .f32)
    (g1 sc sh g2 : Vec Ideal S1x1x1024 .f32) (ag : Vec Ideal S1x512 .f32) (gg : Vec Ideal S1x128 .f32)
    (ng fg : Vec Ideal S1x1024 .f32) (w₀ w₁ : Vec Ideal S512x1024 .bf16) (wgu : Vec Ideal S1024x5632 .bf16)
    (wd : Vec Ideal S2816x1024 .bf16) :
    (let y := k0_pay17 (k0_pay10 a ag) (k0_pay13 (k0_pay12 gl) gg) (k0_pay14 (k0_pay11 gl) gg) (k0_pay15 (k0_pay11 gl) gg)
        (k0_pay16 (k0_pay11 gl)) gg go w₀ w₁ x g1
     k0_pay27 y (k0_pay22 (k0_pay20 y ng) (k0_pay21 sc) sh wgu) g2 wd fg)
      = half x a gl go g1 sc sh g2 ag gg ng fg w₀ w₁ wgu wd := rfl

end Cert.Kernel2Ideal.Rows
end
-- ==== Proof.MixBlock.lean ====
/- One grid point of the mixing and feed-forward kernel: what its body leaves in the output block is, row by row, the
   row function `Cert.Row.out` of the input blocks. -/
module

public import proofs.«01_k».proof.Proof.KernelRows

@[expose] public section

set_option maxRecDepth 16384

noncomputable section

namespace Cert.Kernel2Ideal.Rows

open Idealize.ShloMosaic Cert.Kernel2Ideal Cert.Kernel2Ideal.Gen Cert.Row

/-- The block the body leaves, as a function of the index: row `j 1` of the block is `out` of that row's data. -/
def block (x0 : Vec Ideal S1x512x1024 .f32) (x1 x2 x3 : Vec Ideal S1x512x512 .f32) (x4 x5 x6 x7 : Vec Ideal S1x1x1024 .f32)
    (x8 : Vec Ideal S1x512 .f32) (x9 : Vec Ideal S1x128 .f32) (x10 x11 : Vec Ideal S1x1024 .f32)
    (x12 : Vec Ideal S1024x1024 .bf16) (x13 : Vec Ideal S1024x5632 .bf16) (x14 : Vec Ideal S2816x1024 .bf16)
    (r : Fin 512) (n : Fin 1024) : EReal :=
  out (fun j => x0 (ix3 0 r j)) (fun j => x4 (ix3 0 0 j)) (fun j => x6 (ix3 0 0 j)) (fun j => x5 (ix3 0 0 j))
    (fun j => x7 (ix3 0 0 j)) (fun j => x1 (ix3 0 j r)) (fun j => x8 (ix2 0 j)) (fun j => x2 (ix3 0 r j))
    (fun j => x3 (ix3 0 r j)) (fun j => x9 (ix2 0 j)) (fun j => x10 (ix2 0 j)) (fun j => x11 (ix2 0 j))
    (fun i j => x12 (ix2 i j)) (fun i j => x13 (ix2 i j)) (fun i j => x14 (ix2 i j)) n

theorem emb_lo (r : Fin 256) (n : Fin 1024) : r0_6.emb (ix3 0 r n) = ix3 0 ⟨r, by omega⟩ n := by
  funext a; apply Fin.ext
  match a with
  | ⟨0, _⟩ => rfl
  | ⟨1, _⟩ => show 0 + 1 * r.val = r.val; omega
  | ⟨2, _⟩ => show 0 + 1 * n.val = n.val; omega

theorem emb_hi (r : Fin 256) (n : Fin 1024) : r0_10.emb (ix3 0 r n) = ix3 0 ⟨256 + r, by omega⟩ n := by
  funext a; apply Fin.ext
  match a with
  | ⟨0, _⟩ => rfl
  | ⟨1, _⟩ => show 256 + 1 * r.val = 256 + r.val; omega
  | ⟨2, _⟩ => show 0 + 1 * n.val = n.val; omega

theorem mem_lo (r : Fin 512) (n : Fin 1024) (hr : r.val < 256) : ix3 0 r n ∈ r0_6.set := by
  rw [Rect.mem_set_unit]
  intro a
  match a with
  | ⟨0, _⟩ => exact ⟨Nat.le_refl 0, Nat.one_pos⟩
  | ⟨1, _⟩ => exact ⟨Nat.zero_le _, by show r.val < 0 + 256; omega⟩
  | ⟨2, _⟩ => exact ⟨Nat.zero_le _, by show n.val < 0 + 1024; omega⟩

theorem mem_hi (r : Fin 512) (n : Fin 1024) (hr : 256 ≤ r.val) : ix3 0 r n ∈ r0_10.set := by
  rw [Rect.mem_set_unit]
  intro a
  match a with
  | ⟨0, _⟩ => exact ⟨Nat.le_refl 0, Nat.one_pos⟩
  | ⟨1, _⟩ => exact ⟨hr, by show r.val < 256 + 256; omega⟩
  | ⟨2, _⟩ => exact ⟨Nat.zero_le _, by show n.val < 0 + 1024; omega⟩

/-- The body's result for the output window is `block` of the input blocks, index by index. -/
theorem out_apply (x0 : Vec Ideal S1x512x1024 .f32) (x1 x2 x3 : Vec Ideal S1x512x512 .f32) (x4 x5 x6 x7 : Vec Ideal S1x1x1024 .f32)
    (x8 : Vec Ideal S1x512 .f32) (x9 : Vec Ideal S1x128 .f32) (x10 x11 : Vec Ideal S1x1024 .f32)
    (x12 : Vec Ideal S1024x1024 .bf16) (x13 : Vec Ideal S1024x5632 .bf16) (x14 : Vec Ideal S2816x1024 .bf16)
    (r : Fin 512) (n : Fin 1024) :
    out0_15 x0 x1 x2 x3 x4 x5 x6 x7 x8 x9 x10 x11 x12 x13 x14 (ix3 0 r n)
      = block x0 x1 x2 x3 x4 x5 x6 x7 x8 x9 x10 x11 x12 x13 x14 r n := by
  have hc : out0_15 x0 x1 x2 x3 x4 x5 x6 x7 x8 x9 x10 x11 x12 x13 x14
      = View.canon [⟨r0_10, half (View.ld x0 r0_10) (View.ld x1 r0_8) (View.ld x2 r0_9) (View.ld x3 r0_9) (View.ld x4 r0_7)
            (View.ld x5 r0_7) (View.ld x6 r0_7) (View.ld x7 r0_7) (View.ld x8 r0_1) (View.ld x9 r0_3) (View.ld x10 r0_11)
            (View.ld x11 r0_11) (View.ld x12 r0_4) (View.ld x12 r0_5) (View.ld x13 r0_12) (View.ld x14 r0_13)⟩,
          ⟨r0_6, half (View.ld x0 r0_6) (View.ld x1 r0_0) (View.ld x2 r0_2) (View.ld x3 r0_2) (View.ld x4 r0_7)
            (View.ld x5 r0_7) (View.ld x6 r0_7) (View.ld x7 r0_7) (View.ld x8 r0_1) (View.ld x9 r0_3) (View.ld x10 r0_11)
            (View.ld x11 r0_11) (View.ld x12 r0_4) (View.ld x12 r0_5) (View.ld x13 r0_12) (View.ld x14 r0_13)⟩] := rfl
  rw [hc]
  refine (View.canon_apply_of_pieces
    (fun j : S1x512x1024.Idx => block x0 x1 x2 x3 x4 x5 x6 x7 x8 x9 x10 x11 x12 x13 x14 (j 1) (j 2)) _ ?_ _ ?_).trans ?_
  · intro p hp
    simp only [List.mem_cons, List.not_mem_nil, or_false] at hp
    have hj : ∀ j : S1x256x1024.Idx, ∃ (r' : Fin 256) (n' : Fin 1024), j = ix3 0 r' n' := fun j => ⟨j 1, j 2, by
      funext a; apply Fin.ext
      match a with
      | ⟨0, _⟩ => have : (j 0).val < 1 := (j 0).isLt; show (j 0).val = 0; omega
      | ⟨1, _⟩ => rfl
      | ⟨2, _⟩ => rfl⟩
    rcases hp with rfl | rfl
    · intro j
      obtain ⟨r', n', rfl⟩ := hj j
      rw [emb_hi]
      refine (half_apply _ _ _ _ _ _ _ _ _ _ _ _ _ _ _ _ (fun i j => x12 (ix2 i j)) ?_ ?_ r' n').trans ?_
      · intro k n; pointwise []
      · intro k n; pointwise []
      · show _ = block x0 x1 x2 x3 x4 x5 x6 x7 x8 x9 x10 x11 x12 x13 x14 ⟨256 + r', by omega⟩ n'
        unfold block
        congr 1 <;> (funext j; pointwise [])
    · intro j
      obtain ⟨r', n', rfl⟩ := hj j
      rw [emb_lo]
      refine (half_apply _ _ _ _ _ _ _ _ _ _ _ _ _ _ _ _ (fun i j => x12 (ix2 i j)) ?_ ?_ r' n').trans ?_
      · intro k n; pointwise []
      · intro k n; pointwise []
      · show _ = block x0 x1 x2 x3 x4 x5 x6 x7 x8 x9 x10 x11 x12 x13 x14 ⟨r', by omega⟩ n'
        unfold block
        congr 1 <;> (funext j; pointwise [])
  · by_cases hr : r.val < 256
    · exact ⟨_, List.mem_cons_of_mem _ (List.mem_singleton.mpr rfl), mem_lo r n hr⟩
    · exact ⟨_, List.mem_cons_self, mem_hi r n (by omega)⟩
  · rfl

end Cert.Kernel2Ideal.Rows

end
-- ==== Proof.MixArray.lean ====
/- The mixing and feed-forward kernel's result array: index by index the row function `Cert.Row.out` of the arguments. -/
module

public import proofs.«01_k».proof.Proof.MixBlock
public import Idealize.ShloMosaic.Lib.Pipeline.Value

@[expose] public section

set_option maxRecDepth 16384

noncomputable section

namespace Cert.Kernel2Ideal.Rows

open Idealize.ShloMosaic Idealize.ShloMosaic.TcCoe Idealize.SL.Sem Cert.Kernel2Ideal Cert.Kernel2Ideal.Gen Cert.Kernel2Ideal.Value Cert.Row

variable (m : (ℓ : Loc nD τ sig) → Buf (Elt Ideal) ℓ) (ρ : Dev nD → PrngReg)

/-- The block indices of every window at a grid point: the batch entry `t / 16` and the tile of rows `t % 16`. -/
theorem idx_facts : ∀ t : Fin cfg0.N,
    win0_0.index t 0 = t.val / 16 ∧ win0_0.index t 1 = t.val % 16 ∧ win0_0.index t 2 = 0
    ∧ win0_1.index t 0 = t.val / 16 ∧ win0_1.index t 1 = 0 ∧ win0_1.index t 2 = t.val % 16
    ∧ win0_2.index t 0 = t.val / 16 ∧ win0_2.index t 1 = t.val % 16 ∧ win0_2.index t 2 = 0
    ∧ win0_3.index t 0 = t.val / 16 ∧ win0_3.index t 1 = t.val % 16 ∧ win0_3.index t 2 = 0
    ∧ win0_15.index t 0 = t.val / 16 ∧ win0_15.index t 1 = t.val % 16 ∧ win0_15.index t 2 = 0 :=
  (by decide +kernel : ∀ t : Fin grid0.N, _)

theorem idx_vec : ∀ t : Fin cfg0.N,
    win0_4.index t 0 = t.val / 16 ∧ win0_4.index t 1 = 0 ∧ win0_4.index t 2 = 0
    ∧ win0_5.index t 0 = t.val / 16 ∧ win0_5.index t 1 = 0 ∧ win0_5.index t 2 = 0
    ∧ win0_6.index t 0 = t.val / 16 ∧ win0_6.index t 1 = 0 ∧ win0_6.index t 2 = 0
    ∧ win0_7.index t 0 = t.val / 16 ∧ win0_7.index t 1 = 0 ∧ win0_7.index t 2 = 0 :=
  (by decide +kernel : ∀ t : Fin grid0.N, _)

theorem idx_whole : ∀ t : Fin cfg0.N,
    win0_8.index t 0 = 0 ∧ win0_8.index t 1 = 0
    ∧ win0_9.index t 0 = 0 ∧ win0_9.index t 1 = 0
    ∧ win0_10.index t 0 = 0 ∧ win0_10.index t 1 = 0
    ∧ win0_11.index t 0 = 0 ∧ win0_11.index t 1 = 0
    ∧ win0_12.index t 0 = 0 ∧ win0_12.index t 1 = 0
    ∧ win0_13.index t 0 = 0 ∧ win0_13.index t 1 = 0
    ∧ win0_14.index t 0 = 0 ∧ win0_14.index t 1 = 0 :=
  (by decide +kernel : ∀ t : Fin grid0.N, _)

/-! The host operations before the region, read at an index. -/

theorem V_v0 (c : Dev nD) (b : Fin 8) (n : Fin 1024) :
    V m c main_v0 (ix3 b 0 n) = m ((c : Thread nD τ).loc main_arg5) (ix2 b n) := by
  unfold_abbrev_sides
  after_results
  pointwise []

theorem V_v1 (c : Dev nD) (b : Fin 8) (n : Fin 1024) :
    V m c main_v1 (ix3 b 0 n) = m ((c : Thread nD τ).loc main_arg6) (ix2 b n) := by
  unfold_abbrev_sides
  after_results
  pointwise []

theorem V_v2 (c : Dev nD) (b : Fin 8) (n : Fin 1024) :
    V m c main_v2 (ix3 b 0 n) = m ((c : Thread nD τ).loc main_arg4) (ix2 b n) := by
  unfold_abbrev_sides
  after_results
  pointwise []

theorem V_v3 (c : Dev nD) (b : Fin 8) (n : Fin 1024) :
    V m c main_v3 (ix3 b 0 n) = m ((c : Thread nD τ).loc main_arg7) (ix2 b n) := by
  unfold_abbrev_sides
  after_results
  pointwise []

theorem V_v5 (c : Dev nD) (n : Fin 512) :
    V m c main_v5 (ix2 0 n) = m ((c : Thread nD τ).loc main_arg8) (ix2 0 n) := by
  unfold_abbrev_sides
  after_results
  pointwise []

theorem V_v7 (c : Dev nD) (n : Fin 128) :
    V m c main_v7 (ix2 0 n) = m ((c : Thread nD τ).loc main_arg9) (ix2 0 n) := by
  unfold_abbrev_sides
  after_results
  pointwise []

theorem V_v9 (c : Dev nD) (n : Fin 1024) :
    V m c main_v9 (ix2 0 n) = m ((c : Thread nD τ).loc main_arg11) (ix2 0 n) := by
  unfold_abbrev_sides
  after_results
  pointwise []

theorem V_v10 (c : Dev nD) (n : Fin 1024) :
    V m c main_v10 (ix2 0 n) = m ((c : Thread nD τ).loc main_arg14) (ix1 n) := by
  unfold_abbrev_sides
  after_results
  pointwise []

theorem V_v14 (c : Dev nD) (k : Fin 1024) (n : Fin 1024) :
    V m c main_v14 (ix2 k n) = m ((c : Thread nD τ).loc main_arg10) (ix3 0 k n) := by
  unfold_abbrev_sides
  after_results
  pointwise []

theorem V_v15 (c : Dev nD) (k : Fin 1024) (n : Fin 5632) :
    V m c main_v15 (ix2 k n) = m ((c : Thread nD τ).loc main_arg12) (ix3 0 k n) := by
  unfold_abbrev_sides
  after_results
  pointwise []

theorem V_v16 (c : Dev nD) (k : Fin 2816) (n : Fin 1024) :
    V m c main_v16 (ix2 k n) = m ((c : Thread nD τ).loc main_arg13) (ix3 0 k n) := by
  unfold_abbrev_sides
  after_results
  pointwise []

/-! The blocks a grid point reads, at an index of the arguments. -/

theorem batch_lt (t : Fin cfg0.N) : t.val / 16 < 8 := by have h : t.val < 128 := t.isLt; omega

theorem row_lt (t : Fin cfg0.N) (r : Fin 512) : 512 * (t.val % 16) + r.val < 8192 := by omega

/-- The batch entry and the row of the batch that row `r` of grid point `t`'s tile is. -/
abbrev batch (t : Fin cfg0.N) : Fin 8 := ⟨t.val / 16, batch_lt t⟩
abbrev row (t : Fin cfg0.N) (r : Fin 512) : Fin 8192 := ⟨512 * (t.val % 16) + r.val, row_lt t r⟩

theorem blk0_apply (c : Dev nD) (t : Fin cfg0.N) (r : Fin 512) (j : Fin 1024) :
    (iblk m c 0 t : Vec Ideal S1x512x1024 .f32) (ix3 0 r j) = m ((c : Thread nD τ).loc main_arg0) (ix3 (batch t) (row t r) j) := by
  have e := idx_facts t
  rw [← V_main_arg0 m c]
  show V m c main_arg0 (((cfg0.win 0).blk t).view.emb (ix3 0 r j)) = _
  congr 1; funext a; apply Fin.ext
  match a with
  | ⟨0, _⟩ => show win0_0.index t 0 * 1 + 1 * 0 = t.val / 16; omega
  | ⟨1, _⟩ => show win0_0.index t 1 * 512 + 1 * r.val = 512 * (t.val % 16) + r.val; omega
  | ⟨2, _⟩ => show win0_0.index t 2 * 1024 + 1 * j.val = j.val; omega

theorem blk2_apply (c : Dev nD) (t : Fin cfg0.N) (r : Fin 512) (j : Fin 512) :
    (iblk m c 2 t : Vec Ideal S1x512x512 .f32) (ix3 0 r j) = m ((c : Thread nD τ).loc main_arg2) (ix3 (batch t) (row t r) j) := by
  have e := idx_facts t
  rw [← V_main_arg2 m c]
  show V m c main_arg2 (((cfg0.win 2).blk t).view.emb (ix3 0 r j)) = _
  congr 1; funext a; apply Fin.ext
  match a with
  | ⟨0, _⟩ => show win0_2.index t 0 * 1 + 1 * 0 = t.val / 16; omega
  | ⟨1, _⟩ => show win0_2.index t 1 * 512 + 1 * r.val = 512 * (t.val % 16) + r.val; omega
  | ⟨2, _⟩ => show win0_2.index t 2 * 512 + 1 * j.val = j.val; omega

theorem blk3_apply (c : Dev nD) (t : Fin cfg0.N) (r : Fin 512) (j : Fin 512) :
    (iblk m c 3 t : Vec Ideal S1x512x512 .f32) (ix3 0 r j) = m ((c : Thread nD τ).loc main_arg3) (ix3 (batch t) (row t r) j) := by
  have e := idx_facts t
  rw [← V_main_arg3 m c]
  show V m c main_arg3 (((cfg0.win 3).blk t).view.emb (ix3 0 r j)) = _
  congr 1; funext a; apply Fin.ext
  match a with
  | ⟨0, _⟩ => show win0_3.index t 0 * 1 + 1 * 0 = t.val / 16; omega
  | ⟨1, _⟩ => show win0_3.index t 1 * 512 + 1 * r.val = 512 * (t.val % 16) + r.val; omega
  | ⟨2, _⟩ => show win0_3.index t 2 * 512 + 1 * j.val = j.val; omega

theorem blk1_apply (c : Dev nD) (t : Fin cfg0.N) (j r : Fin 512) :
    (iblk m c 1 t : Vec Ideal S1x512x512 .f32) (ix3 0 j r) = m ((c : Thread nD τ).loc main_arg1) (ix3 (batch t) j (row t r)) := by
  have e := idx_facts t
  rw [← V_main_arg1 m c]
  show V m c main_arg1 (((cfg0.win 1).blk t).view.emb (ix3 0 j r)) = _
  congr 1; funext a; apply Fin.ext
  match a with
  | ⟨0, _⟩ => show win0_1.index t 0 * 1 + 1 * 0 = t.val / 16; omega
  | ⟨1, _⟩ => show win0_1.index t 1 * 512 + 1 * j.val = j.val; omega
  | ⟨2, _⟩ => show win0_1.index t 2 * 512 + 1 * r.val = 512 * (t.val % 16) + r.val; omega

theorem blk4_apply (c : Dev nD) (t : Fin cfg0.N) (j : Fin 1024) :
    (iblk m c 4 t : Vec Ideal S1x1x1024 .f32) (ix3 0 0 j) = m ((c : Thread nD τ).loc main_arg4) (ix2 (batch t) j) := by
  have e := idx_vec t
  rw [← V_v2 m c]
  show V m c main_v2 (((cfg0.win 4).blk t).view.emb (ix3 0 0 j)) = _
  congr 1; funext a; apply Fin.ext
  match a with
  | ⟨0, _⟩ => show win0_4.index t 0 * 1 + 1 * 0 = t.val / 16; omega
  | ⟨1, _⟩ => show win0_4.index t 1 * 1 + 1 * 0 = 0; omega
  | ⟨2, _⟩ => show win0_4.index t 2 * 1024 + 1 * j.val = j.val; omega

theorem blk5_apply (c : Dev nD) (t : Fin cfg0.N) (j : Fin 1024) :
    (iblk m c 5 t : Vec Ideal S1x1x1024 .f32) (ix3 0 0 j) = m ((c : Thread nD τ).loc main_arg6) (ix2 (batch t) j) := by
  have e := idx_vec t
  rw [← V_v1 m c]
  show V m c main_v1 (((cfg0.win 5).blk t).view.emb (ix3 0 0 j)) = _
  congr 1; funext a; apply Fin.ext
  match a with
  | ⟨0, _⟩ => show win0_5.index t 0 * 1 + 1 * 0 = t.val / 16; omega
  | ⟨1, _⟩ => show win0_5.index t 1 * 1 + 1 * 0 = 0; omega
  | ⟨2, _⟩ => show win0_5.index t 2 * 1024 + 1 * j.val = j.val; omega

theorem blk6_apply (c : Dev nD) (t : Fin cfg0.N) (j : Fin 1024) :
    (iblk m c 6 t : Vec Ideal S1x1x1024 .f32) (ix3 0 0 j) = m ((c : Thread nD τ).loc main_arg5) (ix2 (batch t) j) := by
  have e := idx_vec t
  rw [← V_v0 m c]
  show V m c main_v0 (((cfg0.win 6).blk t).view.emb (ix3 0 0 j)) = _
  congr 1; funext a; apply Fin.ext
  match a with
  | ⟨0, _⟩ => show win0_6.index t 0 * 1 + 1 * 0 = t.val / 16; omega
  | ⟨1, _⟩ => show win0_6.index t 1 * 1 + 1 * 0 = 0; omega
  | ⟨2, _⟩ => show win0_6.index t 2 * 1024 + 1 * j.val = j.val; omega

theorem blk7_apply (c : Dev nD) (t : Fin cfg0.N) (j : Fin 1024) :
    (iblk m c 7 t : Vec Ideal S1x1x1024 .f32) (ix3 0 0 j) = m ((c : Thread nD τ).loc main_arg7) (ix2 (batch t) j) := by
  have e := idx_vec t
  rw [← V_v3 m c]
  show V m c main_v3 (((cfg0.win 7).blk t).view.emb (ix3 0 0 j)) = _
  congr 1; funext a; apply Fin.ext
  match a with
  | ⟨0, _⟩ => show win0_7.index t 0 * 1 + 1 * 0 = t.val / 16; omega
  | ⟨1, _⟩ => show win0_7.index t 1 * 1 + 1 * 0 = 0; omega
  | ⟨2, _⟩ => show win0_7.index t 2 * 1024 + 1 * j.val = j.val; omega

theorem blk8_apply (c : Dev nD) (t : Fin cfg0.N) (j : Fin 512) :
    (iblk m c 8 t : Vec Ideal S1x512 .f32) (ix2 0 j) = m ((c : Thread nD τ).loc main_arg8) (ix2 0 j) := by
  have e := idx_whole t
  rw [← V_v5 m c]
  show V m c main_v5 (((cfg0.win 8).blk t).view.emb (ix2 0 j)) = _
  congr 1; funext a; apply Fin.ext
  match a with
  | ⟨0, _⟩ => show win0_8.index t 0 * 1 + 1 * 0 = 0; omega
  | ⟨1, _⟩ => show win0_8.index t 1 * 512 + 1 * j.val = j.val; omega

theorem blk9_apply (c : Dev nD) (t : Fin cfg0.N) (j : Fin 128) :
    (iblk m c 9 t : Vec Ideal S1x128 .f32) (ix2 0 j) = m ((c : Thread nD τ).loc main_arg9) (ix2 0 j) := by
  have e := idx_whole t
  rw [← V_v7 m c]
  show V m c main_v7 (((cfg0.win 9).blk t).view.emb (ix2 0 j)) = _
  congr 1; funext a; apply Fin.ext
  match a with
  | ⟨0, _⟩ => show win0_9.index t 0 * 1 + 1 * 0 = 0; omega
  | ⟨1, _⟩ => show win0_9.index t 1 * 128 + 1 * j.val = j.val; omega

theorem blk10_apply (c : Dev nD) (t : Fin cfg0.N) (j : Fin 1024) :
    (iblk m c 10 t : Vec Ideal S1x1024 .f32) (ix2 0 j) = m ((c : Thread nD τ).loc main_arg11) (ix2 0 j) := by
  have e := idx_whole t
  rw [← V_v9 m c]
  show V m c main_v9 (((cfg0.win 10).blk t).view.emb (ix2 0 j)) = _
  congr 1; funext a; apply Fin.ext
  match a with
  | ⟨0, _⟩ => show win0_10.index t 0 * 1 + 1 * 0 = 0; omega
  | ⟨1, _⟩ => show win0_10.index t 1 * 1024 + 1 * j.val = j.val; omega

theorem blk11_apply (c : Dev nD) (t : Fin cfg0.N) (j : Fin 1024) :
    (iblk m c 11 t : Vec Ideal S1x1024 .f32) (ix2 0 j) = m ((c : Thread nD τ).loc main_arg14) (ix1 j) := by
  have e := idx_whole t
  rw [← V_v10 m c]
  show V m c main_v10 (((cfg0.win 11).blk t).view.emb (ix2 0 j)) = _
  congr 1; funext a; apply Fin.ext
  match a with
  | ⟨0, _⟩ => show win0_11.index t 0 * 1 + 1 * 0 = 0; omega
  | ⟨1, _⟩ => show win0_11.index t 1 * 1024 + 1 * j.val = j.val; omega

theorem blk12_apply (c : Dev nD) (t : Fin cfg0.N) (k : Fin 1024) (n : Fin 1024) :
    (iblk m c 12 t : Vec Ideal S1024x1024 .bf16) (ix2 k n) = m ((c : Thread nD τ).loc main_arg10) (ix3 0 k n) := by
  have e := idx_whole t
  rw [← V_v14 m c]
  show V m c main_v14 (((cfg0.win 12).blk t).view.emb (ix2 k n)) = _
  congr 1; funext a; apply Fin.ext
  match a with
  | ⟨0, _⟩ => show win0_12.index t 0 * 1024 + 1 * k.val = k.val; omega
  | ⟨1, _⟩ => show win0_12.index t 1 * 1024 + 1 * n.val = n.val; omega

theorem blk13_apply (c : Dev nD) (t : Fin cfg0.N) (k : Fin 1024) (n : Fin 5632) :
    (iblk m c 13 t : Vec Ideal S1024x5632 .bf16) (ix2 k n) = m ((c : Thread nD τ).loc main_arg12) (ix3 0 k n) := by
  have e := idx_whole t
  rw [← V_v15 m c]
  show V m c main_v15 (((cfg0.win 13).blk t).view.emb (ix2 k n)) = _
  congr 1; funext a; apply Fin.ext
  match a with
  | ⟨0, _⟩ => show win0_13.index t 0 * 1024 + 1 * k.val = k.val; omega
  | ⟨1, _⟩ => show win0_13.index t 1 * 5632 + 1 * n.val = n.val; omega

theorem blk14_apply (c : Dev nD) (t : Fin cfg0.N) (k : Fin 2816) (n : Fin 1024) :
    (iblk m c 14 t : Vec Ideal S2816x1024 .bf16) (ix2 k n) = m ((c : Thread nD τ).loc main_arg13) (ix3 0 k n) := by
  have e := idx_whole t
  rw [← V_v16 m c]
  show V m c main_v16 (((cfg0.win 14).blk t).view.emb (ix2 k n)) = _
  congr 1; funext a; apply Fin.ext
  match a with
  | ⟨0, _⟩ => show win0_14.index t 0 * 2816 + 1 * k.val = k.val; omega
  | ⟨1, _⟩ => show win0_14.index t 1 * 1024 + 1 * n.val = n.val; omega

/-- The kernel's result at row `l` of batch entry `b`: `out` of that row's data. -/
def res (c : Dev nD) (b : Fin 8) (l : Fin 8192) (n : Fin 1024) : EReal :=
  out (fun j => m ((c : Thread nD τ).loc main_arg0) (ix3 b l j)) (fun j => m ((c : Thread nD τ).loc main_arg4) (ix2 b j)) (fun j => m ((c : Thread nD τ).loc main_arg5) (ix2 b j)) (fun j => m ((c : Thread nD τ).loc main_arg6) (ix2 b j))
    (fun j => m ((c : Thread nD τ).loc main_arg7) (ix2 b j)) (fun j => m ((c : Thread nD τ).loc main_arg1) (ix3 b j l)) (fun j => m ((c : Thread nD τ).loc main_arg8) (ix2 0 j)) (fun j => m ((c : Thread nD τ).loc main_arg2) (ix3 b l j))
    (fun j => m ((c : Thread nD τ).loc main_arg3) (ix3 b l j)) (fun j => m ((c : Thread nD τ).loc main_arg9) (ix2 0 j)) (fun j => m ((c : Thread nD τ).loc main_arg11) (ix2 0 j)) (fun j => m ((c : Thread nD τ).loc main_arg14) (ix1 j))
    (fun i j => m ((c : Thread nD τ).loc main_arg10) (ix3 0 i j)) (fun i j => m ((c : Thread nD τ).loc main_arg12) (ix3 0 i j)) (fun i j => m ((c : Thread nD τ).loc main_arg13) (ix3 0 i j)) n

/-- The kernel's result array. -/
abbrev resArr (c : Dev nD) : Buf (Elt Ideal) ((c : Thread nD τ).loc main_v17) :=
  fun i : S8x8192x1024.Idx => res m c (i 0) (i 1) (i 2)

theorem emb15 (t : Fin cfg0.N) (r : Fin 512) (n : Fin 1024) :
    ((cfg0.win 15).blk t).view.emb (ix3 0 r n) = (ix3 (batch t) (row t r) n : S8x8192x1024.Idx) := by
  have e := idx_facts t
  funext a; apply Fin.ext
  match a with
  | ⟨0, _⟩ => show win0_15.index t 0 * 1 + 1 * 0 = t.val / 16; omega
  | ⟨1, _⟩ => show win0_15.index t 1 * 512 + 1 * r.val = 512 * (t.val % 16) + r.val; omega
  | ⟨2, _⟩ => show win0_15.index t 2 * 1024 + 1 * n.val = n.val; omega

/-- What a grid point writes back is its block of the result array. -/
theorem flushed15_eq (c : Dev nD) (t : Fin cfg0.N) :
    (dats m 0 c).flushed 15 t = ((cfg0.win 15).blk t).view.read (Elt Ideal) (resArr m c) := by
  rw [flushed15]
  funext j
  obtain ⟨r, n, rfl⟩ : ∃ (r : Fin 512) (n : Fin 1024), j = (ix3 0 r n : S1x512x1024.Idx) := ⟨j 1, j 2, by
    funext a; apply Fin.ext
    match a with
    | ⟨0, _⟩ => have : (j 0).val < 1 := (j 0).isLt; show (j 0).val = 0; omega
    | ⟨1, _⟩ => rfl
    | ⟨2, _⟩ => rfl⟩
  show out0_15 _ _ _ _ _ _ _ _ _ _ _ _ _ _ _ (ix3 0 r n) = resArr m c (((cfg0.win 15).blk t).view.emb (ix3 0 r n))
  rw [emb15, out_apply]
  show block _ _ _ _ _ _ _ _ _ _ _ _ _ _ _ r n = res m c (batch t) (row t r) n
  unfold block res
  simp only [blk0_apply, blk1_apply, blk2_apply, blk3_apply, blk4_apply, blk5_apply, blk6_apply, blk7_apply, blk8_apply,
    blk9_apply, blk10_apply, blk11_apply, blk12_apply, blk13_apply, blk14_apply]

/-- Every index of the result array is in some point's block. -/
theorem covered15 (i : S8x8192x1024.Idx) :
    ∃ t : Fin cfg0.N, (cfg0.win 15).flush t = true ∧ i ∈ ((cfg0.win 15).blk t).view.set := by
  have h0 : (i 0).val < 8 := (i 0).isLt
  have h1 : (i 1).val < 8192 := (i 1).isLt
  let t : Fin cfg0.N := ⟨16 * (i 0).val + (i 1).val / 512, by show _ < 128; omega⟩
  refine ⟨t, flush0_15 t, ?_⟩
  let r : Fin 512 := ⟨(i 1).val % 512, by omega⟩
  let n : Fin 1024 := ⟨(i 2).val, (i 2).isLt⟩
  have h := ((cfg0.win 15).blk t).view.emb_mem_set (ix3 0 r n : S1x512x1024.Idx)
  rw [emb15 t r n] at h
  have e : (ix3 (batch t) (row t r) n : S8x8192x1024.Idx) = i := by
    funext a; apply Fin.ext
    match a with
    | ⟨0, _⟩ => show (16 * (i 0).val + (i 1).val / 512) / 16 = (i 0).val; omega
    | ⟨1, _⟩ => show 512 * ((16 * (i 0).val + (i 1).val / 512) % 16) + (i 1).val % 512 = (i 1).val; omega
    | ⟨2, _⟩ => rfl
  rwa [e] at h

/-- The result array after the run. -/
theorem final15 (c : Dev nD) : (dats m 0 c).arrAt 15 cfg0.N = resArr m c :=
  (dats m 0 c).arrAt_eq_of_cover 15 (resArr m c) (fun t _ => flushed15_eq m c t) covered15

end Cert.Kernel2Ideal.Rows

end
-- ==== Proof.RefRows.lean ====
/- The plain reference's result, index by index: the row function `Cert.Row.out` of the arguments. -/
module

public import proofs.«01_k».proof.Proof.Gen.Reference2Ideal.Run
public import proofs.«01_k».proof.Proof.Gen.Reference2Ideal.Read
public import proofs.«01_k».proof.Proof.RowSpec

@[expose] public section

set_option maxRecDepth 16384

noncomputable section

namespace Cert.Reference2Ideal.Rows

open Idealize.ShloMosaic Idealize.ShloMosaic.TcCoe Cert.Reference2Ideal Cert.Reference2Ideal.Gen Cert.Reference2Ideal.Read Cert.Row

theorem v14_apply (x1 : FVec Ideal S8x512x8192 .f32) (x8 : FVec Ideal S1x512 .f32)
    (b : Fin 8) (l : Fin 8192) (k : Fin 512) :
    val_main_v14 (F := Ideal) x1 x8 (ix3 b l k)
      = rms n512 (fun j => x1 (ix3 b j l)) (fun j => x8 (ix2 0 j)) k := by
  pointwise [val_main_v0, val_main_v1, val_main_v2, val_main_v3, val_main_v4, val_main_v5, val_main_v6, val_main_v7, val_main_v8, val_main_v9, val_main_v10, val_main_v11, val_main_v12, val_main_v13, val_main_v14, val_main_cst, val_main_cst_0, val_main_cst_1, rms]

theorem v32_apply (x2 : FVec Ideal S8x8192x512 .f32) (x3 : FVec Ideal S8x8192x512 .f32) (x9 : FVec Ideal S1x128 .f32)
    (b : Fin 8) (l : Fin 8192) (k : Fin 512) :
    val_main_v32 (F := Ideal) x2 x3 x9 (ix3 b l k)
      = gated (fun j => x2 (ix3 b l j)) (fun j => x3 (ix3 b l j)) (fun j => x9 (ix2 0 j)) k := by
  pointwise [val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_cst_2, val_main_cst_3, val_main_cst_4, val_main_call0_v0, val_main_call0_v1, val_main_call0_cst, val_main_call0_v2, val_main_call0_v3, val_main_call0_cst_0, val_main_call0_v4, val_main_call0_v5, gated, rms, silu]
  simp only [Nat.mul_comm (k.val / 128) 128, Nat.div_add_mod]
  rfl

theorem v35_apply (x1 : FVec Ideal S8x512x8192 .f32) (x2 : FVec Ideal S8x8192x512 .f32) (x3 : FVec Ideal S8x8192x512 .f32) (x8 : FVec Ideal S1x512 .f32) (x9 : FVec Ideal S1x128 .f32) (x10 : FVec Ideal S1x1024x1024 .f32)
    (b : Fin 8) (l : Fin 8192) (k : Fin 1024) :
    val_main_v35 (F := Ideal) x1 x2 x3 x8 x9 x10 (ix3 b l k)
      = (∑ k' : Fin 512, rms n512 (fun j => x1 (ix3 b j l)) (fun j => x8 (ix2 0 j)) k' * x10 (ix3 0 ⟨k', by omega⟩ k)) + ∑ k' : Fin 512, gated (fun j => x2 (ix3 b l j)) (fun j => x3 (ix3 b l j)) (fun j => x9 (ix2 0 j)) k' * x10 (ix3 0 ⟨512 + k', by omega⟩ k) := by
  pointwise [val_main_v33, val_main_v34, val_main_v35]
  simp only [v14_apply, v32_apply]

theorem v39_apply (x0 : FVec Ideal S8x8192x1024 .f32) (x1 : FVec Ideal S8x512x8192 .f32) (x2 : FVec Ideal S8x8192x512 .f32) (x3 : FVec Ideal S8x8192x512 .f32) (x4 : FVec Ideal S8x1024 .f32) (x8 : FVec Ideal S1x512 .f32) (x9 : FVec Ideal S1x128 .f32) (x10 : FVec Ideal S1x1024x1024 .f32)
    (b : Fin 8) (l : Fin 8192) (k : Fin 1024) :
    val_main_v39 (F := Ideal) x0 x1 x2 x3 x4 x8 x9 x10 (ix3 b l k)
      = mix (fun j => x0 (ix3 b l j)) (fun j => x4 (ix2 b j)) (fun j => x1 (ix3 b j l)) (fun j => x8 (ix2 0 j)) (fun j => x2 (ix3 b l j)) (fun j => x3 (ix3 b l j)) (fun j => x9 (ix2 0 j)) (fun i j => x10 (ix3 0 i j)) k := by
  pointwise [val_main_v36, val_main_v37, val_main_v38, val_main_v39]
  simp only [v35_apply]
  rfl

theorem v61_apply (x0 : FVec Ideal S8x8192x1024 .f32) (x1 : FVec Ideal S8x512x8192 .f32) (x2 : FVec Ideal S8x8192x512 .f32) (x3 : FVec Ideal S8x8192x512 .f32) (x4 : FVec Ideal S8x1024 .f32) (x5 : FVec Ideal S8x1024 .f32) (x6 : FVec Ideal S8x1024 .f32) (x8 : FVec Ideal S1x512 .f32) (x9 : FVec Ideal S1x128 .f32) (x10 : FVec Ideal S1x1024x1024 .f32) (x11 : FVec Ideal S1x1024 .f32)
    (b : Fin 8) (l : Fin 8192) (k : Fin 1024) :
    val_main_v61 (F := Ideal) x0 x1 x2 x3 x4 x5 x6 x8 x9 x10 x11 (ix3 b l k)
      = modulated (mix (fun j => x0 (ix3 b l j)) (fun j => x4 (ix2 b j)) (fun j => x1 (ix3 b j l)) (fun j => x8 (ix2 0 j)) (fun j => x2 (ix3 b l j)) (fun j => x3 (ix3 b l j)) (fun j => x9 (ix2 0 j)) (fun i j => x10 (ix3 0 i j))) (fun j => x11 (ix2 0 j)) (fun j => x6 (ix2 b j)) (fun j => x5 (ix2 b j)) k := by
  pointwise [val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_v58, val_main_v59, val_main_v60, val_main_v61, val_main_cst_5, val_main_cst_6, val_main_cst_7, val_main_cst_8]
  simp only [v39_apply]
  rfl

theorem v63_apply (x0 : FVec Ideal S8x8192x1024 .f32) (x1 : FVec Ideal S8x512x8192 .f32) (x2 : FVec Ideal S8x8192x512 .f32) (x3 : FVec Ideal S8x8192x512 .f32) (x4 : FVec Ideal S8x1024 .f32) (x5 : FVec Ideal S8x1024 .f32) (x6 : FVec Ideal S8x1024 .f32) (x8 : FVec Ideal S1x512 .f32) (x9 : FVec Ideal S1x128 .f32) (x10 : FVec Ideal S1x1024x1024 .f32) (x11 : FVec Ideal S1x1024 .f32) (x12 : FVec Ideal S1x1024x5632 .f32)
    (b : Fin 8) (l : Fin 8192) (k : Fin 5632) :
    val_main_v63 (F := Ideal) x0 x1 x2 x3 x4 x5 x6 x8 x9 x10 x11 x12 (ix3 b l k)
      = gateUp (modulated (mix (fun j => x0 (ix3 b l j)) (fun j => x4 (ix2 b j)) (fun j => x1 (ix3 b j l)) (fun j => x8 (ix2 0 j)) (fun j => x2 (ix3 b l j)) (fun j => x3 (ix3 b l j)) (fun j => x9 (ix2 0 j)) (fun i j => x10 (ix3 0 i j))) (fun j => x11 (ix2 0 j)) (fun j => x6 (ix2 b j)) (fun j => x5 (ix2 b j))) (fun i j => x12 (ix3 0 i j)) k := by
  pointwise [val_main_v62, val_main_v63]
  simp only [v61_apply]
  rfl

theorem v68_apply (x0 : FVec Ideal S8x8192x1024 .f32) (x1 : FVec Ideal S8x512x8192 .f32) (x2 : FVec Ideal S8x8192x512 .f32) (x3 : FVec Ideal S8x8192x512 .f32) (x4 : FVec Ideal S8x1024 .f32) (x5 : FVec Ideal S8x1024 .f32) (x6 : FVec Ideal S8x1024 .f32) (x8 : FVec Ideal S1x512 .f32) (x9 : FVec Ideal S1x128 .f32) (x10 : FVec Ideal S1x1024x1024 .f32) (x11 : FVec Ideal S1x1024 .f32) (x12 : FVec Ideal S1x1024x5632 .f32)
    (b : Fin 8) (l : Fin 8192) (k : Fin 2816) :
    val_main_v68 (F := Ideal) x0 x1 x2 x3 x4 x5 x6 x8 x9 x10 x11 x12 (ix3 b l k)
      = gatedHidden (gateUp (modulated (mix (fun j => x0 (ix3 b l j)) (fun j => x4 (ix2 b j)) (fun j => x1 (ix3 b j l)) (fun j => x8 (ix2 0 j)) (fun j => x2 (ix3 b l j)) (fun j => x3 (ix3 b l j)) (fun j => x9 (ix2 0 j)) (fun i j => x10 (ix3 0 i j))) (fun j => x11 (ix2 0 j)) (fun j => x6 (ix2 b j)) (fun j => x5 (ix2 b j))) (fun i j => x12 (ix3 0 i j))) k := by
  pointwise [val_main_v64, val_main_v65, val_main_v67, val_main_v68, val_main_call1_v0, val_main_call1_v1, val_main_call1_cst, val_main_call1_v2, val_main_call1_v3, val_main_call1_cst_0, val_main_call1_v4, val_main_call1_v5]
  simp only [v63_apply]
  rfl

theorem v73_apply (x0 : FVec Ideal S8x8192x1024 .f32) (x1 : FVec Ideal S8x512x8192 .f32) (x2 : FVec Ideal S8x8192x512 .f32) (x3 : FVec Ideal S8x8192x512 .f32) (x4 : FVec Ideal S8x1024 .f32) (x5 : FVec Ideal S8x1024 .f32) (x6 : FVec Ideal S8x1024 .f32) (x7 : FVec Ideal S8x1024 .f32) (x8 : FVec Ideal S1x512 .f32) (x9 : FVec Ideal S1x128 .f32) (x10 : FVec Ideal S1x1024x1024 .f32) (x11 : FVec Ideal S1x1024 .f32) (x12 : FVec Ideal S1x1024x5632 .f32) (x13 : FVec Ideal S1x2816x1024 .f32)
    (b : Fin 8) (l : Fin 8192) (k : Fin 1024) :
    val_main_v73 (F := Ideal) x0 x1 x2 x3 x4 x5 x6 x7 x8 x9 x10 x11 x12 x13 (ix3 b l k)
      = ffn (mix (fun j => x0 (ix3 b l j)) (fun j => x4 (ix2 b j)) (fun j => x1 (ix3 b j l)) (fun j => x8 (ix2 0 j)) (fun j => x2 (ix3 b l j)) (fun j => x3 (ix3 b l j)) (fun j => x9 (ix2 0 j)) (fun i j => x10 (ix3 0 i j))) (fun j => x7 (ix2 b j)) (gatedHidden (gateUp (modulated (mix (fun j => x0 (ix3 b l j)) (fun j => x4 (ix2 b j)) (fun j => x1 (ix3 b j l)) (fun j => x8 (ix2 0 j)) (fun j => x2 (ix3 b l j)) (fun j => x3 (ix3 b l j)) (fun j => x9 (ix2 0 j)) (fun i j => x10 (ix3 0 i j))) (fun j => x11 (ix2 0 j)) (fun j => x6 (ix2 b j)) (fun j => x5 (ix2 b j))) (fun i j => x12 (ix3 0 i j)))) (fun i j => x13 (ix3 0 i j)) k := by
  pointwise [val_main_v66, val_main_v69, val_main_v70, val_main_v71, val_main_v72, val_main_v73]
  simp only [v39_apply, v68_apply]
  rfl

theorem v86_apply (x0 : FVec Ideal S8x8192x1024 .f32) (x1 : FVec Ideal S8x512x8192 .f32) (x2 : FVec Ideal S8x8192x512 .f32) (x3 : FVec Ideal S8x8192x512 .f32) (x4 : FVec Ideal S8x1024 .f32) (x5 : FVec Ideal S8x1024 .f32) (x6 : FVec Ideal S8x1024 .f32) (x7 : FVec Ideal S8x1024 .f32) (x8 : FVec Ideal S1x512 .f32) (x9 : FVec Ideal S1x128 .f32) (x10 : FVec Ideal S1x1024x1024 .f32) (x11 : FVec Ideal S1x1024 .f32) (x12 : FVec Ideal S1x1024x5632 .f32) (x13 : FVec Ideal S1x2816x1024 .f32) (x14 : FVec Ideal S1024 .f32)
    (b : Fin 8) (l : Fin 8192) (k : Fin 1024) :
    val_main_v86 (F := Ideal) x0 x1 x2 x3 x4 x5 x6 x7 x8 x9 x10 x11 x12 x13 x14 (ix3 b l k)
      = out (fun j => x0 (ix3 b l j)) (fun j => x4 (ix2 b j)) (fun j => x5 (ix2 b j)) (fun j => x6 (ix2 b j)) (fun j => x7 (ix2 b j)) (fun j => x1 (ix3 b j l)) (fun j => x8 (ix2 0 j)) (fun j => x2 (ix3 b l j)) (fun j => x3 (ix3 b l j)) (fun j => x9 (ix2 0 j)) (fun j => x11 (ix2 0 j)) (fun j => x14 (ix1 j)) (fun i j => x10 (ix3 0 i j)) (fun i j => x12 (ix3 0 i j)) (fun i j => x13 (ix3 0 i j)) k := by
  pointwise [val_main_v74, val_main_v75, val_main_v76, val_main_v77, val_main_v78, val_main_v79, val_main_v80, val_main_v81, val_main_v82, val_main_v83, val_main_v84, val_main_v85, val_main_v86, val_main_cst_9, val_main_cst_10, val_main_cst_11]
  simp only [v73_apply]
  rfl

end Cert.Reference2Ideal.Rows

end
-- ==== Proof.MixAlgebraic.lean ====
/- The mixing and feed-forward kernel and the plain reference end with the same result over the extended reals: both
   result arrays are, index by index, the row function `Cert.Row.out` of arguments that agree. -/
module

public import proofs.«01_k».proof.Defs
public import proofs.«01_k».proof.Proof.MixArray
public import proofs.«01_k».proof.Proof.RefRows

@[expose] public section

noncomputable section

namespace Cert.Proof.Mix

open Idealize.ShloMosaic Idealize.ShloMosaic.TcCoe Idealize.SL.Sem

/-- The reference's result array, read off the arguments of a run that agree with the kernel's. -/
theorem reference_result (m : (ℓ : Loc Kernel2Ideal.nD Kernel2Ideal.τ Kernel2Ideal.sig) → Buf (Elt Ideal) ℓ) (c : Dev Kernel2Ideal.nD) :
    Reference2Ideal.Read.val_main_v86 (F := Ideal)
      (m ((c.tc : Thread Kernel2Ideal.nD Kernel2Ideal.τ).loc Kernel2Ideal.main_arg0))
      (m ((c.tc : Thread Kernel2Ideal.nD Kernel2Ideal.τ).loc Kernel2Ideal.main_arg1))
      (m ((c.tc : Thread Kernel2Ideal.nD Kernel2Ideal.τ).loc Kernel2Ideal.main_arg2))
      (m ((c.tc : Thread Kernel2Ideal.nD Kernel2Ideal.τ).loc Kernel2Ideal.main_arg3))
      (m ((c.tc : Thread Kernel2Ideal.nD Kernel2Ideal.τ).loc Kernel2Ideal.main_arg4))
      (m ((c.tc : Thread Kernel2Ideal.nD Kernel2Ideal.τ).loc Kernel2Ideal.main_arg5))
      (m ((c.tc : Thread Kernel2Ideal.nD Kernel2Ideal.τ).loc Kernel2Ideal.main_arg6))
      (m ((c.tc : Thread Kernel2Ideal.nD Kernel2Ideal.τ).loc Kernel2Ideal.main_arg7))
      (m ((c.tc : Thread Kernel2Ideal.nD Kernel2Ideal.τ).loc Kernel2Ideal.main_arg8))
      (m ((c.tc : Thread Kernel2Ideal.nD Kernel2Ideal.τ).loc Kernel2Ideal.main_arg9))
      (m ((c.tc : Thread Kernel2Ideal.nD Kernel2Ideal.τ).loc Kernel2Ideal.main_arg10))
      (m ((c.tc : Thread Kernel2Ideal.nD Kernel2Ideal.τ).loc Kernel2Ideal.main_arg11))
      (m ((c.tc : Thread Kernel2Ideal.nD Kernel2Ideal.τ).loc Kernel2Ideal.main_arg12))
      (m ((c.tc : Thread Kernel2Ideal.nD Kernel2Ideal.τ).loc Kernel2Ideal.main_arg13))
      (m ((c.tc : Thread Kernel2Ideal.nD Kernel2Ideal.τ).loc Kernel2Ideal.main_arg14))
    = Kernel2Ideal.Rows.resArr m c := by
  funext i
  obtain ⟨b, l, n, rfl⟩ : ∃ (b : Fin 8) (l : Fin 8192) (n : Fin 1024), i = (ix3 b l n : Kernel2Ideal.S8x8192x1024.Idx) :=
    ⟨i 0, i 1, i 2, by funext a; match a with | ⟨0, _⟩ => rfl | ⟨1, _⟩ => rfl | ⟨2, _⟩ => rfl⟩
  exact Reference2Ideal.Rows.v86_apply _ _ _ _ _ _ _ _ _ _ _ _ _ _ _ b l n

theorem algebraic : Cert.algebraic_Kernel2Ideal_Reference2Ideal (hKernel2Ideal := Cert.Kernel2Ideal.Gen.facts)
    (hReference2Ideal := Cert.Reference2Ideal.Gen.facts) := by
  intro m ρ m' ρ' _ hagree
  refine ⟨Kernel2Ideal.Rows.resArr m, ?_, ?_⟩
  · exact (θ_run _ _ _).mono (fun r h c => ⟨(h c).1.trans (Kernel2Ideal.Rows.final15 m c), (h c).2⟩)
      (Kernel2Ideal.Value.run_blocks m ρ)
  · refine (θ_run _ _ _).mono (fun r h c => ⟨?_, (h c).2⟩) (Reference2Ideal.Value.run m' ρ')
    obtain ⟨e0, e1, e2, e3, e4, e5, e6, e7, e8, e9, e10, e11, e12, e13, e14⟩ := hagree c
    refine (h c).1.trans ((Reference2Ideal.Read.val_main_v86_eq (StableHlo.launchContents m' c)).trans ?_)
    have e := reference_result m c
    rw [← e0, ← e1, ← e2, ← e3, ← e4, ← e5, ← e6, ← e7, ← e8, ← e9, ← e10, ← e11, ← e12, ← e13, ← e14] at e
    exact e

/-- The reference's run leaves its arguments as launched, and declares no semaphore. -/
theorem reference_frame : Cert.quiescent_Reference2Ideal (hReference2Ideal := Cert.Reference2Ideal.Gen.facts) :=
  fun m ρ _ => (θ_run _ _ _).mono (fun r h => ⟨fun c => (h c).2, sem_eq_zero_of_no_sems (by decide) r.2⟩) (Reference2Ideal.Value.run m ρ)

end Cert.Proof.Mix

end
-- ==== Proof.ProjectionRows.lean ====
/- One grid point of the input projection: what its body leaves in each of its twelve output blocks is, index by index, the
   modulated row times a column of the input weights. -/
module

public import proofs.«01_k».proof.Proof.RowSpec
public import proofs.«01_k».proof.Proof.Gen.Kernel3Ideal.Value
public import Idealize.ShloMosaic.Lib.Pipeline.Value

@[expose] public section

set_option maxRecDepth 16384

noncomputable section

namespace Cert.Row

open Idealize.ShloMosaic

/-- A row times column `n` of the input weights. -/
def project (h : Fin 1024 → EReal) (w : Fin 1024 → Fin 3672 → EReal) (n : Fin 3672) : EReal := ∑ k, h k * w k n

/-- Column `off + n` of a run of columns. -/
abbrev cols (h : Fin 1024 → EReal) (w : Fin 1024 → Fin 3672 → EReal) (off : ℕ) {N : ℕ} (ho : off + N ≤ 3672) (n : Fin N) : EReal :=
  project h w ⟨off + n, by omega⟩

/-- The small products side by side, then zeros: index key, index weights, gate rank. -/
def misc (h : Fin 1024 → EReal) (w : Fin 1024 → Fin 3672 → EReal) (j : Fin 128) : EReal :=
  if _ : j.val < 64 then project h w ⟨2048 + j, by omega⟩
  else if _ : j.val - 64 < 8 then project h w ⟨2112 + (j - 64), by omega⟩
  else if _ : j.val - 64 - 8 < 16 then project h w ⟨3656 + (j - 64 - 8), by omega⟩ else 0

/-- The columns that `misc` multiplies by. -/
def miscWeight (w : Fin 1024 → Fin 3672 → EReal) (k : Fin 1024) (j : Fin 128) : EReal :=
  if _ : j.val < 64 then w k ⟨2048 + j, by omega⟩
  else if _ : j.val - 64 < 8 then w k ⟨2112 + (j - 64), by omega⟩
  else if _ : j.val - 64 - 8 < 16 then w k ⟨3656 + (j - 64 - 8), by omega⟩ else 0

theorem sum_miscWeight (h : Fin 1024 → EReal) (w : Fin 1024 → Fin 3672 → EReal) (j : Fin 128) :
    ∑ k, h k * miscWeight w k j = misc h w j := by
  unfold miscWeight misc project
  split_ifs <;> simp only [mul_zero, Finset.sum_const_zero]

theorem misc_lo (h : Fin 1024 → EReal) (w : Fin 1024 → Fin 3672 → EReal) (j : Fin 64) :
    misc h w ⟨j, by omega⟩ = project h w ⟨2048 + j, by omega⟩ := dif_pos j.isLt

/-- What the scores' scale, 128 ^ -1/2 · log2 e, is as its f32 word. -/
abbrev qScale : EReal := Ideal.ofBits .f32 0x3E0293EE#32

end Cert.Row

namespace Cert.Kernel3Ideal.Rows

open Idealize.ShloMosaic Cert.Kernel3Ideal Cert.Kernel3Ideal.Gen Cert.Row

/-! The arrays the host lays the input weights out in, and what they hold at an index. -/

/-- The columns of the keys. -/
def wKey (w : FVec Ideal S1024x3672 .f32) : FVec Ideal S1024x512 .bf16 :=
  truncf .bf16 (extractStridedSlice S1024x512 ![0, 512] w slices_S1024x3672_S1024x512_0_512 : FVec Ideal S1024x512 .f32) bitsLt_bf16_f32

/-- The small columns side by side, padded with zero columns. -/
def wMisc (w : FVec Ideal S1024x3672 .f32) : FVec Ideal S1024x128 .bf16 :=
  truncf .bf16 (concatenate S1024x128 1 [⟨S1024x64, extractStridedSlice S1024x64 ![0, 2048] w slices_S1024x3672_S1024x64_0_2048⟩,
    ⟨S1024x8, extractStridedSlice S1024x8 ![0, 2112] w slices_S1024x3672_S1024x8_0_2112⟩,
    ⟨S1024x16, extractStridedSlice S1024x16 ![0, 3656] w slices_S1024x3672_S1024x16_0_3656⟩,
    ⟨S1024x40, (broadcastInDim S1024x40 ![] bcast_S_S1024x40 (constant S_ .f32 0x00000000#32) : FVec Ideal S1024x40 .f32)⟩]
    concatenates_S1024x64_S1024x8_S1024x16_S1024x40_S1024x128_d1 : FVec Ideal S1024x128 .f32) bitsLt_bf16_f32

/-- The columns of the linear attention side by side. -/
def wGla (w : FVec Ideal S1024x3672 .f32) : FVec Ideal S1024x1536 .bf16 :=
  truncf .bf16 (concatenate S1024x1536 1 [⟨S1024x256, extractStridedSlice S1024x256 ![0, 2120] w slices_S1024x3672_S1024x256_0_2120⟩,
    ⟨S1024x256, extractStridedSlice S1024x256 ![0, 2376] w slices_S1024x3672_S1024x256_0_2376⟩,
    ⟨S1024x512, extractStridedSlice S1024x512 ![0, 2632] w slices_S1024x3672_S1024x512_0_2632⟩,
    ⟨S1024x512, extractStridedSlice S1024x512 ![0, 3144] w slices_S1024x3672_S1024x512_0_3144⟩]
    concatenates_S1024x256_S1024x256_S1024x512_S1024x512_S1024x1536_d1 : FVec Ideal S1024x1536 .f32) bitsLt_bf16_f32

/-- The columns whose products are stored feature by feature, as rows. -/
def wFeat (w : FVec Ideal S1024x3672 .f32) : FVec Ideal S2176x1024 .bf16 :=
  truncf .bf16 (transpose S2176x1024 [1, 0] (concatenate S1024x2176 1
    [⟨S1024x512, extractStridedSlice S1024x512 ![0, 0] w slices_S1024x3672_S1024x512_0_0⟩,
    ⟨S1024x512, extractStridedSlice S1024x512 ![0, 1536] w slices_S1024x3672_S1024x512_0_1536⟩,
    ⟨S1024x512, extractStridedSlice S1024x512 ![0, 1024] w slices_S1024x3672_S1024x512_0_1024⟩,
    ⟨S1024x512, extractStridedSlice S1024x512 ![0, 2632] w slices_S1024x3672_S1024x512_0_2632⟩,
    ⟨S1024x128, extf .f32 (wMisc w) bitsLt_bf16_f32⟩]
    concatenates_S1024x512_S1024x512_S1024x512_S1024x512_S1024x128_S1024x2176_d1 : FVec Ideal S1024x2176 .f32)
    transposes_S1024x2176_S2176x1024_1_0) bitsLt_bf16_f32

variable (w : FVec Ideal S1024x3672 .f32) (k : Fin 1024)

theorem wKey_apply (n : Fin 512) : wKey w (ix2 k n) = w (ix2 k ⟨512 + n, by omega⟩) := by
  pointwise [wKey]

theorem wMisc_apply (n : Fin 128) : wMisc w (ix2 k n) = miscWeight (fun k n => w (ix2 k n)) k n := by
  pointwise [wMisc]
  rfl

theorem wGla_q (n : Fin 256) : wGla w (ix2 k ⟨n, by omega⟩) = w (ix2 k ⟨2120 + n, by omega⟩) := by
  pointwise [wGla]

theorem wGla_k (n : Fin 256) : wGla w (ix2 k ⟨256 + n, by omega⟩) = w (ix2 k ⟨2376 + n, by omega⟩) := by
  pointwise [wGla]

theorem wGla_v (n : Fin 512) : wGla w (ix2 k ⟨512 + n, by omega⟩) = w (ix2 k ⟨2632 + n, by omega⟩) := by
  pointwise [wGla]
  split_ifs <;> first | omega | exact congrArg (fun j => w (ix2 k j)) (Fin.ext (by dsimp only; omega))

theorem wGla_o (n : Fin 512) : wGla w (ix2 k ⟨1024 + n, by omega⟩) = w (ix2 k ⟨3144 + n, by omega⟩) := by
  pointwise [wGla]
  split_ifs <;> first | omega | exact congrArg (fun j => w (ix2 k j)) (Fin.ext (by dsimp only; omega))

theorem wFeat_q (n : Fin 512) : wFeat w (ix2 ⟨n, by omega⟩ k) = w (ix2 k ⟨0 + n, by omega⟩) := by
  pointwise [wFeat]

theorem wFeat_qi (n : Fin 512) : wFeat w (ix2 ⟨512 + n, by omega⟩ k) = w (ix2 k ⟨1536 + n, by omega⟩) := by
  pointwise [wFeat]

theorem wFeat_v (n : Fin 512) : wFeat w (ix2 ⟨1024 + n, by omega⟩ k) = w (ix2 k ⟨1024 + n, by omega⟩) := by
  pointwise [wFeat]
  split_ifs <;> first | omega | exact congrArg (fun j => w (ix2 k j)) (Fin.ext (by dsimp only; omega))

theorem wFeat_gv (n : Fin 512) : wFeat w (ix2 ⟨1536 + n, by omega⟩ k) = w (ix2 k ⟨2632 + n, by omega⟩) := by
  pointwise [wFeat]
  split_ifs <;> first | omega | exact congrArg (fun j => w (ix2 k j)) (Fin.ext (by dsimp only; omega))

theorem wFeat_misc (n : Fin 128) : wFeat w (ix2 ⟨2048 + n, by omega⟩ k) = miscWeight (fun k n => w (ix2 k n)) k n := by
  rw [← wMisc_apply]
  pointwise [wFeat]
  split_ifs <;> first | omega | exact congrArg (fun j => wMisc w (ix2 k j)) (Fin.ext (by dsimp only; omega))

/-! The body. -/

variable (x0 : Vec Ideal S1x512x1024 .f32) (x1 x2 : Vec Ideal S1x1x1024 .f32) (x3 : Vec Ideal S1x1024 .f32)
  (x4 : Vec Ideal S1024x512 .bf16) (x5 : Vec Ideal S1024x128 .bf16) (x6 : Vec Ideal S1024x1536 .bf16) (x7 : Vec Ideal S2176x1024 .bf16)

/-- Row `r` of the tile, normalised and modulated. -/
abbrev hidden (r : Fin 512) : Fin 1024 → EReal :=
  modulated (fun j => x0 (ix3 0 r j)) (fun j => x3 (ix2 0 j)) (fun j => x1 (ix3 0 0 j)) (fun j => x2 (ix3 0 0 j))

theorem hidden_apply (r : Fin 512) (k : Fin 1024) :
    k0_pay7 (View.ld x0 r0_0) (View.ld x3 r0_1) (View.ld x1 r0_2) (View.ld x2 r0_2) (ix2 r k) = hidden x0 x1 x2 x3 r k := by
  pointwise [k0_pay7]
  rfl

theorem zero2 : ![0, 0] = fun _ : Fin 2 => 0 := by decide
theorem zero3 : ![0, 0, 0] = fun _ : Fin 3 => 0 := by decide

theorem out8_apply (r : Fin 512) (n : Fin 512) :
    out0_8 x0 x1 x2 x3 x4 x5 x6 (wFeat w) (ix3 0 n r) = cols (hidden x0 x1 x2 x3 r) (fun k n => w (ix2 k n)) 0 (by decide) n * qScale := by
  unfold out0_8
  rw [View.canon_unit_zero (S := S1x512x512) zero3, View.ld_unit_zero (S := S2176x1024) zero2]
  pointwise [k0_pay2, k0_pay1, k0_pay17]
  simp only [hidden_apply, wFeat_q, mul_comm _ (hidden x0 x1 x2 x3 r _)]
  rfl

theorem out9_apply (r : Fin 512) (n : Fin 512) :
    out0_9 x0 x1 x2 x3 (wKey w) x5 x6 x7 (ix3 0 r n) = cols (hidden x0 x1 x2 x3 r) (fun k n => w (ix2 k n)) 512 (by decide) n := by
  unfold out0_9
  rw [View.canon_unit_zero (S := S1x512x512) zero3, View.ld_unit_zero (S := S1024x512) zero2]
  pointwise [k0_pay8, k0_pay17]
  simp only [hidden_apply, wKey_apply]
  rfl

theorem out10_apply (r : Fin 512) (n : Fin 512) :
    out0_10 x0 x1 x2 x3 x4 x5 x6 (wFeat w) (ix3 0 n r) = cols (hidden x0 x1 x2 x3 r) (fun k n => w (ix2 k n)) 1536 (by decide) n := by
  unfold out0_10
  rw [View.canon_unit_zero (S := S1x512x512) zero3, View.ld_unit_zero (S := S2176x1024) zero2]
  pointwise [k0_pay3, k0_pay1, k0_pay17]
  simp only [hidden_apply, wFeat_qi, mul_comm _ (hidden x0 x1 x2 x3 r _)]
  rfl

theorem out11_apply (r : Fin 512) (n : Fin 128) :
    out0_11 x0 x1 x2 x3 x4 (wMisc w) x6 x7 (ix3 0 r n) = misc (hidden x0 x1 x2 x3 r) (fun k n => w (ix2 k n)) n := by
  unfold out0_11
  rw [View.canon_unit_zero (S := S1x512x128) zero3, View.ld_unit_zero (S := S1024x128) zero2]
  pointwise [k0_pay10, k0_pay9, k0_pay17]
  simp only [hidden_apply, wMisc_apply, sum_miscWeight]

theorem out12_apply (r : Fin 512) (n : Fin 64) :
    out0_12 x0 x1 x2 x3 x4 (wMisc w) x6 x7 (ix3 0 r n) = cols (hidden x0 x1 x2 x3 r) (fun k n => w (ix2 k n)) 2048 (by decide) n := by
  unfold out0_12
  rw [View.canon_unit_zero (S := S1x512x64) zero3, View.ld_unit_zero (S := S1024x128) zero2]
  pointwise [k0_pay11, k0_pay9, k0_pay17]
  simp only [hidden_apply, wMisc_apply, sum_miscWeight]
  exact misc_lo _ _ n

theorem out13_apply (r : Fin 512) (n : Fin 256) :
    out0_13 x0 x1 x2 x3 x4 x5 (wGla w) x7 (ix3 0 r n) = cols (hidden x0 x1 x2 x3 r) (fun k n => w (ix2 k n)) 2120 (by decide) n := by
  unfold out0_13
  rw [View.canon_unit_zero (S := S1x512x256) zero3, View.ld_unit_zero (S := S1024x1536) zero2]
  pointwise [k0_pay13, k0_pay12, k0_pay17]
  simp only [hidden_apply, wGla_q]
  rfl

theorem out14_apply (r : Fin 512) (n : Fin 256) :
    out0_14 x0 x1 x2 x3 x4 x5 (wGla w) x7 (ix3 0 r n) = cols (hidden x0 x1 x2 x3 r) (fun k n => w (ix2 k n)) 2376 (by decide) n := by
  unfold out0_14
  rw [View.canon_unit_zero (S := S1x512x256) zero3, View.ld_unit_zero (S := S1024x1536) zero2]
  pointwise [k0_pay14, k0_pay12, k0_pay17]
  simp only [hidden_apply, wGla_k]
  rfl

theorem out15_apply (r : Fin 512) (n : Fin 512) :
    out0_15 x0 x1 x2 x3 x4 x5 (wGla w) x7 (ix3 0 r n) = cols (hidden x0 x1 x2 x3 r) (fun k n => w (ix2 k n)) 2632 (by decide) n := by
  unfold out0_15
  rw [View.canon_unit_zero (S := S1x512x512) zero3, View.ld_unit_zero (S := S1024x1536) zero2]
  pointwise [k0_pay15, k0_pay12, k0_pay17]
  simp only [hidden_apply, wGla_v]
  rfl

theorem out16_apply (r : Fin 512) (n : Fin 512) :
    out0_16 x0 x1 x2 x3 x4 x5 (wGla w) x7 (ix3 0 r n) = cols (hidden x0 x1 x2 x3 r) (fun k n => w (ix2 k n)) 3144 (by decide) n := by
  unfold out0_16
  rw [View.canon_unit_zero (S := S1x512x512) zero3, View.ld_unit_zero (S := S1024x1536) zero2]
  pointwise [k0_pay16, k0_pay12, k0_pay17]
  simp only [hidden_apply, wGla_o]
  rfl

theorem out17_apply (r : Fin 512) (n : Fin 512) :
    out0_17 x0 x1 x2 x3 x4 x5 x6 (wFeat w) (ix3 0 n r) = cols (hidden x0 x1 x2 x3 r) (fun k n => w (ix2 k n)) 1024 (by decide) n := by
  unfold out0_17
  rw [View.canon_unit_zero (S := S1x512x512) zero3, View.ld_unit_zero (S := S2176x1024) zero2]
  pointwise [k0_pay4, k0_pay1, k0_pay17]
  simp only [hidden_apply, wFeat_v, mul_comm _ (hidden x0 x1 x2 x3 r _)]
  rfl

theorem out18_apply (r : Fin 512) (n : Fin 512) :
    out0_18 x0 x1 x2 x3 x4 x5 x6 (wFeat w) (ix3 0 n r) = cols (hidden x0 x1 x2 x3 r) (fun k n => w (ix2 k n)) 2632 (by decide) n := by
  unfold out0_18
  rw [View.canon_unit_zero (S := S1x512x512) zero3, View.ld_unit_zero (S := S2176x1024) zero2]
  pointwise [k0_pay5, k0_pay1, k0_pay17]
  simp only [hidden_apply, wFeat_gv, mul_comm _ (hidden x0 x1 x2 x3 r _)]
  rfl

theorem out19_apply (r : Fin 512) (n : Fin 128) :
    out0_19 x0 x1 x2 x3 x4 x5 x6 (wFeat w) (ix3 0 n r) = misc (hidden x0 x1 x2 x3 r) (fun k n => w (ix2 k n)) n := by
  unfold out0_19
  rw [View.canon_unit_zero (S := S1x128x512) zero3, View.ld_unit_zero (S := S2176x1024) zero2]
  pointwise [k0_pay6, k0_pay1, k0_pay17]
  simp only [hidden_apply, wFeat_misc, sum_miscWeight, mul_comm _ (hidden x0 x1 x2 x3 r _)]

end Cert.Kernel3Ideal.Rows

end
-- ==== Proof.ProjectionArray.lean ====
/- The arrays the input projection leaves: each of its twelve results as one function of the call's arguments, index by index. -/
module

public import proofs.«01_k».proof.Proof.ProjectionRows
public import Idealize.ShloMosaic.Lib.Pipeline.ValueKit.Geometry

@[expose] public section

set_option maxRecDepth 16384

noncomputable section

namespace Cert.Kernel3Ideal.Rows

open Idealize.ShloMosaic Idealize.ShloMosaic.TcCoe Idealize.SL.Sem Cert.Kernel3Ideal Cert.Kernel3Ideal.Gen Cert.Kernel3Ideal.Value Cert.Row

theorem dropAxis (x : FVec Ideal S1x1024x3672 .f32) (k : Fin 1024) (n : Fin 3672) :
    shapeCast S1024x3672 x shapeCasts_S1x1024x3672_S1024x3672 (ix2 k n) = x (ix3 0 k n) := by
  pointwise []

variable (m : (ℓ : Loc nD τ sig) → Buf (Elt Ideal) ℓ) (c : Dev nD)

/-! What the host hands the call. -/

/-- The input weights without their leading axis. -/
abbrev wIn : FVec Ideal S1024x3672 .f32 :=
  shapeCast S1024x3672 (m ((c : Thread nD τ).loc main_arg4) : FVec Ideal S1x1024x3672 .f32) shapeCasts_S1x1024x3672_S1024x3672

theorem wIn_apply (k : Fin 1024) (n : Fin 3672) : wIn m c (ix2 k n) = m ((c : Thread nD τ).loc main_arg4) (ix3 0 k n) :=
  dropAxis _ k n

theorem V_v0 (b : Fin 8) (k : Fin 1024) : V m c main_v0 (ix3 b 0 k) = m ((c : Thread nD τ).loc main_arg1) (ix2 b k) := by
  unfold_abbrev_sides
  after_results
  pointwise []

theorem V_v1 (b : Fin 8) (k : Fin 1024) : V m c main_v1 (ix3 b 0 k) = m ((c : Thread nD τ).loc main_arg2) (ix2 b k) := by
  unfold_abbrev_sides
  after_results
  pointwise []

theorem V_v3 (k : Fin 1024) : V m c main_v3 (ix2 0 k) = m ((c : Thread nD τ).loc main_arg3) (ix2 0 k) := by
  unfold_abbrev_sides
  after_results
  pointwise []

theorem V_v6 : V m c main_v6 = wKey (wIn m c) := by
  unfold V
  after_results_simp
  rfl

theorem V_v12 : V m c main_v12 = wMisc (wIn m c) := by
  unfold V
  after_results_simp <;> (try dsimp only [Matrix.cons_val]) <;> (try after_results_simp) <;> rfl

theorem V_v18 : V m c main_v18 = wGla (wIn m c) := by
  unfold V
  after_results_simp <;> (try dsimp only [Matrix.cons_val]) <;> (try after_results_simp) <;> rfl

theorem V_v26 : V m c main_v26 = wFeat (wIn m c) := by
  unfold V
  after_results_simp <;> (try dsimp only [Matrix.cons_val]) <;> (try after_results_simp) <;>
    (try dsimp only [Matrix.cons_val]) <;> (try after_results_simp) <;> rfl

/-! The blocks of a grid point: batch `t / 16`, rows `512 · (t % 16) …`. -/

theorem idx_in : ∀ t : Fin cfg0.N,
    (win0_0.index t 0 = t.val / 16 ∧ win0_0.index t 1 = t.val % 16 ∧ win0_0.index t 2 = 0)
    ∧ (win0_1.index t 0 = t.val / 16 ∧ win0_1.index t 1 = 0 ∧ win0_1.index t 2 = 0)
    ∧ (win0_2.index t 0 = t.val / 16 ∧ win0_2.index t 1 = 0 ∧ win0_2.index t 2 = 0)
    ∧ (win0_3.index t 0 = 0 ∧ win0_3.index t 1 = 0) ∧ (win0_4.index t 0 = 0 ∧ win0_4.index t 1 = 0)
    ∧ (win0_5.index t 0 = 0 ∧ win0_5.index t 1 = 0) ∧ (win0_6.index t 0 = 0 ∧ win0_6.index t 1 = 0)
    ∧ (win0_7.index t 0 = 0 ∧ win0_7.index t 1 = 0) :=
  (by decide +kernel : ∀ t : Fin grid0.N, _)

theorem idx_rows : ∀ t : Fin cfg0.N,
    (win0_9.index t 0 = t.val / 16 ∧ win0_9.index t 1 = t.val % 16 ∧ win0_9.index t 2 = 0)
    ∧ (win0_11.index t 0 = t.val / 16 ∧ win0_11.index t 1 = t.val % 16 ∧ win0_11.index t 2 = 0)
    ∧ (win0_12.index t 0 = t.val / 16 ∧ win0_12.index t 1 = t.val % 16 ∧ win0_12.index t 2 = 0)
    ∧ (win0_13.index t 0 = t.val / 16 ∧ win0_13.index t 1 = t.val % 16 ∧ win0_13.index t 2 = 0)
    ∧ (win0_14.index t 0 = t.val / 16 ∧ win0_14.index t 1 = t.val % 16 ∧ win0_14.index t 2 = 0)
    ∧ (win0_15.index t 0 = t.val / 16 ∧ win0_15.index t 1 = t.val % 16 ∧ win0_15.index t 2 = 0)
    ∧ (win0_16.index t 0 = t.val / 16 ∧ win0_16.index t 1 = t.val % 16 ∧ win0_16.index t 2 = 0) :=
  (by decide +kernel : ∀ t : Fin grid0.N, _)

theorem idx_feats : ∀ t : Fin cfg0.N,
    (win0_8.index t 0 = t.val / 16 ∧ win0_8.index t 1 = 0 ∧ win0_8.index t 2 = t.val % 16)
    ∧ (win0_10.index t 0 = t.val / 16 ∧ win0_10.index t 1 = 0 ∧ win0_10.index t 2 = t.val % 16)
    ∧ (win0_17.index t 0 = t.val / 16 ∧ win0_17.index t 1 = 0 ∧ win0_17.index t 2 = t.val % 16)
    ∧ (win0_18.index t 0 = t.val / 16 ∧ win0_18.index t 1 = 0 ∧ win0_18.index t 2 = t.val % 16)
    ∧ (win0_19.index t 0 = t.val / 16 ∧ win0_19.index t 1 = 0 ∧ win0_19.index t 2 = t.val % 16) :=
  (by decide +kernel : ∀ t : Fin grid0.N, _)

abbrev batch (t : Fin cfg0.N) : Fin 8 := ⟨t.val / 16, by have h : t.val < 128 := t.isLt; omega⟩

abbrev row (t : Fin cfg0.N) (r : Fin 512) : Fin 8192 := ⟨512 * (t.val % 16) + r.val, by omega⟩

/-- What a grid point writes at row `r` is what the array holds at the index that row has. -/
theorem at_row {N : ℕ} (f : Fin 8 → Fin 8192 → Fin N → EReal) (t : Fin cfg0.N) (r : Fin 512) (n : Fin N) (b : Fin 8) (l : Fin 8192) (n' : Fin N)
    (hb : b.val = t.val / 16) (hl : l.val = 512 * (t.val % 16) + r.val) (hn : n'.val = n.val) :
    f (batch t) (row t r) n = f b l n' := by
  rw [show b = batch t from Fin.ext hb, show l = row t r from Fin.ext hl, show n' = n from Fin.ext hn]

theorem blk0_apply (t : Fin cfg0.N) (r : Fin 512) (k : Fin 1024) :
    (iblk m c 0 t : Vec Ideal S1x512x1024 .f32) (ix3 0 r k) = m ((c : Thread nD τ).loc main_arg0) (ix3 (batch t) (row t r) k) := by
  have e := idx_in t
  rw [← V_main_arg0 m c]
  show V m c main_arg0 (((cfg0.win 0).blk t).view.emb (ix3 0 r k)) = _
  congr 1; funext a; apply Fin.ext
  match a with
  | ⟨0, _⟩ => show win0_0.index t 0 * 1 + 1 * 0 = t.val / 16; omega
  | ⟨1, _⟩ => show win0_0.index t 1 * 512 + 1 * r.val = 512 * (t.val % 16) + r.val; omega
  | ⟨2, _⟩ => show win0_0.index t 2 * 1024 + 1 * k.val = k.val; omega

theorem blk1_apply (t : Fin cfg0.N) (k : Fin 1024) :
    (iblk m c 1 t : Vec Ideal S1x1x1024 .f32) (ix3 0 0 k) = m ((c : Thread nD τ).loc main_arg2) (ix2 (batch t) k) := by
  have e := idx_in t
  rw [← V_v1 m c]
  show V m c main_v1 (((cfg0.win 1).blk t).view.emb (ix3 0 0 k)) = _
  congr 1; funext a; apply Fin.ext
  match a with
  | ⟨0, _⟩ => show win0_1.index t 0 * 1 + 1 * 0 = t.val / 16; omega
  | ⟨1, _⟩ => show win0_1.index t 1 * 1 + 1 * 0 = 0; omega
  | ⟨2, _⟩ => show win0_1.index t 2 * 1024 + 1 * k.val = k.val; omega

theorem blk2_apply (t : Fin cfg0.N) (k : Fin 1024) :
    (iblk m c 2 t : Vec Ideal S1x1x1024 .f32) (ix3 0 0 k) = m ((c : Thread nD τ).loc main_arg1) (ix2 (batch t) k) := by
  have e := idx_in t
  rw [← V_v0 m c]
  show V m c main_v0 (((cfg0.win 2).blk t).view.emb (ix3 0 0 k)) = _
  congr 1; funext a; apply Fin.ext
  match a with
  | ⟨0, _⟩ => show win0_2.index t 0 * 1 + 1 * 0 = t.val / 16; omega
  | ⟨1, _⟩ => show win0_2.index t 1 * 1 + 1 * 0 = 0; omega
  | ⟨2, _⟩ => show win0_2.index t 2 * 1024 + 1 * k.val = k.val; omega

theorem blk3_apply (t : Fin cfg0.N) (k : Fin 1024) :
    (iblk m c 3 t : Vec Ideal S1x1024 .f32) (ix2 0 k) = m ((c : Thread nD τ).loc main_arg3) (ix2 0 k) := by
  have e := idx_in t
  rw [← V_v3 m c]
  show V m c main_v3 (((cfg0.win 3).blk t).view.emb (ix2 0 k)) = _
  congr 1; funext a; apply Fin.ext
  match a with
  | ⟨0, _⟩ => show win0_3.index t 0 * 1 + 1 * 0 = 0; omega
  | ⟨1, _⟩ => show win0_3.index t 1 * 1024 + 1 * k.val = k.val; omega

theorem blk4_eq (t : Fin cfg0.N) : (iblk m c 4 t : Vec Ideal S1024x512 .bf16) = wKey (wIn m c) := by
  have e := idx_in t
  rw [← V_v6 m c]
  funext y
  show V m c main_v6 (((cfg0.win 4).blk t).view.emb y) = _
  congr 1; funext a; apply Fin.ext
  match a with
  | ⟨0, _⟩ => show win0_4.index t 0 * 1024 + 1 * (y 0).val = (y 0).val; omega
  | ⟨1, _⟩ => show win0_4.index t 1 * 512 + 1 * (y 1).val = (y 1).val; omega

theorem blk5_eq (t : Fin cfg0.N) : (iblk m c 5 t : Vec Ideal S1024x128 .bf16) = wMisc (wIn m c) := by
  have e := idx_in t
  rw [← V_v12 m c]
  funext y
  show V m c main_v12 (((cfg0.win 5).blk t).view.emb y) = _
  congr 1; funext a; apply Fin.ext
  match a with
  | ⟨0, _⟩ => show win0_5.index t 0 * 1024 + 1 * (y 0).val = (y 0).val; omega
  | ⟨1, _⟩ => show win0_5.index t 1 * 128 + 1 * (y 1).val = (y 1).val; omega

theorem blk6_eq (t : Fin cfg0.N) : (iblk m c 6 t : Vec Ideal S1024x1536 .bf16) = wGla (wIn m c) := by
  have e := idx_in t
  rw [← V_v18 m c]
  funext y
  show V m c main_v18 (((cfg0.win 6).blk t).view.emb y) = _
  congr 1; funext a; apply Fin.ext
  match a with
  | ⟨0, _⟩ => show win0_6.index t 0 * 1024 + 1 * (y 0).val = (y 0).val; omega
  | ⟨1, _⟩ => show win0_6.index t 1 * 1536 + 1 * (y 1).val = (y 1).val; omega

theorem blk7_eq (t : Fin cfg0.N) : (iblk m c 7 t : Vec Ideal S2176x1024 .bf16) = wFeat (wIn m c) := by
  have e := idx_in t
  rw [← V_v26 m c]
  funext y
  show V m c main_v26 (((cfg0.win 7).blk t).view.emb y) = _
  congr 1; funext a; apply Fin.ext
  match a with
  | ⟨0, _⟩ => show win0_7.index t 0 * 2176 + 1 * (y 0).val = (y 0).val; omega
  | ⟨1, _⟩ => show win0_7.index t 1 * 1024 + 1 * (y 1).val = (y 1).val; omega

/-! The results, index by index. -/

/-- Row `l` of batch `b`, normalised and modulated. -/
abbrev hid (b : Fin 8) (l : Fin 8192) : Fin 1024 → EReal :=
  modulated (fun k => m ((c : Thread nD τ).loc main_arg0) (ix3 b l k)) (fun k => m ((c : Thread nD τ).loc main_arg3) (ix2 0 k))
    (fun k => m ((c : Thread nD τ).loc main_arg2) (ix2 b k)) (fun k => m ((c : Thread nD τ).loc main_arg1) (ix2 b k))

/-- The input weights. -/
abbrev wts (k : Fin 1024) (n : Fin 3672) : EReal := m ((c : Thread nD τ).loc main_arg4) (ix3 0 k n)

theorem hidden_blk (t : Fin cfg0.N) (r : Fin 512) :
    hidden (iblk m c 0 t) (iblk m c 1 t) (iblk m c 2 t) (iblk m c 3 t) r = hid m c (batch t) (row t r) := by
  simp only [hidden, blk0_apply, blk1_apply, blk2_apply, blk3_apply]

theorem wts_eq : (fun k n => wIn m c (ix2 k n)) = wts m c := by
  funext k n
  exact wIn_apply m c k n

abbrev q (b : Fin 8) (l : Fin 8192) (n : Fin 512) : EReal := cols (hid m c b l) (wts m c) 0 (by decide) n * qScale

abbrev qArr : Buf (Elt Ideal) ((c : Thread nD τ).loc main_v27_0) := fun i : S8x512x8192.Idx => q m c (i 0) (i 2) (i 1)

theorem covers8 : (cfg0.win 8).Covers := by decide +kernel

theorem after8 (t : Fin cfg0.N) (y : S1x512x512.Idx) :
    out0_8 (iblk m c 0 t) (iblk m c 1 t) (iblk m c 2 t) (iblk m c 3 t) (iblk m c 4 t) (iblk m c 5 t) (iblk m c 6 t) (iblk m c 7 t) y
      = qArr m c (((cfg0.win 8).blk t).view.emb y) := by
  have e := idx_feats t
  obtain ⟨r, n, rfl⟩ : ∃ (r : Fin 512) (n : Fin 512), y = (ix3 0 n r : S1x512x512.Idx) :=
    ⟨y 2, y 1, by funext a; match a with | ⟨0, _⟩ => exact Subsingleton.elim (α := Fin 1) _ _ | ⟨1, _⟩ => rfl | ⟨2, _⟩ => rfl⟩
  rw [blk7_eq, out8_apply, hidden_blk, wts_eq]
  exact at_row (q m c) t r n _ _ _ (by show win0_8.index t 0 * 1 + 1 * 0 = _; omega)
    (by show win0_8.index t 2 * 512 + 1 * r.val = _; omega) (by show win0_8.index t 1 * 512 + 1 * n.val = _; omega)

theorem final8 : (dats m 0 c).arrAt 8 cfg0.N = qArr m c :=
  (dats m 0 c).arrAt_eq_of_cover 8 (qArr m c) (fun t _ => (flushed8 m c t).trans (funext fun y => after8 m c t y))
    (covers8.cover _ (Memref.isWhole_whole _))

abbrev key (b : Fin 8) (l : Fin 8192) (n : Fin 512) : EReal := cols (hid m c b l) (wts m c) 512 (by decide) n

abbrev keyArr : Buf (Elt Ideal) ((c : Thread nD τ).loc main_v27_1) := fun i : S8x8192x512.Idx => key m c (i 0) (i 1) (i 2)

theorem covers9 : (cfg0.win 9).Covers := by decide +kernel

theorem after9 (t : Fin cfg0.N) (y : S1x512x512.Idx) :
    out0_9 (iblk m c 0 t) (iblk m c 1 t) (iblk m c 2 t) (iblk m c 3 t) (iblk m c 4 t) (iblk m c 5 t) (iblk m c 6 t) (iblk m c 7 t) y
      = keyArr m c (((cfg0.win 9).blk t).view.emb y) := by
  have e := idx_rows t
  obtain ⟨r, n, rfl⟩ : ∃ (r : Fin 512) (n : Fin 512), y = (ix3 0 r n : S1x512x512.Idx) :=
    ⟨y 1, y 2, by funext a; match a with | ⟨0, _⟩ => exact Subsingleton.elim (α := Fin 1) _ _ | ⟨1, _⟩ => rfl | ⟨2, _⟩ => rfl⟩
  rw [blk4_eq, out9_apply, hidden_blk, wts_eq]
  exact at_row (key m c) t r n _ _ _ (by show win0_9.index t 0 * 1 + 1 * 0 = _; omega)
    (by show win0_9.index t 1 * 512 + 1 * r.val = _; omega) (by show win0_9.index t 2 * 512 + 1 * n.val = _; omega)

theorem final9 : (dats m 0 c).arrAt 9 cfg0.N = keyArr m c :=
  (dats m 0 c).arrAt_eq_of_cover 9 (keyArr m c) (fun t _ => (flushed9 m c t).trans (funext fun y => after9 m c t y))
    (covers9.cover _ (Memref.isWhole_whole _))

abbrev qIndex (b : Fin 8) (l : Fin 8192) (n : Fin 512) : EReal := cols (hid m c b l) (wts m c) 1536 (by decide) n

abbrev qIndexArr : Buf (Elt Ideal) ((c : Thread nD τ).loc main_v27_2) := fun i : S8x512x8192.Idx => qIndex m c (i 0) (i 2) (i 1)

theorem covers10 : (cfg0.win 10).Covers := by decide +kernel

theorem after10 (t : Fin cfg0.N) (y : S1x512x512.Idx) :
    out0_10 (iblk m c 0 t) (iblk m c 1 t) (iblk m c 2 t) (iblk m c 3 t) (iblk m c 4 t) (iblk m c 5 t) (iblk m c 6 t) (iblk m c 7 t) y
      = qIndexArr m c (((cfg0.win 10).blk t).view.emb y) := by
  have e := idx_feats t
  obtain ⟨r, n, rfl⟩ : ∃ (r : Fin 512) (n : Fin 512), y = (ix3 0 n r : S1x512x512.Idx) :=
    ⟨y 2, y 1, by funext a; match a with | ⟨0, _⟩ => exact Subsingleton.elim (α := Fin 1) _ _ | ⟨1, _⟩ => rfl | ⟨2, _⟩ => rfl⟩
  rw [blk7_eq, out10_apply, hidden_blk, wts_eq]
  exact at_row (qIndex m c) t r n _ _ _ (by show win0_10.index t 0 * 1 + 1 * 0 = _; omega)
    (by show win0_10.index t 2 * 512 + 1 * r.val = _; omega) (by show win0_10.index t 1 * 512 + 1 * n.val = _; omega)

theorem final10 : (dats m 0 c).arrAt 10 cfg0.N = qIndexArr m c :=
  (dats m 0 c).arrAt_eq_of_cover 10 (qIndexArr m c) (fun t _ => (flushed10 m c t).trans (funext fun y => after10 m c t y))
    (covers10.cover _ (Memref.isWhole_whole _))

abbrev small (b : Fin 8) (l : Fin 8192) (n : Fin 128) : EReal := misc (hid m c b l) (wts m c) n

abbrev smallArr : Buf (Elt Ideal) ((c : Thread nD τ).loc main_v27_3) := fun i : S8x8192x128.Idx => small m c (i 0) (i 1) (i 2)

theorem covers11 : (cfg0.win 11).Covers := by decide +kernel

theorem after11 (t : Fin cfg0.N) (y : S1x512x128.Idx) :
    out0_11 (iblk m c 0 t) (iblk m c 1 t) (iblk m c 2 t) (iblk m c 3 t) (iblk m c 4 t) (iblk m c 5 t) (iblk m c 6 t) (iblk m c 7 t) y
      = smallArr m c (((cfg0.win 11).blk t).view.emb y) := by
  have e := idx_rows t
  obtain ⟨r, n, rfl⟩ : ∃ (r : Fin 512) (n : Fin 128), y = (ix3 0 r n : S1x512x128.Idx) :=
    ⟨y 1, y 2, by funext a; match a with | ⟨0, _⟩ => exact Subsingleton.elim (α := Fin 1) _ _ | ⟨1, _⟩ => rfl | ⟨2, _⟩ => rfl⟩
  rw [blk5_eq, out11_apply, hidden_blk, wts_eq]
  exact at_row (small m c) t r n _ _ _ (by show win0_11.index t 0 * 1 + 1 * 0 = _; omega)
    (by show win0_11.index t 1 * 512 + 1 * r.val = _; omega) (by show win0_11.index t 2 * 128 + 1 * n.val = _; omega)

theorem final11 : (dats m 0 c).arrAt 11 cfg0.N = smallArr m c :=
  (dats m 0 c).arrAt_eq_of_cover 11 (smallArr m c) (fun t _ => (flushed11 m c t).trans (funext fun y => after11 m c t y))
    (covers11.cover _ (Memref.isWhole_whole _))

abbrev keyIndex (b : Fin 8) (l : Fin 8192) (n : Fin 64) : EReal := cols (hid m c b l) (wts m c) 2048 (by decide) n

abbrev keyIndexArr : Buf (Elt Ideal) ((c : Thread nD τ).loc main_v27_4) := fun i : S8x8192x64.Idx => keyIndex m c (i 0) (i 1) (i 2)

theorem covers12 : (cfg0.win 12).Covers := by decide +kernel

theorem after12 (t : Fin cfg0.N) (y : S1x512x64.Idx) :
    out0_12 (iblk m c 0 t) (iblk m c 1 t) (iblk m c 2 t) (iblk m c 3 t) (iblk m c 4 t) (iblk m c 5 t) (iblk m c 6 t) (iblk m c 7 t) y
      = keyIndexArr m c (((cfg0.win 12).blk t).view.emb y) := by
  have e := idx_rows t
  obtain ⟨r, n, rfl⟩ : ∃ (r : Fin 512) (n : Fin 64), y = (ix3 0 r n : S1x512x64.Idx) :=
    ⟨y 1, y 2, by funext a; match a with | ⟨0, _⟩ => exact Subsingleton.elim (α := Fin 1) _ _ | ⟨1, _⟩ => rfl | ⟨2, _⟩ => rfl⟩
  rw [blk5_eq, out12_apply, hidden_blk, wts_eq]
  exact at_row (keyIndex m c) t r n _ _ _ (by show win0_12.index t 0 * 1 + 1 * 0 = _; omega)
    (by show win0_12.index t 1 * 512 + 1 * r.val = _; omega) (by show win0_12.index t 2 * 64 + 1 * n.val = _; omega)

theorem final12 : (dats m 0 c).arrAt 12 cfg0.N = keyIndexArr m c :=
  (dats m 0 c).arrAt_eq_of_cover 12 (keyIndexArr m c) (fun t _ => (flushed12 m c t).trans (funext fun y => after12 m c t y))
    (covers12.cover _ (Memref.isWhole_whole _))

abbrev glaQ (b : Fin 8) (l : Fin 8192) (n : Fin 256) : EReal := cols (hid m c b l) (wts m c) 2120 (by decide) n

abbrev glaQArr : Buf (Elt Ideal) ((c : Thread nD τ).loc main_v27_5) := fun i : S8x8192x256.Idx => glaQ m c (i 0) (i 1) (i 2)

theorem covers13 : (cfg0.win 13).Covers := by decide +kernel

theorem after13 (t : Fin cfg0.N) (y : S1x512x256.Idx) :
    out0_13 (iblk m c 0 t) (iblk m c 1 t) (iblk m c 2 t) (iblk m c 3 t) (iblk m c 4 t) (iblk m c 5 t) (iblk m c 6 t) (iblk m c 7 t) y
      = glaQArr m c (((cfg0.win 13).blk t).view.emb y) := by
  have e := idx_rows t
  obtain ⟨r, n, rfl⟩ : ∃ (r : Fin 512) (n : Fin 256), y = (ix3 0 r n : S1x512x256.Idx) :=
    ⟨y 1, y 2, by funext a; match a with | ⟨0, _⟩ => exact Subsingleton.elim (α := Fin 1) _ _ | ⟨1, _⟩ => rfl | ⟨2, _⟩ => rfl⟩
  rw [blk6_eq, out13_apply, hidden_blk, wts_eq]
  exact at_row (glaQ m c) t r n _ _ _ (by show win0_13.index t 0 * 1 + 1 * 0 = _; omega)
    (by show win0_13.index t 1 * 512 + 1 * r.val = _; omega) (by show win0_13.index t 2 * 256 + 1 * n.val = _; omega)

theorem final13 : (dats m 0 c).arrAt 13 cfg0.N = glaQArr m c :=
  (dats m 0 c).arrAt_eq_of_cover 13 (glaQArr m c) (fun t _ => (flushed13 m c t).trans (funext fun y => after13 m c t y))
    (covers13.cover _ (Memref.isWhole_whole _))

abbrev glaK (b : Fin 8) (l : Fin 8192) (n : Fin 256) : EReal := cols (hid m c b l) (wts m c) 2376 (by decide) n

abbrev glaKArr : Buf (Elt Ideal) ((c : Thread nD τ).loc main_v27_6) := fun i : S8x8192x256.Idx => glaK m c (i 0) (i 1) (i 2)

theorem covers14 : (cfg0.win 14).Covers := by decide +kernel

theorem after14 (t : Fin cfg0.N) (y : S1x512x256.Idx) :
    out0_14 (iblk m c 0 t) (iblk m c 1 t) (iblk m c 2 t) (iblk m c 3 t) (iblk m c 4 t) (iblk m c 5 t) (iblk m c 6 t) (iblk m c 7 t) y
      = glaKArr m c (((cfg0.win 14).blk t).view.emb y) := by
  have e := idx_rows t
  obtain ⟨r, n, rfl⟩ : ∃ (r : Fin 512) (n : Fin 256), y = (ix3 0 r n : S1x512x256.Idx) :=
    ⟨y 1, y 2, by funext a; match a with | ⟨0, _⟩ => exact Subsingleton.elim (α := Fin 1) _ _ | ⟨1, _⟩ => rfl | ⟨2, _⟩ => rfl⟩
  rw [blk6_eq, out14_apply, hidden_blk, wts_eq]
  exact at_row (glaK m c) t r n _ _ _ (by show win0_14.index t 0 * 1 + 1 * 0 = _; omega)
    (by show win0_14.index t 1 * 512 + 1 * r.val = _; omega) (by show win0_14.index t 2 * 256 + 1 * n.val = _; omega)

theorem final14 : (dats m 0 c).arrAt 14 cfg0.N = glaKArr m c :=
  (dats m 0 c).arrAt_eq_of_cover 14 (glaKArr m c) (fun t _ => (flushed14 m c t).trans (funext fun y => after14 m c t y))
    (covers14.cover _ (Memref.isWhole_whole _))

abbrev glaV (b : Fin 8) (l : Fin 8192) (n : Fin 512) : EReal := cols (hid m c b l) (wts m c) 2632 (by decide) n

abbrev glaVArr : Buf (Elt Ideal) ((c : Thread nD τ).loc main_v27_7) := fun i : S8x8192x512.Idx => glaV m c (i 0) (i 1) (i 2)

theorem covers15 : (cfg0.win 15).Covers := by decide +kernel

theorem after15 (t : Fin cfg0.N) (y : S1x512x512.Idx) :
    out0_15 (iblk m c 0 t) (iblk m c 1 t) (iblk m c 2 t) (iblk m c 3 t) (iblk m c 4 t) (iblk m c 5 t) (iblk m c 6 t) (iblk m c 7 t) y
      = glaVArr m c (((cfg0.win 15).blk t).view.emb y) := by
  have e := idx_rows t
  obtain ⟨r, n, rfl⟩ : ∃ (r : Fin 512) (n : Fin 512), y = (ix3 0 r n : S1x512x512.Idx) :=
    ⟨y 1, y 2, by funext a; match a with | ⟨0, _⟩ => exact Subsingleton.elim (α := Fin 1) _ _ | ⟨1, _⟩ => rfl | ⟨2, _⟩ => rfl⟩
  rw [blk6_eq, out15_apply, hidden_blk, wts_eq]
  exact at_row (glaV m c) t r n _ _ _ (by show win0_15.index t 0 * 1 + 1 * 0 = _; omega)
    (by show win0_15.index t 1 * 512 + 1 * r.val = _; omega) (by show win0_15.index t 2 * 512 + 1 * n.val = _; omega)

theorem final15 : (dats m 0 c).arrAt 15 cfg0.N = glaVArr m c :=
  (dats m 0 c).arrAt_eq_of_cover 15 (glaVArr m c) (fun t _ => (flushed15 m c t).trans (funext fun y => after15 m c t y))
    (covers15.cover _ (Memref.isWhole_whole _))

abbrev glaGate (b : Fin 8) (l : Fin 8192) (n : Fin 512) : EReal := cols (hid m c b l) (wts m c) 3144 (by decide) n

abbrev glaGateArr : Buf (Elt Ideal) ((c : Thread nD τ).loc main_v27_8) := fun i : S8x8192x512.Idx => glaGate m c (i 0) (i 1) (i 2)

theorem covers16 : (cfg0.win 16).Covers := by decide +kernel

theorem after16 (t : Fin cfg0.N) (y : S1x512x512.Idx) :
    out0_16 (iblk m c 0 t) (iblk m c 1 t) (iblk m c 2 t) (iblk m c 3 t) (iblk m c 4 t) (iblk m c 5 t) (iblk m c 6 t) (iblk m c 7 t) y
      = glaGateArr m c (((cfg0.win 16).blk t).view.emb y) := by
  have e := idx_rows t
  obtain ⟨r, n, rfl⟩ : ∃ (r : Fin 512) (n : Fin 512), y = (ix3 0 r n : S1x512x512.Idx) :=
    ⟨y 1, y 2, by funext a; match a with | ⟨0, _⟩ => exact Subsingleton.elim (α := Fin 1) _ _ | ⟨1, _⟩ => rfl | ⟨2, _⟩ => rfl⟩
  rw [blk6_eq, out16_apply, hidden_blk, wts_eq]
  exact at_row (glaGate m c) t r n _ _ _ (by show win0_16.index t 0 * 1 + 1 * 0 = _; omega)
    (by show win0_16.index t 1 * 512 + 1 * r.val = _; omega) (by show win0_16.index t 2 * 512 + 1 * n.val = _; omega)

theorem final16 : (dats m 0 c).arrAt 16 cfg0.N = glaGateArr m c :=
  (dats m 0 c).arrAt_eq_of_cover 16 (glaGateArr m c) (fun t _ => (flushed16 m c t).trans (funext fun y => after16 m c t y))
    (covers16.cover _ (Memref.isWhole_whole _))

abbrev value (b : Fin 8) (l : Fin 8192) (n : Fin 512) : EReal := cols (hid m c b l) (wts m c) 1024 (by decide) n

abbrev valueArr : Buf (Elt Ideal) ((c : Thread nD τ).loc main_v27_9) := fun i : S8x512x8192.Idx => value m c (i 0) (i 2) (i 1)

theorem covers17 : (cfg0.win 17).Covers := by decide +kernel

theorem after17 (t : Fin cfg0.N) (y : S1x512x512.Idx) :
    out0_17 (iblk m c 0 t) (iblk m c 1 t) (iblk m c 2 t) (iblk m c 3 t) (iblk m c 4 t) (iblk m c 5 t) (iblk m c 6 t) (iblk m c 7 t) y
      = valueArr m c (((cfg0.win 17).blk t).view.emb y) := by
  have e := idx_feats t
  obtain ⟨r, n, rfl⟩ : ∃ (r : Fin 512) (n : Fin 512), y = (ix3 0 n r : S1x512x512.Idx) :=
    ⟨y 2, y 1, by funext a; match a with | ⟨0, _⟩ => exact Subsingleton.elim (α := Fin 1) _ _ | ⟨1, _⟩ => rfl | ⟨2, _⟩ => rfl⟩
  rw [blk7_eq, out17_apply, hidden_blk, wts_eq]
  exact at_row (value m c) t r n _ _ _ (by show win0_17.index t 0 * 1 + 1 * 0 = _; omega)
    (by show win0_17.index t 2 * 512 + 1 * r.val = _; omega) (by show win0_17.index t 1 * 512 + 1 * n.val = _; omega)

theorem final17 : (dats m 0 c).arrAt 17 cfg0.N = valueArr m c :=
  (dats m 0 c).arrAt_eq_of_cover 17 (valueArr m c) (fun t _ => (flushed17 m c t).trans (funext fun y => after17 m c t y))
    (covers17.cover _ (Memref.isWhole_whole _))

abbrev glaVT (b : Fin 8) (l : Fin 8192) (n : Fin 512) : EReal := cols (hid m c b l) (wts m c) 2632 (by decide) n

abbrev glaVTArr : Buf (Elt Ideal) ((c : Thread nD τ).loc main_v27_10) := fun i : S8x512x8192.Idx => glaVT m c (i 0) (i 2) (i 1)

theorem covers18 : (cfg0.win 18).Covers := by decide +kernel

theorem after18 (t : Fin cfg0.N) (y : S1x512x512.Idx) :
    out0_18 (iblk m c 0 t) (iblk m c 1 t) (iblk m c 2 t) (iblk m c 3 t) (iblk m c 4 t) (iblk m c 5 t) (iblk m c 6 t) (iblk m c 7 t) y
      = glaVTArr m c (((cfg0.win 18).blk t).view.emb y) := by
  have e := idx_feats t
  obtain ⟨r, n, rfl⟩ : ∃ (r : Fin 512) (n : Fin 512), y = (ix3 0 n r : S1x512x512.Idx) :=
    ⟨y 2, y 1, by funext a; match a with | ⟨0, _⟩ => exact Subsingleton.elim (α := Fin 1) _ _ | ⟨1, _⟩ => rfl | ⟨2, _⟩ => rfl⟩
  rw [blk7_eq, out18_apply, hidden_blk, wts_eq]
  exact at_row (glaVT m c) t r n _ _ _ (by show win0_18.index t 0 * 1 + 1 * 0 = _; omega)
    (by show win0_18.index t 2 * 512 + 1 * r.val = _; omega) (by show win0_18.index t 1 * 512 + 1 * n.val = _; omega)

theorem final18 : (dats m 0 c).arrAt 18 cfg0.N = glaVTArr m c :=
  (dats m 0 c).arrAt_eq_of_cover 18 (glaVTArr m c) (fun t _ => (flushed18 m c t).trans (funext fun y => after18 m c t y))
    (covers18.cover _ (Memref.isWhole_whole _))

abbrev smallT (b : Fin 8) (l : Fin 8192) (n : Fin 128) : EReal := misc (hid m c b l) (wts m c) n

abbrev smallTArr : Buf (Elt Ideal) ((c : Thread nD τ).loc main_v27_11) := fun i : S8x128x8192.Idx => smallT m c (i 0) (i 2) (i 1)

theorem covers19 : (cfg0.win 19).Covers := by decide +kernel

theorem after19 (t : Fin cfg0.N) (y : S1x128x512.Idx) :
    out0_19 (iblk m c 0 t) (iblk m c 1 t) (iblk m c 2 t) (iblk m c 3 t) (iblk m c 4 t) (iblk m c 5 t) (iblk m c 6 t) (iblk m c 7 t) y
      = smallTArr m c (((cfg0.win 19).blk t).view.emb y) := by
  have e := idx_feats t
  obtain ⟨r, n, rfl⟩ : ∃ (r : Fin 512) (n : Fin 128), y = (ix3 0 n r : S1x128x512.Idx) :=
    ⟨y 2, y 1, by funext a; match a with | ⟨0, _⟩ => exact Subsingleton.elim (α := Fin 1) _ _ | ⟨1, _⟩ => rfl | ⟨2, _⟩ => rfl⟩
  rw [blk7_eq, out19_apply, hidden_blk, wts_eq]
  exact at_row (smallT m c) t r n _ _ _ (by show win0_19.index t 0 * 1 + 1 * 0 = _; omega)
    (by show win0_19.index t 2 * 512 + 1 * r.val = _; omega) (by show win0_19.index t 1 * 128 + 1 * n.val = _; omega)

theorem final19 : (dats m 0 c).arrAt 19 cfg0.N = smallTArr m c :=
  (dats m 0 c).arrAt_eq_of_cover 19 (smallTArr m c) (fun t _ => (flushed19 m c t).trans (funext fun y => after19 m c t y))
    (covers19.cover _ (Memref.isWhole_whole _))

end Cert.Kernel3Ideal.Rows

end
-- ==== Proof.Projection.lean ====
/- The input projection and its plain reference end with the same twelve results over the extended reals: the modulated row times the
   input weights, split into columns, the queries scaled, some of them stored feature by feature. -/
module

public import proofs.«01_k».proof.Defs
public import proofs.«01_k».proof.Proof.ProjectionArray
public import proofs.«01_k».proof.Proof.Gen.Reference3Ideal.Run
public import proofs.«01_k».proof.Proof.Gen.Reference3Ideal.Read

@[expose] public section

set_option maxRecDepth 16384

noncomputable section

namespace Cert.Reference3Ideal.Rows

open Idealize.ShloMosaic Cert.Reference3Ideal Cert.Reference3Ideal.Read Cert.Row

variable (x0 : FVec Ideal S8x8192x1024 .f32) (x1 x2 : FVec Ideal S8x1024 .f32) (x3 : FVec Ideal S1x1024 .f32)
  (x4 : FVec Ideal S1x1024x3672 .f32) (b : Fin 8) (l : Fin 8192)

/-- Row `l` of batch `b`, normalised and modulated. -/
abbrev hid : Fin 1024 → EReal :=
  modulated (fun k => x0 (ix3 b l k)) (fun k => x3 (ix2 0 k)) (fun k => x2 (ix2 b k)) (fun k => x1 (ix2 b k))

theorem v21_apply (k : Fin 1024) : val_main_v21 (F := Ideal) x0 x1 x2 x3 (ix3 b l k) = hid x0 x1 x2 x3 b l k := by
  pointwise [val_main_v0, val_main_v1, val_main_cst, val_main_v2, val_main_v3, val_main_cst_0, val_main_v4, val_main_v5, val_main_cst_1,
    val_main_v6, val_main_v7, val_main_v8, val_main_v9, val_main_v10, val_main_v11, val_main_v12, val_main_v13, val_main_v14,
    val_main_cst_2, val_main_v15, val_main_v16, val_main_v17, val_main_v18, val_main_v19, val_main_v20, val_main_v21]
  rfl

theorem v23_apply (n : Fin 3672) :
    val_main_v23 (F := Ideal) x0 x1 x2 x3 x4 (ix3 b l n) = project (hid x0 x1 x2 x3 b l) (fun k n => x4 (ix3 0 k n)) n := by
  pointwise [val_main_v22, val_main_v23]
  simp only [v21_apply]
  rfl

theorem v36_apply (n : Fin 128) :
    val_main_v36 (F := Ideal) x0 x1 x2 x3 x4 (ix3 b l n) = misc (hid x0 x1 x2 x3 b l) (fun k n => x4 (ix3 0 k n)) n := by
  pointwise [val_main_v28, val_main_v29, val_main_v34, val_main_v35, val_main_cst_3, val_main_v36]
  simp only [v23_apply]
  rfl

theorem v40_apply (n : Fin 512) :
    val_main_v40 (F := Ideal) x0 x1 x2 x3 x4 (ix3 b n l) = cols (hid x0 x1 x2 x3 b l) (fun k n => x4 (ix3 0 k n)) 0 (by decide) n * qScale := by
  pointwise [val_main_v24, val_main_cst_4, val_main_v37, val_main_v38, val_main_v39, val_main_v40]
  simp only [v23_apply, cols, Nat.zero_add]

theorem v41_apply (n : Fin 512) :
    val_main_v41 (F := Ideal) x0 x1 x2 x3 x4 (ix3 b l n) = cols (hid x0 x1 x2 x3 b l) (fun k n => x4 (ix3 0 k n)) 512 (by decide) n := by
  pointwise [val_main_v25, val_main_v41]
  simp only [v23_apply]

theorem v43_apply (n : Fin 512) :
    val_main_v43 (F := Ideal) x0 x1 x2 x3 x4 (ix3 b n l) = cols (hid x0 x1 x2 x3 b l) (fun k n => x4 (ix3 0 k n)) 1536 (by decide) n := by
  pointwise [val_main_v27, val_main_v42, val_main_v43]
  simp only [v23_apply]

theorem v44_apply (n : Fin 64) :
    val_main_v44 (F := Ideal) x0 x1 x2 x3 x4 (ix3 b l n) = cols (hid x0 x1 x2 x3 b l) (fun k n => x4 (ix3 0 k n)) 2048 (by decide) n := by
  pointwise [val_main_v28, val_main_v44]
  simp only [v23_apply]

theorem v30_apply (n : Fin 256) :
    val_main_v30 (F := Ideal) x0 x1 x2 x3 x4 (ix3 b l n) = cols (hid x0 x1 x2 x3 b l) (fun k n => x4 (ix3 0 k n)) 2120 (by decide) n := by
  pointwise [val_main_v30]
  simp only [v23_apply]

theorem v31_apply (n : Fin 256) :
    val_main_v31 (F := Ideal) x0 x1 x2 x3 x4 (ix3 b l n) = cols (hid x0 x1 x2 x3 b l) (fun k n => x4 (ix3 0 k n)) 2376 (by decide) n := by
  pointwise [val_main_v31]
  simp only [v23_apply]

theorem v32_apply (n : Fin 512) :
    val_main_v32 (F := Ideal) x0 x1 x2 x3 x4 (ix3 b l n) = cols (hid x0 x1 x2 x3 b l) (fun k n => x4 (ix3 0 k n)) 2632 (by decide) n := by
  pointwise [val_main_v32]
  simp only [v23_apply]

theorem v33_apply (n : Fin 512) :
    val_main_v33 (F := Ideal) x0 x1 x2 x3 x4 (ix3 b l n) = cols (hid x0 x1 x2 x3 b l) (fun k n => x4 (ix3 0 k n)) 3144 (by decide) n := by
  pointwise [val_main_v33]
  simp only [v23_apply]

theorem v46_apply (n : Fin 512) :
    val_main_v46 (F := Ideal) x0 x1 x2 x3 x4 (ix3 b n l) = cols (hid x0 x1 x2 x3 b l) (fun k n => x4 (ix3 0 k n)) 1024 (by decide) n := by
  pointwise [val_main_v26, val_main_v45, val_main_v46]
  simp only [v23_apply]

theorem v47_apply (n : Fin 512) :
    val_main_v47 (F := Ideal) x0 x1 x2 x3 x4 (ix3 b n l) = cols (hid x0 x1 x2 x3 b l) (fun k n => x4 (ix3 0 k n)) 2632 (by decide) n := by
  pointwise [val_main_v32, val_main_v47]
  simp only [v23_apply]

theorem v48_apply (n : Fin 128) :
    val_main_v48 (F := Ideal) x0 x1 x2 x3 x4 (ix3 b n l) = misc (hid x0 x1 x2 x3 b l) (fun k n => x4 (ix3 0 k n)) n := by
  pointwise [val_main_v48]
  simp only [v36_apply]

end Cert.Reference3Ideal.Rows

namespace Cert.Proof.Projection

open Idealize.ShloMosaic Idealize.ShloMosaic.TcCoe Idealize.SL.Sem

/-- An index of three axes is its coordinates. -/
theorem ix3_of {A B C : ℕ} (i : (⟨3, ![A, B, C]⟩ : Shape).Idx) : ∃ (a : Fin A) (b : Fin B) (c : Fin C), i = ix3 a b c :=
  ⟨i 0, i 1, i 2, by funext a; match a with | ⟨0, _⟩ => rfl | ⟨1, _⟩ => rfl | ⟨2, _⟩ => rfl⟩

variable (m : (ℓ : Loc Kernel3Ideal.nD Kernel3Ideal.τ Kernel3Ideal.sig) → Buf (Elt Ideal) ℓ) (c : Dev Kernel3Ideal.nD)

theorem q_eq : Reference3Ideal.Read.val_main_v40 (F := Ideal)
      (m ((c : Thread Kernel3Ideal.nD Kernel3Ideal.τ).loc Kernel3Ideal.main_arg0))
      (m ((c : Thread Kernel3Ideal.nD Kernel3Ideal.τ).loc Kernel3Ideal.main_arg1))
      (m ((c : Thread Kernel3Ideal.nD Kernel3Ideal.τ).loc Kernel3Ideal.main_arg2))
      (m ((c : Thread Kernel3Ideal.nD Kernel3Ideal.τ).loc Kernel3Ideal.main_arg3))
      (m ((c : Thread Kernel3Ideal.nD Kernel3Ideal.τ).loc Kernel3Ideal.main_arg4))
    = Kernel3Ideal.Rows.qArr m c := by
  funext i
  obtain ⟨b, n, l, rfl⟩ := ix3_of i
  exact Reference3Ideal.Rows.v40_apply _ _ _ _ _ b l n

theorem key_eq : Reference3Ideal.Read.val_main_v41 (F := Ideal)
      (m ((c : Thread Kernel3Ideal.nD Kernel3Ideal.τ).loc Kernel3Ideal.main_arg0))
      (m ((c : Thread Kernel3Ideal.nD Kernel3Ideal.τ).loc Kernel3Ideal.main_arg1))
      (m ((c : Thread Kernel3Ideal.nD Kernel3Ideal.τ).loc Kernel3Ideal.main_arg2))
      (m ((c : Thread Kernel3Ideal.nD Kernel3Ideal.τ).loc Kernel3Ideal.main_arg3))
      (m ((c : Thread Kernel3Ideal.nD Kernel3Ideal.τ).loc Kernel3Ideal.main_arg4))
    = Kernel3Ideal.Rows.keyArr m c := by
  funext i
  obtain ⟨b, l, n, rfl⟩ := ix3_of i
  exact Reference3Ideal.Rows.v41_apply _ _ _ _ _ b l n

theorem qIndex_eq : Reference3Ideal.Read.val_main_v43 (F := Ideal)
      (m ((c : Thread Kernel3Ideal.nD Kernel3Ideal.τ).loc Kernel3Ideal.main_arg0))
      (m ((c : Thread Kernel3Ideal.nD Kernel3Ideal.τ).loc Kernel3Ideal.main_arg1))
      (m ((c : Thread Kernel3Ideal.nD Kernel3Ideal.τ).loc Kernel3Ideal.main_arg2))
      (m ((c : Thread Kernel3Ideal.nD Kernel3Ideal.τ).loc Kernel3Ideal.main_arg3))
      (m ((c : Thread Kernel3Ideal.nD Kernel3Ideal.τ).loc Kernel3Ideal.main_arg4))
    = Kernel3Ideal.Rows.qIndexArr m c := by
  funext i
  obtain ⟨b, n, l, rfl⟩ := ix3_of i
  exact Reference3Ideal.Rows.v43_apply _ _ _ _ _ b l n

theorem small_eq : Reference3Ideal.Read.val_main_v36 (F := Ideal)
      (m ((c : Thread Kernel3Ideal.nD Kernel3Ideal.τ).loc Kernel3Ideal.main_arg0))
      (m ((c : Thread Kernel3Ideal.nD Kernel3Ideal.τ).loc Kernel3Ideal.main_arg1))
      (m ((c : Thread Kernel3Ideal.nD Kernel3Ideal.τ).loc Kernel3Ideal.main_arg2))
      (m ((c : Thread Kernel3Ideal.nD Kernel3Ideal.τ).loc Kernel3Ideal.main_arg3))
      (m ((c : Thread Kernel3Ideal.nD Kernel3Ideal.τ).loc Kernel3Ideal.main_arg4))
    = Kernel3Ideal.Rows.smallArr m c := by
  funext i
  obtain ⟨b, l, n, rfl⟩ := ix3_of i
  exact Reference3Ideal.Rows.v36_apply _ _ _ _ _ b l n

theorem keyIndex_eq : Reference3Ideal.Read.val_main_v44 (F := Ideal)
      (m ((c : Thread Kernel3Ideal.nD Kernel3Ideal.τ).loc Kernel3Ideal.main_arg0))
      (m ((c : Thread Kernel3Ideal.nD Kernel3Ideal.τ).loc Kernel3Ideal.main_arg1))
      (m ((c : Thread Kernel3Ideal.nD Kernel3Ideal.τ).loc Kernel3Ideal.main_arg2))
      (m ((c : Thread Kernel3Ideal.nD Kernel3Ideal.τ).loc Kernel3Ideal.main_arg3))
      (m ((c : Thread Kernel3Ideal.nD Kernel3Ideal.τ).loc Kernel3Ideal.main_arg4))
    = Kernel3Ideal.Rows.keyIndexArr m c := by
  funext i
  obtain ⟨b, l, n, rfl⟩ := ix3_of i
  exact Reference3Ideal.Rows.v44_apply _ _ _ _ _ b l n

theorem glaQ_eq : Reference3Ideal.Read.val_main_v30 (F := Ideal)
      (m ((c : Thread Kernel3Ideal.nD Kernel3Ideal.τ).loc Kernel3Ideal.main_arg0))
      (m ((c : Thread Kernel3Ideal.nD Kernel3Ideal.τ).loc Kernel3Ideal.main_arg1))
      (m ((c : Thread Kernel3Ideal.nD Kernel3Ideal.τ).loc Kernel3Ideal.main_arg2))
      (m ((c : Thread Kernel3Ideal.nD Kernel3Ideal.τ).loc Kernel3Ideal.main_arg3))
      (m ((c : Thread Kernel3Ideal.nD Kernel3Ideal.τ).loc Kernel3Ideal.main_arg4))
    = Kernel3Ideal.Rows.glaQArr m c := by
  funext i
  obtain ⟨b, l, n, rfl⟩ := ix3_of i
  exact Reference3Ideal.Rows.v30_apply _ _ _ _ _ b l n

theorem glaK_eq : Reference3Ideal.Read.val_main_v31 (F := Ideal)
      (m ((c : Thread Kernel3Ideal.nD Kernel3Ideal.τ).loc Kernel3Ideal.main_arg0))
      (m ((c : Thread Kernel3Ideal.nD Kernel3Ideal.τ).loc Kernel3Ideal.main_arg1))
      (m ((c : Thread Kernel3Ideal.nD Kernel3Ideal.τ).loc Kernel3Ideal.main_arg2))
      (m ((c : Thread Kernel3Ideal.nD Kernel3Ideal.τ).loc Kernel3Ideal.main_arg3))
      (m ((c : Thread Kernel3Ideal.nD Kernel3Ideal.τ).loc Kernel3Ideal.main_arg4))
    = Kernel3Ideal.Rows.glaKArr m c := by
  funext i
  obtain ⟨b, l, n, rfl⟩ := ix3_of i
  exact Reference3Ideal.Rows.v31_apply _ _ _ _ _ b l n

theorem glaV_eq : Reference3Ideal.Read.val_main_v32 (F := Ideal)
      (m ((c : Thread Kernel3Ideal.nD Kernel3Ideal.τ).loc Kernel3Ideal.main_arg0))
      (m ((c : Thread Kernel3Ideal.nD Kernel3Ideal.τ).loc Kernel3Ideal.main_arg1))
      (m ((c : Thread Kernel3Ideal.nD Kernel3Ideal.τ).loc Kernel3Ideal.main_arg2))
      (m ((c : Thread Kernel3Ideal.nD Kernel3Ideal.τ).loc Kernel3Ideal.main_arg3))
      (m ((c : Thread Kernel3Ideal.nD Kernel3Ideal.τ).loc Kernel3Ideal.main_arg4))
    = Kernel3Ideal.Rows.glaVArr m c := by
  funext i
  obtain ⟨b, l, n, rfl⟩ := ix3_of i
  exact Reference3Ideal.Rows.v32_apply _ _ _ _ _ b l n

theorem glaGate_eq : Reference3Ideal.Read.val_main_v33 (F := Ideal)
      (m ((c : Thread Kernel3Ideal.nD Kernel3Ideal.τ).loc Kernel3Ideal.main_arg0))
      (m ((c : Thread Kernel3Ideal.nD Kernel3Ideal.τ).loc Kernel3Ideal.main_arg1))
      (m ((c : Thread Kernel3Ideal.nD Kernel3Ideal.τ).loc Kernel3Ideal.main_arg2))
      (m ((c : Thread Kernel3Ideal.nD Kernel3Ideal.τ).loc Kernel3Ideal.main_arg3))
      (m ((c : Thread Kernel3Ideal.nD Kernel3Ideal.τ).loc Kernel3Ideal.main_arg4))
    = Kernel3Ideal.Rows.glaGateArr m c := by
  funext i
  obtain ⟨b, l, n, rfl⟩ := ix3_of i
  exact Reference3Ideal.Rows.v33_apply _ _ _ _ _ b l n

theorem value_eq : Reference3Ideal.Read.val_main_v46 (F := Ideal)
      (m ((c : Thread Kernel3Ideal.nD Kernel3Ideal.τ).loc Kernel3Ideal.main_arg0))
      (m ((c : Thread Kernel3Ideal.nD Kernel3Ideal.τ).loc Kernel3Ideal.main_arg1))
      (m ((c : Thread Kernel3Ideal.nD Kernel3Ideal.τ).loc Kernel3Ideal.main_arg2))
      (m ((c : Thread Kernel3Ideal.nD Kernel3Ideal.τ).loc Kernel3Ideal.main_arg3))
      (m ((c : Thread Kernel3Ideal.nD Kernel3Ideal.τ).loc Kernel3Ideal.main_arg4))
    = Kernel3Ideal.Rows.valueArr m c := by
  funext i
  obtain ⟨b, n, l, rfl⟩ := ix3_of i
  exact Reference3Ideal.Rows.v46_apply _ _ _ _ _ b l n

theorem glaVT_eq : Reference3Ideal.Read.val_main_v47 (F := Ideal)
      (m ((c : Thread Kernel3Ideal.nD Kernel3Ideal.τ).loc Kernel3Ideal.main_arg0))
      (m ((c : Thread Kernel3Ideal.nD Kernel3Ideal.τ).loc Kernel3Ideal.main_arg1))
      (m ((c : Thread Kernel3Ideal.nD Kernel3Ideal.τ).loc Kernel3Ideal.main_arg2))
      (m ((c : Thread Kernel3Ideal.nD Kernel3Ideal.τ).loc Kernel3Ideal.main_arg3))
      (m ((c : Thread Kernel3Ideal.nD Kernel3Ideal.τ).loc Kernel3Ideal.main_arg4))
    = Kernel3Ideal.Rows.glaVTArr m c := by
  funext i
  obtain ⟨b, n, l, rfl⟩ := ix3_of i
  exact Reference3Ideal.Rows.v47_apply _ _ _ _ _ b l n

theorem smallT_eq : Reference3Ideal.Read.val_main_v48 (F := Ideal)
      (m ((c : Thread Kernel3Ideal.nD Kernel3Ideal.τ).loc Kernel3Ideal.main_arg0))
      (m ((c : Thread Kernel3Ideal.nD Kernel3Ideal.τ).loc Kernel3Ideal.main_arg1))
      (m ((c : Thread Kernel3Ideal.nD Kernel3Ideal.τ).loc Kernel3Ideal.main_arg2))
      (m ((c : Thread Kernel3Ideal.nD Kernel3Ideal.τ).loc Kernel3Ideal.main_arg3))
      (m ((c : Thread Kernel3Ideal.nD Kernel3Ideal.τ).loc Kernel3Ideal.main_arg4))
    = Kernel3Ideal.Rows.smallTArr m c := by
  funext i
  obtain ⟨b, n, l, rfl⟩ := ix3_of i
  exact Reference3Ideal.Rows.v48_apply _ _ _ _ _ b l n

theorem algebraic : Cert.algebraic_Kernel3Ideal_Reference3Ideal (hKernel3Ideal := Cert.Kernel3Ideal.Gen.facts)
    (hReference3Ideal := Cert.Reference3Ideal.Gen.facts) := by
  intro m ρ m' ρ' _ hagree
  refine ⟨Kernel3Ideal.Rows.qArr m, Kernel3Ideal.Rows.keyArr m, Kernel3Ideal.Rows.qIndexArr m, Kernel3Ideal.Rows.smallArr m, Kernel3Ideal.Rows.keyIndexArr m, Kernel3Ideal.Rows.glaQArr m, Kernel3Ideal.Rows.glaKArr m, Kernel3Ideal.Rows.glaVArr m, Kernel3Ideal.Rows.glaGateArr m, Kernel3Ideal.Rows.valueArr m, Kernel3Ideal.Rows.glaVTArr m, Kernel3Ideal.Rows.smallTArr m, ?_, ?_⟩
  · exact (θ_run _ _ _).mono (fun r h c => ⟨(h c).1.trans (Kernel3Ideal.Rows.final8 m c),
        (h c).2.1.trans (Kernel3Ideal.Rows.final9 m c),
        (h c).2.2.1.trans (Kernel3Ideal.Rows.final10 m c),
        (h c).2.2.2.1.trans (Kernel3Ideal.Rows.final11 m c),
        (h c).2.2.2.2.1.trans (Kernel3Ideal.Rows.final12 m c),
        (h c).2.2.2.2.2.1.trans (Kernel3Ideal.Rows.final13 m c),
        (h c).2.2.2.2.2.2.1.trans (Kernel3Ideal.Rows.final14 m c),
        (h c).2.2.2.2.2.2.2.1.trans (Kernel3Ideal.Rows.final15 m c),
        (h c).2.2.2.2.2.2.2.2.1.trans (Kernel3Ideal.Rows.final16 m c),
        (h c).2.2.2.2.2.2.2.2.2.1.trans (Kernel3Ideal.Rows.final17 m c),
        (h c).2.2.2.2.2.2.2.2.2.2.1.trans (Kernel3Ideal.Rows.final18 m c),
        (h c).2.2.2.2.2.2.2.2.2.2.2.1.trans (Kernel3Ideal.Rows.final19 m c),
        (h c).2.2.2.2.2.2.2.2.2.2.2.2⟩) (Kernel3Ideal.Value.run_blocks m ρ)
  · refine (θ_run _ _ _).mono (fun r h c => ?_) (Reference3Ideal.Value.run m' ρ')
    obtain ⟨e0, e1, e2, e3, e4⟩ := hagree c
    refine ⟨?_, ?_, ?_, ?_, ?_, ?_, ?_, ?_, ?_, ?_, ?_, ?_, (h c).2.2.2.2.2.2.2.2.2.2.2.2⟩
    · refine (h c).1.trans ((Reference3Ideal.Read.val_main_v40_eq _ _ _ _ _).trans ?_)
      rw [e0, e1, e2, e3, e4]
      exact q_eq m c
    · refine (h c).2.1.trans ((Reference3Ideal.Read.val_main_v41_eq _ _ _ _ _).trans ?_)
      rw [e0, e1, e2, e3, e4]
      exact key_eq m c
    · refine (h c).2.2.1.trans ((Reference3Ideal.Read.val_main_v43_eq _ _ _ _ _).trans ?_)
      rw [e0, e1, e2, e3, e4]
      exact qIndex_eq m c
    · refine (h c).2.2.2.1.trans ((Reference3Ideal.Read.val_main_v36_eq _ _).trans ?_)
      rw [e0, e1, e2, e3, e4]
      exact small_eq m c
    · refine (h c).2.2.2.2.1.trans ((Reference3Ideal.Read.val_main_v44_eq _ _ _ _ _).trans ?_)
      rw [e0, e1, e2, e3, e4]
      exact keyIndex_eq m c
    · refine (h c).2.2.2.2.2.1.trans ((Reference3Ideal.Read.val_main_v30_eq _ _ _ _ _).trans ?_)
      rw [e0, e1, e2, e3, e4]
      exact glaQ_eq m c
    · refine (h c).2.2.2.2.2.2.1.trans ((Reference3Ideal.Read.val_main_v31_eq _ _ _ _ _).trans ?_)
      rw [e0, e1, e2, e3, e4]
      exact glaK_eq m c
    · refine (h c).2.2.2.2.2.2.2.1.trans ((Reference3Ideal.Read.val_main_v32_eq _ _ _ _ _).trans ?_)
      rw [e0, e1, e2, e3, e4]
      exact glaV_eq m c
    · refine (h c).2.2.2.2.2.2.2.2.1.trans ((Reference3Ideal.Read.val_main_v33_eq _ _ _ _ _).trans ?_)
      rw [e0, e1, e2, e3, e4]
      exact glaGate_eq m c
    · refine (h c).2.2.2.2.2.2.2.2.2.1.trans ((Reference3Ideal.Read.val_main_v46_eq _ _ _ _ _).trans ?_)
      rw [e0, e1, e2, e3, e4]
      exact value_eq m c
    · refine (h c).2.2.2.2.2.2.2.2.2.2.1.trans ((Reference3Ideal.Read.val_main_v47_eq _ _ _ _ _).trans ?_)
      rw [e0, e1, e2, e3, e4]
      exact glaVT_eq m c
    · refine (h c).2.2.2.2.2.2.2.2.2.2.2.1.trans ((Reference3Ideal.Read.val_main_v48_eq _ _).trans ?_)
      rw [e0, e1, e2, e3, e4]
      exact smallT_eq m c

/-- The reference's run leaves its arguments as launched, and declares no semaphore. -/
theorem reference_frame : Cert.quiescent_Reference3Ideal (hReference3Ideal := Cert.Reference3Ideal.Gen.facts) :=
  fun m ρ _ => (θ_run _ _ _).mono (fun r h => ⟨fun c => (h c).2.2.2.2.2.2.2.2.2.2.2.2, sem_eq_zero_of_no_sems (by decide) r.2⟩)
    (Reference3Ideal.Value.run m ρ)

end Cert.Proof.Projection

end
-- ==== Proof.Modulation.lean ====
/- The modulation kernel and its plain reference end with the same result over the extended reals: entry `(b, n)` of both is
   `∑ k, silu (c b k) · w k n` plus the bias at `n`. -/
module

public import proofs.«01_k».proof.Defs
public import proofs.«01_k».proof.Proof.RowSpec
public import proofs.«01_k».proof.Proof.Gen.Kernel4Ideal.Value
public import proofs.«01_k».proof.Proof.Gen.Reference4Ideal.Run
public import proofs.«01_k».proof.Proof.Gen.Reference4Ideal.Read
public import Idealize.ShloMosaic.Lib.Pipeline.Value
public import Idealize.ShloMosaic.Lib.Pipeline.ValueKit.Geometry

@[expose] public section

set_option maxRecDepth 16384

noncomputable section

namespace Cert.Row

/-- One entry of the modulation: the gated row times one column of the weights, plus that column's bias. -/
def affine (c w : Fin 1024 → EReal) (b : EReal) : EReal := ∑ k, silu (c k) * w k + b

end Cert.Row

namespace Cert.Kernel4Ideal.Rows

open Idealize.ShloMosaic Idealize.ShloMosaic.TcCoe Idealize.SL.Sem Cert.Kernel4Ideal Cert.Kernel4Ideal.Gen Cert.Kernel4Ideal.Value Cert.Row

/-- The body's result block, index by index. -/
theorem out_apply (x0 : Vec Ideal S8x1024 .f32) (x1 : Vec Ideal S1024x1024 .f32) (x2 : Vec Ideal S1x1024 .f32) (b : Fin 8) (n : Fin 1024) :
    out0_3 x0 x1 x2 (ix2 b n) = affine (fun k => x0 (ix2 b k)) (fun k => x1 (ix2 k n)) (x2 (ix2 0 n)) := by
  have h : ![0, 0] = fun _ : Fin 2 => 0 := by funext a; fin_cases a <;> rfl
  unfold out0_3
  rw [View.canon_unit_zero (S := S8x1024) h, View.ld_unit_zero (S := S8x1024) h, View.ld_unit_zero (S := S1024x1024) h,
    View.ld_unit_zero (S := S1x1024) h]
  pointwise [k0_pay1]
  rfl

variable (m : (ℓ : Loc nD τ sig) → Buf (Elt Ideal) ℓ)

theorem idx_facts : ∀ t : Fin cfg0.N,
    win0_0.index t 0 = 0 ∧ win0_0.index t 1 = 0 ∧ win0_1.index t 0 = 0 ∧ win0_1.index t 1 = t.val
    ∧ win0_2.index t 0 = 0 ∧ win0_2.index t 1 = t.val ∧ win0_3.index t 0 = 0 ∧ win0_3.index t 1 = t.val :=
  (by decide +kernel : ∀ t : Fin grid0.N, _)

theorem V_v0 (c : Dev nD) (k : Fin 1024) (n : Fin 6144) :
    V m c main_v0 (ix2 k n) = m ((c : Thread nD τ).loc main_arg1) (ix3 0 k n) := by
  unfold_abbrev_sides
  after_results
  pointwise []

theorem V_v2 (c : Dev nD) (n : Fin 6144) :
    V m c main_v2 (ix2 0 n) = m ((c : Thread nD τ).loc main_arg2) (ix2 0 n) := by
  unfold_abbrev_sides
  after_results
  pointwise []

/-- The column of the result that column `n` of grid point `t`'s tile is. -/
abbrev col (t : Fin cfg0.N) (n : Fin 1024) : Fin 6144 := ⟨1024 * t.val + n.val, by have h : t.val < 6 := t.isLt; omega⟩

theorem blk0_apply (c : Dev nD) (t : Fin cfg0.N) (b : Fin 8) (k : Fin 1024) :
    (iblk m c 0 t : Vec Ideal S8x1024 .f32) (ix2 b k) = m ((c : Thread nD τ).loc main_arg0) (ix2 b k) := by
  have e := idx_facts t
  rw [← V_main_arg0 m c]
  show V m c main_arg0 (((cfg0.win 0).blk t).view.emb (ix2 b k)) = _
  congr 1; funext a; apply Fin.ext
  match a with
  | ⟨0, _⟩ => show win0_0.index t 0 * 8 + 1 * b.val = b.val; omega
  | ⟨1, _⟩ => show win0_0.index t 1 * 1024 + 1 * k.val = k.val; omega

theorem blk1_apply (c : Dev nD) (t : Fin cfg0.N) (k n : Fin 1024) :
    (iblk m c 1 t : Vec Ideal S1024x1024 .f32) (ix2 k n) = m ((c : Thread nD τ).loc main_arg1) (ix3 0 k (col t n)) := by
  have e := idx_facts t
  rw [← V_v0 m c]
  show V m c main_v0 (((cfg0.win 1).blk t).view.emb (ix2 k n)) = _
  congr 1; funext a; apply Fin.ext
  match a with
  | ⟨0, _⟩ => show win0_1.index t 0 * 1024 + 1 * k.val = k.val; omega
  | ⟨1, _⟩ => show win0_1.index t 1 * 1024 + 1 * n.val = 1024 * t.val + n.val; omega

theorem blk2_apply (c : Dev nD) (t : Fin cfg0.N) (n : Fin 1024) :
    (iblk m c 2 t : Vec Ideal S1x1024 .f32) (ix2 0 n) = m ((c : Thread nD τ).loc main_arg2) (ix2 0 (col t n)) := by
  have e := idx_facts t
  rw [← V_v2 m c]
  show V m c main_v2 (((cfg0.win 2).blk t).view.emb (ix2 0 n)) = _
  congr 1; funext a; apply Fin.ext
  match a with
  | ⟨0, _⟩ => show win0_2.index t 0 * 1 + 1 * 0 = 0; omega
  | ⟨1, _⟩ => show win0_2.index t 1 * 1024 + 1 * n.val = 1024 * t.val + n.val; omega

/-- The kernel's result array. -/
abbrev resArr (c : Dev nD) : Buf (Elt Ideal) ((c : Thread nD τ).loc main_v3) := fun i : S8x6144.Idx =>
  affine (fun k => m ((c : Thread nD τ).loc main_arg0) (ix2 (i 0) k)) (fun k => m ((c : Thread nD τ).loc main_arg1) (ix3 0 k (i 1)))
    (m ((c : Thread nD τ).loc main_arg2) (ix2 0 (i 1)))

theorem emb3 (t : Fin cfg0.N) (b : Fin 8) (n : Fin 1024) :
    ((cfg0.win 3).blk t).view.emb (ix2 b n) = (ix2 b (col t n) : S8x6144.Idx) := by
  have e := idx_facts t
  funext a; apply Fin.ext
  match a with
  | ⟨0, _⟩ => show win0_3.index t 0 * 8 + 1 * b.val = b.val; omega
  | ⟨1, _⟩ => show win0_3.index t 1 * 1024 + 1 * n.val = 1024 * t.val + n.val; omega

theorem covers3 : (cfg0.win 3).Covers := by decide +kernel

/-- What a grid point writes back is its block of the result array. -/
theorem after3 (c : Dev nD) (t : Fin cfg0.N) (y : S8x1024.Idx) :
    out0_3 (iblk m c 0 t) (iblk m c 1 t) (iblk m c 2 t) y = resArr m c (((cfg0.win 3).blk t).view.emb y) := by
  obtain ⟨b, n, rfl⟩ : ∃ (b : Fin 8) (n : Fin 1024), y = (ix2 b n : S8x1024.Idx) :=
    ⟨y 0, y 1, by funext a; match a with | ⟨0, _⟩ => rfl | ⟨1, _⟩ => rfl⟩
  rw [emb3, out_apply]
  simp only [blk0_apply, blk1_apply, blk2_apply]
  rfl

/-- The result array after the run. -/
theorem final3 (c : Dev nD) : (dats m 0 c).arrAt 3 cfg0.N = resArr m c :=
  (dats m 0 c).arrAt_eq_of_cover 3 (resArr m c) (fun t _ => (flushed3 m c t).trans (funext fun y => after3 m c t y))
    (covers3.cover _ (Memref.isWhole_whole _))

end Cert.Kernel4Ideal.Rows

namespace Cert.Reference4Ideal.Rows

open Idealize.ShloMosaic Cert.Reference4Ideal Cert.Reference4Ideal.Read Cert.Row

theorem v6_apply (x0 : FVec Ideal S8x1024 .f32) (x1 : FVec Ideal S1x1024x6144 .f32) (x2 : FVec Ideal S1x6144 .f32) (b : Fin 8) (n : Fin 6144) :
    val_main_v6 (F := Ideal) x0 x1 x2 (ix2 b n) = affine (fun k => x0 (ix2 b k)) (fun k => x1 (ix3 0 k n)) (x2 (ix2 0 n)) := by
  pointwise [val_main_v0, val_main_v1, val_main_v2, val_main_v3, val_main_v4, val_main_v5, val_main_v6, val_main_call0_v0,
    val_main_call0_v1, val_main_call0_v2, val_main_call0_v3, val_main_call0_v4, val_main_call0_v5, val_main_call0_cst, val_main_call0_cst_0]
  rfl

end Cert.Reference4Ideal.Rows

namespace Cert.Proof.Modulation

open Idealize.ShloMosaic Idealize.ShloMosaic.TcCoe Idealize.SL.Sem

theorem reference_result (m : (ℓ : Loc Kernel4Ideal.nD Kernel4Ideal.τ Kernel4Ideal.sig) → Buf (Elt Ideal) ℓ) (c : Dev Kernel4Ideal.nD) :
    Reference4Ideal.Read.val_main_v6 (F := Ideal)
      (m ((c.tc : Thread Kernel4Ideal.nD Kernel4Ideal.τ).loc Kernel4Ideal.main_arg0))
      (m ((c.tc : Thread Kernel4Ideal.nD Kernel4Ideal.τ).loc Kernel4Ideal.main_arg1))
      (m ((c.tc : Thread Kernel4Ideal.nD Kernel4Ideal.τ).loc Kernel4Ideal.main_arg2))
    = Kernel4Ideal.Rows.resArr m c := by
  funext i
  obtain ⟨b, n, rfl⟩ : ∃ (b : Fin 8) (n : Fin 6144), i = (ix2 b n : Kernel4Ideal.S8x6144.Idx) :=
    ⟨i 0, i 1, by funext a; match a with | ⟨0, _⟩ => rfl | ⟨1, _⟩ => rfl⟩
  exact Reference4Ideal.Rows.v6_apply _ _ _ b n

theorem algebraic : Cert.algebraic_Kernel4Ideal_Reference4Ideal (hKernel4Ideal := Cert.Kernel4Ideal.Gen.facts)
    (hReference4Ideal := Cert.Reference4Ideal.Gen.facts) := by
  intro m ρ m' ρ' _ hagree
  refine ⟨Kernel4Ideal.Rows.resArr m, ?_, ?_⟩
  · exact (θ_run _ _ _).mono (fun r h c => ⟨(h c).1.trans (Kernel4Ideal.Rows.final3 m c), (h c).2⟩)
      (Kernel4Ideal.Value.run_blocks m ρ)
  · refine (θ_run _ _ _).mono (fun r h c => ⟨?_, (h c).2⟩) (Reference4Ideal.Value.run m' ρ')
    obtain ⟨e0, e1, e2⟩ := hagree c
    refine (h c).1.trans ((Reference4Ideal.Read.val_main_v6_eq _ _ _).trans ?_)
    have e := reference_result m c
    rw [← e0, ← e1, ← e2] at e
    exact e

/-- The reference's run leaves its arguments as launched, and declares no semaphore. -/
theorem reference_frame : Cert.quiescent_Reference4Ideal (hReference4Ideal := Cert.Reference4Ideal.Gen.facts) :=
  fun m ρ _ => (θ_run _ _ _).mono (fun r h => ⟨fun c => (h c).2, sem_eq_zero_of_no_sems (by decide) r.2⟩) (Reference4Ideal.Value.run m ρ)

end Cert.Proof.Modulation

end
-- ==== Proof.GlaKeep.lean ====
module

public import proofs.«01_k».proof.Proof.Gen.Kernel5.Frame.Runs
public import Idealize.ShloMosaic.Lib.Pipeline.Frame

/-! The frame of the gated linear attention's launch: at every point of the grid its body keeps the buffers that it reads. -/

@[expose] public section

set_option maxRecDepth 16384

noncomputable section

namespace Cert.Kernel5.Gla

open Cert.Kernel5 Cert.Kernel5.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
theorem body_keep (c : Dev nD) (i : grid0.Coords) (arg2 : Memref sig .tc .vmem S1x512x256 .f32) (harg2 : arg2.IsWhole) (arg3 : Memref sig .tc .vmem S1x512x256 .f32) (harg3 : arg3.IsWhole) (arg4 : Memref sig .tc .vmem S1x512x512 .f32) (harg4 : arg4.IsWhole) (arg5 : Memref sig .tc .vmem S1x512x512 .f32) (harg5 : arg5.IsWhole) (arg6 : Memref sig .tc .vmem S1x512x128 .f32) (harg6 : arg6.IsWhole) (arg7 : Memref sig .tc .vmem S16x256 .f32) (harg7 : arg7.IsWhole) (arg8 : Memref sig .tc .vmem S1x256 .f32) (harg8 : arg8.IsWhole) (arg9 : Memref sig .tc .vmem S1x512x512 .f32) (harg9 : arg9.IsWhole) (arg10 : Memref sig .tc .vmem S512x256 .f32) (harg10 : arg10.IsWhole) (arg11 : Memref sig .tc .vmem S512x256 .f32) (harg11 : arg11.IsWhole)
    (x0 x1 : Vec F S1x512x256 .f32) (x2 x3 : Vec F S1x512x512 .f32) (x4 : Vec F S1x512x128 .f32) (x5 : Vec F S16x256 .f32) (x6 : Vec F S1x256 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d)) -∗ K ⟨⟩))
      ⊢ wp frame (wpE (defs₀ (F := F)) Variants.none c none) E (cc0__gla_body i arg2 harg2 arg3 harg3 arg4 harg4 arg5 harg5 arg6 harg6 arg7 harg7 arg8 harg8 arg9 harg9 arg10 harg10 arg11 harg11) K := by
  simp only [cc0__gla_body_eq_skeleton]; unfold cc0__gla_body_skel
  simp only [k0_part53_eq_skeleton, k0_part54_eq_skeleton, k0_part55_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, ⟨%ds1, %fs1, -, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
  by_cases hc0 : cond0_0 i
  all_goals
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _, _; isplitr; swap; · iexact H7
      ipureintro; rfl
    isplitl [HS0]
    · iexists _, _; isplitr; swap; · iexact HS0
      ipureintro; rfl
    iexists _, _; isplitr; swap; · iexact HS1
    ipureintro; rfl

variable (m : (ℓ : Loc nD τ sig) → Buf (Elt F) ℓ) (ρ : Dev nD → PrngReg)

/-- The output's window is the one forgotten: nothing here reads what the kernel leaves in it. -/
def forgets0 : Fin 8 → Bool := fun w => w == 7

/-- The proof data: the arrays as the region finds them; the inputs left in place; nothing owed. -/
def dats (_ : Fin 1) (c : Dev nD) : Dat τ (Elt F) Unit ℕ (UR sig nD τ) ℕ cfg0 c where
  A w := V m c (Pipeline.arrRef spec0 w)
  after
    | 0, t => iblk m c 0 t
    | 1, t => iblk m c 1 t
    | 2, t => iblk m c 2 t
    | 3, t => iblk m c 3 t
    | 4, t => iblk m c 4 t
    | 5, t => iblk m c 5 t
    | 6, t => iblk m c 6 t
    | w, t => Pipeline.Dat.unnamed (cfg := cfg0) w t
  Φ _ := Pipeline.ΦA spec0 c
  q _ := fullShare
  owed _ := 0

theorem A_eq (c : Dev nD) (w : Fin cfg0.W) : (dats m 0 c).A w = V m c (Pipeline.arrRef spec0 w) := by dsimp only [dats]

/-- The windows' buffers before the body, and after it. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d)) ∗ (∃ d, owns (c : Thread nD τ) (ms0_1 t) fullShare ((dats m 0 c).before 1 t d)) ∗ (∃ d, owns (c : Thread nD τ) (ms0_2 t) fullShare ((dats m 0 c).before 2 t d)) ∗ (∃ d, owns (c : Thread nD τ) (ms0_3 t) fullShare ((dats m 0 c).before 3 t d)) ∗ (∃ d, owns (c : Thread nD τ) (ms0_4 t) fullShare ((dats m 0 c).before 4 t d)) ∗ (∃ d, owns (c : Thread nD τ) (ms0_5 t) fullShare ((dats m 0 c).before 5 t d)) ∗ (∃ d, owns (c : Thread nD τ) (ms0_6 t) fullShare ((dats m 0 c).before 6 t d)) ∗ (∃ X, owns (c : Thread nD τ) (ms0_7 t) fullShare X))
def bodyPost (c : Dev nD) (t : Fin cfg0.N) : sProp 𝕄 :=
  iprop((dats m 0 c).Φ t.succ ∗ (dats m 0 c).owesAt () t.succ
    ∗ owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ owns (c : Thread nD τ) (ms0_6 t) fullShare (iblk m c 6 t) ∗ (∃ X, owns (c : Thread nD τ) (ms0_7 t) fullShare X))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, PhiA0_eq]
  iintro ⟨⟨⟨HS0, HS1⟩, Hg⟩, HO, ⟨%d0, H0⟩, ⟨%d1, H1⟩, ⟨%d2, H2⟩, ⟨%d3, H3⟩, ⟨%d4, H4⟩, ⟨%d5, H5⟩, ⟨%d6, H6⟩, H7⟩
  rw [before0_0_of m (dats m 0 c) rfl (fun _ => rfl) t d0, before0_1_of m (dats m 0 c) rfl (fun _ => rfl) t d1, before0_2_of m (dats m 0 c) rfl (fun _ => rfl) t d2, before0_3_of m (dats m 0 c) rfl (fun _ => rfl) t d3, before0_4_of m (dats m 0 c) rfl (fun _ => rfl) t d4, before0_5_of m (dats m 0 c) rfl (fun _ => rfl) t d5, before0_6_of m (dats m 0 c) rfl (fun _ => rfl) t d6]
  iapply (body_keep c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (iblk m c 0 t) (iblk m c 1 t) (iblk m c 2 t) (iblk m c 3 t) (iblk m c 4 t) (iblk m c 5 t) (iblk m c 6 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  iintro ⟨H0, H1, H2, H3, H4, H5, H6, H7, HS0, HS1⟩
  isplitl [HS0 HS1 Hg]
  · isplitl [HS0 HS1]
    · isplitl [HS0]; · iexact HS0
      iexact HS1
    iexact Hg
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem defs₀_row (t : Fin cfg0.N) : defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
/-- Every execution of the launch ends with every argument as launched and every semaphore counter at zero. -/
theorem quiescent :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)
    (hQ' := fun _ h => ⟨fun c => ⟨(h.1.arr_in c 0 rfl).trans (V_main_arg0 m c), (h.1.arr_in c 1 rfl).trans (V_main_arg1 m c),
      (h.1.arr_in c 3 rfl).trans (V_main_arg2 m c), (h.1.arr_in c 4 rfl).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c)⟩, h.2⟩)

end Cert.Kernel5.Gla

end
-- ==== Proof.GlaBlock.lean ====
/- One block of sixteen rows of the gated linear attention, as the loop's trip computes it, written once: the block's
   result rows and the state that it leaves. A trip of the loop runs eight of them in sequence. -/
module

public import proofs.«01_k».proof.Proof.Gen.Kernel5Ideal.Loops

@[expose] public section

set_option maxRecDepth 8192

noncomputable section

namespace Cert.Kernel5Ideal.Gla

open Idealize.ShloMosaic Idealize.ShloMosaic.TcCoe Idealize.SL.Sem Cert.Kernel5Ideal Cert.Kernel5Ideal.Gen

variable {F : FTy → Type} [FloatOps F]

/-- Row `j`'s term: the query times key row `j`, decayed from row `j` to the reading row, and nothing before row `j`. -/
def term (j : Nat) (w : BitVec 32) (h : S16x256.Slices ![j, 0] S1x256) (rows : IVec S16x256 32)
    (q k b : FVec F S16x256 .f32) : FVec F S16x256 .f32 :=
  mulf (mulf q (broadcastTo S16x256 (extractStridedSlice S1x256 ![j, 0] k h) broadcasts_S1x256_S16x256))
    (exp2 (select (cmpi .sge rows (broadcast S16x256 w))
      (subf b (broadcastTo S16x256 (extractStridedSlice S1x256 ![j, 0] b h) broadcasts_S1x256_S16x256))
      (broadcast S16x256 (Scalar.ofBits .f32 0xFF800000#32))))

/-- The sixteen terms, one under the other, summed over each head's lanes. -/
def scores (ex : FVec F S256x512 .bf16) (rows : IVec S16x256 32) (q k b : FVec F S16x256 .f32) : FVec F S256x512 .f32 :=
  matmul dot_S256x256_S256x512_S256x512_1_0_0_1_n_n none
    (truncf .bf16 (concatenate S256x256 0
      [⟨S16x256, term 0 0#32 slices_S16x256_o0_0_S1x256 rows q k b⟩,
       ⟨S16x256, term 1 1#32 slices_S16x256_o1_0_S1x256 rows q k b⟩,
       ⟨S16x256, term 2 2#32 slices_S16x256_o2_0_S1x256 rows q k b⟩,
       ⟨S16x256, term 3 3#32 slices_S16x256_o3_0_S1x256 rows q k b⟩,
       ⟨S16x256, term 4 4#32 slices_S16x256_o4_0_S1x256 rows q k b⟩,
       ⟨S16x256, term 5 5#32 slices_S16x256_o5_0_S1x256 rows q k b⟩,
       ⟨S16x256, term 6 6#32 slices_S16x256_o6_0_S1x256 rows q k b⟩,
       ⟨S16x256, term 7 7#32 slices_S16x256_o7_0_S1x256 rows q k b⟩,
       ⟨S16x256, term 8 8#32 slices_S16x256_o8_0_S1x256 rows q k b⟩,
       ⟨S16x256, term 9 9#32 slices_S16x256_o9_0_S1x256 rows q k b⟩,
       ⟨S16x256, term 10 10#32 slices_S16x256_o10_0_S1x256 rows q k b⟩,
       ⟨S16x256, term 11 11#32 slices_S16x256_o11_0_S1x256 rows q k b⟩,
       ⟨S16x256, term 12 12#32 slices_S16x256_o12_0_S1x256 rows q k b⟩,
       ⟨S16x256, term 13 13#32 slices_S16x256_o13_0_S1x256 rows q k b⟩,
       ⟨S16x256, term 14 14#32 slices_S16x256_o14_0_S1x256 rows q k b⟩,
       ⟨S16x256, term 15 15#32 slices_S16x256_o15_0_S1x256 rows q k b⟩]
      concatenates_S16x256_S16x256_S16x256_S16x256_S16x256_S16x256_S16x256_S16x256_S16x256_S16x256_S16x256_S16x256_S16x256_S16x256_S16x256_S16x256_S256x256_d0) bitsLt_bf16_f32) ex
    (constant S256x512 .f32 0x00000000#32)

/-- The accumulator `o` plus the scores for row `j` times value row `j`. -/
def addRow (m j : Nat) (hm : S256x512.Slices ![m, 0] S16x512) (hj : S16x512.Slices ![j, 0] S1x512)
    (g : FVec F S256x512 .f32) (v o : FVec F S16x512 .f32) : FVec F S16x512 .f32 :=
  addf o (mulf (extractStridedSlice S16x512 ![m, 0] g hm)
    (broadcastTo S16x512 (extractStridedSlice S1x512 ![j, 0] v hj) broadcasts_S1x512_S16x512))

/-- What the block's own rows contribute. -/
def intra (g : FVec F S256x512 .f32) (v : FVec F S16x512 .f32) : FVec F S16x512 .f32 :=
  addRow 240 15 slices_S256x512_o240_0_S16x512 slices_S16x512_o15_0_S1x512 g v
    (addRow 224 14 slices_S256x512_o224_0_S16x512 slices_S16x512_o14_0_S1x512 g v
    (addRow 208 13 slices_S256x512_o208_0_S16x512 slices_S16x512_o13_0_S1x512 g v
    (addRow 192 12 slices_S256x512_o192_0_S16x512 slices_S16x512_o12_0_S1x512 g v
    (addRow 176 11 slices_S256x512_o176_0_S16x512 slices_S16x512_o11_0_S1x512 g v
    (addRow 160 10 slices_S256x512_o160_0_S16x512 slices_S16x512_o10_0_S1x512 g v
    (addRow 144 9 slices_S256x512_o144_0_S16x512 slices_S16x512_o9_0_S1x512 g v
    (addRow 128 8 slices_S256x512_o128_0_S16x512 slices_S16x512_o8_0_S1x512 g v
    (addRow 112 7 slices_S256x512_o112_0_S16x512 slices_S16x512_o7_0_S1x512 g v
    (addRow 96 6 slices_S256x512_o96_0_S16x512 slices_S16x512_o6_0_S1x512 g v
    (addRow 80 5 slices_S256x512_o80_0_S16x512 slices_S16x512_o5_0_S1x512 g v
    (addRow 64 4 slices_S256x512_o64_0_S16x512 slices_S16x512_o4_0_S1x512 g v
    (addRow 48 3 slices_S256x512_o48_0_S16x512 slices_S16x512_o3_0_S1x512 g v
    (addRow 32 2 slices_S256x512_o32_0_S16x512 slices_S16x512_o2_0_S1x512 g v
    (addRow 16 1 slices_S256x512_o16_0_S16x512 slices_S16x512_o1_0_S1x512 g v
    (addRow 0 0 slices_S256x512_o0_0_S16x512 slices_S16x512_o0_0_S1x512 g v
    (broadcast S16x512 (Scalar.ofBits .f32 0x00000000#32)))))))))))))))))

/-- What the rows before the block contribute, read off the state. -/
def inter (q b : FVec F S16x256 .f32) (st : FVec F S512x256 .f32) : FVec F S16x512 .f32 :=
  matmul dot_S16x256_S512x256_S16x512_1_1_0_0_n_n none (truncf .bf16 (mulf q (exp2 b)) bitsLt_bf16_f32)
    (truncf .bf16 st bitsLt_bf16_f32) (constant S16x512 .f32 0x00000000#32)

/-- The block's result rows. -/
def blockOut (ex : FVec F S256x512 .bf16) (rows : IVec S16x256 32) (q k b : FVec F S16x256 .f32)
    (v : FVec F S16x512 .f32) (st : FVec F S512x256 .f32) : FVec F S16x512 .f32 :=
  addf (inter q b st) (intra (scores ex rows q k b) v)

/-- The keys decayed to the end of the block. -/
def kdec (k b : FVec F S16x256 .f32) : FVec F S16x256 .f32 :=
  mulf k (exp2 (subf (broadcastTo S16x256 (extractStridedSlice S1x256 ![15, 0] b slices_S16x256_o15_0_S1x256)
    broadcasts_S1x256_S16x256) b))

/-- One head's update of the state. -/
def headUpd (m : Nat) (w : BitVec 32) (h : S512x16.Slices ![m, 0] S128x16) (lane : IVec S16x256 32)
    (vt : FVec F S512x16 .f32) (kd : FVec F S16x256 .f32) : FVec F S128x256 .f32 :=
  matmul dot_S128x16_S16x256_S128x256_1_0_0_1_n_n none
    (extractStridedSlice S128x16 ![m, 0] (truncf .bf16 vt bitsLt_bf16_f32) h)
    (truncf .bf16 (select (cmpi .eq lane (broadcast S16x256 w)) kd
      (broadcast S16x256 (Scalar.ofBits .f32 0x00000000#32))) bitsLt_bf16_f32)
    (constant S128x256 .f32 0x00000000#32)

/-- The state that the block leaves. -/
def blockState (lane : IVec S16x256 32) (k b : FVec F S16x256 .f32) (vt : FVec F S512x16 .f32)
    (st : FVec F S512x256 .f32) : FVec F S512x256 .f32 :=
  addf (mulf st (broadcastTo S512x256 (exp2 (extractStridedSlice S1x256 ![15, 0] b slices_S16x256_o15_0_S1x256))
      broadcasts_S1x256_S512x256))
    (concatenate S512x256 0
      [⟨S128x256, headUpd 0 0#32 slices_S512x16_o0_0_S128x16 lane vt (kdec k b)⟩,
       ⟨S128x256, headUpd 128 1#32 slices_S512x16_o128_0_S128x16 lane vt (kdec k b)⟩,
       ⟨S128x256, headUpd 256 2#32 slices_S512x16_o256_0_S128x16 lane vt (kdec k b)⟩,
       ⟨S128x256, headUpd 384 3#32 slices_S512x16_o384_0_S128x16 lane vt (kdec k b)⟩]
      concatenates_S128x256_S128x256_S128x256_S128x256_S512x256_d0)

/-! The operands of the block at row `m` of a group of 128 rows, from the group's arrays. -/

def qs (m : Nat) (h : S128x256.Slices ![m, 0] S16x256) (a : FVec F S1x128x256 .f32) : FVec F S16x256 .f32 :=
  extractStridedSlice S16x256 ![m, 0] (mulf (shapeCast S128x256 a shapeCasts_S1x128x256_S128x256)
    (broadcast S128x256 (Scalar.ofBits .f32 0x3E000000#32))) h

def ks (m : Nat) (h : S128x256.Slices ![m, 0] S16x256) (a : FVec F S1x128x256 .f32) : FVec F S16x256 .f32 :=
  extractStridedSlice S16x256 ![m, 0] (shapeCast S128x256 a shapeCasts_S1x128x256_S128x256) h

def bs (m : Nat) (h : S128x256.Slices ![m, 0] S16x256) (a : FVec F S128x256 .f32) : FVec F S16x256 .f32 :=
  extractStridedSlice S16x256 ![m, 0] a h

def vs (m : Nat) (h : S128x512.Slices ![m, 0] S16x512) (a : FVec F S1x128x512 .f32) : FVec F S16x512 .f32 :=
  extractStridedSlice S16x512 ![m, 0] (shapeCast S128x512 a shapeCasts_S1x128x512_S128x512) h

def vts (m : Nat) (h : S512x128.Slices ![0, m] S512x16) (a : FVec F S1x512x128 .f32) : FVec F S512x16 .f32 :=
  extractStridedSlice S512x16 ![0, m] (shapeCast S512x128 a shapeCasts_S1x512x128_S512x128) h

/-- The state after a block, by the group's arrays. -/
def stepState (m : Nat) (h : S128x256.Slices ![m, 0] S16x256) (ht : S512x128.Slices ![0, m] S512x16) (lane : IVec S16x256 32)
    (a3 : FVec F S1x128x256 .f32) (a4 : FVec F S1x512x128 .f32) (a11 : FVec F S128x256 .f32)
    (st : FVec F S512x256 .f32) : FVec F S512x256 .f32 :=
  blockState lane (ks m h a3) (bs m h a11) (vts m ht a4) st

/-- The rows a block stores, by the group's arrays. -/
def stepOut (m : Nat) (h : S128x256.Slices ![m, 0] S16x256) (hv : S128x512.Slices ![m, 0] S16x512) (ex : FVec F S256x512 .bf16)
    (rows : IVec S16x256 32) (a2 a3 : FVec F S1x128x256 .f32) (a5 : FVec F S1x128x512 .f32) (a11 : FVec F S128x256 .f32)
    (st : FVec F S512x256 .f32) : FVec F S1x16x512 .f32 :=
  shapeCast S1x16x512 (blockOut ex rows (qs m h a2) (ks m h a3) (bs m h a11) (vs m hv a5) st) shapeCasts_S16x512_S1x16x512

def state1 (lane : IVec S16x256 32) (a3 : FVec F S1x128x256 .f32) (a4 : FVec F S1x512x128 .f32)
    (a11 : FVec F S128x256 .f32) (st : FVec F S512x256 .f32) : FVec F S512x256 .f32 :=
  stepState 0 slices_S128x256_o0_0_S16x256 slices_S512x128_o0_0_S512x16 lane a3 a4 a11 st

def state2 (lane : IVec S16x256 32) (a3 : FVec F S1x128x256 .f32) (a4 : FVec F S1x512x128 .f32)
    (a11 : FVec F S128x256 .f32) (st : FVec F S512x256 .f32) : FVec F S512x256 .f32 :=
  stepState 16 slices_S128x256_o16_0_S16x256 slices_S512x128_o0_16_S512x16 lane a3 a4 a11 (state1 lane a3 a4 a11 st)

def state3 (lane : IVec S16x256 32) (a3 : FVec F S1x128x256 .f32) (a4 : FVec F S1x512x128 .f32)
    (a11 : FVec F S128x256 .f32) (st : FVec F S512x256 .f32) : FVec F S512x256 .f32 :=
  stepState 32 slices_S128x256_o32_0_S16x256 slices_S512x128_o0_32_S512x16 lane a3 a4 a11 (state2 lane a3 a4 a11 st)

def state4 (lane : IVec S16x256 32) (a3 : FVec F S1x128x256 .f32) (a4 : FVec F S1x512x128 .f32)
    (a11 : FVec F S128x256 .f32) (st : FVec F S512x256 .f32) : FVec F S512x256 .f32 :=
  stepState 48 slices_S128x256_o48_0_S16x256 slices_S512x128_o0_48_S512x16 lane a3 a4 a11 (state3 lane a3 a4 a11 st)

def state5 (lane : IVec S16x256 32) (a3 : FVec F S1x128x256 .f32) (a4 : FVec F S1x512x128 .f32)
    (a11 : FVec F S128x256 .f32) (st : FVec F S512x256 .f32) : FVec F S512x256 .f32 :=
  stepState 64 slices_S128x256_o64_0_S16x256 slices_S512x128_o0_64_S512x16 lane a3 a4 a11 (state4 lane a3 a4 a11 st)

def state6 (lane : IVec S16x256 32) (a3 : FVec F S1x128x256 .f32) (a4 : FVec F S1x512x128 .f32)
    (a11 : FVec F S128x256 .f32) (st : FVec F S512x256 .f32) : FVec F S512x256 .f32 :=
  stepState 80 slices_S128x256_o80_0_S16x256 slices_S512x128_o0_80_S512x16 lane a3 a4 a11 (state5 lane a3 a4 a11 st)

def state7 (lane : IVec S16x256 32) (a3 : FVec F S1x128x256 .f32) (a4 : FVec F S1x512x128 .f32)
    (a11 : FVec F S128x256 .f32) (st : FVec F S512x256 .f32) : FVec F S512x256 .f32 :=
  stepState 96 slices_S128x256_o96_0_S16x256 slices_S512x128_o0_96_S512x16 lane a3 a4 a11 (state6 lane a3 a4 a11 st)

def state8 (lane : IVec S16x256 32) (a3 : FVec F S1x128x256 .f32) (a4 : FVec F S1x512x128 .f32)
    (a11 : FVec F S128x256 .f32) (st : FVec F S512x256 .f32) : FVec F S512x256 .f32 :=
  stepState 112 slices_S128x256_o112_0_S16x256 slices_S512x128_o0_112_S512x16 lane a3 a4 a11 (state7 lane a3 a4 a11 st)

/-! A trip's stores are these. -/

variable [Named F]

section Trip

variable (𝒱 : Variants) (c : Dev nD) (bd : Option 𝒱.V) (i : grid0.Coords) (arg2 : Memref sig .tc .vmem S1x512x256 .f32) (harg2 : arg2.IsWhole) (arg3 : Memref sig .tc .vmem S1x512x256 .f32) (harg3 : arg3.IsWhole) (arg4 : Memref sig .tc .vmem S1x512x512 .f32) (harg4 : arg4.IsWhole) (arg5 : Memref sig .tc .vmem S1x512x512 .f32) (harg5 : arg5.IsWhole) (arg6 : Memref sig .tc .vmem S1x512x128 .f32) (harg6 : arg6.IsWhole) (arg7 : Memref sig .tc .vmem S16x256 .f32) (harg7 : arg7.IsWhole) (arg8 : Memref sig .tc .vmem S1x256 .f32) (harg8 : arg8.IsWhole) (arg9 : Memref sig .tc .vmem S1x512x512 .f32) (harg9 : arg9.IsWhole) (arg10 : Memref sig .tc .vmem S512x256 .f32) (harg10 : arg10.IsWhole) (arg11 : Memref sig .tc .vmem S512x256 .f32) (harg11 : arg11.IsWhole) (v27 : IVec S16x256 32) (v82 : FVec F S256x512 .bf16) (v83 : IVec S16x256 32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg11 : BufTy.Contents (Elt F) arg11.view.ty) (k : Fin k0_t1_loop.trips)

abbrev a2 : FVec F S1x128x256 .f32 := View.readAt (Elt F) arg2.view (Rect.unit (s := S1x512x256) (k0_off2 k) S1x128x256.size (k0_off2_inb k)).toLoadRect X_arg2
abbrev a3 : FVec F S1x128x256 .f32 := View.readAt (Elt F) arg3.view (Rect.unit (s := S1x512x256) (k0_off2 k) S1x128x256.size (k0_off2_inb k)).toLoadRect X_arg3
abbrev a4 : FVec F S1x512x128 .f32 := View.readAt (Elt F) arg4.view (Rect.unit (s := S1x512x512) (k0_off4 k) S1x512x128.size (k0_off4_inb k)).toLoadRect X_arg4
abbrev a5 : FVec F S1x128x512 .f32 := View.readAt (Elt F) arg5.view (Rect.unit (s := S1x512x512) (k0_off3 k) S1x128x512.size (k0_off3_inb k)).toLoadRect X_arg5
abbrev a11 : FVec F S128x256 .f32 := View.readAt (Elt F) arg11.view (Rect.unit (s := S512x256) (k0_off1 k) S128x256.size (k0_off1_inb k)).toLoadRect X_arg11
abbrev st0 (f : BufTy.Contents (Elt F) arg10.view.ty) : FVec F S512x256 .f32 := View.readAt (Elt F) arg10.view (Rect.unit (s := S512x256) ![0, 0] S512x256.size inb_S512x256_S512x256_0_0).toLoadRect f

theorem st1_eq (f : BufTy.Contents (Elt F) arg10.view.ty) :
    trip_k0_t1.sl.v500 arg3 arg4 arg10 arg11 v27 X_arg3 X_arg4 X_arg11 k f
      = state1 v27 (a3 arg3 X_arg3 k) (a4 arg4 X_arg4 k) (a11 arg11 X_arg11 k) (st0 arg10 f) := by
  rfl

theorem st2_eq (f : BufTy.Contents (Elt F) arg10.view.ty) :
    trip_k0_t1.sl.v831 arg3 arg4 arg10 arg11 v27 X_arg3 X_arg4 X_arg11 k f
      = state2 v27 (a3 arg3 X_arg3 k) (a4 arg4 X_arg4 k) (a11 arg11 X_arg11 k) (st0 arg10 f) := by
  unfold state2; rw [← st1_eq]; rfl

theorem st3_eq (f : BufTy.Contents (Elt F) arg10.view.ty) :
    trip_k0_t1.sl.v1162 arg3 arg4 arg10 arg11 v27 X_arg3 X_arg4 X_arg11 k f
      = state3 v27 (a3 arg3 X_arg3 k) (a4 arg4 X_arg4 k) (a11 arg11 X_arg11 k) (st0 arg10 f) := by
  unfold state3; rw [← st2_eq]; rfl

theorem st4_eq (f : BufTy.Contents (Elt F) arg10.view.ty) :
    trip_k0_t1.sl.v1493 arg3 arg4 arg10 arg11 v27 X_arg3 X_arg4 X_arg11 k f
      = state4 v27 (a3 arg3 X_arg3 k) (a4 arg4 X_arg4 k) (a11 arg11 X_arg11 k) (st0 arg10 f) := by
  unfold state4; rw [← st3_eq]; rfl

theorem st5_eq (f : BufTy.Contents (Elt F) arg10.view.ty) :
    trip_k0_t1.sl.v1824 arg3 arg4 arg10 arg11 v27 X_arg3 X_arg4 X_arg11 k f
      = state5 v27 (a3 arg3 X_arg3 k) (a4 arg4 X_arg4 k) (a11 arg11 X_arg11 k) (st0 arg10 f) := by
  unfold state5; rw [← st4_eq]; rfl

theorem st6_eq (f : BufTy.Contents (Elt F) arg10.view.ty) :
    trip_k0_t1.sl.v2155 arg3 arg4 arg10 arg11 v27 X_arg3 X_arg4 X_arg11 k f
      = state6 v27 (a3 arg3 X_arg3 k) (a4 arg4 X_arg4 k) (a11 arg11 X_arg11 k) (st0 arg10 f) := by
  unfold state6; rw [← st5_eq]; rfl

theorem st7_eq (f : BufTy.Contents (Elt F) arg10.view.ty) :
    trip_k0_t1.sl.v2486 arg3 arg4 arg10 arg11 v27 X_arg3 X_arg4 X_arg11 k f
      = state7 v27 (a3 arg3 X_arg3 k) (a4 arg4 X_arg4 k) (a11 arg11 X_arg11 k) (st0 arg10 f) := by
  unfold state7; rw [← st6_eq]; rfl

theorem out0_eq (f : BufTy.Contents (Elt F) arg10.view.ty) :
    trip_k0_t1.sl.v461 arg2 arg3 arg5 arg10 arg11 v82 v83 X_arg2 X_arg3 X_arg5 X_arg11 k f
      = stepOut 0 slices_S128x256_o0_0_S16x256 slices_S128x512_o0_0_S16x512 v82 v83 (a2 arg2 X_arg2 k) (a3 arg3 X_arg3 k)
        (a5 arg5 X_arg5 k) (a11 arg11 X_arg11 k) (st0 arg10 f) := by
  rfl

theorem out1_eq (f : BufTy.Contents (Elt F) arg10.view.ty) :
    trip_k0_t1.sl.v792 arg2 arg3 arg4 arg5 arg10 arg11 v27 v82 v83 X_arg2 X_arg3 X_arg4 X_arg5 X_arg11 k f
      = stepOut 16 slices_S128x256_o16_0_S16x256 slices_S128x512_o16_0_S16x512 v82 v83 (a2 arg2 X_arg2 k) (a3 arg3 X_arg3 k)
        (a5 arg5 X_arg5 k) (a11 arg11 X_arg11 k) (state1 v27 (a3 arg3 X_arg3 k) (a4 arg4 X_arg4 k) (a11 arg11 X_arg11 k) (st0 arg10 f)) := by
  rw [← st1_eq]; rfl

theorem out2_eq (f : BufTy.Contents (Elt F) arg10.view.ty) :
    trip_k0_t1.sl.v1123 arg2 arg3 arg4 arg5 arg10 arg11 v27 v82 v83 X_arg2 X_arg3 X_arg4 X_arg5 X_arg11 k f
      = stepOut 32 slices_S128x256_o32_0_S16x256 slices_S128x512_o32_0_S16x512 v82 v83 (a2 arg2 X_arg2 k) (a3 arg3 X_arg3 k)
        (a5 arg5 X_arg5 k) (a11 arg11 X_arg11 k) (state2 v27 (a3 arg3 X_arg3 k) (a4 arg4 X_arg4 k) (a11 arg11 X_arg11 k) (st0 arg10 f)) := by
  rw [← st2_eq]; rfl

theorem out3_eq (f : BufTy.Contents (Elt F) arg10.view.ty) :
    trip_k0_t1.sl.v1454 arg2 arg3 arg4 arg5 arg10 arg11 v27 v82 v83 X_arg2 X_arg3 X_arg4 X_arg5 X_arg11 k f
      = stepOut 48 slices_S128x256_o48_0_S16x256 slices_S128x512_o48_0_S16x512 v82 v83 (a2 arg2 X_arg2 k) (a3 arg3 X_arg3 k)
        (a5 arg5 X_arg5 k) (a11 arg11 X_arg11 k) (state3 v27 (a3 arg3 X_arg3 k) (a4 arg4 X_arg4 k) (a11 arg11 X_arg11 k) (st0 arg10 f)) := by
  rw [← st3_eq]; rfl

theorem out4_eq (f : BufTy.Contents (Elt F) arg10.view.ty) :
    trip_k0_t1.sl.v1785 arg2 arg3 arg4 arg5 arg10 arg11 v27 v82 v83 X_arg2 X_arg3 X_arg4 X_arg5 X_arg11 k f
      = stepOut 64 slices_S128x256_o64_0_S16x256 slices_S128x512_o64_0_S16x512 v82 v83 (a2 arg2 X_arg2 k) (a3 arg3 X_arg3 k)
        (a5 arg5 X_arg5 k) (a11 arg11 X_arg11 k) (state4 v27 (a3 arg3 X_arg3 k) (a4 arg4 X_arg4 k) (a11 arg11 X_arg11 k) (st0 arg10 f)) := by
  rw [← st4_eq]; rfl

theorem out5_eq (f : BufTy.Contents (Elt F) arg10.view.ty) :
    trip_k0_t1.sl.v2116 arg2 arg3 arg4 arg5 arg10 arg11 v27 v82 v83 X_arg2 X_arg3 X_arg4 X_arg5 X_arg11 k f
      = stepOut 80 slices_S128x256_o80_0_S16x256 slices_S128x512_o80_0_S16x512 v82 v83 (a2 arg2 X_arg2 k) (a3 arg3 X_arg3 k)
        (a5 arg5 X_arg5 k) (a11 arg11 X_arg11 k) (state5 v27 (a3 arg3 X_arg3 k) (a4 arg4 X_arg4 k) (a11 arg11 X_arg11 k) (st0 arg10 f)) := by
  rw [← st5_eq]; rfl

theorem out6_eq (f : BufTy.Contents (Elt F) arg10.view.ty) :
    trip_k0_t1.sl.v2447 arg2 arg3 arg4 arg5 arg10 arg11 v27 v82 v83 X_arg2 X_arg3 X_arg4 X_arg5 X_arg11 k f
      = stepOut 96 slices_S128x256_o96_0_S16x256 slices_S128x512_o96_0_S16x512 v82 v83 (a2 arg2 X_arg2 k) (a3 arg3 X_arg3 k)
        (a5 arg5 X_arg5 k) (a11 arg11 X_arg11 k) (state6 v27 (a3 arg3 X_arg3 k) (a4 arg4 X_arg4 k) (a11 arg11 X_arg11 k) (st0 arg10 f)) := by
  rw [← st6_eq]; rfl

theorem out7_eq (f : BufTy.Contents (Elt F) arg10.view.ty) :
    trip_k0_t1.sl.v2778 arg2 arg3 arg4 arg5 arg10 arg11 v27 v82 v83 X_arg2 X_arg3 X_arg4 X_arg5 X_arg11 k f
      = stepOut 112 slices_S128x256_o112_0_S16x256 slices_S128x512_o112_0_S16x512 v82 v83 (a2 arg2 X_arg2 k) (a3 arg3 X_arg3 k)
        (a5 arg5 X_arg5 k) (a11 arg11 X_arg11 k) (state7 v27 (a3 arg3 X_arg3 k) (a4 arg4 X_arg4 k) (a11 arg11 X_arg11 k) (st0 arg10 f)) := by
  rw [← st7_eq]; rfl

theorem trip_state (f9 : BufTy.Contents (Elt F) arg9.view.ty) (f10 : BufTy.Contents (Elt F) arg10.view.ty) :
    (trip_k0_t1 (F := F) 𝒱 c bd i arg2 harg2 arg3 harg3 arg4 harg4 arg5 harg5 arg6 harg6 arg7 harg7 arg8 harg8 arg9 harg9 arg10 harg10 arg11 harg11 v27 v82 v83 X_arg2 X_arg3 X_arg4 X_arg5 X_arg11 k).2.1 f9 f10
      = [⟨Rect.unit (s := S512x256) ![0, 0] S512x256.size inb_S512x256_S512x256_0_0,
          shapeCast S512x256 (state8 v27 (a3 arg3 X_arg3 k) (a4 arg4 X_arg4 k) (a11 arg11 X_arg11 k) (st0 arg10 f10)) shapeCasts_S512x256_S512x256⟩] := by
  unfold trip_k0_t1 state8
  dsimp only
  rw [← st7_eq]
  rfl

theorem trip_out (f9 : BufTy.Contents (Elt F) arg9.view.ty) (f10 : BufTy.Contents (Elt F) arg10.view.ty) :
    (trip_k0_t1 (F := F) 𝒱 c bd i arg2 harg2 arg3 harg3 arg4 harg4 arg5 harg5 arg6 harg6 arg7 harg7 arg8 harg8 arg9 harg9 arg10 harg10 arg11 harg11 v27 v82 v83 X_arg2 X_arg3 X_arg4 X_arg5 X_arg11 k).1 f9 f10
      = [⟨Rect.unit (s := S1x512x512) (k0_off5 k 112#32) S1x16x512.size (k0_off5_inb k 7),
        stepOut 112 slices_S128x256_o112_0_S16x256 slices_S128x512_o112_0_S16x512 v82 v83 (a2 arg2 X_arg2 k) (a3 arg3 X_arg3 k)
          (a5 arg5 X_arg5 k) (a11 arg11 X_arg11 k) (state7 v27 (a3 arg3 X_arg3 k) (a4 arg4 X_arg4 k) (a11 arg11 X_arg11 k) (st0 arg10 f10))⟩,
      ⟨Rect.unit (s := S1x512x512) (k0_off5 k 96#32) S1x16x512.size (k0_off5_inb k 6),
        stepOut 96 slices_S128x256_o96_0_S16x256 slices_S128x512_o96_0_S16x512 v82 v83 (a2 arg2 X_arg2 k) (a3 arg3 X_arg3 k)
          (a5 arg5 X_arg5 k) (a11 arg11 X_arg11 k) (state6 v27 (a3 arg3 X_arg3 k) (a4 arg4 X_arg4 k) (a11 arg11 X_arg11 k) (st0 arg10 f10))⟩,
      ⟨Rect.unit (s := S1x512x512) (k0_off5 k 80#32) S1x16x512.size (k0_off5_inb k 5),
        stepOut 80 slices_S128x256_o80_0_S16x256 slices_S128x512_o80_0_S16x512 v82 v83 (a2 arg2 X_arg2 k) (a3 arg3 X_arg3 k)
          (a5 arg5 X_arg5 k) (a11 arg11 X_arg11 k) (state5 v27 (a3 arg3 X_arg3 k) (a4 arg4 X_arg4 k) (a11 arg11 X_arg11 k) (st0 arg10 f10))⟩,
      ⟨Rect.unit (s := S1x512x512) (k0_off5 k 64#32) S1x16x512.size (k0_off5_inb k 4),
        stepOut 64 slices_S128x256_o64_0_S16x256 slices_S128x512_o64_0_S16x512 v82 v83 (a2 arg2 X_arg2 k) (a3 arg3 X_arg3 k)
          (a5 arg5 X_arg5 k) (a11 arg11 X_arg11 k) (state4 v27 (a3 arg3 X_arg3 k) (a4 arg4 X_arg4 k) (a11 arg11 X_arg11 k) (st0 arg10 f10))⟩,
      ⟨Rect.unit (s := S1x512x512) (k0_off5 k 48#32) S1x16x512.size (k0_off5_inb k 3),
        stepOut 48 slices_S128x256_o48_0_S16x256 slices_S128x512_o48_0_S16x512 v82 v83 (a2 arg2 X_arg2 k) (a3 arg3 X_arg3 k)
          (a5 arg5 X_arg5 k) (a11 arg11 X_arg11 k) (state3 v27 (a3 arg3 X_arg3 k) (a4 arg4 X_arg4 k) (a11 arg11 X_arg11 k) (st0 arg10 f10))⟩,
      ⟨Rect.unit (s := S1x512x512) (k0_off5 k 32#32) S1x16x512.size (k0_off5_inb k 2),
        stepOut 32 slices_S128x256_o32_0_S16x256 slices_S128x512_o32_0_S16x512 v82 v83 (a2 arg2 X_arg2 k) (a3 arg3 X_arg3 k)
          (a5 arg5 X_arg5 k) (a11 arg11 X_arg11 k) (state2 v27 (a3 arg3 X_arg3 k) (a4 arg4 X_arg4 k) (a11 arg11 X_arg11 k) (st0 arg10 f10))⟩,
      ⟨Rect.unit (s := S1x512x512) (k0_off5 k 16#32) S1x16x512.size (k0_off5_inb k 1),
        stepOut 16 slices_S128x256_o16_0_S16x256 slices_S128x512_o16_0_S16x512 v82 v83 (a2 arg2 X_arg2 k) (a3 arg3 X_arg3 k)
          (a5 arg5 X_arg5 k) (a11 arg11 X_arg11 k) (state1 v27 (a3 arg3 X_arg3 k) (a4 arg4 X_arg4 k) (a11 arg11 X_arg11 k) (st0 arg10 f10))⟩,
      ⟨Rect.unit (s := S1x512x512) (k0_off5 k 0#32) S1x16x512.size (k0_off5_inb k 0),
        stepOut 0 slices_S128x256_o0_0_S16x256 slices_S128x512_o0_0_S16x512 v82 v83 (a2 arg2 X_arg2 k) (a3 arg3 X_arg3 k)
          (a5 arg5 X_arg5 k) (a11 arg11 X_arg11 k) (st0 arg10 f10)⟩] := by
  unfold trip_k0_t1
  dsimp only
  rw [← out0_eq arg2 arg3 arg5 arg10 arg11, ← out1_eq, ← out2_eq, ← out3_eq, ← out4_eq, ← out5_eq, ← out6_eq, ← out7_eq]

end Trip

end Cert.Kernel5Ideal.Gla

end
-- ==== Proof.GlaTile.lean ====
module

public import proofs.«01_k».proof.Proof.GlaBlock
public import proofs.«01_k».proof.Proof.Gen.Kernel5Ideal.Frame.Runs
public import Idealize.ShloMosaic.Lib.Pipeline.Value
public import Idealize.ShloMosaic.Lib.VecWindow

/-! What the gated linear attention's body leaves after a tile of 512 rows: its loop's stores as a list of pieces, and the
state it carries from tile to tile, over the vectors that the body loads. -/

@[expose] public section

set_option maxRecDepth 16384

noncomputable section

namespace Cert.Kernel5Ideal.Gla

open Cert.Kernel5Ideal Cert.Kernel5Ideal.Gen Idealize.ShloMosaic Idealize.ShloMosaic.TcCoe Idealize.SL.Sem

variable {F : FTy → Type} [FloatOps F] [Named F]

/-! The masks that the body builds, and its decays. -/

def laneOf : IVec S16x256 32 := k0_pay306

def expandOf : FVec F S256x512 .bf16 :=
  k0_pay309 (iota .tc S256x512 32 [0] iota_S256x512_d0_w32) 64#32 k0_pay307 k0_pay308
    (Scalar.subi (Scalar.extui (Scalar.cmpi .sgt 64#32 0#32)) (Scalar.extui (Scalar.cmpi .slt 64#32 0#32)))

def rowsOf : IVec S16x256 32 := iota .tc S16x256 32 [0] iota_S16x256_d0_w32

def decayOf (x4 : Vec F S1x512x128 .f32) (x5 : Vec F S16x256 .f32) (x6 : Vec F S1x256 .f32) : Vec F S512x256 .f32 :=
  k0_pay1 (k0_pay311 (Scalar.select (Scalar.cmpi .eq 16#32 0#32) 1#32 16#32) k0_pay310)
    (k0_pay312 (Scalar.select (Scalar.cmpi .eq 16#32 0#32) 1#32 16#32) k0_pay310 x4 x5 x6) k0_pay313

/-! The rows of a group of 128. -/

abbrev ld1 (x : Vec F S1x512x256 .f32) (k : Fin k0_t1_loop.trips) : FVec F S1x128x256 .f32 :=
  View.ld x (Rect.unit (s := S1x512x256) (k0_off2 k) S1x128x256.size (k0_off2_inb k))
abbrev ld2 (x : Vec F S1x512x512 .f32) (k : Fin k0_t1_loop.trips) : FVec F S1x512x128 .f32 :=
  View.ld x (Rect.unit (s := S1x512x512) (k0_off4 k) S1x512x128.size (k0_off4_inb k))
abbrev ld3 (x : Vec F S1x512x512 .f32) (k : Fin k0_t1_loop.trips) : FVec F S1x128x512 .f32 :=
  View.ld x (Rect.unit (s := S1x512x512) (k0_off3 k) S1x128x512.size (k0_off3_inb k))
abbrev ld4 (x : Vec F S512x256 .f32) (k : Fin k0_t1_loop.trips) : FVec F S128x256 .f32 :=
  View.ld x (Rect.unit (s := S512x256) (k0_off1 k) S128x256.size (k0_off1_inb k))

/-- A group's stores, from the state `s` that it finds. -/
def groupPieces (x0 x1 : Vec F S1x512x256 .f32) (x2 x3 : Vec F S1x512x512 .f32) (la : Vec F S512x256 .f32)
    (k : Fin k0_t1_loop.trips) (s : Vec F S512x256 .f32) : List (View.Piece (Elt F) S1x512x512 .f32) :=
  [⟨Rect.unit (s := S1x512x512) (k0_off5 k 112#32) S1x16x512.size (k0_off5_inb k 7),
      stepOut 112 slices_S128x256_o112_0_S16x256 slices_S128x512_o112_0_S16x512 expandOf rowsOf (ld1 x0 k) (ld1 x1 k)
        (ld3 x3 k) (ld4 la k) (state7 laneOf (ld1 x1 k) (ld2 x2 k) (ld4 la k) s)⟩,
    ⟨Rect.unit (s := S1x512x512) (k0_off5 k 96#32) S1x16x512.size (k0_off5_inb k 6),
      stepOut 96 slices_S128x256_o96_0_S16x256 slices_S128x512_o96_0_S16x512 expandOf rowsOf (ld1 x0 k) (ld1 x1 k)
        (ld3 x3 k) (ld4 la k) (state6 laneOf (ld1 x1 k) (ld2 x2 k) (ld4 la k) s)⟩,
    ⟨Rect.unit (s := S1x512x512) (k0_off5 k 80#32) S1x16x512.size (k0_off5_inb k 5),
      stepOut 80 slices_S128x256_o80_0_S16x256 slices_S128x512_o80_0_S16x512 expandOf rowsOf (ld1 x0 k) (ld1 x1 k)
        (ld3 x3 k) (ld4 la k) (state5 laneOf (ld1 x1 k) (ld2 x2 k) (ld4 la k) s)⟩,
    ⟨Rect.unit (s := S1x512x512) (k0_off5 k 64#32) S1x16x512.size (k0_off5_inb k 4),
      stepOut 64 slices_S128x256_o64_0_S16x256 slices_S128x512_o64_0_S16x512 expandOf rowsOf (ld1 x0 k) (ld1 x1 k)
        (ld3 x3 k) (ld4 la k) (state4 laneOf (ld1 x1 k) (ld2 x2 k) (ld4 la k) s)⟩,
    ⟨Rect.unit (s := S1x512x512) (k0_off5 k 48#32) S1x16x512.size (k0_off5_inb k 3),
      stepOut 48 slices_S128x256_o48_0_S16x256 slices_S128x512_o48_0_S16x512 expandOf rowsOf (ld1 x0 k) (ld1 x1 k)
        (ld3 x3 k) (ld4 la k) (state3 laneOf (ld1 x1 k) (ld2 x2 k) (ld4 la k) s)⟩,
    ⟨Rect.unit (s := S1x512x512) (k0_off5 k 32#32) S1x16x512.size (k0_off5_inb k 2),
      stepOut 32 slices_S128x256_o32_0_S16x256 slices_S128x512_o32_0_S16x512 expandOf rowsOf (ld1 x0 k) (ld1 x1 k)
        (ld3 x3 k) (ld4 la k) (state2 laneOf (ld1 x1 k) (ld2 x2 k) (ld4 la k) s)⟩,
    ⟨Rect.unit (s := S1x512x512) (k0_off5 k 16#32) S1x16x512.size (k0_off5_inb k 1),
      stepOut 16 slices_S128x256_o16_0_S16x256 slices_S128x512_o16_0_S16x512 expandOf rowsOf (ld1 x0 k) (ld1 x1 k)
        (ld3 x3 k) (ld4 la k) (state1 laneOf (ld1 x1 k) (ld2 x2 k) (ld4 la k) s)⟩,
    ⟨Rect.unit (s := S1x512x512) (k0_off5 k 0#32) S1x16x512.size (k0_off5_inb k 0),
      stepOut 0 slices_S128x256_o0_0_S16x256 slices_S128x512_o0_0_S16x512 expandOf rowsOf (ld1 x0 k) (ld1 x1 k)
        (ld3 x3 k) (ld4 la k) s⟩]

/-- The state after the first `n` groups. -/
def tileState (x1 : Vec F S1x512x256 .f32) (x2 : Vec F S1x512x512 .f32) (la : Vec F S512x256 .f32)
    (s : Vec F S512x256 .f32) : ℕ → Vec F S512x256 .f32
  | 0 => s
  | n + 1 => if h : n < k0_t1_loop.trips then
      state8 laneOf (ld1 x1 ⟨n, h⟩) (ld2 x2 ⟨n, h⟩) (ld4 la ⟨n, h⟩) (tileState x1 x2 la s n)
    else tileState x1 x2 la s n

/-- The stores of the first `n` groups, the last first. -/
def tilePieces (x0 x1 : Vec F S1x512x256 .f32) (x2 x3 : Vec F S1x512x512 .f32) (la : Vec F S512x256 .f32)
    (s : Vec F S512x256 .f32) : ℕ → List (View.Piece (Elt F) S1x512x512 .f32)
  | 0 => []
  | n + 1 => if h : n < k0_t1_loop.trips then
      groupPieces x0 x1 x2 x3 la ⟨n, h⟩ (tileState x1 x2 la s n) ++ tilePieces x0 x1 x2 x3 la s n
    else tilePieces x0 x1 x2 x3 la s n

theorem tileState_succ (x1 : Vec F S1x512x256 .f32) (x2 : Vec F S1x512x512 .f32) (la s : Vec F S512x256 .f32)
    (k : Fin k0_t1_loop.trips) : tileState x1 x2 la s (k.val + 1)
      = state8 laneOf (ld1 x1 k) (ld2 x2 k) (ld4 la k) (tileState x1 x2 la s k.val) := by
  rw [tileState, dif_pos k.isLt]

theorem tilePieces_succ (x0 x1 : Vec F S1x512x256 .f32) (x2 x3 : Vec F S1x512x512 .f32) (la s : Vec F S512x256 .f32)
    (k : Fin k0_t1_loop.trips) : tilePieces x0 x1 x2 x3 la s (k.val + 1)
      = groupPieces x0 x1 x2 x3 la k (tileState x1 x2 la s k.val) ++ tilePieces x0 x1 x2 x3 la s k.val := by
  rw [tilePieces, dif_pos k.isLt]

/-- The tile that the body stores. -/
def tileOut (x0 x1 : Vec F S1x512x256 .f32) (x2 x3 : Vec F S1x512x512 .f32) (la : Vec F S512x256 .f32)
    (s : Vec F S512x256 .f32) : Vec F S1x512x512 .f32 :=
  View.canon (tilePieces x0 x1 x2 x3 la s 4)

theorem trips_eq : k0_t1_loop.trips = 4 := by decide +kernel

theorem cover_rect : ∀ y : S1x512x512.Idx, ∃ k : Fin 4, ∃ n : Fin 8,
    128 * k.val + 16 * n.val ≤ (y 1).val ∧ (y 1).val < 128 * k.val + 16 * n.val + 16 := by
  intro y
  have h : (y 1).val < 512 := (y 1).isLt
  exact ⟨⟨(y 1).val / 128, by omega⟩, ⟨(y 1).val % 128 / 16, by omega⟩, by dsimp only; omega, by dsimp only; omega⟩

theorem mem_tilePieces (x0 x1 : Vec F S1x512x256 .f32) (x2 x3 : Vec F S1x512x512 .f32) (la s : Vec F S512x256 .f32)
    (p : View.Piece (Elt F) S1x512x512 .f32) : ∀ n : ℕ, p ∈ tilePieces x0 x1 x2 x3 la s n ↔
      ∃ k : Fin k0_t1_loop.trips, k.val < n ∧ p ∈ groupPieces x0 x1 x2 x3 la k (tileState x1 x2 la s k.val)
  | 0 => by simp [tilePieces]
  | n + 1 => by
    unfold tilePieces
    split
    · rename_i h
      rw [List.mem_append, mem_tilePieces x0 x1 x2 x3 la s p n]
      constructor
      · rintro (h1 | ⟨k, hk, h1⟩)
        · exact ⟨⟨n, h⟩, Nat.lt_succ_self n, h1⟩
        · exact ⟨k, Nat.lt_succ_of_lt hk, h1⟩
      · rintro ⟨k, hk, h1⟩
        rcases Nat.lt_succ_iff_lt_or_eq.mp hk with h2 | h2
        · exact .inr ⟨k, h2, h1⟩
        · left; obtain ⟨k, hk'⟩ := k; dsimp only at h2; subst h2; exact h1
    · rename_i h
      rw [mem_tilePieces x0 x1 x2 x3 la s p n]
      constructor
      · rintro ⟨k, hk, h1⟩; exact ⟨k, Nat.lt_succ_of_lt hk, h1⟩
      · rintro ⟨k, hk, h1⟩; exact ⟨k, by have := k.isLt; omega, h1⟩

theorem off5_eq : ∀ (k : Fin k0_t1_loop.trips) (n : Fin 8),
    k0_off5 k (BitVec.ofNat 32 (16 * n.val)) = ![0, 128 * k.val + 16 * n.val, 0] := by decide +kernel

theorem mem_off5 (k : Fin k0_t1_loop.trips) (n : Fin 8) (y : S1x512x512.Idx)
    (h : 128 * k.val + 16 * n.val ≤ (y 1).val ∧ (y 1).val < 128 * k.val + 16 * n.val + 16) (w : BitVec 32)
    (hw : w = BitVec.ofNat 32 (16 * n.val)) (inb : ∀ a, k0_off5 k w a + S1x16x512.size a ≤ S1x512x512.size a) :
    y ∈ (Rect.unit (s := S1x512x512) (k0_off5 k w) S1x16x512.size inb).set := by
  rw [Rect.mem_set_unit]
  subst hw
  rw [off5_eq]
  intro a
  have h0 : (y 0).val < 1 := (y 0).isLt
  have h2 : (y 2).val < 512 := (y 2).isLt
  match a with
  | ⟨0, _⟩ => show 0 ≤ (y 0).val ∧ (y 0).val < 0 + 1; omega
  | ⟨1, _⟩ => exact h
  | ⟨2, _⟩ => show 0 ≤ (y 2).val ∧ (y 2).val < 0 + 512; omega

theorem tile_cover (x0 x1 : Vec F S1x512x256 .f32) (x2 x3 : Vec F S1x512x512 .f32) (la s : Vec F S512x256 .f32)
    (y : S1x512x512.Idx) : ∃ p ∈ tilePieces x0 x1 x2 x3 la s 4, y ∈ p.1.set := by
  obtain ⟨k, n, h⟩ := cover_rect y
  have key : ∃ p ∈ groupPieces x0 x1 x2 x3 la (k.cast trips_eq.symm) (tileState x1 x2 la s k.val), y ∈ p.1.set := by
    fin_cases n
    · refine ⟨_, List.mem_of_getElem? (i := 7) rfl, ?_⟩; exact mem_off5 (k.cast trips_eq.symm) 0 y h _ rfl (k0_off5_inb (k.cast trips_eq.symm) 0)
    · refine ⟨_, List.mem_of_getElem? (i := 6) rfl, ?_⟩; exact mem_off5 (k.cast trips_eq.symm) 1 y h _ rfl (k0_off5_inb (k.cast trips_eq.symm) 1)
    · refine ⟨_, List.mem_of_getElem? (i := 5) rfl, ?_⟩; exact mem_off5 (k.cast trips_eq.symm) 2 y h _ rfl (k0_off5_inb (k.cast trips_eq.symm) 2)
    · refine ⟨_, List.mem_of_getElem? (i := 4) rfl, ?_⟩; exact mem_off5 (k.cast trips_eq.symm) 3 y h _ rfl (k0_off5_inb (k.cast trips_eq.symm) 3)
    · refine ⟨_, List.mem_of_getElem? (i := 3) rfl, ?_⟩; exact mem_off5 (k.cast trips_eq.symm) 4 y h _ rfl (k0_off5_inb (k.cast trips_eq.symm) 4)
    · refine ⟨_, List.mem_of_getElem? (i := 2) rfl, ?_⟩; exact mem_off5 (k.cast trips_eq.symm) 5 y h _ rfl (k0_off5_inb (k.cast trips_eq.symm) 5)
    · refine ⟨_, List.mem_of_getElem? (i := 1) rfl, ?_⟩; exact mem_off5 (k.cast trips_eq.symm) 6 y h _ rfl (k0_off5_inb (k.cast trips_eq.symm) 6)
    · refine ⟨_, List.mem_of_getElem? (i := 0) rfl, ?_⟩; exact mem_off5 (k.cast trips_eq.symm) 7 y h _ rfl (k0_off5_inb (k.cast trips_eq.symm) 7)
  obtain ⟨p, hp, hy⟩ := key
  exact ⟨p, (mem_tilePieces x0 x1 x2 x3 la s p 4).mpr ⟨k.cast trips_eq.symm, k.isLt, hp⟩, hy⟩

section Loop

variable (𝒱 : Variants) (c : Dev nD) (bd : Option 𝒱.V) (i : grid0.Coords) (arg2 : Memref sig .tc .vmem S1x512x256 .f32) (harg2 : arg2.IsWhole) (arg3 : Memref sig .tc .vmem S1x512x256 .f32) (harg3 : arg3.IsWhole) (arg4 : Memref sig .tc .vmem S1x512x512 .f32) (harg4 : arg4.IsWhole) (arg5 : Memref sig .tc .vmem S1x512x512 .f32) (harg5 : arg5.IsWhole) (arg6 : Memref sig .tc .vmem S1x512x128 .f32) (harg6 : arg6.IsWhole) (arg7 : Memref sig .tc .vmem S16x256 .f32) (harg7 : arg7.IsWhole) (arg8 : Memref sig .tc .vmem S1x256 .f32) (harg8 : arg8.IsWhole) (arg9 : Memref sig .tc .vmem S1x512x512 .f32) (harg9 : arg9.IsWhole) (arg10 : Memref sig .tc .vmem S512x256 .f32) (harg10 : arg10.IsWhole) (arg11 : Memref sig .tc .vmem S512x256 .f32) (harg11 : arg11.IsWhole)
  (x0 x1 : Vec F S1x512x256 .f32) (x2 x3 : Vec F S1x512x512 .f32) (la s : Vec F S512x256 .f32)

theorem groupState_eq (k : Fin k0_t1_loop.trips) (f10 : BufTy.Contents (Elt F) arg10.view.ty) :
    state8 laneOf (a3 arg3 (harg3.unread x1) k) (a4 arg4 (harg4.unread x2) k) (a11 arg11 (harg11.unread la) k) (st0 arg10 f10)
      = state8 laneOf (ld1 x1 k) (ld2 x2 k) (ld4 la k) (arg10.view.read (Elt F) f10) := by
  congr 1
  · exact congrArg (fun x => ld1 x k) (harg3.read_unread x1)
  · exact congrArg (fun x => ld2 x k) (harg4.read_unread x2)
  · exact congrArg (fun x => ld4 x k) (harg11.read_unread la)
  · exact View.readAt_full _ _ _

theorem group_eq (k : Fin k0_t1_loop.trips) (f9 : BufTy.Contents (Elt F) arg9.view.ty) (f10 : BufTy.Contents (Elt F) arg10.view.ty) :
    (trip_k0_t1 (F := F) 𝒱 c bd i arg2 harg2 arg3 harg3 arg4 harg4 arg5 harg5 arg6 harg6 arg7 harg7 arg8 harg8 arg9 harg9 arg10 harg10 arg11 harg11 laneOf expandOf rowsOf (harg2.unread x0) (harg3.unread x1) (harg4.unread x2) (harg5.unread x3) (harg11.unread la) k).1 f9 f10 = groupPieces x0 x1 x2 x3 la k (arg10.view.read (Elt F) f10) := by
  rw [trip_out]
  unfold groupPieces
  have r1 : a2 arg2 (harg2.unread x0) k = ld1 x0 k := congrArg (fun x => ld1 x k) (harg2.read_unread x0)
  have r2 : a3 arg3 (harg3.unread x1) k = ld1 x1 k := congrArg (fun x => ld1 x k) (harg3.read_unread x1)
  have r3 : a4 arg4 (harg4.unread x2) k = ld2 x2 k := congrArg (fun x => ld2 x k) (harg4.read_unread x2)
  have r4 : a5 arg5 (harg5.unread x3) k = ld3 x3 k := congrArg (fun x => ld3 x k) (harg5.read_unread x3)
  have r5 : a11 arg11 (harg11.unread la) k = ld4 la k := congrArg (fun x => ld4 x k) (harg11.read_unread la)
  have r6 : st0 arg10 f10 = arg10.view.read (Elt F) f10 := View.readAt_full _ _ _
  rw [r1, r2, r3, r4, r5, r6]

/-- The loop's stores are the pieces above, and the state that it leaves is the one above. -/
theorem loop_eq (G9 : BufTy.Contents (Elt F) arg9.view.ty) (G10 : BufTy.Contents (Elt F) arg10.view.ty)
    (hs : arg10.view.read (Elt F) G10 = s) : ∀ n : ℕ, n ≤ 4 →
    (pb_k0_t1 (F := F) 𝒱 c bd i arg2 harg2 arg3 harg3 arg4 harg4 arg5 harg5 arg6 harg6 arg7 harg7 arg8 harg8 arg9 harg9 arg10 harg10 arg11 harg11 laneOf expandOf rowsOf (harg2.unread x0) (harg3.unread x1) (harg4.unread x2) (harg5.unread x3) (harg11.unread la) G9 G10 n).1 = tilePieces x0 x1 x2 x3 la s n
    ∧ arg10.view.read (Elt F) (arg10.view.writes (Elt F) G10 (pb_k0_t1 (F := F) 𝒱 c bd i arg2 harg2 arg3 harg3 arg4 harg4 arg5 harg5 arg6 harg6 arg7 harg7 arg8 harg8 arg9 harg9 arg10 harg10 arg11 harg11 laneOf expandOf rowsOf (harg2.unread x0) (harg3.unread x1) (harg4.unread x2) (harg5.unread x3) (harg11.unread la) G9 G10 n).2) = tileState x1 x2 la s n
  | 0, _ => ⟨rfl, hs⟩
  | n + 1, hn => by
    obtain ⟨h1, h2⟩ := loop_eq G9 G10 hs n (by omega)
    have ht : n < k0_t1_loop.trips := by rw [trips_eq]; omega
    have e := pb_k0_t1_succ (F := F) 𝒱 c bd i arg2 harg2 arg3 harg3 arg4 harg4 arg5 harg5 arg6 harg6 arg7 harg7 arg8 harg8 arg9 harg9 arg10 harg10 arg11 harg11 laneOf expandOf rowsOf (harg2.unread x0) (harg3.unread x1) (harg4.unread x2) (harg5.unread x3) (harg11.unread la) G9 G10 ⟨n, ht⟩
    dsimp only at e
    rw [e, tilePieces_succ x0 x1 x2 x3 la s ⟨n, ht⟩, tileState_succ x1 x2 la s ⟨n, ht⟩]
    constructor
    · rw [← h1, ← h2]
      exact congrArg (· ++ _) (group_eq 𝒱 c bd i arg2 harg2 arg3 harg3 arg4 harg4 arg5 harg5 arg6 harg6 arg7 harg7 arg8 harg8 arg9 harg9 arg10 harg10 arg11 harg11 x0 x1 x2 x3 la ⟨n, ht⟩ _ _)
    · rw [trip_state, List.cons_append, List.nil_append, View.read_writes_full]
      refine (shapeCast_self _ _).trans ?_
      rw [← h2]
      apply groupState_eq

theorem loop_out (X11 : BufTy.Contents (Elt F) arg11.view.ty) (G9 : BufTy.Contents (Elt F) arg9.view.ty) (G10 : BufTy.Contents (Elt F) arg10.view.ty)
    (h11 : arg11.view.read (Elt F) X11 = la) (hs : arg10.view.read (Elt F) G10 = s) :
    arg9.view.read (Elt F) (arg9.view.writes (Elt F) G9 (pb_k0_t1 (F := F) 𝒱 c bd i arg2 harg2 arg3 harg3 arg4 harg4 arg5 harg5 arg6 harg6 arg7 harg7 arg8 harg8 arg9 harg9 arg10 harg10 arg11 harg11 laneOf expandOf rowsOf (harg2.unread x0) (harg3.unread x1) (harg4.unread x2) (harg5.unread x3) X11 G9 G10 k0_t1_loop.trips).1)
      = tileOut x0 x1 x2 x3 la s
    ∧ arg10.view.read (Elt F) (arg10.view.writes (Elt F) G10 (pb_k0_t1 (F := F) 𝒱 c bd i arg2 harg2 arg3 harg3 arg4 harg4 arg5 harg5 arg6 harg6 arg7 harg7 arg8 harg8 arg9 harg9 arg10 harg10 arg11 harg11 laneOf expandOf rowsOf (harg2.unread x0) (harg3.unread x1) (harg4.unread x2) (harg5.unread x3) X11 G9 G10 k0_t1_loop.trips).2)
      = tileState x1 x2 la s 4 := by
  obtain rfl := harg11.eq_unread h11
  rw [trips_eq]
  obtain ⟨h1, h2⟩ := loop_eq 𝒱 c bd i arg2 harg2 arg3 harg3 arg4 harg4 arg5 harg5 arg6 harg6 arg7 harg7 arg8 harg8 arg9 harg9 arg10 harg10 arg11 harg11 x0 x1 x2 x3 la s G9 G10 hs 4 le_rfl
  refine ⟨?_, h2⟩
  rw [h1]
  exact View.read_writes_eq_canon _ _ _ (tile_cover x0 x1 x2 x3 la s)

end Loop

theorem decay_eq {arg6 : Memref sig .tc .vmem S1x512x128 .f32} (harg6 : arg6.IsWhole) {arg7 : Memref sig .tc .vmem S16x256 .f32} (harg7 : arg7.IsWhole)
    {arg8 : Memref sig .tc .vmem S1x256 .f32} (harg8 : arg8.IsWhole) (x4 : Vec F S1x512x128 .f32) (x5 : Vec F S16x256 .f32) (x6 : Vec F S1x256 .f32) :
    decayOf (View.readAt (Elt F) arg6.view (Rect.unit (s := S1x512x128) ![0, 0, 0] S1x512x128.size inb_S1x512x128_S1x512x128_0_0_0).toLoadRect (harg6.unread x4))
      (View.readAt (Elt F) arg7.view (Rect.unit (s := S16x256) ![0, 0] S16x256.size inb_S16x256_S16x256_0_0).toLoadRect (harg7.unread x5))
      (View.readAt (Elt F) arg8.view (Rect.unit (s := S1x256) ![0, 0] S1x256.size inb_S1x256_S1x256_0_0).toLoadRect (harg8.unread x6)) = decayOf x4 x5 x6 := by
  rw [View.readAt_full, View.readAt_full, View.readAt_full, harg6.read_unread, harg7.read_unread, harg8.read_unread]

end Cert.Kernel5Ideal.Gla

end
-- ==== Proof.GlaBody.lean ====
module

public import proofs.«01_k».proof.Proof.GlaTile

/-! The gated linear attention's body at a point of the grid: the tile that it stores and the state that it hands on. -/

@[expose] public section

set_option maxRecDepth 16384

noncomputable section

namespace Cert.Kernel5Ideal.Gla

open Cert.Kernel5Ideal Cert.Kernel5Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- The body at a point that starts a sequence: it clears the state first. -/
theorem body_A (c : Dev nD) (i : grid0.Coords) (arg2 : Memref sig .tc .vmem S1x512x256 .f32) (harg2 : arg2.IsWhole) (arg3 : Memref sig .tc .vmem S1x512x256 .f32) (harg3 : arg3.IsWhole) (arg4 : Memref sig .tc .vmem S1x512x512 .f32) (harg4 : arg4.IsWhole) (arg5 : Memref sig .tc .vmem S1x512x512 .f32) (harg5 : arg5.IsWhole) (arg6 : Memref sig .tc .vmem S1x512x128 .f32) (harg6 : arg6.IsWhole) (arg7 : Memref sig .tc .vmem S16x256 .f32) (harg7 : arg7.IsWhole) (arg8 : Memref sig .tc .vmem S1x256 .f32) (harg8 : arg8.IsWhole) (arg9 : Memref sig .tc .vmem S1x512x512 .f32) (harg9 : arg9.IsWhole) (arg10 : Memref sig .tc .vmem S512x256 .f32) (harg10 : arg10.IsWhole) (arg11 : Memref sig .tc .vmem S512x256 .f32) (harg11 : arg11.IsWhole) (hc0 : cond0_0 i)
    (x0 x1 : Vec F S1x512x256 .f32) (x2 x3 : Vec F S1x512x512 .f32) (x4 : Vec F S1x512x128 .f32) (x5 : Vec F S16x256 .f32) (x6 : Vec F S1x256 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (tileOut x0 x1 x2 x3 (decayOf x4 x5 x6) (k0_pay305 (F := F)))
          ∗ owns (c : Thread nD τ) arg10 fullShare (tileState x1 x2 (decayOf x4 x5 x6) (k0_pay305 (F := F)) 4) ∗ (∃ d, owns (c : Thread nD τ) arg11 fullShare d)) -∗ K ⟨⟩))
      ⊢ wp frame (wpE (defs₀ (F := F)) Variants.none c none) E (cc0__gla_body i arg2 harg2 arg3 harg3 arg4 harg4 arg5 harg5 arg6 harg6 arg7 harg7 arg8 harg8 arg9 harg9 arg10 harg10 arg11 harg11) K := by
  simp only [cc0__gla_body_eq_skeleton]; unfold cc0__gla_body_skel
  simp only [k0_part53_eq_skeleton, k0_part54_eq_skeleton, k0_part55_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, ⟨%ds1, %fs1, -, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr
    swap; · iexact H7
    ipureintro
    exact (loop_out _ _ _ _ _ _ _ _ _ _ _ _ _ _ _ _ _ _ _ _ _ _ _ _ _ _ _ _ _ _ _ _ _ ((View.read_writes_full _ _ _ _ _).trans (decay_eq harg6 harg7 harg8 x4 x5 x6)) (View.read_writes_full _ _ _ _ _)).1
  isplitl [HS0]
  · iexists _; isplitr
    swap; · iexact HS0
    ipureintro
    rw [View.writes_append]
    exact (loop_out _ _ _ _ _ _ _ _ _ _ _ _ _ _ _ _ _ _ _ _ _ _ _ _ _ _ _ _ _ _ _ _ _ ((View.read_writes_full _ _ _ _ _).trans (decay_eq harg6 harg7 harg8 x4 x5 x6)) (View.read_writes_full _ _ _ _ _)).2
  iexists _, _; isplitr; swap; · iexact HS1
  ipureintro; rfl

set_option maxHeartbeats 1000000 in
/-- The body at a point that goes on with a sequence. -/
theorem body_B (c : Dev nD) (i : grid0.Coords) (arg2 : Memref sig .tc .vmem S1x512x256 .f32) (harg2 : arg2.IsWhole) (arg3 : Memref sig .tc .vmem S1x512x256 .f32) (harg3 : arg3.IsWhole) (arg4 : Memref sig .tc .vmem S1x512x512 .f32) (harg4 : arg4.IsWhole) (arg5 : Memref sig .tc .vmem S1x512x512 .f32) (harg5 : arg5.IsWhole) (arg6 : Memref sig .tc .vmem S1x512x128 .f32) (harg6 : arg6.IsWhole) (arg7 : Memref sig .tc .vmem S16x256 .f32) (harg7 : arg7.IsWhole) (arg8 : Memref sig .tc .vmem S1x256 .f32) (harg8 : arg8.IsWhole) (arg9 : Memref sig .tc .vmem S1x512x512 .f32) (harg9 : arg9.IsWhole) (arg10 : Memref sig .tc .vmem S512x256 .f32) (harg10 : arg10.IsWhole) (arg11 : Memref sig .tc .vmem S512x256 .f32) (harg11 : arg11.IsWhole) (hc0 : ¬cond0_0 i)
    (x0 x1 : Vec F S1x512x256 .f32) (x2 x3 : Vec F S1x512x512 .f32) (x4 : Vec F S1x512x128 .f32) (x5 : Vec F S16x256 .f32) (x6 : Vec F S1x256 .f32) (xs : Vec F S512x256 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare xs ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (tileOut x0 x1 x2 x3 (decayOf x4 x5 x6) xs)
          ∗ owns (c : Thread nD τ) arg10 fullShare (tileState x1 x2 (decayOf x4 x5 x6) xs 4) ∗ (∃ d, owns (c : Thread nD τ) arg11 fullShare d)) -∗ K ⟨⟩))
      ⊢ wp frame (wpE (defs₀ (F := F)) Variants.none c none) E (cc0__gla_body i arg2 harg2 arg3 harg3 arg4 harg4 arg5 harg5 arg6 harg6 arg7 harg7 arg8 harg8 arg9 harg9 arg10 harg10 arg11 harg11) K := by
  simp only [cc0__gla_body_eq_skeleton]; unfold cc0__gla_body_skel
  simp only [k0_part53_eq_skeleton, k0_part54_eq_skeleton, k0_part55_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, ⟨%ds1, %fs1, -, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hfs0
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr
    swap; · iexact H7
    ipureintro
    exact (loop_out _ _ _ _ _ _ _ _ _ _ _ _ _ _ _ _ _ _ _ _ _ _ _ _ _ _ _ _ _ _ _ _ _ ((View.read_writes_full _ _ _ _ _).trans (decay_eq harg6 harg7 harg8 x4 x5 x6)) (harg10.read_unread _)).1
  isplitl [HS0]
  · iexists _; isplitr
    swap; · iexact HS0
    ipureintro
    exact (loop_out _ _ _ _ _ _ _ _ _ _ _ _ _ _ _ _ _ _ _ _ _ _ _ _ _ _ _ _ _ _ _ _ _ ((View.read_writes_full _ _ _ _ _).trans (decay_eq harg6 harg7 harg8 x4 x5 x6)) (harg10.read_unread _)).2
  iexists _, _; isplitr; swap; · iexact HS1
  ipureintro; rfl

end Cert.Kernel5Ideal.Gla

end
-- ==== Proof.GlaRun.lean ====
module

public import proofs.«01_k».proof.Proof.GlaBody
public import proofs.«01_k».proof.Proof.RowSpec
public import Idealize.ShloMosaic.Lib.Claim

/-! The gated linear attention's run: what each point of the grid stores, the state it hands to the next, and the array that
the launch leaves. -/

@[expose] public section

set_option maxRecDepth 16384

noncomputable section

namespace Cert.Kernel5Ideal.Gla

open Cert.Kernel5Ideal Cert.Kernel5Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The decays of point `t`'s tile. -/
def laAt (c : Dev nD) (t : Fin cfg0.N) : Vec F S512x256 .f32 := decayOf (iblk m c 4 t) (iblk m c 5 t) (iblk m c 6 t)

/-- The state that point `t` leaves over the state `s` that it finds. -/
def stStep (c : Dev nD) (t : Fin cfg0.N) (s : Vec F S512x256 .f32) : Vec F S512x256 .f32 :=
  tileState (iblk m c 1 t) (iblk m c 2 t) (laAt m c t) s 4

/-- The state that point `n` computes from: cleared where a sequence starts, else what the point before left. -/
def stBefore (c : Dev nD) : ℕ → Vec F S512x256 .f32
  | 0 => k0_pay305 (F := F)
  | n + 1 => if (n + 1) % 16 = 0 then k0_pay305 (F := F)
    else if h : n < cfg0.N then stStep m c ⟨n, h⟩ (stBefore c n) else k0_pay305 (F := F)

theorem stBefore_start (c : Dev nD) (n : ℕ) (h : n % 16 = 0) : stBefore m c n = k0_pay305 (F := F) := by
  cases n with
  | zero => rfl
  | succ n => rw [stBefore, if_pos h]

theorem stBefore_next (c : Dev nD) (t : Fin cfg0.N) (h : ¬(t.val + 1) % 16 = 0) :
    stBefore m c (t.val + 1) = stStep m c t (stBefore m c t.val) := by
  rw [stBefore, if_neg h, dif_pos t.isLt]

theorem stBefore_pos (c : Dev nD) (n : ℕ) (hn : n < cfg0.N) (h : ¬n % 16 = 0) (h' : n - 1 < cfg0.N) :
    stStep m c ⟨n - 1, h'⟩ (stBefore m c (n - 1)) = stBefore m c n := by
  cases n with
  | zero => exact absurd (Nat.zero_mod _) h
  | succ n => exact (stBefore_next m c ⟨n, h'⟩ h).symm

/-- The tile that point `t` stores. -/
def outAt (c : Dev nD) (t : Fin cfg0.N) : Vec F S1x512x512 .f32 :=
  tileOut (iblk m c 0 t) (iblk m c 1 t) (iblk m c 2 t) (iblk m c 3 t) (laAt m c t) (stBefore m c t.val)

/-- What is held between the points: before the first the scratch at anything, afterwards the state at what the point before
left in it. -/
def carried (c : Dev nD) : (n : ℕ) → n ≤ cfg0.N → sProp 𝕄
  | 0, _ => Pipeline.ΦA spec0 c
  | n + 1, hn => iprop(iprop(owns (c : Thread nD τ) scM0_0 fullShare (stStep m c ⟨n, hn⟩ (stBefore m c n)) ∗ (∃ d, owns (c : Thread nD τ) scM0_1 fullShare d)) ∗ (∃ r, prngReg c r))

theorem carried_zero (c : Dev nD) (n : ℕ) (h : n ≤ cfg0.N) (hz : n = 0) : carried m c n h = Pipeline.ΦA spec0 c := by
  subst hz; rfl

theorem carried_pos (c : Dev nD) (n : ℕ) (h : n ≤ cfg0.N) (hz : n ≠ 0) :
    carried m c n h = iprop(iprop(owns (c : Thread nD τ) scM0_0 fullShare (stStep m c ⟨n - 1, by omega⟩ (stBefore m c (n - 1))) ∗ (∃ d, owns (c : Thread nD τ) scM0_1 fullShare d)) ∗ (∃ r, prngReg c r)) := by
  cases n with
  | zero => exact absurd rfl hz
  | succ n => rfl

/-- The proof data: the arrays as the region finds them, the inputs left in place, the output at the point's tile. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outAt m c t
  Φ t := carried m c t.val (Nat.le_of_lt_succ t.isLt)
  q _ := fullShare
  owed _ := 0

theorem A_eq (c : Dev nD) (w : Fin cfg0.W) : (dats m 0 c).A w = V m c (Pipeline.arrRef spec0 w) := by dsimp only [dats]

theorem Phi_castSucc (c : Dev nD) (t : Fin cfg0.N) :
    (dats m 0 c).Φ t.castSucc = carried m c t.val (Nat.le_of_lt t.isLt) := by
  dsimp only [dats]; exact Pipeline.Dat.Φ_castSucc (carried m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- The windows' buffers before the body, and after it. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d)) ∗ (∃ d, owns (c : Thread nD τ) (ms0_1 t) fullShare ((dats m 0 c).before 1 t d)) ∗ (∃ d, owns (c : Thread nD τ) (ms0_2 t) fullShare ((dats m 0 c).before 2 t d)) ∗ (∃ d, owns (c : Thread nD τ) (ms0_3 t) fullShare ((dats m 0 c).before 3 t d)) ∗ (∃ d, owns (c : Thread nD τ) (ms0_4 t) fullShare ((dats m 0 c).before 4 t d)) ∗ (∃ d, owns (c : Thread nD τ) (ms0_5 t) fullShare ((dats m 0 c).before 5 t d)) ∗ (∃ d, owns (c : Thread nD τ) (ms0_6 t) fullShare ((dats m 0 c).before 6 t d)) ∗ (∃ d, owns (c : Thread nD τ) (ms0_7 t) fullShare ((dats m 0 c).before 7 t d)))
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t) ∗ owns (c : Thread nD τ) (ms0_1 t) fullShare ((dats m 0 c).after 1 t) ∗ owns (c : Thread nD τ) (ms0_2 t) fullShare ((dats m 0 c).after 2 t) ∗ owns (c : Thread nD τ) (ms0_3 t) fullShare ((dats m 0 c).after 3 t) ∗ owns (c : Thread nD τ) (ms0_4 t) fullShare ((dats m 0 c).after 4 t) ∗ owns (c : Thread nD τ) (ms0_5 t) fullShare ((dats m 0 c).after 5 t) ∗ owns (c : Thread nD τ) (ms0_6 t) fullShare ((dats m 0 c).after 6 t) ∗ owns (c : Thread nD τ) (ms0_7 t) fullShare ((dats m 0 c).after 7 t))

/-- What the body ends with is what the point returns. -/
theorem hand_back (c : Dev nD) (t : Fin cfg0.N) :
    iprop((∃ r, prngReg c r) ∗ (dats m 0 c).owesAt () t.castSucc) ⊢
      iprop((iprop(owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ owns (c : Thread nD τ) (ms0_6 t) fullShare (iblk m c 6 t) ∗ owns (c : Thread nD τ) (ms0_7 t) fullShare (outAt m c t)
          ∗ owns (c : Thread nD τ) scM0_0 fullShare (stStep m c t (stBefore m c t.val)) ∗ (∃ d, owns (c : Thread nD τ) scM0_1 fullShare d)) -∗ bodyPost m c t : sProp 𝕄)) := by
  unfold bodyPost
  rw [show (dats m 0 c).owesAt () t.succ = (dats m 0 c).owesAt () t.castSucc from rfl,
    show (dats m 0 c).Φ t.succ = carried m c (t.val + 1) t.isLt from rfl, carried_pos m c _ _ (Nat.succ_ne_zero _),
    after0_0, after0_1, after0_2, after0_3, after0_4, after0_5, after0_6, after0_7]
  iintro ⟨Hg, Ho⟩ ⟨H0, H1, H2, H3, H4, H5, H6, H7, HS0, HS1⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

set_option maxHeartbeats 1000000 in
theorem sound_body (c : Dev nD) (t : Fin cfg0.N) :
    bodyPre m c t ⊢ wp frame (wpE (defs₀ (F := F)) Variants.none c none) Set.univ (bodyAt0 t) (fun _ => bodyPost m c t) := by
  unfold bodyPre bodyAt0
  simp only [before0_0, before0_1, before0_2, before0_3, before0_4, before0_5, before0_6]
  rw [Phi_castSucc m c t]
  by_cases h0 : t.val % 16 = 0
  · have hb := hand_back m c t
    unfold outAt at hb
    rw [stBefore_start m c t.val h0] at hb
    by_cases hz : t.val = 0
    · rw [carried_zero m c _ _ hz, PhiA0_eq]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (body_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS0]; · iexact HS0
      isplitl [HS1]; · iexact HS1
      iapply hb
      isplitl [Hg]; · iexact Hg
      iexact Ho
    · rw [carried_pos m c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (body_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS0]; · iexists _; iexact HS0
      isplitl [HS1]; · iexact HS1
      iapply hb
      isplitl [Hg]; · iexact Hg
      iexact Ho
  · rw [carried_pos m c _ _ (fun hz => h0 (by rw [hz])), stBefore_pos m c t.val t.isLt h0]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (body_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (stBefore m c t.val) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS0]; · iexact HS0
    isplitl [HS1]; · iexact HS1
    iapply (hand_back m c t)
    isplitl [Hg]; · iexact Hg
    iexact Ho

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = carried m c 0 (Nat.zero_le _) from rfl, carried_zero m c 0 _ rfl]

theorem hout (c : Dev nD) : (dats m 0 c).Φ (Fin.last cfg0.N) ⊢ Pipeline.ΦA spec0 c := by
  rw [show (dats m 0 c).Φ (Fin.last cfg0.N) = carried m c cfg0.N le_rfl from rfl,
    carried_pos m c _ _ (by rw [show cfg0.N = 128 from N_0]; decide), PhiA0_eq]
  iintro ⟨⟨HS0, HS1⟩, Hg⟩
  isplitl [HS0 HS1]
  · isplitl [HS0]
    · iexists _; iexact HS0
    iexact HS1
  iexact Hg

set_option backward.isDefEq.respectTransparency.types false in
/-- The launch ends with each array as the proof data say, and every semaphore counter at zero. -/
theorem run_main : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

/-! The array. -/

/-- The point that stores row `t` of batch `b`. -/
def pt (b : Fin 8) (r : Fin 8192) : Fin cfg0.N :=
  ⟨16 * b.val + r.val / 512, by have := b.isLt; have := r.isLt; rw [show cfg0.N = 128 from N_0]; omega⟩

def result (c : Dev nD) : Buf (Elt F) ((c : Thread nD τ).loc main_v4) := fun i =>
  outAt m c (pt (i 0) (i 1)) (fun a => match a with
    | ⟨0, _⟩ => (0 : Fin 1)
    | ⟨1, _⟩ => (⟨(i 1).val % 512, Nat.mod_lt _ (by decide)⟩ : Fin 512)
    | ⟨2, _⟩ => i 2)

theorem index7 : ∀ t : Fin cfg0.N, win0_7.index t (0 : Fin 3) = t.val / 16 ∧ win0_7.index t (1 : Fin 3) = t.val % 16
    ∧ win0_7.index t (2 : Fin 3) = 0 ∧ (cfg0.win 7).flush t = true :=
  (by decide +kernel : ∀ t : Fin grid0.N, win0_7.index t (0 : Fin 3) = t.val / 16 ∧ win0_7.index t (1 : Fin 3) = t.val % 16
    ∧ win0_7.index t (2 : Fin 3) = 0 ∧ win0_7.flush t = true)

/-- Row `r` of point `t`'s tile. -/
def row (t : Fin cfg0.N) (r : Fin 512) : Fin 8192 :=
  ⟨512 * (t.val % 16) + r.val, by have := r.isLt; have := Nat.mod_lt t.val (show 0 < 16 by decide); omega⟩

def batch (t : Fin cfg0.N) : Fin 8 :=
  ⟨t.val / 16, by have : t.val < 128 := lt_of_lt_of_eq t.isLt (show cfg0.N = 128 from N_0); omega⟩

theorem emb7 (t : Fin cfg0.N) (r n : Fin 512) :
    ((cfg0.win 7).blk t).view.emb (ix3 0 r n : S1x512x512.Idx) = (ix3 (batch t) (row t r) n : S8x8192x512.Idx) := by
  obtain ⟨e0, e1, e2, -⟩ := index7 t
  funext a; apply Fin.ext
  match a with
  | ⟨0, _⟩ => show win0_7.index t (0 : Fin 3) * 1 + 1 * 0 = t.val / 16; omega
  | ⟨1, _⟩ => show win0_7.index t (1 : Fin 3) * 512 + 1 * r.val = 512 * (t.val % 16) + r.val; omega
  | ⟨2, _⟩ => show win0_7.index t (2 : Fin 3) * 512 + 1 * n.val = n.val; omega

theorem pt_row (t : Fin cfg0.N) (r : Fin 512) : pt (batch t) (row t r) = t := by
  have := r.isLt
  apply Fin.ext; show 16 * (t.val / 16) + (512 * (t.val % 16) + r.val) / 512 = t.val; omega

theorem result_row (c : Dev nD) (t : Fin cfg0.N) (r n : Fin 512) :
    result m c (ix3 (batch t) (row t r) n : S8x8192x512.Idx) = outAt m c t (ix3 0 r n) := by
  have := r.isLt
  show outAt m c (pt (batch t) (row t r)) _ = _
  rw [pt_row]
  refine congrArg (outAt m c t) ?_
  funext a; apply Fin.ext
  match a with
  | ⟨0, _⟩ => rfl
  | ⟨1, _⟩ => show (512 * (t.val % 16) + r.val) % 512 = r.val; omega
  | ⟨2, _⟩ => rfl

theorem flushed7 (c : Dev nD) (t : Fin cfg0.N) :
    (dats m 0 c).flushed 7 t = ((cfg0.win 7).blk t).view.read (Elt F) (result m c) := by
  show (cfg0.win 7).cut (grid0.coords t) ((dats m 0 c).after 7 t) = _
  rw [after0_7]
  funext j
  obtain ⟨r, n, rfl⟩ : ∃ (r : Fin 512) (n : Fin 512), j = (ix3 0 r n : S1x512x512.Idx) := ⟨j 1, j 2, by
    funext a; apply Fin.ext
    match a with
    | ⟨0, _⟩ => have : (j 0).val < 1 := (j 0).isLt; show (j 0).val = 0; omega
    | ⟨1, _⟩ => rfl
    | ⟨2, _⟩ => rfl⟩
  generalize hG : result m c = G
  show outAt m c t (ix3 0 r n) = G (((cfg0.win 7).blk t).view.emb (ix3 0 r n))
  rw [emb7, ← hG, result_row]

theorem final7 (c : Dev nD) : (dats m 0 c).arrAt 7 cfg0.N = result m c :=
  (dats m 0 c).arrAt_eq_of_cover 7 _ (fun t _ => flushed7 m c t) (fun i => by
    have h0 : (i 0).val < 8 := (i 0).isLt
    have h1 : (i 1).val < 8192 := (i 1).isLt
    have h2 : (i 2).val < 512 := (i 2).isLt
    obtain ⟨e0, e1, e2, e3⟩ := index7 (pt (i 0) (i 1))
    have hp : (pt (i 0) (i 1)).val = 16 * (i 0).val + (i 1).val / 512 := rfl
    refine ⟨pt (i 0) (i 1), e3, ?_⟩
    show i ∈ ((View.whole main_v4).slice (win0_7.rect (pt (i 0) (i 1)))).set
    rw [View.set_slice_whole, Rect.mem_set_unit]
    intro a
    match a with
    | ⟨0, _⟩ => show win0_7.index (pt (i 0) (i 1)) (0 : Fin 3) * 1 ≤ (i 0).val ∧ (i 0).val < win0_7.index (pt (i 0) (i 1)) (0 : Fin 3) * 1 + 1; omega
    | ⟨1, _⟩ => show win0_7.index (pt (i 0) (i 1)) (1 : Fin 3) * 512 ≤ (i 1).val ∧ (i 1).val < win0_7.index (pt (i 0) (i 1)) (1 : Fin 3) * 512 + 512; omega
    | ⟨2, _⟩ => show win0_7.index (pt (i 0) (i 1)) (2 : Fin 3) * 512 ≤ (i 2).val ∧ (i 2).val < win0_7.index (pt (i 0) (i 1)) (2 : Fin 3) * 512 + 512; omega)

/-- The launch ends with the result array at what the points stored, the arguments as launched. -/
theorem run : θ_run defs (onTc (τ := τ) (main (F := F))) ⟨m, fun _ => 0, ρ⟩ fun r => ∀ c : Dev nD,
      r.2.mem ((c : Thread nD τ).loc main_v4) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨((h.1.1 c).1 7).trans (final7 m c), h.2.1 c⟩)
    (θ_run_and (run_main m ρ) (quiescent m ρ))

end Cert.Kernel5Ideal.Gla

end
-- ==== Proof.GlaRead.lean ====
/- One block of sixteen rows of the gated linear attention at an index, of operands that are real numbers. -/
module

public import proofs.«01_k».proof.Proof.GlaBlock
public import Idealize.ShloMosaic.Lib.Pipeline.Value
public import Idealize.ShloMosaic.Lib.KernelVsHost
public import proofs.«01_k».proof.Proof.RowSpec

@[expose] public section

set_option maxRecDepth 8192

noncomputable section

namespace Cert.Kernel5Ideal.Gla

open Idealize.ShloMosaic Idealize.ShloMosaic.TcCoe Cert.Kernel5Ideal Cert.Kernel5Ideal.Gen

/-- A sum of real numbers, as extended real numbers. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Two to a real power. -/
abbrev pow2 (x : ℝ) : ℝ := Real.rpow 2 x

/-- Does lane `d` of the keys belong to the head of lane `c` of the values? -/
abbrev sameHead (d : Fin 256) (c : Fin 512) : Prop := d.val / 64 = c.val / 128

variable {ex : FVec Ideal S256x512 .bf16} {rows lane : IVec S16x256 32} {q k b : FVec Ideal S16x256 .f32}
  {v : FVec Ideal S16x512 .f32} {vt : FVec Ideal S512x16 .f32} {st : FVec Ideal S512x256 .f32}
  {Q K B : Fin 16 → Fin 256 → ℝ} {V : Fin 16 → Fin 512 → ℝ} {S : Fin 512 → Fin 256 → ℝ}
  (hrows : ∀ r d, rows (ix2 r d) = BitVec.ofNat 32 r.val) (hlane : ∀ r d, lane (ix2 r d) = BitVec.ofNat 32 (d.val / 64))
  (hex : ∀ d c, ex (ix2 d c) = ((if sameHead d c then 1 else 0 : ℝ) : EReal))
  (hq : ∀ r d, q (ix2 r d) = (Q r d : EReal)) (hk : ∀ r d, k (ix2 r d) = (K r d : EReal))
  (hb : ∀ r d, b (ix2 r d) = (B r d : EReal)) (hv : ∀ r c, v (ix2 r c) = (V r c : EReal))
  (hvt : ∀ r c, vt (ix2 c r) = (V r c : EReal)) (hst : ∀ c d, st (ix2 c d) = (S c d : EReal))

/-- The term of the pair of rows `r` and `j` at lane `d`. -/
def pairTerm (Q K B : Fin 16 → Fin 256 → ℝ) (j r : Fin 16) (d : Fin 256) : ℝ :=
  Q r d * K j d * if j ≤ r then pow2 (B r d - B j d) else 0

theorem sge_word (r j : Fin 16) :
    Scalar.cmpi .sge (BitVec.ofNat 32 r.val) (BitVec.ofNat 32 j.val) = if j ≤ r then 1#1 else 0#1 := by
  revert r j; decide +kernel

theorem minus_infinity : Scalar.ofBits (F := Ideal) .f32 0xFF800000#32 = (⊥ : EReal) := by
  show Ideal.ofBits .f32 0xFF800000#32 = ⊥
  simp [Ideal.ofBits, Ideal.ieee]

include hrows hq hk hb in
theorem term_apply (j : Fin 16) (h : S16x256.Slices ![j.val, 0] S1x256) (r : Fin 16) (d : Fin 256) :
    term j.val (BitVec.ofNat 32 j.val) h rows q k b (ix2 r d) = (pairTerm Q K B j r d : EReal) := by
  have e : term j.val (BitVec.ofNat 32 j.val) h rows q k b (ix2 r d)
      = q (ix2 r d) * k (ix2 j d) * Ideal.exp2 (if j ≤ r then b (ix2 r d) - b (ix2 j d) else ⊥) := by
    pointwise [term]
    have hs : IntOp.cmpi CmpIPredicate.sge (rows (ix2 r d)) (BitVec.ofNat 32 j.val) = if j ≤ r then 1#1 else 0#1 :=
      (congrArg (fun w => IntOp.cmpi CmpIPredicate.sge w (BitVec.ofNat 32 j.val)) (hrows r d)).trans (sge_word r j)
    rw [hs, show Ideal.ofBits FTy.f32 4286578688#32 = (⊥ : EReal) from minus_infinity]
    split_ifs <;> rfl
  rw [e, hq, hk, hb, hb, pairTerm]
  split_ifs
  · rw [← EReal.coe_sub]; rfl
  · show _ * (0 : EReal) = _
    simp

/-- The sixteen terms, by the row they are for. -/
def termAt (rows : IVec S16x256 32) (q k b : FVec Ideal S16x256 .f32) : Fin 16 → FVec Ideal S16x256 .f32 :=
  ![term 0 0#32 slices_S16x256_o0_0_S1x256 rows q k b,
    term 1 1#32 slices_S16x256_o1_0_S1x256 rows q k b,
    term 2 2#32 slices_S16x256_o2_0_S1x256 rows q k b,
    term 3 3#32 slices_S16x256_o3_0_S1x256 rows q k b,
    term 4 4#32 slices_S16x256_o4_0_S1x256 rows q k b,
    term 5 5#32 slices_S16x256_o5_0_S1x256 rows q k b,
    term 6 6#32 slices_S16x256_o6_0_S1x256 rows q k b,
    term 7 7#32 slices_S16x256_o7_0_S1x256 rows q k b,
    term 8 8#32 slices_S16x256_o8_0_S1x256 rows q k b,
    term 9 9#32 slices_S16x256_o9_0_S1x256 rows q k b,
    term 10 10#32 slices_S16x256_o10_0_S1x256 rows q k b,
    term 11 11#32 slices_S16x256_o11_0_S1x256 rows q k b,
    term 12 12#32 slices_S16x256_o12_0_S1x256 rows q k b,
    term 13 13#32 slices_S16x256_o13_0_S1x256 rows q k b,
    term 14 14#32 slices_S16x256_o14_0_S1x256 rows q k b,
    term 15 15#32 slices_S16x256_o15_0_S1x256 rows q k b]

theorem termAt_eq (n : Fin 16) : ∃ h, termAt rows q k b n = term n.val (BitVec.ofNat 32 n.val) h rows q k b := by
  fin_cases n <;> exact ⟨_, rfl⟩

/-- The scores of row `r` for row `j` of the block, summed over the lanes of the head of lane `c`. -/
def score (Q K B : Fin 16 → Fin 256 → ℝ) (j r : Fin 16) (c : Fin 512) : ℝ :=
  ∑ d, pairTerm Q K B j r d * if sameHead d c then 1 else 0

theorem scores_read (t : FVec Ideal S256x256 .f32) (ex : FVec Ideal S256x512 .bf16) (i : Fin 256) (c : Fin 512) :
    matmul dot_S256x256_S256x512_S256x512_1_0_0_1_n_n none (truncf .bf16 t bitsLt_bf16_f32 : FVec Ideal S256x256 .bf16) ex
        (constant S256x512 .f32 0x00000000#32) (ix2 i c)
      = ∑ d : Fin 256, t (ix2 i d) * ex (ix2 d c) := by
  pointwise []

/-- Sixteen pieces listed are the list of the function that names them. -/
theorem list16 {α : Type} (f : Fin 16 → α) :
    List.ofFn f = [f 0, f 1, f 2, f 3, f 4, f 5, f 6, f 7, f 8, f 9, f 10, f 11, f 12, f 13, f 14, f 15] := by
  simp [List.ofFn_succ]

theorem list4 {α : Type} (f : Fin 4 → α) : List.ofFn f = [f 0, f 1, f 2, f 3] := by
  simp [List.ofFn_succ]

theorem concat_congr {t : Shape} {a : Fin t.rank} {l l' : List ((s : Shape) × (s.Idx → EReal))} (e : l = l')
    (h : Shape.Concatenates (l.map (·.1)) t a) (h' : Shape.Concatenates (l'.map (·.1)) t a) :
    concatenate t a l h = concatenate t a l' h' := by
  subst e; rfl

include hrows hex hq hk hb in
theorem scores_apply (j r : Fin 16) (c : Fin 512) :
    scores ex rows q k b (ix2 ⟨16 * j.val + r.val, by omega⟩ c) = (score Q K B j r c : EReal) := by
  have hl := list16 fun n : Fin 16 => (⟨S16x256, termAt rows q k b n⟩ : (s : Shape) × (s.Idx → EReal))
  have hc : Shape.Concatenates ((List.ofFn fun n : Fin 16 => (⟨S16x256, termAt rows q k b n⟩ : (s : Shape) × (s.Idx → EReal))).map (·.1))
      S256x256 0 := by rw [hl]; exact concatenates_S16x256_S16x256_S16x256_S16x256_S16x256_S16x256_S16x256_S16x256_S16x256_S16x256_S16x256_S16x256_S16x256_S16x256_S16x256_S16x256_S256x256_d0
  have e : scores ex rows q k b (ix2 ⟨16 * j.val + r.val, by omega⟩ c)
      = ∑ d : Fin 256, concatenate S256x256 0 (List.ofFn fun n : Fin 16 => (⟨S16x256, termAt rows q k b n⟩ : (s : Shape) × (s.Idx → EReal)))
          hc (ix2 ⟨16 * j.val + r.val, by omega⟩ d) * ex (ix2 d c) := by
    rw [concat_congr hl hc concatenates_S16x256_S16x256_S16x256_S16x256_S16x256_S16x256_S16x256_S16x256_S16x256_S16x256_S16x256_S16x256_S16x256_S16x256_S16x256_S16x256_S256x256_d0, ← scores_read]
    rfl
  rw [e, score, coe_sum]
  refine Finset.sum_congr rfl fun d _ => ?_
  rw [concatenate_ofFn_apply (t := S256x256) (s₁ := S16x256) 0 (termAt rows q k b) _ rfl 16 rfl _ j (by show (16 * j.val + r.val) / 16 = j.val; omega)
      (ix2 r d) (by show r.val = (16 * j.val + r.val) % 16; omega)
      (fun a ha => match a with | ⟨0, _⟩ => absurd rfl ha | ⟨1, _⟩ => rfl)]
  obtain ⟨h, ht⟩ := termAt_eq (rows := rows) (q := q) (k := k) (b := b) j
  rw [ht, term_apply hrows hq hk hb, hex, EReal.coe_mul]

theorem addRow_apply (m j : Nat) (hm : S256x512.Slices ![m, 0] S16x512) (hj : S16x512.Slices ![j, 0] S1x512)
    (g : FVec Ideal S256x512 .f32) (v o : FVec Ideal S16x512 .f32) (r : Fin 16) (c : Fin 512) (hm' : m + 16 ≤ 256) (hj' : j < 16) :
    addRow m j hm hj g v o (ix2 r c) = o (ix2 r c) + g (ix2 ⟨m + r.val, by omega⟩ c) * v (ix2 ⟨j, hj'⟩ c) := by
  pointwise [addRow]

include hv in
theorem intra_apply {g : FVec Ideal S256x512 .f32} {G : Fin 16 → Fin 16 → Fin 512 → ℝ}
    (hg : ∀ j r c, g (ix2 ⟨16 * j.val + r.val, by omega⟩ c) = (G j r c : EReal)) (r : Fin 16) (c : Fin 512) :
    intra g v (ix2 r c) = ((∑ j, G j r c * V j c : ℝ) : EReal) := by
  have hg' : ∀ (m : Nat) (j : Fin 16) (h : m + r.val < 256), m = 16 * j.val → g (ix2 ⟨m + r.val, h⟩ c) = (G j r c : EReal) := by
    rintro m j h rfl; exact hg j r c
  have h0 : (broadcast S16x512 (Scalar.ofBits .f32 0x00000000#32) : FVec Ideal S16x512 .f32) (ix2 r c) = ((0 : ℝ) : EReal) := by
    pointwise []; simp
  unfold intra
  repeat rw [addRow_apply _ _ _ _ _ _ _ _ _ (by omega) (by omega)]
  rw [h0]
  rw [hg' 0 0 _ rfl, hg' 16 1 _ rfl, hg' 32 2 _ rfl, hg' 48 3 _ rfl, hg' 64 4 _ rfl, hg' 80 5 _ rfl, hg' 96 6 _ rfl, hg' 112 7 _ rfl, hg' 128 8 _ rfl, hg' 144 9 _ rfl, hg' 160 10 _ rfl, hg' 176 11 _ rfl, hg' 192 12 _ rfl, hg' 208 13 _ rfl, hg' 224 14 _ rfl, hg' 240 15 _ rfl]
  simp only [hv, ← EReal.coe_mul, ← EReal.coe_add]
  refine congrArg _ ?_
  simp only [Fin.sum_univ_castSucc, Fin.sum_univ_zero]
  rfl

include hq hb hst in
theorem inter_apply (r : Fin 16) (c : Fin 512) :
    inter q b st (ix2 r c) = ((∑ d, Q r d * pow2 (B r d) * S c d : ℝ) : EReal) := by
  have e : inter q b st (ix2 r c) = ∑ d, q (ix2 r d) * Ideal.exp2 (b (ix2 r d)) * st (ix2 c d) := by
    pointwise [inter]
    rfl
  rw [e, coe_sum]
  refine Finset.sum_congr rfl fun d _ => ?_
  rw [hq, hb, hst, EReal.coe_mul, EReal.coe_mul]
  rfl

include hrows hex hq hk hb hv hst in
/-- A block's result at an index. -/
theorem blockOut_apply (r : Fin 16) (c : Fin 512) :
    blockOut ex rows q k b v st (ix2 r c)
      = (((∑ d, Q r d * pow2 (B r d) * S c d) + ∑ j, score Q K B j r c * V j c : ℝ) : EReal) := by
  have e : blockOut ex rows q k b v st (ix2 r c) = inter q b st (ix2 r c) + intra (scores ex rows q k b) v (ix2 r c) := by
    pointwise [blockOut]
  rw [e, inter_apply hq hb hst, intra_apply hv (scores_apply hrows hex hq hk hb), EReal.coe_add]

include hk hb in
theorem kdec_apply (r : Fin 16) (d : Fin 256) :
    kdec k b (ix2 r d) = ((K r d * pow2 (B 15 d - B r d) : ℝ) : EReal) := by
  have e : kdec k b (ix2 r d) = k (ix2 r d) * Ideal.exp2 (b (ix2 15 d) - b (ix2 r d)) := by
    pointwise [kdec]
    rfl
  rw [e, hk, hb, hb, ← EReal.coe_sub, EReal.coe_mul]
  rfl

theorem eq_word (n : Fin 4) (h : Fin 4) :
    Scalar.cmpi .eq (BitVec.ofNat 32 n.val) (BitVec.ofNat 32 h.val) = if n = h then 1#1 else 0#1 := by
  revert n h; decide +kernel

include hlane hvt in
theorem headUpd_apply (m : Nat) (n : Fin 4) (h : S512x16.Slices ![m, 0] S128x16) (hm : m = 128 * n.val)
    {kd : FVec Ideal S16x256 .f32} {KD : Fin 16 → Fin 256 → ℝ} (hkd : ∀ r d, kd (ix2 r d) = (KD r d : EReal)) (p : Fin 128) (d : Fin 256) :
    headUpd m (BitVec.ofNat 32 n.val) h lane vt kd (ix2 p d)
      = ((∑ j, V j ⟨128 * n.val + p.val, by omega⟩ * (if d.val / 64 = n.val then KD j d else 0) : ℝ) : EReal) := by
  subst hm
  have e : headUpd (128 * n.val) (BitVec.ofNat 32 n.val) h lane vt kd (ix2 p d)
      = ∑ j, vt (ix2 ⟨128 * n.val + p.val, by omega⟩ j)
          * Scalar.select (IntOp.cmpi CmpIPredicate.eq (lane (ix2 j d)) (BitVec.ofNat 32 n.val)) (kd (ix2 j d)) (0 : EReal) := by
    pointwise [headUpd]
  rw [e, coe_sum]
  refine Finset.sum_congr rfl fun j _ => ?_
  have hs : IntOp.cmpi CmpIPredicate.eq (lane (ix2 j d)) (BitVec.ofNat 32 n.val) = if d.val / 64 = n.val then 1#1 else 0#1 := by
    rw [hlane]
    have := eq_word ⟨d.val / 64, by omega⟩ n
    simp only [Fin.ext_iff] at this
    exact this
  rw [hs, hvt, hkd, EReal.coe_mul]
  split_ifs <;> rfl

theorem state_read (u : FVec Ideal S512x256 .f32) (b : FVec Ideal S16x256 .f32) (st : FVec Ideal S512x256 .f32) (c : Fin 512) (d : Fin 256) :
    addf (mulf st (broadcastTo S512x256 (exp2 (extractStridedSlice S1x256 ![15, 0] b slices_S16x256_o15_0_S1x256))
      broadcasts_S1x256_S512x256)) u (ix2 c d) = st (ix2 c d) * Ideal.exp2 (b (ix2 15 d)) + u (ix2 c d) := by
  pointwise []
  rfl

include hlane hk hb hvt hst in
/-- The state a block leaves, at an index. -/
theorem blockState_apply (c : Fin 512) (d : Fin 256) :
    blockState lane k b vt st (ix2 c d)
      = ((S c d * pow2 (B 15 d) + ∑ j, V j c * (if sameHead d c then K j d * pow2 (B 15 d - B j d) else 0) : ℝ) : EReal) := by
  obtain ⟨n, p, rfl⟩ : ∃ (n : Fin 4) (p : Fin 128), c = ⟨128 * n + p, by omega⟩ :=
    ⟨⟨c / 128, by omega⟩, ⟨c % 128, by omega⟩, by ext; simp; omega⟩
  let f : Fin 4 → FVec Ideal S128x256 .f32 :=
    ![headUpd 0 0#32 slices_S512x16_o0_0_S128x16 lane vt (kdec k b), headUpd 128 1#32 slices_S512x16_o128_0_S128x16 lane vt (kdec k b),
      headUpd 256 2#32 slices_S512x16_o256_0_S128x16 lane vt (kdec k b), headUpd 384 3#32 slices_S512x16_o384_0_S128x16 lane vt (kdec k b)]
  have hl := list4 fun n : Fin 4 => (⟨S128x256, f n⟩ : (s : Shape) × (s.Idx → EReal))
  have hc : Shape.Concatenates ((List.ofFn fun n : Fin 4 => (⟨S128x256, f n⟩ : (s : Shape) × (s.Idx → EReal))).map (·.1))
      S512x256 0 := by rw [hl]; exact concatenates_S128x256_S128x256_S128x256_S128x256_S512x256_d0
  have e : blockState lane k b vt st (ix2 ⟨128 * n + p, by omega⟩ d)
      = st (ix2 ⟨128 * n + p, by omega⟩ d) * Ideal.exp2 (b (ix2 15 d))
        + concatenate S512x256 0 (List.ofFn fun n : Fin 4 => (⟨S128x256, f n⟩ : (s : Shape) × (s.Idx → EReal)))
          hc (ix2 ⟨128 * n + p, by omega⟩ d) := by
    rw [concat_congr hl hc concatenates_S128x256_S128x256_S128x256_S128x256_S512x256_d0]
    exact state_read _ b st _ d
  have hf : f n (ix2 p d) = ((∑ j, V j ⟨128 * n.val + p.val, by omega⟩ * (if d.val / 64 = n.val then K j d * pow2 (B 15 d - B j d) else 0) : ℝ) : EReal) := by
    have hkd := kdec_apply hk hb
    fin_cases n
    · exact headUpd_apply hlane hvt 0 0 _ rfl hkd p d
    · exact headUpd_apply hlane hvt 128 1 _ rfl hkd p d
    · exact headUpd_apply hlane hvt 256 2 _ rfl hkd p d
    · exact headUpd_apply hlane hvt 384 3 _ rfl hkd p d
  rw [e, concatenate_ofFn_apply (t := S512x256) (s₁ := S128x256) 0 f _ rfl 128 rfl _ n (by show (128 * n.val + p.val) / 128 = n.val; omega)
      (ix2 p d) (by show p.val = (128 * n.val + p.val) % 128; omega)
      (fun a ha => match a with | ⟨0, _⟩ => absurd rfl ha | ⟨1, _⟩ => rfl), hf, hst, hb, EReal.coe_add, EReal.coe_mul]
  have hh : (128 * n.val + p.val) / 128 = n.val := by omega
  simp only [sameHead, hh]
  rfl

end Cert.Kernel5Ideal.Gla

end
-- ==== Proof.GlaSpec.lean ====
/- Gated linear attention over the real numbers: the state before a row, the result at a row, and how a block of sixteen
   rows carries the one to the other. -/
module

public import proofs.«01_k».proof.Proof.GlaRead

@[expose] public section

noncomputable section

namespace Cert.Kernel5Ideal.Gla

open Idealize.ShloMosaic

variable (q k la : ℕ → Fin 256 → ℝ) (v : ℕ → Fin 512 → ℝ)

/-- The logarithm of the decay from the first row to row `n`. -/
def cum (n : ℕ) (d : Fin 256) : ℝ := ∑ s ∈ Finset.range n, la s d

/-- The state before row `n`. -/
def stAt (n : ℕ) (c : Fin 512) (d : Fin 256) : ℝ :=
  if sameHead d c then ∑ j ∈ Finset.range n, k j d * Real.exp (cum la n d - cum la (j + 1) d) * v j c else 0

/-- The result at row `t`. -/
def outRow (t : ℕ) (c : Fin 512) : ℝ :=
  ∑ j ∈ Finset.range (t + 1), (∑ d, if sameHead d c then q t d * k j d * Real.exp (cum la (t + 1) d - cum la (j + 1) d) else 0) * v j c

/-- The decays' logarithm to base two, summed from the start of a row's block to the row. -/
def blkCum (n : ℕ) (r : ℕ) (d : Fin 256) : ℝ := (Real.log 2)⁻¹ * ∑ s ∈ Finset.range (r + 1), la (n + s) d

theorem pow2_eq (x : ℝ) : pow2 ((Real.log 2)⁻¹ * x) = Real.exp x := by
  have h : Real.log 2 ≠ 0 := (Real.log_pos (by norm_num)).ne'
  show (2 : ℝ) ^ ((Real.log 2)⁻¹ * x) = _
  rw [Real.rpow_def_of_pos (by norm_num), ← mul_assoc, mul_inv_cancel₀ h, one_mul]

theorem cum_add (n r : ℕ) (d : Fin 256) : cum la (n + r) d = cum la n d + ∑ s ∈ Finset.range r, la (n + s) d := by
  unfold cum; rw [Finset.sum_range_add]

theorem pow2_blkCum (n r : ℕ) (d : Fin 256) : pow2 (blkCum la n r d) = Real.exp (cum la (n + (r + 1)) d - cum la n d) := by
  unfold blkCum; rw [pow2_eq, cum_add]; congr 1; ring

theorem pow2_sub (n r j : ℕ) (d : Fin 256) :
    pow2 (blkCum la n r d - blkCum la n j d) = Real.exp (cum la (n + (r + 1)) d - cum la (n + (j + 1)) d) := by
  unfold blkCum; rw [← mul_sub, pow2_eq, cum_add, cum_add]; congr 1; ring

theorem exp_mul (a b c : ℝ) : Real.exp (a - b) * Real.exp (b - c) = Real.exp (a - c) := by
  rw [← Real.exp_add]; congr 1; ring

variable (n : ℕ)

/-- A block's rows carry the state sixteen rows on. -/
theorem stAt_step (c : Fin 512) (d : Fin 256) :
    stAt k la v n c d * pow2 (blkCum la n 15 d)
        + ∑ j : Fin 16, v (n + j.val) c * (if sameHead d c then k (n + j.val) d * pow2 (blkCum la n 15 d - blkCum la n j.val d) else 0)
      = stAt k la v (n + 16) c d := by
  unfold stAt
  by_cases h : sameHead d c
  · simp only [if_pos h, pow2_blkCum, pow2_sub]
    rw [Finset.sum_range_add, Finset.sum_mul, Finset.sum_range (fun x => k (n + x) d * _ * v (n + x) c)]
    congr 1
    · refine Finset.sum_congr rfl fun j _ => ?_
      rw [← exp_mul (cum la (n + 16) d) (cum la n d) (cum la (j + 1) d)]; ring
    · refine Finset.sum_congr rfl fun j _ => ?_
      rw [show n + j.val + 1 = n + (j.val + 1) from by ring]; ring
  · simp only [if_neg h, zero_mul, mul_zero, Finset.sum_const_zero, add_zero]

/-- What a block computes for one of its rows. -/
theorem outRow_block (r : Fin 16) (c : Fin 512) :
    (∑ d, q (n + r.val) d * pow2 (blkCum la n r.val d) * stAt k la v n c d)
        + ∑ j : Fin 16, score (fun r d => q (n + r.val) d) (fun r d => k (n + r.val) d) (fun r d => blkCum la n r.val d) j r c * v (n + j.val) c
      = outRow q k la v (n + r.val) c := by
  unfold outRow
  rw [show n + r.val + 1 = n + (r.val + 1) from by ring, Finset.sum_range_add]
  congr 1
  · simp only [stAt, pow2_blkCum]
    calc _ = ∑ d, ∑ j ∈ Finset.range n, (if sameHead d c then q (n + r.val) d * k j d * Real.exp (cum la (n + (r.val + 1)) d - cum la (j + 1) d) else 0) * v j c := by
          refine Finset.sum_congr rfl fun d _ => ?_
          by_cases h : sameHead d c
          · simp only [if_pos h]
            rw [Finset.mul_sum]
            refine Finset.sum_congr rfl fun j _ => ?_
            rw [← exp_mul (cum la (n + (r.val + 1)) d) (cum la n d) (cum la (j + 1) d)]; ring
          · simp only [if_neg h, zero_mul, mul_zero, Finset.sum_const_zero]
      _ = _ := by
          rw [Finset.sum_comm]
          exact Finset.sum_congr rfl fun j _ => (Finset.sum_mul _ _ _).symm
  · have hr : r.val + 1 ≤ 16 := r.isLt
    have e : ∀ j : Fin 16, score (fun r d => q (n + r.val) d) (fun r d => k (n + r.val) d) (fun r d => blkCum la n r.val d) j r c * v (n + j.val) c
        = if j.val < r.val + 1 then (∑ d, if sameHead d c then q (n + r.val) d * k (n + j.val) d
            * Real.exp (cum la (n + (r.val + 1)) d - cum la (n + j.val + 1) d) else 0) * v (n + j.val) c else 0 := fun j => by
      unfold score pairTerm
      by_cases hj : j.val < r.val + 1
      · have hj' : j ≤ r := by show j.val ≤ r.val; omega
        simp only [if_pos hj, if_pos hj', pow2_sub, mul_ite, mul_one, mul_zero]
        rw [show n + j.val + 1 = n + (j.val + 1) from by ring]
      · have hj' : ¬j ≤ r := by show ¬j.val ≤ r.val; omega
        simp only [if_neg hj, if_neg hj', mul_zero, zero_mul, ite_self, Finset.sum_const_zero]
    simp only [e]
    rw [← Finset.sum_range (fun x => if x < r.val + 1 then (∑ d, if sameHead d c then q (n + r.val) d * k (n + x) d
            * Real.exp (cum la (n + (r.val + 1)) d - cum la (n + x + 1) d) else 0) * v (n + x) c else 0),
      ← Finset.sum_filter]
    refine Finset.sum_congr ?_ fun _ _ => rfl
    ext x; simp only [Finset.mem_filter, Finset.mem_range]; omega

end Cert.Kernel5Ideal.Gla

end
-- ==== Proof.GlaMask.lean ====
/- The masks that the gated linear attention's body builds, and the decays that it sums along a block, read at an index. -/
module

public import proofs.«01_k».proof.Proof.GlaTile
public import proofs.«01_k».proof.Proof.GlaSpec

@[expose] public section

set_option maxRecDepth 8192

noncomputable section

namespace Cert.Kernel5Ideal.Gla

open Idealize.ShloMosaic Idealize.ShloMosaic.TcCoe Cert.Kernel5Ideal Cert.Kernel5Ideal.Gen

theorem rowsOf_apply (r : Fin 16) (d : Fin 256) : rowsOf (ix2 r d) = BitVec.ofNat 32 r.val := by
  pointwise [rowsOf]

/-- The quotient of `x` by `n`, rounded down, as the body computes it. -/
abbrev floorDiv (n x : BitVec 32) : BitVec 32 :=
  Scalar.select
      (IntOp.andi
        (IntOp.cmpi CmpIPredicate.ne
          (IntOp.subi (BitVec.setWidth 32 (IntOp.cmpi CmpIPredicate.sgt x 0#32))
            (BitVec.setWidth 32 (IntOp.cmpi CmpIPredicate.slt x 0#32)))
          (Scalar.subi (Scalar.extui (Scalar.cmpi CmpIPredicate.sgt n 0#32))
            (Scalar.extui (Scalar.cmpi CmpIPredicate.slt n 0#32))))
        (IntOp.cmpi CmpIPredicate.ne (IntOp.remsi ArithUnit.vector x n) 0#32))
      (IntOp.subi (IntOp.divsi ArithUnit.vector x n) 1#32)
      (IntOp.divsi ArithUnit.vector x n)

theorem floorDiv_64 (d : Fin 256) : floorDiv 64#32 (BitVec.ofNat 32 d.val) = BitVec.ofNat 32 (d.val / 64) := by
  revert d; decide +kernel

theorem floorDiv_128 (c : Fin 512) : floorDiv 128#32 (BitVec.ofNat 32 c.val) = BitVec.ofNat 32 (c.val / 128) := by
  revert c; decide +kernel

theorem laneOf_apply (r : Fin 16) (d : Fin 256) : laneOf (ix2 r d) = BitVec.ofNat 32 (d.val / 64) := by
  pointwise [laneOf, k0_pay306]
  exact floorDiv_64 d

theorem expandOf_apply (d : Fin 256) (c : Fin 512) :
    (expandOf : FVec Ideal S256x512 .bf16) (ix2 d c) = ((if sameHead d c then 1 else 0 : ℝ) : EReal) := by
  pointwise [expandOf, k0_pay309, k0_pay307, k0_pay308]
  have h := eq_word ⟨d.val / 64, by omega⟩ ⟨c.val / 128, by omega⟩
  have e : IntOp.cmpi CmpIPredicate.eq (floorDiv 64#32 (BitVec.ofNat 32 d.val)) (floorDiv 128#32 (BitVec.ofNat 32 c.val))
      = if sameHead d c then 1#1 else 0#1 := by
    rw [floorDiv_64, floorDiv_128]
    refine h.trans ?_
    simp only [Fin.mk.injEq]
  refine (congrArg (fun w => Scalar.select w (1 : EReal) 0) e).trans ?_
  split_ifs <;> simp [Scalar.select]

/-- A row's place in its block. -/
def placeOf : IVec S512x256 32 := k0_pay311 (Scalar.select (Scalar.cmpi .eq 16#32 0#32) 1#32 16#32) k0_pay310

theorem placeOf_apply (r : Fin 512) (d : Fin 256) : placeOf (ix2 r d) = BitVec.ofNat 32 (r.val % 16) := by
  pointwise [placeOf, k0_pay311, k0_pay310]
  revert r; decide +kernel

/-- One of the body's summation steps: a row takes the row `w` before it, when that is in its block. -/
def stepSum (w : BitVec 32) (x : FVec Ideal S512x256 .f32) : FVec Ideal S512x256 .f32 :=
  addf x (select (cmpi .sge placeOf (broadcast S512x256 w)) (dynamicRotate 0 w none x rotates_S512x256_d0)
    (broadcast S512x256 (Scalar.ofBits .f32 0x00000000#32)))

theorem place_word (w : Fin 16) (r : Fin 16) :
    IntOp.cmpi .sge (BitVec.ofNat 32 r.val) (BitVec.ofNat 32 w.val) = if w ≤ r then 1#1 else 0#1 := by
  revert w r; decide +kernel

/-- The sum of the last `w` rows up to row `r`, within its block. -/
def lastRows (g : ℕ → Fin 256 → ℝ) (w r : ℕ) (d : Fin 256) : ℝ := ∑ i ∈ Finset.range (min w (r % 16 + 1)), g (r - i) d

theorem lastRows_double (g : ℕ → Fin 256 → ℝ) (w r : ℕ) (hw : w < 16) (d : Fin 256) :
    lastRows g w r d + (if w ≤ r % 16 then lastRows g w (r - w) d else 0) = lastRows g (2 * w) r d := by
  unfold lastRows
  split_ifs with h
  · rw [show (r - w) % 16 = r % 16 - w from by omega, show min w (r % 16 + 1) = w from by omega,
      show min (2 * w) (r % 16 + 1) = w + min w (r % 16 - w + 1) from by omega, Finset.sum_range_add]
    simp only [Nat.sub_sub]
  · rw [show min w (r % 16 + 1) = min (2 * w) (r % 16 + 1) from by omega, add_zero]

theorem stepSum_apply (g : ℕ → Fin 256 → ℝ) (w : Fin 16) {x : FVec Ideal S512x256 .f32}
    (hx : ∀ r d, x (ix2 r d) = (lastRows g w.val r.val d : EReal)) (r : Fin 512) (d : Fin 256) :
    stepSum (BitVec.ofNat 32 w.val) x (ix2 r d) = (lastRows g (2 * w.val) r.val d : EReal) := by
  have hr := r.isLt
  have hw := w.isLt
  have hwn : (BitVec.ofNat 32 w.val).toNat = w.val := by
    rw [BitVec.toNat_ofNat]; exact Nat.mod_eq_of_lt (by omega)
  have hk : (r.val + 512 - w.val) % 512 < 512 := Nat.mod_lt _ (by decide)
  have hrot : dynamicRotate 0 (BitVec.ofNat 32 w.val) none x rotates_S512x256_d0 (ix2 r d) = x (ix2 ⟨(r.val + 512 - w.val) % 512, hk⟩ d) := by
    refine dynamicRotate_apply (s := S512x256) 0 _ x rotates_S512x256_d0 (ix2 r d) _ fun b => ?_
    match b with
    | ⟨0, _⟩ =>
      show (r.val + 512 - w.val) % 512 = (r.val + 512 - (BitVec.ofNat 32 w.val).toNat % 512) % 512
      rw [hwn, Nat.mod_eq_of_lt (show w.val < 512 by omega)]
    | ⟨1, _⟩ => rfl
  have e : stepSum (BitVec.ofNat 32 w.val) x (ix2 r d) = x (ix2 r d)
      + Scalar.select (IntOp.cmpi .sge (placeOf (ix2 r d)) (BitVec.ofNat 32 w.val)) (dynamicRotate 0 (BitVec.ofNat 32 w.val) none x rotates_S512x256_d0 (ix2 r d)) 0 := by
    unfold stepSum
    generalize dynamicRotate 0 (BitVec.ofNat 32 w.val) none x rotates_S512x256_d0 = y
    generalize placeOf = p
    pointwise []
  have hp := place_word w ⟨r.val % 16, Nat.mod_lt _ (by decide)⟩
  rw [e, hrot, hx, hx, placeOf_apply, ← lastRows_double g w.val r.val hw d]
  refine (congrArg (fun z => _ + Scalar.select z _ _) hp).trans ?_
  by_cases h : w.val ≤ r.val % 16
  · rw [if_pos (show w ≤ (⟨r.val % 16, Nat.mod_lt _ (by decide)⟩ : Fin 16) from h), if_pos h, EReal.coe_add]
    have hv : (r.val + 512 - w.val) % 512 = r.val - w.val := by omega
    show _ + ((lastRows g w.val ((r.val + 512 - w.val) % 512) d : ℝ) : EReal) = _
    rw [hv]
  · rw [if_neg (show ¬w ≤ (⟨r.val % 16, Nat.mod_lt _ (by decide)⟩ : Fin 16) from h), if_neg h, add_zero]
    exact add_zero _

/-- The gate of a row before the sums: `log_sigmoid` over sixteen, to base two. -/
def gateOf (x4 : Vec Ideal S1x512x128 .f32) (x5 : Vec Ideal S16x256 .f32) (x6 : Vec Ideal S1x256 .f32) : FVec Ideal S512x256 .f32 :=
  have low : FVec Ideal S512x128 .f32 := shapeCast S512x128 x4 shapeCasts_S1x512x128_S512x128
  have weight : FVec Ideal S16x256 .f32 := shapeCast S16x256 x5 shapeCasts_S16x256_S16x256
  have start : FVec Ideal S512x256 .f32 := constant S512x256 .f32 0x00000000#32
  have bias : FVec Ideal S1x256 .f32 := shapeCast S1x256 x6 shapeCasts_S1x256_S1x256
  have z : FVec Ideal S512x256 .f32 := addf (matmul dot_S512x16_S16x256_S512x256_1_0_0_1_n_n (some .fp32)
    (extractStridedSlice S512x16 ![0, 72] low slices_S512x128_o0_72_S512x16) weight start)
    (broadcastTo S512x256 bias broadcasts_S1x256_S512x256)
  mulf (mulf (subf (minimumf z (broadcast S512x256 (Scalar.ofBits .f32 0x00000000#32)))
      (log1p (exp (subf (broadcast S512x256 (Scalar.ofBits .f32 0x00000000#32)) (absf z)))))
    (broadcast S512x256 (Scalar.ofBits .f32 0x3D800000#32))) (broadcast S512x256 (Named.named κ "log2_e" 0x3FB8AA3B#32))

theorem decayOf_eq (x4 : Vec Ideal S1x512x128 .f32) (x5 : Vec Ideal S16x256 .f32) (x6 : Vec Ideal S1x256 .f32) :
    decayOf x4 x5 x6 = shapeCast S512x256 (stepSum 8#32 (stepSum 4#32 (stepSum 2#32 (stepSum 1#32 (gateOf x4 x5 x6)))))
      shapeCasts_S512x256_S512x256 := rfl

/-- The logarithm of the sigmoid, over sixteen. -/
def logGate (z : ℝ) : ℝ := (min z 0 - Real.log (1 + Real.exp (-|z|))) * (1 / 16)

/-- The gate's argument at row `r`. -/
def gateArg (M : ℕ → Fin 128 → ℝ) (W : Fin 16 → Fin 256 → ℝ) (b : Fin 256 → ℝ) (r : ℕ) (d : Fin 256) : ℝ :=
  (∑ i : Fin 16, M r ⟨72 + i.val, by omega⟩ * W i d) + b d

theorem coe_max (x y : ℝ) : max (x : EReal) (y : EReal) = ((max x y : ℝ) : EReal) := (EReal.coe_strictMono.monotone.map_max).symm

theorem coe_min (x y : ℝ) : min (x : EReal) (y : EReal) = ((min x y : ℝ) : EReal) := (EReal.coe_strictMono.monotone.map_min).symm

theorem coe_abs (z : ℝ) : max (z : EReal) (-(z : EReal)) = ((|z| : ℝ) : EReal) := by
  rw [← EReal.coe_neg, coe_max]; rfl

theorem log1p_exp (z : ℝ) : Ideal.log1p (Ideal.exp (z : EReal)) = ((Real.log (1 + Real.exp z) : ℝ) : EReal) := by
  have h : ¬(1 + Real.exp z ≤ 0) := not_le.mpr (by positivity)
  rw [Ideal.exp_coe, Ideal.log1p, ← EReal.coe_one, ← EReal.coe_add, Ideal.log_coe, if_neg h]

theorem sixteenth : Ideal.ofBits .f32 0x3D800000#32 = ((1 / 16 : ℝ) : EReal) := by
  simp [Ideal.ofBits, Ideal.ieee]
  rw [← EReal.coe_mul]; norm_num

theorem eighth : Ideal.ofBits .f32 0x3E000000#32 = ((1 / 8 : ℝ) : EReal) := by
  simp [Ideal.ofBits, Ideal.ieee]
  rw [← EReal.coe_mul]; norm_num

theorem log2_e_named : (Named.named κ "log2_e" 0x3FB8AA3B#32 : Ideal .f32) = (((Real.log 2)⁻¹ : ℝ) : EReal) := rfl

theorem gateOf_apply {x4 : Vec Ideal S1x512x128 .f32} {x5 : Vec Ideal S16x256 .f32} {x6 : Vec Ideal S1x256 .f32}
    {M : ℕ → Fin 128 → ℝ} {W : Fin 16 → Fin 256 → ℝ} {b : Fin 256 → ℝ}
    (n : ℕ) (h4 : ∀ (r : Fin 512) i, x4 (ix3 0 r i) = (M (n + r.val) i : EReal)) (h5 : ∀ i d, x5 (ix2 i d) = (W i d : EReal))
    (h6 : ∀ d, x6 (ix2 0 d) = (b d : EReal)) (r : Fin 512) (d : Fin 256) :
    gateOf x4 x5 x6 (ix2 r d) = (((Real.log 2)⁻¹ * logGate (gateArg M W b (n + r.val) d) : ℝ) : EReal) := by
  pointwise [gateOf]
  have hz : (∑ x : Fin 16, x4 (ix3 0 r ⟨72 + x.val, by omega⟩) * x5 (ix2 x d)) + x6 (ix2 0 d)
      = ((gateArg M W b (n + r.val) d : ℝ) : EReal) := by
    simp only [h4, h5, h6, ← EReal.coe_mul, coe_sum, ← EReal.coe_add]; rfl
  refine (congrArg (fun z : EReal => (min z 0 - Ideal.log1p (Ideal.exp (0 - max z (-z)))) * Ideal.ofBits FTy.f32 0x3D800000#32
    * (Named.named κ "log2_e" 0x3FB8AA3B#32 : Ideal .f32)) hz).trans ?_
  rw [coe_abs, zero_sub, ← EReal.coe_neg, log1p_exp, ← EReal.coe_zero, coe_min, ← EReal.coe_sub, sixteenth, log2_e_named,
    ← EReal.coe_mul, ← EReal.coe_mul, mul_comm]
  rfl

theorem decayOf_apply {x4 : Vec Ideal S1x512x128 .f32} {x5 : Vec Ideal S16x256 .f32} {x6 : Vec Ideal S1x256 .f32}
    {M : ℕ → Fin 128 → ℝ} {W : Fin 16 → Fin 256 → ℝ} {b : Fin 256 → ℝ}
    (n : ℕ) (h4 : ∀ (r : Fin 512) i, x4 (ix3 0 r i) = (M (n + r.val) i : EReal)) (h5 : ∀ i d, x5 (ix2 i d) = (W i d : EReal))
    (h6 : ∀ d, x6 (ix2 0 d) = (b d : EReal)) (r : Fin 512) (d : Fin 256) :
    decayOf x4 x5 x6 (ix2 r d)
      = (blkCum (fun t d => logGate (gateArg M W b t d)) (n + r.val / 16 * 16) (r.val % 16) d : EReal) := by
  have h0 : ∀ r d, gateOf x4 x5 x6 (ix2 r d)
      = (lastRows (fun t d => (Real.log 2)⁻¹ * logGate (gateArg M W b (n + t) d)) 1 r.val d : EReal) := fun r d => by
    rw [gateOf_apply n h4 h5 h6 r d]
    unfold lastRows
    rw [show min 1 (r.val % 16 + 1) = 1 from by omega, Finset.sum_range_one]; rfl
  have h1 := stepSum_apply _ 1 h0
  have h2 := stepSum_apply _ 2 h1
  have h3 := stepSum_apply _ 4 h2
  have h := stepSum_apply _ 8 h3 r d
  rw [decayOf_eq]
  pointwise []
  refine h.trans ?_
  have hr : min (2 * (8 : Fin 16).val) (r.val % 16 + 1) = r.val % 16 + 1 := by
    show min 16 _ = _; omega
  unfold lastRows blkCum
  rw [hr, Finset.mul_sum, ← Finset.sum_range_reflect]
  refine congrArg _ (Finset.sum_congr rfl fun i hi => ?_)
  have hi := Finset.mem_range.mp hi
  dsimp only
  rw [show n + (r.val - (r.val % 16 + 1 - 1 - i)) = n + r.val / 16 * 16 + i from by omega]

end Cert.Kernel5Ideal.Gla

end
-- ==== Proof.GlaFold.lean ====
/- The blocks of a tile folded together: the state that they carry and the rows that they store are those of gated linear
   attention over the real numbers. -/
module

public import proofs.«01_k».proof.Proof.GlaMask

@[expose] public section

set_option maxRecDepth 8192

noncomputable section

namespace Cert.Kernel5Ideal.Gla

open Idealize.ShloMosaic Idealize.ShloMosaic.TcCoe Cert.Kernel5Ideal Cert.Kernel5Ideal.Gen

variable {q k la : ℕ → Fin 256 → ℝ} {v : ℕ → Fin 512 → ℝ}

/-! A group of 128 rows from row `g`. -/

section Group

variable {g : ℕ} {a2 a3 : FVec Ideal S1x128x256 .f32} {a4 : FVec Ideal S1x512x128 .f32} {a5 : FVec Ideal S1x128x512 .f32}
  {a11 : FVec Ideal S128x256 .f32} {st : FVec Ideal S512x256 .f32}
  (h3 : ∀ (r : Fin 128) d, a3 (ix3 0 r d) = (k (g + r.val) d : EReal)) (h4 : ∀ c (r : Fin 128), a4 (ix3 0 c r) = (v (g + r.val) c : EReal))
  (h11 : ∀ (r : Fin 128) d, a11 (ix2 r d) = (blkCum la (g + r.val / 16 * 16) (r.val % 16) d : EReal))
  (h2 : ∀ (r : Fin 128) d, a2 (ix3 0 r d) = (q (g + r.val) d : EReal)) (h5 : ∀ (r : Fin 128) c, a5 (ix3 0 r c) = (v (g + r.val) c : EReal))

include h3 in
theorem ks_apply (m : ℕ) (hm : m ≤ 112) (h : S128x256.Slices ![m, 0] S16x256) (r : Fin 16) (d : Fin 256) :
    ks m h a3 (ix2 r d) = (k (g + m + r.val) d : EReal) := by
  have e : ks m h a3 (ix2 r d) = a3 (ix3 0 ⟨m + r.val, by omega⟩ d) := by pointwise [ks]
  rw [e, h3, Nat.add_assoc]

include h2 in
theorem qs_apply (m : ℕ) (hm : m ≤ 112) (h : S128x256.Slices ![m, 0] S16x256) (r : Fin 16) (d : Fin 256) :
    qs m h a2 (ix2 r d) = ((q (g + m + r.val) d * (1 / 8) : ℝ) : EReal) := by
  have e : qs m h a2 (ix2 r d) = a2 (ix3 0 ⟨m + r.val, by omega⟩ d) * Ideal.ofBits .f32 0x3E000000#32 := by pointwise [qs]
  rw [e, h2, Nat.add_assoc, eighth, EReal.coe_mul]

include h5 in
theorem vs_apply (m : ℕ) (hm : m ≤ 112) (h : S128x512.Slices ![m, 0] S16x512) (r : Fin 16) (c : Fin 512) :
    vs m h a5 (ix2 r c) = (v (g + m + r.val) c : EReal) := by
  have e : vs m h a5 (ix2 r c) = a5 (ix3 0 ⟨m + r.val, by omega⟩ c) := by pointwise [vs]
  rw [e, h5, Nat.add_assoc]

include h4 in
theorem vts_apply (m : ℕ) (hm : m ≤ 112) (h : S512x128.Slices ![0, m] S512x16) (c : Fin 512) (r : Fin 16) :
    vts m h a4 (ix2 c r) = (v (g + m + r.val) c : EReal) := by
  have e : vts m h a4 (ix2 c r) = a4 (ix3 0 c ⟨m + r.val, by omega⟩) := by pointwise [vts]
  rw [e, h4, Nat.add_assoc]

include h11 in
theorem bs_apply (m : ℕ) (hm : m ≤ 112) (hd : m % 16 = 0) (h : S128x256.Slices ![m, 0] S16x256) (r : Fin 16) (d : Fin 256) :
    bs m h a11 (ix2 r d) = (blkCum la (g + m) r.val d : EReal) := by
  have hr := r.isLt
  have e : bs m h a11 (ix2 r d) = a11 (ix2 ⟨m + r.val, by omega⟩ d) := by pointwise [bs]
  rw [e, h11]
  dsimp only
  rw [show (m + r.val) / 16 * 16 = m from by omega, show (m + r.val) % 16 = r.val from by omega]

include h3 h4 h11 in
theorem stepState_apply (m : ℕ) (hm : m ≤ 112) (hd : m % 16 = 0) (h : S128x256.Slices ![m, 0] S16x256)
    (ht : S512x128.Slices ![0, m] S512x16) (hst : ∀ c d, st (ix2 c d) = (stAt k la v (g + m) c d : EReal)) (c : Fin 512) (d : Fin 256) :
    stepState m h ht laneOf a3 a4 a11 st (ix2 c d) = (stAt k la v (g + (m + 16)) c d : EReal) := by
  rw [stepState, blockState_apply laneOf_apply (ks_apply h3 m hm h) (bs_apply h11 m hm hd h) (fun r c => vts_apply h4 m hm ht c r) hst c d,
    ← Nat.add_assoc, ← stAt_step k la v (g + m) c d]
  rfl

include h3 h11 h2 h5 in
theorem stepOut_apply (m : ℕ) (hm : m ≤ 112) (hd : m % 16 = 0) (h : S128x256.Slices ![m, 0] S16x256) (hv : S128x512.Slices ![m, 0] S16x512)
    (hst : ∀ c d, st (ix2 c d) = (stAt k la v (g + m) c d : EReal)) (r : Fin 16) (c : Fin 512) :
    stepOut m h hv expandOf rowsOf a2 a3 a5 a11 st (ix3 0 r c)
      = (outRow (fun t d => q t d * (1 / 8)) k la v (g + m + r.val) c : EReal) := by
  have e : stepOut m h hv expandOf rowsOf a2 a3 a5 a11 st (ix3 0 r c)
      = blockOut expandOf rowsOf (qs m h a2) (ks m h a3) (bs m h a11) (vs m hv a5) st (ix2 r c) := by
    pointwise [stepOut]
  rw [e, blockOut_apply rowsOf_apply expandOf_apply (qs_apply h2 m hm h) (ks_apply h3 m hm h) (bs_apply h11 m hm hd h)
    (vs_apply h5 m hm hv) hst r c, ← outRow_block (fun t d => q t d * (1 / 8)) k la v (g + m) r c]

include h3 h4 h11 in
theorem states_apply (hst : ∀ c d, st (ix2 c d) = (stAt k la v g c d : EReal)) :
    (∀ c d, state1 laneOf a3 a4 a11 st (ix2 c d) = (stAt k la v (g + 16) c d : EReal))
    ∧ (∀ c d, state2 laneOf a3 a4 a11 st (ix2 c d) = (stAt k la v (g + 32) c d : EReal))
    ∧ (∀ c d, state3 laneOf a3 a4 a11 st (ix2 c d) = (stAt k la v (g + 48) c d : EReal))
    ∧ (∀ c d, state4 laneOf a3 a4 a11 st (ix2 c d) = (stAt k la v (g + 64) c d : EReal))
    ∧ (∀ c d, state5 laneOf a3 a4 a11 st (ix2 c d) = (stAt k la v (g + 80) c d : EReal))
    ∧ (∀ c d, state6 laneOf a3 a4 a11 st (ix2 c d) = (stAt k la v (g + 96) c d : EReal))
    ∧ (∀ c d, state7 laneOf a3 a4 a11 st (ix2 c d) = (stAt k la v (g + 112) c d : EReal))
    ∧ (∀ c d, state8 laneOf a3 a4 a11 st (ix2 c d) = (stAt k la v (g + 128) c d : EReal)) := by
  have s1 := stepState_apply h3 h4 h11 0 (by decide) (by decide) slices_S128x256_o0_0_S16x256 slices_S512x128_o0_0_S512x16 hst
  have s2 := stepState_apply h3 h4 h11 16 (by decide) (by decide) slices_S128x256_o16_0_S16x256 slices_S512x128_o0_16_S512x16 s1
  have s3 := stepState_apply h3 h4 h11 32 (by decide) (by decide) slices_S128x256_o32_0_S16x256 slices_S512x128_o0_32_S512x16 s2
  have s4 := stepState_apply h3 h4 h11 48 (by decide) (by decide) slices_S128x256_o48_0_S16x256 slices_S512x128_o0_48_S512x16 s3
  have s5 := stepState_apply h3 h4 h11 64 (by decide) (by decide) slices_S128x256_o64_0_S16x256 slices_S512x128_o0_64_S512x16 s4
  have s6 := stepState_apply h3 h4 h11 80 (by decide) (by decide) slices_S128x256_o80_0_S16x256 slices_S512x128_o0_80_S512x16 s5
  have s7 := stepState_apply h3 h4 h11 96 (by decide) (by decide) slices_S128x256_o96_0_S16x256 slices_S512x128_o0_96_S512x16 s6
  have s8 := stepState_apply h3 h4 h11 112 (by decide) (by decide) slices_S128x256_o112_0_S16x256 slices_S512x128_o0_112_S512x16 s7
  exact ⟨s1, s2, s3, s4, s5, s6, s7, s8⟩

end Group

/-! A tile of 512 rows from row `n`. -/

section Tile

variable {n : ℕ} {x0 x1 : Vec Ideal S1x512x256 .f32} {x2 x3 : Vec Ideal S1x512x512 .f32} {dec st : Vec Ideal S512x256 .f32}

theorem off1_eq : ∀ i : Fin k0_t1_loop.trips, k0_off1 i = ![128 * i.val, 0] := by decide +kernel
theorem off2_eq : ∀ i : Fin k0_t1_loop.trips, k0_off2 i = ![0, 128 * i.val, 0] := by decide +kernel
theorem off3_eq : ∀ i : Fin k0_t1_loop.trips, k0_off3 i = ![0, 128 * i.val, 0] := by decide +kernel
theorem off4_eq : ∀ i : Fin k0_t1_loop.trips, k0_off4 i = ![0, 0, 128 * i.val] := by decide +kernel

theorem ld1_apply (x : Vec Ideal S1x512x256 .f32) (i : Fin k0_t1_loop.trips) (r : Fin 128) (d : Fin 256) :
    ld1 x i (ix3 0 r d) = x (ix3 0 ⟨128 * i.val + r.val, by have := lt_of_lt_of_eq i.isLt trips_eq; omega⟩ d) := by
  show x _ = _
  congr 1; funext a; apply Fin.ext
  have e := fun a => congrFun (off2_eq i) a
  match a with
  | ⟨0, _⟩ => show k0_off2 i 0 + 1 * 0 = 0; rw [e]; rfl
  | ⟨1, _⟩ => show k0_off2 i 1 + 1 * r.val = 128 * i.val + r.val; rw [e, one_mul]; rfl
  | ⟨2, _⟩ => show k0_off2 i 2 + 1 * d.val = d.val; rw [e, one_mul]; exact Nat.zero_add _

theorem ld2_apply (x : Vec Ideal S1x512x512 .f32) (i : Fin k0_t1_loop.trips) (c : Fin 512) (r : Fin 128) :
    ld2 x i (ix3 0 c r) = x (ix3 0 c ⟨128 * i.val + r.val, by have := lt_of_lt_of_eq i.isLt trips_eq; omega⟩) := by
  show x _ = _
  congr 1; funext a; apply Fin.ext
  have e := fun a => congrFun (off4_eq i) a
  match a with
  | ⟨0, _⟩ => show k0_off4 i 0 + 1 * 0 = 0; rw [e]; rfl
  | ⟨1, _⟩ => show k0_off4 i 1 + 1 * c.val = c.val; rw [e, one_mul]; exact Nat.zero_add _
  | ⟨2, _⟩ => show k0_off4 i 2 + 1 * r.val = 128 * i.val + r.val; rw [e, one_mul]; rfl

theorem ld3_apply (x : Vec Ideal S1x512x512 .f32) (i : Fin k0_t1_loop.trips) (r : Fin 128) (c : Fin 512) :
    ld3 x i (ix3 0 r c) = x (ix3 0 ⟨128 * i.val + r.val, by have := lt_of_lt_of_eq i.isLt trips_eq; omega⟩ c) := by
  show x _ = _
  congr 1; funext a; apply Fin.ext
  have e := fun a => congrFun (off3_eq i) a
  match a with
  | ⟨0, _⟩ => show k0_off3 i 0 + 1 * 0 = 0; rw [e]; rfl
  | ⟨1, _⟩ => show k0_off3 i 1 + 1 * r.val = 128 * i.val + r.val; rw [e, one_mul]; rfl
  | ⟨2, _⟩ => show k0_off3 i 2 + 1 * c.val = c.val; rw [e, one_mul]; exact Nat.zero_add _

theorem ld4_apply (x : Vec Ideal S512x256 .f32) (i : Fin k0_t1_loop.trips) (r : Fin 128) (d : Fin 256) :
    ld4 x i (ix2 r d) = x (ix2 ⟨128 * i.val + r.val, by have := lt_of_lt_of_eq i.isLt trips_eq; omega⟩ d) := by
  show x _ = _
  congr 1; funext a; apply Fin.ext
  have e := fun a => congrFun (off1_eq i) a
  match a with
  | ⟨0, _⟩ => show k0_off1 i 0 + 1 * r.val = 128 * i.val + r.val; rw [e, one_mul]; rfl
  | ⟨1, _⟩ => show k0_off1 i 1 + 1 * d.val = d.val; rw [e, one_mul]; exact Nat.zero_add _

variable (h1 : ∀ (r : Fin 512) d, x1 (ix3 0 r d) = (k (n + r.val) d : EReal)) (h2 : ∀ c (r : Fin 512), x2 (ix3 0 c r) = (v (n + r.val) c : EReal))
  (hd : ∀ (r : Fin 512) d, dec (ix2 r d) = (blkCum la (n + r.val / 16 * 16) (r.val % 16) d : EReal))
  (hst : ∀ c d, st (ix2 c d) = (stAt k la v n c d : EReal))
  (h0 : ∀ (r : Fin 512) d, x0 (ix3 0 r d) = (q (n + r.val) d : EReal)) (h3 : ∀ (r : Fin 512) c, x3 (ix3 0 r c) = (v (n + r.val) c : EReal))

include h1 in
theorem keys_apply (i : Fin k0_t1_loop.trips) (r : Fin 128) (d : Fin 256) : ld1 x1 i (ix3 0 r d) = (k (n + 128 * i.val + r.val) d : EReal) := by
  rw [ld1_apply, h1, Nat.add_assoc]

include h2 in
theorem columns_apply (i : Fin k0_t1_loop.trips) (c : Fin 512) (r : Fin 128) : ld2 x2 i (ix3 0 c r) = (v (n + 128 * i.val + r.val) c : EReal) := by
  rw [ld2_apply, h2, Nat.add_assoc]

include h3 in
theorem values_apply (i : Fin k0_t1_loop.trips) (r : Fin 128) (c : Fin 512) : ld3 x3 i (ix3 0 r c) = (v (n + 128 * i.val + r.val) c : EReal) := by
  rw [ld3_apply, h3, Nat.add_assoc]

include hd in
theorem decays_apply (i : Fin k0_t1_loop.trips) (r : Fin 128) (d : Fin 256) :
    ld4 dec i (ix2 r d) = (blkCum la (n + 128 * i.val + r.val / 16 * 16) (r.val % 16) d : EReal) := by
  rw [ld4_apply, hd]
  dsimp only
  rw [show n + (128 * i.val + r.val) / 16 * 16 = n + 128 * i.val + r.val / 16 * 16 from by omega,
    show (128 * i.val + r.val) % 16 = r.val % 16 from by omega]

include h1 h2 hd hst in
theorem tileState_apply : ∀ (i : ℕ), i ≤ 4 → ∀ c d, tileState x1 x2 dec st i (ix2 c d) = (stAt k la v (n + 128 * i) c d : EReal)
  | 0, _ => hst
  | i + 1, hi => by
    have ht : i < k0_t1_loop.trips := by rw [trips_eq]; omega
    have ih := tileState_apply i (by omega)
    rw [tileState_succ x1 x2 dec st ⟨i, ht⟩]
    exact (states_apply (keys_apply h1 ⟨i, ht⟩) (columns_apply h2 ⟨i, ht⟩) (decays_apply hd ⟨i, ht⟩) ih).2.2.2.2.2.2.2

/-- The tile's results. -/
def tileSpec (q k la : ℕ → Fin 256 → ℝ) (v : ℕ → Fin 512 → ℝ) (n : ℕ) (y : S1x512x512.Idx) : EReal :=
  (outRow (fun t d => q t d * (1 / 8)) k la v (n + (y 1).val) (y 2) : EReal)

theorem piece_apply (i : Fin k0_t1_loop.trips) (m : Fin 8) (w : BitVec 32) (hw : w = BitVec.ofNat 32 (16 * m.val))
    (inb : ∀ a, k0_off5 i w a + S1x16x512.size a ≤ S1x512x512.size a) (out : FVec Ideal S1x16x512 .f32)
    (ho : ∀ (r : Fin 16) c, out (ix3 0 r c) = (outRow (fun t d => q t d * (1 / 8)) k la v (n + 128 * i.val + 16 * m.val + r.val) c : EReal))
    (x : S1x16x512.Idx) : out x = tileSpec q k la v n ((Rect.unit (s := S1x512x512) (k0_off5 i w) S1x16x512.size inb).emb x) := by
  subst hw
  obtain ⟨r, c, rfl⟩ : ∃ (r : Fin 16) (c : Fin 512), x = ix3 0 r c := ⟨x 1, x 2, by
    funext a; apply Fin.ext
    match a with
    | ⟨0, _⟩ => show (x 0).val = 0; have : (x 0).val < 1 := (x 0).isLt; omega
    | ⟨1, _⟩ => rfl
    | ⟨2, _⟩ => rfl⟩
  have e := fun a => congrFun (off5_eq i m) a
  rw [ho]
  unfold tileSpec
  have e1 : (((Rect.unit (s := S1x512x512) (k0_off5 i (BitVec.ofNat 32 (16 * m.val))) S1x16x512.size inb).emb (ix3 0 r c)) 1).val
      = 128 * i.val + 16 * m.val + r.val := by
    show k0_off5 i (BitVec.ofNat 32 (16 * m.val)) 1 + 1 * r.val = _; rw [e, one_mul]; rfl
  have e2 : ((Rect.unit (s := S1x512x512) (k0_off5 i (BitVec.ofNat 32 (16 * m.val))) S1x16x512.size inb).emb (ix3 0 r c)) 2 = c := by
    apply Fin.ext
    show k0_off5 i (BitVec.ofNat 32 (16 * m.val)) 2 + 1 * c.val = _; rw [e, one_mul]; exact Nat.zero_add _
  rw [e1, e2, show n + (128 * i.val + 16 * m.val + r.val) = n + 128 * i.val + 16 * m.val + r.val from by omega]

include h1 h2 hd hst h0 h3 in
theorem tileOut_apply (r c : Fin 512) : tileOut x0 x1 x2 x3 dec st (ix3 0 r c)
    = (outRow (fun t d => q t d * (1 / 8)) k la v (n + r.val) c : EReal) := by
  refine View.canon_apply_of_pieces (tileSpec q k la v n) _ (fun p hp x => ?_) (ix3 0 r c) (tile_cover x0 x1 x2 x3 dec st (ix3 0 r c))
  obtain ⟨i, hi, hp⟩ := (mem_tilePieces x0 x1 x2 x3 dec st p 4).mp hp
  have hs := tileState_apply h1 h2 hd hst i.val (by omega)
  generalize tileState x1 x2 dec st i.val = s at hp hs
  have hk := keys_apply h1 i
  have hq := keys_apply h0 i
  have hv := values_apply h3 i
  have hb := decays_apply hd i
  obtain ⟨s1, s2, s3, s4, s5, s6, s7, -⟩ := states_apply hk (columns_apply h2 i) hb hs
  simp only [groupPieces, List.mem_cons, List.not_mem_nil, or_false] at hp
  rcases hp with rfl | rfl | rfl | rfl | rfl | rfl | rfl | rfl
  · exact piece_apply i 7 _ rfl (k0_off5_inb i 7) _ (stepOut_apply hk hb hq hv 112 (by decide) (by decide) _ _ s7) x
  · exact piece_apply i 6 _ rfl (k0_off5_inb i 6) _ (stepOut_apply hk hb hq hv 96 (by decide) (by decide) _ _ s6) x
  · exact piece_apply i 5 _ rfl (k0_off5_inb i 5) _ (stepOut_apply hk hb hq hv 80 (by decide) (by decide) _ _ s5) x
  · exact piece_apply i 4 _ rfl (k0_off5_inb i 4) _ (stepOut_apply hk hb hq hv 64 (by decide) (by decide) _ _ s4) x
  · exact piece_apply i 3 _ rfl (k0_off5_inb i 3) _ (stepOut_apply hk hb hq hv 48 (by decide) (by decide) _ _ s3) x
  · exact piece_apply i 2 _ rfl (k0_off5_inb i 2) _ (stepOut_apply hk hb hq hv 32 (by decide) (by decide) _ _ s2) x
  · exact piece_apply i 1 _ rfl (k0_off5_inb i 1) _ (stepOut_apply hk hb hq hv 16 (by decide) (by decide) _ _ s1) x
  · exact piece_apply i 0 _ rfl (k0_off5_inb i 0) _ (stepOut_apply hk hb hq hv 0 (by decide) (by decide) _ _ hs) x

end Tile

end Cert.Kernel5Ideal.Gla

end
-- ==== Proof.GlaValue.lean ====
/- The gated linear attention's result array over the real numbers. -/
module

public import proofs.«01_k».proof.Proof.GlaRun
public import proofs.«01_k».proof.Proof.GlaFold

@[expose] public section

set_option maxRecDepth 16384

noncomputable section

namespace Cert.Kernel5Ideal.Gla

open Idealize.ShloMosaic Idealize.ShloMosaic.TcCoe Idealize.SL.Sem Cert.Kernel5Ideal Cert.Kernel5Ideal.Gen

variable (m : (ℓ : Loc nD τ sig) → Buf (Elt Ideal) ℓ)

theorem V_v0 (c : Dev nD) (b : Fin 8) (n : Fin 512) (r : Fin 8192) :
    V m c main_v0 (ix3 b n r) = m ((c : Thread nD τ).loc main_arg2) (ix3 b r n) := by
  unfold_abbrev_sides
  after_results
  pointwise []

theorem V_v1 (c : Dev nD) (i : Fin 16) (d : Fin 256) :
    V m c main_v1 (ix2 i d) = m ((c : Thread nD τ).loc main_arg4) (ix3 0 i d) := by
  unfold_abbrev_sides
  after_results
  pointwise []

theorem V_v3 (c : Dev nD) (d : Fin 256) :
    V m c main_v3 (ix2 0 d) = m ((c : Thread nD τ).loc main_arg5) (ix2 0 d) := by
  unfold_abbrev_sides
  after_results
  pointwise []

theorem index0 : ∀ t : Fin cfg0.N, win0_0.index t 0 = t.val / 16 ∧ win0_0.index t 1 = t.val % 16 ∧ win0_0.index t 2 = 0 :=
  (by decide +kernel : ∀ t : Fin grid0.N, _)
theorem index1 : ∀ t : Fin cfg0.N, win0_1.index t 0 = t.val / 16 ∧ win0_1.index t 1 = t.val % 16 ∧ win0_1.index t 2 = 0 :=
  (by decide +kernel : ∀ t : Fin grid0.N, _)
theorem index2 : ∀ t : Fin cfg0.N, win0_2.index t 0 = t.val / 16 ∧ win0_2.index t 1 = 0 ∧ win0_2.index t 2 = t.val % 16 :=
  (by decide +kernel : ∀ t : Fin grid0.N, _)
theorem index3 : ∀ t : Fin cfg0.N, win0_3.index t 0 = t.val / 16 ∧ win0_3.index t 1 = t.val % 16 ∧ win0_3.index t 2 = 0 :=
  (by decide +kernel : ∀ t : Fin grid0.N, _)
theorem index4 : ∀ t : Fin cfg0.N, win0_4.index t 0 = t.val / 16 ∧ win0_4.index t 1 = t.val % 16 ∧ win0_4.index t 2 = 0 :=
  (by decide +kernel : ∀ t : Fin grid0.N, _)
theorem index56 : ∀ t : Fin cfg0.N, win0_5.index t 0 = 0 ∧ win0_5.index t 1 = 0 ∧ win0_6.index t 0 = 0 ∧ win0_6.index t 1 = 0 :=
  (by decide +kernel : ∀ t : Fin grid0.N, _)

theorem blk0_apply (c : Dev nD) (t : Fin cfg0.N) (r : Fin 512) (d : Fin 256) :
    (iblk m c 0 t : Vec Ideal S1x512x256 .f32) (ix3 0 r d) = m ((c : Thread nD τ).loc main_arg0) (ix3 (batch t) (row t r) d) := by
  obtain ⟨e0, e1, e2⟩ := index0 t
  rw [← V_main_arg0 m c]
  show V m c main_arg0 (((cfg0.win 0).blk t).view.emb (ix3 0 r d)) = _
  congr 1; funext a; apply Fin.ext
  match a with
  | ⟨0, _⟩ => show win0_0.index t 0 * 1 + 1 * 0 = t.val / 16; omega
  | ⟨1, _⟩ => show win0_0.index t 1 * 512 + 1 * r.val = 512 * (t.val % 16) + r.val; omega
  | ⟨2, _⟩ => show win0_0.index t 2 * 256 + 1 * d.val = d.val; omega

theorem blk1_apply (c : Dev nD) (t : Fin cfg0.N) (r : Fin 512) (d : Fin 256) :
    (iblk m c 1 t : Vec Ideal S1x512x256 .f32) (ix3 0 r d) = m ((c : Thread nD τ).loc main_arg1) (ix3 (batch t) (row t r) d) := by
  obtain ⟨e0, e1, e2⟩ := index1 t
  rw [← V_main_arg1 m c]
  show V m c main_arg1 (((cfg0.win 1).blk t).view.emb (ix3 0 r d)) = _
  congr 1; funext a; apply Fin.ext
  match a with
  | ⟨0, _⟩ => show win0_1.index t 0 * 1 + 1 * 0 = t.val / 16; omega
  | ⟨1, _⟩ => show win0_1.index t 1 * 512 + 1 * r.val = 512 * (t.val % 16) + r.val; omega
  | ⟨2, _⟩ => show win0_1.index t 2 * 256 + 1 * d.val = d.val; omega

theorem blk2_apply (c : Dev nD) (t : Fin cfg0.N) (n r : Fin 512) :
    (iblk m c 2 t : Vec Ideal S1x512x512 .f32) (ix3 0 n r) = m ((c : Thread nD τ).loc main_arg2) (ix3 (batch t) (row t r) n) := by
  obtain ⟨e0, e1, e2⟩ := index2 t
  rw [← V_v0 m c]
  show V m c main_v0 (((cfg0.win 2).blk t).view.emb (ix3 0 n r)) = _
  congr 1; funext a; apply Fin.ext
  match a with
  | ⟨0, _⟩ => show win0_2.index t 0 * 1 + 1 * 0 = t.val / 16; omega
  | ⟨1, _⟩ => show win0_2.index t 1 * 512 + 1 * n.val = n.val; omega
  | ⟨2, _⟩ => show win0_2.index t 2 * 512 + 1 * r.val = 512 * (t.val % 16) + r.val; omega

theorem blk3_apply (c : Dev nD) (t : Fin cfg0.N) (r n : Fin 512) :
    (iblk m c 3 t : Vec Ideal S1x512x512 .f32) (ix3 0 r n) = m ((c : Thread nD τ).loc main_arg2) (ix3 (batch t) (row t r) n) := by
  obtain ⟨e0, e1, e2⟩ := index3 t
  rw [← V_main_arg2 m c]
  show V m c main_arg2 (((cfg0.win 3).blk t).view.emb (ix3 0 r n)) = _
  congr 1; funext a; apply Fin.ext
  match a with
  | ⟨0, _⟩ => show win0_3.index t 0 * 1 + 1 * 0 = t.val / 16; omega
  | ⟨1, _⟩ => show win0_3.index t 1 * 512 + 1 * r.val = 512 * (t.val % 16) + r.val; omega
  | ⟨2, _⟩ => show win0_3.index t 2 * 512 + 1 * n.val = n.val; omega

theorem blk4_apply (c : Dev nD) (t : Fin cfg0.N) (r : Fin 512) (i : Fin 128) :
    (iblk m c 4 t : Vec Ideal S1x512x128 .f32) (ix3 0 r i) = m ((c : Thread nD τ).loc main_arg3) (ix3 (batch t) (row t r) i) := by
  obtain ⟨e0, e1, e2⟩ := index4 t
  rw [← V_main_arg3 m c]
  show V m c main_arg3 (((cfg0.win 4).blk t).view.emb (ix3 0 r i)) = _
  congr 1; funext a; apply Fin.ext
  match a with
  | ⟨0, _⟩ => show win0_4.index t 0 * 1 + 1 * 0 = t.val / 16; omega
  | ⟨1, _⟩ => show win0_4.index t 1 * 512 + 1 * r.val = 512 * (t.val % 16) + r.val; omega
  | ⟨2, _⟩ => show win0_4.index t 2 * 128 + 1 * i.val = i.val; omega

theorem blk5_apply (c : Dev nD) (t : Fin cfg0.N) (i : Fin 16) (d : Fin 256) :
    (iblk m c 5 t : Vec Ideal S16x256 .f32) (ix2 i d) = m ((c : Thread nD τ).loc main_arg4) (ix3 0 i d) := by
  obtain ⟨e0, e1, -⟩ := index56 t
  rw [← V_v1 m c]
  show V m c main_v1 (((cfg0.win 5).blk t).view.emb (ix2 i d)) = _
  congr 1; funext a; apply Fin.ext
  match a with
  | ⟨0, _⟩ => show win0_5.index t 0 * 16 + 1 * i.val = i.val; omega
  | ⟨1, _⟩ => show win0_5.index t 1 * 256 + 1 * d.val = d.val; omega

theorem blk6_apply (c : Dev nD) (t : Fin cfg0.N) (d : Fin 256) :
    (iblk m c 6 t : Vec Ideal S1x256 .f32) (ix2 0 d) = m ((c : Thread nD τ).loc main_arg5) (ix2 0 d) := by
  obtain ⟨-, -, e0, e1⟩ := index56 t
  rw [← V_v3 m c]
  show V m c main_v3 (((cfg0.win 6).blk t).view.emb (ix2 0 d)) = _
  congr 1; funext a; apply Fin.ext
  match a with
  | ⟨0, _⟩ => show win0_6.index t 0 * 1 + 1 * 0 = 0; omega
  | ⟨1, _⟩ => show win0_6.index t 1 * 256 + 1 * d.val = d.val; omega

/-! A sequence's tiles, from arguments that are real. -/

variable {q k : ℕ → Fin 256 → ℝ} {v : ℕ → Fin 512 → ℝ} {M : ℕ → Fin 128 → ℝ} {W : Fin 16 → Fin 256 → ℝ} {β : Fin 256 → ℝ} {c : Dev nD} {b : Fin 8}
  (h0 : ∀ (r : Fin 8192) d, m ((c : Thread nD τ).loc main_arg0) (ix3 b r d) = (q r.val d : EReal))
  (h1 : ∀ (r : Fin 8192) d, m ((c : Thread nD τ).loc main_arg1) (ix3 b r d) = (k r.val d : EReal))
  (h2 : ∀ (r : Fin 8192) n, m ((c : Thread nD τ).loc main_arg2) (ix3 b r n) = (v r.val n : EReal))
  (h3 : ∀ (r : Fin 8192) i, m ((c : Thread nD τ).loc main_arg3) (ix3 b r i) = (M r.val i : EReal))
  (h4 : ∀ i d, m ((c : Thread nD τ).loc main_arg4) (ix3 0 i d) = (W i d : EReal))
  (h5 : ∀ d, m ((c : Thread nD τ).loc main_arg5) (ix2 0 d) = (β d : EReal))

/-- The grid point of tile `i` of sequence `b`. -/
abbrev tileAt (b : Fin 8) (i : Fin 16) : Fin cfg0.N := ⟨16 * b.val + i.val, by rw [show cfg0.N = 128 from N_0]; omega⟩

theorem batch_tileAt (i : Fin 16) : batch (tileAt b i) = b := by
  have := i.isLt
  apply Fin.ext; show (16 * b.val + i.val) / 16 = b.val; omega

theorem row_tileAt (i : Fin 16) (r : Fin 512) : (row (tileAt b i) r).val = 512 * i.val + r.val := by
  have := i.isLt
  show 512 * ((16 * b.val + i.val) % 16) + r.val = _; omega

include h3 h4 h5 in
theorem laAt_apply (i : Fin 16) (r : Fin 512) (d : Fin 256) : laAt m c (tileAt b i) (ix2 r d)
    = (blkCum (fun t d => logGate (gateArg M W β t d)) (512 * i.val + r.val / 16 * 16) (r.val % 16) d : EReal) :=
  decayOf_apply (512 * i.val) (fun r j => by rw [blk4_apply, batch_tileAt, h3, row_tileAt]) (fun j d => by rw [blk5_apply, h4])
    (fun d => by rw [blk6_apply, h5]) r d

include h1 h2 h3 h4 h5 in
theorem stBefore_apply : ∀ (i : ℕ), i < 16 → ∀ n d, stBefore m c (16 * b.val + i) (ix2 n d)
    = (stAt k (fun t d => logGate (gateArg M W β t d)) v (512 * i) n d : EReal)
  | 0, _, n, d => by
    rw [stBefore_start m c _ (by omega)]
    have e : (k0_pay305 : FVec Ideal S512x256 .f32) (ix2 n d) = 0 := by
      pointwise [k0_pay305]
    refine e.trans ?_
    unfold stAt
    simp
  | i + 1, hi, n, d => by
    have ih := stBefore_apply i (by omega)
    have e := stBefore_next m c (tileAt b ⟨i, by omega⟩) (by show ¬(16 * b.val + i + 1) % 16 = 0; omega)
    rw [show 16 * b.val + (i + 1) = (tileAt b ⟨i, by omega⟩).val + 1 from rfl, e]
    exact tileState_apply (fun r d => by rw [blk1_apply, batch_tileAt, h1, row_tileAt]) (fun n r => by rw [blk2_apply, batch_tileAt, h2, row_tileAt])
      (laAt_apply m h3 h4 h5 ⟨i, Nat.lt_of_succ_lt hi⟩) ih 4 le_rfl n d

include h0 h1 h2 h3 h4 h5 in
theorem result_apply (r : Fin 8192) (n : Fin 512) : result m c (ix3 b r n)
    = (outRow (fun t d => q t d * (1 / 8)) k (fun t d => logGate (gateArg M W β t d)) v r.val n : EReal) := by
  obtain ⟨i, p, hr⟩ : ∃ (i : Fin 16) (p : Fin 512), r.val = 512 * i.val + p.val :=
    ⟨⟨r.val / 512, by omega⟩, ⟨r.val % 512, by omega⟩, by dsimp only; omega⟩
  have e : (ix3 b r n : S8x8192x512.Idx) = ix3 (batch (tileAt b i)) (row (tileAt b i) p) n := by
    rw [batch_tileAt, show row (tileAt b i) p = r from Fin.ext (by rw [row_tileAt, hr])]
  rw [e, result_row, hr]
  exact tileOut_apply (fun r d => by rw [blk1_apply, batch_tileAt, h1, row_tileAt]) (fun n r => by rw [blk2_apply, batch_tileAt, h2, row_tileAt])
    (laAt_apply m h3 h4 h5 i) (stBefore_apply m h1 h2 h3 h4 h5 i.val i.isLt) (fun r d => by rw [blk0_apply, batch_tileAt, h0, row_tileAt])
    (fun r n => by rw [blk3_apply, batch_tileAt, h2, row_tileAt]) p n

end Cert.Kernel5Ideal.Gla

end
-- ==== Proof.GlaRef.lean ====
/- The reference's gated linear attention, read at an index over the real numbers. -/
module

public import proofs.«01_k».proof.Proof.GlaMask
public import proofs.«01_k».proof.Proof.Gen.Reference5Ideal.Read

@[expose] public section

set_option maxRecDepth 8192

noncomputable section

namespace Cert.Reference5Ideal.Gla

open Idealize.ShloMosaic Idealize.ShloMosaic.TcCoe Cert.Reference5Ideal Cert.Reference5Ideal.Gen Cert.Reference5Ideal.Read Cert.Kernel5Ideal.Gla

variable {x0 x1 : FVec Ideal S8x8192x256 .f32} {x2 : FVec Ideal S8x8192x512 .f32} {x3 : FVec Ideal S8x8192x128 .f32}
  {x4 : FVec Ideal S1x16x256 .f32} {x5 : FVec Ideal S1x256 .f32}
  {Q K : ℕ → Fin 256 → ℝ} {V : ℕ → Fin 512 → ℝ} {M : ℕ → Fin 128 → ℝ} {W : Fin 16 → Fin 256 → ℝ} {β : Fin 256 → ℝ} {b : Fin 8}

theorem sixteen : Ideal.ofBits .f32 0x41800000#32 = ((16 : ℝ) : EReal) := by
  simp [Ideal.ofBits, Ideal.ieee]
  rw [← EReal.coe_mul]; norm_num

variable (h3 : ∀ (r : Fin 8192) i, x3 (ix3 b r i) = (M r.val i : EReal)) (h4 : ∀ i d, x4 (ix3 0 i d) = (W i d : EReal))
  (h5 : ∀ d, x5 (ix2 0 d) = (β d : EReal))

include h3 h4 h5

theorem arg_apply (r : Fin 8192) (d : Fin 256) : val_main_v6 (F := Ideal) x3 x4 x5 (ix3 b r d) = (gateArg M W β r.val d : EReal) := by
  have h2 : ∀ k : Fin 16, val_main_v0 (F := Ideal) x3 (lidx_main_v2 (ix3 b r d) k) * val_main_v1 (F := Ideal) x4 (ridx_main_v2 (ix3 b r d) k)
      = ((M r.val ⟨72 + k.val, by omega⟩ * W k d : ℝ) : EReal) := fun k => by
    have hk := k.isLt
    have hd := d.isLt
    rw [val_main_v0_apply, val_main_v1_apply, EReal.coe_mul, ← h3, ← h4]
    congr 1 <;> congr 1 <;> funext a <;> apply Fin.ext
    · match a with
      | ⟨0, _⟩ => rfl
      | ⟨1, _⟩ => rfl
      | ⟨2, _⟩ => rfl
    · match a with
      | ⟨0, _⟩ => rfl
      | ⟨1, _⟩ => show (k.val * 256 + d.val) / 256 % 16 = k.val; omega
      | ⟨2, _⟩ => show (k.val * 256 + d.val) % 256 = d.val; omega
  have hb : val_main_v5 (F := Ideal) x5 (ix3 b r d) = (β d : EReal) := by
    have hd := d.isLt
    rw [val_main_v5_apply, val_main_v4_apply, val_main_v3_apply, ← h5]
    congr 1; funext a; apply Fin.ext
    match a with
    | ⟨0, _⟩ => rfl
    | ⟨1, _⟩ => show d.val % 256 = d.val; omega
  rw [val_main_v6_apply, val_main_v2_apply, hb, Finset.sum_congr rfl fun k _ => h2 k, ← coe_sum]
  exact (EReal.coe_add _ _).symm

theorem gate_apply (r : Fin 8192) (d : Fin 256) : val_main_v9 (F := Ideal) x3 x4 x5 (ix3 b r d) = (logGate (gateArg M W β r.val d) : EReal) := by
  have hz := arg_apply h3 h4 h5 r d
  generalize gateArg M W β r.val d = z at hz ⊢
  rw [val_main_v9_apply, val_main_v7_apply, val_main_call0_v1_apply, val_main_call0_call0_v4_apply, val_main_call0_call0_v11_apply,
    val_main_call0_call0_v6_apply, val_main_call0_call0_v10_apply, val_main_call0_call0_v9_apply, val_main_call0_call0_v8_apply,
    val_main_call0_call0_v7_apply, val_main_call0_call0_v3_apply, val_main_call0_call0_v1_apply, val_main_call0_v0_apply,
    val_main_call0_call0_v0_apply, val_main_call0_call0_v2_apply, val_main_call0_call0_v5_apply, val_main_call0_call0_cst_apply,
    val_main_v8_apply, val_main_cst_apply, hz]
  have zero : (FloatOps.ofBits .f32 0x00000000#32 : Ideal .f32) = (0 : EReal) := by
    show Ideal.ofBits .f32 0x00000000#32 = 0
    simp [Ideal.ofBits, Ideal.ieee]
  rw [zero]
  have e : ∀ y : EReal, Ideal.cmp .une y y = 0#1 := fun y => by simp [Ideal.cmp]
  show Ideal.div (-(Scalar.select (Ideal.cmp .une (-(z : EReal) - 0) (-(z : EReal) - 0)) _ (max (-(z : EReal)) 0
    + Ideal.log1p (Ideal.exp (-(max (-(z : EReal) - 0) (-(-(z : EReal) - 0)))))))) (Ideal.ofBits .f32 0x41800000#32) = _
  rw [e, sixteen, sub_zero, ← EReal.coe_neg, coe_abs, ← EReal.coe_neg, log1p_exp, ← EReal.coe_zero, coe_max]
  show Ideal.div (-(((max (-z) 0 : ℝ) : EReal) + _)) _ = _
  rw [← EReal.coe_add, ← EReal.coe_neg]
  rw [Ideal.div, if_neg (by norm_num), ← EReal.coe_inv, ← EReal.coe_mul]
  unfold logGate
  congr 1
  rw [abs_neg, neg_add, ← min_neg_neg, neg_neg, neg_zero]
  ring

omit h3 h4 h5 in
/-- The mask of the rows up to a row. -/
theorem tril_apply (t j : Fin 8192) : val_main_v11 (F := Ideal) (ix2 t j) = if j.val ≤ t.val then 1#1 else 0#1 := by
  have ht := t.isLt
  have hj := j.isLt
  rw [val_main_v11_apply, val_main_v10_apply, val_main_c_apply, val_main_call1_v5_apply, val_main_call1_c_0_apply, val_main_call1_v4_apply,
    val_main_call1_v2_apply, val_main_call1_v3_apply, val_main_call1_v0_apply, val_main_call1_v1_apply, val_main_call1_c_apply]
  show Scalar.select (BitVec.ofBool ((BitVec.ofNat 32 j.val).sle (BitVec.ofNat 32 t.val + 0#32))) 1#1 0#1 = _
  rw [BitVec.add_zero, BitVec.sle_eq_decide, BitVec.toInt_ofNat', BitVec.toInt_ofNat',
    Int.bmod_eq_of_le (by omega) (by omega), Int.bmod_eq_of_le (by omega) (by omega)]
  by_cases h : j.val ≤ t.val
  · rw [if_pos h, decide_eq_true (by omega)]; rfl
  · rw [if_neg h, decide_eq_false (by omega)]; rfl

omit h3 h4 h5 in
theorem sum_le {N : ℕ} (f : ℕ → ℝ) (t : Fin N) : (∑ j : Fin N, if j.val ≤ t.val then f j.val else 0) = ∑ j ∈ Finset.range (t.val + 1), f j := by
  have ht := t.isLt
  rw [Fin.sum_univ_eq_sum_range (fun j => if j ≤ t.val then f j else 0) N, ← Finset.sum_filter]
  refine Finset.sum_congr (Finset.ext fun j => ?_) fun _ _ => rfl
  rw [Finset.mem_filter, Finset.mem_range, Finset.mem_range]
  omega

theorem cum_apply (t : Fin 8192) (d : Fin 256) :
    val_main_v14 (F := Ideal) x3 x4 x5 (ix3 b t d) = (cum (fun s d => logGate (gateArg M W β s d)) (t.val + 1) d : EReal) := by
  rw [val_main_v14_apply, val_main_v13_apply]
  have h : ∀ j : Fin 8192, val_main_v9 (F := Ideal) x3 x4 x5 (lidx_main_v13 (idx_main_v14 (ix3 b t d)) j)
      * val_main_v12 (F := Ideal) (ridx_main_v13 (idx_main_v14 (ix3 b t d)) j)
      = ((if j.val ≤ t.val then logGate (gateArg M W β j.val d) else 0 : ℝ) : EReal) := fun j => by
    have e1 : lidx_main_v13 (idx_main_v14 (ix3 b t d)) j = ix3 b j d := by
      funext a; apply Fin.ext
      match a with
      | ⟨0, _⟩ => rfl
      | ⟨1, _⟩ => rfl
      | ⟨2, _⟩ => rfl
    have e2 : ridx_main_v13 (idx_main_v14 (ix3 b t d)) j = ix2 t j := by
      funext a; apply Fin.ext
      match a with
      | ⟨0, _⟩ => rfl
      | ⟨1, _⟩ => rfl
    rw [e1, e2, gate_apply h3 h4 h5, val_main_v12_apply, tril_apply]
    by_cases h : j.val ≤ t.val
    · rw [if_pos h, if_pos h]
      refine (congrArg (fun y : EReal => _ * y) (?_ : _ = (1 : EReal))).trans (mul_one _)
      show ((_ : ℝ) : EReal) = 1
      simp
    · rw [if_neg h, if_neg h]
      refine (congrArg (fun y : EReal => _ * y) (?_ : _ = (0 : EReal))).trans (mul_zero _)
      show ((_ : ℝ) : EReal) = 0
      simp
  rw [Finset.sum_congr rfl fun j _ => h j, ← coe_sum, sum_le (fun j => logGate (gateArg M W β j d))]
  rfl

/-- The place of a head's element among the keys' elements. -/
abbrev headAt (h : Fin 4) (e : Fin 64) : Fin 256 := ⟨64 * h.val + e.val, by omega⟩

omit h3 h4 h5 in
theorem sum_head (c : Fin 512) (f : Fin 256 → ℝ) :
    (∑ d, if sameHead d c then f d else 0) = ∑ e : Fin 64, f (headAt ⟨c.val / 128, by omega⟩ e) := by
  rw [← Finset.sum_filter]
  symm
  refine Finset.sum_bij (fun e _ => headAt ⟨c.val / 128, by omega⟩ e) (fun e _ => ?_) (fun e _ e' _ h => ?_) (fun d hd => ?_) (fun _ _ => rfl)
  · have := e.isLt
    refine Finset.mem_filter.mpr ⟨Finset.mem_univ _, ?_⟩
    show (64 * (c.val / 128) + e.val) / 64 = c.val / 128
    omega
  · have h := congrArg Fin.val h
    exact Fin.ext (by dsimp only at h; omega)
  · have h : d.val / 64 = c.val / 128 := (Finset.mem_filter.mp hd).2
    exact ⟨⟨d.val - 64 * (c.val / 128), by omega⟩, Finset.mem_univ _, Fin.ext (by dsimp only; omega)⟩

variable (h0 : ∀ (r : Fin 8192) d, x0 (ix3 b r d) = (Q r.val d : EReal)) (h1 : ∀ (r : Fin 8192) d, x1 (ix3 b r d) = (K r.val d : EReal))
  (h2 : ∀ (r : Fin 8192) c, x2 (ix3 b r c) = (V r.val c : EReal))

include h0 h1

theorem pair_apply (t j : Fin 8192) (h : Fin 4) (e : Fin 64) (i : S8x8192x8192x4x64.Idx)
    (hi : (i 0).val = b.val ∧ (i 1).val = t.val ∧ (i 2).val = j.val ∧ (i 3).val = h.val ∧ (i 4).val = e.val) :
    val_main_v34 (F := Ideal) x0 x1 x3 x4 x5 i
      = ((if j.val ≤ t.val then Q t.val (headAt h e) * (1 / 8) * K j.val (headAt h e)
          * Real.exp (cum (fun s d => logGate (gateArg M W β s d)) (t.val + 1) (headAt h e)
            - cum (fun s d => logGate (gateArg M W β s d)) (j.val + 1) (headAt h e)) else 0 : ℝ) : EReal) := by
  obtain ⟨i0, i1, i2, i3, i4⟩ := hi
  have hb := b.isLt
  have ht := t.isLt
  have hj := j.isLt
  have hh := h.isLt
  have he := e.isLt
  have e0 : idx_main_v15 (idx_main_v29 (idx_main_v31 i)) = ix3 b t (headAt h e) := by
    funext a; apply Fin.ext
    match a with
    | ⟨0, _⟩ => show ((((i 0).val * 8192 + (i 1).val) * 4 + (i 3).val) * 64 + (i 4).val) / 2097152 = b.val; omega
    | ⟨1, _⟩ => show ((((i 0).val * 8192 + (i 1).val) * 4 + (i 3).val) * 64 + (i 4).val) / 256 % 8192 = t.val; omega
    | ⟨2, _⟩ => show ((((i 0).val * 8192 + (i 1).val) * 4 + (i 3).val) * 64 + (i 4).val) % 256 = 64 * h.val + e.val; omega
  have e1 : idx_main_v18 (idx_main_v30 (idx_main_v32 i)) = ix3 b j (headAt h e) := by
    funext a; apply Fin.ext
    match a with
    | ⟨0, _⟩ => show ((((i 0).val * 8192 + (i 2).val) * 4 + (i 3).val) * 64 + (i 4).val) / 2097152 = b.val; omega
    | ⟨1, _⟩ => show ((((i 0).val * 8192 + (i 2).val) * 4 + (i 3).val) * 64 + (i 4).val) / 256 % 8192 = j.val; omega
    | ⟨2, _⟩ => show ((((i 0).val * 8192 + (i 2).val) * 4 + (i 3).val) * 64 + (i 4).val) % 256 = 64 * h.val + e.val; omega
  have e2 : idx_main_v20 (idx_main_v21 (idx_main_v23 i)) = ix3 b t (headAt h e) := e0
  have e3 : idx_main_v20 (idx_main_v22 (idx_main_v24 i)) = ix3 b j (headAt h e) := e1
  have e4 : idx_main_v26 (idx_main_call2_v1 i) = ix2 t j := by
    funext a; apply Fin.ext
    match a with
    | ⟨0, _⟩ => exact i1
    | ⟨1, _⟩ => exact i2
  rw [val_main_v34_apply, val_main_v33_apply, val_main_v31_apply, val_main_v29_apply, val_main_v17_apply, val_main_v15_apply,
    val_main_v16_apply, val_main_cst_0_apply, val_main_v32_apply, val_main_v30_apply, val_main_v18_apply, val_main_v28_apply,
    val_main_v27_apply, val_main_call2_v1_apply, val_main_v26_apply, val_main_v25_apply, val_main_v23_apply, val_main_v21_apply,
    val_main_v20_apply, val_main_v24_apply, val_main_v22_apply, val_main_v20_apply, val_main_call2_v2_apply, val_main_call2_v0_apply,
    val_main_cst_1_apply, e0, e1, e2, e3, e4, h0, h1, cum_apply h3 h4 h5, cum_apply h3 h4 h5, tril_apply]
  show ((Q t.val (headAt h e) : EReal) * Ideal.ofBits .f32 0x3E000000#32 * (K j.val (headAt h e) : EReal))
    * Ideal.exp (Scalar.select _ ((_ : EReal) - (_ : EReal)) (Ideal.ofBits .f32 0xFF800000#32)) = _
  rw [eighth, ← EReal.coe_sub]
  by_cases hjt : j.val ≤ t.val
  · rw [if_pos hjt, if_pos hjt]
    rw [show ∀ x y : EReal, Scalar.select 1#1 x y = x from fun _ _ => rfl, Ideal.exp_coe, ← EReal.coe_mul, ← EReal.coe_mul, ← EReal.coe_mul]
  · rw [if_neg hjt, if_neg hjt]
    show _ * Ideal.exp (Ideal.ofBits .f32 0xFF800000#32) = _
    rw [show Ideal.ofBits .f32 0xFF800000#32 = (⊥ : EReal) from minus_infinity]
    show _ * (0 : EReal) = _
    rw [mul_zero]; rfl

include h2

theorem out_apply (t : Fin 8192) (c : Fin 512) : val_main_v42 (F := Ideal) x0 x1 x2 x3 x4 x5 (ix3 b t c)
    = (outRow (fun t d => Q t d * (1 / 8)) K (fun s d => logGate (gateArg M W β s d)) V t.val c : EReal) := by
  have hb := b.isLt
  have ht := t.isLt
  have hc := c.isLt
  have zero : (FloatOps.ofBits .f32 0x00000000#32 : Ideal .f32) = (0 : EReal) := by
    show Ideal.ofBits .f32 0x00000000#32 = 0
    simp [Ideal.ofBits, Ideal.ieee]
  have h : ∀ j : Fin 8192, val_main_v40 (F := Ideal) x0 x1 x2 x3 x4 x5 (idx_main_v41 (idx_main_v42 (ix3 b t c)) j)
      = ((if j.val ≤ t.val then (∑ d, if sameHead d c then Q t.val d * (1 / 8) * K j.val d
          * Real.exp (cum (fun s d => logGate (gateArg M W β s d)) (t.val + 1) d
            - cum (fun s d => logGate (gateArg M W β s d)) (j.val + 1) d) else 0) * V j.val c else 0 : ℝ) : EReal) := fun j => by
    have hj := j.isLt
    have e1 : idx_main_v19 (idx_main_v37 (idx_main_v39 (idx_main_v41 (idx_main_v42 (ix3 b t c)) j))) = ix3 b j c := by
      funext a; apply Fin.ext
      match a with
      | ⟨0, _⟩ => show ((((((b.val * 8192 + t.val) * 512 + c.val) / 4194304) * 8192 + j.val) * 4 + ((b.val * 8192 + t.val) * 512 + c.val) / 128 % 4) * 128 + ((b.val * 8192 + t.val) * 512 + c.val) % 128) / 4194304 = b.val; omega
      | ⟨1, _⟩ => show ((((((b.val * 8192 + t.val) * 512 + c.val) / 4194304) * 8192 + j.val) * 4 + ((b.val * 8192 + t.val) * 512 + c.val) / 128 % 4) * 128 + ((b.val * 8192 + t.val) * 512 + c.val) % 128) / 512 % 8192 = j.val; omega
      | ⟨2, _⟩ => show ((((((b.val * 8192 + t.val) * 512 + c.val) / 4194304) * 8192 + j.val) * 4 + ((b.val * 8192 + t.val) * 512 + c.val) / 128 % 4) * 128 + ((b.val * 8192 + t.val) * 512 + c.val) % 128) % 512 = c.val; omega
    have hp := fun e : Fin 64 => pair_apply h3 h4 h5 h0 h1 t j ⟨c.val / 128, by omega⟩ e
      (idx_main_v35 (idx_main_v36 (idx_main_v38 (idx_main_v41 (idx_main_v42 (ix3 b t c)) j))) e)
      ⟨by show ((b.val * 8192 + t.val) * 512 + c.val) / 4194304 = b.val; omega,
        by show ((b.val * 8192 + t.val) * 512 + c.val) / 512 % 8192 = t.val; omega, rfl,
        by show ((b.val * 8192 + t.val) * 512 + c.val) / 128 % 4 = c.val / 128; omega, rfl⟩
    rw [val_main_v40_apply, val_main_v38_apply, val_main_v36_apply, val_main_v35_apply, val_main_cst_2_apply, zero, zero_add,
      Finset.sum_congr rfl fun e _ => hp e, ← coe_sum, val_main_v39_apply, val_main_v37_apply, val_main_v19_apply, e1, h2]
    show ((_ : ℝ) : EReal) * ((_ : ℝ) : EReal) = _
    rw [← EReal.coe_mul, sum_head c]
    by_cases h : j.val ≤ t.val
    · simp only [if_pos h]
    · simp only [if_neg h, Finset.sum_const_zero, zero_mul]
  rw [val_main_v42_apply, val_main_v41_apply, val_main_cst_3_apply, zero, zero_add, Finset.sum_congr rfl fun j _ => h j, ← coe_sum,
    sum_le (fun j => (∑ d, if sameHead d c then Q t.val d * (1 / 8) * K j d
          * Real.exp (cum (fun s d => logGate (gateArg M W β s d)) (t.val + 1) d
            - cum (fun s d => logGate (gateArg M W β s d)) (j + 1) d) else 0) * V j c)]
  rfl

end Cert.Reference5Ideal.Gla

end
-- ==== Proof.GlaAlgebraic.lean ====
/- The gated linear attention: on finite arguments the kernel and the plain recurrence end with the same array. -/
module

public import proofs.«01_k».proof.Defs
public import proofs.«01_k».proof.Proof.GlaValue
public import proofs.«01_k».proof.Proof.GlaRef
public import proofs.«01_k».proof.Proof.Gen.Reference5Ideal.Run
public import proofs.«01_k».proof.Proof.Gen.Pre_finite
public import Idealize.ShloMosaic.Lib.Affine

@[expose] public section

set_option maxRecDepth 16384

noncomputable section

namespace Cert.Pre_finite.Decode

open Idealize.ShloMosaic Cert.Pre_finite Cert.Pre_finite.Gen

/-- A conjunction over every element that is true holds of each element. -/
theorem all_of_reduce {s u : Shape} {axes : List (Fin s.rank)} (x : IVec s 1) (init : IVec u 1) (h : s.ReducesTo axes S_) (hu : 0 < u.numel)
    (j : S_.Idx) (e : Host.reduce IntOp.andi x init h hu j = 1#1) (i : s.Idx) : x i = 1#1 := by
  rw [Host.reduce_eq_fold] at e
  have k := (Finset.fold_op_rel_iff_and (op := IntOp.andi) (r := fun (_ z : BitVec 1) => z = 1#1) (c := 1#1)
    IntOp.andi_eq_one).1 e
  exact k.2 i (Finset.mem_filter.2 ⟨Finset.mem_univ i, funext fun a => a.elim0⟩)

theorem infinity : Ideal.ofBits .f32 0x7F800000#32 = (⊤ : EReal) := by
  simp [Ideal.ofBits, Ideal.ieee]

theorem real_of_lt (x : EReal) (h : Ideal.cmp .olt (max x (-x)) (Ideal.ofBits .f32 0x7F800000#32) = 1#1) : x = (x.toReal : EReal) := by
  rw [infinity] at h
  have h' : max x (-x) < ⊤ := by
    by_contra hn
    simp [Ideal.cmp, hn] at h
  rw [max_lt_iff] at h'
  refine (EReal.coe_toReal h'.1.ne fun hb => ?_).symm
  rw [hb] at h'
  exact absurd h'.2 (by simp)

/-- An array the conjunction of whose magnitudes' comparisons with infinity is true holds real numbers only. -/
theorem real_of_reduce {s : Shape} {axes : List (Fin s.rank)} (x : FVec Ideal s .f32) (hb : S_.BroadcastsInDim s (![] : Fin 0 → Fin s.rank))
    (h : s.ReducesTo axes S_) (hu : 0 < S_.numel) (j : S_.Idx)
    (e : Host.reduce IntOp.andi (cmpf .olt (Host.absf x) (broadcastInDim s ![] hb (constant S_ .f32 0x7F800000#32))) (constantI S_ 1 1#1) h hu j = 1#1)
    (i : s.Idx) : x i = ((x i).toReal : EReal) :=
  real_of_lt _ (all_of_reduce _ _ h hu j e i)

variable {x0 x1 : FVec Ideal S8x8192x256 .f32} {x2 : FVec Ideal S8x8192x512 .f32} {x3 : FVec Ideal S8x8192x128 .f32}
  {x4 : FVec Ideal S1x16x256 .f32} {x5 : FVec Ideal S1x256 .f32}

theorem finite_real (h : fn (F := Ideal) x0 x1 x2 x3 x4 x5 = fun _ => 1#1) :
    (∀ i, x0 i = ((x0 i).toReal : EReal)) ∧ (∀ i, x1 i = ((x1 i).toReal : EReal)) ∧ (∀ i, x2 i = ((x2 i).toReal : EReal))
      ∧ (∀ i, x3 i = ((x3 i).toReal : EReal)) ∧ (∀ i, x4 i = ((x4 i).toReal : EReal)) ∧ (∀ i, x5 i = ((x5 i).toReal : EReal)) := by
  have j : S_.Idx := fun a => a.elim0
  have e := congrFun h j
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨real_of_reduce x0 _ _ _ j e0, real_of_reduce x1 _ _ _ j e1, real_of_reduce x2 _ _ _ j e2, real_of_reduce x3 _ _ _ j e3,
    real_of_reduce x4 _ _ _ j e4, real_of_reduce x5 _ _ _ j e5⟩

end Cert.Pre_finite.Decode

namespace Cert.Proof.Gla

open Idealize.ShloMosaic Idealize.ShloMosaic.TcCoe Idealize.SL.Sem Cert.Kernel5Ideal Cert.Kernel5Ideal.Gla

/-- The real rows of batch `b` of an array. -/
def rows {w : ℕ} (x : FVec Ideal ⟨3, ![8, 8192, w]⟩ .f32) (b : Fin 8) (t : ℕ) (d : Fin w) : ℝ :=
  if h : t < 8192 then (x (ix3 b ⟨t, h⟩ d)).toReal else 0

theorem rows_apply {w : ℕ} (x : FVec Ideal ⟨3, ![8, 8192, w]⟩ .f32) (hx : ∀ i, x i = ((x i).toReal : EReal)) (b : Fin 8) (r : Fin 8192) (d : Fin w) :
    x (ix3 b r d) = (rows x b r.val d : EReal) := by
  unfold rows
  rw [dif_pos r.isLt]
  exact hx _

theorem result_eq (m : (ℓ : Loc nD τ sig) → Buf (Elt Ideal) ℓ)
    (hm : Pre_Kernel5Ideal_finite (hPre_finite := Cert.Pre_finite.Gen.facts) m) (c : Dev nD) :
    Reference5Ideal.Read.val_main_v42 (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) = result m c := by
  obtain ⟨h0, h1, h2, h3, h4, h5⟩ := Pre_finite.Decode.finite_real (hm c)
  funext i
  obtain ⟨b, r, n, rfl⟩ : ∃ (b : Fin 8) (r : Fin 8192) (n : Fin 512), i = (ix3 b r n : S8x8192x512.Idx) :=
    ⟨i 0, i 1, i 2, by funext a; match a with | ⟨0, _⟩ => rfl | ⟨1, _⟩ => rfl | ⟨2, _⟩ => rfl⟩
  have k := result_apply m (rows_apply _ h0 b) (rows_apply _ h1 b) (rows_apply _ h2 b) (rows_apply _ h3 b) (fun i d => h4 (ix3 0 i d))
    (fun d => h5 (ix2 0 d)) r n
  exact (Reference5Ideal.Gla.out_apply (rows_apply _ h3 b) (fun i d => h4 (ix3 0 i d)) (fun d => h5 (ix2 0 d)) (rows_apply _ h0 b)
    (rows_apply _ h1 b) (rows_apply _ h2 b) r n).trans k.symm

theorem algebraic : Cert.algebraic_Kernel5Ideal_Reference5Ideal_pre_finite (hKernel5Ideal := Cert.Kernel5Ideal.Gen.facts)
    (hReference5Ideal := Cert.Reference5Ideal.Gen.facts) (hPre_finite := Cert.Pre_finite.Gen.facts) := by
  intro m ρ m' ρ' hm hagree
  refine ⟨result m, run m ρ, ?_⟩
  refine (θ_run _ _ _).mono (fun r h c => ⟨?_, (h c).2⟩) (Reference5Ideal.Value.run m' ρ')
  obtain ⟨e0, e1, e2, e3, e4, e5⟩ := hagree c
  refine (h c).1.trans ((Reference5Ideal.Read.val_main_v42_eq _ _).trans ?_)
  have e := result_eq m hm c
  rw [← e0, ← e1, ← e2, ← e3, ← e4, ← e5] at e
  exact e

/-- The reference's run leaves its arguments as launched, and declares no semaphore. -/
theorem reference_frame : Cert.quiescent_Reference5Ideal (hReference5Ideal := Cert.Reference5Ideal.Gen.facts) :=
  fun m ρ _ => (θ_run _ _ _).mono (fun r h => ⟨fun c => (h c).2, sem_eq_zero_of_no_sems (by decide) r.2⟩) (Reference5Ideal.Value.run m ρ)

theorem preserves : Cert.preserves_Kernel5_Kernel5Ideal := IdealRules.named_const.statement _ _ _ _ _ rfl

end Cert.Proof.Gla

end
-- ==== Proof.lean ====
module

public import proofs.«01_k».proof.Defs
public import proofs.«01_k».proof.Proof.Gen.Kernel
public import proofs.«01_k».proof.Proof.Gen.Kernel2
public import proofs.«01_k».proof.Proof.Gen.Kernel2Ideal
public import proofs.«01_k».proof.Proof.Gen.Reference2Ideal
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.Kernel3
public import proofs.«01_k».proof.Proof.Gen.Kernel3Ideal
public import proofs.«01_k».proof.Proof.Gen.Reference3Ideal
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4
public import proofs.«01_k».proof.Proof.Gen.Kernel4Ideal
public import proofs.«01_k».proof.Proof.Gen.Reference4Ideal
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5
public import proofs.«01_k».proof.Proof.Gen.Kernel5Ideal
public import proofs.«01_k».proof.Proof.Gen.Kernel5.Skeleton
public import proofs.«01_k».proof.Proof.Gen.Kernel5.Launch
public import proofs.«01_k».proof.Proof.Gen.Kernel5.Points
public import proofs.«01_k».proof.Proof.Gen.Reference5Ideal
public import proofs.«01_k».proof.Proof.Gen.Reference5Ideal.Run
public import proofs.«01_k».proof.Proof.Gen.Reference5Ideal.Read
public import proofs.«01_k».proof.Proof.Gen.Pre_finite
public import proofs.«01_k».proof.Proof.Run
public import proofs.«01_k».proof.Proof.MixAlgebraic
public import proofs.«01_k».proof.Proof.Projection
public import proofs.«01_k».proof.Proof.Modulation
public import proofs.«01_k».proof.Proof.GlaKeep
public import proofs.«01_k».proof.Proof.GlaAlgebraic
public import Idealize.ShloMosaic.Adequacy
public import Idealize.ShloMosaic.Init

@[expose] public section

/-- The sparse attention kernel's frame; and of the mixing and feed-forward kernel, of the input projection, of the modulation
    and of the gated linear attention the frames, what is kept of the text, and the value: over the extended reals each ends with its plain
    reference's results, the last of them on finite arguments. -/
theorem Cert.Proof.claim : Cert.Claim :=
  ⟨Cert.Kernel.Gen.facts, Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts, Cert.Pre_finite.Gen.facts,
    fun m ρ _ => Cert.Kernel.Hand.quiescent m ρ,
    fun m ρ _ => Cert.Kernel2.Gen.frame m ρ, fun m ρ _ => Cert.Kernel2Ideal.Gen.frame m ρ, Cert.Proof.Mix.reference_frame,
    fun m ρ _ => Cert.Kernel3.Gen.frame m ρ, fun m ρ _ => Cert.Kernel3Ideal.Gen.frame m ρ, Cert.Proof.Projection.reference_frame,
    fun m ρ _ => Cert.Kernel4.Gen.frame m ρ, fun m ρ _ => Cert.Kernel4Ideal.Gen.frame m ρ, Cert.Proof.Modulation.reference_frame,
    fun m ρ _ => Cert.Kernel5.Gla.quiescent m ρ, fun m ρ _ => Cert.Kernel5Ideal.Gla.quiescent m ρ,
    fun m ρ _ => Cert.Kernel5Ideal.Gla.quiescent m ρ, Cert.Proof.Gla.reference_frame, fun m ρ _ => Cert.Proof.Gla.reference_frame m ρ trivial,
    trivial, Cert.Proof.Mix.algebraic, trivial, Cert.Proof.Projection.algebraic, trivial, Cert.Proof.Modulation.algebraic,
    Cert.Proof.Gla.preserves, Cert.Proof.Gla.algebraic⟩

end
